-- ==== Defs.lean ====
def Pre_Kernel [hPre_lens_fit : Cert.Pre_lens_fit.Facts] (m : (ℓ : Loc Cert.Kernel.nD Cert.Kernel.τ Cert.Kernel.sig) → Buf (Elt Bits) ℓ) : Prop :=
  ∀ c : Dev Cert.Kernel.nD,
    (Cert.Pre_lens_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_lens_fit : Cert.Pre_lens_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lens_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_fit [hPre_lens_fit : Cert.Pre_lens_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_lens_fit : Cert.Pre_lens_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_lens_fit [hReferenceIdeal : Cert.ReferenceIdeal.Facts] [hPre_lens_fit : Cert.Pre_lens_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "exp2_scale" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lens_fit : Cert.Pre_lens_fit.Facts),
    quiescent_Kernel (hKernel := hKernel) (hPre_lens_fit := hPre_lens_fit)
    ∧ quiescent_KernelIdeal (hKernelIdeal := hKernelIdeal) (hPre_lens_fit := hPre_lens_fit)
    ∧ quiescent_ReferenceIdeal (hReferenceIdeal := hReferenceIdeal)
    ∧ quiescent_ReferenceIdeal_pre_lens_fit (hReferenceIdeal := hReferenceIdeal) (hPre_lens_fit := hPre_lens_fit)
    ∧ preserves_Kernel_KernelIdeal
    ∧ algebraic_KernelIdeal_ReferenceIdeal (hKernelIdeal := hKernelIdeal) (hReferenceIdeal := hReferenceIdeal) (hPre_lens_fit := hPre_lens_fit)
-- ==== Pre_lens_fit.lean ====
abbrev S16x1x32x64 : Shape := ⟨4, ![16, 1, 32, 64]⟩
abbrev S16x1x8x64 : Shape := ⟨4, ![16, 1, 8, 64]⟩
abbrev S16x32768x8x64 : Shape := ⟨4, ![16, 32768, 8, 64]⟩
abbrev S8 : Shape := ⟨1, ![8]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x1x32x64 .bf16) (main_arg1 : FVec F S16x1x8x64 .bf16) (main_arg2 : FVec F S16x1x8x64 .bf16) (main_arg3 : FVec F S16x32768x8x64 .fp8e4m3) (main_arg4 : FVec F S16x32768x8x64 .fp8e4m3) (main_arg5 : FVec F S8 .f32) (main_arg6 : FVec F S8 .f32) (main_arg7 : IVec S16 32) : IVec S_ 1 :=
  let main_c : IVec S_ 32 := constantI S_ 32 32768#32
  let main_v0 : IVec S16 32 := broadcastInDim S16 ![] bcast_S_S16 main_c
  let main_v1 : IVec S16 1 := cmpi .sle main_arg7 main_v0
  let main_c_0 : IVec S_ 1 := constantI S_ 1 1#1
  let main_v2 : IVec S_ 1 := (fun x v => Host.reduce IntOp.andi x v reducesTo_S16_S_d0 h_S_) main_v1 main_c_0
  main_v2
-- ==== Kernel.lean ====
abbrev S16x1x32x64 : Shape := ⟨4, ![16, 1, 32, 64]⟩
abbrev S16x1x8x64 : Shape := ⟨4, ![16, 1, 8, 64]⟩
abbrev S16x32768x8x64 : Shape := ⟨4, ![16, 32768, 8, 64]⟩
abbrev S8 : Shape := ⟨1, ![8]⟩
abbrev S16 : Shape := ⟨1, ![16]⟩
abbrev S16x8x64x32768 : Shape := ⟨4, ![16, 8, 64, 32768]⟩
abbrev S16x512x32768 : Shape := ⟨3, ![16, 512, 32768]⟩
abbrev S16x32x64 : Shape := ⟨3, ![16, 32, 64]⟩
abbrev S16x8x64 : Shape := ⟨3, ![16, 8, 64]⟩
abbrev S4x512x2048 : Shape := ⟨3, ![4, 512, 2048]⟩
abbrev S2x2x16x2048 : Shape := ⟨4, ![2, 2, 16, 2048]⟩
abbrev S16x2x16x256 : Shape := ⟨4, ![16, 2, 16, 256]⟩
abbrev S16x32x128 : Shape := ⟨3, ![16, 32, 128]⟩
abbrev S2x2x16x128 : Shape := ⟨4, ![2, 2, 16, 128]⟩
abbrev S2x16x128 : Shape := ⟨3, ![2, 16, 128]⟩
abbrev S2x16x256 : Shape := ⟨3, ![2, 16, 256]⟩
abbrev S4 : Shape := ⟨1, ![4]⟩
abbrev S1 : Shape := ⟨1, ![1]⟩
abbrev S_ : Shape := ⟨0, ![]⟩
abbrev S64x256 : Shape := ⟨2, ![64, 256]⟩
abbrev S32x8 : Shape := ⟨2, ![32, 8]⟩
abbrev S16x256 : Shape := ⟨2, ![16, 256]⟩
abbrev S16x1 : Shape := ⟨2, ![16, 1]⟩
abbrev S1x32x64 : Shape := ⟨3, ![1, 32, 64]⟩
abbrev S32x64 : Shape := ⟨2, ![32, 64]⟩
abbrev S1x8x64 : Shape := ⟨3, ![1, 8, 64]⟩
abbrev S8x64 : Shape := ⟨2, ![8, 64]⟩
abbrev S32 : Shape := ⟨1, ![32]⟩
abbrev S32x1 : Shape := ⟨2, ![32, 1]⟩
abbrev S32x128 : Shape := ⟨2, ![32, 128]⟩
abbrev S1x32x128 : Shape := ⟨3, ![1, 32, 128]⟩
abbrev S16x64 : Shape := ⟨2, ![16, 64]⟩
abbrev S1x1x16x256 : Shape := ⟨4, ![1, 1, 16, 256]⟩
abbrev S16x2048 : Shape := ⟨2, ![16, 2048]⟩
abbrev S1x256x2048 : Shape := ⟨3, ![1, 256, 2048]⟩
abbrev S256x2048 : Shape := ⟨2, ![256, 2048]⟩
abbrev S1x1x16x2048 : Shape := ⟨4, ![1, 1, 16, 2048]⟩
abbrev S1x16x128 : Shape := ⟨3, ![1, 16, 128]⟩
abbrev S16x128 : Shape := ⟨2, ![16, 128]⟩
abbrev S1x1x16x128 : Shape := ⟨4, ![1, 1, 16, 128]⟩
abbrev S1x16x256 : Shape := ⟨3, ![1, 16, 256]⟩
abbrev S1x16x64 : Shape := ⟨3, ![1, 16, 64]⟩

abbrev nBuf : Space → Nat
  | .hbm => 17
  | .vmem => 13
  | .smem => 3
  | _ => 0

abbrev bufTy : (tb : Table) → Fin (tcTables nBuf tb) → BufTy
  | .hbm, ⟨0, _⟩ => ⟨S16x1x32x64, .bf16⟩
  | .hbm, ⟨1, _⟩ => ⟨S16x1x8x64, .bf16⟩
  | .hbm, ⟨2, _⟩ => ⟨S16x1x8x64, .bf16⟩
  | .hbm, ⟨3, _⟩ => ⟨S16x32768x8x64, .fp8e4m3⟩
  | .hbm, ⟨4, _⟩ => ⟨S16x32768x8x64, .fp8e4m3⟩
  | .hbm, ⟨5, _⟩ => ⟨S8, .f32⟩
  | .hbm, ⟨6, _⟩ => ⟨S8, .f32⟩
  | .hbm, ⟨7, _⟩ => ⟨S16, .i32⟩
  | .hbm, ⟨8, _⟩ => ⟨S16x8x64x32768, .fp8e4m3⟩
  | .hbm, ⟨9, _⟩ => ⟨S16x512x32768, .fp8e4m3⟩
  | .hbm, ⟨10, _⟩ => ⟨S16x8x64x32768, .fp8e4m3⟩
  | .hbm, ⟨11, _⟩ => ⟨S16x512x32768, .fp8e4m3⟩
  | .hbm, ⟨12, _⟩ => ⟨S16x32x64, .bf16⟩
  | .hbm, ⟨13, _⟩ => ⟨S16x8x64, .bf16⟩
  | .hbm, ⟨14, _⟩ => ⟨S16x8x64, .bf16⟩
  | .hbm, ⟨15, _⟩ => ⟨S16x32x64, .bf16⟩
  | .hbm, ⟨16, _⟩ => ⟨S16x1x32x64, .bf16⟩
  | .local _ .vmem, ⟨0, _⟩ => ⟨S16x32x64, .bf16⟩
  | .local _ .vmem, ⟨1, _⟩ => ⟨S16x8x64, .bf16⟩
  | .local _ .vmem, ⟨2, _⟩ => ⟨S16x8x64, .bf16⟩
  | .local _ .vmem, ⟨3, _⟩ => ⟨S16x32x64, .bf16⟩
  | .local _ .vmem, ⟨4, _⟩ => ⟨S4x512x2048, .fp8e4m3⟩
  | .local _ .vmem, ⟨5, _⟩ => ⟨S4x512x2048, .fp8e4m3⟩
  | .local _ .vmem, ⟨6, _⟩ => ⟨S2x2x16x2048, .f32⟩
  | .local _ .vmem, ⟨7, _⟩ => ⟨S16x2x16x256, .bf16⟩
  | .local _ .vmem, ⟨8, _⟩ => ⟨S16x32x128, .f32⟩
  | .local _ .vmem, ⟨9, _⟩ => ⟨S2x2x16x128, .f32⟩
  | .local _ .vmem, ⟨10, _⟩ => ⟨S2x2x16x128, .f32⟩
  | .local _ .vmem, ⟨11, _⟩ => ⟨S2x16x128, .f32⟩
  | .local _ .vmem, ⟨12, _⟩ => ⟨S2x16x256, .f32⟩
  | .local _ .smem, ⟨0, _⟩ => ⟨S16, .i32⟩
  | .local _ .smem, ⟨1, _⟩ => ⟨S8, .f32⟩
  | .local _ .smem, ⟨2, _⟩ => ⟨S8, .f32⟩
  | _, _ => ⟨S16x1x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c16_i32 : BitVec 32 := 16#32
  let v0 : BitVec 32 := Scalar.addi c0_i32_0 c16_i32
  let c1_i32 : BitVec 32 := 1#32
  ⟨c0_i32_0, v0, c1_i32⟩
def k0_off1 (k0_t1 : Fin k0_t1_loop.trips) : Fin 1 → Nat :=
  let c0_i32_0 : BitVec 32 := 0#32
  let c1_i32 : BitVec 32 := 1#32
  let arg20 : BitVec 32 := Scf.iv c0_i32_0 c1_i32 k0_t1
  let v442 : Index := Scalar.indexCast arg20
  ![v442.toNat]
def k0_mult1 (v444 : BitVec 32) : BitVec 32 :=
  let c0_i32_3 : BitVec 32 := 0#32
  let c4_i32_211 : BitVec 32 := 4#32
  let v452 : BitVec 1 := Scalar.cmpi .slt c0_i32_3 c4_i32_211
  let c2048_i32_212 : BitVec 32 := 2048#32
  let c0_i32_5 : BitVec 32 := 0#32
  let c2048_i32_205 : BitVec 32 := 2048#32
  let v445 : BitVec 32 := Scalar.muli c0_i32_5 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  v453
def k0_cond1 (v1 : BitVec 32) : BitVec 1 :=
  let c0_i32_2 : BitVec 32 := 0#32
  let v2 : BitVec 1 := Scalar.cmpi .slt c0_i32_2 v1
  let v3 : BitVec 32 := Scalar.extui v2
  let c0_i32_6 : BitVec 32 := 0#32
  let v4 : BitVec 1 := Scalar.cmpi .ne v3 c0_i32_6
  v4

def k0_mult2 : BitVec 32 :=
  let c0_i32_5 : BitVec 32 := 0#32
  let c2048_i32_213 : BitVec 32 := 2048#32
  let v455 : BitVec 32 := Scalar.muli c0_i32_5 c2048_i32_213
  v455
def k0_off2 : Fin 1 → Nat :=
  let c0_i32_3 : BitVec 32 := 0#32
  let c4_i32_204 : BitVec 32 := 4#32
  let v442 : BitVec 32 := Scalar.remsi c0_i32_3 c4_i32_204
  ![v442.toNat]
def k0_off3 (v444 : BitVec 32) : (Fin 3 → Nat) × (Fin 3 → Nat) :=
  let c0_i32_3 : BitVec 32 := 0#32
  let c4_i32_204 : BitVec 32 := 4#32
  let v442 : BitVec 32 := Scalar.remsi c0_i32_3 c4_i32_204
  let c0_i32_214 : BitVec 32 := 0#32
  let c0_i32_215 : BitVec 32 := 0#32
  let c4_i32_211 : BitVec 32 := 4#32
  let v452 : BitVec 1 := Scalar.cmpi .slt c0_i32_3 c4_i32_211
  let c2048_i32_212 : BitVec 32 := 2048#32
  let c0_i32_5 : BitVec 32 := 0#32
  let c2048_i32_205 : BitVec 32 := 2048#32
  let v445 : BitVec 32 := Scalar.muli c0_i32_5 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  let v454 : BitVec 32 := v453
  ⟨![v442.toNat, 0, 0], ![1, 512, v454.toNat]⟩
def k0_sz1 (v444 : BitVec 32) : Fin 2 → Nat :=
  let c0_i32_3 : BitVec 32 := 0#32
  let c4_i32_211 : BitVec 32 := 4#32
  let v452 : BitVec 1 := Scalar.cmpi .slt c0_i32_3 c4_i32_211
  let c2048_i32_212 : BitVec 32 := 2048#32
  let c0_i32_5 : BitVec 32 := 0#32
  let c2048_i32_205 : BitVec 32 := 2048#32
  let v445 : BitVec 32 := Scalar.muli c0_i32_5 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  let v454 : BitVec 32 := v453
  ![512, v454.toNat]
def k0_off4 (v444 : BitVec 32) : (Fin 3 → Nat) × (Fin 3 → Nat) :=
  let c0_i32_4 : BitVec 32 := 0#32
  let c0_i32_216 : BitVec 32 := 0#32
  let c0_i32_5 : BitVec 32 := 0#32
  let c2048_i32_213 : BitVec 32 := 2048#32
  let v455 : BitVec 32 := Scalar.muli c0_i32_5 c2048_i32_213
  let v456 : BitVec 32 := v455
  let c0_i32_3 : BitVec 32 := 0#32
  let c4_i32_211 : BitVec 32 := 4#32
  let v452 : BitVec 1 := Scalar.cmpi .slt c0_i32_3 c4_i32_211
  let c2048_i32_212 : BitVec 32 := 2048#32
  let c2048_i32_205 : BitVec 32 := 2048#32
  let v445 : BitVec 32 := Scalar.muli c0_i32_5 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  let v454 : BitVec 32 := v453
  ⟨![0, 0, v456.toNat], ![1, 512, v454.toNat]⟩
def k0_sz2 (v444 : BitVec 32) : Fin 2 → Nat :=
  let c0_i32_3 : BitVec 32 := 0#32
  let c4_i32_211 : BitVec 32 := 4#32
  let v452 : BitVec 1 := Scalar.cmpi .slt c0_i32_3 c4_i32_211
  let c2048_i32_212 : BitVec 32 := 2048#32
  let c0_i32_5 : BitVec 32 := 0#32
  let c2048_i32_205 : BitVec 32 := 2048#32
  let v445 : BitVec 32 := Scalar.muli c0_i32_5 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  let v454 : BitVec 32 := v453
  ![512, v454.toNat]

def k0_chk1 (v1 : BitVec 32) (v444 : BitVec 32) : Prop :=
  (∀ (k0_h1 : k0_cond1 v1 = 1#1), 128 ∣ (k0_mult1 v444).toNat) ∧
  (∀ (k0_h1 : k0_cond1 v1 = 1#1), ∀ a, (k0_off3 v444).2 a = 0 ∨ (k0_off3 v444).1 a + (k0_off3 v444).2 a ≤ S4x512x2048.size a) ∧
  (∀ (k0_h1 : k0_cond1 v1 = 1#1), (⟨3, (k0_off3 v444).2⟩ : Shape).Squeezes ⟨2, k0_sz1 v444⟩) ∧
  (∀ (k0_h1 : k0_cond1 v1 = 1#1), ∀ a, (k0_off4 v444).2 a = 0 ∨ (k0_off4 v444).1 a + (k0_off4 v444).2 a ≤ S16x512x32768.size a) ∧
  (∀ (k0_h1 : k0_cond1 v1 = 1#1), (⟨3, (k0_off4 v444).2⟩ : Shape).Squeezes ⟨2, k0_sz2 v444⟩) ∧
  (∀ (k0_h1 : k0_cond1 v1 = 1#1), ∀ (hinb : ∀ a, (k0_off4 v444).2 a = 0 ∨ (k0_off4 v444).1 a + (k0_off4 v444).2 a ≤ S16x512x32768.size a), (Rect.unitDyn (s := S16x512x32768) (k0_off4 v444).1 (k0_off4 v444).2 hinb).WholeWords (EltTy.packing .fp8e4m3)) ∧
  (∀ (k0_h1 : k0_cond1 v1 = 1#1), ∀ (hinb : ∀ a, (k0_off3 v444).2 a = 0 ∨ (k0_off3 v444).1 a + (k0_off3 v444).2 a ≤ S4x512x2048.size a), (Rect.unitDyn (s := S4x512x2048) (k0_off3 v444).1 (k0_off3 v444).2 hinb).WholeWords (EltTy.packing .fp8e4m3))
theorem k0_mult1_dvd : ∀ (v1 : BitVec 32) (v444 : BitVec 32) (k0_hw1 : k0_chk1 v1 v444), ∀ (k0_h1 : k0_cond1 v1 = 1#1), 128 ∣ (k0_mult1 v444).toNat := fun v1 v444 k0_hw1 k0_h1 => k0_hw1.1 k0_h1
theorem k0_off3_inb : ∀ (v1 : BitVec 32) (v444 : BitVec 32) (k0_hw1 : k0_chk1 v1 v444), ∀ (k0_h1 : k0_cond1 v1 = 1#1), ∀ a, (k0_off3 v444).2 a = 0 ∨ (k0_off3 v444).1 a + (k0_off3 v444).2 a ≤ S4x512x2048.size a := fun v1 v444 k0_hw1 k0_h1 => k0_hw1.2.1 k0_h1
theorem k0_sz1_squeezes : ∀ (v1 : BitVec 32) (v444 : BitVec 32) (k0_hw1 : k0_chk1 v1 v444), ∀ (k0_h1 : k0_cond1 v1 = 1#1), (⟨3, (k0_off3 v444).2⟩ : Shape).Squeezes ⟨2, k0_sz1 v444⟩ := fun v1 v444 k0_hw1 k0_h1 => k0_hw1.2.2.1 k0_h1
theorem k0_off4_inb : ∀ (v1 : BitVec 32) (v444 : BitVec 32) (k0_hw1 : k0_chk1 v1 v444), ∀ (k0_h1 : k0_cond1 v1 = 1#1), ∀ a, (k0_off4 v444).2 a = 0 ∨ (k0_off4 v444).1 a + (k0_off4 v444).2 a ≤ S16x512x32768.size a := fun v1 v444 k0_hw1 k0_h1 => k0_hw1.2.2.2.1 k0_h1
theorem k0_sz2_squeezes : ∀ (v1 : BitVec 32) (v444 : BitVec 32) (k0_hw1 : k0_chk1 v1 v444), ∀ (k0_h1 : k0_cond1 v1 = 1#1), (⟨3, (k0_off4 v444).2⟩ : Shape).Squeezes ⟨2, k0_sz2 v444⟩ := fun v1 v444 k0_hw1 k0_h1 => k0_hw1.2.2.2.2.1 k0_h1
theorem k0_off4_wordsfp8e4m3 : ∀ (v1 : BitVec 32) (v444 : BitVec 32) (k0_hw1 : k0_chk1 v1 v444), ∀ (k0_h1 : k0_cond1 v1 = 1#1), (Rect.unitDyn (s := S16x512x32768) (k0_off4 v444).1 (k0_off4 v444).2 (k0_off4_inb v1 v444 k0_hw1 k0_h1)).WholeWords (EltTy.packing .fp8e4m3) := fun v1 v444 k0_hw1 k0_h1 => k0_hw1.2.2.2.2.2.1 k0_h1 (k0_off4_inb v1 v444 k0_hw1 k0_h1)
theorem k0_off3_wordsfp8e4m3 : ∀ (v1 : BitVec 32) (v444 : BitVec 32) (k0_hw1 : k0_chk1 v1 v444), ∀ (k0_h1 : k0_cond1 v1 = 1#1), (Rect.unitDyn (s := S4x512x2048) (k0_off3 v444).1 (k0_off3 v444).2 (k0_off3_inb v1 v444 k0_hw1 k0_h1)).WholeWords (EltTy.packing .fp8e4m3) := fun v1 v444 k0_hw1 k0_h1 => k0_hw1.2.2.2.2.2.2 k0_h1 (k0_off3_inb v1 v444 k0_hw1 k0_h1)

def k0_off5 (v6 : BitVec 32) : Fin 1 → Nat :=
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_10 : BitVec 32 := 0#32
  let c1_i32_11 : BitVec 32 := 1#32
  let v11 : BitVec 32 := Scalar.addi c0_i32_10 c1_i32_11
  let c15_i32 : BitVec 32 := 15#32
  let v12 : BitVec 32 := Scalar.minsi v11 c15_i32
  let c0_i32_12 : BitVec 32 := 0#32
  let v13 : BitVec 32 := Scalar.select v10 v12 c0_i32_12
  let v443 : Index := Scalar.indexCast v13
  ![v443.toNat]
def k0_cond2 (v1 : BitVec 32) : BitVec 1 :=
  let c1_i32_16 : BitVec 32 := 1#32
  let v16 : BitVec 1 := Scalar.cmpi .slt c1_i32_16 v1
  let v17 : BitVec 32 := Scalar.extui v16
  let c0_i32_18 : BitVec 32 := 0#32
  let v18 : BitVec 1 := Scalar.cmpi .ne v17 c0_i32_18
  v18

def k0_mult3 (v6 : BitVec 32) (v444 : BitVec 32) : BitVec 32 :=
  let c1_i32_17 : BitVec 32 := 1#32
  let c4_i32_211 : BitVec 32 := 4#32
  let v452 : BitVec 1 := Scalar.cmpi .slt c1_i32_17 c4_i32_211
  let c2048_i32_212 : BitVec 32 := 2048#32
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c2048_i32_205 : BitVec 32 := 2048#32
  let v445 : BitVec 32 := Scalar.muli v15 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  v453

def k0_mult4 (v6 : BitVec 32) : BitVec 32 :=
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c2048_i32_213 : BitVec 32 := 2048#32
  let v455 : BitVec 32 := Scalar.muli v15 c2048_i32_213
  v455
def k0_off6 : Fin 1 → Nat :=
  let c1_i32_17 : BitVec 32 := 1#32
  let c4_i32_204 : BitVec 32 := 4#32
  let v442 : BitVec 32 := Scalar.remsi c1_i32_17 c4_i32_204
  ![v442.toNat]
def k0_off7 (v6 : BitVec 32) (v444 : BitVec 32) : (Fin 3 → Nat) × (Fin 3 → Nat) :=
  let c1_i32_17 : BitVec 32 := 1#32
  let c4_i32_204 : BitVec 32 := 4#32
  let v442 : BitVec 32 := Scalar.remsi c1_i32_17 c4_i32_204
  let c0_i32_214 : BitVec 32 := 0#32
  let c0_i32_215 : BitVec 32 := 0#32
  let c4_i32_211 : BitVec 32 := 4#32
  let v452 : BitVec 1 := Scalar.cmpi .slt c1_i32_17 c4_i32_211
  let c2048_i32_212 : BitVec 32 := 2048#32
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c2048_i32_205 : BitVec 32 := 2048#32
  let v445 : BitVec 32 := Scalar.muli v15 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  let v454 : BitVec 32 := v453
  ⟨![v442.toNat, 0, 0], ![1, 512, v454.toNat]⟩
def k0_sz3 (v6 : BitVec 32) (v444 : BitVec 32) : Fin 2 → Nat :=
  let c1_i32_17 : BitVec 32 := 1#32
  let c4_i32_211 : BitVec 32 := 4#32
  let v452 : BitVec 1 := Scalar.cmpi .slt c1_i32_17 c4_i32_211
  let c2048_i32_212 : BitVec 32 := 2048#32
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c2048_i32_205 : BitVec 32 := 2048#32
  let v445 : BitVec 32 := Scalar.muli v15 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  let v454 : BitVec 32 := v453
  ![512, v454.toNat]
def k0_off8 (v6 : BitVec 32) (v444 : BitVec 32) : (Fin 3 → Nat) × (Fin 3 → Nat) :=
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_10 : BitVec 32 := 0#32
  let c1_i32_11 : BitVec 32 := 1#32
  let v11 : BitVec 32 := Scalar.addi c0_i32_10 c1_i32_11
  let c15_i32 : BitVec 32 := 15#32
  let v12 : BitVec 32 := Scalar.minsi v11 c15_i32
  let c0_i32_12 : BitVec 32 := 0#32
  let v13 : BitVec 32 := Scalar.select v10 v12 c0_i32_12
  let c0_i32_216 : BitVec 32 := 0#32
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c2048_i32_213 : BitVec 32 := 2048#32
  let v455 : BitVec 32 := Scalar.muli v15 c2048_i32_213
  let v456 : BitVec 32 := v455
  let c1_i32_17 : BitVec 32 := 1#32
  let c4_i32_211 : BitVec 32 := 4#32
  let v452 : BitVec 1 := Scalar.cmpi .slt c1_i32_17 c4_i32_211
  let c2048_i32_212 : BitVec 32 := 2048#32
  let c2048_i32_205 : BitVec 32 := 2048#32
  let v445 : BitVec 32 := Scalar.muli v15 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  let v454 : BitVec 32 := v453
  ⟨![v13.toNat, 0, v456.toNat], ![1, 512, v454.toNat]⟩
def k0_sz4 (v6 : BitVec 32) (v444 : BitVec 32) : Fin 2 → Nat :=
  let c1_i32_17 : BitVec 32 := 1#32
  let c4_i32_211 : BitVec 32 := 4#32
  let v452 : BitVec 1 := Scalar.cmpi .slt c1_i32_17 c4_i32_211
  let c2048_i32_212 : BitVec 32 := 2048#32
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c2048_i32_205 : BitVec 32 := 2048#32
  let v445 : BitVec 32 := Scalar.muli v15 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  let v454 : BitVec 32 := v453
  ![512, v454.toNat]

def k0_chk3 (v1 : BitVec 32) (v6 : BitVec 32) (v444 : BitVec 32) : Prop :=
  (∀ (k0_h2 : k0_cond2 v1 = 1#1), 128 ∣ (k0_mult3 v6 v444).toNat) ∧
  (∀ (k0_h2 : k0_cond2 v1 = 1#1), ∀ a, (k0_off7 v6 v444).2 a = 0 ∨ (k0_off7 v6 v444).1 a + (k0_off7 v6 v444).2 a ≤ S4x512x2048.size a) ∧
  (∀ (k0_h2 : k0_cond2 v1 = 1#1), (⟨3, (k0_off7 v6 v444).2⟩ : Shape).Squeezes ⟨2, k0_sz3 v6 v444⟩) ∧
  (∀ (k0_h2 : k0_cond2 v1 = 1#1), ∀ a, (k0_off8 v6 v444).2 a = 0 ∨ (k0_off8 v6 v444).1 a + (k0_off8 v6 v444).2 a ≤ S16x512x32768.size a) ∧
  (∀ (k0_h2 : k0_cond2 v1 = 1#1), (⟨3, (k0_off8 v6 v444).2⟩ : Shape).Squeezes ⟨2, k0_sz4 v6 v444⟩) ∧
  (∀ (k0_h2 : k0_cond2 v1 = 1#1), ∀ (hinb : ∀ a, (k0_off8 v6 v444).2 a = 0 ∨ (k0_off8 v6 v444).1 a + (k0_off8 v6 v444).2 a ≤ S16x512x32768.size a), (Rect.unitDyn (s := S16x512x32768) (k0_off8 v6 v444).1 (k0_off8 v6 v444).2 hinb).WholeWords (EltTy.packing .fp8e4m3)) ∧
  (∀ (k0_h2 : k0_cond2 v1 = 1#1), ∀ (hinb : ∀ a, (k0_off7 v6 v444).2 a = 0 ∨ (k0_off7 v6 v444).1 a + (k0_off7 v6 v444).2 a ≤ S4x512x2048.size a), (Rect.unitDyn (s := S4x512x2048) (k0_off7 v6 v444).1 (k0_off7 v6 v444).2 hinb).WholeWords (EltTy.packing .fp8e4m3))
theorem k0_mult3_dvd : ∀ (v1 : BitVec 32) (v6 : BitVec 32) (v444 : BitVec 32) (k0_hw3 : k0_chk3 v1 v6 v444), ∀ (k0_h2 : k0_cond2 v1 = 1#1), 128 ∣ (k0_mult3 v6 v444).toNat := fun v1 v6 v444 k0_hw3 k0_h2 => k0_hw3.1 k0_h2
theorem k0_off7_inb : ∀ (v1 : BitVec 32) (v6 : BitVec 32) (v444 : BitVec 32) (k0_hw3 : k0_chk3 v1 v6 v444), ∀ (k0_h2 : k0_cond2 v1 = 1#1), ∀ a, (k0_off7 v6 v444).2 a = 0 ∨ (k0_off7 v6 v444).1 a + (k0_off7 v6 v444).2 a ≤ S4x512x2048.size a := fun v1 v6 v444 k0_hw3 k0_h2 => k0_hw3.2.1 k0_h2
theorem k0_sz3_squeezes : ∀ (v1 : BitVec 32) (v6 : BitVec 32) (v444 : BitVec 32) (k0_hw3 : k0_chk3 v1 v6 v444), ∀ (k0_h2 : k0_cond2 v1 = 1#1), (⟨3, (k0_off7 v6 v444).2⟩ : Shape).Squeezes ⟨2, k0_sz3 v6 v444⟩ := fun v1 v6 v444 k0_hw3 k0_h2 => k0_hw3.2.2.1 k0_h2
theorem k0_off8_inb : ∀ (v1 : BitVec 32) (v6 : BitVec 32) (v444 : BitVec 32) (k0_hw3 : k0_chk3 v1 v6 v444), ∀ (k0_h2 : k0_cond2 v1 = 1#1), ∀ a, (k0_off8 v6 v444).2 a = 0 ∨ (k0_off8 v6 v444).1 a + (k0_off8 v6 v444).2 a ≤ S16x512x32768.size a := fun v1 v6 v444 k0_hw3 k0_h2 => k0_hw3.2.2.2.1 k0_h2
theorem k0_sz4_squeezes : ∀ (v1 : BitVec 32) (v6 : BitVec 32) (v444 : BitVec 32) (k0_hw3 : k0_chk3 v1 v6 v444), ∀ (k0_h2 : k0_cond2 v1 = 1#1), (⟨3, (k0_off8 v6 v444).2⟩ : Shape).Squeezes ⟨2, k0_sz4 v6 v444⟩ := fun v1 v6 v444 k0_hw3 k0_h2 => k0_hw3.2.2.2.2.1 k0_h2
theorem k0_off8_wordsfp8e4m3 : ∀ (v1 : BitVec 32) (v6 : BitVec 32) (v444 : BitVec 32) (k0_hw3 : k0_chk3 v1 v6 v444), ∀ (k0_h2 : k0_cond2 v1 = 1#1), (Rect.unitDyn (s := S16x512x32768) (k0_off8 v6 v444).1 (k0_off8 v6 v444).2 (k0_off8_inb v1 v6 v444 k0_hw3 k0_h2)).WholeWords (EltTy.packing .fp8e4m3) := fun v1 v6 v444 k0_hw3 k0_h2 => k0_hw3.2.2.2.2.2.1 k0_h2 (k0_off8_inb v1 v6 v444 k0_hw3 k0_h2)
theorem k0_off7_wordsfp8e4m3 : ∀ (v1 : BitVec 32) (v6 : BitVec 32) (v444 : BitVec 32) (k0_hw3 : k0_chk3 v1 v6 v444), ∀ (k0_h2 : k0_cond2 v1 = 1#1), (Rect.unitDyn (s := S4x512x2048) (k0_off7 v6 v444).1 (k0_off7 v6 v444).2 (k0_off7_inb v1 v6 v444 k0_hw3 k0_h2)).WholeWords (EltTy.packing .fp8e4m3) := fun v1 v6 v444 k0_hw3 k0_h2 => k0_hw3.2.2.2.2.2.2 k0_h2 (k0_off7_inb v1 v6 v444 k0_hw3 k0_h2)

def k0_off9 (v6 : BitVec 32) : Fin 1 → Nat :=
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_10 : BitVec 32 := 0#32
  let c1_i32_11 : BitVec 32 := 1#32
  let v11 : BitVec 32 := Scalar.addi c0_i32_10 c1_i32_11
  let c15_i32 : BitVec 32 := 15#32
  let v12 : BitVec 32 := Scalar.minsi v11 c15_i32
  let c0_i32_12 : BitVec 32 := 0#32
  let v13 : BitVec 32 := Scalar.select v10 v12 c0_i32_12
  let v20 : Index := Scalar.indexCast v13
  ![v20.toNat]

def k0_chk2 (v1 : BitVec 32) (v6 : BitVec 32) : Prop :=
  (∀ (k0_h2 : k0_cond2 v1 = 1#1), ∀ a, (k0_off5 v6) a + S1.size a ≤ S16.size a) ∧
  (∀ (k0_h2 : k0_cond2 v1 = 1#1), 2048 ∣ (k0_mult4 v6).toNat) ∧
  (∀ a, (k0_off9 v6) a + S1.size a ≤ S16.size a)
theorem k0_off5_inb : ∀ (v1 : BitVec 32) (v6 : BitVec 32) (k0_hw2 : k0_chk2 v1 v6), ∀ (k0_h2 : k0_cond2 v1 = 1#1), ∀ a, (k0_off5 v6) a + S1.size a ≤ S16.size a := fun v1 v6 k0_hw2 k0_h2 => k0_hw2.1 k0_h2
theorem k0_mult4_dvd : ∀ (v1 : BitVec 32) (v6 : BitVec 32) (k0_hw2 : k0_chk2 v1 v6), ∀ (k0_h2 : k0_cond2 v1 = 1#1), 2048 ∣ (k0_mult4 v6).toNat := fun v1 v6 k0_hw2 k0_h2 => k0_hw2.2.1 k0_h2
theorem k0_off9_inb : ∀ (v1 : BitVec 32) (v6 : BitVec 32) (k0_hw2 : k0_chk2 v1 v6), ∀ a, (k0_off9 v6) a + S1.size a ≤ S16.size a := fun v1 v6 k0_hw2 => k0_hw2.2.2

def k0_off10 (v6 : BitVec 32) (v21 : BitVec 32) : Fin 1 → Nat :=
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c1_i32_19 : BitVec 32 := 1#32
  let v19 : BitVec 32 := Scalar.addi v15 c1_i32_19
  let c2047_i32_20 : BitVec 32 := 2047#32
  let v22 : BitVec 32 := Scalar.addi v21 c2047_i32_20
  let c2048_i32_21 : BitVec 32 := 2048#32
  let v23 : BitVec 32 := Scalar.divsi v22 c2048_i32_21
  let c1_i32_22 : BitVec 32 := 1#32
  let v24 : BitVec 32 := Scalar.maxsi v23 c1_i32_22
  let v25 : BitVec 1 := Scalar.cmpi .sge v19 v24
  let c0_i32_10 : BitVec 32 := 0#32
  let c1_i32_11 : BitVec 32 := 1#32
  let v11 : BitVec 32 := Scalar.addi c0_i32_10 c1_i32_11
  let c15_i32 : BitVec 32 := 15#32
  let v12 : BitVec 32 := Scalar.minsi v11 c15_i32
  let c0_i32_12 : BitVec 32 := 0#32
  let v13 : BitVec 32 := Scalar.select v10 v12 c0_i32_12
  let c1_i32_23 : BitVec 32 := 1#32
  let v26 : BitVec 32 := Scalar.addi v13 c1_i32_23
  let c15_i32_24 : BitVec 32 := 15#32
  let v27 : BitVec 32 := Scalar.minsi v26 c15_i32_24
  let v28 : BitVec 32 := Scalar.select v25 v27 v13
  let v443 : Index := Scalar.indexCast v28
  ![v443.toNat]
def k0_cond3 (v1 : BitVec 32) : BitVec 1 :=
  let c2_i32 : BitVec 32 := 2#32
  let v31 : BitVec 1 := Scalar.cmpi .slt c2_i32 v1
  let v32 : BitVec 32 := Scalar.extui v31
  let c0_i32_28 : BitVec 32 := 0#32
  let v33 : BitVec 1 := Scalar.cmpi .ne v32 c0_i32_28
  v33

def k0_mult5 (v6 : BitVec 32) (v21 : BitVec 32) (v444 : BitVec 32) : BitVec 32 :=
  let c2_i32_27 : BitVec 32 := 2#32
  let c4_i32_211 : BitVec 32 := 4#32
  let v452 : BitVec 1 := Scalar.cmpi .slt c2_i32_27 c4_i32_211
  let c2048_i32_212 : BitVec 32 := 2048#32
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c1_i32_19 : BitVec 32 := 1#32
  let v19 : BitVec 32 := Scalar.addi v15 c1_i32_19
  let c2047_i32_20 : BitVec 32 := 2047#32
  let v22 : BitVec 32 := Scalar.addi v21 c2047_i32_20
  let c2048_i32_21 : BitVec 32 := 2048#32
  let v23 : BitVec 32 := Scalar.divsi v22 c2048_i32_21
  let c1_i32_22 : BitVec 32 := 1#32
  let v24 : BitVec 32 := Scalar.maxsi v23 c1_i32_22
  let v25 : BitVec 1 := Scalar.cmpi .sge v19 v24
  let c0_i32_26 : BitVec 32 := 0#32
  let c1_i32_25 : BitVec 32 := 1#32
  let v29 : BitVec 32 := Scalar.addi v15 c1_i32_25
  let v30 : BitVec 32 := Scalar.select v25 c0_i32_26 v29
  let c2048_i32_205 : BitVec 32 := 2048#32
  let v445 : BitVec 32 := Scalar.muli v30 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  v453

def k0_mult6 (v6 : BitVec 32) (v21 : BitVec 32) : BitVec 32 :=
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c1_i32_19 : BitVec 32 := 1#32
  let v19 : BitVec 32 := Scalar.addi v15 c1_i32_19
  let c2047_i32_20 : BitVec 32 := 2047#32
  let v22 : BitVec 32 := Scalar.addi v21 c2047_i32_20
  let c2048_i32_21 : BitVec 32 := 2048#32
  let v23 : BitVec 32 := Scalar.divsi v22 c2048_i32_21
  let c1_i32_22 : BitVec 32 := 1#32
  let v24 : BitVec 32 := Scalar.maxsi v23 c1_i32_22
  let v25 : BitVec 1 := Scalar.cmpi .sge v19 v24
  let c0_i32_26 : BitVec 32 := 0#32
  let c1_i32_25 : BitVec 32 := 1#32
  let v29 : BitVec 32 := Scalar.addi v15 c1_i32_25
  let v30 : BitVec 32 := Scalar.select v25 c0_i32_26 v29
  let c2048_i32_213 : BitVec 32 := 2048#32
  let v455 : BitVec 32 := Scalar.muli v30 c2048_i32_213
  v455
def k0_off11 : Fin 1 → Nat :=
  let c2_i32_27 : BitVec 32 := 2#32
  let c4_i32_204 : BitVec 32 := 4#32
  let v442 : BitVec 32 := Scalar.remsi c2_i32_27 c4_i32_204
  ![v442.toNat]
def k0_off12 (v6 : BitVec 32) (v21 : BitVec 32) (v444 : BitVec 32) : (Fin 3 → Nat) × (Fin 3 → Nat) :=
  let c2_i32_27 : BitVec 32 := 2#32
  let c4_i32_204 : BitVec 32 := 4#32
  let v442 : BitVec 32 := Scalar.remsi c2_i32_27 c4_i32_204
  let c0_i32_214 : BitVec 32 := 0#32
  let c0_i32_215 : BitVec 32 := 0#32
  let c4_i32_211 : BitVec 32 := 4#32
  let v452 : BitVec 1 := Scalar.cmpi .slt c2_i32_27 c4_i32_211
  let c2048_i32_212 : BitVec 32 := 2048#32
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c1_i32_19 : BitVec 32 := 1#32
  let v19 : BitVec 32 := Scalar.addi v15 c1_i32_19
  let c2047_i32_20 : BitVec 32 := 2047#32
  let v22 : BitVec 32 := Scalar.addi v21 c2047_i32_20
  let c2048_i32_21 : BitVec 32 := 2048#32
  let v23 : BitVec 32 := Scalar.divsi v22 c2048_i32_21
  let c1_i32_22 : BitVec 32 := 1#32
  let v24 : BitVec 32 := Scalar.maxsi v23 c1_i32_22
  let v25 : BitVec 1 := Scalar.cmpi .sge v19 v24
  let c0_i32_26 : BitVec 32 := 0#32
  let c1_i32_25 : BitVec 32 := 1#32
  let v29 : BitVec 32 := Scalar.addi v15 c1_i32_25
  let v30 : BitVec 32 := Scalar.select v25 c0_i32_26 v29
  let c2048_i32_205 : BitVec 32 := 2048#32
  let v445 : BitVec 32 := Scalar.muli v30 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  let v454 : BitVec 32 := v453
  ⟨![v442.toNat, 0, 0], ![1, 512, v454.toNat]⟩
def k0_sz5 (v6 : BitVec 32) (v21 : BitVec 32) (v444 : BitVec 32) : Fin 2 → Nat :=
  let c2_i32_27 : BitVec 32 := 2#32
  let c4_i32_211 : BitVec 32 := 4#32
  let v452 : BitVec 1 := Scalar.cmpi .slt c2_i32_27 c4_i32_211
  let c2048_i32_212 : BitVec 32 := 2048#32
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c1_i32_19 : BitVec 32 := 1#32
  let v19 : BitVec 32 := Scalar.addi v15 c1_i32_19
  let c2047_i32_20 : BitVec 32 := 2047#32
  let v22 : BitVec 32 := Scalar.addi v21 c2047_i32_20
  let c2048_i32_21 : BitVec 32 := 2048#32
  let v23 : BitVec 32 := Scalar.divsi v22 c2048_i32_21
  let c1_i32_22 : BitVec 32 := 1#32
  let v24 : BitVec 32 := Scalar.maxsi v23 c1_i32_22
  let v25 : BitVec 1 := Scalar.cmpi .sge v19 v24
  let c0_i32_26 : BitVec 32 := 0#32
  let c1_i32_25 : BitVec 32 := 1#32
  let v29 : BitVec 32 := Scalar.addi v15 c1_i32_25
  let v30 : BitVec 32 := Scalar.select v25 c0_i32_26 v29
  let c2048_i32_205 : BitVec 32 := 2048#32
  let v445 : BitVec 32 := Scalar.muli v30 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  let v454 : BitVec 32 := v453
  ![512, v454.toNat]
def k0_off13 (v6 : BitVec 32) (v21 : BitVec 32) (v444 : BitVec 32) : (Fin 3 → Nat) × (Fin 3 → Nat) :=
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c1_i32_19 : BitVec 32 := 1#32
  let v19 : BitVec 32 := Scalar.addi v15 c1_i32_19
  let c2047_i32_20 : BitVec 32 := 2047#32
  let v22 : BitVec 32 := Scalar.addi v21 c2047_i32_20
  let c2048_i32_21 : BitVec 32 := 2048#32
  let v23 : BitVec 32 := Scalar.divsi v22 c2048_i32_21
  let c1_i32_22 : BitVec 32 := 1#32
  let v24 : BitVec 32 := Scalar.maxsi v23 c1_i32_22
  let v25 : BitVec 1 := Scalar.cmpi .sge v19 v24
  let c0_i32_10 : BitVec 32 := 0#32
  let c1_i32_11 : BitVec 32 := 1#32
  let v11 : BitVec 32 := Scalar.addi c0_i32_10 c1_i32_11
  let c15_i32 : BitVec 32 := 15#32
  let v12 : BitVec 32 := Scalar.minsi v11 c15_i32
  let c0_i32_12 : BitVec 32 := 0#32
  let v13 : BitVec 32 := Scalar.select v10 v12 c0_i32_12
  let c1_i32_23 : BitVec 32 := 1#32
  let v26 : BitVec 32 := Scalar.addi v13 c1_i32_23
  let c15_i32_24 : BitVec 32 := 15#32
  let v27 : BitVec 32 := Scalar.minsi v26 c15_i32_24
  let v28 : BitVec 32 := Scalar.select v25 v27 v13
  let c0_i32_216 : BitVec 32 := 0#32
  let c0_i32_26 : BitVec 32 := 0#32
  let c1_i32_25 : BitVec 32 := 1#32
  let v29 : BitVec 32 := Scalar.addi v15 c1_i32_25
  let v30 : BitVec 32 := Scalar.select v25 c0_i32_26 v29
  let c2048_i32_213 : BitVec 32 := 2048#32
  let v455 : BitVec 32 := Scalar.muli v30 c2048_i32_213
  let v456 : BitVec 32 := v455
  let c2_i32_27 : BitVec 32 := 2#32
  let c4_i32_211 : BitVec 32 := 4#32
  let v452 : BitVec 1 := Scalar.cmpi .slt c2_i32_27 c4_i32_211
  let c2048_i32_212 : BitVec 32 := 2048#32
  let c2048_i32_205 : BitVec 32 := 2048#32
  let v445 : BitVec 32 := Scalar.muli v30 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  let v454 : BitVec 32 := v453
  ⟨![v28.toNat, 0, v456.toNat], ![1, 512, v454.toNat]⟩
def k0_sz6 (v6 : BitVec 32) (v21 : BitVec 32) (v444 : BitVec 32) : Fin 2 → Nat :=
  let c2_i32_27 : BitVec 32 := 2#32
  let c4_i32_211 : BitVec 32 := 4#32
  let v452 : BitVec 1 := Scalar.cmpi .slt c2_i32_27 c4_i32_211
  let c2048_i32_212 : BitVec 32 := 2048#32
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c1_i32_19 : BitVec 32 := 1#32
  let v19 : BitVec 32 := Scalar.addi v15 c1_i32_19
  let c2047_i32_20 : BitVec 32 := 2047#32
  let v22 : BitVec 32 := Scalar.addi v21 c2047_i32_20
  let c2048_i32_21 : BitVec 32 := 2048#32
  let v23 : BitVec 32 := Scalar.divsi v22 c2048_i32_21
  let c1_i32_22 : BitVec 32 := 1#32
  let v24 : BitVec 32 := Scalar.maxsi v23 c1_i32_22
  let v25 : BitVec 1 := Scalar.cmpi .sge v19 v24
  let c0_i32_26 : BitVec 32 := 0#32
  let c1_i32_25 : BitVec 32 := 1#32
  let v29 : BitVec 32 := Scalar.addi v15 c1_i32_25
  let v30 : BitVec 32 := Scalar.select v25 c0_i32_26 v29
  let c2048_i32_205 : BitVec 32 := 2048#32
  let v445 : BitVec 32 := Scalar.muli v30 c2048_i32_205
  let v446 : BitVec 32 := Scalar.subi v444 v445
  let c2048_i32_206 : BitVec 32 := 2048#32
  let v447 : BitVec 32 := Scalar.minsi v446 c2048_i32_206
  let c127_i32_207 : BitVec 32 := 127#32
  let v448 : BitVec 32 := Scalar.addi v447 c127_i32_207
  let c128_i32_208 : BitVec 32 := 128#32
  let v449 : BitVec 32 := Scalar.divsi v448 c128_i32_208
  let c1_i32_209 : BitVec 32 := 1#32
  let v450 : BitVec 32 := Scalar.maxsi v449 c1_i32_209
  let c128_i32_210 : BitVec 32 := 128#32
  let v451 : BitVec 32 := Scalar.muli v450 c128_i32_210
  let v453 : BitVec 32 := Scalar.select v452 c2048_i32_212 v451
  let v454 : BitVec 32 := v453
  ![512, v454.toNat]

def k0_chk5 (v1 : BitVec 32) (v6 : BitVec 32) (v21 : BitVec 32) (v444 : BitVec 32) : Prop :=
  (∀ (k0_h3 : k0_cond3 v1 = 1#1), 128 ∣ (k0_mult5 v6 v21 v444).toNat) ∧
  (∀ (k0_h3 : k0_cond3 v1 = 1#1), ∀ a, (k0_off12 v6 v21 v444).2 a = 0 ∨ (k0_off12 v6 v21 v444).1 a + (k0_off12 v6 v21 v444).2 a ≤ S4x512x2048.size a) ∧
  (∀ (k0_h3 : k0_cond3 v1 = 1#1), (⟨3, (k0_off12 v6 v21 v444).2⟩ : Shape).Squeezes ⟨2, k0_sz5 v6 v21 v444⟩) ∧
  (∀ (k0_h3 : k0_cond3 v1 = 1#1), ∀ a, (k0_off13 v6 v21 v444).2 a = 0 ∨ (k0_off13 v6 v21 v444).1 a + (k0_off13 v6 v21 v444).2 a ≤ S16x512x32768.size a) ∧
  (∀ (k0_h3 : k0_cond3 v1 = 1#1), (⟨3, (k0_off13 v6 v21 v444).2⟩ : Shape).Squeezes ⟨2, k0_sz6 v6 v21 v444⟩) ∧
  (∀ (k0_h3 : k0_cond3 v1 = 1#1), ∀ (hinb : ∀ a, (k0_off13 v6 v21 v444).2 a = 0 ∨ (k0_off13 v6 v21 v444).1 a + (k0_off13 v6 v21 v444).2 a ≤ S16x512x32768.size a), (Rect.unitDyn (s := S16x512x32768) (k0_off13 v6 v21 v444).1 (k0_off13 v6 v21 v444).2 hinb).WholeWords (EltTy.packing .fp8e4m3)) ∧
  (∀ (k0_h3 : k0_cond3 v1 = 1#1), ∀ (hinb : ∀ a, (k0_off12 v6 v21 v444).2 a = 0 ∨ (k0_off12 v6 v21 v444).1 a + (k0_off12 v6 v21 v444).2 a ≤ S4x512x2048.size a), (Rect.unitDyn (s := S4x512x2048) (k0_off12 v6 v21 v444).1 (k0_off12 v6 v21 v444).2 hinb).WholeWords (EltTy.packing .fp8e4m3))
theorem k0_mult5_dvd : ∀ (v1 : BitVec 32) (v6 : BitVec 32) (v21 : BitVec 32) (v444 : BitVec 32) (k0_hw5 : k0_chk5 v1 v6 v21 v444), ∀ (k0_h3 : k0_cond3 v1 = 1#1), 128 ∣ (k0_mult5 v6 v21 v444).toNat := fun v1 v6 v21 v444 k0_hw5 k0_h3 => k0_hw5.1 k0_h3
theorem k0_off12_inb : ∀ (v1 : BitVec 32) (v6 : BitVec 32) (v21 : BitVec 32) (v444 : BitVec 32) (k0_hw5 : k0_chk5 v1 v6 v21 v444), ∀ (k0_h3 : k0_cond3 v1 = 1#1), ∀ a, (k0_off12 v6 v21 v444).2 a = 0 ∨ (k0_off12 v6 v21 v444).1 a + (k0_off12 v6 v21 v444).2 a ≤ S4x512x2048.size a := fun v1 v6 v21 v444 k0_hw5 k0_h3 => k0_hw5.2.1 k0_h3
theorem k0_sz5_squeezes : ∀ (v1 : BitVec 32) (v6 : BitVec 32) (v21 : BitVec 32) (v444 : BitVec 32) (k0_hw5 : k0_chk5 v1 v6 v21 v444), ∀ (k0_h3 : k0_cond3 v1 = 1#1), (⟨3, (k0_off12 v6 v21 v444).2⟩ : Shape).Squeezes ⟨2, k0_sz5 v6 v21 v444⟩ := fun v1 v6 v21 v444 k0_hw5 k0_h3 => k0_hw5.2.2.1 k0_h3
theorem k0_off13_inb : ∀ (v1 : BitVec 32) (v6 : BitVec 32) (v21 : BitVec 32) (v444 : BitVec 32) (k0_hw5 : k0_chk5 v1 v6 v21 v444), ∀ (k0_h3 : k0_cond3 v1 = 1#1), ∀ a, (k0_off13 v6 v21 v444).2 a = 0 ∨ (k0_off13 v6 v21 v444).1 a + (k0_off13 v6 v21 v444).2 a ≤ S16x512x32768.size a := fun v1 v6 v21 v444 k0_hw5 k0_h3 => k0_hw5.2.2.2.1 k0_h3
theorem k0_sz6_squeezes : ∀ (v1 : BitVec 32) (v6 : BitVec 32) (v21 : BitVec 32) (v444 : BitVec 32) (k0_hw5 : k0_chk5 v1 v6 v21 v444), ∀ (k0_h3 : k0_cond3 v1 = 1#1), (⟨3, (k0_off13 v6 v21 v444).2⟩ : Shape).Squeezes ⟨2, k0_sz6 v6 v21 v444⟩ := fun v1 v6 v21 v444 k0_hw5 k0_h3 => k0_hw5.2.2.2.2.1 k0_h3
theorem k0_off13_wordsfp8e4m3 : ∀ (v1 : BitVec 32) (v6 : BitVec 32) (v21 : BitVec 32) (v444 : BitVec 32) (k0_hw5 : k0_chk5 v1 v6 v21 v444), ∀ (k0_h3 : k0_cond3 v1 = 1#1), (Rect.unitDyn (s := S16x512x32768) (k0_off13 v6 v21 v444).1 (k0_off13 v6 v21 v444).2 (k0_off13_inb v1 v6 v21 v444 k0_hw5 k0_h3)).WholeWords (EltTy.packing .fp8e4m3) := fun v1 v6 v21 v444 k0_hw5 k0_h3 => k0_hw5.2.2.2.2.2.1 k0_h3 (k0_off13_inb v1 v6 v21 v444 k0_hw5 k0_h3)
theorem k0_off12_wordsfp8e4m3 : ∀ (v1 : BitVec 32) (v6 : BitVec 32) (v21 : BitVec 32) (v444 : BitVec 32) (k0_hw5 : k0_chk5 v1 v6 v21 v444), ∀ (k0_h3 : k0_cond3 v1 = 1#1), (Rect.unitDyn (s := S4x512x2048) (k0_off12 v6 v21 v444).1 (k0_off12 v6 v21 v444).2 (k0_off12_inb v1 v6 v21 v444 k0_hw5 k0_h3)).WholeWords (EltTy.packing .fp8e4m3) := fun v1 v6 v21 v444 k0_hw5 k0_h3 => k0_hw5.2.2.2.2.2.2 k0_h3 (k0_off12_inb v1 v6 v21 v444 k0_hw5 k0_h3)

def k0_off14 (v6 : BitVec 32) (v21 : BitVec 32) : Fin 1 → Nat :=
  let c0_i32_7 : BitVec 32 := 0#32
  let c1_i32_8 : BitVec 32 := 1#32
  let v5 : BitVec 32 := Scalar.addi c0_i32_7 c1_i32_8
  let c2047_i32 : BitVec 32 := 2047#32
  let v7 : BitVec 32 := Scalar.addi v6 c2047_i32
  let c2048_i32 : BitVec 32 := 2048#32
  let v8 : BitVec 32 := Scalar.divsi v7 c2048_i32
  let c1_i32_9 : BitVec 32 := 1#32
  let v9 : BitVec 32 := Scalar.maxsi v8 c1_i32_9
  let v10 : BitVec 1 := Scalar.cmpi .sge v5 v9
  let c0_i32_15 : BitVec 32 := 0#32
  let c0_i32_13 : BitVec 32 := 0#32
  let c1_i32_14 : BitVec 32 := 1#32
  let v14 : BitVec 32 := Scalar.addi c0_i32_13 c1_i32_14
  let v15 : BitVec 32 := Scalar.select v10 c0_i32_15 v14
  let c1_i32_19 : BitVec 32 := 1#32
  let v19 : BitVec 32 := Scalar.addi v15 c1_i32_19
  let c2047_i32_20 : BitVec 32 := 2047#32
  let v22 : BitVec 32 := Scalar.addi v21 c2047_i32_20
  let c2048_i32_21 : BitVec 32 := 2048#32
  let v23 : BitVec 32 := Scalar.divsi v22 c2048_i32_21
  let c1_i32_22 : BitVec 32 := 1#32
  let v24 : BitVec 32 := Scalar.maxsi v23 c1_i32_22
  let v25 : BitVec 1 := Scalar.cmpi .sge v19 v24
  let c0_i32_10 : BitVec 32 := 0#32
  let c1_i32_11 : BitVec 32 := 1#32
  let v11 : BitVec 32 := Scalar.addi c0_i32_10 c1_i32_11
  let c15_i32 : BitVec 32 := 15#32
  let v12 : BitVec 32 := Scalar.minsi v11 c15_i32
  let c0_i32_12 : BitVec 32 := 0#32
  let v13 : BitVec 32 := Scalar.select v10 v12 c0_i32_12
  let c1_i32_23 : BitVec 32 := 1#32
  let v26 : BitVec 32 := Scalar.addi v13 c1_i32_23
  let c15_i32_24 : BitVec 32 := 15#32
  let v27 : BitVec 32 := Scalar.minsi v26 c15_i32_24
  let v28 : BitVec 32 := Scalar.select v25 v27 v13
  let v35 : Index := Scalar.indexCast v28
  ![v35.toNat]

def k0_chk4 (v1 : BitVec 32) (v6 : BitVec 32) (v21 : BitVec 32) : Prop :=
  (∀ (k0_h3 : k0_cond3 v1 = 1#1), ∀ a, (k0_off10 v6 v21) a + S1.size a ≤ S16.size a) ∧
  (∀ (k0_h3 : k0_cond3 v1 = 1#1), 2048 ∣ (k0_mult6 v6 v21).toNat) ∧
  (∀ a, (k0_off14 v6 v21) a + S1.size a ≤ S16.size a)
theorem k0_off10_inb : ∀ (v1 : BitVec 32) (v6 : BitVec 32) (v21 : BitVec 32) (k0_hw4 : k0_chk4 v1 v6 v21), ∀ (k0_h3 : k0_cond3 v1 = 1#1), ∀ a, (k0_off10 v6 v21) a + S1.size a ≤ S16.size a := fun v1 v6 v21 k0_hw4 k0_h3 => k0_hw4.1 k0_h3
theorem k0_mult6_dvd : ∀ (v1 : BitVec 32) (v6 : BitVec 32) (v21 : BitVec 32) (k0_hw4 : k0_chk4 v1 v6 v21), ∀ (k0_h3 : k0_cond3 v1 = 1#1), 2048 ∣ (k0_mult6 v6 v21).toNat := fun v1 v6 v21 k0_hw4 k0_h3 => k0_hw4.2.1 k0_h3
theorem k0_off14_inb : ∀ (v1 : BitVec 32) (v6 : BitVec 32) (v21 : BitVec 32) (k0_hw4 : k0_chk4 v1 v6 v21), ∀ a, (k0_off14 v6 v21) a + S1.size a ≤ S16.size a := fun v1 v6 v21 k0_hw4 => k0_hw4.2.2

@[reducible] def k0_t2_loop : Scf.Loop 32 :=
  let c0_i32_117 : BitVec 32 := 0#32
  let c16_i32_118 : BitVec 32 := 16#32
  let v335 : BitVec 32 := Scalar.addi c0_i32_117 c16_i32_118
  let c1_i32_119 : BitVec 32 := 1#32
  ⟨c0_i32_117, v335, c1_i32_119⟩
def k0_off15 (k0_t2 : Fin k0_t2_loop.trips) : Fin 3 → Nat :=
  let c0_i32_117 : BitVec 32 := 0#32
  let c1_i32_119 : BitVec 32 := 1#32
  let arg20 : BitVec 32 := Scf.iv c0_i32_117 c1_i32_119 k0_t2
  let v442 : Index := Scalar.indexCast arg20
  let c0_204 : Index := 0#32
  let c0_205 : Index := 0#32
  ![v442.toNat, 0, 0]
def k0_off16 (k0_t2 : Fin k0_t2_loop.trips) : Fin 3 → Nat :=
  let c0_i32_117 : BitVec 32 := 0#32
  let c1_i32_119 : BitVec 32 := 1#32
  let arg20 : BitVec 32 := Scf.iv c0_i32_117 c1_i32_119 k0_t2
  let v445 : Index := Scalar.indexCast arg20
  let c0_206 : Index := 0#32
  let c0_207 : Index := 0#32
  ![v445.toNat, 0, 0]
def k0_off17 (k0_t2 : Fin k0_t2_loop.trips) : Fin 3 → Nat :=
  let c0_i32_117 : BitVec 32 := 0#32
  let c1_i32_119 : BitVec 32 := 1#32
  let arg20 : BitVec 32 := Scf.iv c0_i32_117 c1_i32_119 k0_t2
  let v455 : Index := Scalar.indexCast arg20
  let c0_210 : Index := 0#32
  let c0_211 : Index := 0#32
  ![v455.toNat, 0, 0]
def k0_off18 (k0_t2 : Fin k0_t2_loop.trips) : Fin 4 → Nat :=
  let c0_i32_117 : BitVec 32 := 0#32
  let c1_i32_119 : BitVec 32 := 1#32
  let arg20 : BitVec 32 := Scf.iv c0_i32_117 c1_i32_119 k0_t2
  let v466 : Index := Scalar.indexCast arg20
  let c0_214 : Index := 0#32
  let c0_215 : Index := 0#32
  let c0_216 : Index := 0#32
  ![v466.toNat, 0, 0, 0]
def k0_off19 (k0_t2 : Fin k0_t2_loop.trips) : Fin 4 → Nat :=
  let c0_i32_117 : BitVec 32 := 0#32
  let c1_i32_119 : BitVec 32 := 1#32
  let arg20 : BitVec 32 := Scf.iv c0_i32_117 c1_i32_119 k0_t2
  let v477 : Index := Scalar.indexCast arg20
  let c1_219 : Index := 1#32
  let c0_220 : Index := 0#32
  let c0_221 : Index := 0#32
  ![v477.toNat, 1, 0, 0]
def k0_mult7 (v337 : BitVec 32) : BitVec 32 :=
  let c0_i32_129 : BitVec 32 := 0#32
  let c4_i32_130 : BitVec 32 := 4#32
  let v345 : BitVec 1 := Scalar.cmpi .slt c0_i32_129 c4_i32_130
  let c2048_i32_131 : BitVec 32 := 2048#32
  let c0_i32_124 : BitVec 32 := 0#32
  let c2048_i32_125 : BitVec 32 := 2048#32
  let v338 : BitVec 32 := Scalar.muli c0_i32_124 c2048_i32_125
  let v339 : BitVec 32 := Scalar.subi v337 v338
  let c2048_i32_126 : BitVec 32 := 2048#32
  let v340 : BitVec 32 := Scalar.minsi v339 c2048_i32_126
  let c127_i32 : BitVec 32 := 127#32
  let v341 : BitVec 32 := Scalar.addi v340 c127_i32
  let c128_i32 : BitVec 32 := 128#32
  let v342 : BitVec 32 := Scalar.divsi v341 c128_i32
  let c1_i32_127 : BitVec 32 := 1#32
  let v343 : BitVec 32 := Scalar.maxsi v342 c1_i32_127
  let c128_i32_128 : BitVec 32 := 128#32
  let v344 : BitVec 32 := Scalar.muli v343 c128_i32_128
  let v346 : BitVec 32 := Scalar.select v345 c2048_i32_131 v344
  v346

def k0_mult8 : BitVec 32 :=
  let c0_i32_132 : BitVec 32 := 0#32
  let c2048_i32_133 : BitVec 32 := 2048#32
  let v348 : BitVec 32 := Scalar.muli c0_i32_132 c2048_i32_133
  v348
def k0_off20 : Fin 1 → Nat :=
  let c0_i32_121 : BitVec 32 := 0#32
  let c4_i32_122 : BitVec 32 := 4#32
  let v336 : BitVec 32 := Scalar.remsi c0_i32_121 c4_i32_122
  ![v336.toNat]
def k0_off21 (v337 : BitVec 32) : (Fin 3 → Nat) × (Fin 3 → Nat) :=
  let c0_i32_121 : BitVec 32 := 0#32
  let c4_i32_122 : BitVec 32 := 4#32
  let v336 : BitVec 32 := Scalar.remsi c0_i32_121 c4_i32_122
  let c0_i32_135 : BitVec 32 := 0#32
  let c0_i32_136 : BitVec 32 := 0#32
  let c0_i32_129 : BitVec 32 := 0#32
  let c4_i32_130 : BitVec 32 := 4#32
  let v345 : BitVec 1 := Scalar.cmpi .slt c0_i32_129 c4_i32_130
  let c2048_i32_131 : BitVec 32 := 2048#32
  let c0_i32_124 : BitVec 32 := 0#32
  let c2048_i32_125 : BitVec 32 := 2048#32
  let v338 : BitVec 32 := Scalar.muli c0_i32_124 c2048_i32_125
  let v339 : BitVec 32 := Scalar.subi v337 v338
  let c2048_i32_126 : BitVec 32 := 2048#32
  let v340 : BitVec 32 := Scalar.minsi v339 c2048_i32_126
  let c127_i32 : BitVec 32 := 127#32
  let v341 : BitVec 32 := Scalar.addi v340 c127_i32
  let c128_i32 : BitVec 32 := 128#32
  let v342 : BitVec 32 := Scalar.divsi v341 c128_i32
  let c1_i32_127 : BitVec 32 := 1#32
  let v343 : BitVec 32 := Scalar.maxsi v342 c1_i32_127
  let c128_i32_128 : BitVec 32 := 128#32
  let v344 : BitVec 32 := Scalar.muli v343 c128_i32_128
  let v346 : BitVec 32 := Scalar.select v345 c2048_i32_131 v344
  let v347 : BitVec 32 := v346
  ⟨![v336.toNat, 0, 0], ![1, 512, v347.toNat]⟩

def k0_sz7 (v337 : BitVec 32) : Fin 2 → Nat :=
  let c0_i32_129 : BitVec 32 := 0#32
  let c4_i32_130 : BitVec 32 := 4#32
  let v345 : BitVec 1 := Scalar.cmpi .slt c0_i32_129 c4_i32_130
  let c2048_i32_131 : BitVec 32 := 2048#32
  let c0_i32_124 : BitVec 32 := 0#32
  let c2048_i32_125 : BitVec 32 := 2048#32
  let v338 : BitVec 32 := Scalar.muli c0_i32_124 c2048_i32_125
  let v339 : BitVec 32 := Scalar.subi v337 v338
  let c2048_i32_126 : BitVec 32 := 2048#32
  let v340 : BitVec 32 := Scalar.minsi v339 c2048_i32_126
  let c127_i32 : BitVec 32 := 127#32
  let v341 : BitVec 32 := Scalar.addi v340 c127_i32
  let c128_i32 : BitVec 32 := 128#32
  let v342 : BitVec 32 := Scalar.divsi v341 c128_i32
  let c1_i32_127 : BitVec 32 := 1#32
  let v343 : BitVec 32 := Scalar.maxsi v342 c1_i32_127
  let c128_i32_128 : BitVec 32 := 128#32
  let v344 : BitVec 32 := Scalar.muli v343 c128_i32_128
  let v346 : BitVec 32 := Scalar.select v345 c2048_i32_131 v344
  let v347 : BitVec 32 := v346
  ![512, v347.toNat]
def k0_off22 (v337 : BitVec 32) : (Fin 3 → Nat) × (Fin 3 → Nat) :=
  let c0_i32_134 : BitVec 32 := 0#32
  let c0_i32_137 : BitVec 32 := 0#32
  let c0_i32_132 : BitVec 32 := 0#32
  let c2048_i32_133 : BitVec 32 := 2048#32
  let v348 : BitVec 32 := Scalar.muli c0_i32_132 c2048_i32_133
  let v349 : BitVec 32 := v348
  let c0_i32_129 : BitVec 32 := 0#32
  let c4_i32_130 : BitVec 32 := 4#32
  let v345 : BitVec 1 := Scalar.cmpi .slt c0_i32_129 c4_i32_130
  let c2048_i32_131 : BitVec 32 := 2048#32
  let c0_i32_124 : BitVec 32 := 0#32
  let c2048_i32_125 : BitVec 32 := 2048#32
  let v338 : BitVec 32 := Scalar.muli c0_i32_124 c2048_i32_125
  let v339 : BitVec 32 := Scalar.subi v337 v338
  let c2048_i32_126 : BitVec 32 := 2048#32
  let v340 : BitVec 32 := Scalar.minsi v339 c2048_i32_126
  let c127_i32 : BitVec 32 := 127#32
  let v341 : BitVec 32 := Scalar.addi v340 c127_i32
  let c128_i32 : BitVec 32 := 128#32
  let v342 : BitVec 32 := Scalar.divsi v341 c128_i32
  let c1_i32_127 : BitVec 32 := 1#32
  let v343 : BitVec 32 := Scalar.maxsi v342 c1_i32_127
  let c128_i32_128 : BitVec 32 := 128#32
  let v344 : BitVec 32 := Scalar.muli v343 c128_i32_128
  let v346 : BitVec 32 := Scalar.select v345 c2048_i32_131 v344
  let v347 : BitVec 32 := v346
  ⟨![0, 0, v349.toNat], ![1, 512, v347.toNat]⟩

def k0_sz8 (v337 : BitVec 32) : Fin 2 → Nat :=
  let c0_i32_129 : BitVec 32 := 0#32
  let c4_i32_130 : BitVec 32 := 4#32
  let v345 : BitVec 1 := Scalar.cmpi .slt c0_i32_129 c4_i32_130
  let c2048_i32_131 : BitVec 32 := 2048#32
  let c0_i32_124 : BitVec 32 := 0#32
  let c2048_i32_125 : BitVec 32 := 2048#32
  let v338 : BitVec 32 := Scalar.muli c0_i32_124 c2048_i32_125
  let v339 : BitVec 32 := Scalar.subi v337 v338
  let c2048_i32_126 : BitVec 32 := 2048#32
  let v340 : BitVec 32 := Scalar.minsi v339 c2048_i32_126
  let c127_i32 : BitVec 32 := 127#32
  let v341 : BitVec 32 := Scalar.addi v340 c127_i32
  let c128_i32 : BitVec 32 := 128#32
  let v342 : BitVec 32 := Scalar.divsi v341 c128_i32
  let c1_i32_127 : BitVec 32 := 1#32
  let v343 : BitVec 32 := Scalar.maxsi v342 c1_i32_127
  let c128_i32_128 : BitVec 32 := 128#32
  let v344 : BitVec 32 := Scalar.muli v343 c128_i32_128
  let v346 : BitVec 32 := Scalar.select v345 c2048_i32_131 v344
  let v347 : BitVec 32 := v346
  ![512, v347.toNat]

def k0_chk6 (v337 : BitVec 32) : Prop :=
  (128 ∣ (k0_mult7 v337).toNat) ∧
  ((⟨3, (k0_off21 v337).2⟩ : Shape).Squeezes ⟨2, k0_sz7 v337⟩) ∧
  ((⟨3, (k0_off22 v337).2⟩ : Shape).Squeezes ⟨2, k0_sz8 v337⟩)
theorem k0_mult7_dvd : ∀ (v337 : BitVec 32) (k0_hw6 : k0_chk6 v337), 128 ∣ (k0_mult7 v337).toNat := fun v337 k0_hw6 => k0_hw6.1
theorem k0_sz7_squeezes : ∀ (v337 : BitVec 32) (k0_hw6 : k0_chk6 v337), (⟨3, (k0_off21 v337).2⟩ : Shape).Squeezes ⟨2, k0_sz7 v337⟩ := fun v337 k0_hw6 => k0_hw6.2.1
theorem k0_sz8_squeezes : ∀ (v337 : BitVec 32) (k0_hw6 : k0_chk6 v337), (⟨3, (k0_off22 v337).2⟩ : Shape).Squeezes ⟨2, k0_sz8 v337⟩ := fun v337 k0_hw6 => k0_hw6.2.2

def k0_off23 : Fin 3 → Nat :=
  let c0_i32_138 : BitVec 32 := 0#32
  let c4_i32_139 : BitVec 32 := 4#32
  let v356 : BitVec 32 := Scalar.remsi c0_i32_138 c4_i32_139
  let v365 : Index := Scalar.indexCast v356
  let c0_146 : Index := 0#32
  let c0_147 : Index := 0#32
  ![v365.toNat, 0, 0]
def k0_off24 : Fin 4 → Nat :=
  let c0_i32_140 : BitVec 32 := 0#32
  let c2_i32_141 : BitVec 32 := 2#32
  let v357 : BitVec 32 := Scalar.remsi c0_i32_140 c2_i32_141
  let v373 : Index := Scalar.indexCast v357
  let c0_154 : Index := 0#32
  let c0_155 : Index := 0#32
  let c0_156 : Index := 0#32
  ![v373.toNat, 0, 0, 0]
def k0_off25 : Fin 4 → Nat :=
  let c1_i32_142 : BitVec 32 := 1#32
  let c0_i32_140 : BitVec 32 := 0#32
  let c2_i32_141 : BitVec 32 := 2#32
  let v357 : BitVec 32 := Scalar.remsi c0_i32_140 c2_i32_141
  let v358 : BitVec 32 := Scalar.subi c1_i32_142 v357
  let v380 : Index := Scalar.indexCast v358
  let c0_162 : Index := 0#32
  let c0_163 : Index := 0#32
  let c0_164 : Index := 0#32
  ![v380.toNat, 0, 0, 0]
def k0_off26 : Fin 4 → Nat :=
  let c0_i32_140 : BitVec 32 := 0#32
  let c2_i32_141 : BitVec 32 := 2#32
  let v357 : BitVec 32 := Scalar.remsi c0_i32_140 c2_i32_141
  let v388 : Index := Scalar.indexCast v357
  let c0_166 : Index := 0#32
  let c0_167 : Index := 0#32
  let c0_168 : Index := 0#32
  ![v388.toNat, 0, 0, 0]
def k0_off27 : Fin 3 → Nat :=
  let c0_i32_138 : BitVec 32 := 0#32
  let c4_i32_139 : BitVec 32 := 4#32
  let v356 : BitVec 32 := Scalar.remsi c0_i32_138 c4_i32_139
  let v400 : Index := Scalar.indexCast v356
  let c256 : Index := 256#32
  let c0_173 : Index := 0#32
  ![v400.toNat, 256, 0]
def k0_off28 : Fin 4 → Nat :=
  let c0_i32_140 : BitVec 32 := 0#32
  let c2_i32_141 : BitVec 32 := 2#32
  let v357 : BitVec 32 := Scalar.remsi c0_i32_140 c2_i32_141
  let v408 : Index := Scalar.indexCast v357
  let c1_180 : Index := 1#32
  let c0_181 : Index := 0#32
  let c0_182 : Index := 0#32
  ![v408.toNat, 1, 0, 0]
def k0_off29 : Fin 4 → Nat :=
  let c1_i32_142 : BitVec 32 := 1#32
  let c0_i32_140 : BitVec 32 := 0#32
  let c2_i32_141 : BitVec 32 := 2#32
  let v357 : BitVec 32 := Scalar.remsi c0_i32_140 c2_i32_141
  let v358 : BitVec 32 := Scalar.subi c1_i32_142 v357
  let v415 : Index := Scalar.indexCast v358
  let c1_187 : Index := 1#32
  let c0_188 : Index := 0#32
  let c0_189 : Index := 0#32
  ![v415.toNat, 1, 0, 0]
def k0_off30 : Fin 4 → Nat :=
  let c0_i32_140 : BitVec 32 := 0#32
  let c2_i32_141 : BitVec 32 := 2#32
  let v357 : BitVec 32 := Scalar.remsi c0_i32_140 c2_i32_141
  let v423 : Index := Scalar.indexCast v357
  let c1_191 : Index := 1#32
  let c0_192 : Index := 0#32
  let c0_193 : Index := 0#32
  ![v423.toNat, 1, 0, 0]
@[reducible] def k0_t3_loop (v1 : BitVec 32) : Scf.Loop 32 :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_202 : BitVec 32 := 1#32
  ⟨c0_i32_198, v439, c1_i32_202⟩

def k0_off31 (arg23 : BitVec 32) : Fin 1 → Nat :=
  let v443 : Index := Scalar.indexCast arg23
  ![v443.toNat]

def k0_off32 (arg21 : BitVec 32) : Fin 1 → Nat :=
  let v739 : Index := Scalar.indexCast arg21
  ![v739.toNat]
def k0_cond4 (v1 : BitVec 32) (k0_t3 : Fin (k0_t3_loop v1).trips) : BitVec 1 :=
  let c0_i32_198 : BitVec 32 := 0#32
  let c1_i32_202 : BitVec 32 := 1#32
  let arg20 : BitVec 32 := Scf.iv c0_i32_198 c1_i32_202 k0_t3
  let c4_i32_212 : BitVec 32 := 4#32
  let v454 : BitVec 32 := Scalar.addi arg20 c4_i32_212
  let c1_i32_213 : BitVec 32 := 1#32
  let v455 : BitVec 32 := Scalar.subi v454 c1_i32_213
  let v456 : BitVec 1 := Scalar.cmpi .slt v455 v1
  let v457 : BitVec 32 := Scalar.extui v456
  let c0_i32_214 : BitVec 32 := 0#32
  let v458 : BitVec 1 := Scalar.cmpi .ne v457 c0_i32_214
  v458

def k0_mult9 (v1 : BitVec 32) (k0_t3 : Fin (k0_t3_loop v1).trips) (arg22 : BitVec 32) (v740 : BitVec 32) : BitVec 32 :=
  let c0_i32_198 : BitVec 32 := 0#32
  let c1_i32_202 : BitVec 32 := 1#32
  let arg20 : BitVec 32 := Scf.iv c0_i32_198 c1_i32_202 k0_t3
  let c4_i32_212 : BitVec 32 := 4#32
  let v454 : BitVec 32 := Scalar.addi arg20 c4_i32_212
  let c1_i32_213 : BitVec 32 := 1#32
  let v455 : BitVec 32 := Scalar.subi v454 c1_i32_213
  let c4_i32_363 : BitVec 32 := 4#32
  let v748 : BitVec 1 := Scalar.cmpi .slt v455 c4_i32_363
  let c2048_i32_364 : BitVec 32 := 2048#32
  let c2048_i32_357 : BitVec 32 := 2048#32
  let v741 : BitVec 32 := Scalar.muli arg22 c2048_i32_357
  let v742 : BitVec 32 := Scalar.subi v740 v741
  let c2048_i32_358 : BitVec 32 := 2048#32
  let v743 : BitVec 32 := Scalar.minsi v742 c2048_i32_358
  let c127_i32_359 : BitVec 32 := 127#32
  let v744 : BitVec 32 := Scalar.addi v743 c127_i32_359
  let c128_i32_360 : BitVec 32 := 128#32
  let v745 : BitVec 32 := Scalar.divsi v744 c128_i32_360
  let c1_i32_361 : BitVec 32 := 1#32
  let v746 : BitVec 32 := Scalar.maxsi v745 c1_i32_361
  let c128_i32_362 : BitVec 32 := 128#32
  let v747 : BitVec 32 := Scalar.muli v746 c128_i32_362
  let v749 : BitVec 32 := Scalar.select v748 c2048_i32_364 v747
  v749

def k0_mult10 (arg22 : BitVec 32) : BitVec 32 :=
  let c2048_i32_365 : BitVec 32 := 2048#32
  let v751 : BitVec 32 := Scalar.muli arg22 c2048_i32_365
  v751

def k0_chk11 (v1 : BitVec 32) (k0_t3 : Fin (k0_t3_loop v1).trips) (arg22 : BitVec 32) : Prop :=
  (∀ (k0_h4 : k0_cond4 v1 k0_t3 = 1#1), 2048 ∣ (k0_mult10 arg22).toNat)
theorem k0_mult10_dvd : ∀ (v1 : BitVec 32) (k0_t3 : Fin (k0_t3_loop v1).trips) (arg22 : BitVec 32) (k0_hw11 : k0_chk11 v1 k0_t3 arg22), ∀ (k0_h4 : k0_cond4 v1 k0_t3 = 1#1), 2048 ∣ (k0_mult10 arg22).toNat := fun v1 k0_t3 arg22 k0_hw11 k0_h4 => k0_hw11 k0_h4

def k0_off33 (v1 : BitVec 32) (k0_t3 : Fin (k0_t3_loop v1).trips) : Fin 1 → Nat :=
  let c0_i32_198 : BitVec 32 := 0#32
  let c1_i32_202 : BitVec 32 := 1#32
  let arg20 : BitVec 32 := Scf.iv c0_i32_198 c1_i32_202 k0_t3
  let c4_i32_212 : BitVec 32 := 4#32
  let v454 : BitVec 32 := Scalar.addi arg20 c4_i32_212
  let c1_i32_213 : BitVec 32 := 1#32
  let v455 : BitVec 32 := Scalar.subi v454 c1_i32_213
  let c4_i32_356 : BitVec 32 := 4#32
  let v738 : BitVec 32 := Scalar.remsi v455 c4_i32_356
  ![v738.toNat]
def k0_off34 (v1 : BitVec 32) (k0_t3 : Fin (k0_t3_loop v1).trips) (arg22 : BitVec 32) (v740 : BitVec 32) : (Fin 3 → Nat) × (Fin 3 → Nat) :=
  let c0_i32_198 : BitVec 32 := 0#32
  let c1_i32_202 : BitVec 32 := 1#32
  let arg20 : BitVec 32 := Scf.iv c0_i32_198 c1_i32_202 k0_t3
  let c4_i32_212 : BitVec 32 := 4#32
  let v454 : BitVec 32 := Scalar.addi arg20 c4_i32_212
  let c1_i32_213 : BitVec 32 := 1#32
  let v455 : BitVec 32 := Scalar.subi v454 c1_i32_213
  let c4_i32_356 : BitVec 32 := 4#32
  let v738 : BitVec 32 := Scalar.remsi v455 c4_i32_356
  let c0_i32_366 : BitVec 32 := 0#32
  let c0_i32_367 : BitVec 32 := 0#32
  let c4_i32_363 : BitVec 32 := 4#32
  let v748 : BitVec 1 := Scalar.cmpi .slt v455 c4_i32_363
  let c2048_i32_364 : BitVec 32 := 2048#32
  let c2048_i32_357 : BitVec 32 := 2048#32
  let v741 : BitVec 32 := Scalar.muli arg22 c2048_i32_357
  let v742 : BitVec 32 := Scalar.subi v740 v741
  let c2048_i32_358 : BitVec 32 := 2048#32
  let v743 : BitVec 32 := Scalar.minsi v742 c2048_i32_358
  let c127_i32_359 : BitVec 32 := 127#32
  let v744 : BitVec 32 := Scalar.addi v743 c127_i32_359
  let c128_i32_360 : BitVec 32 := 128#32
  let v745 : BitVec 32 := Scalar.divsi v744 c128_i32_360
  let c1_i32_361 : BitVec 32 := 1#32
  let v746 : BitVec 32 := Scalar.maxsi v745 c1_i32_361
  let c128_i32_362 : BitVec 32 := 128#32
  let v747 : BitVec 32 := Scalar.muli v746 c128_i32_362
  let v749 : BitVec 32 := Scalar.select v748 c2048_i32_364 v747
  let v750 : BitVec 32 := v749
  ⟨![v738.toNat, 0, 0], ![1, 512, v750.toNat]⟩
def k0_sz9 (v1 : BitVec 32) (k0_t3 : Fin (k0_t3_loop v1).trips) (arg22 : BitVec 32) (v740 : BitVec 32) : Fin 2 → Nat :=
  let c0_i32_198 : BitVec 32 := 0#32
  let c1_i32_202 : BitVec 32 := 1#32
  let arg20 : BitVec 32 := Scf.iv c0_i32_198 c1_i32_202 k0_t3
  let c4_i32_212 : BitVec 32 := 4#32
  let v454 : BitVec 32 := Scalar.addi arg20 c4_i32_212
  let c1_i32_213 : BitVec 32 := 1#32
  let v455 : BitVec 32 := Scalar.subi v454 c1_i32_213
  let c4_i32_363 : BitVec 32 := 4#32
  let v748 : BitVec 1 := Scalar.cmpi .slt v455 c4_i32_363
  let c2048_i32_364 : BitVec 32 := 2048#32
  let c2048_i32_357 : BitVec 32 := 2048#32
  let v741 : BitVec 32 := Scalar.muli arg22 c2048_i32_357
  let v742 : BitVec 32 := Scalar.subi v740 v741
  let c2048_i32_358 : BitVec 32 := 2048#32
  let v743 : BitVec 32 := Scalar.minsi v742 c2048_i32_358
  let c127_i32_359 : BitVec 32 := 127#32
  let v744 : BitVec 32 := Scalar.addi v743 c127_i32_359
  let c128_i32_360 : BitVec 32 := 128#32
  let v745 : BitVec 32 := Scalar.divsi v744 c128_i32_360
  let c1_i32_361 : BitVec 32 := 1#32
  let v746 : BitVec 32 := Scalar.maxsi v745 c1_i32_361
  let c128_i32_362 : BitVec 32 := 128#32
  let v747 : BitVec 32 := Scalar.muli v746 c128_i32_362
  let v749 : BitVec 32 := Scalar.select v748 c2048_i32_364 v747
  let v750 : BitVec 32 := v749
  ![512, v750.toNat]
def k0_off35 (v1 : BitVec 32) (k0_t3 : Fin (k0_t3_loop v1).trips) (arg21 : BitVec 32) (arg22 : BitVec 32) (v740 : BitVec 32) : (Fin 3 → Nat) × (Fin 3 → Nat) :=
  let c0_i32_368 : BitVec 32 := 0#32
  let c2048_i32_365 : BitVec 32 := 2048#32
  let v751 : BitVec 32 := Scalar.muli arg22 c2048_i32_365
  let v752 : BitVec 32 := v751
  let c0_i32_198 : BitVec 32 := 0#32
  let c1_i32_202 : BitVec 32 := 1#32
  let arg20 : BitVec 32 := Scf.iv c0_i32_198 c1_i32_202 k0_t3
  let c4_i32_212 : BitVec 32 := 4#32
  let v454 : BitVec 32 := Scalar.addi arg20 c4_i32_212
  let c1_i32_213 : BitVec 32 := 1#32
  let v455 : BitVec 32 := Scalar.subi v454 c1_i32_213
  let c4_i32_363 : BitVec 32 := 4#32
  let v748 : BitVec 1 := Scalar.cmpi .slt v455 c4_i32_363
  let c2048_i32_364 : BitVec 32 := 2048#32
  let c2048_i32_357 : BitVec 32 := 2048#32
  let v741 : BitVec 32 := Scalar.muli arg22 c2048_i32_357
  let v742 : BitVec 32 := Scalar.subi v740 v741
  let c2048_i32_358 : BitVec 32 := 2048#32
  let v743 : BitVec 32 := Scalar.minsi v742 c2048_i32_358
  let c127_i32_359 : BitVec 32 := 127#32
  let v744 : BitVec 32 := Scalar.addi v743 c127_i32_359
  let c128_i32_360 : BitVec 32 := 128#32
  let v745 : BitVec 32 := Scalar.divsi v744 c128_i32_360
  let c1_i32_361 : BitVec 32 := 1#32
  let v746 : BitVec 32 := Scalar.maxsi v745 c1_i32_361
  let c128_i32_362 : BitVec 32 := 128#32
  let v747 : BitVec 32 := Scalar.muli v746 c128_i32_362
  let v749 : BitVec 32 := Scalar.select v748 c2048_i32_364 v747
  let v750 : BitVec 32 := v749
  ⟨![arg21.toNat, 0, v752.toNat], ![1, 512, v750.toNat]⟩
def k0_sz10 (v1 : BitVec 32) (k0_t3 : Fin (k0_t3_loop v1).trips) (arg22 : BitVec 32) (v740 : BitVec 32) : Fin 2 → Nat :=
  let c0_i32_198 : BitVec 32 := 0#32
  let c1_i32_202 : BitVec 32 := 1#32
  let arg20 : BitVec 32 := Scf.iv c0_i32_198 c1_i32_202 k0_t3
  let c4_i32_212 : BitVec 32 := 4#32
  let v454 : BitVec 32 := Scalar.addi arg20 c4_i32_212
  let c1_i32_213 : BitVec 32 := 1#32
  let v455 : BitVec 32 := Scalar.subi v454 c1_i32_213
  let c4_i32_363 : BitVec 32 := 4#32
  let v748 : BitVec 1 := Scalar.cmpi .slt v455 c4_i32_363
  let c2048_i32_364 : BitVec 32 := 2048#32
  let c2048_i32_357 : BitVec 32 := 2048#32
  let v741 : BitVec 32 := Scalar.muli arg22 c2048_i32_357
  let v742 : BitVec 32 := Scalar.subi v740 v741
  let c2048_i32_358 : BitVec 32 := 2048#32
  let v743 : BitVec 32 := Scalar.minsi v742 c2048_i32_358
  let c127_i32_359 : BitVec 32 := 127#32
  let v744 : BitVec 32 := Scalar.addi v743 c127_i32_359
  let c128_i32_360 : BitVec 32 := 128#32
  let v745 : BitVec 32 := Scalar.divsi v744 c128_i32_360
  let c1_i32_361 : BitVec 32 := 1#32
  let v746 : BitVec 32 := Scalar.maxsi v745 c1_i32_361
  let c128_i32_362 : BitVec 32 := 128#32
  let v747 : BitVec 32 := Scalar.muli v746 c128_i32_362
  let v749 : BitVec 32 := Scalar.select v748 c2048_i32_364 v747
  let v750 : BitVec 32 := v749
  ![512, v750.toNat]

def k0_chk10 (v1 : BitVec 32) (k0_t3 : Fin (k0_t3_loop v1).trips) (arg21 : BitVec 32) (arg22 : BitVec 32) (v740 : BitVec 32) : Prop :=
  (∀ (k0_h4 : k0_cond4 v1 k0_t3 = 1#1), 128 ∣ (k0_mult9 v1 k0_t3 arg22 v740).toNat) ∧
  (∀ (k0_h4 : k0_cond4 v1 k0_t3 = 1#1), ∀ a, (k0_off34 v1 k0_t3 arg22 v740).2 a = 0 ∨ (k0_off34 v1 k0_t3 arg22 v740).1 a + (k0_off34 v1 k0_t3 arg22 v740).2 a ≤ S4x512x2048.size a) ∧
  (∀ (k0_h4 : k0_cond4 v1 k0_t3 = 1#1), (⟨3, (k0_off34 v1 k0_t3 arg22 v740).2⟩ : Shape).Squeezes ⟨2, k0_sz9 v1 k0_t3 arg22 v740⟩) ∧
  (∀ (k0_h4 : k0_cond4 v1 k0_t3 = 1#1), ∀ a, (k0_off35 v1 k0_t3 arg21 arg22 v740).2 a = 0 ∨ (k0_off35 v1 k0_t3 arg21 arg22 v740).1 a + (k0_off35 v1 k0_t3 arg21 arg22 v740).2 a ≤ S16x512x32768.size a) ∧
  (∀ (k0_h4 : k0_cond4 v1 k0_t3 = 1#1), (⟨3, (k0_off35 v1 k0_t3 arg21 arg22 v740).2⟩ : Shape).Squeezes ⟨2, k0_sz10 v1 k0_t3 arg22 v740⟩) ∧
  (∀ (k0_h4 : k0_cond4 v1 k0_t3 = 1#1), ∀ (hinb : ∀ a, (k0_off35 v1 k0_t3 arg21 arg22 v740).2 a = 0 ∨ (k0_off35 v1 k0_t3 arg21 arg22 v740).1 a + (k0_off35 v1 k0_t3 arg21 arg22 v740).2 a ≤ S16x512x32768.size a), (Rect.unitDyn (s := S16x512x32768) (k0_off35 v1 k0_t3 arg21 arg22 v740).1 (k0_off35 v1 k0_t3 arg21 arg22 v740).2 hinb).WholeWords (EltTy.packing .fp8e4m3)) ∧
  (∀ (k0_h4 : k0_cond4 v1 k0_t3 = 1#1), ∀ (hinb : ∀ a, (k0_off34 v1 k0_t3 arg22 v740).2 a = 0 ∨ (k0_off34 v1 k0_t3 arg22 v740).1 a + (k0_off34 v1 k0_t3 arg22 v740).2 a ≤ S4x512x2048.size a), (Rect.unitDyn (s := S4x512x2048) (k0_off34 v1 k0_t3 arg22 v740).1 (k0_off34 v1 k0_t3 arg22 v740).2 hinb).WholeWords (EltTy.packing .fp8e4m3))
theorem k0_mult9_dvd : ∀ (v1 : BitVec 32) (k0_t3 : Fin (k0_t3_loop v1).trips) (arg21 : BitVec 32) (arg22 : BitVec 32) (v740 : BitVec 32) (k0_hw10 : k0_chk10 v1 k0_t3 arg21 arg22 v740), ∀ (k0_h4 : k0_cond4 v1 k0_t3 = 1#1), 128 ∣ (k0_mult9 v1 k0_t3 arg22 v740).toNat := fun v1 k0_t3 arg21 arg22 v740 k0_hw10 k0_h4 => k0_hw10.1 k0_h4
theorem k0_off34_inb : ∀ (v1 : BitVec 32) (k0_t3 : Fin (k0_t3_loop v1).trips) (arg21 : BitVec 32) (arg22 : BitVec 32) (v740 : BitVec 32) (k0_hw10 : k0_chk10 v1 k0_t3 arg21 arg22 v740), ∀ (k0_h4 : k0_cond4 v1 k0_t3 = 1#1), ∀ a, (k0_off34 v1 k0_t3 arg22 v740).2 a = 0 ∨ (k0_off34 v1 k0_t3 arg22 v740).1 a + (k0_off34 v1 k0_t3 arg22 v740).2 a ≤ S4x512x2048.size a := fun v1 k0_t3 arg21 arg22 v740 k0_hw10 k0_h4 => k0_hw10.2.1 k0_h4
theorem k0_sz9_squeezes : ∀ (v1 : BitVec 32) (k0_t3 : Fin (k0_t3_loop v1).trips) (arg21 : BitVec 32) (arg22 : BitVec 32) (v740 : BitVec 32) (k0_hw10 : k0_chk10 v1 k0_t3 arg21 arg22 v740), ∀ (k0_h4 : k0_cond4 v1 k0_t3 = 1#1), (⟨3, (k0_off34 v1 k0_t3 arg22 v740).2⟩ : Shape).Squeezes ⟨2, k0_sz9 v1 k0_t3 arg22 v740⟩ := fun v1 k0_t3 arg21 arg22 v740 k0_hw10 k0_h4 => k0_hw10.2.2.1 k0_h4
theorem k0_off35_inb : ∀ (v1 : BitVec 32) (k0_t3 : Fin (k0_t3_loop v1).trips) (arg21 : BitVec 32) (arg22 : BitVec 32) (v740 : BitVec 32) (k0_hw10 : k0_chk10 v1 k0_t3 arg21 arg22 v740), ∀ (k0_h4 : k0_cond4 v1 k0_t3 = 1#1), ∀ a, (k0_off35 v1 k0_t3 arg21 arg22 v740).2 a = 0 ∨ (k0_off35 v1 k0_t3 arg21 arg22 v740).1 a + (k0_off35 v1 k0_t3 arg21 arg22 v740).2 a ≤ S16x512x32768.size a := fun v1 k0_t3 arg21 arg22 v740 k0_hw10 k0_h4 => k0_hw10.2.2.2.1 k0_h4
theorem k0_sz10_squeezes : ∀ (v1 : BitVec 32) (k0_t3 : Fin (k0_t3_loop v1).trips) (arg21 : BitVec 32) (arg22 : BitVec 32) (v740 : BitVec 32) (k0_hw10 : k0_chk10 v1 k0_t3 arg21 arg22 v740), ∀ (k0_h4 : k0_cond4 v1 k0_t3 = 1#1), (⟨3, (k0_off35 v1 k0_t3 arg21 arg22 v740).2⟩ : Shape).Squeezes ⟨2, k0_sz10 v1 k0_t3 arg22 v740⟩ := fun v1 k0_t3 arg21 arg22 v740 k0_hw10 k0_h4 => k0_hw10.2.2.2.2.1 k0_h4
theorem k0_off35_wordsfp8e4m3 : ∀ (v1 : BitVec 32) (k0_t3 : Fin (k0_t3_loop v1).trips) (arg21 : BitVec 32) (arg22 : BitVec 32) (v740 : BitVec 32) (k0_hw10 : k0_chk10 v1 k0_t3 arg21 arg22 v740), ∀ (k0_h4 : k0_cond4 v1 k0_t3 = 1#1), (Rect.unitDyn (s := S16x512x32768) (k0_off35 v1 k0_t3 arg21 arg22 v740).1 (k0_off35 v1 k0_t3 arg21 arg22 v740).2 (k0_off35_inb v1 k0_t3 arg21 arg22 v740 k0_hw10 k0_h4)).WholeWords (EltTy.packing .fp8e4m3) := fun v1 k0_t3 arg21 arg22 v740 k0_hw10 k0_h4 => k0_hw10.2.2.2.2.2.1 k0_h4 (k0_off35_inb v1 k0_t3 arg21 arg22 v740 k0_hw10 k0_h4)
theorem k0_off34_wordsfp8e4m3 : ∀ (v1 : BitVec 32) (k0_t3 : Fin (k0_t3_loop v1).trips) (arg21 : BitVec 32) (arg22 : BitVec 32) (v740 : BitVec 32) (k0_hw10 : k0_chk10 v1 k0_t3 arg21 arg22 v740), ∀ (k0_h4 : k0_cond4 v1 k0_t3 = 1#1), (Rect.unitDyn (s := S4x512x2048) (k0_off34 v1 k0_t3 arg22 v740).1 (k0_off34 v1 k0_t3 arg22 v740).2 (k0_off34_inb v1 k0_t3 arg21 arg22 v740 k0_hw10 k0_h4)).WholeWords (EltTy.packing .fp8e4m3) := fun v1 k0_t3 arg21 arg22 v740 k0_hw10 k0_h4 => k0_hw10.2.2.2.2.2.2 k0_h4 (k0_off34_inb v1 k0_t3 arg21 arg22 v740 k0_hw10 k0_h4)

def k0_off36 (arg21 : BitVec 32) : Fin 1 → Nat :=
  let v460 : Index := Scalar.indexCast arg21
  ![v460.toNat]

def k0_chk9 (v1 : BitVec 32) (k0_t3 : Fin (k0_t3_loop v1).trips) (arg21 : BitVec 32) : Prop :=
  (∀ (k0_h4 : k0_cond4 v1 k0_t3 = 1#1), ∀ a, (k0_off32 arg21) a + S1.size a ≤ S16.size a) ∧
  (∀ a, (k0_off36 arg21) a + S1.size a ≤ S16.size a)
theorem k0_off32_inb : ∀ (v1 : BitVec 32) (k0_t3 : Fin (k0_t3_loop v1).trips) (arg21 : BitVec 32) (k0_hw9 : k0_chk9 v1 k0_t3 arg21), ∀ (k0_h4 : k0_cond4 v1 k0_t3 = 1#1), ∀ a, (k0_off32 arg21) a + S1.size a ≤ S16.size a := fun v1 k0_t3 arg21 k0_hw9 k0_h4 => k0_hw9.1 k0_h4
theorem k0_off36_inb : ∀ (v1 : BitVec 32) (k0_t3 : Fin (k0_t3_loop v1).trips) (arg21 : BitVec 32) (k0_hw9 : k0_chk9 v1 k0_t3 arg21), ∀ a, (k0_off36 arg21) a + S1.size a ≤ S16.size a := fun v1 k0_t3 arg21 k0_hw9 => k0_hw9.2

def k0_off37 (arg23 : BitVec 32) (arg24 : BitVec 32) (v444 : BitVec 32) : Fin 1 → Nat :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let v740 : Index := Scalar.indexCast v451
  ![v740.toNat]
def k0_cond5 (v1 : BitVec 32) (k0_t3 : Fin (k0_t3_loop v1).trips) : BitVec 1 :=
  let c0_i32_198 : BitVec 32 := 0#32
  let c1_i32_202 : BitVec 32 := 1#32
  let arg20 : BitVec 32 := Scf.iv c0_i32_198 c1_i32_202 k0_t3
  let c1_i32_223 : BitVec 32 := 1#32
  let v471 : BitVec 32 := Scalar.addi arg20 c1_i32_223
  let v472 : BitVec 1 := Scalar.cmpi .slt v471 v1
  let v473 : BitVec 32 := Scalar.extui v472
  let c0_i32_224 : BitVec 32 := 0#32
  let v474 : BitVec 1 := Scalar.cmpi .ne v473 c0_i32_224
  v474

def k0_mult11 (v1 : BitVec 32) (k0_t3 : Fin (k0_t3_loop v1).trips) (arg24 : BitVec 32) (v444 : BitVec 32) (v741 : BitVec 32) : BitVec 32 :=
  let c0_i32_198 : BitVec 32 := 0#32
  let c1_i32_202 : BitVec 32 := 1#32
  let arg20 : BitVec 32 := Scf.iv c0_i32_198 c1_i32_202 k0_t3
  let c1_i32_356 : BitVec 32 := 1#32
  let v738 : BitVec 32 := Scalar.addi arg20 c1_i32_356
  let c4_i32_364 : BitVec 32 := 4#32
  let v749 : BitVec 1 := Scalar.cmpi .slt v738 c4_i32_364
  let c2048_i32_365 : BitVec 32 := 2048#32
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c0_i32_211 : BitVec 32 := 0#32
  let c1_i32_210 : BitVec 32 := 1#32
  let v452 : BitVec 32 := Scalar.addi arg24 c1_i32_210
  let v453 : BitVec 32 := Scalar.select v448 c0_i32_211 v452
  let c2048_i32_358 : BitVec 32 := 2048#32
  let v742 : BitVec 32 := Scalar.muli v453 c2048_i32_358
  let v743 : BitVec 32 := Scalar.subi v741 v742
  let c2048_i32_359 : BitVec 32 := 2048#32
  let v744 : BitVec 32 := Scalar.minsi v743 c2048_i32_359
  let c127_i32_360 : BitVec 32 := 127#32
  let v745 : BitVec 32 := Scalar.addi v744 c127_i32_360
  let c128_i32_361 : BitVec 32 := 128#32
  let v746 : BitVec 32 := Scalar.divsi v745 c128_i32_361
  let c1_i32_362 : BitVec 32 := 1#32
  let v747 : BitVec 32 := Scalar.maxsi v746 c1_i32_362
  let c128_i32_363 : BitVec 32 := 128#32
  let v748 : BitVec 32 := Scalar.muli v747 c128_i32_363
  let v750 : BitVec 32 := Scalar.select v749 c2048_i32_365 v748
  v750

def k0_mult12 (arg24 : BitVec 32) (v444 : BitVec 32) : BitVec 32 :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c0_i32_211 : BitVec 32 := 0#32
  let c1_i32_210 : BitVec 32 := 1#32
  let v452 : BitVec 32 := Scalar.addi arg24 c1_i32_210
  let v453 : BitVec 32 := Scalar.select v448 c0_i32_211 v452
  let c2048_i32_366 : BitVec 32 := 2048#32
  let v752 : BitVec 32 := Scalar.muli v453 c2048_i32_366
  v752
def k0_off38 (v1 : BitVec 32) (k0_t3 : Fin (k0_t3_loop v1).trips) : Fin 1 → Nat :=
  let c0_i32_198 : BitVec 32 := 0#32
  let c1_i32_202 : BitVec 32 := 1#32
  let arg20 : BitVec 32 := Scf.iv c0_i32_198 c1_i32_202 k0_t3
  let c1_i32_356 : BitVec 32 := 1#32
  let v738 : BitVec 32 := Scalar.addi arg20 c1_i32_356
  let c4_i32_357 : BitVec 32 := 4#32
  let v739 : BitVec 32 := Scalar.remsi v738 c4_i32_357
  ![v739.toNat]
def k0_off39 (v1 : BitVec 32) (k0_t3 : Fin (k0_t3_loop v1).trips) (arg24 : BitVec 32) (v444 : BitVec 32) (v741 : BitVec 32) : (Fin 3 → Nat) × (Fin 3 → Nat) :=
  let c0_i32_198 : BitVec 32 := 0#32
  let c1_i32_202 : BitVec 32 := 1#32
  let arg20 : BitVec 32 := Scf.iv c0_i32_198 c1_i32_202 k0_t3
  let c1_i32_356 : BitVec 32 := 1#32
  let v738 : BitVec 32 := Scalar.addi arg20 c1_i32_356
  let c4_i32_357 : BitVec 32 := 4#32
  let v739 : BitVec 32 := Scalar.remsi v738 c4_i32_357
  let c0_i32_367 : BitVec 32 := 0#32
  let c0_i32_368 : BitVec 32 := 0#32
  let c4_i32_364 : BitVec 32 := 4#32
  let v749 : BitVec 1 := Scalar.cmpi .slt v738 c4_i32_364
  let c2048_i32_365 : BitVec 32 := 2048#32
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c0_i32_211 : BitVec 32 := 0#32
  let c1_i32_210 : BitVec 32 := 1#32
  let v452 : BitVec 32 := Scalar.addi arg24 c1_i32_210
  let v453 : BitVec 32 := Scalar.select v448 c0_i32_211 v452
  let c2048_i32_358 : BitVec 32 := 2048#32
  let v742 : BitVec 32 := Scalar.muli v453 c2048_i32_358
  let v743 : BitVec 32 := Scalar.subi v741 v742
  let c2048_i32_359 : BitVec 32 := 2048#32
  let v744 : BitVec 32 := Scalar.minsi v743 c2048_i32_359
  let c127_i32_360 : BitVec 32 := 127#32
  let v745 : BitVec 32 := Scalar.addi v744 c127_i32_360
  let c128_i32_361 : BitVec 32 := 128#32
  let v746 : BitVec 32 := Scalar.divsi v745 c128_i32_361
  let c1_i32_362 : BitVec 32 := 1#32
  let v747 : BitVec 32 := Scalar.maxsi v746 c1_i32_362
  let c128_i32_363 : BitVec 32 := 128#32
  let v748 : BitVec 32 := Scalar.muli v747 c128_i32_363
  let v750 : BitVec 32 := Scalar.select v749 c2048_i32_365 v748
  let v751 : BitVec 32 := v750
  ⟨![v739.toNat, 0, 0], ![1, 512, v751.toNat]⟩

def k0_sz11 (v1 : BitVec 32) (k0_t3 : Fin (k0_t3_loop v1).trips) (arg24 : BitVec 32) (v444 : BitVec 32) (v741 : BitVec 32) : Fin 2 → Nat :=
  let c0_i32_198 : BitVec 32 := 0#32
  let c1_i32_202 : BitVec 32 := 1#32
  let arg20 : BitVec 32 := Scf.iv c0_i32_198 c1_i32_202 k0_t3
  let c1_i32_356 : BitVec 32 := 1#32
  let v738 : BitVec 32 := Scalar.addi arg20 c1_i32_356
  let c4_i32_364 : BitVec 32 := 4#32
  let v749 : BitVec 1 := Scalar.cmpi .slt v738 c4_i32_364
  let c2048_i32_365 : BitVec 32 := 2048#32
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c0_i32_211 : BitVec 32 := 0#32
  let c1_i32_210 : BitVec 32 := 1#32
  let v452 : BitVec 32 := Scalar.addi arg24 c1_i32_210
  let v453 : BitVec 32 := Scalar.select v448 c0_i32_211 v452
  let c2048_i32_358 : BitVec 32 := 2048#32
  let v742 : BitVec 32 := Scalar.muli v453 c2048_i32_358
  let v743 : BitVec 32 := Scalar.subi v741 v742
  let c2048_i32_359 : BitVec 32 := 2048#32
  let v744 : BitVec 32 := Scalar.minsi v743 c2048_i32_359
  let c127_i32_360 : BitVec 32 := 127#32
  let v745 : BitVec 32 := Scalar.addi v744 c127_i32_360
  let c128_i32_361 : BitVec 32 := 128#32
  let v746 : BitVec 32 := Scalar.divsi v745 c128_i32_361
  let c1_i32_362 : BitVec 32 := 1#32
  let v747 : BitVec 32 := Scalar.maxsi v746 c1_i32_362
  let c128_i32_363 : BitVec 32 := 128#32
  let v748 : BitVec 32 := Scalar.muli v747 c128_i32_363
  let v750 : BitVec 32 := Scalar.select v749 c2048_i32_365 v748
  let v751 : BitVec 32 := v750
  ![512, v751.toNat]
def k0_off40 (v1 : BitVec 32) (k0_t3 : Fin (k0_t3_loop v1).trips) (arg23 : BitVec 32) (arg24 : BitVec 32) (v444 : BitVec 32) (v741 : BitVec 32) : (Fin 3 → Nat) × (Fin 3 → Nat) :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let c0_i32_369 : BitVec 32 := 0#32
  let c0_i32_211 : BitVec 32 := 0#32
  let c1_i32_210 : BitVec 32 := 1#32
  let v452 : BitVec 32 := Scalar.addi arg24 c1_i32_210
  let v453 : BitVec 32 := Scalar.select v448 c0_i32_211 v452
  let c2048_i32_366 : BitVec 32 := 2048#32
  let v752 : BitVec 32 := Scalar.muli v453 c2048_i32_366
  let v753 : BitVec 32 := v752
  let c0_i32_198 : BitVec 32 := 0#32
  let c1_i32_202 : BitVec 32 := 1#32
  let arg20 : BitVec 32 := Scf.iv c0_i32_198 c1_i32_202 k0_t3
  let c1_i32_356 : BitVec 32 := 1#32
  let v738 : BitVec 32 := Scalar.addi arg20 c1_i32_356
  let c4_i32_364 : BitVec 32 := 4#32
  let v749 : BitVec 1 := Scalar.cmpi .slt v738 c4_i32_364
  let c2048_i32_365 : BitVec 32 := 2048#32
  let c2048_i32_358 : BitVec 32 := 2048#32
  let v742 : BitVec 32 := Scalar.muli v453 c2048_i32_358
  let v743 : BitVec 32 := Scalar.subi v741 v742
  let c2048_i32_359 : BitVec 32 := 2048#32
  let v744 : BitVec 32 := Scalar.minsi v743 c2048_i32_359
  let c127_i32_360 : BitVec 32 := 127#32
  let v745 : BitVec 32 := Scalar.addi v744 c127_i32_360
  let c128_i32_361 : BitVec 32 := 128#32
  let v746 : BitVec 32 := Scalar.divsi v745 c128_i32_361
  let c1_i32_362 : BitVec 32 := 1#32
  let v747 : BitVec 32 := Scalar.maxsi v746 c1_i32_362
  let c128_i32_363 : BitVec 32 := 128#32
  let v748 : BitVec 32 := Scalar.muli v747 c128_i32_363
  let v750 : BitVec 32 := Scalar.select v749 c2048_i32_365 v748
  let v751 : BitVec 32 := v750
  ⟨![v451.toNat, 0, v753.toNat], ![1, 512, v751.toNat]⟩

def k0_sz12 (v1 : BitVec 32) (k0_t3 : Fin (k0_t3_loop v1).trips) (arg24 : BitVec 32) (v444 : BitVec 32) (v741 : BitVec 32) : Fin 2 → Nat :=
  let c0_i32_198 : BitVec 32 := 0#32
  let c1_i32_202 : BitVec 32 := 1#32
  let arg20 : BitVec 32 := Scf.iv c0_i32_198 c1_i32_202 k0_t3
  let c1_i32_356 : BitVec 32 := 1#32
  let v738 : BitVec 32 := Scalar.addi arg20 c1_i32_356
  let c4_i32_364 : BitVec 32 := 4#32
  let v749 : BitVec 1 := Scalar.cmpi .slt v738 c4_i32_364
  let c2048_i32_365 : BitVec 32 := 2048#32
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c0_i32_211 : BitVec 32 := 0#32
  let c1_i32_210 : BitVec 32 := 1#32
  let v452 : BitVec 32 := Scalar.addi arg24 c1_i32_210
  let v453 : BitVec 32 := Scalar.select v448 c0_i32_211 v452
  let c2048_i32_358 : BitVec 32 := 2048#32
  let v742 : BitVec 32 := Scalar.muli v453 c2048_i32_358
  let v743 : BitVec 32 := Scalar.subi v741 v742
  let c2048_i32_359 : BitVec 32 := 2048#32
  let v744 : BitVec 32 := Scalar.minsi v743 c2048_i32_359
  let c127_i32_360 : BitVec 32 := 127#32
  let v745 : BitVec 32 := Scalar.addi v744 c127_i32_360
  let c128_i32_361 : BitVec 32 := 128#32
  let v746 : BitVec 32 := Scalar.divsi v745 c128_i32_361
  let c1_i32_362 : BitVec 32 := 1#32
  let v747 : BitVec 32 := Scalar.maxsi v746 c1_i32_362
  let c128_i32_363 : BitVec 32 := 128#32
  let v748 : BitVec 32 := Scalar.muli v747 c128_i32_363
  let v750 : BitVec 32 := Scalar.select v749 c2048_i32_365 v748
  let v751 : BitVec 32 := v750
  ![512, v751.toNat]

def k0_chk13 (v1 : BitVec 32) (k0_t3 : Fin (k0_t3_loop v1).trips) (arg23 : BitVec 32) (arg24 : BitVec 32) (v444 : BitVec 32) (v741 : BitVec 32) : Prop :=
  (∀ (k0_h5 : k0_cond5 v1 k0_t3 = 1#1), 128 ∣ (k0_mult11 v1 k0_t3 arg24 v444 v741).toNat) ∧
  (∀ (k0_h5 : k0_cond5 v1 k0_t3 = 1#1), (⟨3, (k0_off39 v1 k0_t3 arg24 v444 v741).2⟩ : Shape).Squeezes ⟨2, k0_sz11 v1 k0_t3 arg24 v444 v741⟩) ∧
  (∀ (k0_h5 : k0_cond5 v1 k0_t3 = 1#1), (⟨3, (k0_off40 v1 k0_t3 arg23 arg24 v444 v741).2⟩ : Shape).Squeezes ⟨2, k0_sz12 v1 k0_t3 arg24 v444 v741⟩)
theorem k0_mult11_dvd : ∀ (v1 : BitVec 32) (k0_t3 : Fin (k0_t3_loop v1).trips) (arg23 : BitVec 32) (arg24 : BitVec 32) (v444 : BitVec 32) (v741 : BitVec 32) (k0_hw13 : k0_chk13 v1 k0_t3 arg23 arg24 v444 v741), ∀ (k0_h5 : k0_cond5 v1 k0_t3 = 1#1), 128 ∣ (k0_mult11 v1 k0_t3 arg24 v444 v741).toNat := fun v1 k0_t3 arg23 arg24 v444 v741 k0_hw13 k0_h5 => k0_hw13.1 k0_h5
theorem k0_sz11_squeezes : ∀ (v1 : BitVec 32) (k0_t3 : Fin (k0_t3_loop v1).trips) (arg23 : BitVec 32) (arg24 : BitVec 32) (v444 : BitVec 32) (v741 : BitVec 32) (k0_hw13 : k0_chk13 v1 k0_t3 arg23 arg24 v444 v741), ∀ (k0_h5 : k0_cond5 v1 k0_t3 = 1#1), (⟨3, (k0_off39 v1 k0_t3 arg24 v444 v741).2⟩ : Shape).Squeezes ⟨2, k0_sz11 v1 k0_t3 arg24 v444 v741⟩ := fun v1 k0_t3 arg23 arg24 v444 v741 k0_hw13 k0_h5 => k0_hw13.2.1 k0_h5
theorem k0_sz12_squeezes : ∀ (v1 : BitVec 32) (k0_t3 : Fin (k0_t3_loop v1).trips) (arg23 : BitVec 32) (arg24 : BitVec 32) (v444 : BitVec 32) (v741 : BitVec 32) (k0_hw13 : k0_chk13 v1 k0_t3 arg23 arg24 v444 v741), ∀ (k0_h5 : k0_cond5 v1 k0_t3 = 1#1), (⟨3, (k0_off40 v1 k0_t3 arg23 arg24 v444 v741).2⟩ : Shape).Squeezes ⟨2, k0_sz12 v1 k0_t3 arg24 v444 v741⟩ := fun v1 k0_t3 arg23 arg24 v444 v741 k0_hw13 k0_h5 => k0_hw13.2.2 k0_h5

def k0_off41 (arg23 : BitVec 32) : Fin 1 → Nat :=
  let v476 : Index := Scalar.indexCast arg23
  ![v476.toNat]
def k0_mult13 (v1 : BitVec 32) (k0_t3 : Fin (k0_t3_loop v1).trips) (arg24 : BitVec 32) (v477 : BitVec 32) : BitVec 32 :=
  let c0_i32_198 : BitVec 32 := 0#32
  let c1_i32_202 : BitVec 32 := 1#32
  let arg20 : BitVec 32 := Scf.iv c0_i32_198 c1_i32_202 k0_t3
  let c4_i32_232 : BitVec 32 := 4#32
  let v485 : BitVec 1 := Scalar.cmpi .slt arg20 c4_i32_232
  let c2048_i32_233 : BitVec 32 := 2048#32
  let c2048_i32_226 : BitVec 32 := 2048#32
  let v478 : BitVec 32 := Scalar.muli arg24 c2048_i32_226
  let v479 : BitVec 32 := Scalar.subi v477 v478
  let c2048_i32_227 : BitVec 32 := 2048#32
  let v480 : BitVec 32 := Scalar.minsi v479 c2048_i32_227
  let c127_i32_228 : BitVec 32 := 127#32
  let v481 : BitVec 32 := Scalar.addi v480 c127_i32_228
  let c128_i32_229 : BitVec 32 := 128#32
  let v482 : BitVec 32 := Scalar.divsi v481 c128_i32_229
  let c1_i32_230 : BitVec 32 := 1#32
  let v483 : BitVec 32 := Scalar.maxsi v482 c1_i32_230
  let c128_i32_231 : BitVec 32 := 128#32
  let v484 : BitVec 32 := Scalar.muli v483 c128_i32_231
  let v486 : BitVec 32 := Scalar.select v485 c2048_i32_233 v484
  v486

def k0_mult14 (arg24 : BitVec 32) : BitVec 32 :=
  let c2048_i32_234 : BitVec 32 := 2048#32
  let v488 : BitVec 32 := Scalar.muli arg24 c2048_i32_234
  v488

def k0_chk15 (arg24 : BitVec 32) : Prop :=
  (2048 ∣ (k0_mult14 arg24).toNat)
theorem k0_mult14_dvd : ∀ (arg24 : BitVec 32) (k0_hw15 : k0_chk15 arg24), 2048 ∣ (k0_mult14 arg24).toNat := fun arg24 k0_hw15 => k0_hw15

def k0_off42 (v1 : BitVec 32) (k0_t3 : Fin (k0_t3_loop v1).trips) : Fin 1 → Nat :=
  let c0_i32_198 : BitVec 32 := 0#32
  let c1_i32_202 : BitVec 32 := 1#32
  let arg20 : BitVec 32 := Scf.iv c0_i32_198 c1_i32_202 k0_t3
  let c4_i32_225 : BitVec 32 := 4#32
  let v475 : BitVec 32 := Scalar.remsi arg20 c4_i32_225
  ![v475.toNat]
def k0_off43 (v1 : BitVec 32) (k0_t3 : Fin (k0_t3_loop v1).trips) (arg24 : BitVec 32) (v477 : BitVec 32) : (Fin 3 → Nat) × (Fin 3 → Nat) :=
  let c0_i32_198 : BitVec 32 := 0#32
  let c1_i32_202 : BitVec 32 := 1#32
  let arg20 : BitVec 32 := Scf.iv c0_i32_198 c1_i32_202 k0_t3
  let c4_i32_225 : BitVec 32 := 4#32
  let v475 : BitVec 32 := Scalar.remsi arg20 c4_i32_225
  let c0_i32_235 : BitVec 32 := 0#32
  let c0_i32_236 : BitVec 32 := 0#32
  let c4_i32_232 : BitVec 32 := 4#32
  let v485 : BitVec 1 := Scalar.cmpi .slt arg20 c4_i32_232
  let c2048_i32_233 : BitVec 32 := 2048#32
  let c2048_i32_226 : BitVec 32 := 2048#32
  let v478 : BitVec 32 := Scalar.muli arg24 c2048_i32_226
  let v479 : BitVec 32 := Scalar.subi v477 v478
  let c2048_i32_227 : BitVec 32 := 2048#32
  let v480 : BitVec 32 := Scalar.minsi v479 c2048_i32_227
  let c127_i32_228 : BitVec 32 := 127#32
  let v481 : BitVec 32 := Scalar.addi v480 c127_i32_228
  let c128_i32_229 : BitVec 32 := 128#32
  let v482 : BitVec 32 := Scalar.divsi v481 c128_i32_229
  let c1_i32_230 : BitVec 32 := 1#32
  let v483 : BitVec 32 := Scalar.maxsi v482 c1_i32_230
  let c128_i32_231 : BitVec 32 := 128#32
  let v484 : BitVec 32 := Scalar.muli v483 c128_i32_231
  let v486 : BitVec 32 := Scalar.select v485 c2048_i32_233 v484
  let v487 : BitVec 32 := v486
  ⟨![v475.toNat, 0, 0], ![1, 512, v487.toNat]⟩

def k0_sz13 (v1 : BitVec 32) (k0_t3 : Fin (k0_t3_loop v1).trips) (arg24 : BitVec 32) (v477 : BitVec 32) : Fin 2 → Nat :=
  let c0_i32_198 : BitVec 32 := 0#32
  let c1_i32_202 : BitVec 32 := 1#32
  let arg20 : BitVec 32 := Scf.iv c0_i32_198 c1_i32_202 k0_t3
  let c4_i32_232 : BitVec 32 := 4#32
  let v485 : BitVec 1 := Scalar.cmpi .slt arg20 c4_i32_232
  let c2048_i32_233 : BitVec 32 := 2048#32
  let c2048_i32_226 : BitVec 32 := 2048#32
  let v478 : BitVec 32 := Scalar.muli arg24 c2048_i32_226
  let v479 : BitVec 32 := Scalar.subi v477 v478
  let c2048_i32_227 : BitVec 32 := 2048#32
  let v480 : BitVec 32 := Scalar.minsi v479 c2048_i32_227
  let c127_i32_228 : BitVec 32 := 127#32
  let v481 : BitVec 32 := Scalar.addi v480 c127_i32_228
  let c128_i32_229 : BitVec 32 := 128#32
  let v482 : BitVec 32 := Scalar.divsi v481 c128_i32_229
  let c1_i32_230 : BitVec 32 := 1#32
  let v483 : BitVec 32 := Scalar.maxsi v482 c1_i32_230
  let c128_i32_231 : BitVec 32 := 128#32
  let v484 : BitVec 32 := Scalar.muli v483 c128_i32_231
  let v486 : BitVec 32 := Scalar.select v485 c2048_i32_233 v484
  let v487 : BitVec 32 := v486
  ![512, v487.toNat]
def k0_off44 (v1 : BitVec 32) (k0_t3 : Fin (k0_t3_loop v1).trips) (arg23 : BitVec 32) (arg24 : BitVec 32) (v477 : BitVec 32) : (Fin 3 → Nat) × (Fin 3 → Nat) :=
  let c0_i32_237 : BitVec 32 := 0#32
  let c2048_i32_234 : BitVec 32 := 2048#32
  let v488 : BitVec 32 := Scalar.muli arg24 c2048_i32_234
  let v489 : BitVec 32 := v488
  let c0_i32_198 : BitVec 32 := 0#32
  let c1_i32_202 : BitVec 32 := 1#32
  let arg20 : BitVec 32 := Scf.iv c0_i32_198 c1_i32_202 k0_t3
  let c4_i32_232 : BitVec 32 := 4#32
  let v485 : BitVec 1 := Scalar.cmpi .slt arg20 c4_i32_232
  let c2048_i32_233 : BitVec 32 := 2048#32
  let c2048_i32_226 : BitVec 32 := 2048#32
  let v478 : BitVec 32 := Scalar.muli arg24 c2048_i32_226
  let v479 : BitVec 32 := Scalar.subi v477 v478
  let c2048_i32_227 : BitVec 32 := 2048#32
  let v480 : BitVec 32 := Scalar.minsi v479 c2048_i32_227
  let c127_i32_228 : BitVec 32 := 127#32
  let v481 : BitVec 32 := Scalar.addi v480 c127_i32_228
  let c128_i32_229 : BitVec 32 := 128#32
  let v482 : BitVec 32 := Scalar.divsi v481 c128_i32_229
  let c1_i32_230 : BitVec 32 := 1#32
  let v483 : BitVec 32 := Scalar.maxsi v482 c1_i32_230
  let c128_i32_231 : BitVec 32 := 128#32
  let v484 : BitVec 32 := Scalar.muli v483 c128_i32_231
  let v486 : BitVec 32 := Scalar.select v485 c2048_i32_233 v484
  let v487 : BitVec 32 := v486
  ⟨![arg23.toNat, 0, v489.toNat], ![1, 512, v487.toNat]⟩

def k0_sz14 (v1 : BitVec 32) (k0_t3 : Fin (k0_t3_loop v1).trips) (arg24 : BitVec 32) (v477 : BitVec 32) : Fin 2 → Nat :=
  let c0_i32_198 : BitVec 32 := 0#32
  let c1_i32_202 : BitVec 32 := 1#32
  let arg20 : BitVec 32 := Scf.iv c0_i32_198 c1_i32_202 k0_t3
  let c4_i32_232 : BitVec 32 := 4#32
  let v485 : BitVec 1 := Scalar.cmpi .slt arg20 c4_i32_232
  let c2048_i32_233 : BitVec 32 := 2048#32
  let c2048_i32_226 : BitVec 32 := 2048#32
  let v478 : BitVec 32 := Scalar.muli arg24 c2048_i32_226
  let v479 : BitVec 32 := Scalar.subi v477 v478
  let c2048_i32_227 : BitVec 32 := 2048#32
  let v480 : BitVec 32 := Scalar.minsi v479 c2048_i32_227
  let c127_i32_228 : BitVec 32 := 127#32
  let v481 : BitVec 32 := Scalar.addi v480 c127_i32_228
  let c128_i32_229 : BitVec 32 := 128#32
  let v482 : BitVec 32 := Scalar.divsi v481 c128_i32_229
  let c1_i32_230 : BitVec 32 := 1#32
  let v483 : BitVec 32 := Scalar.maxsi v482 c1_i32_230
  let c128_i32_231 : BitVec 32 := 128#32
  let v484 : BitVec 32 := Scalar.muli v483 c128_i32_231
  let v486 : BitVec 32 := Scalar.select v485 c2048_i32_233 v484
  let v487 : BitVec 32 := v486
  ![512, v487.toNat]

def k0_chk14 (v1 : BitVec 32) (k0_t3 : Fin (k0_t3_loop v1).trips) (arg23 : BitVec 32) (arg24 : BitVec 32) (v477 : BitVec 32) : Prop :=
  (128 ∣ (k0_mult13 v1 k0_t3 arg24 v477).toNat) ∧
  ((⟨3, (k0_off43 v1 k0_t3 arg24 v477).2⟩ : Shape).Squeezes ⟨2, k0_sz13 v1 k0_t3 arg24 v477⟩) ∧
  ((⟨3, (k0_off44 v1 k0_t3 arg23 arg24 v477).2⟩ : Shape).Squeezes ⟨2, k0_sz14 v1 k0_t3 arg24 v477⟩)
theorem k0_mult13_dvd : ∀ (v1 : BitVec 32) (k0_t3 : Fin (k0_t3_loop v1).trips) (arg23 : BitVec 32) (arg24 : BitVec 32) (v477 : BitVec 32) (k0_hw14 : k0_chk14 v1 k0_t3 arg23 arg24 v477), 128 ∣ (k0_mult13 v1 k0_t3 arg24 v477).toNat := fun v1 k0_t3 arg23 arg24 v477 k0_hw14 => k0_hw14.1
theorem k0_sz13_squeezes : ∀ (v1 : BitVec 32) (k0_t3 : Fin (k0_t3_loop v1).trips) (arg23 : BitVec 32) (arg24 : BitVec 32) (v477 : BitVec 32) (k0_hw14 : k0_chk14 v1 k0_t3 arg23 arg24 v477), (⟨3, (k0_off43 v1 k0_t3 arg24 v477).2⟩ : Shape).Squeezes ⟨2, k0_sz13 v1 k0_t3 arg24 v477⟩ := fun v1 k0_t3 arg23 arg24 v477 k0_hw14 => k0_hw14.2.1
theorem k0_sz14_squeezes : ∀ (v1 : BitVec 32) (k0_t3 : Fin (k0_t3_loop v1).trips) (arg23 : BitVec 32) (arg24 : BitVec 32) (v477 : BitVec 32) (k0_hw14 : k0_chk14 v1 k0_t3 arg23 arg24 v477), (⟨3, (k0_off44 v1 k0_t3 arg23 arg24 v477).2⟩ : Shape).Squeezes ⟨2, k0_sz14 v1 k0_t3 arg24 v477⟩ := fun v1 k0_t3 arg23 arg24 v477 k0_hw14 => k0_hw14.2.2

def k0_off45 (arg23 : BitVec 32) (arg24 : BitVec 32) (v444 : BitVec 32) : Fin 1 → Nat :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let v500 : Index := Scalar.indexCast v451
  ![v500.toNat]
def k0_off46 (v1 : BitVec 32) (k0_t3 : Fin (k0_t3_loop v1).trips) : Fin 3 → Nat :=
  let c0_i32_198 : BitVec 32 := 0#32
  let c1_i32_202 : BitVec 32 := 1#32
  let arg20 : BitVec 32 := Scf.iv c0_i32_198 c1_i32_202 k0_t3
  let c1_i32_238 : BitVec 32 := 1#32
  let v496 : BitVec 32 := Scalar.addi arg20 c1_i32_238
  let c4_i32_239 : BitVec 32 := 4#32
  let v497 : BitVec 32 := Scalar.remsi v496 c4_i32_239
  let v507 : Index := Scalar.indexCast v497
  let c0_243 : Index := 0#32
  let c0_244 : Index := 0#32
  ![v507.toNat, 0, 0]
def k0_off47 (arg23 : BitVec 32) (arg24 : BitVec 32) (v444 : BitVec 32) : Fin 4 → Nat :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let v510 : Index := Scalar.indexCast v451
  let c0_245 : Index := 0#32
  let c0_246 : Index := 0#32
  let c0_247 : Index := 0#32
  ![v510.toNat, 0, 0, 0]
def k0_off48 (v1 : BitVec 32) (k0_t3 : Fin (k0_t3_loop v1).trips) : Fin 4 → Nat :=
  let c0_i32_198 : BitVec 32 := 0#32
  let c1_i32_202 : BitVec 32 := 1#32
  let arg20 : BitVec 32 := Scf.iv c0_i32_198 c1_i32_202 k0_t3
  let c1_i32_238 : BitVec 32 := 1#32
  let v496 : BitVec 32 := Scalar.addi arg20 c1_i32_238
  let c2_i32_240 : BitVec 32 := 2#32
  let v498 : BitVec 32 := Scalar.remsi v496 c2_i32_240
  let v516 : Index := Scalar.indexCast v498
  let c0_250 : Index := 0#32
  let c0_251 : Index := 0#32
  let c0_252 : Index := 0#32
  ![v516.toNat, 0, 0, 0]
def k0_off49 (arg23 : BitVec 32) (arg24 : BitVec 32) (v444 : BitVec 32) : Fin 3 → Nat :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let v521 : Index := Scalar.indexCast v451
  let c0_254 : Index := 0#32
  let c0_255 : Index := 0#32
  ![v521.toNat, 0, 0]
def k0_off50 (v1 : BitVec 32) (k0_t3 : Fin (k0_t3_loop v1).trips) : Fin 4 → Nat :=
  let c1_i32_241 : BitVec 32 := 1#32
  let c0_i32_198 : BitVec 32 := 0#32
  let c1_i32_202 : BitVec 32 := 1#32
  let arg20 : BitVec 32 := Scf.iv c0_i32_198 c1_i32_202 k0_t3
  let c1_i32_238 : BitVec 32 := 1#32
  let v496 : BitVec 32 := Scalar.addi arg20 c1_i32_238
  let c2_i32_240 : BitVec 32 := 2#32
  let v498 : BitVec 32 := Scalar.remsi v496 c2_i32_240
  let v499 : BitVec 32 := Scalar.subi c1_i32_241 v498
  let v524 : Index := Scalar.indexCast v499
  let c0_256 : Index := 0#32
  let c0_257 : Index := 0#32
  let c0_258 : Index := 0#32
  ![v524.toNat, 0, 0, 0]
def k0_off51 (v1 : BitVec 32) (k0_t3 : Fin (k0_t3_loop v1).trips) : Fin 4 → Nat :=
  let c0_i32_198 : BitVec 32 := 0#32
  let c1_i32_202 : BitVec 32 := 1#32
  let arg20 : BitVec 32 := Scf.iv c0_i32_198 c1_i32_202 k0_t3
  let c1_i32_238 : BitVec 32 := 1#32
  let v496 : BitVec 32 := Scalar.addi arg20 c1_i32_238
  let c2_i32_240 : BitVec 32 := 2#32
  let v498 : BitVec 32 := Scalar.remsi v496 c2_i32_240
  let v532 : Index := Scalar.indexCast v498
  let c0_260 : Index := 0#32
  let c0_261 : Index := 0#32
  let c0_262 : Index := 0#32
  ![v532.toNat, 0, 0, 0]
def k0_off52 (v1 : BitVec 32) (k0_t3 : Fin (k0_t3_loop v1).trips) : Fin 3 → Nat :=
  let c0_i32_198 : BitVec 32 := 0#32
  let c1_i32_202 : BitVec 32 := 1#32
  let arg20 : BitVec 32 := Scf.iv c0_i32_198 c1_i32_202 k0_t3
  let c1_i32_238 : BitVec 32 := 1#32
  let v496 : BitVec 32 := Scalar.addi arg20 c1_i32_238
  let c4_i32_239 : BitVec 32 := 4#32
  let v497 : BitVec 32 := Scalar.remsi v496 c4_i32_239
  let v544 : Index := Scalar.indexCast v497
  let c256_267 : Index := 256#32
  let c0_268 : Index := 0#32
  ![v544.toNat, 256, 0]
def k0_off53 (arg23 : BitVec 32) (arg24 : BitVec 32) (v444 : BitVec 32) : Fin 4 → Nat :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let v547 : Index := Scalar.indexCast v451
  let c1_269 : Index := 1#32
  let c0_270 : Index := 0#32
  let c0_271 : Index := 0#32
  ![v547.toNat, 1, 0, 0]
def k0_off54 (v1 : BitVec 32) (k0_t3 : Fin (k0_t3_loop v1).trips) : Fin 4 → Nat :=
  let c0_i32_198 : BitVec 32 := 0#32
  let c1_i32_202 : BitVec 32 := 1#32
  let arg20 : BitVec 32 := Scf.iv c0_i32_198 c1_i32_202 k0_t3
  let c1_i32_238 : BitVec 32 := 1#32
  let v496 : BitVec 32 := Scalar.addi arg20 c1_i32_238
  let c2_i32_240 : BitVec 32 := 2#32
  let v498 : BitVec 32 := Scalar.remsi v496 c2_i32_240
  let v553 : Index := Scalar.indexCast v498
  let c1_274 : Index := 1#32
  let c0_275 : Index := 0#32
  let c0_276 : Index := 0#32
  ![v553.toNat, 1, 0, 0]
def k0_off55 (arg23 : BitVec 32) (arg24 : BitVec 32) (v444 : BitVec 32) : Fin 3 → Nat :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let v558 : Index := Scalar.indexCast v451
  let c16_278 : Index := 16#32
  let c0_279 : Index := 0#32
  ![v558.toNat, 16, 0]

def k0_chk12 (v1 : BitVec 32) (k0_t3 : Fin (k0_t3_loop v1).trips) (arg23 : BitVec 32) (arg24 : BitVec 32) (v444 : BitVec 32) : Prop :=
  (∀ (k0_h5 : k0_cond5 v1 k0_t3 = 1#1), ∀ a, (k0_off37 arg23 arg24 v444) a + S1.size a ≤ S16.size a) ∧
  (∀ (k0_h5 : k0_cond5 v1 k0_t3 = 1#1), 2048 ∣ (k0_mult12 arg24 v444).toNat) ∧
  (∀ a, (k0_off45 arg23 arg24 v444) a + S1.size a ≤ S16.size a) ∧
  (∀ a, (k0_off47 arg23 arg24 v444) a + S1x1x16x256.size a ≤ S16x2x16x256.size a) ∧
  (∀ a, (k0_off49 arg23 arg24 v444) a + S1x16x128.size a ≤ S16x32x128.size a) ∧
  (∀ a, (k0_off53 arg23 arg24 v444) a + S1x1x16x256.size a ≤ S16x2x16x256.size a) ∧
  (∀ a, (k0_off55 arg23 arg24 v444) a + S1x16x128.size a ≤ S16x32x128.size a)
theorem k0_off37_inb : ∀ (v1 : BitVec 32) (k0_t3 : Fin (k0_t3_loop v1).trips) (arg23 : BitVec 32) (arg24 : BitVec 32) (v444 : BitVec 32) (k0_hw12 : k0_chk12 v1 k0_t3 arg23 arg24 v444), ∀ (k0_h5 : k0_cond5 v1 k0_t3 = 1#1), ∀ a, (k0_off37 arg23 arg24 v444) a + S1.size a ≤ S16.size a := fun v1 k0_t3 arg23 arg24 v444 k0_hw12 k0_h5 => k0_hw12.1 k0_h5
theorem k0_mult12_dvd : ∀ (v1 : BitVec 32) (k0_t3 : Fin (k0_t3_loop v1).trips) (arg23 : BitVec 32) (arg24 : BitVec 32) (v444 : BitVec 32) (k0_hw12 : k0_chk12 v1 k0_t3 arg23 arg24 v444), ∀ (k0_h5 : k0_cond5 v1 k0_t3 = 1#1), 2048 ∣ (k0_mult12 arg24 v444).toNat := fun v1 k0_t3 arg23 arg24 v444 k0_hw12 k0_h5 => k0_hw12.2.1 k0_h5
theorem k0_off45_inb : ∀ (v1 : BitVec 32) (k0_t3 : Fin (k0_t3_loop v1).trips) (arg23 : BitVec 32) (arg24 : BitVec 32) (v444 : BitVec 32) (k0_hw12 : k0_chk12 v1 k0_t3 arg23 arg24 v444), ∀ a, (k0_off45 arg23 arg24 v444) a + S1.size a ≤ S16.size a := fun v1 k0_t3 arg23 arg24 v444 k0_hw12 => k0_hw12.2.2.1
theorem k0_off47_inb : ∀ (v1 : BitVec 32) (k0_t3 : Fin (k0_t3_loop v1).trips) (arg23 : BitVec 32) (arg24 : BitVec 32) (v444 : BitVec 32) (k0_hw12 : k0_chk12 v1 k0_t3 arg23 arg24 v444), ∀ a, (k0_off47 arg23 arg24 v444) a + S1x1x16x256.size a ≤ S16x2x16x256.size a := fun v1 k0_t3 arg23 arg24 v444 k0_hw12 => k0_hw12.2.2.2.1
theorem k0_off49_inb : ∀ (v1 : BitVec 32) (k0_t3 : Fin (k0_t3_loop v1).trips) (arg23 : BitVec 32) (arg24 : BitVec 32) (v444 : BitVec 32) (k0_hw12 : k0_chk12 v1 k0_t3 arg23 arg24 v444), ∀ a, (k0_off49 arg23 arg24 v444) a + S1x16x128.size a ≤ S16x32x128.size a := fun v1 k0_t3 arg23 arg24 v444 k0_hw12 => k0_hw12.2.2.2.2.1
theorem k0_off53_inb : ∀ (v1 : BitVec 32) (k0_t3 : Fin (k0_t3_loop v1).trips) (arg23 : BitVec 32) (arg24 : BitVec 32) (v444 : BitVec 32) (k0_hw12 : k0_chk12 v1 k0_t3 arg23 arg24 v444), ∀ a, (k0_off53 arg23 arg24 v444) a + S1x1x16x256.size a ≤ S16x2x16x256.size a := fun v1 k0_t3 arg23 arg24 v444 k0_hw12 => k0_hw12.2.2.2.2.2.1
theorem k0_off55_inb : ∀ (v1 : BitVec 32) (k0_t3 : Fin (k0_t3_loop v1).trips) (arg23 : BitVec 32) (arg24 : BitVec 32) (v444 : BitVec 32) (k0_hw12 : k0_chk12 v1 k0_t3 arg23 arg24 v444), ∀ a, (k0_off55 arg23 arg24 v444) a + S1x16x128.size a ≤ S16x32x128.size a := fun v1 k0_t3 arg23 arg24 v444 k0_hw12 => k0_hw12.2.2.2.2.2.2

def k0_off56 (v1 : BitVec 32) (k0_t3 : Fin (k0_t3_loop v1).trips) : Fin 4 → Nat :=
  let c1_i32_241 : BitVec 32 := 1#32
  let c0_i32_198 : BitVec 32 := 0#32
  let c1_i32_202 : BitVec 32 := 1#32
  let arg20 : BitVec 32 := Scf.iv c0_i32_198 c1_i32_202 k0_t3
  let c1_i32_238 : BitVec 32 := 1#32
  let v496 : BitVec 32 := Scalar.addi arg20 c1_i32_238
  let c2_i32_240 : BitVec 32 := 2#32
  let v498 : BitVec 32 := Scalar.remsi v496 c2_i32_240
  let v499 : BitVec 32 := Scalar.subi c1_i32_241 v498
  let v561 : Index := Scalar.indexCast v499
  let c1_280 : Index := 1#32
  let c0_281 : Index := 0#32
  let c0_282 : Index := 0#32
  ![v561.toNat, 1, 0, 0]
def k0_off57 (v1 : BitVec 32) (k0_t3 : Fin (k0_t3_loop v1).trips) : Fin 4 → Nat :=
  let c0_i32_198 : BitVec 32 := 0#32
  let c1_i32_202 : BitVec 32 := 1#32
  let arg20 : BitVec 32 := Scf.iv c0_i32_198 c1_i32_202 k0_t3
  let c1_i32_238 : BitVec 32 := 1#32
  let v496 : BitVec 32 := Scalar.addi arg20 c1_i32_238
  let c2_i32_240 : BitVec 32 := 2#32
  let v498 : BitVec 32 := Scalar.remsi v496 c2_i32_240
  let v569 : Index := Scalar.indexCast v498
  let c1_284 : Index := 1#32
  let c0_285 : Index := 0#32
  let c0_286 : Index := 0#32
  ![v569.toNat, 1, 0, 0]
def k0_off58 (v1 : BitVec 32) (k0_t3 : Fin (k0_t3_loop v1).trips) : Fin 4 → Nat :=
  let c0_i32_198 : BitVec 32 := 0#32
  let c1_i32_202 : BitVec 32 := 1#32
  let arg20 : BitVec 32 := Scf.iv c0_i32_198 c1_i32_202 k0_t3
  let c2_i32_292 : BitVec 32 := 2#32
  let v582 : BitVec 32 := Scalar.remsi arg20 c2_i32_292
  let v583 : Index := Scalar.indexCast v582
  let c0_293 : Index := 0#32
  let c0_294 : Index := 0#32
  let c0_295 : Index := 0#32
  ![v583.toNat, 0, 0, 0]
def k0_off59 (v1 : BitVec 32) (k0_t3 : Fin (k0_t3_loop v1).trips) : Fin 4 → Nat :=
  let c0_i32_198 : BitVec 32 := 0#32
  let c1_i32_202 : BitVec 32 := 1#32
  let arg20 : BitVec 32 := Scf.iv c0_i32_198 c1_i32_202 k0_t3
  let c2_i32_292 : BitVec 32 := 2#32
  let v582 : BitVec 32 := Scalar.remsi arg20 c2_i32_292
  let v589 : Index := Scalar.indexCast v582
  let c0_299 : Index := 0#32
  let c0_300 : Index := 0#32
  let c0_301 : Index := 0#32
  ![v589.toNat, 0, 0, 0]
def k0_off60 (v1 : BitVec 32) (k0_t3 : Fin (k0_t3_loop v1).trips) : Fin 3 → Nat :=
  let c0_i32_198 : BitVec 32 := 0#32
  let c1_i32_202 : BitVec 32 := 1#32
  let arg20 : BitVec 32 := Scf.iv c0_i32_198 c1_i32_202 k0_t3
  let c4_i32_291 : BitVec 32 := 4#32
  let v581 : BitVec 32 := Scalar.remsi arg20 c4_i32_291
  let v639 : Index := Scalar.indexCast v581
  let c0_311 : Index := 0#32
  let c0_312 : Index := 0#32
  ![v639.toNat, 0, 0]
def k0_off61 (v1 : BitVec 32) (k0_t3 : Fin (k0_t3_loop v1).trips) : Fin 4 → Nat :=
  let c0_i32_198 : BitVec 32 := 0#32
  let c1_i32_202 : BitVec 32 := 1#32
  let arg20 : BitVec 32 := Scf.iv c0_i32_198 c1_i32_202 k0_t3
  let c2_i32_292 : BitVec 32 := 2#32
  let v582 : BitVec 32 := Scalar.remsi arg20 c2_i32_292
  let v656 : Index := Scalar.indexCast v582
  let c1_322 : Index := 1#32
  let c0_323 : Index := 0#32
  let c0_324 : Index := 0#32
  ![v656.toNat, 1, 0, 0]
def k0_off62 (v1 : BitVec 32) (k0_t3 : Fin (k0_t3_loop v1).trips) : Fin 4 → Nat :=
  let c0_i32_198 : BitVec 32 := 0#32
  let c1_i32_202 : BitVec 32 := 1#32
  let arg20 : BitVec 32 := Scf.iv c0_i32_198 c1_i32_202 k0_t3
  let c2_i32_292 : BitVec 32 := 2#32
  let v582 : BitVec 32 := Scalar.remsi arg20 c2_i32_292
  let v662 : Index := Scalar.indexCast v582
  let c1_328 : Index := 1#32
  let c0_329 : Index := 0#32
  let c0_330 : Index := 0#32
  ![v662.toNat, 1, 0, 0]
def k0_off63 (v1 : BitVec 32) (k0_t3 : Fin (k0_t3_loop v1).trips) : Fin 3 → Nat :=
  let c0_i32_198 : BitVec 32 := 0#32
  let c1_i32_202 : BitVec 32 := 1#32
  let arg20 : BitVec 32 := Scf.iv c0_i32_198 c1_i32_202 k0_t3
  let c4_i32_291 : BitVec 32 := 4#32
  let v581 : BitVec 32 := Scalar.remsi arg20 c4_i32_291
  let v712 : Index := Scalar.indexCast v581
  let c256_340 : Index := 256#32
  let c0_341 : Index := 0#32
  ![v712.toNat, 256, 0]
def k0_off64 (arg23 : BitVec 32) : Fin 1 → Nat :=
  let v730 : Index := Scalar.indexCast arg23
  ![v730.toNat]

def k0_chk8 (arg23 : BitVec 32) : Prop :=
  (∀ a, (k0_off31 arg23) a + S1.size a ≤ S16.size a) ∧
  (∀ a, (k0_off41 arg23) a + S1.size a ≤ S16.size a) ∧
  (∀ a, (k0_off64 arg23) a + S1.size a ≤ S16.size a)
theorem k0_off31_inb : ∀ (arg23 : BitVec 32) (k0_hw8 : k0_chk8 arg23), ∀ a, (k0_off31 arg23) a + S1.size a ≤ S16.size a := fun arg23 k0_hw8 => k0_hw8.1
theorem k0_off41_inb : ∀ (arg23 : BitVec 32) (k0_hw8 : k0_chk8 arg23), ∀ a, (k0_off41 arg23) a + S1.size a ≤ S16.size a := fun arg23 k0_hw8 => k0_hw8.2.1
theorem k0_off64_inb : ∀ (arg23 : BitVec 32) (k0_hw8 : k0_chk8 arg23), ∀ a, (k0_off64 arg23) a + S1.size a ≤ S16.size a := fun arg23 k0_hw8 => k0_hw8.2.2

def k0_off65 (arg23 : BitVec 32) : Fin 3 → Nat :=
  let v739 : Index := Scalar.indexCast arg23
  let c0_357 : Index := 0#32
  let c0_358 : Index := 0#32
  ![v739.toNat, 0, 0]
def k0_cond6 (arg24 : BitVec 32) (v731 : BitVec 32) : BitVec 1 :=
  let c1_i32_351 : BitVec 32 := 1#32
  let v729 : BitVec 32 := Scalar.addi arg24 c1_i32_351
  let c2047_i32_352 : BitVec 32 := 2047#32
  let v732 : BitVec 32 := Scalar.addi v731 c2047_i32_352
  let c2048_i32_353 : BitVec 32 := 2048#32
  let v733 : BitVec 32 := Scalar.divsi v732 c2048_i32_353
  let c1_i32_354 : BitVec 32 := 1#32
  let v734 : BitVec 32 := Scalar.maxsi v733 c1_i32_354
  let v735 : BitVec 1 := Scalar.cmpi .sge v729 v734
  let v736 : BitVec 32 := Scalar.extui v735
  let c0_i32_355 : BitVec 32 := 0#32
  let v737 : BitVec 1 := Scalar.cmpi .ne v736 c0_i32_355
  v737

def k0_off66 (arg23 : BitVec 32) : Fin 3 → Nat :=
  let v743 : Index := Scalar.indexCast arg23
  let c0_360 : Index := 0#32
  let c0_361 : Index := 0#32
  ![v743.toNat, 0, 0]
def k0_off67 (v1 : BitVec 32) (k0_t3 : Fin (k0_t3_loop v1).trips) : Fin 4 → Nat :=
  let c0_i32_198 : BitVec 32 := 0#32
  let c1_i32_202 : BitVec 32 := 1#32
  let arg20 : BitVec 32 := Scf.iv c0_i32_198 c1_i32_202 k0_t3
  let c2_i32_356 : BitVec 32 := 2#32
  let v738 : BitVec 32 := Scalar.remsi arg20 c2_i32_356
  let v746 : Index := Scalar.indexCast v738
  let c0_362 : Index := 0#32
  let c0_363 : Index := 0#32
  let c0_364 : Index := 0#32
  ![v746.toNat, 0, 0, 0]
def k0_off68 (arg23 : BitVec 32) : Fin 3 → Nat :=
  let v783 : Index := Scalar.indexCast arg23
  let c0_375 : Index := 0#32
  let c0_376 : Index := 0#32
  ![v783.toNat, 0, 0]
def k0_off69 (arg23 : BitVec 32) : Fin 3 → Nat :=
  let v787 : Index := Scalar.indexCast arg23
  let c16_377 : Index := 16#32
  let c0_378 : Index := 0#32
  ![v787.toNat, 16, 0]
def k0_off70 (v1 : BitVec 32) (k0_t3 : Fin (k0_t3_loop v1).trips) : Fin 4 → Nat :=
  let c0_i32_198 : BitVec 32 := 0#32
  let c1_i32_202 : BitVec 32 := 1#32
  let arg20 : BitVec 32 := Scf.iv c0_i32_198 c1_i32_202 k0_t3
  let c2_i32_356 : BitVec 32 := 2#32
  let v738 : BitVec 32 := Scalar.remsi arg20 c2_i32_356
  let v790 : Index := Scalar.indexCast v738
  let c1_379 : Index := 1#32
  let c0_380 : Index := 0#32
  let c0_381 : Index := 0#32
  ![v790.toNat, 1, 0, 0]
def k0_off71 (arg23 : BitVec 32) : Fin 3 → Nat :=
  let v827 : Index := Scalar.indexCast arg23
  let c16_392 : Index := 16#32
  let c0_393 : Index := 0#32
  ![v827.toNat, 16, 0]

def k0_chk16 (v1 : BitVec 32) (k0_t3 : Fin (k0_t3_loop v1).trips) (arg23 : BitVec 32) (arg24 : BitVec 32) (v731 : BitVec 32) : Prop :=
  (∀ (k0_h6 : k0_cond6 arg24 v731 = 1#1), ∀ a, (k0_off65 arg23) a + S1x8x64.size a ≤ S16x8x64.size a) ∧
  (∀ (k0_h6 : k0_cond6 arg24 v731 = 1#1), ∀ a, (k0_off66 arg23) a + S1x16x128.size a ≤ S16x32x128.size a) ∧
  (∀ (k0_h6 : k0_cond6 arg24 v731 = 1#1), ∀ a, (k0_off67 v1 k0_t3) a + S1x1x16x128.size a ≤ S2x2x16x128.size a) ∧
  (∀ (k0_h6 : k0_cond6 arg24 v731 = 1#1), ∀ a, (k0_off68 arg23) a + S1x16x64.size a ≤ S16x32x64.size a) ∧
  (∀ (k0_h6 : k0_cond6 arg24 v731 = 1#1), ∀ (hinb : ∀ a, (k0_off68 arg23) a + S1x16x64.size a ≤ S16x32x64.size a), (Rect.unit (s := S16x32x64) (k0_off68 arg23) S1x16x64.size hinb).PackedRows (EltTy.packing .bf16)) ∧
  (∀ (k0_h6 : k0_cond6 arg24 v731 = 1#1), ∀ a, (k0_off69 arg23) a + S1x16x128.size a ≤ S16x32x128.size a) ∧
  (∀ (k0_h6 : k0_cond6 arg24 v731 = 1#1), ∀ a, (k0_off70 v1 k0_t3) a + S1x1x16x128.size a ≤ S2x2x16x128.size a) ∧
  (∀ (k0_h6 : k0_cond6 arg24 v731 = 1#1), ∀ a, (k0_off71 arg23) a + S1x16x64.size a ≤ S16x32x64.size a) ∧
  (∀ (k0_h6 : k0_cond6 arg24 v731 = 1#1), ∀ (hinb : ∀ a, (k0_off71 arg23) a + S1x16x64.size a ≤ S16x32x64.size a), (Rect.unit (s := S16x32x64) (k0_off71 arg23) S1x16x64.size hinb).PackedRows (EltTy.packing .bf16))
theorem k0_off65_inb : ∀ (v1 : BitVec 32) (k0_t3 : Fin (k0_t3_loop v1).trips) (arg23 : BitVec 32) (arg24 : BitVec 32) (v731 : BitVec 32) (k0_hw16 : k0_chk16 v1 k0_t3 arg23 arg24 v731), ∀ (k0_h6 : k0_cond6 arg24 v731 = 1#1), ∀ a, (k0_off65 arg23) a + S1x8x64.size a ≤ S16x8x64.size a := fun v1 k0_t3 arg23 arg24 v731 k0_hw16 k0_h6 => k0_hw16.1 k0_h6
theorem k0_off66_inb : ∀ (v1 : BitVec 32) (k0_t3 : Fin (k0_t3_loop v1).trips) (arg23 : BitVec 32) (arg24 : BitVec 32) (v731 : BitVec 32) (k0_hw16 : k0_chk16 v1 k0_t3 arg23 arg24 v731), ∀ (k0_h6 : k0_cond6 arg24 v731 = 1#1), ∀ a, (k0_off66 arg23) a + S1x16x128.size a ≤ S16x32x128.size a := fun v1 k0_t3 arg23 arg24 v731 k0_hw16 k0_h6 => k0_hw16.2.1 k0_h6
theorem k0_off67_inb : ∀ (v1 : BitVec 32) (k0_t3 : Fin (k0_t3_loop v1).trips) (arg23 : BitVec 32) (arg24 : BitVec 32) (v731 : BitVec 32) (k0_hw16 : k0_chk16 v1 k0_t3 arg23 arg24 v731), ∀ (k0_h6 : k0_cond6 arg24 v731 = 1#1), ∀ a, (k0_off67 v1 k0_t3) a + S1x1x16x128.size a ≤ S2x2x16x128.size a := fun v1 k0_t3 arg23 arg24 v731 k0_hw16 k0_h6 => k0_hw16.2.2.1 k0_h6
theorem k0_off68_inb : ∀ (v1 : BitVec 32) (k0_t3 : Fin (k0_t3_loop v1).trips) (arg23 : BitVec 32) (arg24 : BitVec 32) (v731 : BitVec 32) (k0_hw16 : k0_chk16 v1 k0_t3 arg23 arg24 v731), ∀ (k0_h6 : k0_cond6 arg24 v731 = 1#1), ∀ a, (k0_off68 arg23) a + S1x16x64.size a ≤ S16x32x64.size a := fun v1 k0_t3 arg23 arg24 v731 k0_hw16 k0_h6 => k0_hw16.2.2.2.1 k0_h6
theorem k0_off68_packedbf16 : ∀ (v1 : BitVec 32) (k0_t3 : Fin (k0_t3_loop v1).trips) (arg23 : BitVec 32) (arg24 : BitVec 32) (v731 : BitVec 32) (k0_hw16 : k0_chk16 v1 k0_t3 arg23 arg24 v731), ∀ (k0_h6 : k0_cond6 arg24 v731 = 1#1), (Rect.unit (s := S16x32x64) (k0_off68 arg23) S1x16x64.size (k0_off68_inb v1 k0_t3 arg23 arg24 v731 k0_hw16 k0_h6)).PackedRows (EltTy.packing .bf16) := fun v1 k0_t3 arg23 arg24 v731 k0_hw16 k0_h6 => k0_hw16.2.2.2.2.1 k0_h6 (k0_off68_inb v1 k0_t3 arg23 arg24 v731 k0_hw16 k0_h6)
theorem k0_off69_inb : ∀ (v1 : BitVec 32) (k0_t3 : Fin (k0_t3_loop v1).trips) (arg23 : BitVec 32) (arg24 : BitVec 32) (v731 : BitVec 32) (k0_hw16 : k0_chk16 v1 k0_t3 arg23 arg24 v731), ∀ (k0_h6 : k0_cond6 arg24 v731 = 1#1), ∀ a, (k0_off69 arg23) a + S1x16x128.size a ≤ S16x32x128.size a := fun v1 k0_t3 arg23 arg24 v731 k0_hw16 k0_h6 => k0_hw16.2.2.2.2.2.1 k0_h6
theorem k0_off70_inb : ∀ (v1 : BitVec 32) (k0_t3 : Fin (k0_t3_loop v1).trips) (arg23 : BitVec 32) (arg24 : BitVec 32) (v731 : BitVec 32) (k0_hw16 : k0_chk16 v1 k0_t3 arg23 arg24 v731), ∀ (k0_h6 : k0_cond6 arg24 v731 = 1#1), ∀ a, (k0_off70 v1 k0_t3) a + S1x1x16x128.size a ≤ S2x2x16x128.size a := fun v1 k0_t3 arg23 arg24 v731 k0_hw16 k0_h6 => k0_hw16.2.2.2.2.2.2.1 k0_h6
theorem k0_off71_inb : ∀ (v1 : BitVec 32) (k0_t3 : Fin (k0_t3_loop v1).trips) (arg23 : BitVec 32) (arg24 : BitVec 32) (v731 : BitVec 32) (k0_hw16 : k0_chk16 v1 k0_t3 arg23 arg24 v731), ∀ (k0_h6 : k0_cond6 arg24 v731 = 1#1), ∀ a, (k0_off71 arg23) a + S1x16x64.size a ≤ S16x32x64.size a := fun v1 k0_t3 arg23 arg24 v731 k0_hw16 k0_h6 => k0_hw16.2.2.2.2.2.2.2.1 k0_h6
theorem k0_off71_packedbf16 : ∀ (v1 : BitVec 32) (k0_t3 : Fin (k0_t3_loop v1).trips) (arg23 : BitVec 32) (arg24 : BitVec 32) (v731 : BitVec 32) (k0_hw16 : k0_chk16 v1 k0_t3 arg23 arg24 v731), ∀ (k0_h6 : k0_cond6 arg24 v731 = 1#1), (Rect.unit (s := S16x32x64) (k0_off71 arg23) S1x16x64.size (k0_off71_inb v1 k0_t3 arg23 arg24 v731 k0_hw16 k0_h6)).PackedRows (EltTy.packing .bf16) := fun v1 k0_t3 arg23 arg24 v731 k0_hw16 k0_h6 => k0_hw16.2.2.2.2.2.2.2.2 k0_h6 (k0_off71_inb v1 k0_t3 arg23 arg24 v731 k0_hw16 k0_h6)

@[reducible] def k0_t4_loop (v1 : BitVec 32) : Scf.Loop 32 :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let v436 : BitVec 32 := Scalar.addi c0_i32_198 v435
  let c1_i32_203 : BitVec 32 := 1#32
  ⟨v439, v436, c1_i32_203⟩
def k0_off72 (arg23 : BitVec 32) : Fin 1 → Nat :=
  let v443 : Index := Scalar.indexCast arg23
  ![v443.toNat]

def k0_off73 (arg21 : BitVec 32) : Fin 1 → Nat :=
  let v739 : Index := Scalar.indexCast arg21
  ![v739.toNat]
def k0_cond7 (v1 : BitVec 32) (k0_t4 : Fin (k0_t4_loop v1).trips) : BitVec 1 :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_212 : BitVec 32 := 4#32
  let v454 : BitVec 32 := Scalar.addi arg20 c4_i32_212
  let c1_i32_213 : BitVec 32 := 1#32
  let v455 : BitVec 32 := Scalar.subi v454 c1_i32_213
  let v456 : BitVec 1 := Scalar.cmpi .slt v455 v1
  let v457 : BitVec 32 := Scalar.extui v456
  let c0_i32_214 : BitVec 32 := 0#32
  let v458 : BitVec 1 := Scalar.cmpi .ne v457 c0_i32_214
  v458

def k0_mult15 (v1 : BitVec 32) (k0_t4 : Fin (k0_t4_loop v1).trips) (arg22 : BitVec 32) (v740 : BitVec 32) : BitVec 32 :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_212 : BitVec 32 := 4#32
  let v454 : BitVec 32 := Scalar.addi arg20 c4_i32_212
  let c1_i32_213 : BitVec 32 := 1#32
  let v455 : BitVec 32 := Scalar.subi v454 c1_i32_213
  let c4_i32_363 : BitVec 32 := 4#32
  let v748 : BitVec 1 := Scalar.cmpi .slt v455 c4_i32_363
  let c2048_i32_364 : BitVec 32 := 2048#32
  let c2048_i32_357 : BitVec 32 := 2048#32
  let v741 : BitVec 32 := Scalar.muli arg22 c2048_i32_357
  let v742 : BitVec 32 := Scalar.subi v740 v741
  let c2048_i32_358 : BitVec 32 := 2048#32
  let v743 : BitVec 32 := Scalar.minsi v742 c2048_i32_358
  let c127_i32_359 : BitVec 32 := 127#32
  let v744 : BitVec 32 := Scalar.addi v743 c127_i32_359
  let c128_i32_360 : BitVec 32 := 128#32
  let v745 : BitVec 32 := Scalar.divsi v744 c128_i32_360
  let c1_i32_361 : BitVec 32 := 1#32
  let v746 : BitVec 32 := Scalar.maxsi v745 c1_i32_361
  let c128_i32_362 : BitVec 32 := 128#32
  let v747 : BitVec 32 := Scalar.muli v746 c128_i32_362
  let v749 : BitVec 32 := Scalar.select v748 c2048_i32_364 v747
  v749

def k0_mult16 (arg22 : BitVec 32) : BitVec 32 :=
  let c2048_i32_365 : BitVec 32 := 2048#32
  let v751 : BitVec 32 := Scalar.muli arg22 c2048_i32_365
  v751

def k0_chk20 (v1 : BitVec 32) (k0_t4 : Fin (k0_t4_loop v1).trips) (arg22 : BitVec 32) : Prop :=
  (∀ (k0_h7 : k0_cond7 v1 k0_t4 = 1#1), 2048 ∣ (k0_mult16 arg22).toNat)
theorem k0_mult16_dvd : ∀ (v1 : BitVec 32) (k0_t4 : Fin (k0_t4_loop v1).trips) (arg22 : BitVec 32) (k0_hw20 : k0_chk20 v1 k0_t4 arg22), ∀ (k0_h7 : k0_cond7 v1 k0_t4 = 1#1), 2048 ∣ (k0_mult16 arg22).toNat := fun v1 k0_t4 arg22 k0_hw20 k0_h7 => k0_hw20 k0_h7

def k0_off74 (v1 : BitVec 32) (k0_t4 : Fin (k0_t4_loop v1).trips) : Fin 1 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_212 : BitVec 32 := 4#32
  let v454 : BitVec 32 := Scalar.addi arg20 c4_i32_212
  let c1_i32_213 : BitVec 32 := 1#32
  let v455 : BitVec 32 := Scalar.subi v454 c1_i32_213
  let c4_i32_356 : BitVec 32 := 4#32
  let v738 : BitVec 32 := Scalar.remsi v455 c4_i32_356
  ![v738.toNat]
def k0_off75 (v1 : BitVec 32) (k0_t4 : Fin (k0_t4_loop v1).trips) (arg22 : BitVec 32) (v740 : BitVec 32) : (Fin 3 → Nat) × (Fin 3 → Nat) :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_212 : BitVec 32 := 4#32
  let v454 : BitVec 32 := Scalar.addi arg20 c4_i32_212
  let c1_i32_213 : BitVec 32 := 1#32
  let v455 : BitVec 32 := Scalar.subi v454 c1_i32_213
  let c4_i32_356 : BitVec 32 := 4#32
  let v738 : BitVec 32 := Scalar.remsi v455 c4_i32_356
  let c0_i32_366 : BitVec 32 := 0#32
  let c0_i32_367 : BitVec 32 := 0#32
  let c4_i32_363 : BitVec 32 := 4#32
  let v748 : BitVec 1 := Scalar.cmpi .slt v455 c4_i32_363
  let c2048_i32_364 : BitVec 32 := 2048#32
  let c2048_i32_357 : BitVec 32 := 2048#32
  let v741 : BitVec 32 := Scalar.muli arg22 c2048_i32_357
  let v742 : BitVec 32 := Scalar.subi v740 v741
  let c2048_i32_358 : BitVec 32 := 2048#32
  let v743 : BitVec 32 := Scalar.minsi v742 c2048_i32_358
  let c127_i32_359 : BitVec 32 := 127#32
  let v744 : BitVec 32 := Scalar.addi v743 c127_i32_359
  let c128_i32_360 : BitVec 32 := 128#32
  let v745 : BitVec 32 := Scalar.divsi v744 c128_i32_360
  let c1_i32_361 : BitVec 32 := 1#32
  let v746 : BitVec 32 := Scalar.maxsi v745 c1_i32_361
  let c128_i32_362 : BitVec 32 := 128#32
  let v747 : BitVec 32 := Scalar.muli v746 c128_i32_362
  let v749 : BitVec 32 := Scalar.select v748 c2048_i32_364 v747
  let v750 : BitVec 32 := v749
  ⟨![v738.toNat, 0, 0], ![1, 512, v750.toNat]⟩
def k0_sz15 (v1 : BitVec 32) (k0_t4 : Fin (k0_t4_loop v1).trips) (arg22 : BitVec 32) (v740 : BitVec 32) : Fin 2 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_212 : BitVec 32 := 4#32
  let v454 : BitVec 32 := Scalar.addi arg20 c4_i32_212
  let c1_i32_213 : BitVec 32 := 1#32
  let v455 : BitVec 32 := Scalar.subi v454 c1_i32_213
  let c4_i32_363 : BitVec 32 := 4#32
  let v748 : BitVec 1 := Scalar.cmpi .slt v455 c4_i32_363
  let c2048_i32_364 : BitVec 32 := 2048#32
  let c2048_i32_357 : BitVec 32 := 2048#32
  let v741 : BitVec 32 := Scalar.muli arg22 c2048_i32_357
  let v742 : BitVec 32 := Scalar.subi v740 v741
  let c2048_i32_358 : BitVec 32 := 2048#32
  let v743 : BitVec 32 := Scalar.minsi v742 c2048_i32_358
  let c127_i32_359 : BitVec 32 := 127#32
  let v744 : BitVec 32 := Scalar.addi v743 c127_i32_359
  let c128_i32_360 : BitVec 32 := 128#32
  let v745 : BitVec 32 := Scalar.divsi v744 c128_i32_360
  let c1_i32_361 : BitVec 32 := 1#32
  let v746 : BitVec 32 := Scalar.maxsi v745 c1_i32_361
  let c128_i32_362 : BitVec 32 := 128#32
  let v747 : BitVec 32 := Scalar.muli v746 c128_i32_362
  let v749 : BitVec 32 := Scalar.select v748 c2048_i32_364 v747
  let v750 : BitVec 32 := v749
  ![512, v750.toNat]
def k0_off76 (v1 : BitVec 32) (k0_t4 : Fin (k0_t4_loop v1).trips) (arg21 : BitVec 32) (arg22 : BitVec 32) (v740 : BitVec 32) : (Fin 3 → Nat) × (Fin 3 → Nat) :=
  let c0_i32_368 : BitVec 32 := 0#32
  let c2048_i32_365 : BitVec 32 := 2048#32
  let v751 : BitVec 32 := Scalar.muli arg22 c2048_i32_365
  let v752 : BitVec 32 := v751
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_212 : BitVec 32 := 4#32
  let v454 : BitVec 32 := Scalar.addi arg20 c4_i32_212
  let c1_i32_213 : BitVec 32 := 1#32
  let v455 : BitVec 32 := Scalar.subi v454 c1_i32_213
  let c4_i32_363 : BitVec 32 := 4#32
  let v748 : BitVec 1 := Scalar.cmpi .slt v455 c4_i32_363
  let c2048_i32_364 : BitVec 32 := 2048#32
  let c2048_i32_357 : BitVec 32 := 2048#32
  let v741 : BitVec 32 := Scalar.muli arg22 c2048_i32_357
  let v742 : BitVec 32 := Scalar.subi v740 v741
  let c2048_i32_358 : BitVec 32 := 2048#32
  let v743 : BitVec 32 := Scalar.minsi v742 c2048_i32_358
  let c127_i32_359 : BitVec 32 := 127#32
  let v744 : BitVec 32 := Scalar.addi v743 c127_i32_359
  let c128_i32_360 : BitVec 32 := 128#32
  let v745 : BitVec 32 := Scalar.divsi v744 c128_i32_360
  let c1_i32_361 : BitVec 32 := 1#32
  let v746 : BitVec 32 := Scalar.maxsi v745 c1_i32_361
  let c128_i32_362 : BitVec 32 := 128#32
  let v747 : BitVec 32 := Scalar.muli v746 c128_i32_362
  let v749 : BitVec 32 := Scalar.select v748 c2048_i32_364 v747
  let v750 : BitVec 32 := v749
  ⟨![arg21.toNat, 0, v752.toNat], ![1, 512, v750.toNat]⟩
def k0_sz16 (v1 : BitVec 32) (k0_t4 : Fin (k0_t4_loop v1).trips) (arg22 : BitVec 32) (v740 : BitVec 32) : Fin 2 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_212 : BitVec 32 := 4#32
  let v454 : BitVec 32 := Scalar.addi arg20 c4_i32_212
  let c1_i32_213 : BitVec 32 := 1#32
  let v455 : BitVec 32 := Scalar.subi v454 c1_i32_213
  let c4_i32_363 : BitVec 32 := 4#32
  let v748 : BitVec 1 := Scalar.cmpi .slt v455 c4_i32_363
  let c2048_i32_364 : BitVec 32 := 2048#32
  let c2048_i32_357 : BitVec 32 := 2048#32
  let v741 : BitVec 32 := Scalar.muli arg22 c2048_i32_357
  let v742 : BitVec 32 := Scalar.subi v740 v741
  let c2048_i32_358 : BitVec 32 := 2048#32
  let v743 : BitVec 32 := Scalar.minsi v742 c2048_i32_358
  let c127_i32_359 : BitVec 32 := 127#32
  let v744 : BitVec 32 := Scalar.addi v743 c127_i32_359
  let c128_i32_360 : BitVec 32 := 128#32
  let v745 : BitVec 32 := Scalar.divsi v744 c128_i32_360
  let c1_i32_361 : BitVec 32 := 1#32
  let v746 : BitVec 32 := Scalar.maxsi v745 c1_i32_361
  let c128_i32_362 : BitVec 32 := 128#32
  let v747 : BitVec 32 := Scalar.muli v746 c128_i32_362
  let v749 : BitVec 32 := Scalar.select v748 c2048_i32_364 v747
  let v750 : BitVec 32 := v749
  ![512, v750.toNat]

def k0_chk19 (v1 : BitVec 32) (k0_t4 : Fin (k0_t4_loop v1).trips) (arg21 : BitVec 32) (arg22 : BitVec 32) (v740 : BitVec 32) : Prop :=
  (∀ (k0_h7 : k0_cond7 v1 k0_t4 = 1#1), 128 ∣ (k0_mult15 v1 k0_t4 arg22 v740).toNat) ∧
  (∀ (k0_h7 : k0_cond7 v1 k0_t4 = 1#1), ∀ a, (k0_off75 v1 k0_t4 arg22 v740).2 a = 0 ∨ (k0_off75 v1 k0_t4 arg22 v740).1 a + (k0_off75 v1 k0_t4 arg22 v740).2 a ≤ S4x512x2048.size a) ∧
  (∀ (k0_h7 : k0_cond7 v1 k0_t4 = 1#1), (⟨3, (k0_off75 v1 k0_t4 arg22 v740).2⟩ : Shape).Squeezes ⟨2, k0_sz15 v1 k0_t4 arg22 v740⟩) ∧
  (∀ (k0_h7 : k0_cond7 v1 k0_t4 = 1#1), ∀ a, (k0_off76 v1 k0_t4 arg21 arg22 v740).2 a = 0 ∨ (k0_off76 v1 k0_t4 arg21 arg22 v740).1 a + (k0_off76 v1 k0_t4 arg21 arg22 v740).2 a ≤ S16x512x32768.size a) ∧
  (∀ (k0_h7 : k0_cond7 v1 k0_t4 = 1#1), (⟨3, (k0_off76 v1 k0_t4 arg21 arg22 v740).2⟩ : Shape).Squeezes ⟨2, k0_sz16 v1 k0_t4 arg22 v740⟩) ∧
  (∀ (k0_h7 : k0_cond7 v1 k0_t4 = 1#1), ∀ (hinb : ∀ a, (k0_off76 v1 k0_t4 arg21 arg22 v740).2 a = 0 ∨ (k0_off76 v1 k0_t4 arg21 arg22 v740).1 a + (k0_off76 v1 k0_t4 arg21 arg22 v740).2 a ≤ S16x512x32768.size a), (Rect.unitDyn (s := S16x512x32768) (k0_off76 v1 k0_t4 arg21 arg22 v740).1 (k0_off76 v1 k0_t4 arg21 arg22 v740).2 hinb).WholeWords (EltTy.packing .fp8e4m3)) ∧
  (∀ (k0_h7 : k0_cond7 v1 k0_t4 = 1#1), ∀ (hinb : ∀ a, (k0_off75 v1 k0_t4 arg22 v740).2 a = 0 ∨ (k0_off75 v1 k0_t4 arg22 v740).1 a + (k0_off75 v1 k0_t4 arg22 v740).2 a ≤ S4x512x2048.size a), (Rect.unitDyn (s := S4x512x2048) (k0_off75 v1 k0_t4 arg22 v740).1 (k0_off75 v1 k0_t4 arg22 v740).2 hinb).WholeWords (EltTy.packing .fp8e4m3))
theorem k0_mult15_dvd : ∀ (v1 : BitVec 32) (k0_t4 : Fin (k0_t4_loop v1).trips) (arg21 : BitVec 32) (arg22 : BitVec 32) (v740 : BitVec 32) (k0_hw19 : k0_chk19 v1 k0_t4 arg21 arg22 v740), ∀ (k0_h7 : k0_cond7 v1 k0_t4 = 1#1), 128 ∣ (k0_mult15 v1 k0_t4 arg22 v740).toNat := fun v1 k0_t4 arg21 arg22 v740 k0_hw19 k0_h7 => k0_hw19.1 k0_h7
theorem k0_off75_inb : ∀ (v1 : BitVec 32) (k0_t4 : Fin (k0_t4_loop v1).trips) (arg21 : BitVec 32) (arg22 : BitVec 32) (v740 : BitVec 32) (k0_hw19 : k0_chk19 v1 k0_t4 arg21 arg22 v740), ∀ (k0_h7 : k0_cond7 v1 k0_t4 = 1#1), ∀ a, (k0_off75 v1 k0_t4 arg22 v740).2 a = 0 ∨ (k0_off75 v1 k0_t4 arg22 v740).1 a + (k0_off75 v1 k0_t4 arg22 v740).2 a ≤ S4x512x2048.size a := fun v1 k0_t4 arg21 arg22 v740 k0_hw19 k0_h7 => k0_hw19.2.1 k0_h7
theorem k0_sz15_squeezes : ∀ (v1 : BitVec 32) (k0_t4 : Fin (k0_t4_loop v1).trips) (arg21 : BitVec 32) (arg22 : BitVec 32) (v740 : BitVec 32) (k0_hw19 : k0_chk19 v1 k0_t4 arg21 arg22 v740), ∀ (k0_h7 : k0_cond7 v1 k0_t4 = 1#1), (⟨3, (k0_off75 v1 k0_t4 arg22 v740).2⟩ : Shape).Squeezes ⟨2, k0_sz15 v1 k0_t4 arg22 v740⟩ := fun v1 k0_t4 arg21 arg22 v740 k0_hw19 k0_h7 => k0_hw19.2.2.1 k0_h7
theorem k0_off76_inb : ∀ (v1 : BitVec 32) (k0_t4 : Fin (k0_t4_loop v1).trips) (arg21 : BitVec 32) (arg22 : BitVec 32) (v740 : BitVec 32) (k0_hw19 : k0_chk19 v1 k0_t4 arg21 arg22 v740), ∀ (k0_h7 : k0_cond7 v1 k0_t4 = 1#1), ∀ a, (k0_off76 v1 k0_t4 arg21 arg22 v740).2 a = 0 ∨ (k0_off76 v1 k0_t4 arg21 arg22 v740).1 a + (k0_off76 v1 k0_t4 arg21 arg22 v740).2 a ≤ S16x512x32768.size a := fun v1 k0_t4 arg21 arg22 v740 k0_hw19 k0_h7 => k0_hw19.2.2.2.1 k0_h7
theorem k0_sz16_squeezes : ∀ (v1 : BitVec 32) (k0_t4 : Fin (k0_t4_loop v1).trips) (arg21 : BitVec 32) (arg22 : BitVec 32) (v740 : BitVec 32) (k0_hw19 : k0_chk19 v1 k0_t4 arg21 arg22 v740), ∀ (k0_h7 : k0_cond7 v1 k0_t4 = 1#1), (⟨3, (k0_off76 v1 k0_t4 arg21 arg22 v740).2⟩ : Shape).Squeezes ⟨2, k0_sz16 v1 k0_t4 arg22 v740⟩ := fun v1 k0_t4 arg21 arg22 v740 k0_hw19 k0_h7 => k0_hw19.2.2.2.2.1 k0_h7
theorem k0_off76_wordsfp8e4m3 : ∀ (v1 : BitVec 32) (k0_t4 : Fin (k0_t4_loop v1).trips) (arg21 : BitVec 32) (arg22 : BitVec 32) (v740 : BitVec 32) (k0_hw19 : k0_chk19 v1 k0_t4 arg21 arg22 v740), ∀ (k0_h7 : k0_cond7 v1 k0_t4 = 1#1), (Rect.unitDyn (s := S16x512x32768) (k0_off76 v1 k0_t4 arg21 arg22 v740).1 (k0_off76 v1 k0_t4 arg21 arg22 v740).2 (k0_off76_inb v1 k0_t4 arg21 arg22 v740 k0_hw19 k0_h7)).WholeWords (EltTy.packing .fp8e4m3) := fun v1 k0_t4 arg21 arg22 v740 k0_hw19 k0_h7 => k0_hw19.2.2.2.2.2.1 k0_h7 (k0_off76_inb v1 k0_t4 arg21 arg22 v740 k0_hw19 k0_h7)
theorem k0_off75_wordsfp8e4m3 : ∀ (v1 : BitVec 32) (k0_t4 : Fin (k0_t4_loop v1).trips) (arg21 : BitVec 32) (arg22 : BitVec 32) (v740 : BitVec 32) (k0_hw19 : k0_chk19 v1 k0_t4 arg21 arg22 v740), ∀ (k0_h7 : k0_cond7 v1 k0_t4 = 1#1), (Rect.unitDyn (s := S4x512x2048) (k0_off75 v1 k0_t4 arg22 v740).1 (k0_off75 v1 k0_t4 arg22 v740).2 (k0_off75_inb v1 k0_t4 arg21 arg22 v740 k0_hw19 k0_h7)).WholeWords (EltTy.packing .fp8e4m3) := fun v1 k0_t4 arg21 arg22 v740 k0_hw19 k0_h7 => k0_hw19.2.2.2.2.2.2 k0_h7 (k0_off75_inb v1 k0_t4 arg21 arg22 v740 k0_hw19 k0_h7)

def k0_off77 (arg21 : BitVec 32) : Fin 1 → Nat :=
  let v460 : Index := Scalar.indexCast arg21
  ![v460.toNat]

def k0_chk18 (v1 : BitVec 32) (k0_t4 : Fin (k0_t4_loop v1).trips) (arg21 : BitVec 32) : Prop :=
  (∀ (k0_h7 : k0_cond7 v1 k0_t4 = 1#1), ∀ a, (k0_off73 arg21) a + S1.size a ≤ S16.size a) ∧
  (∀ a, (k0_off77 arg21) a + S1.size a ≤ S16.size a)
theorem k0_off73_inb : ∀ (v1 : BitVec 32) (k0_t4 : Fin (k0_t4_loop v1).trips) (arg21 : BitVec 32) (k0_hw18 : k0_chk18 v1 k0_t4 arg21), ∀ (k0_h7 : k0_cond7 v1 k0_t4 = 1#1), ∀ a, (k0_off73 arg21) a + S1.size a ≤ S16.size a := fun v1 k0_t4 arg21 k0_hw18 k0_h7 => k0_hw18.1 k0_h7
theorem k0_off77_inb : ∀ (v1 : BitVec 32) (k0_t4 : Fin (k0_t4_loop v1).trips) (arg21 : BitVec 32) (k0_hw18 : k0_chk18 v1 k0_t4 arg21), ∀ a, (k0_off77 arg21) a + S1.size a ≤ S16.size a := fun v1 k0_t4 arg21 k0_hw18 => k0_hw18.2

def k0_off78 (arg23 : BitVec 32) (arg24 : BitVec 32) (v444 : BitVec 32) : Fin 1 → Nat :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let v740 : Index := Scalar.indexCast v451
  ![v740.toNat]
def k0_cond8 (v1 : BitVec 32) (k0_t4 : Fin (k0_t4_loop v1).trips) : BitVec 1 :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_223 : BitVec 32 := 1#32
  let v471 : BitVec 32 := Scalar.addi arg20 c1_i32_223
  let v472 : BitVec 1 := Scalar.cmpi .slt v471 v1
  let v473 : BitVec 32 := Scalar.extui v472
  let c0_i32_224 : BitVec 32 := 0#32
  let v474 : BitVec 1 := Scalar.cmpi .ne v473 c0_i32_224
  v474

def k0_mult17 (v1 : BitVec 32) (k0_t4 : Fin (k0_t4_loop v1).trips) (arg24 : BitVec 32) (v444 : BitVec 32) (v741 : BitVec 32) : BitVec 32 :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_356 : BitVec 32 := 1#32
  let v738 : BitVec 32 := Scalar.addi arg20 c1_i32_356
  let c4_i32_364 : BitVec 32 := 4#32
  let v749 : BitVec 1 := Scalar.cmpi .slt v738 c4_i32_364
  let c2048_i32_365 : BitVec 32 := 2048#32
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c0_i32_211 : BitVec 32 := 0#32
  let c1_i32_210 : BitVec 32 := 1#32
  let v452 : BitVec 32 := Scalar.addi arg24 c1_i32_210
  let v453 : BitVec 32 := Scalar.select v448 c0_i32_211 v452
  let c2048_i32_358 : BitVec 32 := 2048#32
  let v742 : BitVec 32 := Scalar.muli v453 c2048_i32_358
  let v743 : BitVec 32 := Scalar.subi v741 v742
  let c2048_i32_359 : BitVec 32 := 2048#32
  let v744 : BitVec 32 := Scalar.minsi v743 c2048_i32_359
  let c127_i32_360 : BitVec 32 := 127#32
  let v745 : BitVec 32 := Scalar.addi v744 c127_i32_360
  let c128_i32_361 : BitVec 32 := 128#32
  let v746 : BitVec 32 := Scalar.divsi v745 c128_i32_361
  let c1_i32_362 : BitVec 32 := 1#32
  let v747 : BitVec 32 := Scalar.maxsi v746 c1_i32_362
  let c128_i32_363 : BitVec 32 := 128#32
  let v748 : BitVec 32 := Scalar.muli v747 c128_i32_363
  let v750 : BitVec 32 := Scalar.select v749 c2048_i32_365 v748
  v750

def k0_mult18 (arg24 : BitVec 32) (v444 : BitVec 32) : BitVec 32 :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c0_i32_211 : BitVec 32 := 0#32
  let c1_i32_210 : BitVec 32 := 1#32
  let v452 : BitVec 32 := Scalar.addi arg24 c1_i32_210
  let v453 : BitVec 32 := Scalar.select v448 c0_i32_211 v452
  let c2048_i32_366 : BitVec 32 := 2048#32
  let v752 : BitVec 32 := Scalar.muli v453 c2048_i32_366
  v752
def k0_off79 (v1 : BitVec 32) (k0_t4 : Fin (k0_t4_loop v1).trips) : Fin 1 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_356 : BitVec 32 := 1#32
  let v738 : BitVec 32 := Scalar.addi arg20 c1_i32_356
  let c4_i32_357 : BitVec 32 := 4#32
  let v739 : BitVec 32 := Scalar.remsi v738 c4_i32_357
  ![v739.toNat]
def k0_off80 (v1 : BitVec 32) (k0_t4 : Fin (k0_t4_loop v1).trips) (arg24 : BitVec 32) (v444 : BitVec 32) (v741 : BitVec 32) : (Fin 3 → Nat) × (Fin 3 → Nat) :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_356 : BitVec 32 := 1#32
  let v738 : BitVec 32 := Scalar.addi arg20 c1_i32_356
  let c4_i32_357 : BitVec 32 := 4#32
  let v739 : BitVec 32 := Scalar.remsi v738 c4_i32_357
  let c0_i32_367 : BitVec 32 := 0#32
  let c0_i32_368 : BitVec 32 := 0#32
  let c4_i32_364 : BitVec 32 := 4#32
  let v749 : BitVec 1 := Scalar.cmpi .slt v738 c4_i32_364
  let c2048_i32_365 : BitVec 32 := 2048#32
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c0_i32_211 : BitVec 32 := 0#32
  let c1_i32_210 : BitVec 32 := 1#32
  let v452 : BitVec 32 := Scalar.addi arg24 c1_i32_210
  let v453 : BitVec 32 := Scalar.select v448 c0_i32_211 v452
  let c2048_i32_358 : BitVec 32 := 2048#32
  let v742 : BitVec 32 := Scalar.muli v453 c2048_i32_358
  let v743 : BitVec 32 := Scalar.subi v741 v742
  let c2048_i32_359 : BitVec 32 := 2048#32
  let v744 : BitVec 32 := Scalar.minsi v743 c2048_i32_359
  let c127_i32_360 : BitVec 32 := 127#32
  let v745 : BitVec 32 := Scalar.addi v744 c127_i32_360
  let c128_i32_361 : BitVec 32 := 128#32
  let v746 : BitVec 32 := Scalar.divsi v745 c128_i32_361
  let c1_i32_362 : BitVec 32 := 1#32
  let v747 : BitVec 32 := Scalar.maxsi v746 c1_i32_362
  let c128_i32_363 : BitVec 32 := 128#32
  let v748 : BitVec 32 := Scalar.muli v747 c128_i32_363
  let v750 : BitVec 32 := Scalar.select v749 c2048_i32_365 v748
  let v751 : BitVec 32 := v750
  ⟨![v739.toNat, 0, 0], ![1, 512, v751.toNat]⟩

def k0_sz17 (v1 : BitVec 32) (k0_t4 : Fin (k0_t4_loop v1).trips) (arg24 : BitVec 32) (v444 : BitVec 32) (v741 : BitVec 32) : Fin 2 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_356 : BitVec 32 := 1#32
  let v738 : BitVec 32 := Scalar.addi arg20 c1_i32_356
  let c4_i32_364 : BitVec 32 := 4#32
  let v749 : BitVec 1 := Scalar.cmpi .slt v738 c4_i32_364
  let c2048_i32_365 : BitVec 32 := 2048#32
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c0_i32_211 : BitVec 32 := 0#32
  let c1_i32_210 : BitVec 32 := 1#32
  let v452 : BitVec 32 := Scalar.addi arg24 c1_i32_210
  let v453 : BitVec 32 := Scalar.select v448 c0_i32_211 v452
  let c2048_i32_358 : BitVec 32 := 2048#32
  let v742 : BitVec 32 := Scalar.muli v453 c2048_i32_358
  let v743 : BitVec 32 := Scalar.subi v741 v742
  let c2048_i32_359 : BitVec 32 := 2048#32
  let v744 : BitVec 32 := Scalar.minsi v743 c2048_i32_359
  let c127_i32_360 : BitVec 32 := 127#32
  let v745 : BitVec 32 := Scalar.addi v744 c127_i32_360
  let c128_i32_361 : BitVec 32 := 128#32
  let v746 : BitVec 32 := Scalar.divsi v745 c128_i32_361
  let c1_i32_362 : BitVec 32 := 1#32
  let v747 : BitVec 32 := Scalar.maxsi v746 c1_i32_362
  let c128_i32_363 : BitVec 32 := 128#32
  let v748 : BitVec 32 := Scalar.muli v747 c128_i32_363
  let v750 : BitVec 32 := Scalar.select v749 c2048_i32_365 v748
  let v751 : BitVec 32 := v750
  ![512, v751.toNat]
def k0_off81 (v1 : BitVec 32) (k0_t4 : Fin (k0_t4_loop v1).trips) (arg23 : BitVec 32) (arg24 : BitVec 32) (v444 : BitVec 32) (v741 : BitVec 32) : (Fin 3 → Nat) × (Fin 3 → Nat) :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let c0_i32_369 : BitVec 32 := 0#32
  let c0_i32_211 : BitVec 32 := 0#32
  let c1_i32_210 : BitVec 32 := 1#32
  let v452 : BitVec 32 := Scalar.addi arg24 c1_i32_210
  let v453 : BitVec 32 := Scalar.select v448 c0_i32_211 v452
  let c2048_i32_366 : BitVec 32 := 2048#32
  let v752 : BitVec 32 := Scalar.muli v453 c2048_i32_366
  let v753 : BitVec 32 := v752
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_356 : BitVec 32 := 1#32
  let v738 : BitVec 32 := Scalar.addi arg20 c1_i32_356
  let c4_i32_364 : BitVec 32 := 4#32
  let v749 : BitVec 1 := Scalar.cmpi .slt v738 c4_i32_364
  let c2048_i32_365 : BitVec 32 := 2048#32
  let c2048_i32_358 : BitVec 32 := 2048#32
  let v742 : BitVec 32 := Scalar.muli v453 c2048_i32_358
  let v743 : BitVec 32 := Scalar.subi v741 v742
  let c2048_i32_359 : BitVec 32 := 2048#32
  let v744 : BitVec 32 := Scalar.minsi v743 c2048_i32_359
  let c127_i32_360 : BitVec 32 := 127#32
  let v745 : BitVec 32 := Scalar.addi v744 c127_i32_360
  let c128_i32_361 : BitVec 32 := 128#32
  let v746 : BitVec 32 := Scalar.divsi v745 c128_i32_361
  let c1_i32_362 : BitVec 32 := 1#32
  let v747 : BitVec 32 := Scalar.maxsi v746 c1_i32_362
  let c128_i32_363 : BitVec 32 := 128#32
  let v748 : BitVec 32 := Scalar.muli v747 c128_i32_363
  let v750 : BitVec 32 := Scalar.select v749 c2048_i32_365 v748
  let v751 : BitVec 32 := v750
  ⟨![v451.toNat, 0, v753.toNat], ![1, 512, v751.toNat]⟩

def k0_sz18 (v1 : BitVec 32) (k0_t4 : Fin (k0_t4_loop v1).trips) (arg24 : BitVec 32) (v444 : BitVec 32) (v741 : BitVec 32) : Fin 2 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_356 : BitVec 32 := 1#32
  let v738 : BitVec 32 := Scalar.addi arg20 c1_i32_356
  let c4_i32_364 : BitVec 32 := 4#32
  let v749 : BitVec 1 := Scalar.cmpi .slt v738 c4_i32_364
  let c2048_i32_365 : BitVec 32 := 2048#32
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c0_i32_211 : BitVec 32 := 0#32
  let c1_i32_210 : BitVec 32 := 1#32
  let v452 : BitVec 32 := Scalar.addi arg24 c1_i32_210
  let v453 : BitVec 32 := Scalar.select v448 c0_i32_211 v452
  let c2048_i32_358 : BitVec 32 := 2048#32
  let v742 : BitVec 32 := Scalar.muli v453 c2048_i32_358
  let v743 : BitVec 32 := Scalar.subi v741 v742
  let c2048_i32_359 : BitVec 32 := 2048#32
  let v744 : BitVec 32 := Scalar.minsi v743 c2048_i32_359
  let c127_i32_360 : BitVec 32 := 127#32
  let v745 : BitVec 32 := Scalar.addi v744 c127_i32_360
  let c128_i32_361 : BitVec 32 := 128#32
  let v746 : BitVec 32 := Scalar.divsi v745 c128_i32_361
  let c1_i32_362 : BitVec 32 := 1#32
  let v747 : BitVec 32 := Scalar.maxsi v746 c1_i32_362
  let c128_i32_363 : BitVec 32 := 128#32
  let v748 : BitVec 32 := Scalar.muli v747 c128_i32_363
  let v750 : BitVec 32 := Scalar.select v749 c2048_i32_365 v748
  let v751 : BitVec 32 := v750
  ![512, v751.toNat]

def k0_chk22 (v1 : BitVec 32) (k0_t4 : Fin (k0_t4_loop v1).trips) (arg23 : BitVec 32) (arg24 : BitVec 32) (v444 : BitVec 32) (v741 : BitVec 32) : Prop :=
  (∀ (k0_h8 : k0_cond8 v1 k0_t4 = 1#1), 128 ∣ (k0_mult17 v1 k0_t4 arg24 v444 v741).toNat) ∧
  (∀ (k0_h8 : k0_cond8 v1 k0_t4 = 1#1), (⟨3, (k0_off80 v1 k0_t4 arg24 v444 v741).2⟩ : Shape).Squeezes ⟨2, k0_sz17 v1 k0_t4 arg24 v444 v741⟩) ∧
  (∀ (k0_h8 : k0_cond8 v1 k0_t4 = 1#1), (⟨3, (k0_off81 v1 k0_t4 arg23 arg24 v444 v741).2⟩ : Shape).Squeezes ⟨2, k0_sz18 v1 k0_t4 arg24 v444 v741⟩)
theorem k0_mult17_dvd : ∀ (v1 : BitVec 32) (k0_t4 : Fin (k0_t4_loop v1).trips) (arg23 : BitVec 32) (arg24 : BitVec 32) (v444 : BitVec 32) (v741 : BitVec 32) (k0_hw22 : k0_chk22 v1 k0_t4 arg23 arg24 v444 v741), ∀ (k0_h8 : k0_cond8 v1 k0_t4 = 1#1), 128 ∣ (k0_mult17 v1 k0_t4 arg24 v444 v741).toNat := fun v1 k0_t4 arg23 arg24 v444 v741 k0_hw22 k0_h8 => k0_hw22.1 k0_h8
theorem k0_sz17_squeezes : ∀ (v1 : BitVec 32) (k0_t4 : Fin (k0_t4_loop v1).trips) (arg23 : BitVec 32) (arg24 : BitVec 32) (v444 : BitVec 32) (v741 : BitVec 32) (k0_hw22 : k0_chk22 v1 k0_t4 arg23 arg24 v444 v741), ∀ (k0_h8 : k0_cond8 v1 k0_t4 = 1#1), (⟨3, (k0_off80 v1 k0_t4 arg24 v444 v741).2⟩ : Shape).Squeezes ⟨2, k0_sz17 v1 k0_t4 arg24 v444 v741⟩ := fun v1 k0_t4 arg23 arg24 v444 v741 k0_hw22 k0_h8 => k0_hw22.2.1 k0_h8
theorem k0_sz18_squeezes : ∀ (v1 : BitVec 32) (k0_t4 : Fin (k0_t4_loop v1).trips) (arg23 : BitVec 32) (arg24 : BitVec 32) (v444 : BitVec 32) (v741 : BitVec 32) (k0_hw22 : k0_chk22 v1 k0_t4 arg23 arg24 v444 v741), ∀ (k0_h8 : k0_cond8 v1 k0_t4 = 1#1), (⟨3, (k0_off81 v1 k0_t4 arg23 arg24 v444 v741).2⟩ : Shape).Squeezes ⟨2, k0_sz18 v1 k0_t4 arg24 v444 v741⟩ := fun v1 k0_t4 arg23 arg24 v444 v741 k0_hw22 k0_h8 => k0_hw22.2.2 k0_h8

def k0_off82 (arg23 : BitVec 32) : Fin 1 → Nat :=
  let v476 : Index := Scalar.indexCast arg23
  ![v476.toNat]
def k0_mult19 (v1 : BitVec 32) (k0_t4 : Fin (k0_t4_loop v1).trips) (arg24 : BitVec 32) (v477 : BitVec 32) : BitVec 32 :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_232 : BitVec 32 := 4#32
  let v485 : BitVec 1 := Scalar.cmpi .slt arg20 c4_i32_232
  let c2048_i32_233 : BitVec 32 := 2048#32
  let c2048_i32_226 : BitVec 32 := 2048#32
  let v478 : BitVec 32 := Scalar.muli arg24 c2048_i32_226
  let v479 : BitVec 32 := Scalar.subi v477 v478
  let c2048_i32_227 : BitVec 32 := 2048#32
  let v480 : BitVec 32 := Scalar.minsi v479 c2048_i32_227
  let c127_i32_228 : BitVec 32 := 127#32
  let v481 : BitVec 32 := Scalar.addi v480 c127_i32_228
  let c128_i32_229 : BitVec 32 := 128#32
  let v482 : BitVec 32 := Scalar.divsi v481 c128_i32_229
  let c1_i32_230 : BitVec 32 := 1#32
  let v483 : BitVec 32 := Scalar.maxsi v482 c1_i32_230
  let c128_i32_231 : BitVec 32 := 128#32
  let v484 : BitVec 32 := Scalar.muli v483 c128_i32_231
  let v486 : BitVec 32 := Scalar.select v485 c2048_i32_233 v484
  v486

def k0_mult20 (arg24 : BitVec 32) : BitVec 32 :=
  let c2048_i32_234 : BitVec 32 := 2048#32
  let v488 : BitVec 32 := Scalar.muli arg24 c2048_i32_234
  v488

def k0_chk24 (arg24 : BitVec 32) : Prop :=
  (2048 ∣ (k0_mult20 arg24).toNat)
theorem k0_mult20_dvd : ∀ (arg24 : BitVec 32) (k0_hw24 : k0_chk24 arg24), 2048 ∣ (k0_mult20 arg24).toNat := fun arg24 k0_hw24 => k0_hw24

def k0_off83 (v1 : BitVec 32) (k0_t4 : Fin (k0_t4_loop v1).trips) : Fin 1 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_225 : BitVec 32 := 4#32
  let v475 : BitVec 32 := Scalar.remsi arg20 c4_i32_225
  ![v475.toNat]
def k0_off84 (v1 : BitVec 32) (k0_t4 : Fin (k0_t4_loop v1).trips) (arg24 : BitVec 32) (v477 : BitVec 32) : (Fin 3 → Nat) × (Fin 3 → Nat) :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_225 : BitVec 32 := 4#32
  let v475 : BitVec 32 := Scalar.remsi arg20 c4_i32_225
  let c0_i32_235 : BitVec 32 := 0#32
  let c0_i32_236 : BitVec 32 := 0#32
  let c4_i32_232 : BitVec 32 := 4#32
  let v485 : BitVec 1 := Scalar.cmpi .slt arg20 c4_i32_232
  let c2048_i32_233 : BitVec 32 := 2048#32
  let c2048_i32_226 : BitVec 32 := 2048#32
  let v478 : BitVec 32 := Scalar.muli arg24 c2048_i32_226
  let v479 : BitVec 32 := Scalar.subi v477 v478
  let c2048_i32_227 : BitVec 32 := 2048#32
  let v480 : BitVec 32 := Scalar.minsi v479 c2048_i32_227
  let c127_i32_228 : BitVec 32 := 127#32
  let v481 : BitVec 32 := Scalar.addi v480 c127_i32_228
  let c128_i32_229 : BitVec 32 := 128#32
  let v482 : BitVec 32 := Scalar.divsi v481 c128_i32_229
  let c1_i32_230 : BitVec 32 := 1#32
  let v483 : BitVec 32 := Scalar.maxsi v482 c1_i32_230
  let c128_i32_231 : BitVec 32 := 128#32
  let v484 : BitVec 32 := Scalar.muli v483 c128_i32_231
  let v486 : BitVec 32 := Scalar.select v485 c2048_i32_233 v484
  let v487 : BitVec 32 := v486
  ⟨![v475.toNat, 0, 0], ![1, 512, v487.toNat]⟩

def k0_sz19 (v1 : BitVec 32) (k0_t4 : Fin (k0_t4_loop v1).trips) (arg24 : BitVec 32) (v477 : BitVec 32) : Fin 2 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_232 : BitVec 32 := 4#32
  let v485 : BitVec 1 := Scalar.cmpi .slt arg20 c4_i32_232
  let c2048_i32_233 : BitVec 32 := 2048#32
  let c2048_i32_226 : BitVec 32 := 2048#32
  let v478 : BitVec 32 := Scalar.muli arg24 c2048_i32_226
  let v479 : BitVec 32 := Scalar.subi v477 v478
  let c2048_i32_227 : BitVec 32 := 2048#32
  let v480 : BitVec 32 := Scalar.minsi v479 c2048_i32_227
  let c127_i32_228 : BitVec 32 := 127#32
  let v481 : BitVec 32 := Scalar.addi v480 c127_i32_228
  let c128_i32_229 : BitVec 32 := 128#32
  let v482 : BitVec 32 := Scalar.divsi v481 c128_i32_229
  let c1_i32_230 : BitVec 32 := 1#32
  let v483 : BitVec 32 := Scalar.maxsi v482 c1_i32_230
  let c128_i32_231 : BitVec 32 := 128#32
  let v484 : BitVec 32 := Scalar.muli v483 c128_i32_231
  let v486 : BitVec 32 := Scalar.select v485 c2048_i32_233 v484
  let v487 : BitVec 32 := v486
  ![512, v487.toNat]
def k0_off85 (v1 : BitVec 32) (k0_t4 : Fin (k0_t4_loop v1).trips) (arg23 : BitVec 32) (arg24 : BitVec 32) (v477 : BitVec 32) : (Fin 3 → Nat) × (Fin 3 → Nat) :=
  let c0_i32_237 : BitVec 32 := 0#32
  let c2048_i32_234 : BitVec 32 := 2048#32
  let v488 : BitVec 32 := Scalar.muli arg24 c2048_i32_234
  let v489 : BitVec 32 := v488
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_232 : BitVec 32 := 4#32
  let v485 : BitVec 1 := Scalar.cmpi .slt arg20 c4_i32_232
  let c2048_i32_233 : BitVec 32 := 2048#32
  let c2048_i32_226 : BitVec 32 := 2048#32
  let v478 : BitVec 32 := Scalar.muli arg24 c2048_i32_226
  let v479 : BitVec 32 := Scalar.subi v477 v478
  let c2048_i32_227 : BitVec 32 := 2048#32
  let v480 : BitVec 32 := Scalar.minsi v479 c2048_i32_227
  let c127_i32_228 : BitVec 32 := 127#32
  let v481 : BitVec 32 := Scalar.addi v480 c127_i32_228
  let c128_i32_229 : BitVec 32 := 128#32
  let v482 : BitVec 32 := Scalar.divsi v481 c128_i32_229
  let c1_i32_230 : BitVec 32 := 1#32
  let v483 : BitVec 32 := Scalar.maxsi v482 c1_i32_230
  let c128_i32_231 : BitVec 32 := 128#32
  let v484 : BitVec 32 := Scalar.muli v483 c128_i32_231
  let v486 : BitVec 32 := Scalar.select v485 c2048_i32_233 v484
  let v487 : BitVec 32 := v486
  ⟨![arg23.toNat, 0, v489.toNat], ![1, 512, v487.toNat]⟩

def k0_sz20 (v1 : BitVec 32) (k0_t4 : Fin (k0_t4_loop v1).trips) (arg24 : BitVec 32) (v477 : BitVec 32) : Fin 2 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_232 : BitVec 32 := 4#32
  let v485 : BitVec 1 := Scalar.cmpi .slt arg20 c4_i32_232
  let c2048_i32_233 : BitVec 32 := 2048#32
  let c2048_i32_226 : BitVec 32 := 2048#32
  let v478 : BitVec 32 := Scalar.muli arg24 c2048_i32_226
  let v479 : BitVec 32 := Scalar.subi v477 v478
  let c2048_i32_227 : BitVec 32 := 2048#32
  let v480 : BitVec 32 := Scalar.minsi v479 c2048_i32_227
  let c127_i32_228 : BitVec 32 := 127#32
  let v481 : BitVec 32 := Scalar.addi v480 c127_i32_228
  let c128_i32_229 : BitVec 32 := 128#32
  let v482 : BitVec 32 := Scalar.divsi v481 c128_i32_229
  let c1_i32_230 : BitVec 32 := 1#32
  let v483 : BitVec 32 := Scalar.maxsi v482 c1_i32_230
  let c128_i32_231 : BitVec 32 := 128#32
  let v484 : BitVec 32 := Scalar.muli v483 c128_i32_231
  let v486 : BitVec 32 := Scalar.select v485 c2048_i32_233 v484
  let v487 : BitVec 32 := v486
  ![512, v487.toNat]

def k0_chk23 (v1 : BitVec 32) (k0_t4 : Fin (k0_t4_loop v1).trips) (arg23 : BitVec 32) (arg24 : BitVec 32) (v477 : BitVec 32) : Prop :=
  (128 ∣ (k0_mult19 v1 k0_t4 arg24 v477).toNat) ∧
  ((⟨3, (k0_off84 v1 k0_t4 arg24 v477).2⟩ : Shape).Squeezes ⟨2, k0_sz19 v1 k0_t4 arg24 v477⟩) ∧
  ((⟨3, (k0_off85 v1 k0_t4 arg23 arg24 v477).2⟩ : Shape).Squeezes ⟨2, k0_sz20 v1 k0_t4 arg24 v477⟩)
theorem k0_mult19_dvd : ∀ (v1 : BitVec 32) (k0_t4 : Fin (k0_t4_loop v1).trips) (arg23 : BitVec 32) (arg24 : BitVec 32) (v477 : BitVec 32) (k0_hw23 : k0_chk23 v1 k0_t4 arg23 arg24 v477), 128 ∣ (k0_mult19 v1 k0_t4 arg24 v477).toNat := fun v1 k0_t4 arg23 arg24 v477 k0_hw23 => k0_hw23.1
theorem k0_sz19_squeezes : ∀ (v1 : BitVec 32) (k0_t4 : Fin (k0_t4_loop v1).trips) (arg23 : BitVec 32) (arg24 : BitVec 32) (v477 : BitVec 32) (k0_hw23 : k0_chk23 v1 k0_t4 arg23 arg24 v477), (⟨3, (k0_off84 v1 k0_t4 arg24 v477).2⟩ : Shape).Squeezes ⟨2, k0_sz19 v1 k0_t4 arg24 v477⟩ := fun v1 k0_t4 arg23 arg24 v477 k0_hw23 => k0_hw23.2.1
theorem k0_sz20_squeezes : ∀ (v1 : BitVec 32) (k0_t4 : Fin (k0_t4_loop v1).trips) (arg23 : BitVec 32) (arg24 : BitVec 32) (v477 : BitVec 32) (k0_hw23 : k0_chk23 v1 k0_t4 arg23 arg24 v477), (⟨3, (k0_off85 v1 k0_t4 arg23 arg24 v477).2⟩ : Shape).Squeezes ⟨2, k0_sz20 v1 k0_t4 arg24 v477⟩ := fun v1 k0_t4 arg23 arg24 v477 k0_hw23 => k0_hw23.2.2

def k0_off86 (arg23 : BitVec 32) (arg24 : BitVec 32) (v444 : BitVec 32) : Fin 1 → Nat :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let v500 : Index := Scalar.indexCast v451
  ![v500.toNat]
def k0_off87 (v1 : BitVec 32) (k0_t4 : Fin (k0_t4_loop v1).trips) : Fin 3 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_238 : BitVec 32 := 1#32
  let v496 : BitVec 32 := Scalar.addi arg20 c1_i32_238
  let c4_i32_239 : BitVec 32 := 4#32
  let v497 : BitVec 32 := Scalar.remsi v496 c4_i32_239
  let v507 : Index := Scalar.indexCast v497
  let c0_243 : Index := 0#32
  let c0_244 : Index := 0#32
  ![v507.toNat, 0, 0]
def k0_off88 (arg23 : BitVec 32) (arg24 : BitVec 32) (v444 : BitVec 32) : Fin 4 → Nat :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let v510 : Index := Scalar.indexCast v451
  let c0_245 : Index := 0#32
  let c0_246 : Index := 0#32
  let c0_247 : Index := 0#32
  ![v510.toNat, 0, 0, 0]
def k0_off89 (v1 : BitVec 32) (k0_t4 : Fin (k0_t4_loop v1).trips) : Fin 4 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_238 : BitVec 32 := 1#32
  let v496 : BitVec 32 := Scalar.addi arg20 c1_i32_238
  let c2_i32_240 : BitVec 32 := 2#32
  let v498 : BitVec 32 := Scalar.remsi v496 c2_i32_240
  let v516 : Index := Scalar.indexCast v498
  let c0_250 : Index := 0#32
  let c0_251 : Index := 0#32
  let c0_252 : Index := 0#32
  ![v516.toNat, 0, 0, 0]
def k0_off90 (arg23 : BitVec 32) (arg24 : BitVec 32) (v444 : BitVec 32) : Fin 3 → Nat :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let v521 : Index := Scalar.indexCast v451
  let c0_254 : Index := 0#32
  let c0_255 : Index := 0#32
  ![v521.toNat, 0, 0]
def k0_off91 (v1 : BitVec 32) (k0_t4 : Fin (k0_t4_loop v1).trips) : Fin 4 → Nat :=
  let c1_i32_241 : BitVec 32 := 1#32
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_238 : BitVec 32 := 1#32
  let v496 : BitVec 32 := Scalar.addi arg20 c1_i32_238
  let c2_i32_240 : BitVec 32 := 2#32
  let v498 : BitVec 32 := Scalar.remsi v496 c2_i32_240
  let v499 : BitVec 32 := Scalar.subi c1_i32_241 v498
  let v524 : Index := Scalar.indexCast v499
  let c0_256 : Index := 0#32
  let c0_257 : Index := 0#32
  let c0_258 : Index := 0#32
  ![v524.toNat, 0, 0, 0]
def k0_off92 (v1 : BitVec 32) (k0_t4 : Fin (k0_t4_loop v1).trips) : Fin 4 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_238 : BitVec 32 := 1#32
  let v496 : BitVec 32 := Scalar.addi arg20 c1_i32_238
  let c2_i32_240 : BitVec 32 := 2#32
  let v498 : BitVec 32 := Scalar.remsi v496 c2_i32_240
  let v532 : Index := Scalar.indexCast v498
  let c0_260 : Index := 0#32
  let c0_261 : Index := 0#32
  let c0_262 : Index := 0#32
  ![v532.toNat, 0, 0, 0]
def k0_off93 (v1 : BitVec 32) (k0_t4 : Fin (k0_t4_loop v1).trips) : Fin 3 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_238 : BitVec 32 := 1#32
  let v496 : BitVec 32 := Scalar.addi arg20 c1_i32_238
  let c4_i32_239 : BitVec 32 := 4#32
  let v497 : BitVec 32 := Scalar.remsi v496 c4_i32_239
  let v544 : Index := Scalar.indexCast v497
  let c256_267 : Index := 256#32
  let c0_268 : Index := 0#32
  ![v544.toNat, 256, 0]
def k0_off94 (arg23 : BitVec 32) (arg24 : BitVec 32) (v444 : BitVec 32) : Fin 4 → Nat :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let v547 : Index := Scalar.indexCast v451
  let c1_269 : Index := 1#32
  let c0_270 : Index := 0#32
  let c0_271 : Index := 0#32
  ![v547.toNat, 1, 0, 0]
def k0_off95 (v1 : BitVec 32) (k0_t4 : Fin (k0_t4_loop v1).trips) : Fin 4 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_238 : BitVec 32 := 1#32
  let v496 : BitVec 32 := Scalar.addi arg20 c1_i32_238
  let c2_i32_240 : BitVec 32 := 2#32
  let v498 : BitVec 32 := Scalar.remsi v496 c2_i32_240
  let v553 : Index := Scalar.indexCast v498
  let c1_274 : Index := 1#32
  let c0_275 : Index := 0#32
  let c0_276 : Index := 0#32
  ![v553.toNat, 1, 0, 0]
def k0_off96 (arg23 : BitVec 32) (arg24 : BitVec 32) (v444 : BitVec 32) : Fin 3 → Nat :=
  let c1_i32_204 : BitVec 32 := 1#32
  let v442 : BitVec 32 := Scalar.addi arg24 c1_i32_204
  let c2047_i32_205 : BitVec 32 := 2047#32
  let v445 : BitVec 32 := Scalar.addi v444 c2047_i32_205
  let c2048_i32_206 : BitVec 32 := 2048#32
  let v446 : BitVec 32 := Scalar.divsi v445 c2048_i32_206
  let c1_i32_207 : BitVec 32 := 1#32
  let v447 : BitVec 32 := Scalar.maxsi v446 c1_i32_207
  let v448 : BitVec 1 := Scalar.cmpi .sge v442 v447
  let c1_i32_208 : BitVec 32 := 1#32
  let v449 : BitVec 32 := Scalar.addi arg23 c1_i32_208
  let c15_i32_209 : BitVec 32 := 15#32
  let v450 : BitVec 32 := Scalar.minsi v449 c15_i32_209
  let v451 : BitVec 32 := Scalar.select v448 v450 arg23
  let v558 : Index := Scalar.indexCast v451
  let c16_278 : Index := 16#32
  let c0_279 : Index := 0#32
  ![v558.toNat, 16, 0]

def k0_chk21 (v1 : BitVec 32) (k0_t4 : Fin (k0_t4_loop v1).trips) (arg23 : BitVec 32) (arg24 : BitVec 32) (v444 : BitVec 32) : Prop :=
  (∀ (k0_h8 : k0_cond8 v1 k0_t4 = 1#1), ∀ a, (k0_off78 arg23 arg24 v444) a + S1.size a ≤ S16.size a) ∧
  (∀ (k0_h8 : k0_cond8 v1 k0_t4 = 1#1), 2048 ∣ (k0_mult18 arg24 v444).toNat) ∧
  (∀ a, (k0_off86 arg23 arg24 v444) a + S1.size a ≤ S16.size a) ∧
  (∀ a, (k0_off88 arg23 arg24 v444) a + S1x1x16x256.size a ≤ S16x2x16x256.size a) ∧
  (∀ a, (k0_off90 arg23 arg24 v444) a + S1x16x128.size a ≤ S16x32x128.size a) ∧
  (∀ a, (k0_off94 arg23 arg24 v444) a + S1x1x16x256.size a ≤ S16x2x16x256.size a) ∧
  (∀ a, (k0_off96 arg23 arg24 v444) a + S1x16x128.size a ≤ S16x32x128.size a)
theorem k0_off78_inb : ∀ (v1 : BitVec 32) (k0_t4 : Fin (k0_t4_loop v1).trips) (arg23 : BitVec 32) (arg24 : BitVec 32) (v444 : BitVec 32) (k0_hw21 : k0_chk21 v1 k0_t4 arg23 arg24 v444), ∀ (k0_h8 : k0_cond8 v1 k0_t4 = 1#1), ∀ a, (k0_off78 arg23 arg24 v444) a + S1.size a ≤ S16.size a := fun v1 k0_t4 arg23 arg24 v444 k0_hw21 k0_h8 => k0_hw21.1 k0_h8
theorem k0_mult18_dvd : ∀ (v1 : BitVec 32) (k0_t4 : Fin (k0_t4_loop v1).trips) (arg23 : BitVec 32) (arg24 : BitVec 32) (v444 : BitVec 32) (k0_hw21 : k0_chk21 v1 k0_t4 arg23 arg24 v444), ∀ (k0_h8 : k0_cond8 v1 k0_t4 = 1#1), 2048 ∣ (k0_mult18 arg24 v444).toNat := fun v1 k0_t4 arg23 arg24 v444 k0_hw21 k0_h8 => k0_hw21.2.1 k0_h8
theorem k0_off86_inb : ∀ (v1 : BitVec 32) (k0_t4 : Fin (k0_t4_loop v1).trips) (arg23 : BitVec 32) (arg24 : BitVec 32) (v444 : BitVec 32) (k0_hw21 : k0_chk21 v1 k0_t4 arg23 arg24 v444), ∀ a, (k0_off86 arg23 arg24 v444) a + S1.size a ≤ S16.size a := fun v1 k0_t4 arg23 arg24 v444 k0_hw21 => k0_hw21.2.2.1
theorem k0_off88_inb : ∀ (v1 : BitVec 32) (k0_t4 : Fin (k0_t4_loop v1).trips) (arg23 : BitVec 32) (arg24 : BitVec 32) (v444 : BitVec 32) (k0_hw21 : k0_chk21 v1 k0_t4 arg23 arg24 v444), ∀ a, (k0_off88 arg23 arg24 v444) a + S1x1x16x256.size a ≤ S16x2x16x256.size a := fun v1 k0_t4 arg23 arg24 v444 k0_hw21 => k0_hw21.2.2.2.1
theorem k0_off90_inb : ∀ (v1 : BitVec 32) (k0_t4 : Fin (k0_t4_loop v1).trips) (arg23 : BitVec 32) (arg24 : BitVec 32) (v444 : BitVec 32) (k0_hw21 : k0_chk21 v1 k0_t4 arg23 arg24 v444), ∀ a, (k0_off90 arg23 arg24 v444) a + S1x16x128.size a ≤ S16x32x128.size a := fun v1 k0_t4 arg23 arg24 v444 k0_hw21 => k0_hw21.2.2.2.2.1
theorem k0_off94_inb : ∀ (v1 : BitVec 32) (k0_t4 : Fin (k0_t4_loop v1).trips) (arg23 : BitVec 32) (arg24 : BitVec 32) (v444 : BitVec 32) (k0_hw21 : k0_chk21 v1 k0_t4 arg23 arg24 v444), ∀ a, (k0_off94 arg23 arg24 v444) a + S1x1x16x256.size a ≤ S16x2x16x256.size a := fun v1 k0_t4 arg23 arg24 v444 k0_hw21 => k0_hw21.2.2.2.2.2.1
theorem k0_off96_inb : ∀ (v1 : BitVec 32) (k0_t4 : Fin (k0_t4_loop v1).trips) (arg23 : BitVec 32) (arg24 : BitVec 32) (v444 : BitVec 32) (k0_hw21 : k0_chk21 v1 k0_t4 arg23 arg24 v444), ∀ a, (k0_off96 arg23 arg24 v444) a + S1x16x128.size a ≤ S16x32x128.size a := fun v1 k0_t4 arg23 arg24 v444 k0_hw21 => k0_hw21.2.2.2.2.2.2

def k0_off97 (v1 : BitVec 32) (k0_t4 : Fin (k0_t4_loop v1).trips) : Fin 4 → Nat :=
  let c1_i32_241 : BitVec 32 := 1#32
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_238 : BitVec 32 := 1#32
  let v496 : BitVec 32 := Scalar.addi arg20 c1_i32_238
  let c2_i32_240 : BitVec 32 := 2#32
  let v498 : BitVec 32 := Scalar.remsi v496 c2_i32_240
  let v499 : BitVec 32 := Scalar.subi c1_i32_241 v498
  let v561 : Index := Scalar.indexCast v499
  let c1_280 : Index := 1#32
  let c0_281 : Index := 0#32
  let c0_282 : Index := 0#32
  ![v561.toNat, 1, 0, 0]
def k0_off98 (v1 : BitVec 32) (k0_t4 : Fin (k0_t4_loop v1).trips) : Fin 4 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c1_i32_238 : BitVec 32 := 1#32
  let v496 : BitVec 32 := Scalar.addi arg20 c1_i32_238
  let c2_i32_240 : BitVec 32 := 2#32
  let v498 : BitVec 32 := Scalar.remsi v496 c2_i32_240
  let v569 : Index := Scalar.indexCast v498
  let c1_284 : Index := 1#32
  let c0_285 : Index := 0#32
  let c0_286 : Index := 0#32
  ![v569.toNat, 1, 0, 0]
def k0_off99 (v1 : BitVec 32) (k0_t4 : Fin (k0_t4_loop v1).trips) : Fin 4 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c2_i32_292 : BitVec 32 := 2#32
  let v582 : BitVec 32 := Scalar.remsi arg20 c2_i32_292
  let v583 : Index := Scalar.indexCast v582
  let c0_293 : Index := 0#32
  let c0_294 : Index := 0#32
  let c0_295 : Index := 0#32
  ![v583.toNat, 0, 0, 0]
def k0_off100 (v1 : BitVec 32) (k0_t4 : Fin (k0_t4_loop v1).trips) : Fin 4 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c2_i32_292 : BitVec 32 := 2#32
  let v582 : BitVec 32 := Scalar.remsi arg20 c2_i32_292
  let v589 : Index := Scalar.indexCast v582
  let c0_299 : Index := 0#32
  let c0_300 : Index := 0#32
  let c0_301 : Index := 0#32
  ![v589.toNat, 0, 0, 0]
def k0_off101 (v1 : BitVec 32) (k0_t4 : Fin (k0_t4_loop v1).trips) : Fin 3 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_291 : BitVec 32 := 4#32
  let v581 : BitVec 32 := Scalar.remsi arg20 c4_i32_291
  let v639 : Index := Scalar.indexCast v581
  let c0_311 : Index := 0#32
  let c0_312 : Index := 0#32
  ![v639.toNat, 0, 0]
def k0_off102 (v1 : BitVec 32) (k0_t4 : Fin (k0_t4_loop v1).trips) : Fin 4 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c2_i32_292 : BitVec 32 := 2#32
  let v582 : BitVec 32 := Scalar.remsi arg20 c2_i32_292
  let v656 : Index := Scalar.indexCast v582
  let c1_322 : Index := 1#32
  let c0_323 : Index := 0#32
  let c0_324 : Index := 0#32
  ![v656.toNat, 1, 0, 0]
def k0_off103 (v1 : BitVec 32) (k0_t4 : Fin (k0_t4_loop v1).trips) : Fin 4 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c2_i32_292 : BitVec 32 := 2#32
  let v582 : BitVec 32 := Scalar.remsi arg20 c2_i32_292
  let v662 : Index := Scalar.indexCast v582
  let c1_328 : Index := 1#32
  let c0_329 : Index := 0#32
  let c0_330 : Index := 0#32
  ![v662.toNat, 1, 0, 0]
def k0_off104 (v1 : BitVec 32) (k0_t4 : Fin (k0_t4_loop v1).trips) : Fin 3 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c4_i32_291 : BitVec 32 := 4#32
  let v581 : BitVec 32 := Scalar.remsi arg20 c4_i32_291
  let v712 : Index := Scalar.indexCast v581
  let c256_340 : Index := 256#32
  let c0_341 : Index := 0#32
  ![v712.toNat, 256, 0]

def k0_chk7_0 (v1 : BitVec 32) : Prop :=
  ((k0_t3_loop v1).OK) ∧
  (∀ k0_t3 : Fin (k0_t3_loop v1).trips, ∀ (k0_h4 : k0_cond4 v1 k0_t3 = 1#1), ∀ a, (k0_off33 v1 k0_t3) a + S1.size a ≤ S4.size a) ∧
  (∀ k0_t3 : Fin (k0_t3_loop v1).trips, ∀ (k0_h5 : k0_cond5 v1 k0_t3 = 1#1), ∀ a, (k0_off38 v1 k0_t3) a + S1.size a ≤ S4.size a) ∧
  (∀ k0_t3 : Fin (k0_t3_loop v1).trips, ∀ a, (k0_off42 v1 k0_t3) a + S1.size a ≤ S4.size a) ∧
  (∀ k0_t3 : Fin (k0_t3_loop v1).trips, ∀ a, (k0_off46 v1 k0_t3) a + S1x256x2048.size a ≤ S4x512x2048.size a) ∧
  (∀ k0_t3 : Fin (k0_t3_loop v1).trips, ∀ a, (k0_off48 v1 k0_t3) a + S1x1x16x2048.size a ≤ S2x2x16x2048.size a) ∧
  (∀ k0_t3 : Fin (k0_t3_loop v1).trips, ∀ a, (k0_off50 v1 k0_t3) a + S1x1x16x128.size a ≤ S2x2x16x128.size a) ∧
  (∀ k0_t3 : Fin (k0_t3_loop v1).trips, ∀ a, (k0_off51 v1 k0_t3) a + S1x1x16x128.size a ≤ S2x2x16x128.size a) ∧
  (∀ k0_t3 : Fin (k0_t3_loop v1).trips, ∀ a, (k0_off52 v1 k0_t3) a + S1x256x2048.size a ≤ S4x512x2048.size a) ∧
  (∀ k0_t3 : Fin (k0_t3_loop v1).trips, ∀ a, (k0_off54 v1 k0_t3) a + S1x1x16x2048.size a ≤ S2x2x16x2048.size a) ∧
  (∀ k0_t3 : Fin (k0_t3_loop v1).trips, ∀ a, (k0_off56 v1 k0_t3) a + S1x1x16x128.size a ≤ S2x2x16x128.size a) ∧
  (∀ k0_t3 : Fin (k0_t3_loop v1).trips, ∀ a, (k0_off57 v1 k0_t3) a + S1x1x16x128.size a ≤ S2x2x16x128.size a) ∧
  (∀ k0_t3 : Fin (k0_t3_loop v1).trips, ∀ a, (k0_off58 v1 k0_t3) a + S1x1x16x128.size a ≤ S2x2x16x128.size a) ∧
  (∀ k0_t3 : Fin (k0_t3_loop v1).trips, ∀ a, (k0_off59 v1 k0_t3) a + S1x1x16x2048.size a ≤ S2x2x16x2048.size a) ∧
  (∀ k0_t3 : Fin (k0_t3_loop v1).trips, ∀ a, (k0_off60 v1 k0_t3) a + S1x256x2048.size a ≤ S4x512x2048.size a) ∧
  (∀ k0_t3 : Fin (k0_t3_loop v1).trips, ∀ a, (k0_off61 v1 k0_t3) a + S1x1x16x128.size a ≤ S2x2x16x128.size a) ∧
  (∀ k0_t3 : Fin (k0_t3_loop v1).trips, ∀ a, (k0_off62 v1 k0_t3) a + S1x1x16x2048.size a ≤ S2x2x16x2048.size a) ∧
  (∀ k0_t3 : Fin (k0_t3_loop v1).trips, ∀ a, (k0_off63 v1 k0_t3) a + S1x256x2048.size a ≤ S4x512x2048.size a) ∧
  ((k0_t4_loop v1).OK) ∧
  (∀ k0_t4 : Fin (k0_t4_loop v1).trips, ∀ (k0_h7 : k0_cond7 v1 k0_t4 = 1#1), ∀ a, (k0_off74 v1 k0_t4) a + S1.size a ≤ S4.size a) ∧
  (∀ k0_t4 : Fin (k0_t4_loop v1).trips, ∀ (k0_h8 : k0_cond8 v1 k0_t4 = 1#1), ∀ a, (k0_off79 v1 k0_t4) a + S1.size a ≤ S4.size a) ∧
  (∀ k0_t4 : Fin (k0_t4_loop v1).trips, ∀ a, (k0_off83 v1 k0_t4) a + S1.size a ≤ S4.size a) ∧
  (∀ k0_t4 : Fin (k0_t4_loop v1).trips, ∀ a, (k0_off87 v1 k0_t4) a + S1x256x2048.size a ≤ S4x512x2048.size a) ∧
  (∀ k0_t4 : Fin (k0_t4_loop v1).trips, ∀ a, (k0_off89 v1 k0_t4) a + S1x1x16x2048.size a ≤ S2x2x16x2048.size a) ∧
  (∀ k0_t4 : Fin (k0_t4_loop v1).trips, ∀ a, (k0_off91 v1 k0_t4) a + S1x1x16x128.size a ≤ S2x2x16x128.size a) ∧
  (∀ k0_t4 : Fin (k0_t4_loop v1).trips, ∀ a, (k0_off92 v1 k0_t4) a + S1x1x16x128.size a ≤ S2x2x16x128.size a) ∧
  (∀ k0_t4 : Fin (k0_t4_loop v1).trips, ∀ a, (k0_off93 v1 k0_t4) a + S1x256x2048.size a ≤ S4x512x2048.size a) ∧
  (∀ k0_t4 : Fin (k0_t4_loop v1).trips, ∀ a, (k0_off95 v1 k0_t4) a + S1x1x16x2048.size a ≤ S2x2x16x2048.size a) ∧
  (∀ k0_t4 : Fin (k0_t4_loop v1).trips, ∀ a, (k0_off97 v1 k0_t4) a + S1x1x16x128.size a ≤ S2x2x16x128.size a) ∧
  (∀ k0_t4 : Fin (k0_t4_loop v1).trips, ∀ a, (k0_off98 v1 k0_t4) a + S1x1x16x128.size a ≤ S2x2x16x128.size a) ∧
  (∀ k0_t4 : Fin (k0_t4_loop v1).trips, ∀ a, (k0_off99 v1 k0_t4) a + S1x1x16x128.size a ≤ S2x2x16x128.size a) ∧
  (∀ k0_t4 : Fin (k0_t4_loop v1).trips, ∀ a, (k0_off100 v1 k0_t4) a + S1x1x16x2048.size a ≤ S2x2x16x2048.size a)
def k0_chk7_1 (v1 : BitVec 32) : Prop :=
  (∀ k0_t4 : Fin (k0_t4_loop v1).trips, ∀ a, (k0_off101 v1 k0_t4) a + S1x256x2048.size a ≤ S4x512x2048.size a) ∧
  (∀ k0_t4 : Fin (k0_t4_loop v1).trips, ∀ a, (k0_off102 v1 k0_t4) a + S1x1x16x128.size a ≤ S2x2x16x128.size a) ∧
  (∀ k0_t4 : Fin (k0_t4_loop v1).trips, ∀ a, (k0_off103 v1 k0_t4) a + S1x1x16x2048.size a ≤ S2x2x16x2048.size a) ∧
  (∀ k0_t4 : Fin (k0_t4_loop v1).trips, ∀ a, (k0_off104 v1 k0_t4) a + S1x256x2048.size a ≤ S4x512x2048.size a)
def k0_chk7 (v1 : BitVec 32) : Prop :=
  k0_chk7_0 v1 ∧
  k0_chk7_1 v1
theorem k0_t3_ok : ∀ (v1 : BitVec 32) (k0_hw7 : k0_chk7 v1), (k0_t3_loop v1).OK := fun v1 k0_hw7 => k0_hw7.1.1
theorem k0_off33_inb : ∀ (v1 : BitVec 32) (k0_hw7 : k0_chk7 v1) (k0_t3 : Fin (k0_t3_loop v1).trips), ∀ (k0_h4 : k0_cond4 v1 k0_t3 = 1#1), ∀ a, (k0_off33 v1 k0_t3) a + S1.size a ≤ S4.size a := fun v1 k0_hw7 k0_t3 k0_h4 => k0_hw7.1.2.1 k0_t3 k0_h4
theorem k0_off38_inb : ∀ (v1 : BitVec 32) (k0_hw7 : k0_chk7 v1) (k0_t3 : Fin (k0_t3_loop v1).trips), ∀ (k0_h5 : k0_cond5 v1 k0_t3 = 1#1), ∀ a, (k0_off38 v1 k0_t3) a + S1.size a ≤ S4.size a := fun v1 k0_hw7 k0_t3 k0_h5 => k0_hw7.1.2.2.1 k0_t3 k0_h5
theorem k0_off42_inb : ∀ (v1 : BitVec 32) (k0_hw7 : k0_chk7 v1) (k0_t3 : Fin (k0_t3_loop v1).trips), ∀ a, (k0_off42 v1 k0_t3) a + S1.size a ≤ S4.size a := fun v1 k0_hw7 k0_t3 => k0_hw7.1.2.2.2.1 k0_t3
theorem k0_off46_inb : ∀ (v1 : BitVec 32) (k0_hw7 : k0_chk7 v1) (k0_t3 : Fin (k0_t3_loop v1).trips), ∀ a, (k0_off46 v1 k0_t3) a + S1x256x2048.size a ≤ S4x512x2048.size a := fun v1 k0_hw7 k0_t3 => k0_hw7.1.2.2.2.2.1 k0_t3
theorem k0_off48_inb : ∀ (v1 : BitVec 32) (k0_hw7 : k0_chk7 v1) (k0_t3 : Fin (k0_t3_loop v1).trips), ∀ a, (k0_off48 v1 k0_t3) a + S1x1x16x2048.size a ≤ S2x2x16x2048.size a := fun v1 k0_hw7 k0_t3 => k0_hw7.1.2.2.2.2.2.1 k0_t3
theorem k0_off50_inb : ∀ (v1 : BitVec 32) (k0_hw7 : k0_chk7 v1) (k0_t3 : Fin (k0_t3_loop v1).trips), ∀ a, (k0_off50 v1 k0_t3) a + S1x1x16x128.size a ≤ S2x2x16x128.size a := fun v1 k0_hw7 k0_t3 => k0_hw7.1.2.2.2.2.2.2.1 k0_t3
theorem k0_off51_inb : ∀ (v1 : BitVec 32) (k0_hw7 : k0_chk7 v1) (k0_t3 : Fin (k0_t3_loop v1).trips), ∀ a, (k0_off51 v1 k0_t3) a + S1x1x16x128.size a ≤ S2x2x16x128.size a := fun v1 k0_hw7 k0_t3 => k0_hw7.1.2.2.2.2.2.2.2.1 k0_t3
theorem k0_off52_inb : ∀ (v1 : BitVec 32) (k0_hw7 : k0_chk7 v1) (k0_t3 : Fin (k0_t3_loop v1).trips), ∀ a, (k0_off52 v1 k0_t3) a + S1x256x2048.size a ≤ S4x512x2048.size a := fun v1 k0_hw7 k0_t3 => k0_hw7.1.2.2.2.2.2.2.2.2.1 k0_t3
theorem k0_off54_inb : ∀ (v1 : BitVec 32) (k0_hw7 : k0_chk7 v1) (k0_t3 : Fin (k0_t3_loop v1).trips), ∀ a, (k0_off54 v1 k0_t3) a + S1x1x16x2048.size a ≤ S2x2x16x2048.size a := fun v1 k0_hw7 k0_t3 => k0_hw7.1.2.2.2.2.2.2.2.2.2.1 k0_t3
theorem k0_off56_inb : ∀ (v1 : BitVec 32) (k0_hw7 : k0_chk7 v1) (k0_t3 : Fin (k0_t3_loop v1).trips), ∀ a, (k0_off56 v1 k0_t3) a + S1x1x16x128.size a ≤ S2x2x16x128.size a := fun v1 k0_hw7 k0_t3 => k0_hw7.1.2.2.2.2.2.2.2.2.2.2.1 k0_t3
theorem k0_off57_inb : ∀ (v1 : BitVec 32) (k0_hw7 : k0_chk7 v1) (k0_t3 : Fin (k0_t3_loop v1).trips), ∀ a, (k0_off57 v1 k0_t3) a + S1x1x16x128.size a ≤ S2x2x16x128.size a := fun v1 k0_hw7 k0_t3 => k0_hw7.1.2.2.2.2.2.2.2.2.2.2.2.1 k0_t3
theorem k0_off58_inb : ∀ (v1 : BitVec 32) (k0_hw7 : k0_chk7 v1) (k0_t3 : Fin (k0_t3_loop v1).trips), ∀ a, (k0_off58 v1 k0_t3) a + S1x1x16x128.size a ≤ S2x2x16x128.size a := fun v1 k0_hw7 k0_t3 => k0_hw7.1.2.2.2.2.2.2.2.2.2.2.2.2.1 k0_t3
theorem k0_off59_inb : ∀ (v1 : BitVec 32) (k0_hw7 : k0_chk7 v1) (k0_t3 : Fin (k0_t3_loop v1).trips), ∀ a, (k0_off59 v1 k0_t3) a + S1x1x16x2048.size a ≤ S2x2x16x2048.size a := fun v1 k0_hw7 k0_t3 => k0_hw7.1.2.2.2.2.2.2.2.2.2.2.2.2.2.1 k0_t3
theorem k0_off60_inb : ∀ (v1 : BitVec 32) (k0_hw7 : k0_chk7 v1) (k0_t3 : Fin (k0_t3_loop v1).trips), ∀ a, (k0_off60 v1 k0_t3) a + S1x256x2048.size a ≤ S4x512x2048.size a := fun v1 k0_hw7 k0_t3 => k0_hw7.1.2.2.2.2.2.2.2.2.2.2.2.2.2.2.1 k0_t3
theorem k0_off61_inb : ∀ (v1 : BitVec 32) (k0_hw7 : k0_chk7 v1) (k0_t3 : Fin (k0_t3_loop v1).trips), ∀ a, (k0_off61 v1 k0_t3) a + S1x1x16x128.size a ≤ S2x2x16x128.size a := fun v1 k0_hw7 k0_t3 => k0_hw7.1.2.2.2.2.2.2.2.2.2.2.2.2.2.2.2.1 k0_t3
theorem k0_off62_inb : ∀ (v1 : BitVec 32) (k0_hw7 : k0_chk7 v1) (k0_t3 : Fin (k0_t3_loop v1).trips), ∀ a, (k0_off62 v1 k0_t3) a + S1x1x16x2048.size a ≤ S2x2x16x2048.size a := fun v1 k0_hw7 k0_t3 => k0_hw7.1.2.2.2.2.2.2.2.2.2.2.2.2.2.2.2.2.1 k0_t3
theorem k0_off63_inb : ∀ (v1 : BitVec 32) (k0_hw7 : k0_chk7 v1) (k0_t3 : Fin (k0_t3_loop v1).trips), ∀ a, (k0_off63 v1 k0_t3) a + S1x256x2048.size a ≤ S4x512x2048.size a := fun v1 k0_hw7 k0_t3 => k0_hw7.1.2.2.2.2.2.2.2.2.2.2.2.2.2.2.2.2.2.1 k0_t3
theorem k0_t4_ok : ∀ (v1 : BitVec 32) (k0_hw7 : k0_chk7 v1), (k0_t4_loop v1).OK := fun v1 k0_hw7 => k0_hw7.1.2.2.2.2.2.2.2.2.2.2.2.2.2.2.2.2.2.2.1
theorem k0_off74_inb : ∀ (v1 : BitVec 32) (k0_hw7 : k0_chk7 v1) (k0_t4 : Fin (k0_t4_loop v1).trips), ∀ (k0_h7 : k0_cond7 v1 k0_t4 = 1#1), ∀ a, (k0_off74 v1 k0_t4) a + S1.size a ≤ S4.size a := fun v1 k0_hw7 k0_t4 k0_h7 => k0_hw7.1.2.2.2.2.2.2.2.2.2.2.2.2.2.2.2.2.2.2.2.1 k0_t4 k0_h7
theorem k0_off79_inb : ∀ (v1 : BitVec 32) (k0_hw7 : k0_chk7 v1) (k0_t4 : Fin (k0_t4_loop v1).trips), ∀ (k0_h8 : k0_cond8 v1 k0_t4 = 1#1), ∀ a, (k0_off79 v1 k0_t4) a + S1.size a ≤ S4.size a := fun v1 k0_hw7 k0_t4 k0_h8 => k0_hw7.1.2.2.2.2.2.2.2.2.2.2.2.2.2.2.2.2.2.2.2.2.1 k0_t4 k0_h8
theorem k0_off83_inb : ∀ (v1 : BitVec 32) (k0_hw7 : k0_chk7 v1) (k0_t4 : Fin (k0_t4_loop v1).trips), ∀ a, (k0_off83 v1 k0_t4) a + S1.size a ≤ S4.size a := fun v1 k0_hw7 k0_t4 => k0_hw7.1.2.2.2.2.2.2.2.2.2.2.2.2.2.2.2.2.2.2.2.2.2.1 k0_t4
theorem k0_off87_inb : ∀ (v1 : BitVec 32) (k0_hw7 : k0_chk7 v1) (k0_t4 : Fin (k0_t4_loop v1).trips), ∀ a, (k0_off87 v1 k0_t4) a + S1x256x2048.size a ≤ S4x512x2048.size a := fun v1 k0_hw7 k0_t4 => k0_hw7.1.2.2.2.2.2.2.2.2.2.2.2.2.2.2.2.2.2.2.2.2.2.2.1 k0_t4
theorem k0_off89_inb : ∀ (v1 : BitVec 32) (k0_hw7 : k0_chk7 v1) (k0_t4 : Fin (k0_t4_loop v1).trips), ∀ a, (k0_off89 v1 k0_t4) a + S1x1x16x2048.size a ≤ S2x2x16x2048.size a := fun v1 k0_hw7 k0_t4 => k0_hw7.1.2.2.2.2.2.2.2.2.2.2.2.2.2.2.2.2.2.2.2.2.2.2.2.1 k0_t4
theorem k0_off91_inb : ∀ (v1 : BitVec 32) (k0_hw7 : k0_chk7 v1) (k0_t4 : Fin (k0_t4_loop v1).trips), ∀ a, (k0_off91 v1 k0_t4) a + S1x1x16x128.size a ≤ S2x2x16x128.size a := fun v1 k0_hw7 k0_t4 => k0_hw7.1.2.2.2.2.2.2.2.2.2.2.2.2.2.2.2.2.2.2.2.2.2.2.2.2.1 k0_t4
theorem k0_off92_inb : ∀ (v1 : BitVec 32) (k0_hw7 : k0_chk7 v1) (k0_t4 : Fin (k0_t4_loop v1).trips), ∀ a, (k0_off92 v1 k0_t4) a + S1x1x16x128.size a ≤ S2x2x16x128.size a := fun v1 k0_hw7 k0_t4 => k0_hw7.1.2.2.2.2.2.2.2.2.2.2.2.2.2.2.2.2.2.2.2.2.2.2.2.2.2.1 k0_t4
theorem k0_off93_inb : ∀ (v1 : BitVec 32) (k0_hw7 : k0_chk7 v1) (k0_t4 : Fin (k0_t4_loop v1).trips), ∀ a, (k0_off93 v1 k0_t4) a + S1x256x2048.size a ≤ S4x512x2048.size a := fun v1 k0_hw7 k0_t4 => k0_hw7.1.2.2.2.2.2.2.2.2.2.2.2.2.2.2.2.2.2.2.2.2.2.2.2.2.2.2.1 k0_t4
theorem k0_off95_inb : ∀ (v1 : BitVec 32) (k0_hw7 : k0_chk7 v1) (k0_t4 : Fin (k0_t4_loop v1).trips), ∀ a, (k0_off95 v1 k0_t4) a + S1x1x16x2048.size a ≤ S2x2x16x2048.size a := fun v1 k0_hw7 k0_t4 => k0_hw7.1.2.2.2.2.2.2.2.2.2.2.2.2.2.2.2.2.2.2.2.2.2.2.2.2.2.2.2.1 k0_t4
theorem k0_off97_inb : ∀ (v1 : BitVec 32) (k0_hw7 : k0_chk7 v1) (k0_t4 : Fin (k0_t4_loop v1).trips), ∀ a, (k0_off97 v1 k0_t4) a + S1x1x16x128.size a ≤ S2x2x16x128.size a := fun v1 k0_hw7 k0_t4 => k0_hw7.1.2.2.2.2.2.2.2.2.2.2.2.2.2.2.2.2.2.2.2.2.2.2.2.2.2.2.2.2.1 k0_t4
theorem k0_off98_inb : ∀ (v1 : BitVec 32) (k0_hw7 : k0_chk7 v1) (k0_t4 : Fin (k0_t4_loop v1).trips), ∀ a, (k0_off98 v1 k0_t4) a + S1x1x16x128.size a ≤ S2x2x16x128.size a := fun v1 k0_hw7 k0_t4 => k0_hw7.1.2.2.2.2.2.2.2.2.2.2.2.2.2.2.2.2.2.2.2.2.2.2.2.2.2.2.2.2.2.1 k0_t4
theorem k0_off99_inb : ∀ (v1 : BitVec 32) (k0_hw7 : k0_chk7 v1) (k0_t4 : Fin (k0_t4_loop v1).trips), ∀ a, (k0_off99 v1 k0_t4) a + S1x1x16x128.size a ≤ S2x2x16x128.size a := fun v1 k0_hw7 k0_t4 => k0_hw7.1.2.2.2.2.2.2.2.2.2.2.2.2.2.2.2.2.2.2.2.2.2.2.2.2.2.2.2.2.2.2.1 k0_t4
theorem k0_off100_inb : ∀ (v1 : BitVec 32) (k0_hw7 : k0_chk7 v1) (k0_t4 : Fin (k0_t4_loop v1).trips), ∀ a, (k0_off100 v1 k0_t4) a + S1x1x16x2048.size a ≤ S2x2x16x2048.size a := fun v1 k0_hw7 k0_t4 => k0_hw7.1.2.2.2.2.2.2.2.2.2.2.2.2.2.2.2.2.2.2.2.2.2.2.2.2.2.2.2.2.2.2.2 k0_t4
theorem k0_off101_inb : ∀ (v1 : BitVec 32) (k0_hw7 : k0_chk7 v1) (k0_t4 : Fin (k0_t4_loop v1).trips), ∀ a, (k0_off101 v1 k0_t4) a + S1x256x2048.size a ≤ S4x512x2048.size a := fun v1 k0_hw7 k0_t4 => k0_hw7.2.1 k0_t4
theorem k0_off102_inb : ∀ (v1 : BitVec 32) (k0_hw7 : k0_chk7 v1) (k0_t4 : Fin (k0_t4_loop v1).trips), ∀ a, (k0_off102 v1 k0_t4) a + S1x1x16x128.size a ≤ S2x2x16x128.size a := fun v1 k0_hw7 k0_t4 => k0_hw7.2.2.1 k0_t4
theorem k0_off103_inb : ∀ (v1 : BitVec 32) (k0_hw7 : k0_chk7 v1) (k0_t4 : Fin (k0_t4_loop v1).trips), ∀ a, (k0_off103 v1 k0_t4) a + S1x1x16x2048.size a ≤ S2x2x16x2048.size a := fun v1 k0_hw7 k0_t4 => k0_hw7.2.2.2.1 k0_t4
theorem k0_off104_inb : ∀ (v1 : BitVec 32) (k0_hw7 : k0_chk7 v1) (k0_t4 : Fin (k0_t4_loop v1).trips), ∀ a, (k0_off104 v1 k0_t4) a + S1x256x2048.size a ≤ S4x512x2048.size a := fun v1 k0_hw7 k0_t4 => k0_hw7.2.2.2.2 k0_t4

def k0_off105 (arg23 : BitVec 32) : Fin 1 → Nat :=
  let v730 : Index := Scalar.indexCast arg23
  ![v730.toNat]

def k0_chk17 (arg23 : BitVec 32) : Prop :=
  (∀ a, (k0_off72 arg23) a + S1.size a ≤ S16.size a) ∧
  (∀ a, (k0_off82 arg23) a + S1.size a ≤ S16.size a) ∧
  (∀ a, (k0_off105 arg23) a + S1.size a ≤ S16.size a)
theorem k0_off72_inb : ∀ (arg23 : BitVec 32) (k0_hw17 : k0_chk17 arg23), ∀ a, (k0_off72 arg23) a + S1.size a ≤ S16.size a := fun arg23 k0_hw17 => k0_hw17.1
theorem k0_off82_inb : ∀ (arg23 : BitVec 32) (k0_hw17 : k0_chk17 arg23), ∀ a, (k0_off82 arg23) a + S1.size a ≤ S16.size a := fun arg23 k0_hw17 => k0_hw17.2.1
theorem k0_off105_inb : ∀ (arg23 : BitVec 32) (k0_hw17 : k0_chk17 arg23), ∀ a, (k0_off105 arg23) a + S1.size a ≤ S16.size a := fun arg23 k0_hw17 => k0_hw17.2.2

def k0_off106 (arg23 : BitVec 32) : Fin 3 → Nat :=
  let v739 : Index := Scalar.indexCast arg23
  let c0_357 : Index := 0#32
  let c0_358 : Index := 0#32
  ![v739.toNat, 0, 0]
def k0_cond9 (arg24 : BitVec 32) (v731 : BitVec 32) : BitVec 1 :=
  let c1_i32_351 : BitVec 32 := 1#32
  let v729 : BitVec 32 := Scalar.addi arg24 c1_i32_351
  let c2047_i32_352 : BitVec 32 := 2047#32
  let v732 : BitVec 32 := Scalar.addi v731 c2047_i32_352
  let c2048_i32_353 : BitVec 32 := 2048#32
  let v733 : BitVec 32 := Scalar.divsi v732 c2048_i32_353
  let c1_i32_354 : BitVec 32 := 1#32
  let v734 : BitVec 32 := Scalar.maxsi v733 c1_i32_354
  let v735 : BitVec 1 := Scalar.cmpi .sge v729 v734
  let v736 : BitVec 32 := Scalar.extui v735
  let c0_i32_355 : BitVec 32 := 0#32
  let v737 : BitVec 1 := Scalar.cmpi .ne v736 c0_i32_355
  v737

def k0_off107 (arg23 : BitVec 32) : Fin 3 → Nat :=
  let v743 : Index := Scalar.indexCast arg23
  let c0_360 : Index := 0#32
  let c0_361 : Index := 0#32
  ![v743.toNat, 0, 0]
def k0_off108 (v1 : BitVec 32) (k0_t4 : Fin (k0_t4_loop v1).trips) : Fin 4 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c2_i32_356 : BitVec 32 := 2#32
  let v738 : BitVec 32 := Scalar.remsi arg20 c2_i32_356
  let v746 : Index := Scalar.indexCast v738
  let c0_362 : Index := 0#32
  let c0_363 : Index := 0#32
  let c0_364 : Index := 0#32
  ![v746.toNat, 0, 0, 0]
def k0_off109 (arg23 : BitVec 32) : Fin 3 → Nat :=
  let v783 : Index := Scalar.indexCast arg23
  let c0_375 : Index := 0#32
  let c0_376 : Index := 0#32
  ![v783.toNat, 0, 0]
def k0_off110 (arg23 : BitVec 32) : Fin 3 → Nat :=
  let v787 : Index := Scalar.indexCast arg23
  let c16_377 : Index := 16#32
  let c0_378 : Index := 0#32
  ![v787.toNat, 16, 0]
def k0_off111 (v1 : BitVec 32) (k0_t4 : Fin (k0_t4_loop v1).trips) : Fin 4 → Nat :=
  let c0_i32_198 : BitVec 32 := 0#32
  let v435 : BitVec 32 := Scalar.subi v1 c0_i32_198
  let c1_i32_201 : BitVec 32 := 1#32
  let v437 : BitVec 32 := Scalar.divsi v435 c1_i32_201
  let v438 : BitVec 32 := Scalar.muli v437 c1_i32_201
  let v439 : BitVec 32 := Scalar.addi c0_i32_198 v438
  let c1_i32_203 : BitVec 32 := 1#32
  let arg20 : BitVec 32 := Scf.iv v439 c1_i32_203 k0_t4
  let c2_i32_356 : BitVec 32 := 2#32
  let v738 : BitVec 32 := Scalar.remsi arg20 c2_i32_356
  let v790 : Index := Scalar.indexCast v738
  let c1_379 : Index := 1#32
  let c0_380 : Index := 0#32
  let c0_381 : Index := 0#32
  ![v790.toNat, 1, 0, 0]
def k0_off112 (arg23 : BitVec 32) : Fin 3 → Nat :=
  let v827 : Index := Scalar.indexCast arg23
  let c16_392 : Index := 16#32
  let c0_393 : Index := 0#32
  ![v827.toNat, 16, 0]

def k0_chk25 (v1 : BitVec 32) (k0_t4 : Fin (k0_t4_loop v1).trips) (arg23 : BitVec 32) (arg24 : BitVec 32) (v731 : BitVec 32) : Prop :=
  (∀ (k0_h9 : k0_cond9 arg24 v731 = 1#1), ∀ a, (k0_off106 arg23) a + S1x8x64.size a ≤ S16x8x64.size a) ∧
  (∀ (k0_h9 : k0_cond9 arg24 v731 = 1#1), ∀ a, (k0_off107 arg23) a + S1x16x128.size a ≤ S16x32x128.size a) ∧
  (∀ (k0_h9 : k0_cond9 arg24 v731 = 1#1), ∀ a, (k0_off108 v1 k0_t4) a + S1x1x16x128.size a ≤ S2x2x16x128.size a) ∧
  (∀ (k0_h9 : k0_cond9 arg24 v731 = 1#1), ∀ a, (k0_off109 arg23) a + S1x16x64.size a ≤ S16x32x64.size a) ∧
  (∀ (k0_h9 : k0_cond9 arg24 v731 = 1#1), ∀ (hinb : ∀ a, (k0_off109 arg23) a + S1x16x64.size a ≤ S16x32x64.size a), (Rect.unit (s := S16x32x64) (k0_off109 arg23) S1x16x64.size hinb).PackedRows (EltTy.packing .bf16)) ∧
  (∀ (k0_h9 : k0_cond9 arg24 v731 = 1#1), ∀ a, (k0_off110 arg23) a + S1x16x128.size a ≤ S16x32x128.size a) ∧
  (∀ (k0_h9 : k0_cond9 arg24 v731 = 1#1), ∀ a, (k0_off111 v1 k0_t4) a + S1x1x16x128.size a ≤ S2x2x16x128.size a) ∧
  (∀ (k0_h9 : k0_cond9 arg24 v731 = 1#1), ∀ a, (k0_off112 arg23) a + S1x16x64.size a ≤ S16x32x64.size a) ∧
  (∀ (k0_h9 : k0_cond9 arg24 v731 = 1#1), ∀ (hinb : ∀ a, (k0_off112 arg23) a + S1x16x64.size a ≤ S16x32x64.size a), (Rect.unit (s := S16x32x64) (k0_off112 arg23) S1x16x64.size hinb).PackedRows (EltTy.packing .bf16))
theorem k0_off106_inb : ∀ (v1 : BitVec 32) (k0_t4 : Fin (k0_t4_loop v1).trips) (arg23 : BitVec 32) (arg24 : BitVec 32) (v731 : BitVec 32) (k0_hw25 : k0_chk25 v1 k0_t4 arg23 arg24 v731), ∀ (k0_h9 : k0_cond9 arg24 v731 = 1#1), ∀ a, (k0_off106 arg23) a + S1x8x64.size a ≤ S16x8x64.size a := fun v1 k0_t4 arg23 arg24 v731 k0_hw25 k0_h9 => k0_hw25.1 k0_h9
theorem k0_off107_inb : ∀ (v1 : BitVec 32) (k0_t4 : Fin (k0_t4_loop v1).trips) (arg23 : BitVec 32) (arg24 : BitVec 32) (v731 : BitVec 32) (k0_hw25 : k0_chk25 v1 k0_t4 arg23 arg24 v731), ∀ (k0_h9 : k0_cond9 arg24 v731 = 1#1), ∀ a, (k0_off107 arg23) a + S1x16x128.size a ≤ S16x32x128.size a := fun v1 k0_t4 arg23 arg24 v731 k0_hw25 k0_h9 => k0_hw25.2.1 k0_h9
theorem k0_off108_inb : ∀ (v1 : BitVec 32) (k0_t4 : Fin (k0_t4_loop v1).trips) (arg23 : BitVec 32) (arg24 : BitVec 32) (v731 : BitVec 32) (k0_hw25 : k0_chk25 v1 k0_t4 arg23 arg24 v731), ∀ (k0_h9 : k0_cond9 arg24 v731 = 1#1), ∀ a, (k0_off108 v1 k0_t4) a + S1x1x16x128.size a ≤ S2x2x16x128.size a := fun v1 k0_t4 arg23 arg24 v731 k0_hw25 k0_h9 => k0_hw25.2.2.1 k0_h9
theorem k0_off109_inb : ∀ (v1 : BitVec 32) (k0_t4 : Fin (k0_t4_loop v1).trips) (arg23 : BitVec 32) (arg24 : BitVec 32) (v731 : BitVec 32) (k0_hw25 : k0_chk25 v1 k0_t4 arg23 arg24 v731), ∀ (k0_h9 : k0_cond9 arg24 v731 = 1#1), ∀ a, (k0_off109 arg23) a + S1x16x64.size a ≤ S16x32x64.size a := fun v1 k0_t4 arg23 arg24 v731 k0_hw25 k0_h9 => k0_hw25.2.2.2.1 k0_h9
theorem k0_off109_packedbf16 : ∀ (v1 : BitVec 32) (k0_t4 : Fin (k0_t4_loop v1).trips) (arg23 : BitVec 32) (arg24 : BitVec 32) (v731 : BitVec 32) (k0_hw25 : k0_chk25 v1 k0_t4 arg23 arg24 v731), ∀ (k0_h9 : k0_cond9 arg24 v731 = 1#1), (Rect.unit (s := S16x32x64) (k0_off109 arg23) S1x16x64.size (k0_off109_inb v1 k0_t4 arg23 arg24 v731 k0_hw25 k0_h9)).PackedRows (EltTy.packing .bf16) := fun v1 k0_t4 arg23 arg24 v731 k0_hw25 k0_h9 => k0_hw25.2.2.2.2.1 k0_h9 (k0_off109_inb v1 k0_t4 arg23 arg24 v731 k0_hw25 k0_h9)
theorem k0_off110_inb : ∀ (v1 : BitVec 32) (k0_t4 : Fin (k0_t4_loop v1).trips) (arg23 : BitVec 32) (arg24 : BitVec 32) (v731 : BitVec 32) (k0_hw25 : k0_chk25 v1 k0_t4 arg23 arg24 v731), ∀ (k0_h9 : k0_cond9 arg24 v731 = 1#1), ∀ a, (k0_off110 arg23) a + S1x16x128.size a ≤ S16x32x128.size a := fun v1 k0_t4 arg23 arg24 v731 k0_hw25 k0_h9 => k0_hw25.2.2.2.2.2.1 k0_h9
theorem k0_off111_inb : ∀ (v1 : BitVec 32) (k0_t4 : Fin (k0_t4_loop v1).trips) (arg23 : BitVec 32) (arg24 : BitVec 32) (v731 : BitVec 32) (k0_hw25 : k0_chk25 v1 k0_t4 arg23 arg24 v731), ∀ (k0_h9 : k0_cond9 arg24 v731 = 1#1), ∀ a, (k0_off111 v1 k0_t4) a + S1x1x16x128.size a ≤ S2x2x16x128.size a := fun v1 k0_t4 arg23 arg24 v731 k0_hw25 k0_h9 => k0_hw25.2.2.2.2.2.2.1 k0_h9
theorem k0_off112_inb : ∀ (v1 : BitVec 32) (k0_t4 : Fin (k0_t4_loop v1).trips) (arg23 : BitVec 32) (arg24 : BitVec 32) (v731 : BitVec 32) (k0_hw25 : k0_chk25 v1 k0_t4 arg23 arg24 v731), ∀ (k0_h9 : k0_cond9 arg24 v731 = 1#1), ∀ a, (k0_off112 arg23) a + S1x16x64.size a ≤ S16x32x64.size a := fun v1 k0_t4 arg23 arg24 v731 k0_hw25 k0_h9 => k0_hw25.2.2.2.2.2.2.2.1 k0_h9
theorem k0_off112_packedbf16 : ∀ (v1 : BitVec 32) (k0_t4 : Fin (k0_t4_loop v1).trips) (arg23 : BitVec 32) (arg24 : BitVec 32) (v731 : BitVec 32) (k0_hw25 : k0_chk25 v1 k0_t4 arg23 arg24 v731), ∀ (k0_h9 : k0_cond9 arg24 v731 = 1#1), (Rect.unit (s := S16x32x64) (k0_off112 arg23) S1x16x64.size (k0_off112_inb v1 k0_t4 arg23 arg24 v731 k0_hw25 k0_h9)).PackedRows (EltTy.packing .bf16) := fun v1 k0_t4 arg23 arg24 v731 k0_hw25 k0_h9 => k0_hw25.2.2.2.2.2.2.2.2 k0_h9 (k0_off112_inb v1 k0_t4 arg23 arg24 v731 k0_hw25 k0_h9)

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x8x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x32x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "exp2_scale" => some (((1 / 8) * (Real.log 2)⁻¹ : ℝ) : EReal)
  | _ => none
-- ==== ReferenceIdeal.lean ====
abbrev S16x1x32x64 : Shape := ⟨4, ![16, 1, 32, 64]⟩
abbrev S16x1x8x64 : Shape := ⟨4, ![16, 1, 8, 64]⟩
abbrev S16x32768x8x64 : Shape := ⟨4, ![16, 32768, 8, 64]⟩
abbrev S8 : Shape := ⟨1, ![8]⟩
abbrev S16 : Shape := ⟨1, ![16]⟩
abbrev S16x1x8x4x64 : Shape := ⟨5, ![16, 1, 8, 4, 64]⟩
abbrev S1x1x8x1x1 : Shape := ⟨5, ![1, 1, 8, 1, 1]⟩
abbrev S16x8x32768x1x4 : Shape := ⟨5, ![16, 8, 32768, 1, 4]⟩
abbrev S16x1x8x4x32768 : Shape := ⟨5, ![16, 1, 8, 4, 32768]⟩
abbrev S1x32768 : Shape := ⟨2, ![1, 32768]⟩
abbrev S32768 : Shape := ⟨1, ![32768]⟩
abbrev S16x1 : Shape := ⟨2, ![16, 1]⟩
abbrev S16x32768 : Shape := ⟨2, ![16, 32768]⟩
abbrev S16x1x1x1x32768 : Shape := ⟨5, ![16, 1, 1, 1, 32768]⟩
abbrev S16x8x1x1x4 : Shape := ⟨5, ![16, 8, 1, 1, 4]⟩
abbrev S16x1x8x4x1 : Shape := ⟨5, ![16, 1, 8, 4, 1]⟩
abbrev S1x1 : Shape := ⟨2, ![1, 1]⟩
abbrev S1 : Shape := ⟨1, ![1]⟩
abbrev S1x1x1x1x1 : Shape := ⟨5, ![1, 1, 1, 1, 1]⟩
abbrev S16x1x8x4 : Shape := ⟨4, ![16, 1, 8, 4]⟩
abbrev S16x8x64x1x4 : Shape := ⟨5, ![16, 8, 64, 1, 4]⟩

abbrev nBuf : Space → Nat
  | .hbm => 9
  | .vmem => 9
  | .smem => 0
  | _ => 0

abbrev bufTy : (tb : Table) → Fin (tcTables nBuf tb) → BufTy
  | .hbm, ⟨0, _⟩ => ⟨S16x1x32x64, .bf16⟩
  | .hbm, ⟨1, _⟩ => ⟨S16x1x8x64, .bf16⟩
  | .hbm, ⟨2, _⟩ => ⟨S16x1x8x64, .bf16⟩
  | .hbm, ⟨3, _⟩ => ⟨S16x32768x8x64, .fp8e4m3⟩
  | .hbm, ⟨4, _⟩ => ⟨S16x32768x8x64, .fp8e4m3⟩
  | .hbm, ⟨5, _⟩ => ⟨S8, .f32⟩
  | .hbm, ⟨6, _⟩ => ⟨S8, .f32⟩
  | .hbm, ⟨7, _⟩ => ⟨S16, .i32⟩
  | .hbm, ⟨8, _⟩ => ⟨S16x1x32x64, .bf16⟩
  | .local _ .vmem, ⟨0, _⟩ => ⟨S16x1x32x64, .bf16⟩
  | .local _ .vmem, ⟨1, _⟩ => ⟨S16x1x8x64, .bf16⟩
  | .local _ .vmem, ⟨2, _⟩ => ⟨S16x1x8x64, .bf16⟩
  | .local _ .vmem, ⟨3, _⟩ => ⟨S16x32768x8x64, .fp8e4m3⟩
  | .local _ .vmem, ⟨4, _⟩ => ⟨S16x32768x8x64, .fp8e4m3⟩
  | .local _ .vmem, ⟨5, _⟩ => ⟨S8, .f32⟩
  | .local _ .vmem, ⟨6, _⟩ => ⟨S8, .f32⟩
  | .local _ .vmem, ⟨7, _⟩ => ⟨S16, .i32⟩
  | .local _ .vmem, ⟨8, _⟩ => ⟨S16x1x32x64, .bf16⟩
  | _, _ => ⟨S16x1x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16x1x32x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32768x8x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x32768x8x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1x32x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Lens.lean ====
/- What the precondition says: every sequence length is at most the cache's 32768 rows. -/
module

public import proofs.«01_k».proof.Pre_lens_fit
public import Idealize.ShloMosaic.Lib.ReduceAll

@[expose] public section
noncomputable section
namespace Cert.Lens
open Idealize.ShloMosaic

instance facts : Cert.Pre_lens_fit.Facts where
  bcast_S_S16 := by decide
  reducesTo_S16_S_d0 := by decide
  h_S_ := by decide

/-- The precondition, read at one sequence. -/
theorem le_of {F : FTy → Type} [FloatOps F] {a0 : FVec F Cert.Pre_lens_fit.S16x1x32x64 .bf16} {a1 a2 : FVec F Cert.Pre_lens_fit.S16x1x8x64 .bf16}
    {a3 a4 : FVec F Cert.Pre_lens_fit.S16x32768x8x64 .fp8e4m3} {a5 a6 : FVec F Cert.Pre_lens_fit.S8 .f32} {a7 : IVec Cert.Pre_lens_fit.S16 32}
    (h : Cert.Pre_lens_fit.fn a0 a1 a2 a3 a4 a5 a6 a7 = fun _ => 1#1) (i : Cert.Pre_lens_fit.S16.Idx) : (a7 i).toInt ≤ 32768 :=
  IntOp.cmpi_sle.1 (Host.reduce_andi_all _ _ _ _ (fun a => a.elim0) (congrFun h _) i)

end Cert.Lens
end
-- ==== Proof.K.Base.lean ====
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

abbrev A0 : Memref sig .tc .smem S16 .i32 := Memref.whole cc0_stg0_0
abbrev A1 : Memref sig .tc .smem S8 .f32 := Memref.whole cc0_stg1_0
abbrev A2 : Memref sig .tc .smem S8 .f32 := Memref.whole cc0_stg2_0
abbrev A3 : Memref sig .tc .vmem S16x32x64 .bf16 := Memref.whole cc0_stg3_0
abbrev A4 : Memref sig .tc .vmem S16x8x64 .bf16 := Memref.whole cc0_stg4_0
abbrev A5 : Memref sig .tc .vmem S16x8x64 .bf16 := Memref.whole cc0_stg5_0
abbrev A6 : Memref sig .tc .hbm S16x512x32768 .fp8e4m3 := Memref.whole main_v1
abbrev A7 : Memref sig .tc .hbm S16x512x32768 .fp8e4m3 := Memref.whole main_v3
abbrev A8 : Memref sig .tc .vmem S16x32x64 .bf16 := Memref.whole cc0_stg6_0
abbrev A9 : Memref sig .tc .vmem S4x512x2048 .fp8e4m3 := Memref.whole cc0_scratch0
abbrev A10 : Memref sig .tc .vmem S4x512x2048 .fp8e4m3 := Memref.whole cc0_scratch1
abbrev A11 : Memref sig .tc .vmem S2x2x16x2048 .f32 := Memref.whole cc0_scratch2
abbrev A12 : Memref sig .tc .vmem S16x2x16x256 .bf16 := Memref.whole cc0_scratch3
abbrev A13 : Memref sig .tc .vmem S16x32x128 .f32 := Memref.whole cc0_scratch4
abbrev A14 : Memref sig .tc .vmem S2x2x16x128 .f32 := Memref.whole cc0_scratch5
abbrev A15 : Memref sig .tc .vmem S2x2x16x128 .f32 := Memref.whole cc0_scratch6
abbrev A16 : Memref sig .tc .vmem S2x16x128 .f32 := Memref.whole cc0_scratch7
abbrev A17 : Memref sig .tc .vmem S2x16x256 .f32 := Memref.whole cc0_scratch8

abbrev rd (S : Shape) {e : EltTy} (off size : Fin S.rank → ℕ) (h : ∀ a, off a + size a ≤ S.size a) (f : Vec F S e) : (Rect.unit off size h).shape.Idx → Elt F e :=
  fun i => f ((Rect.unit off size h).emb i)
abbrev wr (S : Shape) {e : EltTy} (off size : Fin S.rank → ℕ) (h : ∀ a, off a + size a ≤ S.size a) (f : Vec F S e) (w : (Rect.unit off size h).shape.Idx → Elt F e) : Vec F S e :=
  updateSlice f w off ⟨rfl, h⟩

theorem readAt_whole (b : Ref sig Kind.tc) (off size : Fin b.ty.shape.rank → Nat) (inb : ∀ a, off a + size a ≤ b.ty.shape.size a) (f : b.ty.Contents (Elt F)) :
    (View.whole b).readAt (Elt F) (Rect.unit off size inb).toLoadRect f = rd b.ty.shape off size inb f := rfl

section Rules
variable (c : Dev nD)

theorem wp_ld {cs : CoreSpace} {S : Shape} {e : EltTy} {m : Memref sig Kind.tc cs S e} {r : LoadRect S} {hl : m.view.LoadsAt r} {q : PosShare TreeShare} {f : Buf (Elt F) (m.view.loc (c : Thread nD τ))}
    {Q : (r.shape.Idx → Elt F e) → sProp 𝕄} (v : r.shape.Idx → Elt F e) (hv : m.view.readAt (Elt F) r f = v) :
    (m.view.loc (c : Thread nD τ) ↦{q} f) ⊢ iprop(((m.view.loc (c : Thread nD τ) ↦{q} f) -∗ Q v)
      -∗ wp frame (wpE (defs₀ (F := F)) Variants.none (c : Thread nD τ) none) Set.univ (Prog.lift (.load m r hl)) Q) := by
  iintro H HQ
  subst hv
  iapply (wp_load (m := m) Variants.none (c : Thread nD τ) none Set.univ (Finset.subset_univ _)) $$ H
  iintro H
  rw [wp_ret]
  imodintro
  iapply HQ
  iexact H

theorem wp_sld {S : Shape} {e : EltTy} {m : Memref sig Kind.tc .smem S e} {r : Rect S} {h1 : r.shape.numel = 1} {hp : e.packing = 1} {q : PosShare TreeShare} {f : Buf (Elt F) (m.view.loc (c : Thread nD τ))}
    {Q : Elt F e → sProp 𝕄} :
    (m.view.loc (c : Thread nD τ) ↦{q} f) ⊢ iprop(((m.view.loc (c : Thread nD τ) ↦{q} f) -∗ Q ((m.access r).read (Elt F) f (Shape.Idx.first (h1.symm ▸ Nat.one_pos))))
      -∗ wp frame (wpE (defs₀ (F := F)) Variants.none (c : Thread nD τ) none) Set.univ (smemLoad m r h1 hp) Q) := by
  iintro H HQ
  unfold smemLoad
  iapply (wp_smemLoadElt (m := m) (r := r) (f := f) Variants.none (c : Thread nD τ) none Set.univ (Finset.subset_univ _)) $$ H
  iintro H
  rw [wp_ret]
  imodintro
  iapply HQ
  iexact H

theorem wp_st {cs : CoreSpace} {S : Shape} {e : EltTy} {m : Memref sig Kind.tc cs S e} {r : Rect S} {w : r.shape.Idx → Elt F e} {hx : (m.access r).Stores Finset.univ} {hm : (Finset.univ : Finset r.shape.Idx) = Finset.univ ∨ ∀ a, r.stride a = 1} {f : Buf (Elt F) (m.view.loc (c : Thread nD τ))}
    {Q : PUnit → sProp 𝕄} (f' : Buf (Elt F) (m.view.loc (c : Thread nD τ))) (hf : (m.access r).write (Elt F) f w Finset.univ = f') :
    (m.view.loc (c : Thread nD τ) ↦{fullShare} f) ⊢ iprop(((m.view.loc (c : Thread nD τ) ↦{fullShare} f') -∗ Q ⟨⟩)
      -∗ wp frame (wpE (defs₀ (F := F)) Variants.none (c : Thread nD τ) none) Set.univ (Prog.lift (.store m r w Finset.univ hx hm)) Q) := by
  iintro H HQ
  subst hf
  iapply (wp_store (m := m) (r := r) (w := w) (f := f) Variants.none (c : Thread nD τ) none Set.univ (Finset.subset_univ _)) $$ H
  iintro H
  rw [wp_ret]
  imodintro
  iapply HQ
  iexact H

end Rules

/-! ## The two rings: slots, fetches and waits -/

/-- The elements of a ring that lie in slot `i`. -/
def slot (i : ℕ) : Finset S4x512x2048.Idx := Finset.univ.filter fun x => (x 0).val = i

/-- What a slot holds after chunk columns `o … o + n` of sequence `b` are copied over it. -/
def fetched {e : EltTy} (X : Vec F S16x512x32768 e) (b o n i : ℕ) (f : Vec F S4x512x2048 e) : Vec F S4x512x2048 e :=
  fun y => if h : (y 0).val = i ∧ (y 2).val < n ∧ b < 16 ∧ o + n ≤ 32768 then
    X (fun a => match a with
      | ⟨0, _⟩ => (⟨b, h.2.2.1⟩ : Fin 16)
      | ⟨1, _⟩ => y 1
      | ⟨2, _⟩ => (⟨o + (y 2).val, by have := h.2.1; have := h.2.2.2; omega⟩ : Fin 32768)) else f y

theorem fetched_eq {i b o n : ℕ}
    {inb3 : ∀ a, (![1, 512, n] : Fin 3 → ℕ) a = 0 ∨ (![i, 0, 0] : Fin 3 → ℕ) a + (![1, 512, n] : Fin 3 → ℕ) a ≤ S4x512x2048.size a}
    {inb4 : ∀ a, (![1, 512, n] : Fin 3 → ℕ) a = 0 ∨ (![b, 0, o] : Fin 3 → ℕ) a + (![1, 512, n] : Fin 3 → ℕ) a ≤ S16x512x32768.size a}
    (hn : 0 < n) {hs3 hs4} {sq : Shape.Squeezes ⟨3, ![1, 512, n]⟩ ⟨2, ![512, n]⟩} (X : Vec F S16x512x32768 .fp8e4m3) (f : Vec F S4x512x2048 .fp8e4m3) :
    (((A9.slice (Rect.unitDyn (s := S4x512x2048) ![i, 0, 0] ![1, 512, n] inb3) hs3).squeeze ⟨2, ![512, n]⟩ sq).view.write (Elt F) f
      (((A6.slice (Rect.unitDyn (s := S16x512x32768) ![b, 0, o] ![1, 512, n] inb4) hs4).squeeze ⟨2, ![512, n]⟩ sq).view.read (Elt F) X) Finset.univ)
      = fetched X b o n i f := by
  have hb : b < 16 := by
    have := inb4 0; simp [S16x512x32768] at this; omega
  have ho : o + n ≤ 32768 := by
    have := inb4 2; simp [S16x512x32768] at this; omega
  funext y
  by_cases h : (y 0).val = i ∧ (y 2).val < n
  · -- an element of the window
    let z : (⟨3, ![1, 512, n]⟩ : Shape).Idx := fun a => match a with
      | ⟨0, _⟩ => (0 : Fin 1)
      | ⟨1, _⟩ => (y 1 : Fin 512)
      | ⟨2, _⟩ => (⟨(y 2).val, h.2⟩ : Fin n)
    obtain ⟨w, hw⟩ := (Shape.reshapeEquiv sq.numel_eq).surjective z
    have ey : y = ((A9.slice (Rect.unitDyn (s := S4x512x2048) ![i, 0, 0] ![1, 512, n] inb3) hs3).squeeze ⟨2, ![512, n]⟩ sq).view.emb w := by
      show y = (Rect.unitDyn (s := S4x512x2048) ![i, 0, 0] ![1, 512, n] inb3).emb (Shape.reshapeEquiv sq.numel_eq w)
      rw [hw]
      funext a
      apply Fin.ext
      fin_cases a
      · show (y 0).val = i + 1 * 0
        omega
      · show (y 1).val = 0 + 1 * (y 1).val
        omega
      · show (y 2).val = 0 + 1 * (y 2).val
        omega
    unfold fetched
    rw [dif_pos ⟨h.1, h.2, hb, ho⟩]
    conv_lhs => rw [ey]
    rw [View.write_emb_of_mem _ _ (Finset.mem_univ _)]
    show X ((Rect.unitDyn (s := S16x512x32768) ![b, 0, o] ![1, 512, n] inb4).emb (Shape.reshapeEquiv sq.numel_eq w)) = _
    rw [hw]
    congr 1
    funext a
    apply Fin.ext
    fin_cases a
    · show b + 1 * 0 = b
      omega
    · show 0 + 1 * (y 1).val = (y 1).val
      omega
    · show o + 1 * (y 2).val = o + (y 2).val
      omega
  · unfold fetched
    rw [dif_neg (fun h' => h ⟨h'.1, h'.2.1⟩)]
    apply View.write_of_not_mem
    intro hm
    obtain ⟨w, -, hw⟩ := Finset.mem_map.mp hm
    apply h
    have e : y = (Rect.unitDyn (s := S4x512x2048) ![i, 0, 0] ![1, 512, n] inb3).emb (Shape.reshapeEquiv sq.numel_eq w) := hw.symm
    generalize Shape.reshapeEquiv sq.numel_eq w = z at e
    have h0 : (z 0).val < 1 := (z 0).isLt
    have h2 : (z 2).val < n := (z 2).isLt
    have e0 : (y 0).val = i + 1 * (z 0).val := by rw [e]; rfl
    have e2 : (y 2).val = 0 + 1 * (z 2).val := by rw [e]; rfl
    omega

theorem fetched_eqV {i b o n : ℕ}
    {inb3 : ∀ a, (![1, 512, n] : Fin 3 → ℕ) a = 0 ∨ (![i, 0, 0] : Fin 3 → ℕ) a + (![1, 512, n] : Fin 3 → ℕ) a ≤ S4x512x2048.size a}
    {inb4 : ∀ a, (![1, 512, n] : Fin 3 → ℕ) a = 0 ∨ (![b, 0, o] : Fin 3 → ℕ) a + (![1, 512, n] : Fin 3 → ℕ) a ≤ S16x512x32768.size a}
    (hn : 0 < n) {hs3 hs4} {sq : Shape.Squeezes ⟨3, ![1, 512, n]⟩ ⟨2, ![512, n]⟩} (X : Vec F S16x512x32768 .fp8e4m3) (f : Vec F S4x512x2048 .fp8e4m3) :
    (((A10.slice (Rect.unitDyn (s := S4x512x2048) ![i, 0, 0] ![1, 512, n] inb3) hs3).squeeze ⟨2, ![512, n]⟩ sq).view.write (Elt F) f
      (((A7.slice (Rect.unitDyn (s := S16x512x32768) ![b, 0, o] ![1, 512, n] inb4) hs4).squeeze ⟨2, ![512, n]⟩ sq).view.read (Elt F) X) Finset.univ)
      = fetched X b o n i f := by
  have hb : b < 16 := by
    have := inb4 0; simp [S16x512x32768] at this; omega
  have ho : o + n ≤ 32768 := by
    have := inb4 2; simp [S16x512x32768] at this; omega
  funext y
  by_cases h : (y 0).val = i ∧ (y 2).val < n
  · -- an element of the window
    let z : (⟨3, ![1, 512, n]⟩ : Shape).Idx := fun a => match a with
      | ⟨0, _⟩ => (0 : Fin 1)
      | ⟨1, _⟩ => (y 1 : Fin 512)
      | ⟨2, _⟩ => (⟨(y 2).val, h.2⟩ : Fin n)
    obtain ⟨w, hw⟩ := (Shape.reshapeEquiv sq.numel_eq).surjective z
    have ey : y = ((A10.slice (Rect.unitDyn (s := S4x512x2048) ![i, 0, 0] ![1, 512, n] inb3) hs3).squeeze ⟨2, ![512, n]⟩ sq).view.emb w := by
      show y = (Rect.unitDyn (s := S4x512x2048) ![i, 0, 0] ![1, 512, n] inb3).emb (Shape.reshapeEquiv sq.numel_eq w)
      rw [hw]
      funext a
      apply Fin.ext
      fin_cases a
      · show (y 0).val = i + 1 * 0
        omega
      · show (y 1).val = 0 + 1 * (y 1).val
        omega
      · show (y 2).val = 0 + 1 * (y 2).val
        omega
    unfold fetched
    rw [dif_pos ⟨h.1, h.2, hb, ho⟩]
    conv_lhs => rw [ey]
    rw [View.write_emb_of_mem _ _ (Finset.mem_univ _)]
    show X ((Rect.unitDyn (s := S16x512x32768) ![b, 0, o] ![1, 512, n] inb4).emb (Shape.reshapeEquiv sq.numel_eq w)) = _
    rw [hw]
    congr 1
    funext a
    apply Fin.ext
    fin_cases a
    · show b + 1 * 0 = b
      omega
    · show 0 + 1 * (y 1).val = (y 1).val
      omega
    · show o + 1 * (y 2).val = o + (y 2).val
      omega
  · unfold fetched
    rw [dif_neg (fun h' => h ⟨h'.1, h'.2.1⟩)]
    apply View.write_of_not_mem
    intro hm
    obtain ⟨w, -, hw⟩ := Finset.mem_map.mp hm
    apply h
    have e : y = (Rect.unitDyn (s := S4x512x2048) ![i, 0, 0] ![1, 512, n] inb3).emb (Shape.reshapeEquiv sq.numel_eq w) := hw.symm
    generalize Shape.reshapeEquiv sq.numel_eq w = z at e
    have h0 : (z 0).val < 1 := (z 0).isLt
    have h2 : (z 2).val < n := (z 2).isLt
    have e0 : (y 0).val = i + 1 * (z 0).val := by rw [e]; rfl
    have e2 : (y 2).val = 0 + 1 * (z 2).val := by rw [e]; rfl
    omega

/-! ## Reading and writing a box of a buffer, its corner given as numbers -/

/-- The box of extents `size` at corner `off`. -/
def gt (S : Shape) {e : EltTy} [hS : Fact (∀ a, 0 < S.size a)] (off size : Fin S.rank → ℕ) (f : Vec F S e) : (⟨S.rank, size⟩ : Shape).Idx → Elt F e :=
  fun i => f (fun a => ⟨(off a + (i a).val) % S.size a, Nat.mod_lt _ (hS.out a)⟩)
/-- The contents with that box replaced. -/
def pt (S : Shape) {e : EltTy} (off size : Fin S.rank → ℕ) (f : Vec F S e) (w : (⟨S.rank, size⟩ : Shape).Idx → Elt F e) : Vec F S e :=
  fun y => if h : ∀ a, off a ≤ (y a).val ∧ (y a).val < off a + size a then w (fun a => ⟨(y a).val - off a, by have := h a; show _ < size a; omega⟩) else f y

instance fS16x32x64 : Fact (∀ a, 0 < S16x32x64.size a) := ⟨by decide⟩
instance fS16x8x64 : Fact (∀ a, 0 < S16x8x64.size a) := ⟨by decide⟩
instance fS4x512x2048 : Fact (∀ a, 0 < S4x512x2048.size a) := ⟨by decide⟩
instance fS2x2x16x2048 : Fact (∀ a, 0 < S2x2x16x2048.size a) := ⟨by decide⟩
instance fS16x2x16x256 : Fact (∀ a, 0 < S16x2x16x256.size a) := ⟨by decide⟩
instance fS16x32x128 : Fact (∀ a, 0 < S16x32x128.size a) := ⟨by decide⟩
instance fS2x2x16x128 : Fact (∀ a, 0 < S2x2x16x128.size a) := ⟨by decide⟩
instance fS2x16x128 : Fact (∀ a, 0 < S2x16x128.size a) := ⟨by decide⟩
instance fS2x16x256 : Fact (∀ a, 0 < S2x16x256.size a) := ⟨by decide⟩

theorem gt_eq {b : Ref sig Kind.tc} [hS : Fact (∀ a, 0 < b.ty.shape.size a)] {off off' size : Fin b.ty.shape.rank → Nat} (h : off = off') (inb : ∀ a, off a + size a ≤ b.ty.shape.size a) (f : b.ty.Contents (Elt F)) :
    (View.whole b).readAt (Elt F) (Rect.unit off size inb).toLoadRect f = gt b.ty.shape off' size f := by
  subst h
  funext i
  show f ((Rect.unit off size inb).emb i) = f _
  congr 1
  funext a
  apply Fin.ext
  show off a + 1 * (i a).val = (off a + (i a).val) % b.ty.shape.size a
  have h1 : (i a).val < size a := (i a).isLt
  have h2 := inb a
  rw [Nat.one_mul, Nat.mod_eq_of_lt (by omega)]
theorem pt_eq {b : Ref sig Kind.tc} {off off' size : Fin b.ty.shape.rank → Nat} (h : off = off') (inb : ∀ a, off a + size a ≤ b.ty.shape.size a) (f : b.ty.Contents (Elt F))
    (w : (Rect.unit off size inb).shape.Idx → Elt F b.ty.elt) :
    ((View.whole b).slice (Rect.unit off size inb)).write (Elt F) f w Finset.univ = pt b.ty.shape off' size f w := by
  subst h
  rw [View.write_whole_slice_unit]
  funext y
  unfold updateSlice pt
  by_cases h : ∀ a, off a ≤ (y a).val ∧ (y a).val < off a + size a
  · refine (dif_pos h).trans (Eq.symm ?_)
    refine (dif_pos h).trans ?_
    rfl
  · refine (dif_neg h).trans (Eq.symm ?_)
    refine (dif_neg h).trans ?_
    rfl

theorem ld3 {off off' size : Fin S16x32x64.rank → ℕ} (h : off = off') {inb : ∀ a, off a + size a ≤ S16x32x64.size a} {f : Vec F S16x32x64 .bf16} :
    A3.view.readAt (Elt F) (Rect.unit (s := S16x32x64) off size inb).toLoadRect f = gt S16x32x64 off' size f := gt_eq (b := cc0_stg3_0) (hS := fS16x32x64) h inb f
theorem ld4 {off off' size : Fin S16x8x64.rank → ℕ} (h : off = off') {inb : ∀ a, off a + size a ≤ S16x8x64.size a} {f : Vec F S16x8x64 .bf16} :
    A4.view.readAt (Elt F) (Rect.unit (s := S16x8x64) off size inb).toLoadRect f = gt S16x8x64 off' size f := gt_eq (b := cc0_stg4_0) (hS := fS16x8x64) h inb f
theorem ld5 {off off' size : Fin S16x8x64.rank → ℕ} (h : off = off') {inb : ∀ a, off a + size a ≤ S16x8x64.size a} {f : Vec F S16x8x64 .bf16} :
    A5.view.readAt (Elt F) (Rect.unit (s := S16x8x64) off size inb).toLoadRect f = gt S16x8x64 off' size f := gt_eq (b := cc0_stg5_0) (hS := fS16x8x64) h inb f
theorem ld8 {off off' size : Fin S16x32x64.rank → ℕ} (h : off = off') {inb : ∀ a, off a + size a ≤ S16x32x64.size a} {f : Vec F S16x32x64 .bf16} :
    A8.view.readAt (Elt F) (Rect.unit (s := S16x32x64) off size inb).toLoadRect f = gt S16x32x64 off' size f := gt_eq (b := cc0_stg6_0) (hS := fS16x32x64) h inb f
theorem st8 {off off' size : Fin S16x32x64.rank → ℕ} (h : off = off') {inb : ∀ a, off a + size a ≤ S16x32x64.size a} {f : Vec F S16x32x64 .bf16} {w : (⟨S16x32x64.rank, size⟩ : Shape).Idx → Elt F .bf16} :
    (A8.access (Rect.unit (s := S16x32x64) off size inb)).write (Elt F) f w Finset.univ = pt S16x32x64 off' size f w := pt_eq (b := cc0_stg6_0) h inb f w
theorem ld9 {off off' size : Fin S4x512x2048.rank → ℕ} (h : off = off') {inb : ∀ a, off a + size a ≤ S4x512x2048.size a} {f : Vec F S4x512x2048 .fp8e4m3} :
    A9.view.readAt (Elt F) (Rect.unit (s := S4x512x2048) off size inb).toLoadRect f = gt S4x512x2048 off' size f := gt_eq (b := cc0_scratch0) (hS := fS4x512x2048) h inb f
theorem ld10 {off off' size : Fin S4x512x2048.rank → ℕ} (h : off = off') {inb : ∀ a, off a + size a ≤ S4x512x2048.size a} {f : Vec F S4x512x2048 .fp8e4m3} :
    A10.view.readAt (Elt F) (Rect.unit (s := S4x512x2048) off size inb).toLoadRect f = gt S4x512x2048 off' size f := gt_eq (b := cc0_scratch1) (hS := fS4x512x2048) h inb f
theorem ld11 {off off' size : Fin S2x2x16x2048.rank → ℕ} (h : off = off') {inb : ∀ a, off a + size a ≤ S2x2x16x2048.size a} {f : Vec F S2x2x16x2048 .f32} :
    A11.view.readAt (Elt F) (Rect.unit (s := S2x2x16x2048) off size inb).toLoadRect f = gt S2x2x16x2048 off' size f := gt_eq (b := cc0_scratch2) (hS := fS2x2x16x2048) h inb f
theorem st11 {off off' size : Fin S2x2x16x2048.rank → ℕ} (h : off = off') {inb : ∀ a, off a + size a ≤ S2x2x16x2048.size a} {f : Vec F S2x2x16x2048 .f32} {w : (⟨S2x2x16x2048.rank, size⟩ : Shape).Idx → Elt F .f32} :
    (A11.access (Rect.unit (s := S2x2x16x2048) off size inb)).write (Elt F) f w Finset.univ = pt S2x2x16x2048 off' size f w := pt_eq (b := cc0_scratch2) h inb f w
theorem ld12 {off off' size : Fin S16x2x16x256.rank → ℕ} (h : off = off') {inb : ∀ a, off a + size a ≤ S16x2x16x256.size a} {f : Vec F S16x2x16x256 .bf16} :
    A12.view.readAt (Elt F) (Rect.unit (s := S16x2x16x256) off size inb).toLoadRect f = gt S16x2x16x256 off' size f := gt_eq (b := cc0_scratch3) (hS := fS16x2x16x256) h inb f
theorem st12 {off off' size : Fin S16x2x16x256.rank → ℕ} (h : off = off') {inb : ∀ a, off a + size a ≤ S16x2x16x256.size a} {f : Vec F S16x2x16x256 .bf16} {w : (⟨S16x2x16x256.rank, size⟩ : Shape).Idx → Elt F .bf16} :
    (A12.access (Rect.unit (s := S16x2x16x256) off size inb)).write (Elt F) f w Finset.univ = pt S16x2x16x256 off' size f w := pt_eq (b := cc0_scratch3) h inb f w
theorem ld13 {off off' size : Fin S16x32x128.rank → ℕ} (h : off = off') {inb : ∀ a, off a + size a ≤ S16x32x128.size a} {f : Vec F S16x32x128 .f32} :
    A13.view.readAt (Elt F) (Rect.unit (s := S16x32x128) off size inb).toLoadRect f = gt S16x32x128 off' size f := gt_eq (b := cc0_scratch4) (hS := fS16x32x128) h inb f
theorem st13 {off off' size : Fin S16x32x128.rank → ℕ} (h : off = off') {inb : ∀ a, off a + size a ≤ S16x32x128.size a} {f : Vec F S16x32x128 .f32} {w : (⟨S16x32x128.rank, size⟩ : Shape).Idx → Elt F .f32} :
    (A13.access (Rect.unit (s := S16x32x128) off size inb)).write (Elt F) f w Finset.univ = pt S16x32x128 off' size f w := pt_eq (b := cc0_scratch4) h inb f w
theorem ld14 {off off' size : Fin S2x2x16x128.rank → ℕ} (h : off = off') {inb : ∀ a, off a + size a ≤ S2x2x16x128.size a} {f : Vec F S2x2x16x128 .f32} :
    A14.view.readAt (Elt F) (Rect.unit (s := S2x2x16x128) off size inb).toLoadRect f = gt S2x2x16x128 off' size f := gt_eq (b := cc0_scratch5) (hS := fS2x2x16x128) h inb f
theorem st14 {off off' size : Fin S2x2x16x128.rank → ℕ} (h : off = off') {inb : ∀ a, off a + size a ≤ S2x2x16x128.size a} {f : Vec F S2x2x16x128 .f32} {w : (⟨S2x2x16x128.rank, size⟩ : Shape).Idx → Elt F .f32} :
    (A14.access (Rect.unit (s := S2x2x16x128) off size inb)).write (Elt F) f w Finset.univ = pt S2x2x16x128 off' size f w := pt_eq (b := cc0_scratch5) h inb f w
theorem ld15 {off off' size : Fin S2x2x16x128.rank → ℕ} (h : off = off') {inb : ∀ a, off a + size a ≤ S2x2x16x128.size a} {f : Vec F S2x2x16x128 .f32} :
    A15.view.readAt (Elt F) (Rect.unit (s := S2x2x16x128) off size inb).toLoadRect f = gt S2x2x16x128 off' size f := gt_eq (b := cc0_scratch6) (hS := fS2x2x16x128) h inb f
theorem st15 {off off' size : Fin S2x2x16x128.rank → ℕ} (h : off = off') {inb : ∀ a, off a + size a ≤ S2x2x16x128.size a} {f : Vec F S2x2x16x128 .f32} {w : (⟨S2x2x16x128.rank, size⟩ : Shape).Idx → Elt F .f32} :
    (A15.access (Rect.unit (s := S2x2x16x128) off size inb)).write (Elt F) f w Finset.univ = pt S2x2x16x128 off' size f w := pt_eq (b := cc0_scratch6) h inb f w
theorem ld16 {off off' size : Fin S2x16x128.rank → ℕ} (h : off = off') {inb : ∀ a, off a + size a ≤ S2x16x128.size a} {f : Vec F S2x16x128 .f32} :
    A16.view.readAt (Elt F) (Rect.unit (s := S2x16x128) off size inb).toLoadRect f = gt S2x16x128 off' size f := gt_eq (b := cc0_scratch7) (hS := fS2x16x128) h inb f
theorem st16 {off off' size : Fin S2x16x128.rank → ℕ} (h : off = off') {inb : ∀ a, off a + size a ≤ S2x16x128.size a} {f : Vec F S2x16x128 .f32} {w : (⟨S2x16x128.rank, size⟩ : Shape).Idx → Elt F .f32} :
    (A16.access (Rect.unit (s := S2x16x128) off size inb)).write (Elt F) f w Finset.univ = pt S2x16x128 off' size f w := pt_eq (b := cc0_scratch7) h inb f w
theorem ld17 {off off' size : Fin S2x16x256.rank → ℕ} (h : off = off') {inb : ∀ a, off a + size a ≤ S2x16x256.size a} {f : Vec F S2x16x256 .f32} :
    A17.view.readAt (Elt F) (Rect.unit (s := S2x16x256) off size inb).toLoadRect f = gt S2x16x256 off' size f := gt_eq (b := cc0_scratch8) (hS := fS2x16x256) h inb f
theorem st17 {off off' size : Fin S2x16x256.rank → ℕ} (h : off = off') {inb : ∀ a, off a + size a ≤ S2x16x256.size a} {f : Vec F S2x16x256 .f32} {w : (⟨S2x16x256.rank, size⟩ : Shape).Idx → Elt F .f32} :
    (A17.access (Rect.unit (s := S2x16x256) off size inb)).write (Elt F) f w Finset.univ = pt S2x16x256 off' size f w := pt_eq (b := cc0_scratch8) h inb f w

end Cert.Kernel.Hand
end
-- ==== Proof.Sched.lean ====
/-
  The schedule of chunks as the kernel computes it in 32-bit words, and the same schedule in natural numbers:
  sequence `b` has `nCh` chunks of 2048 cached columns, the loop walks the chunks of all sixteen sequences in
  order, and every copy moves a whole number of 128-column groups.
-/
module

public import Idealize.ShloMosaic.Lib.WordCmp
public import Idealize.ShloMosaic.PureOps.Float
public import Idealize.ShloMosaic.Lib.Scf

@[expose] public section

namespace Cert.Sched

open Idealize.ShloMosaic

/-! ## Words -/

theorem tdiv_cases (x : ℤ) (y : ℕ) :
    (0 ≤ x ∧ x.tdiv y = x / y) ∨ (x ≤ 0 ∧ x.tdiv y = -((-x) / y)) := by
  rcases le_total 0 x with h | h
  · exact .inl ⟨h, Int.tdiv_eq_ediv_of_nonneg h⟩
  · refine .inr ⟨h, ?_⟩
    rw [← Int.tdiv_eq_ediv_of_nonneg (by omega), Int.neg_tdiv, neg_neg]

theorem sdiv_toInt (x : BitVec 32) {y : ℕ} (hy : 1 < y) (hy' : y < 2 ^ 31) :
    (Scalar.divsi x (BitVec.ofNat 32 y)).toInt = x.toInt.tdiv y := by
  have e : (BitVec.ofNat 32 y).toInt = (y : ℤ) := WordCmp.toInt_ofNat_of_lt (by simpa using hy')
  have hc : ¬ IntOp.SDivCorner x (BitVec.ofNat 32 y) := by
    unfold IntOp.SDivCorner
    rintro (h | ⟨-, h⟩)
    · have := congrArg BitVec.toInt h; rw [e] at this; simp at this; omega
    · have := congrArg BitVec.toInt h; rw [e] at this; simp at this
  unfold Scalar.divsi IntOp.divsi
  rw [if_neg hc, BitVec.toInt_sdiv, e]
  have hb := BitVec.toInt_lt (x := x)
  have hb' := BitVec.le_toInt (x := x)
  simp at hb hb'
  rcases tdiv_cases x.toInt y with ⟨h0, h⟩ | ⟨h0, h⟩
  · have h1 := Int.ediv_le_self (y : ℤ) h0
    have h2 := Int.ediv_nonneg h0 (Int.natCast_nonneg y)
    rw [h, Int.bmod_eq_of_le] <;> omega
  · have h1 := Int.ediv_le_self (y : ℤ) (show 0 ≤ -x.toInt by omega)
    have h2 := Int.ediv_nonneg (show 0 ≤ -x.toInt by omega) (Int.natCast_nonneg y)
    have h3 : (-x.toInt) / (y : ℤ) * 2 ≤ -x.toInt := by
      have := Int.ediv_mul_le (-x.toInt) (show (y : ℤ) ≠ 0 by omega)
      exact le_trans (Int.mul_le_mul_of_nonneg_left (by omega) h2) this
    rw [h, Int.bmod_eq_of_le] <;> omega

theorem max_toInt (x y : BitVec 32) : (Scalar.maxsi x y).toInt = max x.toInt y.toInt := by
  unfold Scalar.maxsi IntOp.maxsi
  rw [BitVec.slt_eq_decide]
  by_cases h : y.toInt < x.toInt
  · simp [h]; omega
  · simp [h]; omega

theorem min_toInt (x y : BitVec 32) : (Scalar.minsi x y).toInt = min x.toInt y.toInt := by
  unfold Scalar.minsi IntOp.minsi
  rw [BitVec.slt_eq_decide]
  by_cases h : x.toInt < y.toInt
  · simp [h]; omega
  · simp [h]; omega

/-- The number of chunks of a sequence of length `w`, as the kernel computes it. -/
def nWord (w : BitVec 32) : BitVec 32 := Scalar.maxsi (Scalar.divsi (Scalar.addi w 2047#32) 2048#32) 1#32
/-- The number of chunks, a natural number. -/
def nCh (w : BitVec 32) : ℕ := (nWord w).toNat

theorem nWord_toInt {w : BitVec 32} (h : w.toInt ≤ 32768) : (nWord w).toInt = max ((w.toInt + 2047).tdiv 2048) 1 := by
  have hb' := BitVec.le_toInt (x := w)
  simp at hb'
  unfold nWord
  rw [max_toInt, show (2048#32 : BitVec 32) = BitVec.ofNat 32 2048 from rfl, sdiv_toInt _ (by decide) (by decide)]
  have : (Scalar.addi w 2047#32).toInt = w.toInt + 2047 := by
    unfold Scalar.addi IntOp.addi
    rw [BitVec.toInt_add]
    simp
    rw [Int.bmod_eq_of_le] <;> omega
  rw [this]; rfl

theorem nCh_eq {w : BitVec 32} (h : w.toInt ≤ 32768) : (nCh w : ℤ) = max ((w.toInt + 2047).tdiv 2048) 1 ∧ 1 ≤ nCh w ∧ nCh w ≤ 16 ∧ nWord w = BitVec.ofNat 32 (nCh w) := by
  have e := nWord_toInt h
  have hle : (w.toInt + 2047).tdiv 2048 ≤ 16 := by
    have := tdiv_cases (w.toInt + 2047) 2048
    push_cast at this
    omega
  have e2 : ((nCh w : ℕ) : ℤ) = (nWord w).toInt := by
    unfold nCh
    rw [BitVec.toInt_eq_toNat_cond] at *
    have := (nWord w).isLt
    split <;> split at e <;> omega
  refine ⟨e2.trans e, ?_, ?_, by simp [nCh]⟩ <;> omega

/-- How many columns the copy of a chunk moves, as the kernel computes it. -/
def szWord (t j w : BitVec 32) : BitVec 32 :=
  Scalar.select (Scalar.cmpi .slt t 4#32) 2048#32 (Scalar.muli (Scalar.maxsi (Scalar.divsi (Scalar.addi (Scalar.minsi (Scalar.subi w (Scalar.muli j 2048#32)) 2048#32) 127#32) 128#32) 1#32) 128#32)
def sz (t j w : BitVec 32) : ℕ := (szWord t j w).toNat

theorem sz_facts (t j w : BitVec 32) : ∃ n, sz t j w = 128 * n ∧ 1 ≤ n ∧ n ≤ 16 := by
  unfold sz szWord
  generalize hu : Scalar.minsi (Scalar.subi w (Scalar.muli j 2048#32)) 2048#32 = u
  have hu1 : u.toInt ≤ 2048 := by rw [← hu, min_toInt]; exact min_le_right _ _
  have hb' := BitVec.le_toInt (x := u)
  simp at hb'
  generalize hq : Scalar.maxsi (Scalar.divsi (Scalar.addi u 127#32) 128#32) 1#32 = q
  have hq1 : q.toInt = max ((u.toInt + 127).tdiv 128) 1 := by
    rw [← hq, max_toInt, show (128#32 : BitVec 32) = BitVec.ofNat 32 128 from rfl, sdiv_toInt _ (by decide) (by decide)]
    have : (Scalar.addi u 127#32).toInt = u.toInt + 127 := by
      unfold Scalar.addi IntOp.addi
      rw [BitVec.toInt_add]
      simp
      rw [Int.bmod_eq_of_le] <;> omega
    rw [this]; rfl
  have hle : (u.toInt + 127).tdiv 128 ≤ 16 := by
    have := tdiv_cases (u.toInt + 127) 128
    push_cast at this
    omega
  have hq2 : 1 ≤ q.toNat ∧ q.toNat ≤ 16 := by
    rw [BitVec.toInt_eq_toNat_cond] at hq1
    have := q.isLt
    split at hq1 <;> omega
  by_cases hc : Scalar.cmpi .slt t 4#32 = 1#1
  · rw [WordCmp.select_of_eq_one hc]; exact ⟨16, rfl, by decide, by decide⟩
  · rw [WordCmp.select_of_eq_zero (by revert hc; generalize Scalar.cmpi .slt t 4#32 = c; revert c; decide)]
    refine ⟨q.toNat, ?_, hq2.1, hq2.2⟩
    unfold Scalar.muli IntOp.muli
    rw [BitVec.toNat_mul]
    simp
    omega

/-- The copy of chunk `j` reaches every cached column of the sequence that lies in the chunk. -/
theorem sz_covers (t : BitVec 32) {j : ℕ} (hj : j < 16) {w : BitVec 32} (hw : w.toInt ≤ 32768) {x : ℕ} (hx : x < 2048)
    (h : ((j * 2048 + x : ℕ) : ℤ) < w.toInt) : x < sz t (BitVec.ofNat 32 j) w := by
  unfold sz szWord
  have hb' := BitVec.le_toInt (x := w)
  simp at hb'
  have ej : (Scalar.muli (BitVec.ofNat 32 j) 2048#32) = BitVec.ofNat 32 (j * 2048) := WordCmp.muli_ofNat j 2048
  have es : (Scalar.subi w (Scalar.muli (BitVec.ofNat 32 j) 2048#32)).toInt = w.toInt - (j * 2048 : ℕ) := by
    rw [ej]
    unfold Scalar.subi IntOp.subi
    rw [BitVec.toInt_sub, WordCmp.toInt_ofNat_of_lt (by simp; omega)]
    rw [Int.bmod_eq_of_le] <;> push_cast at * <;> omega
  generalize hu : Scalar.minsi (Scalar.subi w (Scalar.muli (BitVec.ofNat 32 j) 2048#32)) 2048#32 = u
  have hu1 : u.toInt = min (w.toInt - (j * 2048 : ℕ)) 2048 := by rw [← hu, min_toInt, es]; rfl
  generalize hq : Scalar.maxsi (Scalar.divsi (Scalar.addi u 127#32) 128#32) 1#32 = q
  have hq1 : q.toInt = max ((u.toInt + 127).tdiv 128) 1 := by
    rw [← hq, max_toInt, show (128#32 : BitVec 32) = BitVec.ofNat 32 128 from rfl, sdiv_toInt _ (by decide) (by decide)]
    have : (Scalar.addi u 127#32).toInt = u.toInt + 127 := by
      unfold Scalar.addi IntOp.addi
      rw [BitVec.toInt_add]
      simp
      rw [Int.bmod_eq_of_le] <;> omega
    rw [this]; rfl
  rw [Int.tdiv_eq_ediv_of_nonneg (by push_cast at *; omega)] at hq1
  by_cases hc : Scalar.cmpi .slt t 4#32 = 1#1
  · rw [WordCmp.select_of_eq_one hc]; exact hx
  · rw [WordCmp.select_of_eq_zero (by revert hc; generalize Scalar.cmpi .slt t 4#32 = c; revert c; decide)]
    unfold Scalar.muli IntOp.muli
    rw [BitVec.toNat_mul]
    have := q.isLt
    rw [BitVec.toInt_eq_toNat_cond] at hq1
    simp
    push_cast at *
    split at hq1 <;> omega

/-! ## The schedule in natural numbers -/

/-- From chunk `(b, j)` to the next one. -/
def step (L : ℕ → BitVec 32) (p : ℕ × ℕ) : ℕ × ℕ :=
  if nCh (L p.1) ≤ p.2 + 1 then (min (p.1 + 1) 15, 0) else (p.1, p.2 + 1)
/-- The sequence and the chunk within it that trip `t` works on. -/
def bj (L : ℕ → BitVec 32) : ℕ → ℕ × ℕ
  | 0 => (0, 0)
  | t + 1 => step L (bj L t)
/-- Chunks in the first `n` sequences. -/
def pre (L : ℕ → BitVec 32) : ℕ → ℕ
  | 0 => 0
  | n + 1 => pre L n + nCh (L n)

section
variable {L : ℕ → BitVec 32} (hL : ∀ b, (L b).toInt ≤ 32768)
include hL

theorem bj_bound (t : ℕ) : (bj L t).1 ≤ 15 ∧ (bj L t).2 < nCh (L (bj L t).1) ∧ (bj L t).2 < 16 := by
  have hn (b) := nCh_eq (hL b)
  induction t with
  | zero => exact ⟨by simp [bj], (hn 0).2.1, by simp [bj]⟩
  | succ t ih =>
    rw [show bj L (t + 1) = step L (bj L t) from rfl]
    unfold step
    split
    · exact ⟨by simp, (hn _).2.1, by simp⟩
    · have := hn (bj L t).1
      refine ⟨ih.1, by dsimp only; omega, by dsimp only; omega⟩

theorem pre_bound (n : ℕ) : n ≤ pre L n ∧ pre L n ≤ 16 * n := by
  induction n with
  | zero => simp [pre]
  | succ n ih => have := nCh_eq (hL n); simp only [pre]; omega

/-- While chunks remain, the trip number is the chunks before. -/
theorem bj_at (t : ℕ) (ht : t < pre L 16) : t = pre L (bj L t).1 + (bj L t).2 := by
  induction t with
  | zero => simp [bj, pre]
  | succ t ih =>
    have ih := ih (by omega)
    have hb := bj_bound hL t
    show t + 1 = pre L (step L (bj L t)).1 + (step L (bj L t)).2
    unfold step
    split
    · have e : pre L ((bj L t).1 + 1) = pre L (bj L t).1 + nCh (L (bj L t).1) := rfl
      by_cases h15 : (bj L t).1 = 15
      · rw [h15] at e ih
        have h2 := hb.2.1
        rw [h15] at h2
        have e' : pre L 16 = pre L 15 + nCh (L 15) := e
        have e'' := congrArg (fun b => nCh (L b)) h15
        exfalso; omega
      · rw [show min ((bj L t).1 + 1) 15 = (bj L t).1 + 1 by omega]
        dsimp; omega
    · dsimp; omega

end

/-! ## The same schedule in words -/

/-- The sequence after chunk `(b, j)`, as the kernel computes it. -/
def nbWord (b j w : BitVec 32) : BitVec 32 :=
  Scalar.select (Scalar.cmpi .sge (Scalar.addi j 1#32) (Scalar.maxsi (Scalar.divsi (Scalar.addi w 2047#32) 2048#32) 1#32)) (Scalar.minsi (Scalar.addi b 1#32) 15#32) b
/-- The chunk after chunk `j`, as the kernel computes it. -/
def njWord (j w : BitVec 32) : BitVec 32 :=
  Scalar.select (Scalar.cmpi .sge (Scalar.addi j 1#32) (Scalar.maxsi (Scalar.divsi (Scalar.addi w 2047#32) 2048#32) 1#32)) 0#32 (Scalar.addi j 1#32)

theorem last_iff {w : BitVec 32} (hw : w.toInt ≤ 32768) {j : ℕ} (hj : j < 16) :
    Scalar.cmpi .sge (Scalar.addi (BitVec.ofNat 32 j) 1#32) (nWord w) = if nCh w ≤ j + 1 then 1#1 else 0#1 := by
  obtain ⟨-, h1, h2, h3⟩ := nCh_eq hw
  rw [h3, show Scalar.addi (BitVec.ofNat 32 j) 1#32 = BitVec.ofNat 32 (j + 1) from WordCmp.addi_ofNat j 1]
  unfold Scalar.cmpi
  split
  · exact (WordCmp.cmpi_sge_ofNat_eq_one_iff (w := 32) (by simp; omega) (by simp; omega)).2 ‹_›
  · exact (WordCmp.cmpi_sge_ofNat_eq_zero_iff (w := 32) (by simp; omega) (by simp; omega)).2 (by omega)

theorem nbWord_eq {L : ℕ → BitVec 32} {b j : ℕ} (hw : (L b).toInt ≤ 32768) (hb : b < 16) (hj : j < 16) :
    nbWord (BitVec.ofNat 32 b) (BitVec.ofNat 32 j) (L b) = BitVec.ofNat 32 (step L (b, j)).1 := by
  show Scalar.select (Scalar.cmpi .sge (Scalar.addi (BitVec.ofNat 32 j) 1#32) (nWord (L b))) _ _ = _
  rw [last_iff hw hj]
  unfold step
  split
  · rw [WordCmp.select_of_eq_one rfl]
    have h : ∀ b < 16, Scalar.minsi (Scalar.addi (BitVec.ofNat 32 b) 1#32) 15#32 = BitVec.ofNat 32 (min (b + 1) 15) := by decide
    exact h b hb
  · rw [WordCmp.select_of_eq_zero rfl]

theorem njWord_eq {L : ℕ → BitVec 32} {b j : ℕ} (hw : (L b).toInt ≤ 32768) (hj : j < 16) :
    njWord (BitVec.ofNat 32 j) (L b) = BitVec.ofNat 32 (step L (b, j)).2 := by
  show Scalar.select (Scalar.cmpi .sge (Scalar.addi (BitVec.ofNat 32 j) 1#32) (nWord (L b))) _ _ = _
  rw [last_iff hw hj]
  unfold step
  split
  · rw [WordCmp.select_of_eq_one rfl]
  · rw [WordCmp.select_of_eq_zero rfl]; exact WordCmp.addi_ofNat j 1

/-! ## Words of the trip number -/

theorem iv_eq (k : ℕ) : Scf.iv 0#32 1#32 k = BitVec.ofNat 32 k := by
  unfold Scf.iv; simp
theorem plus1 (a : ℕ) : Scalar.addi (BitVec.ofNat 32 a) 1#32 = BitVec.ofNat 32 (a + 1) := WordCmp.addi_ofNat a 1
theorem plus3 (a : ℕ) : Scalar.subi (Scalar.addi (BitVec.ofNat 32 a) 4#32) 1#32 = BitVec.ofNat 32 (a + 3) := by
  rw [show Scalar.addi (BitVec.ofNat 32 a) 4#32 = BitVec.ofNat 32 (a + 4) from WordCmp.addi_ofNat a 4]
  unfold Scalar.subi IntOp.subi
  rw [show a + 4 = a + 3 + 1 from rfl, BitVec.ofNat_add (a + 3) 1]
  exact BitVec.add_sub_cancel _ _
theorem rem_ofNat {a k : ℕ} (ha : a < 400) (hk : k = 4 ∨ k = 2) : Scalar.remsi (BitVec.ofNat 32 a) (BitVec.ofNat 32 k) = BitVec.ofNat 32 (a % k) := by
  rcases hk with rfl | rfl <;> · revert ha; revert a; decide
theorem rem4w {a : ℕ} (ha : a < 400) : Scalar.remsi (BitVec.ofNat 32 a) 4#32 = BitVec.ofNat 32 (a % 4) := rem_ofNat ha (.inl rfl)
theorem rem2w {a : ℕ} (ha : a < 400) : Scalar.remsi (BitVec.ofNat 32 a) 2#32 = BitVec.ofNat 32 (a % 2) := rem_ofNat ha (.inr rfl)
theorem rem4 {a : ℕ} (ha : a < 400) : (Scalar.remsi (BitVec.ofNat 32 a) 4#32).toNat = a % 4 := by rw [rem4w ha, BitVec.toNat_ofNat]; omega
theorem rem2 {a : ℕ} (ha : a < 400) : (Scalar.remsi (BitVec.ofNat 32 a) 2#32).toNat = a % 2 := by rw [rem2w ha, BitVec.toNat_ofNat]; omega
theorem sub2 {a : ℕ} (ha : a < 400) : (Scalar.subi 1#32 (Scalar.remsi (BitVec.ofNat 32 a) 2#32)).toNat = 1 - a % 2 := by
  rw [rem2w ha]
  have : a % 2 < 2 := Nat.mod_lt _ (by decide)
  revert this; generalize a % 2 = k; revert k; decide
theorem idx (x : BitVec 32) : Scalar.indexCast x = x := rfl
theorem toNat_of {a : ℕ} (ha : a < 400) : (BitVec.ofNat 32 a).toNat = a := by rw [BitVec.toNat_ofNat]; omega
theorem off2048 {j : ℕ} (hj : j < 16) : (Scalar.muli (BitVec.ofNat 32 j) 2048#32).toNat = j * 2048 := by
  rw [show Scalar.muli (BitVec.ofNat 32 j) 2048#32 = BitVec.ofNat 32 (j * 2048) from WordCmp.muli_ofNat j 2048, BitVec.toNat_ofNat]; omega
/-- The guard of a conditional on a strict comparison of two small words. -/
theorem guard_lt {a n : ℕ} (ha : a < 400) (hn : n < 400) :
    Scalar.cmpi .ne (Scalar.extui (Scalar.cmpi .slt (BitVec.ofNat 32 a) (BitVec.ofNat 32 n))) 0#32 = 1#1 ↔ a < n := by
  have h : Scalar.cmpi .slt (BitVec.ofNat 32 a) (BitVec.ofNat 32 n) = if a < n then 1#1 else 0#1 := by
    unfold Scalar.cmpi
    split
    · exact (WordCmp.cmpi_slt_ofNat_eq_one_iff (w := 32) (by simp; omega) (by simp; omega)).2 ‹_›
    · exact (WordCmp.cmpi_slt_ofNat_eq_zero_iff (w := 32) (by simp; omega) (by simp; omega)).2 (by omega)
  rw [h]
  split <;> simp only [*, true_iff, iff_true, iff_false] <;> decide

end Cert.Sched
end
-- ==== Proof.K.Words.lean ====
/-
  The offsets, sizes, guards and side conditions the program computes in words, in terms of the trip number and
  the schedule of `Sched`.
-/
module

public import proofs.«01_k».proof.Proof.Sched
public import proofs.«01_k».proof.Proof.Gen.Kernel.Skeleton

@[expose] public section
namespace Cert.Kernel.Hand
open Cert.Kernel Cert.Sched Idealize.ShloMosaic

/-! ## The side conditions, once for all copies -/

theorem okRing {i m n : ℕ} (hi : i < 4) (hn : n = 128 * m) (hm : m ≤ 16) :
    ∀ a, (![1, 512, n] : Fin 3 → ℕ) a = 0 ∨ (![i, 0, 0] : Fin 3 → ℕ) a + (![1, 512, n] : Fin 3 → ℕ) a ≤ S4x512x2048.size a := by
  intro a; right; revert a
  simp only [Fin.forall_fin_succ, S4x512x2048]
  refine ⟨?_, ?_, ?_, fun a => a.elim0⟩ <;> simp <;> omega
theorem okHbm {b j m n : ℕ} (hb : b < 16) (hj : j < 16) (hn : n = 128 * m) (hm : m ≤ 16) :
    ∀ a, (![1, 512, n] : Fin 3 → ℕ) a = 0 ∨ (![b, 0, j * 2048] : Fin 3 → ℕ) a + (![1, 512, n] : Fin 3 → ℕ) a ≤ S16x512x32768.size a := by
  intro a; right; revert a
  simp only [Fin.forall_fin_succ, S16x512x32768]
  refine ⟨?_, ?_, ?_, fun a => a.elim0⟩ <;> simp <;> omega
theorem okSq (n : ℕ) (hn : n ≠ 1) : (⟨3, ![1, 512, n]⟩ : Shape).Squeezes ⟨2, ![512, n]⟩ := by
  show Shape.dropsOnes [n, 512, 1] [n, 512] = true
  simp [Shape.dropsOnes]
theorem okWW3 {i n : ℕ} (h : ∀ a, (![1, 512, n] : Fin 3 → ℕ) a = 0 ∨ (![i, 0, 0] : Fin 3 → ℕ) a + (![1, 512, n] : Fin 3 → ℕ) a ≤ S4x512x2048.size a) :
    (Rect.unitDyn (s := S4x512x2048) ![i, 0, 0] ![1, 512, n] h).WholeWords (EltTy.packing .fp8e4m3) :=
  .inr ⟨by decide, rfl, rfl, rfl⟩
theorem okWW4 {b o n : ℕ} (h : ∀ a, (![1, 512, n] : Fin 3 → ℕ) a = 0 ∨ (![b, 0, o] : Fin 3 → ℕ) a + (![1, 512, n] : Fin 3 → ℕ) a ≤ S16x512x32768.size a) :
    (Rect.unitDyn (s := S16x512x32768) ![b, 0, o] ![1, 512, n] h).WholeWords (EltTy.packing .fp8e4m3) :=
  .inr ⟨by decide, rfl, rfl, rfl⟩
theorem okPacked {b r : ℕ} (hr : 2 ∣ r) (h : ∀ a, (![b, r, 0] : Fin 3 → ℕ) a + S1x16x64.size a ≤ S16x32x64.size a) :
    (Rect.unit (s := S16x32x64) ![b, r, 0] S1x16x64.size h).PackedRows (EltTy.packing .bf16) :=
  Or.inr (Exists.intro (show 2 ≤ S16x32x64.rank by decide) ⟨rfl, Or.inl ⟨by
    rw [show S16x32x64.rowAx (by decide) = (1 : Fin 3) by decide]; exact hr, by
    rw [show S16x32x64.rowAx (by decide) = (1 : Fin 3) by decide]; exact (show 2 ∣ 16 by decide)⟩⟩)

theorem ok_S1x16x64 {p k : ℕ} (hp : p < 16) (hk : k ≤ 16) : ∀ a, (![p, k, 0] : Fin 3 → ℕ) a + S1x16x64.size a ≤ S16x32x64.size a := by
  simp only [Fin.forall_fin_succ, S1x16x64, S16x32x64]
  refine ⟨?_, ?_, ?_, fun a => a.elim0⟩ <;> simp <;> omega
theorem ok_S1x8x64 {p k : ℕ} (hp : p < 16) (hk : k ≤ 0) : ∀ a, (![p, k, 0] : Fin 3 → ℕ) a + S1x8x64.size a ≤ S16x8x64.size a := by
  simp only [Fin.forall_fin_succ, S1x8x64, S16x8x64]
  refine ⟨?_, ?_, ?_, fun a => a.elim0⟩ <;> simp <;> omega
theorem ok_S1x16x128 {p k : ℕ} (hp : p < 16) (hk : k ≤ 16) : ∀ a, (![p, k, 0] : Fin 3 → ℕ) a + S1x16x128.size a ≤ S16x32x128.size a := by
  simp only [Fin.forall_fin_succ, S1x16x128, S16x32x128]
  refine ⟨?_, ?_, ?_, fun a => a.elim0⟩ <;> simp <;> omega
theorem ok_S1x1x16x128 {p k : ℕ} (hp : p < 2) (hk : k ≤ 1) : ∀ a, (![p, k, 0, 0] : Fin 4 → ℕ) a + S1x1x16x128.size a ≤ S2x2x16x128.size a := by
  simp only [Fin.forall_fin_succ, S1x1x16x128, S2x2x16x128]
  refine ⟨?_, ?_, ?_, ?_, fun a => a.elim0⟩ <;> simp <;> omega
theorem ok_S1x1x16x2048 {p k : ℕ} (hp : p < 2) (hk : k ≤ 1) : ∀ a, (![p, k, 0, 0] : Fin 4 → ℕ) a + S1x1x16x2048.size a ≤ S2x2x16x2048.size a := by
  simp only [Fin.forall_fin_succ, S1x1x16x2048, S2x2x16x2048]
  refine ⟨?_, ?_, ?_, ?_, fun a => a.elim0⟩ <;> simp <;> omega
theorem ok_S1x1x16x256 {p k : ℕ} (hp : p < 16) (hk : k ≤ 1) : ∀ a, (![p, k, 0, 0] : Fin 4 → ℕ) a + S1x1x16x256.size a ≤ S16x2x16x256.size a := by
  simp only [Fin.forall_fin_succ, S1x1x16x256, S16x2x16x256]
  refine ⟨?_, ?_, ?_, ?_, fun a => a.elim0⟩ <;> simp <;> omega
theorem ok_S1x256x2048 {p k : ℕ} (hp : p < 4) (hk : k ≤ 256) : ∀ a, (![p, k, 0] : Fin 3 → ℕ) a + S1x256x2048.size a ≤ S4x512x2048.size a := by
  simp only [Fin.forall_fin_succ, S1x256x2048, S4x512x2048]
  refine ⟨?_, ?_, ?_, fun a => a.elim0⟩ <;> simp <;> omega
theorem ok_S4 {p : ℕ} (hp : p < 4) : ∀ a, (![p] : Fin 1 → ℕ) a + S1.size a ≤ S4.size a := by
  simp only [Fin.forall_fin_succ, S1, S4]
  refine ⟨?_, fun a => a.elim0⟩ <;> simp <;> omega
theorem ok_S1 {p : ℕ} (hp : p < 16) : ∀ a, (![p] : Fin 1 → ℕ) a + S1.size a ≤ S16.size a := by
  simp only [Fin.forall_fin_succ, S1, S16]
  refine ⟨?_, fun a => a.elim0⟩ <;> simp <;> omega

/-! ## Offsets and sizes -/

theorem k0_off1_eq (k0_t1 : Fin k0_t1_loop.trips) (ht : k0_t1.val < 300) : k0_off1 k0_t1 = ![k0_t1.val] := by
  unfold k0_off1; simp (disch := omega) only [iv_eq, plus3, plus1, rem4, rem2, sub2, idx, toNat_of]
theorem k0_off2_eq : k0_off2 = ![0] := rfl
theorem k0_off3_eq (v444 : BitVec 32) : k0_off3 v444 = ⟨![0, 0, 0], ![1, 512, ((szWord 0#32 0#32 v444)).toNat]⟩ := rfl
theorem k0_off4_eq (v444 : BitVec 32) : k0_off4 v444 = ⟨![0, 0, 0], ![1, 512, ((szWord 0#32 0#32 v444)).toNat]⟩ := rfl
theorem k0_off5_eq (v6 : BitVec 32) : k0_off5 v6 = ![(nbWord 0#32 0#32 v6).toNat] := by
  unfold k0_off5 nbWord; simp only [idx]
theorem k0_off6_eq : k0_off6 = ![1] := rfl
theorem k0_off7_eq (v6 : BitVec 32) (v444 : BitVec 32) : k0_off7 v6 v444 = ⟨![1, 0, 0], ![1, 512, ((szWord 1#32 (njWord 0#32 v6) v444)).toNat]⟩ := rfl
theorem k0_off8_eq (v6 : BitVec 32) (v444 : BitVec 32) : k0_off8 v6 v444 = ⟨![(nbWord 0#32 0#32 v6).toNat, 0, (Scalar.muli (njWord 0#32 v6) 2048#32).toNat], ![1, 512, ((szWord 1#32 (njWord 0#32 v6) v444)).toNat]⟩ := rfl
theorem k0_off9_eq (v6 : BitVec 32) : k0_off9 v6 = ![(nbWord 0#32 0#32 v6).toNat] := by
  unfold k0_off9 nbWord; simp only [idx]
theorem k0_off10_eq (v6 : BitVec 32) (v21 : BitVec 32) : k0_off10 v6 v21 = ![(nbWord (nbWord 0#32 0#32 v6) (njWord 0#32 v6) v21).toNat] := by
  unfold k0_off10 nbWord njWord; simp only [idx]
theorem k0_off11_eq : k0_off11 = ![2] := rfl
theorem k0_off12_eq (v6 : BitVec 32) (v21 : BitVec 32) (v444 : BitVec 32) : k0_off12 v6 v21 v444 = ⟨![2, 0, 0], ![1, 512, ((szWord 2#32 (njWord (njWord 0#32 v6) v21) v444)).toNat]⟩ := rfl
theorem k0_off13_eq (v6 : BitVec 32) (v21 : BitVec 32) (v444 : BitVec 32) : k0_off13 v6 v21 v444 = ⟨![(nbWord (nbWord 0#32 0#32 v6) (njWord 0#32 v6) v21).toNat, 0, (Scalar.muli (njWord (njWord 0#32 v6) v21) 2048#32).toNat], ![1, 512, ((szWord 2#32 (njWord (njWord 0#32 v6) v21) v444)).toNat]⟩ := rfl
theorem k0_off14_eq (v6 : BitVec 32) (v21 : BitVec 32) : k0_off14 v6 v21 = ![(nbWord (nbWord 0#32 0#32 v6) (njWord 0#32 v6) v21).toNat] := by
  unfold k0_off14 nbWord njWord; simp only [idx]
theorem k0_off15_eq (k0_t2 : Fin k0_t2_loop.trips) (ht : k0_t2.val < 300) : k0_off15 k0_t2 = ![k0_t2.val, 0, 0] := by
  unfold k0_off15; simp (disch := omega) only [iv_eq, plus3, plus1, rem4, rem2, sub2, idx, toNat_of]
theorem k0_off16_eq (k0_t2 : Fin k0_t2_loop.trips) (ht : k0_t2.val < 300) : k0_off16 k0_t2 = ![k0_t2.val, 0, 0] := by
  unfold k0_off16; simp (disch := omega) only [iv_eq, plus3, plus1, rem4, rem2, sub2, idx, toNat_of]
theorem k0_off17_eq (k0_t2 : Fin k0_t2_loop.trips) (ht : k0_t2.val < 300) : k0_off17 k0_t2 = ![k0_t2.val, 0, 0] := by
  unfold k0_off17; simp (disch := omega) only [iv_eq, plus3, plus1, rem4, rem2, sub2, idx, toNat_of]
theorem k0_off18_eq (k0_t2 : Fin k0_t2_loop.trips) (ht : k0_t2.val < 300) : k0_off18 k0_t2 = ![k0_t2.val, 0, 0, 0] := by
  unfold k0_off18; simp (disch := omega) only [iv_eq, plus3, plus1, rem4, rem2, sub2, idx, toNat_of]
theorem k0_off19_eq (k0_t2 : Fin k0_t2_loop.trips) (ht : k0_t2.val < 300) : k0_off19 k0_t2 = ![k0_t2.val, 1, 0, 0] := by
  unfold k0_off19; simp (disch := omega) only [iv_eq, plus3, plus1, rem4, rem2, sub2, idx, toNat_of]
theorem k0_off20_eq : k0_off20 = ![0] := rfl
theorem k0_off21_eq (v337 : BitVec 32) : k0_off21 v337 = ⟨![0, 0, 0], ![1, 512, ((szWord 0#32 0#32 v337)).toNat]⟩ := rfl
theorem k0_off22_eq (v337 : BitVec 32) : k0_off22 v337 = ⟨![0, 0, 0], ![1, 512, ((szWord 0#32 0#32 v337)).toNat]⟩ := rfl
theorem k0_off23_eq : k0_off23 = ![0, 0, 0] := rfl
theorem k0_off24_eq : k0_off24 = ![0, 0, 0, 0] := rfl
theorem k0_off25_eq : k0_off25 = ![1, 0, 0, 0] := rfl
theorem k0_off26_eq : k0_off26 = ![0, 0, 0, 0] := rfl
theorem k0_off27_eq : k0_off27 = ![0, 256, 0] := rfl
theorem k0_off28_eq : k0_off28 = ![0, 1, 0, 0] := rfl
theorem k0_off29_eq : k0_off29 = ![1, 1, 0, 0] := rfl
theorem k0_off30_eq : k0_off30 = ![0, 1, 0, 0] := rfl
theorem k0_off31_eq (arg23 : BitVec 32) : k0_off31 arg23 = ![arg23.toNat] := rfl
theorem k0_off32_eq (arg21 : BitVec 32) : k0_off32 arg21 = ![arg21.toNat] := rfl
theorem k0_off33_eq (v1 : BitVec 32) (k0_t3 : Fin (k0_t3_loop v1).trips) (ht : k0_t3.val < 300) : k0_off33 v1 k0_t3 = ![(k0_t3.val + 3) % 4] := by
  unfold k0_off33; simp (disch := omega) only [iv_eq, plus3, plus1, rem4, rem2, sub2, idx, toNat_of]
theorem k0_off34_eq (v1 : BitVec 32) (k0_t3 : Fin (k0_t3_loop v1).trips) (arg22 : BitVec 32) (v740 : BitVec 32) (ht : k0_t3.val < 300) : k0_off34 v1 k0_t3 arg22 v740 = ⟨![(k0_t3.val + 3) % 4, 0, 0], ![1, 512, ((szWord (BitVec.ofNat 32 (k0_t3.val + 3)) arg22 v740)).toNat]⟩ := by
  unfold k0_off34 szWord; simp (disch := omega) only [iv_eq, plus3, plus1, rem4, rem2, sub2, idx, toNat_of]
theorem k0_off35_eq (v1 : BitVec 32) (k0_t3 : Fin (k0_t3_loop v1).trips) (arg21 : BitVec 32) (arg22 : BitVec 32) (v740 : BitVec 32) (ht : k0_t3.val < 300) : k0_off35 v1 k0_t3 arg21 arg22 v740 = ⟨![arg21.toNat, 0, (Scalar.muli arg22 2048#32).toNat], ![1, 512, ((szWord (BitVec.ofNat 32 (k0_t3.val + 3)) arg22 v740)).toNat]⟩ := by
  unfold k0_off35 szWord; simp (disch := omega) only [iv_eq, plus3, plus1, rem4, rem2, sub2, idx, toNat_of]
theorem k0_off36_eq (arg21 : BitVec 32) : k0_off36 arg21 = ![arg21.toNat] := rfl
theorem k0_off37_eq (arg23 : BitVec 32) (arg24 : BitVec 32) (v444 : BitVec 32) : k0_off37 arg23 arg24 v444 = ![(nbWord arg23 arg24 v444).toNat] := by
  unfold k0_off37 nbWord; simp only [idx]
theorem k0_off38_eq (v1 : BitVec 32) (k0_t3 : Fin (k0_t3_loop v1).trips) (ht : k0_t3.val < 300) : k0_off38 v1 k0_t3 = ![(k0_t3.val + 1) % 4] := by
  unfold k0_off38; simp (disch := omega) only [iv_eq, plus3, plus1, rem4, rem2, sub2, idx, toNat_of]
theorem k0_off39_eq (v1 : BitVec 32) (k0_t3 : Fin (k0_t3_loop v1).trips) (arg24 : BitVec 32) (v444 : BitVec 32) (v741 : BitVec 32) (ht : k0_t3.val < 300) : k0_off39 v1 k0_t3 arg24 v444 v741 = ⟨![(k0_t3.val + 1) % 4, 0, 0], ![1, 512, ((szWord (BitVec.ofNat 32 (k0_t3.val + 1)) (njWord arg24 v444) v741)).toNat]⟩ := by
  unfold k0_off39 szWord njWord; simp (disch := omega) only [iv_eq, plus3, plus1, rem4, rem2, sub2, idx, toNat_of]
theorem k0_off40_eq (v1 : BitVec 32) (k0_t3 : Fin (k0_t3_loop v1).trips) (arg23 : BitVec 32) (arg24 : BitVec 32) (v444 : BitVec 32) (v741 : BitVec 32) (ht : k0_t3.val < 300) : k0_off40 v1 k0_t3 arg23 arg24 v444 v741 = ⟨![(nbWord arg23 arg24 v444).toNat, 0, (Scalar.muli (njWord arg24 v444) 2048#32).toNat], ![1, 512, ((szWord (BitVec.ofNat 32 (k0_t3.val + 1)) (njWord arg24 v444) v741)).toNat]⟩ := by
  unfold k0_off40 szWord nbWord njWord; simp (disch := omega) only [iv_eq, plus3, plus1, rem4, rem2, sub2, idx, toNat_of]
theorem k0_off41_eq (arg23 : BitVec 32) : k0_off41 arg23 = ![arg23.toNat] := rfl
theorem k0_off42_eq (v1 : BitVec 32) (k0_t3 : Fin (k0_t3_loop v1).trips) (ht : k0_t3.val < 300) : k0_off42 v1 k0_t3 = ![k0_t3.val % 4] := by
  unfold k0_off42; simp (disch := omega) only [iv_eq, plus3, plus1, rem4, rem2, sub2, idx, toNat_of]
theorem k0_off43_eq (v1 : BitVec 32) (k0_t3 : Fin (k0_t3_loop v1).trips) (arg24 : BitVec 32) (v477 : BitVec 32) (ht : k0_t3.val < 300) : k0_off43 v1 k0_t3 arg24 v477 = ⟨![k0_t3.val % 4, 0, 0], ![1, 512, ((szWord (BitVec.ofNat 32 k0_t3.val) arg24 v477)).toNat]⟩ := by
  unfold k0_off43 szWord; simp (disch := omega) only [iv_eq, plus3, plus1, rem4, rem2, sub2, idx, toNat_of]
theorem k0_off44_eq (v1 : BitVec 32) (k0_t3 : Fin (k0_t3_loop v1).trips) (arg23 : BitVec 32) (arg24 : BitVec 32) (v477 : BitVec 32) (ht : k0_t3.val < 300) : k0_off44 v1 k0_t3 arg23 arg24 v477 = ⟨![arg23.toNat, 0, (Scalar.muli arg24 2048#32).toNat], ![1, 512, ((szWord (BitVec.ofNat 32 k0_t3.val) arg24 v477)).toNat]⟩ := by
  unfold k0_off44 szWord; simp (disch := omega) only [iv_eq, plus3, plus1, rem4, rem2, sub2, idx, toNat_of]
theorem k0_off45_eq (arg23 : BitVec 32) (arg24 : BitVec 32) (v444 : BitVec 32) : k0_off45 arg23 arg24 v444 = ![(nbWord arg23 arg24 v444).toNat] := by
  unfold k0_off45 nbWord; simp only [idx]
theorem k0_off46_eq (v1 : BitVec 32) (k0_t3 : Fin (k0_t3_loop v1).trips) (ht : k0_t3.val < 300) : k0_off46 v1 k0_t3 = ![(k0_t3.val + 1) % 4, 0, 0] := by
  unfold k0_off46; simp (disch := omega) only [iv_eq, plus3, plus1, rem4, rem2, sub2, idx, toNat_of]
theorem k0_off47_eq (arg23 : BitVec 32) (arg24 : BitVec 32) (v444 : BitVec 32) : k0_off47 arg23 arg24 v444 = ![(nbWord arg23 arg24 v444).toNat, 0, 0, 0] := by
  unfold k0_off47 nbWord; simp only [idx]
theorem k0_off48_eq (v1 : BitVec 32) (k0_t3 : Fin (k0_t3_loop v1).trips) (ht : k0_t3.val < 300) : k0_off48 v1 k0_t3 = ![(k0_t3.val + 1) % 2, 0, 0, 0] := by
  unfold k0_off48; simp (disch := omega) only [iv_eq, plus3, plus1, rem4, rem2, sub2, idx, toNat_of]
theorem k0_off49_eq (arg23 : BitVec 32) (arg24 : BitVec 32) (v444 : BitVec 32) : k0_off49 arg23 arg24 v444 = ![(nbWord arg23 arg24 v444).toNat, 0, 0] := by
  unfold k0_off49 nbWord; simp only [idx]
theorem k0_off50_eq (v1 : BitVec 32) (k0_t3 : Fin (k0_t3_loop v1).trips) (ht : k0_t3.val < 300) : k0_off50 v1 k0_t3 = ![1 - (k0_t3.val + 1) % 2, 0, 0, 0] := by
  unfold k0_off50; simp (disch := omega) only [iv_eq, plus3, plus1, rem4, rem2, sub2, idx, toNat_of]
theorem k0_off51_eq (v1 : BitVec 32) (k0_t3 : Fin (k0_t3_loop v1).trips) (ht : k0_t3.val < 300) : k0_off51 v1 k0_t3 = ![(k0_t3.val + 1) % 2, 0, 0, 0] := by
  unfold k0_off51; simp (disch := omega) only [iv_eq, plus3, plus1, rem4, rem2, sub2, idx, toNat_of]
theorem k0_off52_eq (v1 : BitVec 32) (k0_t3 : Fin (k0_t3_loop v1).trips) (ht : k0_t3.val < 300) : k0_off52 v1 k0_t3 = ![(k0_t3.val + 1) % 4, 256, 0] := by
  unfold k0_off52; simp (disch := omega) only [iv_eq, plus3, plus1, rem4, rem2, sub2, idx, toNat_of]
theorem k0_off53_eq (arg23 : BitVec 32) (arg24 : BitVec 32) (v444 : BitVec 32) : k0_off53 arg23 arg24 v444 = ![(nbWord arg23 arg24 v444).toNat, 1, 0, 0] := by
  unfold k0_off53 nbWord; simp only [idx]
theorem k0_off54_eq (v1 : BitVec 32) (k0_t3 : Fin (k0_t3_loop v1).trips) (ht : k0_t3.val < 300) : k0_off54 v1 k0_t3 = ![(k0_t3.val + 1) % 2, 1, 0, 0] := by
  unfold k0_off54; simp (disch := omega) only [iv_eq, plus3, plus1, rem4, rem2, sub2, idx, toNat_of]
theorem k0_off55_eq (arg23 : BitVec 32) (arg24 : BitVec 32) (v444 : BitVec 32) : k0_off55 arg23 arg24 v444 = ![(nbWord arg23 arg24 v444).toNat, 16, 0] := by
  unfold k0_off55 nbWord; simp only [idx]
theorem k0_off56_eq (v1 : BitVec 32) (k0_t3 : Fin (k0_t3_loop v1).trips) (ht : k0_t3.val < 300) : k0_off56 v1 k0_t3 = ![1 - (k0_t3.val + 1) % 2, 1, 0, 0] := by
  unfold k0_off56; simp (disch := omega) only [iv_eq, plus3, plus1, rem4, rem2, sub2, idx, toNat_of]
theorem k0_off57_eq (v1 : BitVec 32) (k0_t3 : Fin (k0_t3_loop v1).trips) (ht : k0_t3.val < 300) : k0_off57 v1 k0_t3 = ![(k0_t3.val + 1) % 2, 1, 0, 0] := by
  unfold k0_off57; simp (disch := omega) only [iv_eq, plus3, plus1, rem4, rem2, sub2, idx, toNat_of]
theorem k0_off58_eq (v1 : BitVec 32) (k0_t3 : Fin (k0_t3_loop v1).trips) (ht : k0_t3.val < 300) : k0_off58 v1 k0_t3 = ![k0_t3.val % 2, 0, 0, 0] := by
  unfold k0_off58; simp (disch := omega) only [iv_eq, plus3, plus1, rem4, rem2, sub2, idx, toNat_of]
theorem k0_off59_eq (v1 : BitVec 32) (k0_t3 : Fin (k0_t3_loop v1).trips) (ht : k0_t3.val < 300) : k0_off59 v1 k0_t3 = ![k0_t3.val % 2, 0, 0, 0] := by
  unfold k0_off59; simp (disch := omega) only [iv_eq, plus3, plus1, rem4, rem2, sub2, idx, toNat_of]
theorem k0_off60_eq (v1 : BitVec 32) (k0_t3 : Fin (k0_t3_loop v1).trips) (ht : k0_t3.val < 300) : k0_off60 v1 k0_t3 = ![k0_t3.val % 4, 0, 0] := by
  unfold k0_off60; simp (disch := omega) only [iv_eq, plus3, plus1, rem4, rem2, sub2, idx, toNat_of]
theorem k0_off61_eq (v1 : BitVec 32) (k0_t3 : Fin (k0_t3_loop v1).trips) (ht : k0_t3.val < 300) : k0_off61 v1 k0_t3 = ![k0_t3.val % 2, 1, 0, 0] := by
  unfold k0_off61; simp (disch := omega) only [iv_eq, plus3, plus1, rem4, rem2, sub2, idx, toNat_of]
theorem k0_off62_eq (v1 : BitVec 32) (k0_t3 : Fin (k0_t3_loop v1).trips) (ht : k0_t3.val < 300) : k0_off62 v1 k0_t3 = ![k0_t3.val % 2, 1, 0, 0] := by
  unfold k0_off62; simp (disch := omega) only [iv_eq, plus3, plus1, rem4, rem2, sub2, idx, toNat_of]
theorem k0_off63_eq (v1 : BitVec 32) (k0_t3 : Fin (k0_t3_loop v1).trips) (ht : k0_t3.val < 300) : k0_off63 v1 k0_t3 = ![k0_t3.val % 4, 256, 0] := by
  unfold k0_off63; simp (disch := omega) only [iv_eq, plus3, plus1, rem4, rem2, sub2, idx, toNat_of]
theorem k0_off64_eq (arg23 : BitVec 32) : k0_off64 arg23 = ![arg23.toNat] := rfl
theorem k0_off65_eq (arg23 : BitVec 32) : k0_off65 arg23 = ![arg23.toNat, 0, 0] := rfl
theorem k0_off66_eq (arg23 : BitVec 32) : k0_off66 arg23 = ![arg23.toNat, 0, 0] := rfl
theorem k0_off67_eq (v1 : BitVec 32) (k0_t3 : Fin (k0_t3_loop v1).trips) (ht : k0_t3.val < 300) : k0_off67 v1 k0_t3 = ![k0_t3.val % 2, 0, 0, 0] := by
  unfold k0_off67; simp (disch := omega) only [iv_eq, plus3, plus1, rem4, rem2, sub2, idx, toNat_of]
theorem k0_off68_eq (arg23 : BitVec 32) : k0_off68 arg23 = ![arg23.toNat, 0, 0] := rfl
theorem k0_off69_eq (arg23 : BitVec 32) : k0_off69 arg23 = ![arg23.toNat, 16, 0] := rfl
theorem k0_off70_eq (v1 : BitVec 32) (k0_t3 : Fin (k0_t3_loop v1).trips) (ht : k0_t3.val < 300) : k0_off70 v1 k0_t3 = ![k0_t3.val % 2, 1, 0, 0] := by
  unfold k0_off70; simp (disch := omega) only [iv_eq, plus3, plus1, rem4, rem2, sub2, idx, toNat_of]
theorem k0_off71_eq (arg23 : BitVec 32) : k0_off71 arg23 = ![arg23.toNat, 16, 0] := rfl
theorem k0_mult1_eq (v444 : BitVec 32) : k0_mult1 v444 = (szWord 0#32 0#32 v444) := rfl
theorem k0_mult2_eq  : k0_mult2  = (Scalar.muli 0#32 2048#32) := rfl
theorem k0_sz1_eq (v444 : BitVec 32) : k0_sz1 v444 = ![512, ((szWord 0#32 0#32 v444)).toNat] := rfl
theorem k0_sz2_eq (v444 : BitVec 32) : k0_sz2 v444 = ![512, ((szWord 0#32 0#32 v444)).toNat] := rfl
theorem k0_mult3_eq (v6 : BitVec 32) (v444 : BitVec 32) : k0_mult3 v6 v444 = (szWord 1#32 (njWord 0#32 v6) v444) := rfl
theorem k0_mult4_eq (v6 : BitVec 32) : k0_mult4 v6 = (Scalar.muli (njWord 0#32 v6) 2048#32) := rfl
theorem k0_sz3_eq (v6 : BitVec 32) (v444 : BitVec 32) : k0_sz3 v6 v444 = ![512, ((szWord 1#32 (njWord 0#32 v6) v444)).toNat] := rfl
theorem k0_sz4_eq (v6 : BitVec 32) (v444 : BitVec 32) : k0_sz4 v6 v444 = ![512, ((szWord 1#32 (njWord 0#32 v6) v444)).toNat] := rfl
theorem k0_mult5_eq (v6 : BitVec 32) (v21 : BitVec 32) (v444 : BitVec 32) : k0_mult5 v6 v21 v444 = (szWord 2#32 (njWord (njWord 0#32 v6) v21) v444) := rfl
theorem k0_mult6_eq (v6 : BitVec 32) (v21 : BitVec 32) : k0_mult6 v6 v21 = (Scalar.muli (njWord (njWord 0#32 v6) v21) 2048#32) := rfl
theorem k0_sz5_eq (v6 : BitVec 32) (v21 : BitVec 32) (v444 : BitVec 32) : k0_sz5 v6 v21 v444 = ![512, ((szWord 2#32 (njWord (njWord 0#32 v6) v21) v444)).toNat] := rfl
theorem k0_sz6_eq (v6 : BitVec 32) (v21 : BitVec 32) (v444 : BitVec 32) : k0_sz6 v6 v21 v444 = ![512, ((szWord 2#32 (njWord (njWord 0#32 v6) v21) v444)).toNat] := rfl
theorem k0_mult7_eq (v337 : BitVec 32) : k0_mult7 v337 = (szWord 0#32 0#32 v337) := rfl
theorem k0_mult8_eq  : k0_mult8  = (Scalar.muli 0#32 2048#32) := rfl
theorem k0_sz7_eq (v337 : BitVec 32) : k0_sz7 v337 = ![512, ((szWord 0#32 0#32 v337)).toNat] := rfl
theorem k0_sz8_eq (v337 : BitVec 32) : k0_sz8 v337 = ![512, ((szWord 0#32 0#32 v337)).toNat] := rfl
theorem k0_mult9_eq (v1 : BitVec 32) (k0_t3 : Fin (k0_t3_loop v1).trips) (arg22 : BitVec 32) (v740 : BitVec 32) (ht : k0_t3.val < 300) : k0_mult9 v1 k0_t3 arg22 v740 = (szWord (BitVec.ofNat 32 (k0_t3.val + 3)) arg22 v740) := by
  unfold k0_mult9 szWord; simp (disch := omega) only [iv_eq, plus3, plus1, rem4, rem2, sub2, idx, toNat_of]
theorem k0_mult10_eq (arg22 : BitVec 32) : k0_mult10 arg22 = (Scalar.muli arg22 2048#32) := rfl
theorem k0_sz9_eq (v1 : BitVec 32) (k0_t3 : Fin (k0_t3_loop v1).trips) (arg22 : BitVec 32) (v740 : BitVec 32) (ht : k0_t3.val < 300) : k0_sz9 v1 k0_t3 arg22 v740 = ![512, ((szWord (BitVec.ofNat 32 (k0_t3.val + 3)) arg22 v740)).toNat] := by
  unfold k0_sz9 szWord; simp (disch := omega) only [iv_eq, plus3, plus1, rem4, rem2, sub2, idx, toNat_of]
theorem k0_sz10_eq (v1 : BitVec 32) (k0_t3 : Fin (k0_t3_loop v1).trips) (arg22 : BitVec 32) (v740 : BitVec 32) (ht : k0_t3.val < 300) : k0_sz10 v1 k0_t3 arg22 v740 = ![512, ((szWord (BitVec.ofNat 32 (k0_t3.val + 3)) arg22 v740)).toNat] := by
  unfold k0_sz10 szWord; simp (disch := omega) only [iv_eq, plus3, plus1, rem4, rem2, sub2, idx, toNat_of]
theorem k0_mult11_eq (v1 : BitVec 32) (k0_t3 : Fin (k0_t3_loop v1).trips) (arg24 : BitVec 32) (v444 : BitVec 32) (v741 : BitVec 32) (ht : k0_t3.val < 300) : k0_mult11 v1 k0_t3 arg24 v444 v741 = (szWord (BitVec.ofNat 32 (k0_t3.val + 1)) (njWord arg24 v444) v741) := by
  unfold k0_mult11 szWord njWord; simp (disch := omega) only [iv_eq, plus3, plus1, rem4, rem2, sub2, idx, toNat_of]
theorem k0_mult12_eq (arg24 : BitVec 32) (v444 : BitVec 32) : k0_mult12 arg24 v444 = (Scalar.muli (njWord arg24 v444) 2048#32) := rfl
theorem k0_sz11_eq (v1 : BitVec 32) (k0_t3 : Fin (k0_t3_loop v1).trips) (arg24 : BitVec 32) (v444 : BitVec 32) (v741 : BitVec 32) (ht : k0_t3.val < 300) : k0_sz11 v1 k0_t3 arg24 v444 v741 = ![512, ((szWord (BitVec.ofNat 32 (k0_t3.val + 1)) (njWord arg24 v444) v741)).toNat] := by
  unfold k0_sz11 szWord njWord; simp (disch := omega) only [iv_eq, plus3, plus1, rem4, rem2, sub2, idx, toNat_of]
theorem k0_sz12_eq (v1 : BitVec 32) (k0_t3 : Fin (k0_t3_loop v1).trips) (arg24 : BitVec 32) (v444 : BitVec 32) (v741 : BitVec 32) (ht : k0_t3.val < 300) : k0_sz12 v1 k0_t3 arg24 v444 v741 = ![512, ((szWord (BitVec.ofNat 32 (k0_t3.val + 1)) (njWord arg24 v444) v741)).toNat] := by
  unfold k0_sz12 szWord njWord; simp (disch := omega) only [iv_eq, plus3, plus1, rem4, rem2, sub2, idx, toNat_of]
theorem k0_mult13_eq (v1 : BitVec 32) (k0_t3 : Fin (k0_t3_loop v1).trips) (arg24 : BitVec 32) (v477 : BitVec 32) (ht : k0_t3.val < 300) : k0_mult13 v1 k0_t3 arg24 v477 = (szWord (BitVec.ofNat 32 k0_t3.val) arg24 v477) := by
  unfold k0_mult13 szWord; simp (disch := omega) only [iv_eq, plus3, plus1, rem4, rem2, sub2, idx, toNat_of]
theorem k0_mult14_eq (arg24 : BitVec 32) : k0_mult14 arg24 = (Scalar.muli arg24 2048#32) := rfl
theorem k0_sz13_eq (v1 : BitVec 32) (k0_t3 : Fin (k0_t3_loop v1).trips) (arg24 : BitVec 32) (v477 : BitVec 32) (ht : k0_t3.val < 300) : k0_sz13 v1 k0_t3 arg24 v477 = ![512, ((szWord (BitVec.ofNat 32 k0_t3.val) arg24 v477)).toNat] := by
  unfold k0_sz13 szWord; simp (disch := omega) only [iv_eq, plus3, plus1, rem4, rem2, sub2, idx, toNat_of]
theorem k0_sz14_eq (v1 : BitVec 32) (k0_t3 : Fin (k0_t3_loop v1).trips) (arg24 : BitVec 32) (v477 : BitVec 32) (ht : k0_t3.val < 300) : k0_sz14 v1 k0_t3 arg24 v477 = ![512, ((szWord (BitVec.ofNat 32 k0_t3.val) arg24 v477)).toNat] := by
  unfold k0_sz14 szWord; simp (disch := omega) only [iv_eq, plus3, plus1, rem4, rem2, sub2, idx, toNat_of]

theorem cond1_iff {n : ℕ} (hn : n < 300) : k0_cond1 (BitVec.ofNat 32 n) = 1#1 ↔ 0 < n := guard_lt (by decide) (by omega)
theorem cond2_iff {n : ℕ} (hn : n < 300) : k0_cond2 (BitVec.ofNat 32 n) = 1#1 ↔ 1 < n := guard_lt (by decide) (by omega)
theorem cond3_iff {n : ℕ} (hn : n < 300) : k0_cond3 (BitVec.ofNat 32 n) = 1#1 ↔ 2 < n := guard_lt (by decide) (by omega)
theorem cond4_iff {n : ℕ} (hn : n < 300) (k0_t3 : Fin (k0_t3_loop (BitVec.ofNat 32 n)).trips) (ht : k0_t3.val < 300) :
    k0_cond4 (BitVec.ofNat 32 n) k0_t3 = 1#1 ↔ k0_t3.val + 3 < n := by
  unfold k0_cond4; simp only [iv_eq, plus3]; exact guard_lt (by omega) (by omega)
theorem cond5_iff {n : ℕ} (hn : n < 300) (k0_t3 : Fin (k0_t3_loop (BitVec.ofNat 32 n)).trips) (ht : k0_t3.val < 300) :
    k0_cond5 (BitVec.ofNat 32 n) k0_t3 = 1#1 ↔ k0_t3.val + 1 < n := by
  unfold k0_cond5; simp only [iv_eq, plus1]; exact guard_lt (by omega) (by omega)
theorem cond6_iff {j : ℕ} {w : BitVec 32} (hj : j < 16) (hw : w.toInt ≤ 32768) :
    k0_cond6 (BitVec.ofNat 32 j) w = 1#1 ↔ nCh w ≤ j + 1 := by
  show Scalar.cmpi .ne (Scalar.extui (Scalar.cmpi .sge (Scalar.addi (BitVec.ofNat 32 j) 1#32) (nWord w))) 0#32 = 1#1 ↔ _
  rw [last_iff hw hj]
  split <;> simp only [*, true_iff, iff_true, iff_false] <;> decide

theorem t1_trips : k0_t1_loop.trips = 16 := by decide
theorem t2_trips : k0_t2_loop.trips = 16 := by decide
theorem ub_eq (x : BitVec 32) : Scalar.addi 0#32 (Scalar.muli (Scalar.divsi (Scalar.subi x 0#32) 1#32) 1#32) = x := by
  have h : ¬ IntOp.SDivCorner (x - 0#32) 1#32 := by unfold IntOp.SDivCorner; rintro (h | ⟨-, h⟩) <;> revert h <;> decide
  unfold Scalar.addi IntOp.addi Scalar.muli IntOp.muli Scalar.divsi IntOp.divsi Scalar.subi IntOp.subi
  rw [if_neg h]; simp
theorem t3_eq (x : BitVec 32) : k0_t3_loop x = ⟨0#32, x, 1#32⟩ := by
  show Scf.Loop.mk 0#32 (Scalar.addi 0#32 (Scalar.muli (Scalar.divsi (Scalar.subi x 0#32) 1#32) 1#32)) 1#32 = _
  rw [ub_eq]
theorem t4_eq (x : BitVec 32) : k0_t4_loop x = ⟨x, x, 1#32⟩ := by
  show Scf.Loop.mk (Scalar.addi 0#32 (Scalar.muli (Scalar.divsi (Scalar.subi x 0#32) 1#32) 1#32)) (Scalar.addi 0#32 (Scalar.subi x 0#32)) 1#32 = _
  rw [ub_eq]; simp [Scalar.addi, IntOp.addi, Scalar.subi, IntOp.subi]
theorem t3_bounds {n : ℕ} (hn : n < 300) : (k0_t3_loop (BitVec.ofNat 32 n)).trips = n ∧ (k0_t3_loop (BitVec.ofNat 32 n)).OK := by
  have e : (BitVec.ofNat 32 n).toInt = (n : ℤ) := WordCmp.toInt_ofNat_of_lt (by simp; omega)
  have h : (k0_t3_loop (BitVec.ofNat 32 n)).trips = n := by
    rw [t3_eq]; show Scf.trips _ _ _ = _; unfold Scf.trips; rw [e]; simp
  refine ⟨h, ?_⟩
  show _ ∧ _
  rw [show Scf.trips (k0_t3_loop (BitVec.ofNat 32 n)).lb (k0_t3_loop (BitVec.ofNat 32 n)).ub (k0_t3_loop (BitVec.ofNat 32 n)).st = n from h]
  rw [t3_eq]; simp; omega
theorem t4_bounds {n : ℕ} (hn : n < 300) : (k0_t4_loop (BitVec.ofNat 32 n)).trips = 0 ∧ (k0_t4_loop (BitVec.ofNat 32 n)).OK := by
  have e : (BitVec.ofNat 32 n).toInt = (n : ℤ) := WordCmp.toInt_ofNat_of_lt (by simp; omega)
  have h : (k0_t4_loop (BitVec.ofNat 32 n)).trips = 0 := by
    rw [t4_eq]; show Scf.trips _ _ _ = _; unfold Scf.trips; rw [e]; simp
  refine ⟨h, ?_⟩
  show _ ∧ _
  rw [show Scf.trips (k0_t4_loop (BitVec.ofNat 32 n)).lb (k0_t4_loop (BitVec.ofNat 32 n)).ub (k0_t4_loop (BitVec.ofNat 32 n)).st = 0 from h]
  rw [t4_eq]; simp [e]; omega

/-! ## The checks -/

theorem dvd128 (t j w : BitVec 32) : 128 ∣ (szWord t j w).toNat := by
  obtain ⟨n, h, -⟩ := sz_facts t j w; exact ⟨n, h⟩
theorem dvd2048 {j : ℕ} (hj : j < 16) : 2048 ∣ (Scalar.muli (BitVec.ofNat 32 j) 2048#32).toNat := by
  rw [off2048 hj]; exact ⟨j, Nat.mul_comm _ _⟩
theorem sq_sz (t j w : BitVec 32) : (⟨3, ![1, 512, (szWord t j w).toNat]⟩ : Shape).Squeezes ⟨2, ![512, (szWord t j w).toNat]⟩ := by
  obtain ⟨n, h, -⟩ := sz_facts t j w; unfold sz at h; exact okSq _ (by omega)
theorem ring_sz {i : ℕ} (hi : i < 4) (t j w : BitVec 32) : ∀ a, (![1, 512, (szWord t j w).toNat] : Fin 3 → ℕ) a = 0 ∨ (![i, 0, 0] : Fin 3 → ℕ) a + (![1, 512, (szWord t j w).toNat] : Fin 3 → ℕ) a ≤ S4x512x2048.size a := by
  obtain ⟨n, h, h1, h2⟩ := sz_facts t j w; exact okRing hi h h2
theorem hbm_sz {b j : ℕ} (hb : b < 16) (hj : j < 16) (t j' w : BitVec 32) : ∀ a, (![1, 512, (szWord t j' w).toNat] : Fin 3 → ℕ) a = 0 ∨ (![b, 0, j * 2048] : Fin 3 → ℕ) a + (![1, 512, (szWord t j' w).toNat] : Fin 3 → ℕ) a ≤ S16x512x32768.size a := by
  obtain ⟨n, h, h1, h2⟩ := sz_facts t j' w; exact okHbm hb hj h h2
theorem k0_chk1_ok (v1 : BitVec 32) (v444 : BitVec 32)  : k0_chk1 v1 v444 :=
  ⟨fun _ => by rw [k0_mult1_eq _]; exact dvd128 _ _ _,
   fun _ => by rw [k0_off3_eq _]; exact ring_sz (by omega) _ _ _,
   fun _ => by rw [k0_off3_eq _, k0_sz1_eq _]; exact sq_sz _ _ _,
   fun _ => by rw [k0_off4_eq _]; exact hbm_sz (b := 0) (j := 0) (by decide) (by decide) _ _ _,
   fun _ => by rw [k0_off4_eq _, k0_sz2_eq _]; exact sq_sz _ _ _,
   fun _ => by rw [k0_off4_eq _]; exact okWW4,
   fun _ => by rw [k0_off3_eq _]; exact okWW3⟩
theorem k0_chk2_ok (v1 : BitVec 32) (v6 : BitVec 32) {b j : ℕ} (hb : b < 16) (hj : j < 16) (e1 : nbWord 0#32 0#32 v6 = BitVec.ofNat 32 b) (e2 : njWord 0#32 v6 = BitVec.ofNat 32 j) : k0_chk2 v1 v6 :=
  ⟨fun _ => by rw [k0_off5_eq _, e1, toNat_of (by omega)]; exact ok_S1 (by omega),
   fun _ => by rw [k0_mult4_eq _, e2]; exact dvd2048 hj,
   by rw [k0_off9_eq _, e1, toNat_of (by omega)]; exact ok_S1 (by omega)⟩
theorem k0_chk3_ok (v1 : BitVec 32) (v6 : BitVec 32) (v444 : BitVec 32) {b j : ℕ} (hb : b < 16) (hj : j < 16) (e1 : nbWord 0#32 0#32 v6 = BitVec.ofNat 32 b) (e2 : njWord 0#32 v6 = BitVec.ofNat 32 j) : k0_chk3 v1 v6 v444 :=
  ⟨fun _ => by rw [k0_mult3_eq _ _]; exact dvd128 _ _ _,
   fun _ => by rw [k0_off7_eq _ _]; exact ring_sz (by omega) _ _ _,
   fun _ => by rw [k0_off7_eq _ _, k0_sz3_eq _ _]; exact sq_sz _ _ _,
   fun _ => by rw [k0_off8_eq _ _, e1, e2, toNat_of (by omega), off2048 hj]; exact hbm_sz hb hj _ _ _,
   fun _ => by rw [k0_off8_eq _ _, k0_sz4_eq _ _]; exact sq_sz _ _ _,
   fun _ => by rw [k0_off8_eq _ _]; exact okWW4,
   fun _ => by rw [k0_off7_eq _ _]; exact okWW3⟩
theorem k0_chk4_ok (v1 : BitVec 32) (v6 : BitVec 32) (v21 : BitVec 32) {b j : ℕ} (hb : b < 16) (hj : j < 16) (e1 : nbWord (nbWord 0#32 0#32 v6) (njWord 0#32 v6) v21 = BitVec.ofNat 32 b) (e2 : njWord (njWord 0#32 v6) v21 = BitVec.ofNat 32 j) : k0_chk4 v1 v6 v21 :=
  ⟨fun _ => by rw [k0_off10_eq _ _, e1, toNat_of (by omega)]; exact ok_S1 (by omega),
   fun _ => by rw [k0_mult6_eq _ _, e2]; exact dvd2048 hj,
   by rw [k0_off14_eq _ _, e1, toNat_of (by omega)]; exact ok_S1 (by omega)⟩
theorem k0_chk5_ok (v1 : BitVec 32) (v6 : BitVec 32) (v21 : BitVec 32) (v444 : BitVec 32) {b j : ℕ} (hb : b < 16) (hj : j < 16) (e1 : nbWord (nbWord 0#32 0#32 v6) (njWord 0#32 v6) v21 = BitVec.ofNat 32 b) (e2 : njWord (njWord 0#32 v6) v21 = BitVec.ofNat 32 j) : k0_chk5 v1 v6 v21 v444 :=
  ⟨fun _ => by rw [k0_mult5_eq _ _ _]; exact dvd128 _ _ _,
   fun _ => by rw [k0_off12_eq _ _ _]; exact ring_sz (by omega) _ _ _,
   fun _ => by rw [k0_off12_eq _ _ _, k0_sz5_eq _ _ _]; exact sq_sz _ _ _,
   fun _ => by rw [k0_off13_eq _ _ _, e1, e2, toNat_of (by omega), off2048 hj]; exact hbm_sz hb hj _ _ _,
   fun _ => by rw [k0_off13_eq _ _ _, k0_sz6_eq _ _ _]; exact sq_sz _ _ _,
   fun _ => by rw [k0_off13_eq _ _ _]; exact okWW4,
   fun _ => by rw [k0_off12_eq _ _ _]; exact okWW3⟩
theorem k0_chk6_ok (v337 : BitVec 32)  : k0_chk6 v337 :=
  ⟨by rw [k0_mult7_eq _]; exact dvd128 _ _ _,
   by rw [k0_off21_eq _, k0_sz7_eq _]; exact sq_sz _ _ _,
   by rw [k0_off22_eq _, k0_sz8_eq _]; exact sq_sz _ _ _⟩
theorem k0_chk8_ok {b : ℕ} (hb : b < 16)  : k0_chk8 (BitVec.ofNat 32 b) :=
  ⟨by rw [k0_off31_eq _, toNat_of (by omega)]; exact ok_S1 (by omega),
   by rw [k0_off41_eq _, toNat_of (by omega)]; exact ok_S1 (by omega),
   by rw [k0_off64_eq _, toNat_of (by omega)]; exact ok_S1 (by omega)⟩
theorem k0_chk9_ok (v1 : BitVec 32) (k0_t3 : Fin (k0_t3_loop v1).trips) (ht : k0_t3.val < 300) {b : ℕ} (hb : b < 16)  : k0_chk9 v1 k0_t3 (BitVec.ofNat 32 b) :=
  ⟨fun _ => by rw [k0_off32_eq _, toNat_of (by omega)]; exact ok_S1 (by omega),
   by rw [k0_off36_eq _, toNat_of (by omega)]; exact ok_S1 (by omega)⟩
theorem k0_chk10_ok (v1 : BitVec 32) (k0_t3 : Fin (k0_t3_loop v1).trips) (ht : k0_t3.val < 300) {b : ℕ} (hb : b < 16) {j : ℕ} (hj : j < 16) (v740 : BitVec 32)  : k0_chk10 v1 k0_t3 (BitVec.ofNat 32 b) (BitVec.ofNat 32 j) v740 :=
  ⟨fun _ => by rw [k0_mult9_eq _ _ _ _ ht]; exact dvd128 _ _ _,
   fun _ => by rw [k0_off34_eq _ _ _ _ ht]; exact ring_sz (by omega) _ _ _,
   fun _ => by rw [k0_off34_eq _ _ _ _ ht, k0_sz9_eq _ _ _ _ ht]; exact sq_sz _ _ _,
   fun _ => by rw [k0_off35_eq _ _ _ _ _ ht, toNat_of (by omega), off2048 hj]; exact hbm_sz hb hj _ _ _,
   fun _ => by rw [k0_off35_eq _ _ _ _ _ ht, k0_sz10_eq _ _ _ _ ht]; exact sq_sz _ _ _,
   fun _ => by rw [k0_off35_eq _ _ _ _ _ ht]; exact okWW4,
   fun _ => by rw [k0_off34_eq _ _ _ _ ht]; exact okWW3⟩
theorem k0_chk11_ok (v1 : BitVec 32) (k0_t3 : Fin (k0_t3_loop v1).trips) (ht : k0_t3.val < 300) {j : ℕ} (hj : j < 16)  : k0_chk11 v1 k0_t3 (BitVec.ofNat 32 j) :=
  fun _ => by rw [k0_mult10_eq _]; exact dvd2048 hj
theorem k0_chk12_ok (v1 : BitVec 32) (k0_t3 : Fin (k0_t3_loop v1).trips) (ht : k0_t3.val < 300) (arg23 : BitVec 32) (arg24 : BitVec 32) (v444 : BitVec 32) {nb j : ℕ} (hnb : nb < 16) (hj : j < 16) (e1 : nbWord arg23 arg24 v444 = BitVec.ofNat 32 nb) (e2 : njWord arg24 v444 = BitVec.ofNat 32 j) : k0_chk12 v1 k0_t3 arg23 arg24 v444 :=
  ⟨fun _ => by rw [k0_off37_eq _ _ _, e1, toNat_of (by omega)]; exact ok_S1 (by omega),
   fun _ => by rw [k0_mult12_eq _ _, e2]; exact dvd2048 hj,
   by rw [k0_off45_eq _ _ _, e1, toNat_of (by omega)]; exact ok_S1 (by omega),
   by rw [k0_off47_eq _ _ _, e1, toNat_of (by omega)]; exact ok_S1x1x16x256 (by omega) (by decide),
   by rw [k0_off49_eq _ _ _, e1, toNat_of (by omega)]; exact ok_S1x16x128 (by omega) (by decide),
   by rw [k0_off53_eq _ _ _, e1, toNat_of (by omega)]; exact ok_S1x1x16x256 (by omega) (by decide),
   by rw [k0_off55_eq _ _ _, e1, toNat_of (by omega)]; exact ok_S1x16x128 (by omega) (by decide)⟩
theorem k0_chk13_ok (v1 : BitVec 32) (k0_t3 : Fin (k0_t3_loop v1).trips) (ht : k0_t3.val < 300) (arg23 : BitVec 32) (arg24 : BitVec 32) (v444 : BitVec 32) (v741 : BitVec 32)  : k0_chk13 v1 k0_t3 arg23 arg24 v444 v741 :=
  ⟨fun _ => by rw [k0_mult11_eq _ _ _ _ _ ht]; exact dvd128 _ _ _,
   fun _ => by rw [k0_off39_eq _ _ _ _ _ ht, k0_sz11_eq _ _ _ _ _ ht]; exact sq_sz _ _ _,
   fun _ => by rw [k0_off40_eq _ _ _ _ _ _ ht, k0_sz12_eq _ _ _ _ _ ht]; exact sq_sz _ _ _⟩
theorem k0_chk14_ok (v1 : BitVec 32) (k0_t3 : Fin (k0_t3_loop v1).trips) (ht : k0_t3.val < 300) (arg23 : BitVec 32) (arg24 : BitVec 32) (v477 : BitVec 32)  : k0_chk14 v1 k0_t3 arg23 arg24 v477 :=
  ⟨by rw [k0_mult13_eq _ _ _ _ ht]; exact dvd128 _ _ _,
   by rw [k0_off43_eq _ _ _ _ ht, k0_sz13_eq _ _ _ _ ht]; exact sq_sz _ _ _,
   by rw [k0_off44_eq _ _ _ _ _ ht, k0_sz14_eq _ _ _ _ ht]; exact sq_sz _ _ _⟩
theorem k0_chk15_ok {j : ℕ} (hj : j < 16)  : k0_chk15 (BitVec.ofNat 32 j) :=
  by unfold k0_chk15; rw [k0_mult14_eq _]; exact dvd2048 hj
theorem k0_chk16_ok (v1 : BitVec 32) (k0_t3 : Fin (k0_t3_loop v1).trips) (ht : k0_t3.val < 300) {b : ℕ} (hb : b < 16) (arg24 : BitVec 32) (v731 : BitVec 32)  : k0_chk16 v1 k0_t3 (BitVec.ofNat 32 b) arg24 v731 :=
  ⟨fun _ => by rw [k0_off65_eq _, toNat_of (by omega)]; exact ok_S1x8x64 (by omega) (by decide),
   fun _ => by rw [k0_off66_eq _, toNat_of (by omega)]; exact ok_S1x16x128 (by omega) (by decide),
   fun _ => by rw [k0_off67_eq _ _ ht]; exact ok_S1x1x16x128 (by omega) (by decide),
   fun _ => by rw [k0_off68_eq _, toNat_of (by omega)]; exact ok_S1x16x64 (by omega) (by decide),
   fun _ => by rw [k0_off68_eq _]; exact fun h => okPacked (by decide) h,
   fun _ => by rw [k0_off69_eq _, toNat_of (by omega)]; exact ok_S1x16x128 (by omega) (by decide),
   fun _ => by rw [k0_off70_eq _ _ ht]; exact ok_S1x1x16x128 (by omega) (by decide),
   fun _ => by rw [k0_off71_eq _, toNat_of (by omega)]; exact ok_S1x16x64 (by omega) (by decide),
   fun _ => by rw [k0_off71_eq _]; exact fun h => okPacked (by decide) h⟩
set_option maxHeartbeats 2000000 in
theorem k0_chk7_0_ok {n : ℕ} (hn : n < 300) : k0_chk7_0 (BitVec.ofNat 32 n) := by
  have t3lt : ∀ t : Fin (k0_t3_loop (BitVec.ofNat 32 n)).trips, t.val < 300 := fun t => lt_of_lt_of_le t.isLt (by rw [(t3_bounds hn).1]; omega)
  have t4e := (t4_bounds hn).1
  exact ⟨(t3_bounds hn).2,
   fun t => fun _ => by rw [k0_off33_eq _ _ (t3lt t)]; exact ok_S4 (by omega),
   fun t => fun _ => by rw [k0_off38_eq _ _ (t3lt t)]; exact ok_S4 (by omega),
   fun t => by rw [k0_off42_eq _ _ (t3lt t)]; exact ok_S4 (by omega),
   fun t => by rw [k0_off46_eq _ _ (t3lt t)]; exact ok_S1x256x2048 (by omega) (by decide),
   fun t => by rw [k0_off48_eq _ _ (t3lt t)]; exact ok_S1x1x16x2048 (by omega) (by decide),
   fun t => by rw [k0_off50_eq _ _ (t3lt t)]; exact ok_S1x1x16x128 (by omega) (by decide),
   fun t => by rw [k0_off51_eq _ _ (t3lt t)]; exact ok_S1x1x16x128 (by omega) (by decide),
   fun t => by rw [k0_off52_eq _ _ (t3lt t)]; exact ok_S1x256x2048 (by omega) (by decide),
   fun t => by rw [k0_off54_eq _ _ (t3lt t)]; exact ok_S1x1x16x2048 (by omega) (by decide),
   fun t => by rw [k0_off56_eq _ _ (t3lt t)]; exact ok_S1x1x16x128 (by omega) (by decide),
   fun t => by rw [k0_off57_eq _ _ (t3lt t)]; exact ok_S1x1x16x128 (by omega) (by decide),
   fun t => by rw [k0_off58_eq _ _ (t3lt t)]; exact ok_S1x1x16x128 (by omega) (by decide),
   fun t => by rw [k0_off59_eq _ _ (t3lt t)]; exact ok_S1x1x16x2048 (by omega) (by decide),
   fun t => by rw [k0_off60_eq _ _ (t3lt t)]; exact ok_S1x256x2048 (by omega) (by decide),
   fun t => by rw [k0_off61_eq _ _ (t3lt t)]; exact ok_S1x1x16x128 (by omega) (by decide),
   fun t => by rw [k0_off62_eq _ _ (t3lt t)]; exact ok_S1x1x16x2048 (by omega) (by decide),
   fun t => by rw [k0_off63_eq _ _ (t3lt t)]; exact ok_S1x256x2048 (by omega) (by decide),
   (t4_bounds hn).2,
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _)⟩
set_option maxHeartbeats 2000000 in
theorem k0_chk7_1_ok {n : ℕ} (hn : n < 300) : k0_chk7_1 (BitVec.ofNat 32 n) := by
  have t3lt : ∀ t : Fin (k0_t3_loop (BitVec.ofNat 32 n)).trips, t.val < 300 := fun t => lt_of_lt_of_le t.isLt (by rw [(t3_bounds hn).1]; omega)
  have t4e := (t4_bounds hn).1
  exact ⟨fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _)⟩
theorem k0_chk7_ok {n : ℕ} (hn : n < 300) : k0_chk7 (BitVec.ofNat 32 n) := ⟨k0_chk7_0_ok hn, k0_chk7_1_ok hn⟩

end Cert.Kernel.Hand
end
-- ==== Proof.K.Ring.lean ====
module

public import proofs.«01_k».proof.Proof.K.Base
public import proofs.«01_k».proof.Proof.K.Words
public import Idealize.ShloMosaic.Lib.Transfers

@[expose] public section
noncomputable section
namespace Cert.Kernel.Hand
open Cert.Kernel Cert.Kernel.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- The keys' four cells and the values' four cells. -/
abbrev A18 : DmaSems sig S4 := cc0_scratch9
abbrev A19 : DmaSems sig S4 := cc0_scratch10
def semK (i : ℕ) : DmaSem sig := (⟨7 + i % 4, by show 7 + i % 4 < 15; omega⟩ : Fin 15)
def semV (i : ℕ) : DmaSem sig := (⟨11 + i % 4, by show 11 + i % 4 < 15; omega⟩ : Fin 15)

omit [FloatOps F] in
theorem cred_pos {n : ℕ} (hn : 0 < n) {b : Ref sig .tc} : 0 < b.dmaCredit (⟨2, ![512, n]⟩ : Shape) .fp8e4m3 := by
  refine sig.dmaCredit_pos _ _ _ _ _ ?_
  show 0 < ∏ a, (![512, n] : Fin 2 → ℕ) a
  rw [Fin.prod_univ_two]
  show 0 < 512 * n
  omega

theorem wp_asm (c : Dev nD) {p : Prop} {dec : Decidable p} (hp : p) {Q : PLift p → sProp 𝕄} :
    (Q ⟨hp⟩) ⊢ wp frame (wpE (defs₀ (F := F)) Variants.none (c : Thread nD τ) none) Set.univ (Prog.lift (TpuEff.assume p dec)) Q := by
  iintro H
  iapply (wp_assume Variants.none (c : Thread nD τ) none Set.univ hp)
  rw [wp_ret]
  imodintro
  iexact H

/-! ## The keys' ring -/

theorem semK_eq {i : ℕ} (hi : i < 4) {inb : ∀ a, (![i] : Fin 1 → ℕ) a + S1.size a ≤ S4.size a} :
    ((A18.slice (Rect.unit (s := S4) ![i] S1.size inb)).squeeze S_ squeezes_S1_S_).sem = semK i := by
  have e : ((A18.slice (Rect.unit (s := S4) ![i] S1.size inb)).squeeze S_ squeezes_S1_S_).sem = A18.ix (fun a => (⟨i, by fin_cases a; exact hi⟩ : Fin (S4.size a))) := by
    show A18.ix ((Rect.unit (s := S4) ![i] S1.size inb).emb (Shape.reshapeEquiv squeezes_S1_S_.numel_eq (fun i => i.elim0))) = _
    congr 1
    generalize Shape.reshapeEquiv squeezes_S1_S_.numel_eq (fun i => i.elim0) = z
    funext a
    apply Fin.ext
    have h0 : (z 0).val < 1 := (z 0).isLt
    obtain rfl : a = 0 := Subsingleton.elim _ _
    show i + 1 * (z 0).val = i
    omega
  rw [e]
  obtain rfl | rfl | rfl | rfl : i = 0 ∨ i = 1 ∨ i = 2 ∨ i = 3 := by omega
  all_goals (clear e inb; revert hi; decide)

section K
variable (c : Dev nD) (X : Vec F S16x512x32768 .fp8e4m3)

/-- Slot `i` idle: its elements at `f`, its cell at zero, and the slot's share of the cache. -/
def FreeK (i : ℕ) (f : Vec F S4x512x2048 .fp8e4m3) : sProp 𝕄 :=
  iprop((A9.view.loc (c : Thread nD τ) ↦[slot i]{fullShare} f) ∗ semVal ((c : Thread nD τ), SemLoc.dma (semK i)) 0
    ∗ (A6.view.loc (c : Thread nD τ) ↦{Transfers.shareTokN fullShare i} X))
/-- Slot `i` being filled with `n` columns, after which it holds `f`. -/
def FlyK (i n : ℕ) (f : Vec F S4x512x2048 .fp8e4m3) : sProp 𝕄 :=
  iprop(∃ win : Finset S16x512x32768.Idx,
    Transfers.Flight countersEmb (c : Thread nD τ) (SemLoc.dma (semK i)) () (cc0_scratch0.dmaCredit (⟨2, ![512, n]⟩ : Shape) .fp8e4m3)
      iprop((A9.view.loc (c : Thread nD τ) ↦[slot i]{fullShare} f) ∗ (A6.view.loc (c : Thread nD τ) ↦[win]{Transfers.shareTokN fullShare i} X))
    ∗ (A6.view.loc (c : Thread nD τ) ↦[Finset.univ \ win]{Transfers.shareTokN fullShare i} X))

theorem slotK_sub {i n : ℕ} {inb3 : ∀ a, (![1, 512, n] : Fin 3 → ℕ) a = 0 ∨ (![i, 0, 0] : Fin 3 → ℕ) a + (![1, 512, n] : Fin 3 → ℕ) a ≤ S4x512x2048.size a}
    {hs3} {sq : Shape.Squeezes ⟨3, ![1, 512, n]⟩ ⟨2, ![512, n]⟩} :
    ((A9.slice (Rect.unitDyn (s := S4x512x2048) ![i, 0, 0] ![1, 512, n] inb3) hs3).squeeze ⟨2, ![512, n]⟩ sq).view.set ⊆ slot i := by
  intro y hy
  obtain ⟨w, -, hw⟩ := Finset.mem_map.mp hy
  have e : y = (Rect.unitDyn (s := S4x512x2048) ![i, 0, 0] ![1, 512, n] inb3).emb (Shape.reshapeEquiv sq.numel_eq w) := hw.symm
  generalize Shape.reshapeEquiv sq.numel_eq w = z at e
  have h0 : (z 0).val < 1 := (z 0).isLt
  have e0 : (y 0).val = i + 1 * (z 0).val := by rw [e]; rfl
  exact Finset.mem_filter.mpr ⟨Finset.mem_univ _, by omega⟩

theorem wp_fetchK {i b o n : ℕ} {o3 o4 : (Fin 3 → ℕ) × (Fin 3 → ℕ)} {sz : Fin 2 → ℕ} {os : Fin 1 → ℕ}
    (e3 : o3 = (![i, 0, 0], ![1, 512, n])) (e4 : o4 = (![b, 0, o], ![1, 512, n])) (es : sz = ![512, n]) (eo : os = ![i]) (hi : i < 4) (hn : 0 < n)
    {inbs : ∀ a, os a + S1.size a ≤ S4.size a}
    {inb3 : ∀ a, o3.2 a = 0 ∨ o3.1 a + o3.2 a ≤ S4x512x2048.size a} {inb4 : ∀ a, o4.2 a = 0 ∨ o4.1 a + o4.2 a ≤ S16x512x32768.size a}
    {hs3 : ∀ a : Fin S4x512x2048.rank, (Rect.unitDyn (s := S4x512x2048) o3.1 o3.2 inb3).stride a = 1} {hs4 : ∀ a : Fin S16x512x32768.rank, (Rect.unitDyn (s := S16x512x32768) o4.1 o4.2 inb4).stride a = 1}
    {sq3 : Shape.Squeezes ⟨3, o3.2⟩ ⟨2, sz⟩} {sq4 : Shape.Squeezes ⟨3, o4.2⟩ ⟨2, sz⟩} {hw1 hw2 hsem}
    (f : Vec F S4x512x2048 .fp8e4m3) {Q : PUnit → sProp 𝕄} :
    FreeK c X i f ⊢ iprop((FlyK c X i n (fetched X b o n i f) -∗ Q ⟨⟩)
      -∗ wp frame (wpE (defs₀ (F := F)) Variants.none (c : Thread nD τ) none) Set.univ
        (Prog.lift (.enqueueDma ((A6.slice (Rect.unitDyn (s := S16x512x32768) o4.1 o4.2 inb4) hs4).squeeze (⟨2, sz⟩ : Shape) sq4)
          (.here ((A9.slice (Rect.unitDyn (s := S4x512x2048) o3.1 o3.2 inb3) hs3).squeeze (⟨2, sz⟩ : Shape) sq3))
          (.dma ((A18.slice (Rect.unit (s := S4) os S1.size inbs)).squeeze S_ squeezes_S1_S_).sem) hw1 hw2 hsem)) Q) := by
  subst e3 e4 es eo
  revert hsem
  rw [show ((A18.slice (Rect.unit (s := S4) ![i] S1.size inbs)).squeeze S_ squeezes_S1_S_).sem = semK i from semK_eq hi]
  intro hsem
  unfold FreeK FlyK
  iintro ⟨H9, Hs, H6⟩ HQ
  ihave ⟨H6a, H6b⟩ := (pointsTo_split_subset (Finset.subset_univ (((A6.slice (Rect.unitDyn (s := S16x512x32768) ![b, 0, o] ![1, 512, n] inb4) hs4).squeeze (⟨2, ![512, n]⟩ : Shape) sq4).view.set))).1 $$ H6
  iapply (Transfers.wp_dmaLocal countersEmb Variants.none (c : Thread nD τ) none () (cc0_scratch0.dmaCredit (⟨2, ![512, n]⟩ : Shape) .fp8e4m3) rfl (cred_pos hn) (slotK_sub (hs3 := hs3) (sq := sq3))) $$ [H9 Hs H6a]
  · isplitl [H6a]; · iexact H6a
    isplitl [H9]; · iexact H9
    iexact Hs
  iintro HF
  rw [wp_ret]
  imodintro
  iapply HQ
  iexists (((A6.slice (Rect.unitDyn (s := S16x512x32768) ![b, 0, o] ![1, 512, n] inb4) hs4).squeeze (⟨2, ![512, n]⟩ : Shape) sq4).view.set)
  isplitl [HF]
  · rw [← fetched_eq (inb3 := inb3) (inb4 := inb4) (hs3 := hs3) (hs4 := hs4) (sq := sq3) hn X f]
    iexact HF
  · iexact H6b

theorem wp_waitK {i n : ℕ} {sz : Fin 2 → ℕ} {os : Fin 1 → ℕ} (es : sz = ![512, n]) (eo : os = ![i]) (hi : i < 4)
    {inbs : ∀ a, os a + S1.size a ≤ S4.size a} {hk} {f : Vec F S4x512x2048 .fp8e4m3} {Q : PUnit → sProp 𝕄} :
    iprop(FlyK c X i n f ∗ (∃ W, owes (c : Thread nD τ) 0 W)) ⊢ iprop((FreeK c X i f ∗ (∃ W, owes (c : Thread nD τ) 0 W) -∗ Q ⟨⟩)
      -∗ wp frame (wpE (defs₀ (F := F)) Variants.none (c : Thread nD τ) none) Set.univ
        (Prog.lift (.waitDma ((A18.slice (Rect.unit (s := S4) os S1.size inbs)).squeeze S_ squeezes_S1_S_).sem A9.view.ref (⟨2, sz⟩ : Shape) .fp8e4m3 hk)) Q) := by
  subst es eo
  rw [show ((A18.slice (Rect.unit (s := S4) ![i] S1.size inbs)).squeeze S_ squeezes_S1_S_).sem = semK i from semK_eq hi]
  unfold FreeK FlyK
  iintro ⟨⟨%win, HF, H6b⟩, ⟨%W, HO⟩⟩ HQ
  iapply (Transfers.wp_waitLocalSized countersEmb Variants.none (c : Thread nD τ) none (b := cc0_scratch0) () rfl) $$ [HF HO]
  · isplitl [HF]; · iexact HF
    iexact HO
  iintro ⟨⟨H9, H6a⟩, Hs, HO⟩
  rw [wp_ret]
  imodintro
  iapply HQ
  isplitl [H9 H6a H6b Hs]
  · isplitl [H9]; · iexact H9
    isplitl [Hs]; · iexact Hs
    iapply (pointsTo_split_subset (Finset.subset_univ win)).2
    isplitl [H6a]; · iexact H6a
    iexact H6b
  · iexists _
    iexact HO

theorem wp_loadK {i r : ℕ} {os : Fin 3 → ℕ} (eo : os = ![i, r, 0]) {inb : ∀ a, os a + S1x256x2048.size a ≤ S4x512x2048.size a} {hl}
    {f : Vec F S4x512x2048 .fp8e4m3} {Q : (S1x256x2048.Idx → Elt F .fp8e4m3) → sProp 𝕄} :
    FreeK c X i f ⊢ iprop((FreeK c X i f -∗ Q (gt S4x512x2048 ![i, r, 0] S1x256x2048.size f))
      -∗ wp frame (wpE (defs₀ (F := F)) Variants.none (c : Thread nD τ) none) Set.univ
        (Prog.lift (.load A9 (Rect.unit (s := S4x512x2048) os S1x256x2048.size inb).toLoadRect hl)) Q) := by
  subst eo
  unfold FreeK
  iintro ⟨H9, Hs, H6⟩ HQ
  iapply (wp_load (m := A9) (S := slot i) (f := f) Variants.none (c : Thread nD τ) none Set.univ ?_) $$ H9
  · intro y hy
    obtain ⟨z, hz, rfl⟩ := Finset.mem_map.mp hy
    have hz' : z ∈ (Rect.unit (s := S4x512x2048) ![i, r, 0] S1x256x2048.size inb).set := hz
    rw [← Rect.map_emb_univ] at hz'
    obtain ⟨w, -, rfl⟩ := Finset.mem_map.mp hz'
    refine Finset.mem_filter.mpr ⟨Finset.mem_univ _, ?_⟩
    show i + 1 * (w 0).val = i
    have : (w 0).val < 1 := (w 0).isLt
    omega
  iintro H9
  rw [wp_ret]
  imodintro
  rw [show A9.view.readAt (Elt F) (Rect.unit (s := S4x512x2048) ![i, r, 0] S1x256x2048.size inb).toLoadRect f = gt S4x512x2048 ![i, r, 0] S1x256x2048.size f from ld9 rfl]
  iapply HQ
  isplitl [H9]; · iexact H9
  isplitl [Hs]; · iexact Hs
  iexact H6

end K

/-! ## The values' ring -/

theorem semV_eq {i : ℕ} (hi : i < 4) {inb : ∀ a, (![i] : Fin 1 → ℕ) a + S1.size a ≤ S4.size a} :
    ((A19.slice (Rect.unit (s := S4) ![i] S1.size inb)).squeeze S_ squeezes_S1_S_).sem = semV i := by
  have e : ((A19.slice (Rect.unit (s := S4) ![i] S1.size inb)).squeeze S_ squeezes_S1_S_).sem = A19.ix (fun a => (⟨i, by fin_cases a; exact hi⟩ : Fin (S4.size a))) := by
    show A19.ix ((Rect.unit (s := S4) ![i] S1.size inb).emb (Shape.reshapeEquiv squeezes_S1_S_.numel_eq (fun i => i.elim0))) = _
    congr 1
    generalize Shape.reshapeEquiv squeezes_S1_S_.numel_eq (fun i => i.elim0) = z
    funext a
    apply Fin.ext
    have h0 : (z 0).val < 1 := (z 0).isLt
    obtain rfl : a = 0 := Subsingleton.elim _ _
    show i + 1 * (z 0).val = i
    omega
  rw [e]
  obtain rfl | rfl | rfl | rfl : i = 0 ∨ i = 1 ∨ i = 2 ∨ i = 3 := by omega
  all_goals (clear e inb; revert hi; decide)

section V
variable (c : Dev nD) (X : Vec F S16x512x32768 .fp8e4m3)

/-- Slot `i` idle: its elements at `f`, its cell at zero, and the slot's share of the cache. -/
def FreeV (i : ℕ) (f : Vec F S4x512x2048 .fp8e4m3) : sProp 𝕄 :=
  iprop((A10.view.loc (c : Thread nD τ) ↦[slot i]{fullShare} f) ∗ semVal ((c : Thread nD τ), SemLoc.dma (semV i)) 0
    ∗ (A7.view.loc (c : Thread nD τ) ↦{Transfers.shareTokN fullShare i} X))
/-- Slot `i` being filled with `n` columns, after which it holds `f`. -/
def FlyV (i n : ℕ) (f : Vec F S4x512x2048 .fp8e4m3) : sProp 𝕄 :=
  iprop(∃ win : Finset S16x512x32768.Idx,
    Transfers.Flight countersEmb (c : Thread nD τ) (SemLoc.dma (semV i)) () (cc0_scratch1.dmaCredit (⟨2, ![512, n]⟩ : Shape) .fp8e4m3)
      iprop((A10.view.loc (c : Thread nD τ) ↦[slot i]{fullShare} f) ∗ (A7.view.loc (c : Thread nD τ) ↦[win]{Transfers.shareTokN fullShare i} X))
    ∗ (A7.view.loc (c : Thread nD τ) ↦[Finset.univ \ win]{Transfers.shareTokN fullShare i} X))

theorem slotV_sub {i n : ℕ} {inb3 : ∀ a, (![1, 512, n] : Fin 3 → ℕ) a = 0 ∨ (![i, 0, 0] : Fin 3 → ℕ) a + (![1, 512, n] : Fin 3 → ℕ) a ≤ S4x512x2048.size a}
    {hs3} {sq : Shape.Squeezes ⟨3, ![1, 512, n]⟩ ⟨2, ![512, n]⟩} :
    ((A10.slice (Rect.unitDyn (s := S4x512x2048) ![i, 0, 0] ![1, 512, n] inb3) hs3).squeeze ⟨2, ![512, n]⟩ sq).view.set ⊆ slot i := by
  intro y hy
  obtain ⟨w, -, hw⟩ := Finset.mem_map.mp hy
  have e : y = (Rect.unitDyn (s := S4x512x2048) ![i, 0, 0] ![1, 512, n] inb3).emb (Shape.reshapeEquiv sq.numel_eq w) := hw.symm
  generalize Shape.reshapeEquiv sq.numel_eq w = z at e
  have h0 : (z 0).val < 1 := (z 0).isLt
  have e0 : (y 0).val = i + 1 * (z 0).val := by rw [e]; rfl
  exact Finset.mem_filter.mpr ⟨Finset.mem_univ _, by omega⟩

theorem wp_fetchV {i b o n : ℕ} {o3 o4 : (Fin 3 → ℕ) × (Fin 3 → ℕ)} {sz : Fin 2 → ℕ} {os : Fin 1 → ℕ}
    (e3 : o3 = (![i, 0, 0], ![1, 512, n])) (e4 : o4 = (![b, 0, o], ![1, 512, n])) (es : sz = ![512, n]) (eo : os = ![i]) (hi : i < 4) (hn : 0 < n)
    {inbs : ∀ a, os a + S1.size a ≤ S4.size a}
    {inb3 : ∀ a, o3.2 a = 0 ∨ o3.1 a + o3.2 a ≤ S4x512x2048.size a} {inb4 : ∀ a, o4.2 a = 0 ∨ o4.1 a + o4.2 a ≤ S16x512x32768.size a}
    {hs3 : ∀ a : Fin S4x512x2048.rank, (Rect.unitDyn (s := S4x512x2048) o3.1 o3.2 inb3).stride a = 1} {hs4 : ∀ a : Fin S16x512x32768.rank, (Rect.unitDyn (s := S16x512x32768) o4.1 o4.2 inb4).stride a = 1}
    {sq3 : Shape.Squeezes ⟨3, o3.2⟩ ⟨2, sz⟩} {sq4 : Shape.Squeezes ⟨3, o4.2⟩ ⟨2, sz⟩} {hw1 hw2 hsem}
    (f : Vec F S4x512x2048 .fp8e4m3) {Q : PUnit → sProp 𝕄} :
    FreeV c X i f ⊢ iprop((FlyV c X i n (fetched X b o n i f) -∗ Q ⟨⟩)
      -∗ wp frame (wpE (defs₀ (F := F)) Variants.none (c : Thread nD τ) none) Set.univ
        (Prog.lift (.enqueueDma ((A7.slice (Rect.unitDyn (s := S16x512x32768) o4.1 o4.2 inb4) hs4).squeeze (⟨2, sz⟩ : Shape) sq4)
          (.here ((A10.slice (Rect.unitDyn (s := S4x512x2048) o3.1 o3.2 inb3) hs3).squeeze (⟨2, sz⟩ : Shape) sq3))
          (.dma ((A19.slice (Rect.unit (s := S4) os S1.size inbs)).squeeze S_ squeezes_S1_S_).sem) hw1 hw2 hsem)) Q) := by
  subst e3 e4 es eo
  revert hsem
  rw [show ((A19.slice (Rect.unit (s := S4) ![i] S1.size inbs)).squeeze S_ squeezes_S1_S_).sem = semV i from semV_eq hi]
  intro hsem
  unfold FreeV FlyV
  iintro ⟨H9, Hs, H6⟩ HQ
  ihave ⟨H6a, H6b⟩ := (pointsTo_split_subset (Finset.subset_univ (((A7.slice (Rect.unitDyn (s := S16x512x32768) ![b, 0, o] ![1, 512, n] inb4) hs4).squeeze (⟨2, ![512, n]⟩ : Shape) sq4).view.set))).1 $$ H6
  iapply (Transfers.wp_dmaLocal countersEmb Variants.none (c : Thread nD τ) none () (cc0_scratch1.dmaCredit (⟨2, ![512, n]⟩ : Shape) .fp8e4m3) rfl (cred_pos hn) (slotV_sub (hs3 := hs3) (sq := sq3))) $$ [H9 Hs H6a]
  · isplitl [H6a]; · iexact H6a
    isplitl [H9]; · iexact H9
    iexact Hs
  iintro HF
  rw [wp_ret]
  imodintro
  iapply HQ
  iexists (((A7.slice (Rect.unitDyn (s := S16x512x32768) ![b, 0, o] ![1, 512, n] inb4) hs4).squeeze (⟨2, ![512, n]⟩ : Shape) sq4).view.set)
  isplitl [HF]
  · rw [← fetched_eqV (inb3 := inb3) (inb4 := inb4) (hs3 := hs3) (hs4 := hs4) (sq := sq3) hn X f]
    iexact HF
  · iexact H6b

theorem wp_waitV {i n : ℕ} {sz : Fin 2 → ℕ} {os : Fin 1 → ℕ} (es : sz = ![512, n]) (eo : os = ![i]) (hi : i < 4)
    {inbs : ∀ a, os a + S1.size a ≤ S4.size a} {hk} {f : Vec F S4x512x2048 .fp8e4m3} {Q : PUnit → sProp 𝕄} :
    iprop(FlyV c X i n f ∗ (∃ W, owes (c : Thread nD τ) 0 W)) ⊢ iprop((FreeV c X i f ∗ (∃ W, owes (c : Thread nD τ) 0 W) -∗ Q ⟨⟩)
      -∗ wp frame (wpE (defs₀ (F := F)) Variants.none (c : Thread nD τ) none) Set.univ
        (Prog.lift (.waitDma ((A19.slice (Rect.unit (s := S4) os S1.size inbs)).squeeze S_ squeezes_S1_S_).sem A10.view.ref (⟨2, sz⟩ : Shape) .fp8e4m3 hk)) Q) := by
  subst es eo
  rw [show ((A19.slice (Rect.unit (s := S4) ![i] S1.size inbs)).squeeze S_ squeezes_S1_S_).sem = semV i from semV_eq hi]
  unfold FreeV FlyV
  iintro ⟨⟨%win, HF, H6b⟩, ⟨%W, HO⟩⟩ HQ
  iapply (Transfers.wp_waitLocalSized countersEmb Variants.none (c : Thread nD τ) none (b := cc0_scratch1) () rfl) $$ [HF HO]
  · isplitl [HF]; · iexact HF
    iexact HO
  iintro ⟨⟨H9, H6a⟩, Hs, HO⟩
  rw [wp_ret]
  imodintro
  iapply HQ
  isplitl [H9 H6a H6b Hs]
  · isplitl [H9]; · iexact H9
    isplitl [Hs]; · iexact Hs
    iapply (pointsTo_split_subset (Finset.subset_univ win)).2
    isplitl [H6a]; · iexact H6a
    iexact H6b
  · iexists _
    iexact HO

theorem wp_loadV {i r : ℕ} {os : Fin 3 → ℕ} (eo : os = ![i, r, 0]) {inb : ∀ a, os a + S1x256x2048.size a ≤ S4x512x2048.size a} {hl}
    {f : Vec F S4x512x2048 .fp8e4m3} {Q : (S1x256x2048.Idx → Elt F .fp8e4m3) → sProp 𝕄} :
    FreeV c X i f ⊢ iprop((FreeV c X i f -∗ Q (gt S4x512x2048 ![i, r, 0] S1x256x2048.size f))
      -∗ wp frame (wpE (defs₀ (F := F)) Variants.none (c : Thread nD τ) none) Set.univ
        (Prog.lift (.load A10 (Rect.unit (s := S4x512x2048) os S1x256x2048.size inb).toLoadRect hl)) Q) := by
  subst eo
  unfold FreeV
  iintro ⟨H9, Hs, H6⟩ HQ
  iapply (wp_load (m := A10) (S := slot i) (f := f) Variants.none (c : Thread nD τ) none Set.univ ?_) $$ H9
  · intro y hy
    obtain ⟨z, hz, rfl⟩ := Finset.mem_map.mp hy
    have hz' : z ∈ (Rect.unit (s := S4x512x2048) ![i, r, 0] S1x256x2048.size inb).set := hz
    rw [← Rect.map_emb_univ] at hz'
    obtain ⟨w, -, rfl⟩ := Finset.mem_map.mp hz'
    refine Finset.mem_filter.mpr ⟨Finset.mem_univ _, ?_⟩
    show i + 1 * (w 0).val = i
    have : (w 0).val < 1 := (w 0).isLt
    omega
  iintro H9
  rw [wp_ret]
  imodintro
  rw [show A10.view.readAt (Elt F) (Rect.unit (s := S4x512x2048) ![i, r, 0] S1x256x2048.size inb).toLoadRect f = gt S4x512x2048 ![i, r, 0] S1x256x2048.size f from ld10 rfl]
  iapply HQ
  isplitl [H9]; · iexact H9
  isplitl [Hs]; · iexact Hs
  iexact H6

end V

end Cert.Kernel.Hand
end
-- ==== Proof.K.Parts.lean ====
module

public import proofs.«01_k».proof.Proof.K.Ring

@[expose] public section
noncomputable section
namespace Cert.Kernel.Hand
open Cert.Kernel Cert.Kernel.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- What the kernel reads: the eight operands. -/
structure Ins (F : FTy → Type) where
  lens : Vec F S16 .i32
  ks : Vec F S8 .f32
  vs : Vec F S8 .f32
  x : Vec F S16x32x64 .bf16
  kn : Vec F S16x8x64 .bf16
  vn : Vec F S16x8x64 .bf16
  XK : Vec F S16x512x32768 .fp8e4m3
  XV : Vec F S16x512x32768 .fp8e4m3
/-- What the kernel's vector memory holds besides the rings: the result and the seven scratch buffers. -/
structure St (F : FTy → Type) where
  f8 : Vec F S16x32x64 .bf16
  f11 : Vec F S2x2x16x2048 .f32
  f12 : Vec F S16x2x16x256 .bf16
  f13 : Vec F S16x32x128 .f32
  f14 : Vec F S2x2x16x128 .f32
  f15 : Vec F S2x2x16x128 .f32
  f16 : Vec F S2x16x128 .f32
  f17 : Vec F S2x16x256 .f32

def inp (c : Dev nD) (I : Ins F) : sProp 𝕄 :=
  iprop((A0.view.loc (c : Thread nD τ) ↦{fullShare} I.lens) ∗ (A1.view.loc (c : Thread nD τ) ↦{fullShare} I.ks) ∗ (A2.view.loc (c : Thread nD τ) ↦{fullShare} I.vs)
    ∗ (A3.view.loc (c : Thread nD τ) ↦{fullShare} I.x) ∗ (A4.view.loc (c : Thread nD τ) ↦{fullShare} I.kn) ∗ (A5.view.loc (c : Thread nD τ) ↦{fullShare} I.vn))
def pts (c : Dev nD) (s : St F) : sProp 𝕄 :=
  iprop((A8.view.loc (c : Thread nD τ) ↦{fullShare} s.f8) ∗ (A11.view.loc (c : Thread nD τ) ↦{fullShare} s.f11) ∗ (A12.view.loc (c : Thread nD τ) ↦{fullShare} s.f12)
    ∗ (A13.view.loc (c : Thread nD τ) ↦{fullShare} s.f13) ∗ (A14.view.loc (c : Thread nD τ) ↦{fullShare} s.f14) ∗ (A15.view.loc (c : Thread nD τ) ↦{fullShare} s.f15)
    ∗ (A16.view.loc (c : Thread nD τ) ↦{fullShare} s.f16) ∗ (A17.view.loc (c : Thread nD τ) ↦{fullShare} s.f17))
def all (c : Dev nD) (I : Ins F) (s : St F) : sProp 𝕄 := iprop(inp c I ∗ pts c s)

/-- Word `n` of the lengths, and of a vector of scales. -/
def lw (f : Vec F S16 .i32) (n : ℕ) : BitVec 32 := f (fun a => (⟨n % 16, by fin_cases a; show n % 16 < 16; omega⟩ : Fin (S16.size a)))
def sw (f : Vec F S8 .f32) (n : ℕ) : F .f32 := f (fun a => (⟨n % 8, by fin_cases a; show n % 8 < 8; omega⟩ : Fin (S8.size a)))

section
variable (c : Dev nD)
theorem wp_s0 {n : ℕ} {os : Fin 1 → ℕ} (eo : os = ![n]) {inb : ∀ a, os a + S1.size a ≤ S16.size a} {h1 hp} {f : Vec F S16 .i32} {Q : BitVec 32 → sProp 𝕄} :
    (A0.view.loc (c : Thread nD τ) ↦{fullShare} f) ⊢ iprop(((A0.view.loc (c : Thread nD τ) ↦{fullShare} f) -∗ Q (lw f n))
      -∗ wp frame (wpE (defs₀ (F := F)) Variants.none (c : Thread nD τ) none) Set.univ (smemLoad A0 (Rect.unit (s := S16) os S1.size inb) h1 hp) Q) := by
  subst eo
  have e : (A0.access (Rect.unit (s := S16) ![n] S1.size inb)).read (Elt F) f (Shape.Idx.first (h1.symm ▸ Nat.one_pos)) = lw f n := by
    show f ((Rect.unit (s := S16) ![n] S1.size inb).emb (Shape.Idx.first (h1.symm ▸ Nat.one_pos))) = _
    unfold lw
    congr 1
    funext a
    apply Fin.ext
    obtain rfl : a = 0 := Subsingleton.elim _ _
    have h2 : n + 1 ≤ 16 := inb 0
    generalize Shape.Idx.first (s := (Rect.unit (s := S16) ![n] S1.size inb).shape) (h1.symm ▸ Nat.one_pos) = z
    have h0' : (z 0).val < 1 := (z 0).isLt
    show n + 1 * (z 0).val = n % 16
    omega
  rw [← e]
  exact wp_sld c (m := A0)
theorem wp_s1 {n : ℕ} {inb : ∀ a, (![n] : Fin 1 → ℕ) a + S1.size a ≤ S8.size a} {h1 hp} {f : Vec F S8 .f32} {Q : F .f32 → sProp 𝕄} :
    (A1.view.loc (c : Thread nD τ) ↦{fullShare} f) ⊢ iprop(((A1.view.loc (c : Thread nD τ) ↦{fullShare} f) -∗ Q (sw f n))
      -∗ wp frame (wpE (defs₀ (F := F)) Variants.none (c : Thread nD τ) none) Set.univ (smemLoad A1 (Rect.unit (s := S8) ![n] S1.size inb) h1 hp) Q) := by
  have e : (A1.access (Rect.unit (s := S8) ![n] S1.size inb)).read (Elt F) f (Shape.Idx.first (h1.symm ▸ Nat.one_pos)) = sw f n := by
    show f ((Rect.unit (s := S8) ![n] S1.size inb).emb (Shape.Idx.first (h1.symm ▸ Nat.one_pos))) = _
    unfold sw
    congr 1
    funext a
    apply Fin.ext
    obtain rfl : a = 0 := Subsingleton.elim _ _
    have h2 : n + 1 ≤ 8 := inb 0
    generalize Shape.Idx.first (s := (Rect.unit (s := S8) ![n] S1.size inb).shape) (h1.symm ▸ Nat.one_pos) = z
    have h0' : (z 0).val < 1 := (z 0).isLt
    show n + 1 * (z 0).val = n % 8
    omega
  rw [← e]
  exact wp_sld c (m := A1)
theorem wp_s2 {n : ℕ} {inb : ∀ a, (![n] : Fin 1 → ℕ) a + S1.size a ≤ S8.size a} {h1 hp} {f : Vec F S8 .f32} {Q : F .f32 → sProp 𝕄} :
    (A2.view.loc (c : Thread nD τ) ↦{fullShare} f) ⊢ iprop(((A2.view.loc (c : Thread nD τ) ↦{fullShare} f) -∗ Q (sw f n))
      -∗ wp frame (wpE (defs₀ (F := F)) Variants.none (c : Thread nD τ) none) Set.univ (smemLoad A2 (Rect.unit (s := S8) ![n] S1.size inb) h1 hp) Q) := by
  have e : (A2.access (Rect.unit (s := S8) ![n] S1.size inb)).read (Elt F) f (Shape.Idx.first (h1.symm ▸ Nat.one_pos)) = sw f n := by
    show f ((Rect.unit (s := S8) ![n] S1.size inb).emb (Shape.Idx.first (h1.symm ▸ Nat.one_pos))) = _
    unfold sw
    congr 1
    funext a
    apply Fin.ext
    obtain rfl : a = 0 := Subsingleton.elim _ _
    have h2 : n + 1 ≤ 8 := inb 0
    generalize Shape.Idx.first (s := (Rect.unit (s := S8) ![n] S1.size inb).shape) (h1.symm ▸ Nat.one_pos) = z
    have h0' : (z 0).val < 1 := (z 0).isLt
    show n + 1 * (z 0).val = n % 8
    omega
  rw [← e]
  exact wp_sld c (m := A2)
end

def r22 (v62 : IVec S64x256 32) (I : Ins F) (s : St F) : Σ' (v67 : FVec F S64x256 .bf16) (v97 : FVec F S32x8 .bf16) (v98 : IVec S16x256 32) (c4_i32_48 : BitVec 32) (v100 : IVec S16x256 32) (v107 : IVec S16x256 32) (v109 : BitVec 32), BitVec 1 :=
  let v98 : IVec S16x256 32 := iota .tc S16x256 32 [0] iota_S16x256_d0_w32
  let v108 : BitVec 1 := Scalar.cmpi .sgt 4#32 0#32
  let v109 : BitVec 32 := Scalar.extui v108
  let v110 : BitVec 1 := Scalar.cmpi .slt 4#32 0#32
  ⟨k0_pay83 (F := F) v62, k0_pay84 (F := F), v98, 4#32, k0_pay85, k0_pay86, v109, v110⟩
theorem part22_wp (c : Dev nD) (I : Ins F) (s : St F) (v62 : IVec S64x256 32) {Q : (Σ' (v67 : FVec F S64x256 .bf16) (v97 : FVec F S32x8 .bf16) (v98 : IVec S16x256 32) (c4_i32_48 : BitVec 32) (v100 : IVec S16x256 32) (v107 : IVec S16x256 32) (v109 : BitVec 32), BitVec 1) → sProp 𝕄} :
    iprop(all c I s) ⊢ iprop(((all c I s) -∗ Q (r22 v62 I s))
      -∗ wp frame (wpE (defs₀ (F := F)) Variants.none (c : Thread nD τ) none) Set.univ (k0_part22 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v62) Q) := by
  rw [k0_part22_eq_skeleton]
  unfold k0_part22_skel all inp pts r22
  simp only [wp_bind]
  iintro ⟨⟨H0, H1, H2, H3, H4, H5⟩, H8, H11, H12, H13, H14, H15, H16, H17⟩ HQ
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r23 (v98 : IVec S16x256 32) (c4_i32_48 : BitVec 32) (v100 : IVec S16x256 32) (v107 : IVec S16x256 32) (v109 : BitVec 32) (v110 : BitVec 1) (I : Ins F) (s : St F) : Σ' (v148 : IVec S16x256 1) (v149 : IVec S16x1 32) (c4_i32_62 : BitVec 32) (v151 : IVec S16x1 32), IVec S16x1 32 :=
  let v149 : IVec S16x1 32 := iota .tc S16x1 32 [0] iota_S16x1_d0_w32
  ⟨k0_pay87 v98 c4_i32_48 v100 v107 v109 v110, v149, 4#32, k0_pay88, k0_pay89⟩
theorem part23_wp (c : Dev nD) (I : Ins F) (s : St F) (v98 : IVec S16x256 32) (c4_i32_48 : BitVec 32) (v100 : IVec S16x256 32) (v107 : IVec S16x256 32) (v109 : BitVec 32) (v110 : BitVec 1) {Q : (Σ' (v148 : IVec S16x256 1) (v149 : IVec S16x1 32) (c4_i32_62 : BitVec 32) (v151 : IVec S16x1 32), IVec S16x1 32) → sProp 𝕄} :
    iprop(all c I s) ⊢ iprop(((all c I s) -∗ Q (r23 v98 c4_i32_48 v100 v107 v109 v110 I s))
      -∗ wp frame (wpE (defs₀ (F := F)) Variants.none (c : Thread nD τ) none) Set.univ (k0_part23 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v98 c4_i32_48 v100 v107 v109 v110) Q) := by
  rw [k0_part23_eq_skeleton]
  unfold k0_part23_skel all inp pts r23
  simp only [wp_bind]
  iintro ⟨⟨H0, H1, H2, H3, H4, H5⟩, H8, H11, H12, H13, H14, H15, H16, H17⟩ HQ
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r24 (v149 : IVec S16x1 32) (c4_i32_62 : BitVec 32) (v151 : IVec S16x1 32) (v158 : IVec S16x1 32) (I : Ins F) (s : St F) : Σ' (v195 : FVec F S16x1 .bf16) (v196 : IVec S16x1 32) (c4_i32_73 : BitVec 32) (v198 : IVec S16x1 32) (v201 : IVec S16x1 32), IVec S16x1 32 :=
  let v177 : F .f32 := sw I.ks 0
  let v182 : F .f32 := sw I.ks 1
  let v187 : F .f32 := sw I.ks 2
  let v192 : F .f32 := sw I.ks 3
  let v196 : IVec S16x1 32 := iota .tc S16x1 32 [0] iota_S16x1_d0_w32
  ⟨k0_pay90 v149 c4_i32_62 v151 v158 v177 v182 v187 v192, v196, 4#32, k0_pay91, k0_pay92, k0_pay93⟩
theorem part24_wp (c : Dev nD) (I : Ins F) (s : St F) (v149 : IVec S16x1 32) (c4_i32_62 : BitVec 32) (v151 : IVec S16x1 32) (v158 : IVec S16x1 32) {Q : (Σ' (v195 : FVec F S16x1 .bf16) (v196 : IVec S16x1 32) (c4_i32_73 : BitVec 32) (v198 : IVec S16x1 32) (v201 : IVec S16x1 32), IVec S16x1 32) → sProp 𝕄} :
    iprop(all c I s) ⊢ iprop(((all c I s) -∗ Q (r24 v149 c4_i32_62 v151 v158 I s))
      -∗ wp frame (wpE (defs₀ (F := F)) Variants.none (c : Thread nD τ) none) Set.univ (k0_part24 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v149 c4_i32_62 v151 v158) Q) := by
  rw [k0_part24_eq_skeleton]
  unfold k0_part24_skel all inp pts r24
  simp only [wp_bind]
  iintro ⟨⟨H0, H1, H2, H3, H4, H5⟩, H8, H11, H12, H13, H14, H15, H16, H17⟩ HQ
  iapply (wp_s1 c) $$ H1
  iintro H1
  iapply (wp_s1 c) $$ H1
  iintro H1
  iapply (wp_s1 c) $$ H1
  iintro H1
  iapply (wp_s1 c) $$ H1
  iintro H1
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r25 (v196 : IVec S16x1 32) (c4_i32_73 : BitVec 32) (v198 : IVec S16x1 32) (v201 : IVec S16x1 32) (v202 : IVec S16x1 32) (I : Ins F) (s : St F) : Σ' (v242 : FVec F S16x1 .bf16) (v243 : IVec S16x1 32) (c4_i32_85 : BitVec 32) (v245 : IVec S16x1 32), IVec S16x1 1 :=
  let v224 : F .f32 := sw I.ks 4
  let v229 : F .f32 := sw I.ks 5
  let v234 : F .f32 := sw I.ks 6
  let v239 : F .f32 := sw I.ks 7
  let v243 : IVec S16x1 32 := iota .tc S16x1 32 [0] iota_S16x1_d0_w32
  ⟨k0_pay94 v196 c4_i32_73 v198 v201 v202 v224 v229 v234 v239, v243, 4#32, k0_pay95, k0_pay96⟩
theorem part25_wp (c : Dev nD) (I : Ins F) (s : St F) (v196 : IVec S16x1 32) (c4_i32_73 : BitVec 32) (v198 : IVec S16x1 32) (v201 : IVec S16x1 32) (v202 : IVec S16x1 32) {Q : (Σ' (v242 : FVec F S16x1 .bf16) (v243 : IVec S16x1 32) (c4_i32_85 : BitVec 32) (v245 : IVec S16x1 32), IVec S16x1 1) → sProp 𝕄} :
    iprop(all c I s) ⊢ iprop(((all c I s) -∗ Q (r25 v196 c4_i32_73 v198 v201 v202 I s))
      -∗ wp frame (wpE (defs₀ (F := F)) Variants.none (c : Thread nD τ) none) Set.univ (k0_part25 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v196 c4_i32_73 v198 v201 v202) Q) := by
  rw [k0_part25_eq_skeleton]
  unfold k0_part25_skel all inp pts r25
  simp only [wp_bind]
  iintro ⟨⟨H0, H1, H2, H3, H4, H5⟩, H8, H11, H12, H13, H14, H15, H16, H17⟩ HQ
  iapply (wp_s1 c) $$ H1
  iintro H1
  iapply (wp_s1 c) $$ H1
  iintro H1
  iapply (wp_s1 c) $$ H1
  iintro H1
  iapply (wp_s1 c) $$ H1
  iintro H1
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r26 (v243 : IVec S16x1 32) (c4_i32_85 : BitVec 32) (v245 : IVec S16x1 32) (v247 : IVec S16x1 1) (I : Ins F) (s : St F) : Σ' (v288 : FVec F S16x1 .f32) (v289 : IVec S16x1 32) (c4_i32_101 : BitVec 32) (v291 : IVec S16x1 32), BitVec 32 :=
  let v271 : F .f32 := sw I.vs 0
  let v276 : F .f32 := sw I.vs 1
  let v281 : F .f32 := sw I.vs 2
  let v286 : F .f32 := sw I.vs 3
  let v289 : IVec S16x1 32 := iota .tc S16x1 32 [0] iota_S16x1_d0_w32
  ⟨k0_pay97 v243 c4_i32_85 v245 v247 v271 v276 v281 v286, v289, 4#32, k0_pay98, 0#32⟩
theorem part26_wp (c : Dev nD) (I : Ins F) (s : St F) (v243 : IVec S16x1 32) (c4_i32_85 : BitVec 32) (v245 : IVec S16x1 32) (v247 : IVec S16x1 1) {Q : (Σ' (v288 : FVec F S16x1 .f32) (v289 : IVec S16x1 32) (c4_i32_101 : BitVec 32) (v291 : IVec S16x1 32), BitVec 32) → sProp 𝕄} :
    iprop(all c I s) ⊢ iprop(((all c I s) -∗ Q (r26 v243 c4_i32_85 v245 v247 I s))
      -∗ wp frame (wpE (defs₀ (F := F)) Variants.none (c : Thread nD τ) none) Set.univ (k0_part26 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v243 c4_i32_85 v245 v247) Q) := by
  rw [k0_part26_eq_skeleton]
  unfold k0_part26_skel all inp pts r26
  simp only [wp_bind]
  iintro ⟨⟨H0, H1, H2, H3, H4, H5⟩, H8, H11, H12, H13, H14, H15, H16, H17⟩ HQ
  iapply (wp_s2 c) $$ H2
  iintro H2
  iapply (wp_s2 c) $$ H2
  iintro H2
  iapply (wp_s2 c) $$ H2
  iintro H2
  iapply (wp_s2 c) $$ H2
  iintro H2
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r27 (v289 : IVec S16x1 32) (c4_i32_101 : BitVec 32) (v291 : IVec S16x1 32) (c0_i32_102 : BitVec 32) (I : Ins F) (s : St F) : Σ' (v334 : FVec F S16x1 .f32), BitVec 32 :=
  let v317 : F .f32 := sw I.vs 4
  let v322 : F .f32 := sw I.vs 5
  let v327 : F .f32 := sw I.vs 6
  let v332 : F .f32 := sw I.vs 7
  ⟨k0_pay99 v289 c4_i32_101 v291 c0_i32_102 v317 v322 v327 v332, 0#32⟩
theorem part27_wp (c : Dev nD) (I : Ins F) (s : St F) (v289 : IVec S16x1 32) (c4_i32_101 : BitVec 32) (v291 : IVec S16x1 32) (c0_i32_102 : BitVec 32) {Q : (Σ' (v334 : FVec F S16x1 .f32), BitVec 32) → sProp 𝕄} :
    iprop(all c I s) ⊢ iprop(((all c I s) -∗ Q (r27 v289 c4_i32_101 v291 c0_i32_102 I s))
      -∗ wp frame (wpE (defs₀ (F := F)) Variants.none (c : Thread nD τ) none) Set.univ (k0_part27 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v289 c4_i32_101 v291 c0_i32_102) Q) := by
  rw [k0_part27_eq_skeleton]
  unfold k0_part27_skel all inp pts r27
  simp only [wp_bind]
  iintro ⟨⟨H0, H1, H2, H3, H4, H5⟩, H8, H11, H12, H13, H14, H15, H16, H17⟩ HQ
  iapply (wp_s2 c) $$ H2
  iintro H2
  iapply (wp_s2 c) $$ H2
  iintro H2
  iapply (wp_s2 c) $$ H2
  iintro H2
  iapply (wp_s2 c) $$ H2
  iintro H2
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m1 (t : ℕ) (v67 : FVec F S64x256 .bf16) (v97 : FVec F S32x8 .bf16) (v148 : IVec S16x256 1) (v195 : FVec F S16x1 .bf16) (v242 : FVec F S16x1 .bf16) (c0_i32_117 : BitVec 32) (c1_i32_119 : BitVec 32) (I : Ins F) (s : St F) : St F :=
  let v443 : Vec F S1x32x64 .bf16 := gt S16x32x64 ![t, 0, 0] S1x32x64.size I.x
  let v446 : Vec F S1x8x64 .bf16 := gt S16x8x64 ![t, 0, 0] S1x8x64.size I.kn
  let v456 : Vec F S1x32x128 .f32 := gt S16x32x128 ![t, 0, 0] S1x32x128.size s.f13
  let g13_1 := pt S16x32x128 ![t, 0, 0] S1x32x128.size s.f13 (k0_pay9 v97 v443 v446)
  let v467 : Vec F S1x1x16x256 .bf16 := gt S16x2x16x256 ![t, 0, 0, 0] S1x1x16x256.size s.f12
  let g12_2 := pt S16x2x16x256 ![t, 0, 0, 0] S1x1x16x256.size s.f12 (k0_pay10 v67 v148 v195 v443)
  let v478 : Vec F S1x1x16x256 .bf16 := gt S16x2x16x256 ![t, 1, 0, 0] S1x1x16x256.size g12_2
  { s with f12 := g12_2, f13 := g13_1 }
def r1 (t : ℕ) (v67 : FVec F S64x256 .bf16) (v97 : FVec F S32x8 .bf16) (v148 : IVec S16x256 1) (v195 : FVec F S16x1 .bf16) (v242 : FVec F S16x1 .bf16) (c0_i32_117 : BitVec 32) (c1_i32_119 : BitVec 32) (I : Ins F) (s : St F) : FVec F S1x1x16x256 .bf16 :=
  let v443 : Vec F S1x32x64 .bf16 := gt S16x32x64 ![t, 0, 0] S1x32x64.size I.x
  let v446 : Vec F S1x8x64 .bf16 := gt S16x8x64 ![t, 0, 0] S1x8x64.size I.kn
  let v456 : Vec F S1x32x128 .f32 := gt S16x32x128 ![t, 0, 0] S1x32x128.size s.f13
  let g13_1 := pt S16x32x128 ![t, 0, 0] S1x32x128.size s.f13 (k0_pay9 v97 v443 v446)
  let v467 : Vec F S1x1x16x256 .bf16 := gt S16x2x16x256 ![t, 0, 0, 0] S1x1x16x256.size s.f12
  let g12_2 := pt S16x2x16x256 ![t, 0, 0, 0] S1x1x16x256.size s.f12 (k0_pay10 v67 v148 v195 v443)
  let v478 : Vec F S1x1x16x256 .bf16 := gt S16x2x16x256 ![t, 1, 0, 0] S1x1x16x256.size g12_2
  (k0_pay11 v67 v148 v242 v443)
theorem part1_wp (c : Dev nD) (I : Ins F) (s : St F) (v67 : FVec F S64x256 .bf16) (v97 : FVec F S32x8 .bf16) (v148 : IVec S16x256 1) (v195 : FVec F S16x1 .bf16) (v242 : FVec F S16x1 .bf16) (c0_i32_117 : BitVec 32) (c1_i32_119 : BitVec 32) (k0_t2 : Fin k0_t2_loop.trips) (ht : k0_t2.val < 300) {Q : (FVec F S1x1x16x256 .bf16) → sProp 𝕄} :
    iprop(all c I s) ⊢ iprop(((all c I (m1 k0_t2.val v67 v97 v148 v195 v242 c0_i32_117 c1_i32_119 I s)) -∗ Q (r1 k0_t2.val v67 v97 v148 v195 v242 c0_i32_117 c1_i32_119 I s))
      -∗ wp frame (wpE (defs₀ (F := F)) Variants.none (c : Thread nD τ) none) Set.univ (k0_part1 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v67 v97 v148 v195 v242 c0_i32_117 c1_i32_119 k0_t2) Q) := by
  rw [k0_part1_eq_skeleton]
  unfold k0_part1_skel all inp pts m1 r1
  simp only [wp_bind]
  iintro ⟨⟨H0, H1, H2, H3, H4, H5⟩, H8, H11, H12, H13, H14, H15, H16, H17⟩ HQ
  iapply (wp_ld c (m := A3) _ (ld3 (k0_off15_eq k0_t2 ht))) $$ H3
  iintro H3
  iapply (wp_ld c (m := A4) _ (ld4 (k0_off16_eq k0_t2 ht))) $$ H4
  iintro H4
  iapply (wp_ld c (m := A13) _ (ld13 (k0_off17_eq k0_t2 ht))) $$ H13
  iintro H13
  iapply (wp_st c (m := A13) _ (st13 (k0_off17_eq k0_t2 ht))) $$ H13
  iintro H13
  iapply (wp_ld c (m := A12) _ (ld12 (k0_off18_eq k0_t2 ht))) $$ H12
  iintro H12
  iapply (wp_st c (m := A12) _ (st12 (k0_off18_eq k0_t2 ht))) $$ H12
  iintro H12
  iapply (wp_ld c (m := A12) _ (ld12 (k0_off19_eq k0_t2 ht))) $$ H12
  iintro H12
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m29 (v356 : BitVec 32) (v357 : BitVec 32) (v358 : BitVec 32) (v362 : IVec S16x2048 32) (v363 : IVec S16x2048 32) (kc : Vec F S4x512x2048 .fp8e4m3) (I : Ins F) (s : St F) : St F :=
  let v366 : Vec F S1x256x2048 .fp8e4m3 := gt S4x512x2048 ![0, 0, 0] S1x256x2048.size kc
  let v368 : Vec F S1x1x16x256 .bf16 := gt S16x2x16x256 ![0, 0, 0, 0] S1x1x16x256.size s.f12
  let v374 : Vec F S1x1x16x2048 .f32 := gt S2x2x16x2048 ![0, 0, 0, 0] S1x1x16x2048.size s.f11
  let g11_1 := pt S2x2x16x2048 ![0, 0, 0, 0] S1x1x16x2048.size s.f11 (k0_pay103 v362 v363 v366 v368)
  let v378 : Vec F S1x16x128 .f32 := gt S16x32x128 ![0, 0, 0] S1x16x128.size s.f13
  let v381 : Vec F S1x1x16x128 .f32 := gt S2x2x16x128 ![1, 0, 0, 0] S1x1x16x128.size s.f14
  let v389 : Vec F S1x1x16x128 .f32 := gt S2x2x16x128 ![0, 0, 0, 0] S1x1x16x128.size s.f14
  let g14_2 := pt S2x2x16x128 ![0, 0, 0, 0] S1x1x16x128.size s.f14 (k0_pay106 v362 v363 v366 v368 v378 v381)
  { s with f11 := g11_1, f14 := g14_2 }
def r29 (v356 : BitVec 32) (v357 : BitVec 32) (v358 : BitVec 32) (v362 : IVec S16x2048 32) (v363 : IVec S16x2048 32) (kc : Vec F S4x512x2048 .fp8e4m3) (I : Ins F) (s : St F) : Σ' (v364 : IVec S16x2048 1), FVec F S16x128 .f32 :=
  let v366 : Vec F S1x256x2048 .fp8e4m3 := gt S4x512x2048 ![0, 0, 0] S1x256x2048.size kc
  let v368 : Vec F S1x1x16x256 .bf16 := gt S16x2x16x256 ![0, 0, 0, 0] S1x1x16x256.size s.f12
  let v374 : Vec F S1x1x16x2048 .f32 := gt S2x2x16x2048 ![0, 0, 0, 0] S1x1x16x2048.size s.f11
  let g11_1 := pt S2x2x16x2048 ![0, 0, 0, 0] S1x1x16x2048.size s.f11 (k0_pay103 v362 v363 v366 v368)
  let v378 : Vec F S1x16x128 .f32 := gt S16x32x128 ![0, 0, 0] S1x16x128.size s.f13
  let v381 : Vec F S1x1x16x128 .f32 := gt S2x2x16x128 ![1, 0, 0, 0] S1x1x16x128.size s.f14
  let v389 : Vec F S1x1x16x128 .f32 := gt S2x2x16x128 ![0, 0, 0, 0] S1x1x16x128.size s.f14
  let g14_2 := pt S2x2x16x128 ![0, 0, 0, 0] S1x1x16x128.size s.f14 (k0_pay106 v362 v363 v366 v368 v378 v381)
  ⟨k0_pay101 v362 v363, k0_pay107 v362 v363 v366 v368 v378 v381⟩
theorem part29_wp (c : Dev nD) (I : Ins F) (s : St F) (v356 : BitVec 32) (v357 : BitVec 32) (v358 : BitVec 32) (v362 : IVec S16x2048 32) (v363 : IVec S16x2048 32) (kc : Vec F S4x512x2048 .fp8e4m3) (XK : Vec F S16x512x32768 .fp8e4m3) {Q : (Σ' (v364 : IVec S16x2048 1), FVec F S16x128 .f32) → sProp 𝕄} :
    iprop(all c I s ∗ FreeK c XK (0) kc) ⊢ iprop(((all c I (m29 v356 v357 v358 v362 v363 kc I s) ∗ FreeK c XK (0) kc) -∗ Q (r29 v356 v357 v358 v362 v363 kc I s))
      -∗ wp frame (wpE (defs₀ (F := F)) Variants.none (c : Thread nD τ) none) Set.univ (k0_part29 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v356 v357 v358 v362 v363) Q) := by
  rw [k0_part29_eq_skeleton]
  unfold k0_part29_skel all inp pts m29 r29
  simp only [wp_bind]
  iintro ⟨⟨⟨H0, H1, H2, H3, H4, H5⟩, H8, H11, H12, H13, H14, H15, H16, H17⟩, H9⟩ HQ
  iapply (wp_loadK c _ k0_off23_eq) $$ H9
  iintro H9
  iapply (wp_ld c (m := A12) _ (ld12 (off := ![0, 0, 0, 0]) rfl)) $$ H12
  iintro H12
  iapply (wp_ld c (m := A11) _ (ld11 k0_off24_eq)) $$ H11
  iintro H11
  iapply (wp_st c (m := A11) _ (st11 k0_off24_eq)) $$ H11
  iintro H11
  iapply (wp_ld c (m := A13) _ (ld13 (off := ![0, 0, 0]) rfl)) $$ H13
  iintro H13
  iapply (wp_ld c (m := A14) _ (ld14 k0_off25_eq)) $$ H14
  iintro H14
  iapply (wp_ld c (m := A14) _ (ld14 k0_off26_eq)) $$ H14
  iintro H14
  iapply (wp_st c (m := A14) _ (st14 k0_off26_eq)) $$ H14
  iintro H14
  rw [wp_pure]
  imodintro
  iapply HQ
  isplitr [H9]
  rotate_left
  · iexact H9
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m30 (v356 : BitVec 32) (v357 : BitVec 32) (v358 : BitVec 32) (v364 : IVec S16x2048 1) (v395 : FVec F S16x128 .f32) (kc : Vec F S4x512x2048 .fp8e4m3) (I : Ins F) (s : St F) : St F :=
  let v397 : Vec F S1x1x16x128 .f32 := gt S2x2x16x128 ![0, 0, 0, 0] S1x1x16x128.size s.f15
  let g15_1 := pt S2x2x16x128 ![0, 0, 0, 0] S1x1x16x128.size s.f15 (k0_pay108 v395)
  let v401 : Vec F S1x256x2048 .fp8e4m3 := gt S4x512x2048 ![0, 256, 0] S1x256x2048.size kc
  let v403 : Vec F S1x1x16x256 .bf16 := gt S16x2x16x256 ![0, 1, 0, 0] S1x1x16x256.size s.f12
  let v409 : Vec F S1x1x16x2048 .f32 := gt S2x2x16x2048 ![0, 1, 0, 0] S1x1x16x2048.size s.f11
  let g11_2 := pt S2x2x16x2048 ![0, 1, 0, 0] S1x1x16x2048.size s.f11 (k0_pay110 v364 v401 v403)
  let v413 : Vec F S1x16x128 .f32 := gt S16x32x128 ![0, 16, 0] S1x16x128.size s.f13
  let v416 : Vec F S1x1x16x128 .f32 := gt S2x2x16x128 ![1, 1, 0, 0] S1x1x16x128.size s.f14
  let v424 : Vec F S1x1x16x128 .f32 := gt S2x2x16x128 ![0, 1, 0, 0] S1x1x16x128.size s.f14
  let g14_3 := pt S2x2x16x128 ![0, 1, 0, 0] S1x1x16x128.size s.f14 (k0_pay113 v364 v401 v403 v413 v416)
  let cst_194 : F .f32 := Scalar.ofBits .f32 0x3E38AA3B#32
  { s with f11 := g11_2, f14 := g14_3, f15 := g15_1 }
def r30 (v356 : BitVec 32) (v357 : BitVec 32) (v358 : BitVec 32) (v364 : IVec S16x2048 1) (v395 : FVec F S16x128 .f32) (kc : Vec F S4x512x2048 .fp8e4m3) (I : Ins F) (s : St F) : Σ' (v427 : FVec F S16x128 .f32), F .f32 :=
  let v397 : Vec F S1x1x16x128 .f32 := gt S2x2x16x128 ![0, 0, 0, 0] S1x1x16x128.size s.f15
  let g15_1 := pt S2x2x16x128 ![0, 0, 0, 0] S1x1x16x128.size s.f15 (k0_pay108 v395)
  let v401 : Vec F S1x256x2048 .fp8e4m3 := gt S4x512x2048 ![0, 256, 0] S1x256x2048.size kc
  let v403 : Vec F S1x1x16x256 .bf16 := gt S16x2x16x256 ![0, 1, 0, 0] S1x1x16x256.size s.f12
  let v409 : Vec F S1x1x16x2048 .f32 := gt S2x2x16x2048 ![0, 1, 0, 0] S1x1x16x2048.size s.f11
  let g11_2 := pt S2x2x16x2048 ![0, 1, 0, 0] S1x1x16x2048.size s.f11 (k0_pay110 v364 v401 v403)
  let v413 : Vec F S1x16x128 .f32 := gt S16x32x128 ![0, 16, 0] S1x16x128.size s.f13
  let v416 : Vec F S1x1x16x128 .f32 := gt S2x2x16x128 ![1, 1, 0, 0] S1x1x16x128.size s.f14
  let v424 : Vec F S1x1x16x128 .f32 := gt S2x2x16x128 ![0, 1, 0, 0] S1x1x16x128.size s.f14
  let g14_3 := pt S2x2x16x128 ![0, 1, 0, 0] S1x1x16x128.size s.f14 (k0_pay113 v364 v401 v403 v413 v416)
  let cst_194 : F .f32 := Scalar.ofBits .f32 0x3E38AA3B#32
  ⟨k0_pay114 v364 v401 v403 v413 v416, cst_194⟩
theorem part30_wp (c : Dev nD) (I : Ins F) (s : St F) (v356 : BitVec 32) (v357 : BitVec 32) (v358 : BitVec 32) (v364 : IVec S16x2048 1) (v395 : FVec F S16x128 .f32) (kc : Vec F S4x512x2048 .fp8e4m3) (XK : Vec F S16x512x32768 .fp8e4m3) {Q : (Σ' (v427 : FVec F S16x128 .f32), F .f32) → sProp 𝕄} :
    iprop(all c I s ∗ FreeK c XK (0) kc) ⊢ iprop(((all c I (m30 v356 v357 v358 v364 v395 kc I s) ∗ FreeK c XK (0) kc) -∗ Q (r30 v356 v357 v358 v364 v395 kc I s))
      -∗ wp frame (wpE (defs₀ (F := F)) Variants.none (c : Thread nD τ) none) Set.univ (k0_part30 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v356 v357 v358 v364 v395) Q) := by
  rw [k0_part30_eq_skeleton]
  unfold k0_part30_skel all inp pts m30 r30
  simp only [wp_bind]
  iintro ⟨⟨⟨H0, H1, H2, H3, H4, H5⟩, H8, H11, H12, H13, H14, H15, H16, H17⟩, H9⟩ HQ
  iapply (wp_ld c (m := A15) _ (ld15 k0_off26_eq)) $$ H15
  iintro H15
  iapply (wp_st c (m := A15) _ (st15 k0_off26_eq)) $$ H15
  iintro H15
  iapply (wp_loadK c _ k0_off27_eq) $$ H9
  iintro H9
  iapply (wp_ld c (m := A12) _ (ld12 (off := ![0, 1, 0, 0]) rfl)) $$ H12
  iintro H12
  iapply (wp_ld c (m := A11) _ (ld11 k0_off28_eq)) $$ H11
  iintro H11
  iapply (wp_st c (m := A11) _ (st11 k0_off28_eq)) $$ H11
  iintro H11
  iapply (wp_ld c (m := A13) _ (ld13 (off := ![0, 16, 0]) rfl)) $$ H13
  iintro H13
  iapply (wp_ld c (m := A14) _ (ld14 k0_off29_eq)) $$ H14
  iintro H14
  iapply (wp_ld c (m := A14) _ (ld14 k0_off30_eq)) $$ H14
  iintro H14
  iapply (wp_st c (m := A14) _ (st14 k0_off30_eq)) $$ H14
  iintro H14
  rw [wp_pure]
  imodintro
  iapply HQ
  isplitr [H9]
  rotate_left
  · iexact H9
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m6 (t : ℕ) (v1 : BitVec 32) (arg23 : BitVec 32) (arg24 : BitVec 32) (v444 : Elt F .i32) (v451 : BitVec 32) (v453 : BitVec 32) (v497 : BitVec 32) (v498 : BitVec 32) (v499 : BitVec 32) (v506 : IVec S16x2048 1) (v509 : FVec F S256x2048 .fp8e4m3) (I : Ins F) (s : St F) : St F :=
  let v511 : Vec F S1x1x16x256 .bf16 := gt S16x2x16x256 ![(nbWord arg23 arg24 v444).toNat, 0, 0, 0] S1x1x16x256.size s.f12
  let v517 : Vec F S1x1x16x2048 .f32 := gt S2x2x16x2048 ![(t + 1) % 2, 0, 0, 0] S1x1x16x2048.size s.f11
  let g11_1 := pt S2x2x16x2048 ![(t + 1) % 2, 0, 0, 0] S1x1x16x2048.size s.f11 (k0_pay26 v506 v509 v511)
  let v522 : Vec F S1x16x128 .f32 := gt S16x32x128 ![(nbWord arg23 arg24 v444).toNat, 0, 0] S1x16x128.size s.f13
  let v525 : Vec F S1x1x16x128 .f32 := gt S2x2x16x128 ![1 - (t + 1) % 2, 0, 0, 0] S1x1x16x128.size s.f14
  let v533 : Vec F S1x1x16x128 .f32 := gt S2x2x16x128 ![(t + 1) % 2, 0, 0, 0] S1x1x16x128.size s.f14
  let g14_2 := pt S2x2x16x128 ![(t + 1) % 2, 0, 0, 0] S1x1x16x128.size s.f14 (k0_pay29 v453 v506 v509 v511 v522 v525)
  let v541 : Vec F S1x1x16x128 .f32 := gt S2x2x16x128 ![(t + 1) % 2, 0, 0, 0] S1x1x16x128.size s.f15
  let g15_3 := pt S2x2x16x128 ![(t + 1) % 2, 0, 0, 0] S1x1x16x128.size s.f15 (k0_pay30 v453 v506 v509 v511 v522 v525)
  { s with f11 := g11_1, f14 := g14_2, f15 := g15_3 }
theorem part6_wp (c : Dev nD) (I : Ins F) (s : St F) (v1 : BitVec 32) (k0_hw7 : k0_chk7 v1) (k0_t3 : Fin (k0_t3_loop v1).trips) (arg23 : BitVec 32) (arg24 : BitVec 32) (v444 : Elt F .i32) (k0_hw12 : k0_chk12 v1 k0_t3 arg23 arg24 v444) (v451 : BitVec 32) (v453 : BitVec 32) (v497 : BitVec 32) (v498 : BitVec 32) (v499 : BitVec 32) (v506 : IVec S16x2048 1) (v509 : FVec F S256x2048 .fp8e4m3) (ht : k0_t3.val < 300) {Q : (PUnit) → sProp 𝕄} :
    iprop(all c I s) ⊢ iprop(((all c I (m6 k0_t3.val v1 arg23 arg24 v444 v451 v453 v497 v498 v499 v506 v509 I s)) -∗ Q ⟨⟩)
      -∗ wp frame (wpE (defs₀ (F := F)) Variants.none (c : Thread nD τ) none) Set.univ (k0_part6 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg23 arg24 v444 k0_hw12 v451 v453 v497 v498 v499 v506 v509) Q) := by
  rw [k0_part6_eq_skeleton]
  unfold k0_part6_skel all inp pts m6
  simp only [wp_bind]
  iintro ⟨⟨H0, H1, H2, H3, H4, H5⟩, H8, H11, H12, H13, H14, H15, H16, H17⟩ HQ
  iapply (wp_ld c (m := A12) _ (ld12 (k0_off47_eq arg23 arg24 v444))) $$ H12
  iintro H12
  iapply (wp_ld c (m := A11) _ (ld11 (k0_off48_eq v1 k0_t3 ht))) $$ H11
  iintro H11
  iapply (wp_st c (m := A11) _ (st11 (k0_off48_eq v1 k0_t3 ht))) $$ H11
  iintro H11
  iapply (wp_ld c (m := A13) _ (ld13 (k0_off49_eq arg23 arg24 v444))) $$ H13
  iintro H13
  iapply (wp_ld c (m := A14) _ (ld14 (k0_off50_eq v1 k0_t3 ht))) $$ H14
  iintro H14
  iapply (wp_ld c (m := A14) _ (ld14 (k0_off51_eq v1 k0_t3 ht))) $$ H14
  iintro H14
  iapply (wp_st c (m := A14) _ (st14 (k0_off51_eq v1 k0_t3 ht))) $$ H14
  iintro H14
  iapply (wp_ld c (m := A15) _ (ld15 (k0_off51_eq v1 k0_t3 ht))) $$ H15
  iintro H15
  iapply (wp_st c (m := A15) _ (st15 (k0_off51_eq v1 k0_t3 ht))) $$ H15
  iintro H15
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m7 (t : ℕ) (v1 : BitVec 32) (arg23 : BitVec 32) (arg24 : BitVec 32) (v444 : Elt F .i32) (v451 : BitVec 32) (v453 : BitVec 32) (v498 : BitVec 32) (v499 : BitVec 32) (v506 : IVec S16x2048 1) (kc : Vec F S4x512x2048 .fp8e4m3) (I : Ins F) (s : St F) : St F :=
  let v545 : Vec F S1x256x2048 .fp8e4m3 := gt S4x512x2048 ![(t + 1) % 4, 256, 0] S1x256x2048.size kc
  let v548 : Vec F S1x1x16x256 .bf16 := gt S16x2x16x256 ![(nbWord arg23 arg24 v444).toNat, 1, 0, 0] S1x1x16x256.size s.f12
  let v554 : Vec F S1x1x16x2048 .f32 := gt S2x2x16x2048 ![(t + 1) % 2, 1, 0, 0] S1x1x16x2048.size s.f11
  let g11_1 := pt S2x2x16x2048 ![(t + 1) % 2, 1, 0, 0] S1x1x16x2048.size s.f11 (k0_pay32 v506 v545 v548)
  let v559 : Vec F S1x16x128 .f32 := gt S16x32x128 ![(nbWord arg23 arg24 v444).toNat, 16, 0] S1x16x128.size s.f13
  let v562 : Vec F S1x1x16x128 .f32 := gt S2x2x16x128 ![1 - (t + 1) % 2, 1, 0, 0] S1x1x16x128.size s.f14
  let v570 : Vec F S1x1x16x128 .f32 := gt S2x2x16x128 ![(t + 1) % 2, 1, 0, 0] S1x1x16x128.size s.f14
  let g14_2 := pt S2x2x16x128 ![(t + 1) % 2, 1, 0, 0] S1x1x16x128.size s.f14 (k0_pay35 v453 v506 v545 v548 v559 v562)
  let v578 : Vec F S1x1x16x128 .f32 := gt S2x2x16x128 ![(t + 1) % 2, 1, 0, 0] S1x1x16x128.size s.f15
  { s with f11 := g11_1, f14 := g14_2 }
def r7 (t : ℕ) (v1 : BitVec 32) (arg23 : BitVec 32) (arg24 : BitVec 32) (v444 : Elt F .i32) (v451 : BitVec 32) (v453 : BitVec 32) (v498 : BitVec 32) (v499 : BitVec 32) (v506 : IVec S16x2048 1) (kc : Vec F S4x512x2048 .fp8e4m3) (I : Ins F) (s : St F) : FVec F S16x128 .f32 :=
  let v545 : Vec F S1x256x2048 .fp8e4m3 := gt S4x512x2048 ![(t + 1) % 4, 256, 0] S1x256x2048.size kc
  let v548 : Vec F S1x1x16x256 .bf16 := gt S16x2x16x256 ![(nbWord arg23 arg24 v444).toNat, 1, 0, 0] S1x1x16x256.size s.f12
  let v554 : Vec F S1x1x16x2048 .f32 := gt S2x2x16x2048 ![(t + 1) % 2, 1, 0, 0] S1x1x16x2048.size s.f11
  let g11_1 := pt S2x2x16x2048 ![(t + 1) % 2, 1, 0, 0] S1x1x16x2048.size s.f11 (k0_pay32 v506 v545 v548)
  let v559 : Vec F S1x16x128 .f32 := gt S16x32x128 ![(nbWord arg23 arg24 v444).toNat, 16, 0] S1x16x128.size s.f13
  let v562 : Vec F S1x1x16x128 .f32 := gt S2x2x16x128 ![1 - (t + 1) % 2, 1, 0, 0] S1x1x16x128.size s.f14
  let v570 : Vec F S1x1x16x128 .f32 := gt S2x2x16x128 ![(t + 1) % 2, 1, 0, 0] S1x1x16x128.size s.f14
  let g14_2 := pt S2x2x16x128 ![(t + 1) % 2, 1, 0, 0] S1x1x16x128.size s.f14 (k0_pay35 v453 v506 v545 v548 v559 v562)
  let v578 : Vec F S1x1x16x128 .f32 := gt S2x2x16x128 ![(t + 1) % 2, 1, 0, 0] S1x1x16x128.size s.f15
  (k0_pay36 v453 v506 v545 v548 v559 v562)
theorem part7_wp (c : Dev nD) (I : Ins F) (s : St F) (v1 : BitVec 32) (k0_hw7 : k0_chk7 v1) (k0_t3 : Fin (k0_t3_loop v1).trips) (arg23 : BitVec 32) (arg24 : BitVec 32) (v444 : Elt F .i32) (k0_hw12 : k0_chk12 v1 k0_t3 arg23 arg24 v444) (v451 : BitVec 32) (v453 : BitVec 32) (v498 : BitVec 32) (v499 : BitVec 32) (v506 : IVec S16x2048 1) (ht : k0_t3.val < 300) (kc : Vec F S4x512x2048 .fp8e4m3) (XK : Vec F S16x512x32768 .fp8e4m3) {Q : (FVec F S16x128 .f32) → sProp 𝕄} :
    iprop(all c I s ∗ FreeK c XK ((k0_t3.val + 1) % 4) kc) ⊢ iprop(((all c I (m7 k0_t3.val v1 arg23 arg24 v444 v451 v453 v498 v499 v506 kc I s) ∗ FreeK c XK ((k0_t3.val + 1) % 4) kc) -∗ Q (r7 k0_t3.val v1 arg23 arg24 v444 v451 v453 v498 v499 v506 kc I s))
      -∗ wp frame (wpE (defs₀ (F := F)) Variants.none (c : Thread nD τ) none) Set.univ (k0_part7 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg23 arg24 v444 k0_hw12 v451 v453 v498 v499 v506) Q) := by
  rw [k0_part7_eq_skeleton]
  unfold k0_part7_skel all inp pts m7 r7
  simp only [wp_bind]
  iintro ⟨⟨⟨H0, H1, H2, H3, H4, H5⟩, H8, H11, H12, H13, H14, H15, H16, H17⟩, H9⟩ HQ
  iapply (wp_loadK c _ (k0_off52_eq v1 k0_t3 ht)) $$ H9
  iintro H9
  iapply (wp_ld c (m := A12) _ (ld12 (k0_off53_eq arg23 arg24 v444))) $$ H12
  iintro H12
  iapply (wp_ld c (m := A11) _ (ld11 (k0_off54_eq v1 k0_t3 ht))) $$ H11
  iintro H11
  iapply (wp_st c (m := A11) _ (st11 (k0_off54_eq v1 k0_t3 ht))) $$ H11
  iintro H11
  iapply (wp_ld c (m := A13) _ (ld13 (k0_off55_eq arg23 arg24 v444))) $$ H13
  iintro H13
  iapply (wp_ld c (m := A14) _ (ld14 (k0_off56_eq v1 k0_t3 ht))) $$ H14
  iintro H14
  iapply (wp_ld c (m := A14) _ (ld14 (k0_off57_eq v1 k0_t3 ht))) $$ H14
  iintro H14
  iapply (wp_st c (m := A14) _ (st14 (k0_off57_eq v1 k0_t3 ht))) $$ H14
  iintro H14
  iapply (wp_ld c (m := A15) _ (ld15 (k0_off57_eq v1 k0_t3 ht))) $$ H15
  iintro H15
  rw [wp_pure]
  imodintro
  iapply HQ
  isplitr [H9]
  rotate_left
  · iexact H9
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m8 (t : ℕ) (v1 : BitVec 32) (arg20 : BitVec 32) (v576 : FVec F S16x128 .f32) (I : Ins F) (s : St F) : St F :=
  let g15_1 := pt S2x2x16x128 ![(t + 1) % 2, 1, 0, 0] S1x1x16x128.size s.f15 (k0_pay37 v576)
  let v581 : BitVec 32 := Scalar.remsi arg20 4#32
  let v582 : BitVec 32 := Scalar.remsi arg20 2#32
  let v584 : Vec F S1x1x16x128 .f32 := gt S2x2x16x128 ![t % 2, 0, 0, 0] S1x1x16x128.size s.f14
  let v587 : Vec F S1x1x16x128 .f32 := gt S2x2x16x128 ![t % 2, 0, 0, 0] S1x1x16x128.size g15_1
  let v590 : Vec F S1x1x16x2048 .f32 := gt S2x2x16x2048 ![t % 2, 0, 0, 0] S1x1x16x2048.size s.f11
  { s with f15 := g15_1 }
def r8 (t : ℕ) (v1 : BitVec 32) (arg20 : BitVec 32) (v576 : FVec F S16x128 .f32) (I : Ins F) (s : St F) : Σ' (v581 : BitVec 32) (v582 : BitVec 32) (v588 : FVec F S16x128 .f32) (v597 : FVec F S16x2048 .f32), FVec F S16x128 .f32 :=
  let g15_1 := pt S2x2x16x128 ![(t + 1) % 2, 1, 0, 0] S1x1x16x128.size s.f15 (k0_pay37 v576)
  let v581 : BitVec 32 := Scalar.remsi arg20 4#32
  let v582 : BitVec 32 := Scalar.remsi arg20 2#32
  let v584 : Vec F S1x1x16x128 .f32 := gt S2x2x16x128 ![t % 2, 0, 0, 0] S1x1x16x128.size s.f14
  let v587 : Vec F S1x1x16x128 .f32 := gt S2x2x16x128 ![t % 2, 0, 0, 0] S1x1x16x128.size g15_1
  let v590 : Vec F S1x1x16x2048 .f32 := gt S2x2x16x2048 ![t % 2, 0, 0, 0] S1x1x16x2048.size s.f11
  ⟨v581, v582, k0_pay38 v587, k0_pay39 v584 v590, k0_pay40 v584 v590⟩
theorem part8_wp (c : Dev nD) (I : Ins F) (s : St F) (v1 : BitVec 32) (k0_hw7 : k0_chk7 v1) (k0_t3 : Fin (k0_t3_loop v1).trips) (arg20 : BitVec 32) (v576 : FVec F S16x128 .f32) (ht : k0_t3.val < 300) {Q : (Σ' (v581 : BitVec 32) (v582 : BitVec 32) (v588 : FVec F S16x128 .f32) (v597 : FVec F S16x2048 .f32), FVec F S16x128 .f32) → sProp 𝕄} :
    iprop(all c I s) ⊢ iprop(((all c I (m8 k0_t3.val v1 arg20 v576 I s)) -∗ Q (r8 k0_t3.val v1 arg20 v576 I s))
      -∗ wp frame (wpE (defs₀ (F := F)) Variants.none (c : Thread nD τ) none) Set.univ (k0_part8 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg20 v576) Q) := by
  rw [k0_part8_eq_skeleton]
  unfold k0_part8_skel all inp pts m8 r8
  simp only [wp_bind]
  iintro ⟨⟨H0, H1, H2, H3, H4, H5⟩, H8, H11, H12, H13, H14, H15, H16, H17⟩ HQ
  iapply (wp_st c (m := A15) _ (st15 (k0_off57_eq v1 k0_t3 ht))) $$ H15
  iintro H15
  iapply (wp_ld c (m := A14) _ (ld14 (k0_off58_eq v1 k0_t3 ht))) $$ H14
  iintro H14
  iapply (wp_ld c (m := A15) _ (ld15 (k0_off58_eq v1 k0_t3 ht))) $$ H15
  iintro H15
  iapply (wp_ld c (m := A11) _ (ld11 (k0_off59_eq v1 k0_t3 ht))) $$ H11
  iintro H11
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m9 (t : ℕ) (v1 : BitVec 32) (arg24 : BitVec 32) (v581 : BitVec 32) (v582 : BitVec 32) (v588 : FVec F S16x128 .f32) (v597 : FVec F S16x2048 .f32) (v626 : FVec F S16x128 .f32) (vc : Vec F S4x512x2048 .fp8e4m3) (I : Ins F) (s : St F) : St F :=
  let v630 : Vec F S1x16x128 .f32 := gt S2x16x128 ![0, 0, 0] S1x16x128.size s.f16
  let v636 : Vec F S1x16x128 .f32 := gt S2x16x128 ![0, 0, 0] S1x16x128.size s.f16
  let g16_1 := pt S2x16x128 ![0, 0, 0] S1x16x128.size s.f16 (k0_pay41 arg24 v588 v597 v626 v630)
  let v640 : Vec F S1x256x2048 .fp8e4m3 := gt S4x512x2048 ![t % 4, 0, 0] S1x256x2048.size vc
  let v645 : Vec F S1x16x256 .f32 := gt S2x16x256 ![0, 0, 0] S1x16x256.size s.f17
  let v653 : Vec F S1x16x256 .f32 := gt S2x16x256 ![0, 0, 0] S1x16x256.size s.f17
  let g17_2 := pt S2x16x256 ![0, 0, 0] S1x16x256.size s.f17 (k0_pay42 arg24 v588 v597 v640 v645)
  let v657 : Vec F S1x1x16x128 .f32 := gt S2x2x16x128 ![t % 2, 1, 0, 0] S1x1x16x128.size s.f14
  { s with f16 := g16_1, f17 := g17_2 }
def r9 (t : ℕ) (v1 : BitVec 32) (arg24 : BitVec 32) (v581 : BitVec 32) (v582 : BitVec 32) (v588 : FVec F S16x128 .f32) (v597 : FVec F S16x2048 .f32) (v626 : FVec F S16x128 .f32) (vc : Vec F S4x512x2048 .fp8e4m3) (I : Ins F) (s : St F) : FVec F S16x128 .f32 :=
  let v630 : Vec F S1x16x128 .f32 := gt S2x16x128 ![0, 0, 0] S1x16x128.size s.f16
  let v636 : Vec F S1x16x128 .f32 := gt S2x16x128 ![0, 0, 0] S1x16x128.size s.f16
  let g16_1 := pt S2x16x128 ![0, 0, 0] S1x16x128.size s.f16 (k0_pay41 arg24 v588 v597 v626 v630)
  let v640 : Vec F S1x256x2048 .fp8e4m3 := gt S4x512x2048 ![t % 4, 0, 0] S1x256x2048.size vc
  let v645 : Vec F S1x16x256 .f32 := gt S2x16x256 ![0, 0, 0] S1x16x256.size s.f17
  let v653 : Vec F S1x16x256 .f32 := gt S2x16x256 ![0, 0, 0] S1x16x256.size s.f17
  let g17_2 := pt S2x16x256 ![0, 0, 0] S1x16x256.size s.f17 (k0_pay42 arg24 v588 v597 v640 v645)
  let v657 : Vec F S1x1x16x128 .f32 := gt S2x2x16x128 ![t % 2, 1, 0, 0] S1x1x16x128.size s.f14
  (k0_pay43 v657)
theorem part9_wp (c : Dev nD) (I : Ins F) (s : St F) (v1 : BitVec 32) (k0_hw7 : k0_chk7 v1) (k0_t3 : Fin (k0_t3_loop v1).trips) (arg24 : BitVec 32) (v581 : BitVec 32) (v582 : BitVec 32) (v588 : FVec F S16x128 .f32) (v597 : FVec F S16x2048 .f32) (v626 : FVec F S16x128 .f32) (ht : k0_t3.val < 300) (vc : Vec F S4x512x2048 .fp8e4m3) (XV : Vec F S16x512x32768 .fp8e4m3) {Q : (FVec F S16x128 .f32) → sProp 𝕄} :
    iprop(all c I s ∗ FreeV c XV (k0_t3.val % 4) vc) ⊢ iprop(((all c I (m9 k0_t3.val v1 arg24 v581 v582 v588 v597 v626 vc I s) ∗ FreeV c XV (k0_t3.val % 4) vc) -∗ Q (r9 k0_t3.val v1 arg24 v581 v582 v588 v597 v626 vc I s))
      -∗ wp frame (wpE (defs₀ (F := F)) Variants.none (c : Thread nD τ) none) Set.univ (k0_part9 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg24 v581 v582 v588 v597 v626) Q) := by
  rw [k0_part9_eq_skeleton]
  unfold k0_part9_skel all inp pts m9 r9
  simp only [wp_bind]
  iintro ⟨⟨⟨H0, H1, H2, H3, H4, H5⟩, H8, H11, H12, H13, H14, H15, H16, H17⟩, H10⟩ HQ
  iapply (wp_ld c (m := A16) _ (ld16 (off := ![0, 0, 0]) rfl)) $$ H16
  iintro H16
  iapply (wp_ld c (m := A16) _ (ld16 (off := ![0, 0, 0]) rfl)) $$ H16
  iintro H16
  iapply (wp_st c (m := A16) _ (st16 (off := ![0, 0, 0]) rfl)) $$ H16
  iintro H16
  iapply (wp_loadV c _ (k0_off60_eq v1 k0_t3 ht)) $$ H10
  iintro H10
  iapply (wp_ld c (m := A17) _ (ld17 (off := ![0, 0, 0]) rfl)) $$ H17
  iintro H17
  iapply (wp_ld c (m := A17) _ (ld17 (off := ![0, 0, 0]) rfl)) $$ H17
  iintro H17
  iapply (wp_st c (m := A17) _ (st17 (off := ![0, 0, 0]) rfl)) $$ H17
  iintro H17
  iapply (wp_ld c (m := A14) _ (ld14 (k0_off61_eq v1 k0_t3 ht))) $$ H14
  iintro H14
  rw [wp_pure]
  imodintro
  iapply HQ
  isplitr [H10]
  rotate_left
  · iexact H10
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r10 (t : ℕ) (v1 : BitVec 32) (arg24 : BitVec 32) (v582 : BitVec 32) (v658 : FVec F S16x128 .f32) (I : Ins F) (s : St F) : Σ' (v661 : FVec F S16x128 .f32) (v670 : FVec F S16x2048 .f32), FVec F S16x128 .f32 :=
  let v660 : Vec F S1x1x16x128 .f32 := gt S2x2x16x128 ![t % 2, 1, 0, 0] S1x1x16x128.size s.f15
  let v663 : Vec F S1x1x16x2048 .f32 := gt S2x2x16x2048 ![t % 2, 1, 0, 0] S1x1x16x2048.size s.f11
  let v703 : Vec F S1x16x128 .f32 := gt S2x16x128 ![1, 0, 0] S1x16x128.size s.f16
  ⟨k0_pay44 v660, k0_pay45 v658 v663, k0_pay46 arg24 v658 v660 v663 v703⟩
theorem part10_wp (c : Dev nD) (I : Ins F) (s : St F) (v1 : BitVec 32) (k0_hw7 : k0_chk7 v1) (k0_t3 : Fin (k0_t3_loop v1).trips) (arg24 : BitVec 32) (v582 : BitVec 32) (v658 : FVec F S16x128 .f32) (ht : k0_t3.val < 300) {Q : (Σ' (v661 : FVec F S16x128 .f32) (v670 : FVec F S16x2048 .f32), FVec F S16x128 .f32) → sProp 𝕄} :
    iprop(all c I s) ⊢ iprop(((all c I s) -∗ Q (r10 k0_t3.val v1 arg24 v582 v658 I s))
      -∗ wp frame (wpE (defs₀ (F := F)) Variants.none (c : Thread nD τ) none) Set.univ (k0_part10 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg24 v582 v658) Q) := by
  rw [k0_part10_eq_skeleton]
  unfold k0_part10_skel all inp pts r10
  simp only [wp_bind]
  iintro ⟨⟨H0, H1, H2, H3, H4, H5⟩, H8, H11, H12, H13, H14, H15, H16, H17⟩ HQ
  iapply (wp_ld c (m := A15) _ (ld15 (k0_off61_eq v1 k0_t3 ht))) $$ H15
  iintro H15
  iapply (wp_ld c (m := A11) _ (ld11 (k0_off62_eq v1 k0_t3 ht))) $$ H11
  iintro H11
  iapply (wp_ld c (m := A16) _ (ld16 (off := ![1, 0, 0]) rfl)) $$ H16
  iintro H16
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r2 (t : ℕ) (v1 : BitVec 32) (v97 : FVec F S32x8 .bf16) (v148 : IVec S16x256 1) (v288 : FVec F S16x1 .f32) (arg23 : BitVec 32) (arg24 : BitVec 32) (arg20 : BitVec 32) (v731 : Elt F .i32) (I : Ins F) (s : St F) : Σ' (v738 : BitVec 32) (v742 : FVec F S32x64 .f32) (v774 : FVec F S16x64 .f32) (v777 : FVec F S16x1 .f32), FVec F S16x64 .f32 :=
  let v738 : BitVec 32 := Scalar.remsi arg20 2#32
  let v740 : Vec F S1x8x64 .bf16 := gt S16x8x64 ![arg23.toNat, 0, 0] S1x8x64.size I.vn
  let v744 : Vec F S1x16x128 .f32 := gt S16x32x128 ![arg23.toNat, 0, 0] S1x16x128.size s.f13
  let v747 : Vec F S1x1x16x128 .f32 := gt S2x2x16x128 ![t % 2, 0, 0, 0] S1x1x16x128.size s.f14
  let v754 : Vec F S1x16x128 .f32 := gt S2x16x128 ![0, 0, 0] S1x16x128.size s.f16
  let v761 : Vec F S1x16x256 .f32 := gt S2x16x256 ![0, 0, 0] S1x16x256.size s.f17
  ⟨v738, k0_pay12 v97 v740, k0_pay15 v148 v288 v744 v747 v754 v761, k0_pay16 v744 v747 v754, k0_pay17 v97 v740⟩
theorem part2_wp (c : Dev nD) (I : Ins F) (s : St F) (v1 : BitVec 32) (v97 : FVec F S32x8 .bf16) (v148 : IVec S16x256 1) (v288 : FVec F S16x1 .f32) (k0_t3 : Fin (k0_t3_loop v1).trips) (arg23 : BitVec 32) (arg24 : BitVec 32) (arg20 : BitVec 32) (v731 : Elt F .i32) (k0_hw16 : k0_chk16 v1 k0_t3 arg23 arg24 v731) (k0_h6 : k0_cond6 arg24 v731 = 1#1) (ht : k0_t3.val < 300) {Q : (Σ' (v738 : BitVec 32) (v742 : FVec F S32x64 .f32) (v774 : FVec F S16x64 .f32) (v777 : FVec F S16x1 .f32), FVec F S16x64 .f32) → sProp 𝕄} :
    iprop(all c I s) ⊢ iprop(((all c I s) -∗ Q (r2 k0_t3.val v1 v97 v148 v288 arg23 arg24 arg20 v731 I s))
      -∗ wp frame (wpE (defs₀ (F := F)) Variants.none (c : Thread nD τ) none) Set.univ (k0_part2 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 v97 v148 v288 k0_t3 arg23 arg24 arg20 v731 k0_hw16 k0_h6) Q) := by
  rw [k0_part2_eq_skeleton]
  unfold k0_part2_skel all inp pts r2
  simp only [wp_bind]
  iintro ⟨⟨H0, H1, H2, H3, H4, H5⟩, H8, H11, H12, H13, H14, H15, H16, H17⟩ HQ
  iapply (wp_ld c (m := A5) _ (ld5 (k0_off65_eq arg23))) $$ H5
  iintro H5
  iapply (wp_ld c (m := A13) _ (ld13 (k0_off66_eq arg23))) $$ H13
  iintro H13
  iapply (wp_ld c (m := A14) _ (ld14 (k0_off67_eq v1 k0_t3 ht))) $$ H14
  iintro H14
  iapply (wp_ld c (m := A16) _ (ld16 (off := ![0, 0, 0]) rfl)) $$ H16
  iintro H16
  iapply (wp_ld c (m := A17) _ (ld17 (off := ![0, 0, 0]) rfl)) $$ H17
  iintro H17
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m3 (t : ℕ) (v1 : BitVec 32) (v148 : IVec S16x256 1) (v334 : FVec F S16x1 .f32) (arg23 : BitVec 32) (arg24 : BitVec 32) (v731 : Elt F .i32) (v738 : BitVec 32) (v774 : FVec F S16x64 .f32) (v777 : FVec F S16x1 .f32) (v778 : FVec F S16x64 .f32) (I : Ins F) (s : St F) : St F :=
  let v784 : Vec F S1x16x64 .bf16 := gt S16x32x64 ![arg23.toNat, 0, 0] S1x16x64.size s.f8
  let g8_1 := pt S16x32x64 ![arg23.toNat, 0, 0] S1x16x64.size s.f8 (k0_pay18 v774 v777 v778)
  let v788 : Vec F S1x16x128 .f32 := gt S16x32x128 ![arg23.toNat, 16, 0] S1x16x128.size s.f13
  let v791 : Vec F S1x1x16x128 .f32 := gt S2x2x16x128 ![t % 2, 1, 0, 0] S1x1x16x128.size s.f14
  let v798 : Vec F S1x16x128 .f32 := gt S2x16x128 ![1, 0, 0] S1x16x128.size s.f16
  let v805 : Vec F S1x16x256 .f32 := gt S2x16x256 ![1, 0, 0] S1x16x256.size s.f17
  { s with f8 := g8_1 }
def r3 (t : ℕ) (v1 : BitVec 32) (v148 : IVec S16x256 1) (v334 : FVec F S16x1 .f32) (arg23 : BitVec 32) (arg24 : BitVec 32) (v731 : Elt F .i32) (v738 : BitVec 32) (v774 : FVec F S16x64 .f32) (v777 : FVec F S16x1 .f32) (v778 : FVec F S16x64 .f32) (I : Ins F) (s : St F) : Σ' (v818 : FVec F S16x64 .f32), FVec F S16x1 .bf16 :=
  let v784 : Vec F S1x16x64 .bf16 := gt S16x32x64 ![arg23.toNat, 0, 0] S1x16x64.size s.f8
  let g8_1 := pt S16x32x64 ![arg23.toNat, 0, 0] S1x16x64.size s.f8 (k0_pay18 v774 v777 v778)
  let v788 : Vec F S1x16x128 .f32 := gt S16x32x128 ![arg23.toNat, 16, 0] S1x16x128.size s.f13
  let v791 : Vec F S1x1x16x128 .f32 := gt S2x2x16x128 ![t % 2, 1, 0, 0] S1x1x16x128.size s.f14
  let v798 : Vec F S1x16x128 .f32 := gt S2x16x128 ![1, 0, 0] S1x16x128.size s.f16
  let v805 : Vec F S1x16x256 .f32 := gt S2x16x256 ![1, 0, 0] S1x16x256.size s.f17
  ⟨k0_pay21 v148 v334 v788 v791 v798 v805, k0_pay22 v788 v791 v798⟩
theorem part3_wp (c : Dev nD) (I : Ins F) (s : St F) (v1 : BitVec 32) (v148 : IVec S16x256 1) (v334 : FVec F S16x1 .f32) (k0_t3 : Fin (k0_t3_loop v1).trips) (arg23 : BitVec 32) (arg24 : BitVec 32) (v731 : Elt F .i32) (k0_hw16 : k0_chk16 v1 k0_t3 arg23 arg24 v731) (k0_h6 : k0_cond6 arg24 v731 = 1#1) (v738 : BitVec 32) (v774 : FVec F S16x64 .f32) (v777 : FVec F S16x1 .f32) (v778 : FVec F S16x64 .f32) (ht : k0_t3.val < 300) {Q : (Σ' (v818 : FVec F S16x64 .f32), FVec F S16x1 .bf16) → sProp 𝕄} :
    iprop(all c I s) ⊢ iprop(((all c I (m3 k0_t3.val v1 v148 v334 arg23 arg24 v731 v738 v774 v777 v778 I s)) -∗ Q (r3 k0_t3.val v1 v148 v334 arg23 arg24 v731 v738 v774 v777 v778 I s))
      -∗ wp frame (wpE (defs₀ (F := F)) Variants.none (c : Thread nD τ) none) Set.univ (k0_part3 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 v148 v334 k0_t3 arg23 arg24 v731 k0_hw16 k0_h6 v738 v774 v777 v778) Q) := by
  rw [k0_part3_eq_skeleton]
  unfold k0_part3_skel all inp pts m3 r3
  simp only [wp_bind]
  iintro ⟨⟨H0, H1, H2, H3, H4, H5⟩, H8, H11, H12, H13, H14, H15, H16, H17⟩ HQ
  iapply (wp_ld c (m := A8) _ (ld8 (k0_off68_eq arg23))) $$ H8
  iintro H8
  iapply (wp_st c (m := A8) _ (st8 (k0_off68_eq arg23))) $$ H8
  iintro H8
  iapply (wp_ld c (m := A13) _ (ld13 (k0_off69_eq arg23))) $$ H13
  iintro H13
  iapply (wp_ld c (m := A14) _ (ld14 (k0_off70_eq v1 k0_t3 ht))) $$ H14
  iintro H14
  iapply (wp_ld c (m := A16) _ (ld16 (off := ![1, 0, 0]) rfl)) $$ H16
  iintro H16
  iapply (wp_ld c (m := A17) _ (ld17 (off := ![1, 0, 0]) rfl)) $$ H17
  iintro H17
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

end Cert.Kernel.Hand
end
-- ==== Proof.K.Sites.lean ====
module

public import proofs.«01_k».proof.Proof.K.Parts

@[expose] public section
noncomputable section
namespace Cert.Kernel.Hand
open Cert.Kernel Cert.Kernel.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

theorem site0K (c : Dev nD) (v1 : BitVec 32) (v444 : BitVec 32) (k0_hw1 : k0_chk1 v1 v444) (k0_h1 : k0_cond1 v1 = 1#1) {i b o n : ℕ} (e3 : k0_off3 v444 = (![i, 0, 0], ![1, 512, n])) (e4 : k0_off4 v444 = (![b, 0, o], ![1, 512, n])) (es : k0_sz2 v444 = ![512, n]) (eo : k0_off2 = ![i]) (hi : i < 4) (hn : 0 < n)
    (X : Vec F S16x512x32768 .fp8e4m3) (f : Vec F S4x512x2048 .fp8e4m3) {Q : PUnit → sProp 𝕄} :
    FreeK c X i f ⊢ iprop((FlyK c X i n (fetched X b o n i f) -∗ Q ⟨⟩)
      -∗ wp frame (wpE (defs₀ (F := F)) Variants.none (c : Thread nD τ) none) Set.univ (Prog.lift (.enqueueDma ((A6.slice (Rect.unitDyn (s := S16x512x32768) (k0_off4 v444).1 (k0_off4 v444).2 (k0_off4_inb v1 v444 k0_hw1 k0_h1)) (fun _ => rfl)).squeeze (⟨2, k0_sz2 v444⟩ : Shape) (k0_sz2_squeezes v1 v444 k0_hw1 k0_h1)) (.here ((A9.slice (Rect.unitDyn (s := S4x512x2048) (k0_off3 v444).1 (k0_off3 v444).2 (k0_off3_inb v1 v444 k0_hw1 k0_h1)) (fun _ => rfl)).squeeze (⟨2, k0_sz1 v444⟩ : Shape) (k0_sz1_squeezes v1 v444 k0_hw1 k0_h1))) (.dma ((A18.slice (Rect.unit (s := S4) k0_off2 S1.size k0_off2_inb)).squeeze S_ squeezes_S1_S_).sem) (((show A6.IsWhole from Memref.isWhole_whole _).wordExact_slice rfl _ (k0_off4_wordsfp8e4m3 v1 v444 k0_hw1 k0_h1)).reshape _ _) (((show A9.IsWhole from Memref.isWhole_whole _).wordExact_slice rfl _ (k0_off3_wordsfp8e4m3 v1 v444 k0_hw1 k0_h1)).reshape _ _) ⟨Or.inl rfl, trivial⟩)) Q) :=
  wp_fetchK c X e3 e4 es eo hi hn f
theorem site1V (c : Dev nD) (v1 : BitVec 32) (v444 : BitVec 32) (k0_hw1 : k0_chk1 v1 v444) (k0_h1 : k0_cond1 v1 = 1#1) {i b o n : ℕ} (e3 : k0_off3 v444 = (![i, 0, 0], ![1, 512, n])) (e4 : k0_off4 v444 = (![b, 0, o], ![1, 512, n])) (es : k0_sz2 v444 = ![512, n]) (eo : k0_off2 = ![i]) (hi : i < 4) (hn : 0 < n)
    (X : Vec F S16x512x32768 .fp8e4m3) (f : Vec F S4x512x2048 .fp8e4m3) {Q : PUnit → sProp 𝕄} :
    FreeV c X i f ⊢ iprop((FlyV c X i n (fetched X b o n i f) -∗ Q ⟨⟩)
      -∗ wp frame (wpE (defs₀ (F := F)) Variants.none (c : Thread nD τ) none) Set.univ (Prog.lift (.enqueueDma ((A7.slice (Rect.unitDyn (s := S16x512x32768) (k0_off4 v444).1 (k0_off4 v444).2 (k0_off4_inb v1 v444 k0_hw1 k0_h1)) (fun _ => rfl)).squeeze (⟨2, k0_sz2 v444⟩ : Shape) (k0_sz2_squeezes v1 v444 k0_hw1 k0_h1)) (.here ((A10.slice (Rect.unitDyn (s := S4x512x2048) (k0_off3 v444).1 (k0_off3 v444).2 (k0_off3_inb v1 v444 k0_hw1 k0_h1)) (fun _ => rfl)).squeeze (⟨2, k0_sz1 v444⟩ : Shape) (k0_sz1_squeezes v1 v444 k0_hw1 k0_h1))) (.dma ((A19.slice (Rect.unit (s := S4) k0_off2 S1.size k0_off2_inb)).squeeze S_ squeezes_S1_S_).sem) (((show A7.IsWhole from Memref.isWhole_whole _).wordExact_slice rfl _ (k0_off4_wordsfp8e4m3 v1 v444 k0_hw1 k0_h1)).reshape _ _) (((show A10.IsWhole from Memref.isWhole_whole _).wordExact_slice rfl _ (k0_off3_wordsfp8e4m3 v1 v444 k0_hw1 k0_h1)).reshape _ _) ⟨Or.inl rfl, trivial⟩)) Q) :=
  wp_fetchV c X e3 e4 es eo hi hn f
theorem site2K (c : Dev nD) (v1 : BitVec 32) (v6 : BitVec 32) (v444 : BitVec 32) (k0_hw3 : k0_chk3 v1 v6 v444) (k0_h2 : k0_cond2 v1 = 1#1) {i b o n : ℕ} (e3 : k0_off7 v6 v444 = (![i, 0, 0], ![1, 512, n])) (e4 : k0_off8 v6 v444 = (![b, 0, o], ![1, 512, n])) (es : k0_sz4 v6 v444 = ![512, n]) (eo : k0_off6 = ![i]) (hi : i < 4) (hn : 0 < n)
    (X : Vec F S16x512x32768 .fp8e4m3) (f : Vec F S4x512x2048 .fp8e4m3) {Q : PUnit → sProp 𝕄} :
    FreeK c X i f ⊢ iprop((FlyK c X i n (fetched X b o n i f) -∗ Q ⟨⟩)
      -∗ wp frame (wpE (defs₀ (F := F)) Variants.none (c : Thread nD τ) none) Set.univ (Prog.lift (.enqueueDma ((A6.slice (Rect.unitDyn (s := S16x512x32768) (k0_off8 v6 v444).1 (k0_off8 v6 v444).2 (k0_off8_inb v1 v6 v444 k0_hw3 k0_h2)) (fun _ => rfl)).squeeze (⟨2, k0_sz4 v6 v444⟩ : Shape) (k0_sz4_squeezes v1 v6 v444 k0_hw3 k0_h2)) (.here ((A9.slice (Rect.unitDyn (s := S4x512x2048) (k0_off7 v6 v444).1 (k0_off7 v6 v444).2 (k0_off7_inb v1 v6 v444 k0_hw3 k0_h2)) (fun _ => rfl)).squeeze (⟨2, k0_sz3 v6 v444⟩ : Shape) (k0_sz3_squeezes v1 v6 v444 k0_hw3 k0_h2))) (.dma ((A18.slice (Rect.unit (s := S4) k0_off6 S1.size k0_off6_inb)).squeeze S_ squeezes_S1_S_).sem) (((show A6.IsWhole from Memref.isWhole_whole _).wordExact_slice rfl _ (k0_off8_wordsfp8e4m3 v1 v6 v444 k0_hw3 k0_h2)).reshape _ _) (((show A9.IsWhole from Memref.isWhole_whole _).wordExact_slice rfl _ (k0_off7_wordsfp8e4m3 v1 v6 v444 k0_hw3 k0_h2)).reshape _ _) ⟨Or.inl rfl, trivial⟩)) Q) :=
  wp_fetchK c X e3 e4 es eo hi hn f
theorem site3V (c : Dev nD) (v1 : BitVec 32) (v6 : BitVec 32) (v444 : BitVec 32) (k0_hw3 : k0_chk3 v1 v6 v444) (k0_h2 : k0_cond2 v1 = 1#1) {i b o n : ℕ} (e3 : k0_off7 v6 v444 = (![i, 0, 0], ![1, 512, n])) (e4 : k0_off8 v6 v444 = (![b, 0, o], ![1, 512, n])) (es : k0_sz4 v6 v444 = ![512, n]) (eo : k0_off6 = ![i]) (hi : i < 4) (hn : 0 < n)
    (X : Vec F S16x512x32768 .fp8e4m3) (f : Vec F S4x512x2048 .fp8e4m3) {Q : PUnit → sProp 𝕄} :
    FreeV c X i f ⊢ iprop((FlyV c X i n (fetched X b o n i f) -∗ Q ⟨⟩)
      -∗ wp frame (wpE (defs₀ (F := F)) Variants.none (c : Thread nD τ) none) Set.univ (Prog.lift (.enqueueDma ((A7.slice (Rect.unitDyn (s := S16x512x32768) (k0_off8 v6 v444).1 (k0_off8 v6 v444).2 (k0_off8_inb v1 v6 v444 k0_hw3 k0_h2)) (fun _ => rfl)).squeeze (⟨2, k0_sz4 v6 v444⟩ : Shape) (k0_sz4_squeezes v1 v6 v444 k0_hw3 k0_h2)) (.here ((A10.slice (Rect.unitDyn (s := S4x512x2048) (k0_off7 v6 v444).1 (k0_off7 v6 v444).2 (k0_off7_inb v1 v6 v444 k0_hw3 k0_h2)) (fun _ => rfl)).squeeze (⟨2, k0_sz3 v6 v444⟩ : Shape) (k0_sz3_squeezes v1 v6 v444 k0_hw3 k0_h2))) (.dma ((A19.slice (Rect.unit (s := S4) k0_off6 S1.size k0_off6_inb)).squeeze S_ squeezes_S1_S_).sem) (((show A7.IsWhole from Memref.isWhole_whole _).wordExact_slice rfl _ (k0_off8_wordsfp8e4m3 v1 v6 v444 k0_hw3 k0_h2)).reshape _ _) (((show A10.IsWhole from Memref.isWhole_whole _).wordExact_slice rfl _ (k0_off7_wordsfp8e4m3 v1 v6 v444 k0_hw3 k0_h2)).reshape _ _) ⟨Or.inl rfl, trivial⟩)) Q) :=
  wp_fetchV c X e3 e4 es eo hi hn f
theorem site4K (c : Dev nD) (v1 : BitVec 32) (v6 : BitVec 32) (v21 : BitVec 32) (v444 : BitVec 32) (k0_hw5 : k0_chk5 v1 v6 v21 v444) (k0_h3 : k0_cond3 v1 = 1#1) {i b o n : ℕ} (e3 : k0_off12 v6 v21 v444 = (![i, 0, 0], ![1, 512, n])) (e4 : k0_off13 v6 v21 v444 = (![b, 0, o], ![1, 512, n])) (es : k0_sz6 v6 v21 v444 = ![512, n]) (eo : k0_off11 = ![i]) (hi : i < 4) (hn : 0 < n)
    (X : Vec F S16x512x32768 .fp8e4m3) (f : Vec F S4x512x2048 .fp8e4m3) {Q : PUnit → sProp 𝕄} :
    FreeK c X i f ⊢ iprop((FlyK c X i n (fetched X b o n i f) -∗ Q ⟨⟩)
      -∗ wp frame (wpE (defs₀ (F := F)) Variants.none (c : Thread nD τ) none) Set.univ (Prog.lift (.enqueueDma ((A6.slice (Rect.unitDyn (s := S16x512x32768) (k0_off13 v6 v21 v444).1 (k0_off13 v6 v21 v444).2 (k0_off13_inb v1 v6 v21 v444 k0_hw5 k0_h3)) (fun _ => rfl)).squeeze (⟨2, k0_sz6 v6 v21 v444⟩ : Shape) (k0_sz6_squeezes v1 v6 v21 v444 k0_hw5 k0_h3)) (.here ((A9.slice (Rect.unitDyn (s := S4x512x2048) (k0_off12 v6 v21 v444).1 (k0_off12 v6 v21 v444).2 (k0_off12_inb v1 v6 v21 v444 k0_hw5 k0_h3)) (fun _ => rfl)).squeeze (⟨2, k0_sz5 v6 v21 v444⟩ : Shape) (k0_sz5_squeezes v1 v6 v21 v444 k0_hw5 k0_h3))) (.dma ((A18.slice (Rect.unit (s := S4) k0_off11 S1.size k0_off11_inb)).squeeze S_ squeezes_S1_S_).sem) (((show A6.IsWhole from Memref.isWhole_whole _).wordExact_slice rfl _ (k0_off13_wordsfp8e4m3 v1 v6 v21 v444 k0_hw5 k0_h3)).reshape _ _) (((show A9.IsWhole from Memref.isWhole_whole _).wordExact_slice rfl _ (k0_off12_wordsfp8e4m3 v1 v6 v21 v444 k0_hw5 k0_h3)).reshape _ _) ⟨Or.inl rfl, trivial⟩)) Q) :=
  wp_fetchK c X e3 e4 es eo hi hn f
theorem site5V (c : Dev nD) (v1 : BitVec 32) (v6 : BitVec 32) (v21 : BitVec 32) (v444 : BitVec 32) (k0_hw5 : k0_chk5 v1 v6 v21 v444) (k0_h3 : k0_cond3 v1 = 1#1) {i b o n : ℕ} (e3 : k0_off12 v6 v21 v444 = (![i, 0, 0], ![1, 512, n])) (e4 : k0_off13 v6 v21 v444 = (![b, 0, o], ![1, 512, n])) (es : k0_sz6 v6 v21 v444 = ![512, n]) (eo : k0_off11 = ![i]) (hi : i < 4) (hn : 0 < n)
    (X : Vec F S16x512x32768 .fp8e4m3) (f : Vec F S4x512x2048 .fp8e4m3) {Q : PUnit → sProp 𝕄} :
    FreeV c X i f ⊢ iprop((FlyV c X i n (fetched X b o n i f) -∗ Q ⟨⟩)
      -∗ wp frame (wpE (defs₀ (F := F)) Variants.none (c : Thread nD τ) none) Set.univ (Prog.lift (.enqueueDma ((A7.slice (Rect.unitDyn (s := S16x512x32768) (k0_off13 v6 v21 v444).1 (k0_off13 v6 v21 v444).2 (k0_off13_inb v1 v6 v21 v444 k0_hw5 k0_h3)) (fun _ => rfl)).squeeze (⟨2, k0_sz6 v6 v21 v444⟩ : Shape) (k0_sz6_squeezes v1 v6 v21 v444 k0_hw5 k0_h3)) (.here ((A10.slice (Rect.unitDyn (s := S4x512x2048) (k0_off12 v6 v21 v444).1 (k0_off12 v6 v21 v444).2 (k0_off12_inb v1 v6 v21 v444 k0_hw5 k0_h3)) (fun _ => rfl)).squeeze (⟨2, k0_sz5 v6 v21 v444⟩ : Shape) (k0_sz5_squeezes v1 v6 v21 v444 k0_hw5 k0_h3))) (.dma ((A19.slice (Rect.unit (s := S4) k0_off11 S1.size k0_off11_inb)).squeeze S_ squeezes_S1_S_).sem) (((show A7.IsWhole from Memref.isWhole_whole _).wordExact_slice rfl _ (k0_off13_wordsfp8e4m3 v1 v6 v21 v444 k0_hw5 k0_h3)).reshape _ _) (((show A10.IsWhole from Memref.isWhole_whole _).wordExact_slice rfl _ (k0_off12_wordsfp8e4m3 v1 v6 v21 v444 k0_hw5 k0_h3)).reshape _ _) ⟨Or.inl rfl, trivial⟩)) Q) :=
  wp_fetchV c X e3 e4 es eo hi hn f
theorem site6K (c : Dev nD) (v1 : BitVec 32) (k0_hw7 : k0_chk7 v1) (k0_t3 : Fin (k0_t3_loop v1).trips) (arg21 : BitVec 32) (arg22 : BitVec 32) (v740 : BitVec 32) (k0_hw10 : k0_chk10 v1 k0_t3 arg21 arg22 v740) (k0_h4 : k0_cond4 v1 k0_t3 = 1#1) {i b o n : ℕ} (e3 : k0_off34 v1 k0_t3 arg22 v740 = (![i, 0, 0], ![1, 512, n])) (e4 : k0_off35 v1 k0_t3 arg21 arg22 v740 = (![b, 0, o], ![1, 512, n])) (es : k0_sz10 v1 k0_t3 arg22 v740 = ![512, n]) (eo : (k0_off33 v1 k0_t3) = ![i]) (hi : i < 4) (hn : 0 < n)
    (X : Vec F S16x512x32768 .fp8e4m3) (f : Vec F S4x512x2048 .fp8e4m3) {Q : PUnit → sProp 𝕄} :
    FreeK c X i f ⊢ iprop((FlyK c X i n (fetched X b o n i f) -∗ Q ⟨⟩)
      -∗ wp frame (wpE (defs₀ (F := F)) Variants.none (c : Thread nD τ) none) Set.univ (Prog.lift (.enqueueDma ((A6.slice (Rect.unitDyn (s := S16x512x32768) (k0_off35 v1 k0_t3 arg21 arg22 v740).1 (k0_off35 v1 k0_t3 arg21 arg22 v740).2 (k0_off35_inb v1 k0_t3 arg21 arg22 v740 k0_hw10 k0_h4)) (fun _ => rfl)).squeeze (⟨2, k0_sz10 v1 k0_t3 arg22 v740⟩ : Shape) (k0_sz10_squeezes v1 k0_t3 arg21 arg22 v740 k0_hw10 k0_h4)) (.here ((A9.slice (Rect.unitDyn (s := S4x512x2048) (k0_off34 v1 k0_t3 arg22 v740).1 (k0_off34 v1 k0_t3 arg22 v740).2 (k0_off34_inb v1 k0_t3 arg21 arg22 v740 k0_hw10 k0_h4)) (fun _ => rfl)).squeeze (⟨2, k0_sz9 v1 k0_t3 arg22 v740⟩ : Shape) (k0_sz9_squeezes v1 k0_t3 arg21 arg22 v740 k0_hw10 k0_h4))) (.dma ((A18.slice (Rect.unit (s := S4) (k0_off33 v1 k0_t3) S1.size (k0_off33_inb v1 k0_hw7 k0_t3 k0_h4))).squeeze S_ squeezes_S1_S_).sem) (((show A6.IsWhole from Memref.isWhole_whole _).wordExact_slice rfl _ (k0_off35_wordsfp8e4m3 v1 k0_t3 arg21 arg22 v740 k0_hw10 k0_h4)).reshape _ _) (((show A9.IsWhole from Memref.isWhole_whole _).wordExact_slice rfl _ (k0_off34_wordsfp8e4m3 v1 k0_t3 arg21 arg22 v740 k0_hw10 k0_h4)).reshape _ _) ⟨Or.inl rfl, trivial⟩)) Q) :=
  wp_fetchK c X e3 e4 es eo hi hn f
theorem site7V (c : Dev nD) (v1 : BitVec 32) (k0_hw7 : k0_chk7 v1) (k0_t3 : Fin (k0_t3_loop v1).trips) (arg21 : BitVec 32) (arg22 : BitVec 32) (v740 : BitVec 32) (k0_hw10 : k0_chk10 v1 k0_t3 arg21 arg22 v740) (k0_h4 : k0_cond4 v1 k0_t3 = 1#1) {i b o n : ℕ} (e3 : k0_off34 v1 k0_t3 arg22 v740 = (![i, 0, 0], ![1, 512, n])) (e4 : k0_off35 v1 k0_t3 arg21 arg22 v740 = (![b, 0, o], ![1, 512, n])) (es : k0_sz10 v1 k0_t3 arg22 v740 = ![512, n]) (eo : (k0_off33 v1 k0_t3) = ![i]) (hi : i < 4) (hn : 0 < n)
    (X : Vec F S16x512x32768 .fp8e4m3) (f : Vec F S4x512x2048 .fp8e4m3) {Q : PUnit → sProp 𝕄} :
    FreeV c X i f ⊢ iprop((FlyV c X i n (fetched X b o n i f) -∗ Q ⟨⟩)
      -∗ wp frame (wpE (defs₀ (F := F)) Variants.none (c : Thread nD τ) none) Set.univ (Prog.lift (.enqueueDma ((A7.slice (Rect.unitDyn (s := S16x512x32768) (k0_off35 v1 k0_t3 arg21 arg22 v740).1 (k0_off35 v1 k0_t3 arg21 arg22 v740).2 (k0_off35_inb v1 k0_t3 arg21 arg22 v740 k0_hw10 k0_h4)) (fun _ => rfl)).squeeze (⟨2, k0_sz10 v1 k0_t3 arg22 v740⟩ : Shape) (k0_sz10_squeezes v1 k0_t3 arg21 arg22 v740 k0_hw10 k0_h4)) (.here ((A10.slice (Rect.unitDyn (s := S4x512x2048) (k0_off34 v1 k0_t3 arg22 v740).1 (k0_off34 v1 k0_t3 arg22 v740).2 (k0_off34_inb v1 k0_t3 arg21 arg22 v740 k0_hw10 k0_h4)) (fun _ => rfl)).squeeze (⟨2, k0_sz9 v1 k0_t3 arg22 v740⟩ : Shape) (k0_sz9_squeezes v1 k0_t3 arg21 arg22 v740 k0_hw10 k0_h4))) (.dma ((A19.slice (Rect.unit (s := S4) (k0_off33 v1 k0_t3) S1.size (k0_off33_inb v1 k0_hw7 k0_t3 k0_h4))).squeeze S_ squeezes_S1_S_).sem) (((show A7.IsWhole from Memref.isWhole_whole _).wordExact_slice rfl _ (k0_off35_wordsfp8e4m3 v1 k0_t3 arg21 arg22 v740 k0_hw10 k0_h4)).reshape _ _) (((show A10.IsWhole from Memref.isWhole_whole _).wordExact_slice rfl _ (k0_off34_wordsfp8e4m3 v1 k0_t3 arg21 arg22 v740 k0_hw10 k0_h4)).reshape _ _) ⟨Or.inl rfl, trivial⟩)) Q) :=
  wp_fetchV c X e3 e4 es eo hi hn f

end Cert.Kernel.Hand
end
-- ==== Proof.K.Ctl.lean ====
module

public import proofs.«01_k».proof.Proof.K.Sites

@[expose] public section
noncomputable section
namespace Cert.Kernel.Hand
open Cert.Kernel Cert.Kernel.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- Slot `i` being filled with `n` columns to hold `f` if `P`, else free holding `g`. -/
def IfK (c : Dev nD) (X : Vec F S16x512x32768 .fp8e4m3) (P : Prop) [Decidable P] (i n : ℕ) (f g : Vec F S4x512x2048 .fp8e4m3) : sProp 𝕄 :=
  if P then FlyK c X i n f else FreeK c X i g
/-- Slot `i` being filled with `n` columns to hold `f` if `P`, else free holding `g`. -/
def IfV (c : Dev nD) (X : Vec F S16x512x32768 .fp8e4m3) (P : Prop) [Decidable P] (i n : ℕ) (f g : Vec F S4x512x2048 .fp8e4m3) : sProp 𝕄 :=
  if P then FlyV c X i n f else FreeV c X i g

theorem off_of {b : ℕ} (hb : b < 16) {o : Fin 1 → ℕ} (h : o = ![(BitVec.ofNat 32 b).toNat]) : o = ![b] := by rw [h, toNat_of (by omega)]
theorem off_of' {b : ℕ} {w : BitVec 32} (hb : b < 16) (e : w = BitVec.ofNat 32 b) {o : Fin 1 → ℕ} (h : o = ![w.toNat]) : o = ![b] := by rw [h, e, toNat_of (by omega)]
theorem src_of {b j n : ℕ} (hb : b < 16) (hj : j < 16) {wb wj : BitVec 32} (eb : wb = BitVec.ofNat 32 b) (ej : wj = BitVec.ofNat 32 j) {o : (Fin 3 → ℕ) × (Fin 3 → ℕ)}
    (h : o = (![wb.toNat, 0, (Scalar.muli wj 2048#32).toNat], ![1, 512, n])) : o = (![b, 0, j * 2048], ![1, 512, n]) := by
  rw [h, eb, ej, toNat_of (by omega), off2048 hj]
theorem sz_pos (t j w : BitVec 32) : 0 < sz t j w := by obtain ⟨n, h1, h2, h3⟩ := sz_facts t j w; omega

section
variable (c : Dev nD) (I : Ins F) (s : St F)

set_option maxHeartbeats 4000000 in
theorem part4_wp {n fb fj b j nb nj : ℕ} (k0_hw7 : k0_chk7 (BitVec.ofNat 32 n)) (k0_t3 : Fin (k0_t3_loop (BitVec.ofNat 32 n)).trips) (hn : n < 300) (ht : k0_t3.val < 300)
    (hfb : fb < 16) (hfj : fj < 16) (hb : b < 16) (hj : j < 16) (hnb : nb < 16) (hnj : nj < 16)
    (e1 : nbWord (BitVec.ofNat 32 b) (BitVec.ofNat 32 j) (lw I.lens b) = BitVec.ofNat 32 nb) (e2 : njWord (BitVec.ofNat 32 j) (lw I.lens b) = BitVec.ofNat 32 nj)
    (fk fv : Vec F S4x512x2048 .fp8e4m3) {Q : _ → sProp 𝕄} :
    iprop(all c I s ∗ FreeK c I.XK ((k0_t3.val + 3) % 4) fk ∗ FreeV c I.XV ((k0_t3.val + 3) % 4) fv) ⊢ iprop(((all c I s
        ∗ IfK c I.XK (k0_t3.val + 3 < n) ((k0_t3.val + 3) % 4) (sz (BitVec.ofNat 32 (k0_t3.val + 3)) (BitVec.ofNat 32 fj) (lw I.lens fb)) (fetched I.XK fb (fj * 2048) (sz (BitVec.ofNat 32 (k0_t3.val + 3)) (BitVec.ofNat 32 fj) (lw I.lens fb)) ((k0_t3.val + 3) % 4) fk) fk
        ∗ IfV c I.XV (k0_t3.val + 3 < n) ((k0_t3.val + 3) % 4) (sz (BitVec.ofNat 32 (k0_t3.val + 3)) (BitVec.ofNat 32 fj) (lw I.lens fb)) (fetched I.XV fb (fj * 2048) (sz (BitVec.ofNat 32 (k0_t3.val + 3)) (BitVec.ofNat 32 fj) (lw I.lens fb)) ((k0_t3.val + 3) % 4) fv) fv) -∗
        Q ⟨k0_chk8_ok hb, Scf.iv 0#32 1#32 k0_t3.val, lw I.lens b, k0_chk12_ok _ k0_t3 ht _ _ _ hnb hnj e1 e2, nbWord (BitVec.ofNat 32 b) (BitVec.ofNat 32 j) (lw I.lens b), njWord (BitVec.ofNat 32 j) (lw I.lens b),
          nbWord (BitVec.ofNat 32 fb) (BitVec.ofNat 32 fj) (lw I.lens fb), njWord (BitVec.ofNat 32 fj) (lw I.lens fb), Scalar.extui (Scalar.cmpi .slt (Scalar.addi (Scf.iv 0#32 1#32 k0_t3.val) 1#32) (BitVec.ofNat 32 n)), 0#32⟩)
      -∗ wp frame (wpE (defs₀ (F := F)) Variants.none (c : Thread nD τ) none) Set.univ (k0_part4 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 (BitVec.ofNat 32 n) k0_hw7 0#32 1#32 k0_t3 (BitVec.ofNat 32 fb) (BitVec.ofNat 32 fj) (BitVec.ofNat 32 b) (BitVec.ofNat 32 j)) Q) := by
  rw [k0_part4_eq_skeleton]
  have hq := k0_chk12_ok _ k0_t3 ht _ _ _ hnb hnj e1 e2
  unfold k0_part4_skel all inp nbWord njWord
  simp only [wp_bind]
  iintro ⟨⟨⟨H0, HI⟩, HP⟩, HK, HV⟩ HQ
  iapply (wp_asm c (k0_chk15_ok hj))
  iapply (wp_asm c (k0_chk11_ok _ k0_t3 ht hfj))
  iapply (wp_asm c (k0_chk9_ok _ k0_t3 ht hfb))
  iapply (wp_asm c (k0_chk8_ok hb))
  iapply (wp_s0 c (off_of hb (k0_off31_eq _))) $$ H0
  iintro H0
  iapply (wp_asm c hq)
  by_cases hc : k0_t3.val + 3 < n
  · rw [dif_pos ((cond4_iff hn k0_t3 ht).2 hc)]
    simp only [wp_bind]
    iapply (wp_s0 c (off_of hfb (k0_off32_eq _))) $$ H0
    iintro H0
    iapply (wp_asm c (k0_chk10_ok _ k0_t3 ht hfb hfj _))
    iapply (site6K c _ k0_hw7 k0_t3 _ _ _ (k0_chk10_ok _ k0_t3 ht hfb hfj _) ((cond4_iff hn k0_t3 ht).2 hc) (k0_off34_eq _ _ _ _ ht) (src_of hfb hfj rfl rfl (k0_off35_eq _ _ _ _ _ ht)) (k0_sz10_eq _ _ _ _ ht) (k0_off33_eq _ _ ht) (Nat.mod_lt _ (by decide)) (sz_pos _ _ _)) $$ HK
    iintro HK
    iapply (site7V c _ k0_hw7 k0_t3 _ _ _ (k0_chk10_ok _ k0_t3 ht hfb hfj _) ((cond4_iff hn k0_t3 ht).2 hc) (k0_off34_eq _ _ _ _ ht) (src_of hfb hfj rfl rfl (k0_off35_eq _ _ _ _ _ ht)) (k0_sz10_eq _ _ _ _ ht) (k0_off33_eq _ _ ht) (Nat.mod_lt _ (by decide)) (sz_pos _ _ _)) $$ HV
    iintro HV
    iapply (wp_s0 c (off_of hfb (k0_off36_eq _))) $$ H0
    iintro H0
    rw [wp_pure]
    imodintro
    iapply HQ
    rw [IfK, IfV, if_pos hc, if_pos hc]
    isplitl [H0 HI HP]
    · isplitr [HP]
      · isplitl [H0]
        · iexact H0
        · iexact HI
      · iexact HP
    · isplitl [HK]
      · iexact HK
      · iexact HV
  · rw [dif_neg (fun h => hc ((cond4_iff hn k0_t3 ht).1 h))]
    simp only [wp_bind]
    iapply (wp_s0 c (off_of hfb (k0_off36_eq _))) $$ H0
    iintro H0
    rw [wp_pure]
    imodintro
    iapply HQ
    rw [IfK, IfV, if_neg hc, if_neg hc]
    isplitl [H0 HI HP]
    · isplitr [HP]
      · isplitl [H0]
        · iexact H0
        · iexact HI
      · iexact HP
    · isplitl [HK]
      · iexact HK
      · iexact HV

set_option maxHeartbeats 4000000 in
theorem part5_wp {n nb nj b j : ℕ} (k0_hw7 : k0_chk7 (BitVec.ofNat 32 n)) (k0_t3 : Fin (k0_t3_loop (BitVec.ofNat 32 n)).trips) (hn : n < 300) (ht : k0_t3.val < 300)
    (hb : b < 16) (hnb : nb < 16) (k0_hw8 : k0_chk8 (BitVec.ofNat 32 b)) (arg20 : BitVec 32) (k0_hw12 : k0_chk12 (BitVec.ofNat 32 n) k0_t3 (BitVec.ofNat 32 b) (BitVec.ofNat 32 j) (lw I.lens b))
    (e1 : nbWord (BitVec.ofNat 32 b) (BitVec.ofNat 32 j) (lw I.lens b) = BitVec.ofNat 32 nb) (e2 : njWord (BitVec.ofNat 32 j) (lw I.lens b) = BitVec.ofNat 32 nj)
    (fk gk fv : Vec F S4x512x2048 .fp8e4m3) (v451 v453 v473 c0 : BitVec 32) {Q : _ → sProp 𝕄} :
    iprop(all c I s ∗ IfK c I.XK (k0_t3.val + 1 < n) ((k0_t3.val + 1) % 4) (sz (BitVec.ofNat 32 (k0_t3.val + 1)) (BitVec.ofNat 32 nj) (lw I.lens nb)) fk gk
        ∗ FlyV c I.XV (k0_t3.val % 4) (sz (BitVec.ofNat 32 k0_t3.val) (BitVec.ofNat 32 j) (lw I.lens b)) fv ∗ (∃ W, owes (c : Thread nD τ) 0 W)) ⊢ iprop(((all c I s
        ∗ FreeK c I.XK ((k0_t3.val + 1) % 4) (if k0_t3.val + 1 < n then fk else gk) ∗ FreeV c I.XV (k0_t3.val % 4) fv ∗ (∃ W, owes (c : Thread nD τ) 0 W)) -∗
        Q ⟨Scalar.remsi (Scalar.addi arg20 1#32) 4#32, Scalar.remsi (Scalar.addi arg20 1#32) 2#32, Scalar.subi 1#32 (Scalar.remsi (Scalar.addi arg20 1#32) 2#32),
          k0_pay23 (F := F) v453 (lw I.lens nb), k0_pay24 (gt S4x512x2048 ![(k0_t3.val + 1) % 4, 0, 0] S1x256x2048.size (if k0_t3.val + 1 < n then fk else gk))⟩)
      -∗ wp frame (wpE (defs₀ (F := F)) Variants.none (c : Thread nD τ) none) Set.univ (k0_part5 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 (BitVec.ofNat 32 n) k0_hw7 k0_t3 (BitVec.ofNat 32 b) (BitVec.ofNat 32 j) k0_hw8 arg20 (lw I.lens b) k0_hw12 v451 v453 v473 c0) Q) := by
  rw [k0_part5_eq_skeleton]
  unfold k0_part5_skel all inp
  by_cases hc : k0_t3.val + 1 < n
  · rw [dif_pos ((cond5_iff hn k0_t3 ht).2 hc), IfK, if_pos hc, if_pos hc]
    simp only [wp_bind]
    iintro ⟨⟨⟨H0, HI⟩, HP⟩, HK, HV, HO⟩ HQ
    iapply (wp_s0 c (off_of' hnb e1 (k0_off37_eq _ _ _))) $$ H0
    iintro H0
    iapply (wp_asm c (k0_chk13_ok _ k0_t3 ht _ _ _ _))
    iapply (wp_waitK c I.XK (n := sz (BitVec.ofNat 32 (k0_t3.val + 1)) (BitVec.ofNat 32 nj) (lw I.lens nb)) ((k0_sz11_eq _ _ _ _ _ ht).trans (by rw [e2]; rfl)) (k0_off38_eq _ _ ht) (Nat.mod_lt _ (by decide))) $$ [HK HO]
    · isplitl [HK]
      · iexact HK
      · iexact HO
    iintro ⟨HK, HO⟩
    iapply (wp_s0 c (off_of hb (k0_off41_eq _))) $$ H0
    iintro H0
    iapply (wp_asm c (k0_chk14_ok _ k0_t3 ht _ _ _))
    iapply (wp_waitV c I.XV (n := sz (BitVec.ofNat 32 k0_t3.val) (BitVec.ofNat 32 j) (lw I.lens b)) (k0_sz13_eq _ _ _ _ ht) (k0_off42_eq _ _ ht) (Nat.mod_lt _ (by decide))) $$ [HV HO]
    · isplitl [HV]
      · iexact HV
      · iexact HO
    iintro ⟨HV, HO⟩
    iapply (wp_s0 c (off_of' hnb e1 (k0_off45_eq _ _ _))) $$ H0
    iintro H0
    iapply (wp_loadK c I.XK (k0_off46_eq _ _ ht)) $$ HK
    iintro HK
    rw [wp_pure]
    imodintro
    iapply HQ
    isplitl [H0 HI HP]
    · isplitr [HP]
      · isplitl [H0]
        · iexact H0
        · iexact HI
      · iexact HP
    · isplitl [HK]
      · iexact HK
      · isplitl [HV]
        · iexact HV
        · iexact HO
  · rw [dif_neg (fun h => hc ((cond5_iff hn k0_t3 ht).1 h)), IfK, if_neg hc, if_neg hc]
    simp only [wp_bind]
    iintro ⟨⟨⟨H0, HI⟩, HP⟩, HK, HV, HO⟩ HQ
    iapply (wp_s0 c (off_of hb (k0_off41_eq _))) $$ H0
    iintro H0
    iapply (wp_asm c (k0_chk14_ok _ k0_t3 ht _ _ _))
    iapply (wp_waitV c I.XV (n := sz (BitVec.ofNat 32 k0_t3.val) (BitVec.ofNat 32 j) (lw I.lens b)) (k0_sz13_eq _ _ _ _ ht) (k0_off42_eq _ _ ht) (Nat.mod_lt _ (by decide))) $$ [HV HO]
    · isplitl [HV]
      · iexact HV
      · iexact HO
    iintro ⟨HV, HO⟩
    iapply (wp_s0 c (off_of' hnb e1 (k0_off45_eq _ _ _))) $$ H0
    iintro H0
    iapply (wp_loadK c I.XK (k0_off46_eq _ _ ht)) $$ HK
    iintro HK
    rw [wp_pure]
    imodintro
    iapply HQ
    isplitl [H0 HI HP]
    · isplitr [HP]
      · isplitl [H0]
        · iexact H0
        · iexact HI
      · iexact HP
    · isplitl [HK]
      · iexact HK
      · isplitl [HV]
        · iexact HV
        · iexact HO

end

end Cert.Kernel.Hand
end
-- ==== Proof.K.Pro.lean ====
module

public import proofs.«01_k».proof.Proof.K.Ctl

@[expose] public section
noncomputable section
namespace Cert.Kernel.Hand
open Cert.Kernel Cert.Kernel.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- Columns fetched for trip `t`, what its ring slot held before, and what it then holds. -/
abbrev nT (L : ℕ → BitVec 32) (t : ℕ) : ℕ := sz (BitVec.ofNat 32 t) (BitVec.ofNat 32 (bj L t).2) (L (bj L t).1)
def prv (X : Vec F S16x512x32768 .fp8e4m3) (L : ℕ → BitVec 32) (g : Vec F S4x512x2048 .fp8e4m3) : ℕ → Vec F S4x512x2048 .fp8e4m3
  | 0 => g
  | 1 => g
  | 2 => g
  | 3 => g
  | t + 4 => fetched X (bj L t).1 ((bj L t).2 * 2048) (nT L t) (t % 4) (prv X L g t)
abbrev rng (X : Vec F S16x512x32768 .fp8e4m3) (L : ℕ → BitVec 32) (g : Vec F S4x512x2048 .fp8e4m3) (t : ℕ) : Vec F S4x512x2048 .fp8e4m3 :=
  fetched X (bj L t).1 ((bj L t).2 * 2048) (nT L t) (t % 4) (prv X L g t)

section
variable (c : Dev nD) (I : Ins F) (s : St F)

set_option maxHeartbeats 4000000 in
theorem t1_wp (hL : ∀ b, (lw I.lens b).toInt ≤ 32768) {Q : BitVec 32 → sProp 𝕄} :
    (A0.view.loc (c : Thread nD τ) ↦{fullShare} I.lens) ⊢ iprop(((A0.view.loc (c : Thread nD τ) ↦{fullShare} I.lens) -∗ Q (BitVec.ofNat 32 (pre (lw I.lens) 16)))
      -∗ wp frame (wpE (defs₀ (F := F)) Variants.none (c : Thread nD τ) none) Set.univ (Scf.Loop.for k0_t1_loop k0_t1_ok 0#32 (k0_t1_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10)) Q) := by
  have hs : ∀ (k : Fin k0_t1_loop.trips) (acc : BitVec 32), (iprop((A0.view.loc (c : Thread nD τ) ↦{fullShare} I.lens) ∗ ⌜acc = BitVec.ofNat 32 (pre (lw I.lens) k.val)⌝) : sProp 𝕄)
      ⊢ wp frame (wpE (defs₀ (F := F)) Variants.none (c : Thread nD τ) none) Set.univ (k0_t1_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 k acc) (fun a => iprop((A0.view.loc (c : Thread nD τ) ↦{fullShare} I.lens) ∗ ⌜a = BitVec.ofNat 32 (pre (lw I.lens) (k.val + 1))⌝)) := by
    intro k acc
    unfold k0_t1_body
    simp only [wp_bind]
    have hk : k.val < 300 := lt_of_lt_of_le k.isLt (by rw [t1_trips]; decide)
    iintro ⟨H0, %he⟩
    iapply (wp_s0 c (k0_off1_eq k hk)) $$ H0
    iintro H0
    rw [wp_pure]
    imodintro
    isplitl [H0]
    · iexact H0
    · ipureintro
      rw [he]
      show Scalar.addi _ (nWord (lw I.lens k.val)) = _
      rw [(nCh_eq (hL k.val)).2.2.2]
      exact WordCmp.addi_ofNat _ _
  iintro H0 HQ
  iapply (Scf.wp_for frame (wpE (defs₀ (F := F)) Variants.none (c : Thread nD τ) none) Set.univ _ _ _ k0_t1_ok _ _
    (fun k acc => iprop((A0.view.loc (c : Thread nD τ) ↦{fullShare} I.lens) ∗ ⌜acc = BitVec.ofNat 32 (pre (lw I.lens) k)⌝)) hs)
  isplitl [H0]
  · isplitl [H0]
    · iexact H0
    · ipureintro
      rfl
  · iintro %acc ⟨H0, %he⟩
    rw [he, show Scf.trips k0_t1_loop.lb k0_t1_loop.ub k0_t1_loop.st = 16 from t1_trips]
    iapply HQ
    iexact H0

/-- The scratch buffers after `k` sequences' queries are laid out. -/
def pro (v67 : FVec F S64x256 .bf16) (v97 : FVec F S32x8 .bf16) (v148 : IVec S16x256 1) (v195 v242 : FVec F S16x1 .bf16) (c0 : BitVec 32) : ℕ → St F → St F
  | 0, s => s
  | k + 1, s => let u := pro v67 v97 v148 v195 v242 c0 k s
    let w := m1 k v67 v97 v148 v195 v242 c0 1#32 I u
    { w with f12 := pt S16x2x16x256 ![k, 1, 0, 0] S1x1x16x256.size w.f12 (r1 k v67 v97 v148 v195 v242 c0 1#32 I u) }

set_option maxHeartbeats 4000000 in
theorem t2_wp (v67 : FVec F S64x256 .bf16) (v97 : FVec F S32x8 .bf16) (v148 : IVec S16x256 1) (v195 v242 : FVec F S16x1 .bf16) (c0 : BitVec 32) {Q : Unit → sProp 𝕄} :
    (all c I s) ⊢ iprop((all c I (pro I v67 v97 v148 v195 v242 c0 16 s) -∗ Q ())
      -∗ wp frame (wpE (defs₀ (F := F)) Variants.none (c : Thread nD τ) none) Set.univ (Scf.Loop.for k0_t2_loop k0_t2_ok ⟨⟩ (k0_t2_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v67 v97 v148 v195 v242 c0)) Q) := by
  have hs : ∀ (k : Fin k0_t2_loop.trips) (acc : Unit), iprop(all c I (pro I v67 v97 v148 v195 v242 c0 k.val s))
      ⊢ wp frame (wpE (defs₀ (F := F)) Variants.none (c : Thread nD τ) none) Set.univ (k0_t2_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v67 v97 v148 v195 v242 c0 k acc) (fun a => iprop(all c I (pro I v67 v97 v148 v195 v242 c0 (k.val + 1) s))) := by
    intro k acc
    unfold k0_t2_body
    simp only [wp_bind]
    have hk : k.val < 300 := lt_of_lt_of_le k.isLt (by rw [t2_trips]; decide)
    iintro H
    iapply (part1_wp c I _ v67 v97 v148 v195 v242 c0 1#32 k hk) $$ H
    iintro H
    unfold all pts
    icases H with ⟨HI, H8, H11, H12, H13, H14, H15, H16, H17⟩
    iapply (wp_st c (m := A12) _ (st12 (off := k0_off19 k) (k0_off19_eq k hk))) $$ H12
    iintro H12
    rw [wp_pure]
    imodintro
    isplitl [HI]
    · iexact HI
    · isplitl [H8]
      · iexact H8
      · isplitl [H11]
        · iexact H11
        · isplitl [H12]
          · iexact H12
          · isplitl [H13]
            · iexact H13
            · isplitl [H14]
              · iexact H14
              · isplitl [H15]
                · iexact H15
                · isplitl [H16]
                  · iexact H16
                  · iexact H17
  iintro H HQ
  iapply (Scf.wp_for frame (wpE (defs₀ (F := F)) Variants.none (c : Thread nD τ) none) Set.univ _ _ _ k0_t2_ok _ _
    (fun k _ => iprop(all c I (pro I v67 v97 v148 v195 v242 c0 k s))) hs)
  isplitl [H]
  · iexact H
  · iintro %acc H
    rw [show Scf.trips k0_t2_loop.lb k0_t2_loop.ub k0_t2_loop.st = 16 from t2_trips]
    iapply HQ
    iexact H

set_option maxHeartbeats 4000000 in
theorem part28_wp (v67 : FVec F S64x256 .bf16) (v97 : FVec F S32x8 .bf16) (v148 : IVec S16x256 1) (v195 v242 : FVec F S16x1 .bf16) (c0 : BitVec 32) (fk : Vec F S4x512x2048 .fp8e4m3) {Q : _ → sProp 𝕄} :
    iprop(all c I s ∗ FlyK c I.XK 0 (nT (lw I.lens) 0) fk ∗ (∃ W, owes (c : Thread nD τ) 0 W)) ⊢ iprop((all c I (pro I v67 v97 v148 v195 v242 c0 16 s) ∗ FreeK c I.XK 0 fk ∗ (∃ W, owes (c : Thread nD τ) 0 W) -∗
        Q ⟨Scalar.remsi 0#32 4#32, Scalar.remsi 0#32 2#32, Scalar.subi 1#32 (Scalar.remsi 0#32 2#32), iota .tc S16x2048 32 [1] iota_S16x2048_d1_w32, k0_pay100 (F := F) (lw I.lens 0)⟩)
      -∗ wp frame (wpE (defs₀ (F := F)) Variants.none (c : Thread nD τ) none) Set.univ (k0_part28 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v67 v97 v148 v195 v242 c0) Q) := by
  rw [k0_part28_eq_skeleton]
  unfold k0_part28_skel
  simp only [wp_bind]
  iintro ⟨H, HK, HO⟩ HQ
  iapply (t2_wp c I s v67 v97 v148 v195 v242 c0) $$ H
  iintro H
  unfold all inp
  icases H with ⟨⟨H0, HI⟩, HP⟩
  iapply (wp_s0 c rfl) $$ H0
  iintro H0
  iapply (wp_asm c (k0_chk6_ok _))
  iapply (wp_waitK c I.XK (n := nT (lw I.lens) 0) (k0_sz7_eq _) k0_off20_eq (by decide)) $$ [HK HO]
  · isplitl [HK]
    · iexact HK
    · iexact HO
  iintro ⟨HK, HO⟩
  iapply (wp_s0 c rfl) $$ H0
  iintro H0
  rw [wp_pure]
  imodintro
  iapply HQ
  isplitl [H0 HI HP]
  · isplitr [HP]
    · isplitl [H0]
      · iexact H0
      · iexact HI
    · iexact HP
  · isplitl [HK]
    · iexact HK
    · iexact HO

set_option maxHeartbeats 4000000 in
theorem part20_wp (hL : ∀ b, (lw I.lens b).toInt ≤ 32768) {n b j b' j' : ℕ} (en : n = pre (lw I.lens) 16) (hn : n < 300) (hn2 : 1 < n)
    (hb : b < 16) (hj : j < 16) (e1 : nbWord 0#32 0#32 (lw I.lens 0) = BitVec.ofNat 32 b) (e2 : njWord 0#32 (lw I.lens 0) = BitVec.ofNat 32 j)
    (h4 : k0_chk4 (BitVec.ofNat 32 n) (lw I.lens 0) (lw I.lens b))
    (gk gv : Vec F S4x512x2048 .fp8e4m3) {Q : _ → sProp 𝕄} :
    iprop(all c I s ∗ FreeK c I.XK 0 gk ∗ FreeK c I.XK 1 gk ∗ FreeV c I.XV 0 gv ∗ FreeV c I.XV 1 gv) ⊢ iprop((all c I s
        ∗ FlyK c I.XK 0 (sz 0#32 0#32 (lw I.lens 0)) (fetched I.XK 0 0 (sz 0#32 0#32 (lw I.lens 0)) 0 gk)
        ∗ FlyK c I.XK 1 (sz 1#32 (BitVec.ofNat 32 j) (lw I.lens b)) (fetched I.XK b (j * 2048) (sz 1#32 (BitVec.ofNat 32 j) (lw I.lens b)) 1 gk)
        ∗ FlyV c I.XV 0 (sz 0#32 0#32 (lw I.lens 0)) (fetched I.XV 0 0 (sz 0#32 0#32 (lw I.lens 0)) 0 gv)
        ∗ FlyV c I.XV 1 (sz 1#32 (BitVec.ofNat 32 j) (lw I.lens b)) (fetched I.XV b (j * 2048) (sz 1#32 (BitVec.ofNat 32 j) (lw I.lens b)) 1 gv) -∗
        Q ⟨BitVec.ofNat 32 n, k0_chk7_ok hn, lw I.lens 0, nbWord 0#32 0#32 (lw I.lens 0), njWord 0#32 (lw I.lens 0), Scalar.addi (njWord 0#32 (lw I.lens 0)) 1#32, lw I.lens b, h4, nWord (lw I.lens b)⟩)
      -∗ wp frame (wpE (defs₀ (F := F)) Variants.none (c : Thread nD τ) none) Set.univ (k0_part20 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10) Q) := by
  rw [k0_part20_eq_skeleton]
  have e1' := e1
  have e2' := e2
  unfold nbWord at e1'
  unfold njWord at e2'
  unfold k0_part20_skel all inp
  simp only [wp_bind]
  iintro ⟨⟨⟨H0, HI⟩, HP⟩, HK0, HK1, HV0, HV1⟩ HQ
  iapply (t1_wp c I hL) $$ H0
  iintro H0
  rw [← en]
  iapply (wp_asm c (k0_chk7_ok hn))
  rw [dif_pos ((cond1_iff hn).2 (by omega))]
  simp only [wp_bind]
  iapply (wp_s0 c rfl) $$ H0
  iintro H0
  iapply (wp_asm c (k0_chk1_ok _ _))
  iapply (site0K c _ _ (k0_chk1_ok _ _) ((cond1_iff hn).2 (by omega)) (k0_off3_eq _) (k0_off4_eq _) (k0_sz2_eq _) k0_off2_eq (by decide) (sz_pos _ _ _)) $$ HK0
  iintro HK0
  iapply (site1V c _ _ (k0_chk1_ok _ _) ((cond1_iff hn).2 (by omega)) (k0_off3_eq _) (k0_off4_eq _) (k0_sz2_eq _) k0_off2_eq (by decide) (sz_pos _ _ _)) $$ HV0
  iintro HV0
  iapply (wp_s0 c rfl) $$ H0
  iintro H0
  iapply (wp_asm c (k0_chk2_ok _ _ hb hj e1 e2))
  rw [dif_pos ((cond2_iff hn).2 (by omega))]
  simp only [wp_bind]
  iapply (wp_s0 c (off_of' hb e1 (k0_off5_eq _))) $$ H0
  iintro H0
  iapply (wp_asm c (k0_chk3_ok _ _ _ hb hj e1 e2))
  iapply (site2K c _ _ _ (k0_chk3_ok _ _ _ hb hj e1 e2) ((cond2_iff hn).2 (by omega)) (n := sz 1#32 (BitVec.ofNat 32 j) (lw I.lens b)) ((k0_off7_eq _ _).trans (by rw [e2]; rfl)) ((src_of hb hj e1 e2 (k0_off8_eq _ _)).trans (by rw [e2]; rfl)) ((k0_sz4_eq _ _).trans (by rw [e2]; rfl)) k0_off6_eq (by decide) (sz_pos _ _ _)) $$ HK1
  iintro HK1
  iapply (site3V c _ _ _ (k0_chk3_ok _ _ _ hb hj e1 e2) ((cond2_iff hn).2 (by omega)) (n := sz 1#32 (BitVec.ofNat 32 j) (lw I.lens b)) ((k0_off7_eq _ _).trans (by rw [e2]; rfl)) ((src_of hb hj e1 e2 (k0_off8_eq _ _)).trans (by rw [e2]; rfl)) ((k0_sz4_eq _ _).trans (by rw [e2]; rfl)) k0_off6_eq (by decide) (sz_pos _ _ _)) $$ HV1
  iintro HV1
  iapply (wp_s0 c (off_of' hb e1 (k0_off9_eq _))) $$ H0
  iintro H0
  iapply (wp_asm c h4)
  rw [wp_pure]
  imodintro
  unfold nbWord njWord nWord
  iapply HQ
  isplitl [H0 HI HP]
  · isplitr [HP]
    · isplitl [H0]
      · iexact H0
      · iexact HI
    · iexact HP
  · isplitl [HK0]
    · iexact HK0
    · isplitl [HK1]
      · iexact HK1
      · isplitl [HV0]
        · iexact HV0
        · iexact HV1

set_option maxHeartbeats 4000000 in
theorem part21_wp {n b j b' j' : ℕ} (hn : n < 300) (hn2 : 2 < n) (hb' : b' < 16) (hj' : j' < 16)
    (e1 : nbWord (nbWord 0#32 0#32 (lw I.lens 0)) (njWord 0#32 (lw I.lens 0)) (lw I.lens b) = BitVec.ofNat 32 b') (e2 : njWord (njWord 0#32 (lw I.lens 0)) (lw I.lens b) = BitVec.ofNat 32 j')
    (h4 : k0_chk4 (BitVec.ofNat 32 n) (lw I.lens 0) (lw I.lens b))
    (gk gv : Vec F S4x512x2048 .fp8e4m3) {Q : _ → sProp 𝕄} :
    iprop(all c I s ∗ FreeK c I.XK 2 gk ∗ FreeV c I.XV 2 gv) ⊢ iprop((all c I s
        ∗ FlyK c I.XK 2 (sz 2#32 (BitVec.ofNat 32 j') (lw I.lens b')) (fetched I.XK b' (j' * 2048) (sz 2#32 (BitVec.ofNat 32 j') (lw I.lens b')) 2 gk)
        ∗ FlyV c I.XV 2 (sz 2#32 (BitVec.ofNat 32 j') (lw I.lens b')) (fetched I.XV b' (j' * 2048) (sz 2#32 (BitVec.ofNat 32 j') (lw I.lens b')) 2 gv) -∗
        Q ⟨nbWord (nbWord (nbWord 0#32 0#32 (lw I.lens 0)) (njWord 0#32 (lw I.lens 0)) (lw I.lens b)) (njWord (njWord 0#32 (lw I.lens 0)) (lw I.lens b)) (lw I.lens b'), njWord (njWord (njWord 0#32 (lw I.lens 0)) (lw I.lens b)) (lw I.lens b'), k0_pay82⟩)
      -∗ wp frame (wpE (defs₀ (F := F)) Variants.none (c : Thread nD τ) none) Set.univ (k0_part21 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 (BitVec.ofNat 32 n) (lw I.lens 0) (nbWord 0#32 0#32 (lw I.lens 0)) (njWord 0#32 (lw I.lens 0)) (Scalar.addi (njWord 0#32 (lw I.lens 0)) 1#32) (lw I.lens b) h4 (nWord (lw I.lens b))) Q) := by
  rw [k0_part21_eq_skeleton]
  generalize hw1 : njWord 0#32 (lw I.lens 0) = w1 at *
  generalize hw2 : nbWord 0#32 0#32 (lw I.lens 0) = w2 at *
  unfold k0_part21_skel all inp
  simp only [wp_bind]
  iintro ⟨⟨⟨H0, HI⟩, HP⟩, HK1, HV1⟩ HQ
  rw [dif_pos ((cond3_iff hn).2 (by omega))]
  simp only [wp_bind]
  subst hw1 hw2
  iapply (wp_s0 c (off_of' hb' e1 (k0_off10_eq _ _))) $$ H0
  iintro H0
  iapply (wp_asm c (k0_chk5_ok _ _ _ _ hb' hj' e1 e2))
  iapply (site4K c _ _ _ _ (k0_chk5_ok _ _ _ _ hb' hj' e1 e2) ((cond3_iff hn).2 (by omega)) (n := sz 2#32 (BitVec.ofNat 32 j') (lw I.lens b')) ((k0_off12_eq _ _ _).trans (by rw [e2]; rfl)) ((src_of hb' hj' e1 e2 (k0_off13_eq _ _ _)).trans (by rw [e2]; rfl)) ((k0_sz6_eq _ _ _).trans (by rw [e2]; rfl)) k0_off11_eq (by decide) (sz_pos _ _ _)) $$ HK1
  iintro HK1
  iapply (site5V c _ _ _ _ (k0_chk5_ok _ _ _ _ hb' hj' e1 e2) ((cond3_iff hn).2 (by omega)) (n := sz 2#32 (BitVec.ofNat 32 j') (lw I.lens b')) ((k0_off12_eq _ _ _).trans (by rw [e2]; rfl)) ((src_of hb' hj' e1 e2 (k0_off13_eq _ _ _)).trans (by rw [e2]; rfl)) ((k0_sz6_eq _ _ _).trans (by rw [e2]; rfl)) k0_off11_eq (by decide) (sz_pos _ _ _)) $$ HV1
  iintro HV1
  iapply (wp_s0 c (off_of' hb' e1 (k0_off14_eq _ _))) $$ H0
  iintro H0
  rw [wp_pure]
  imodintro
  unfold nbWord njWord nWord
  iapply HQ
  isplitl [H0 HI HP]
  · isplitr [HP]
    · isplitl [H0]
      · iexact H0
      · iexact HI
    · iexact HP
  · isplitl [HK1]
    · iexact HK1
    · iexact HV1

end

end Cert.Kernel.Hand
end
-- ==== Proof.K.Loop.lean ====
module

public import proofs.«01_k».proof.Proof.K.Pro

@[expose] public section
noncomputable section
namespace Cert.Kernel.Hand
open Cert.Kernel Cert.Kernel.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

theorem part22_wpx (c : Dev nD) (I : Ins F) (s : St F) (v62 : IVec S64x256 32) {Q : (Σ' (v67 : FVec F S64x256 .bf16) (v97 : FVec F S32x8 .bf16) (v98 : IVec S16x256 32) (c4_i32_48 : BitVec 32) (v100 : IVec S16x256 32) (v107 : IVec S16x256 32) (v109 : BitVec 32), BitVec 1) → sProp 𝕄} :
    iprop(all c I s) ⊢ iprop(((all c I s) -∗ Q ⟨(r22 v62 I s).1, (r22 v62 I s).2.1, (r22 v62 I s).2.2.1, (r22 v62 I s).2.2.2.1, (r22 v62 I s).2.2.2.2.1, (r22 v62 I s).2.2.2.2.2.1, (r22 v62 I s).2.2.2.2.2.2.1, (r22 v62 I s).2.2.2.2.2.2.2⟩)
      -∗ wp frame (wpE (defs₀ (F := F)) Variants.none (c : Thread nD τ) none) Set.univ (k0_part22 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v62) Q) := part22_wp c I s v62
theorem part23_wpx (c : Dev nD) (I : Ins F) (s : St F) (v98 : IVec S16x256 32) (c4_i32_48 : BitVec 32) (v100 : IVec S16x256 32) (v107 : IVec S16x256 32) (v109 : BitVec 32) (v110 : BitVec 1) {Q : (Σ' (v148 : IVec S16x256 1) (v149 : IVec S16x1 32) (c4_i32_62 : BitVec 32) (v151 : IVec S16x1 32), IVec S16x1 32) → sProp 𝕄} :
    iprop(all c I s) ⊢ iprop(((all c I s) -∗ Q ⟨(r23 v98 c4_i32_48 v100 v107 v109 v110 I s).1, (r23 v98 c4_i32_48 v100 v107 v109 v110 I s).2.1, (r23 v98 c4_i32_48 v100 v107 v109 v110 I s).2.2.1, (r23 v98 c4_i32_48 v100 v107 v109 v110 I s).2.2.2.1, (r23 v98 c4_i32_48 v100 v107 v109 v110 I s).2.2.2.2⟩)
      -∗ wp frame (wpE (defs₀ (F := F)) Variants.none (c : Thread nD τ) none) Set.univ (k0_part23 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v98 c4_i32_48 v100 v107 v109 v110) Q) := part23_wp c I s v98 c4_i32_48 v100 v107 v109 v110
theorem part24_wpx (c : Dev nD) (I : Ins F) (s : St F) (v149 : IVec S16x1 32) (c4_i32_62 : BitVec 32) (v151 : IVec S16x1 32) (v158 : IVec S16x1 32) {Q : (Σ' (v195 : FVec F S16x1 .bf16) (v196 : IVec S16x1 32) (c4_i32_73 : BitVec 32) (v198 : IVec S16x1 32) (v201 : IVec S16x1 32), IVec S16x1 32) → sProp 𝕄} :
    iprop(all c I s) ⊢ iprop(((all c I s) -∗ Q ⟨(r24 v149 c4_i32_62 v151 v158 I s).1, (r24 v149 c4_i32_62 v151 v158 I s).2.1, (r24 v149 c4_i32_62 v151 v158 I s).2.2.1, (r24 v149 c4_i32_62 v151 v158 I s).2.2.2.1, (r24 v149 c4_i32_62 v151 v158 I s).2.2.2.2.1, (r24 v149 c4_i32_62 v151 v158 I s).2.2.2.2.2⟩)
      -∗ wp frame (wpE (defs₀ (F := F)) Variants.none (c : Thread nD τ) none) Set.univ (k0_part24 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v149 c4_i32_62 v151 v158) Q) := part24_wp c I s v149 c4_i32_62 v151 v158
theorem part25_wpx (c : Dev nD) (I : Ins F) (s : St F) (v196 : IVec S16x1 32) (c4_i32_73 : BitVec 32) (v198 : IVec S16x1 32) (v201 : IVec S16x1 32) (v202 : IVec S16x1 32) {Q : (Σ' (v242 : FVec F S16x1 .bf16) (v243 : IVec S16x1 32) (c4_i32_85 : BitVec 32) (v245 : IVec S16x1 32), IVec S16x1 1) → sProp 𝕄} :
    iprop(all c I s) ⊢ iprop(((all c I s) -∗ Q ⟨(r25 v196 c4_i32_73 v198 v201 v202 I s).1, (r25 v196 c4_i32_73 v198 v201 v202 I s).2.1, (r25 v196 c4_i32_73 v198 v201 v202 I s).2.2.1, (r25 v196 c4_i32_73 v198 v201 v202 I s).2.2.2.1, (r25 v196 c4_i32_73 v198 v201 v202 I s).2.2.2.2⟩)
      -∗ wp frame (wpE (defs₀ (F := F)) Variants.none (c : Thread nD τ) none) Set.univ (k0_part25 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v196 c4_i32_73 v198 v201 v202) Q) := part25_wp c I s v196 c4_i32_73 v198 v201 v202
theorem part26_wpx (c : Dev nD) (I : Ins F) (s : St F) (v243 : IVec S16x1 32) (c4_i32_85 : BitVec 32) (v245 : IVec S16x1 32) (v247 : IVec S16x1 1) {Q : (Σ' (v288 : FVec F S16x1 .f32) (v289 : IVec S16x1 32) (c4_i32_101 : BitVec 32) (v291 : IVec S16x1 32), BitVec 32) → sProp 𝕄} :
    iprop(all c I s) ⊢ iprop(((all c I s) -∗ Q ⟨(r26 v243 c4_i32_85 v245 v247 I s).1, (r26 v243 c4_i32_85 v245 v247 I s).2.1, (r26 v243 c4_i32_85 v245 v247 I s).2.2.1, (r26 v243 c4_i32_85 v245 v247 I s).2.2.2.1, (r26 v243 c4_i32_85 v245 v247 I s).2.2.2.2⟩)
      -∗ wp frame (wpE (defs₀ (F := F)) Variants.none (c : Thread nD τ) none) Set.univ (k0_part26 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v243 c4_i32_85 v245 v247) Q) := part26_wp c I s v243 c4_i32_85 v245 v247
theorem part27_wpx (c : Dev nD) (I : Ins F) (s : St F) (v289 : IVec S16x1 32) (c4_i32_101 : BitVec 32) (v291 : IVec S16x1 32) (c0_i32_102 : BitVec 32) {Q : (Σ' (v334 : FVec F S16x1 .f32), BitVec 32) → sProp 𝕄} :
    iprop(all c I s) ⊢ iprop(((all c I s) -∗ Q ⟨(r27 v289 c4_i32_101 v291 c0_i32_102 I s).1, (r27 v289 c4_i32_101 v291 c0_i32_102 I s).2⟩)
      -∗ wp frame (wpE (defs₀ (F := F)) Variants.none (c : Thread nD τ) none) Set.univ (k0_part27 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v289 c4_i32_101 v291 c0_i32_102) Q) := part27_wp c I s v289 c4_i32_101 v291 c0_i32_102
theorem part29_wpx (c : Dev nD) (I : Ins F) (s : St F) (v356 : BitVec 32) (v357 : BitVec 32) (v358 : BitVec 32) (v362 : IVec S16x2048 32) (v363 : IVec S16x2048 32) (kc : Vec F S4x512x2048 .fp8e4m3) (XK : Vec F S16x512x32768 .fp8e4m3) {Q : (Σ' (v364 : IVec S16x2048 1), FVec F S16x128 .f32) → sProp 𝕄} :
    iprop(all c I s ∗ FreeK c XK (0) kc) ⊢ iprop(((all c I (m29 v356 v357 v358 v362 v363 kc I s) ∗ FreeK c XK (0) kc) -∗ Q ⟨(r29 v356 v357 v358 v362 v363 kc I s).1, (r29 v356 v357 v358 v362 v363 kc I s).2⟩)
      -∗ wp frame (wpE (defs₀ (F := F)) Variants.none (c : Thread nD τ) none) Set.univ (k0_part29 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v356 v357 v358 v362 v363) Q) := part29_wp c I s v356 v357 v358 v362 v363 kc XK
theorem part30_wpx (c : Dev nD) (I : Ins F) (s : St F) (v356 : BitVec 32) (v357 : BitVec 32) (v358 : BitVec 32) (v364 : IVec S16x2048 1) (v395 : FVec F S16x128 .f32) (kc : Vec F S4x512x2048 .fp8e4m3) (XK : Vec F S16x512x32768 .fp8e4m3) {Q : (Σ' (v427 : FVec F S16x128 .f32), F .f32) → sProp 𝕄} :
    iprop(all c I s ∗ FreeK c XK (0) kc) ⊢ iprop(((all c I (m30 v356 v357 v358 v364 v395 kc I s) ∗ FreeK c XK (0) kc) -∗ Q ⟨(r30 v356 v357 v358 v364 v395 kc I s).1, (r30 v356 v357 v358 v364 v395 kc I s).2⟩)
      -∗ wp frame (wpE (defs₀ (F := F)) Variants.none (c : Thread nD τ) none) Set.univ (k0_part30 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v356 v357 v358 v364 v395) Q) := part30_wp c I s v356 v357 v358 v364 v395 kc XK
theorem part8_wpx (c : Dev nD) (I : Ins F) (s : St F) (v1 : BitVec 32) (k0_hw7 : k0_chk7 v1) (k0_t3 : Fin (k0_t3_loop v1).trips) (arg20 : BitVec 32) (v576 : FVec F S16x128 .f32) (ht : k0_t3.val < 300) {Q : (Σ' (v581 : BitVec 32) (v582 : BitVec 32) (v588 : FVec F S16x128 .f32) (v597 : FVec F S16x2048 .f32), FVec F S16x128 .f32) → sProp 𝕄} :
    iprop(all c I s) ⊢ iprop(((all c I (m8 k0_t3.val v1 arg20 v576 I s)) -∗ Q ⟨(r8 k0_t3.val v1 arg20 v576 I s).1, (r8 k0_t3.val v1 arg20 v576 I s).2.1, (r8 k0_t3.val v1 arg20 v576 I s).2.2.1, (r8 k0_t3.val v1 arg20 v576 I s).2.2.2.1, (r8 k0_t3.val v1 arg20 v576 I s).2.2.2.2⟩)
      -∗ wp frame (wpE (defs₀ (F := F)) Variants.none (c : Thread nD τ) none) Set.univ (k0_part8 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg20 v576) Q) := part8_wp c I s v1 k0_hw7 k0_t3 arg20 v576 ht
theorem part10_wpx (c : Dev nD) (I : Ins F) (s : St F) (v1 : BitVec 32) (k0_hw7 : k0_chk7 v1) (k0_t3 : Fin (k0_t3_loop v1).trips) (arg24 : BitVec 32) (v582 : BitVec 32) (v658 : FVec F S16x128 .f32) (ht : k0_t3.val < 300) {Q : (Σ' (v661 : FVec F S16x128 .f32) (v670 : FVec F S16x2048 .f32), FVec F S16x128 .f32) → sProp 𝕄} :
    iprop(all c I s) ⊢ iprop(((all c I s) -∗ Q ⟨(r10 k0_t3.val v1 arg24 v582 v658 I s).1, (r10 k0_t3.val v1 arg24 v582 v658 I s).2.1, (r10 k0_t3.val v1 arg24 v582 v658 I s).2.2⟩)
      -∗ wp frame (wpE (defs₀ (F := F)) Variants.none (c : Thread nD τ) none) Set.univ (k0_part10 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg24 v582 v658) Q) := part10_wp c I s v1 k0_hw7 k0_t3 arg24 v582 v658 ht
theorem part2_wpx (c : Dev nD) (I : Ins F) (s : St F) (v1 : BitVec 32) (v97 : FVec F S32x8 .bf16) (v148 : IVec S16x256 1) (v288 : FVec F S16x1 .f32) (k0_t3 : Fin (k0_t3_loop v1).trips) (arg23 : BitVec 32) (arg24 : BitVec 32) (arg20 : BitVec 32) (v731 : Elt F .i32) (k0_hw16 : k0_chk16 v1 k0_t3 arg23 arg24 v731) (k0_h6 : k0_cond6 arg24 v731 = 1#1) (ht : k0_t3.val < 300) {Q : (Σ' (v738 : BitVec 32) (v742 : FVec F S32x64 .f32) (v774 : FVec F S16x64 .f32) (v777 : FVec F S16x1 .f32), FVec F S16x64 .f32) → sProp 𝕄} :
    iprop(all c I s) ⊢ iprop(((all c I s) -∗ Q ⟨(r2 k0_t3.val v1 v97 v148 v288 arg23 arg24 arg20 v731 I s).1, (r2 k0_t3.val v1 v97 v148 v288 arg23 arg24 arg20 v731 I s).2.1, (r2 k0_t3.val v1 v97 v148 v288 arg23 arg24 arg20 v731 I s).2.2.1, (r2 k0_t3.val v1 v97 v148 v288 arg23 arg24 arg20 v731 I s).2.2.2.1, (r2 k0_t3.val v1 v97 v148 v288 arg23 arg24 arg20 v731 I s).2.2.2.2⟩)
      -∗ wp frame (wpE (defs₀ (F := F)) Variants.none (c : Thread nD τ) none) Set.univ (k0_part2 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 v97 v148 v288 k0_t3 arg23 arg24 arg20 v731 k0_hw16 k0_h6) Q) := part2_wp c I s v1 v97 v148 v288 k0_t3 arg23 arg24 arg20 v731 k0_hw16 k0_h6 ht
theorem part3_wpx (c : Dev nD) (I : Ins F) (s : St F) (v1 : BitVec 32) (v148 : IVec S16x256 1) (v334 : FVec F S16x1 .f32) (k0_t3 : Fin (k0_t3_loop v1).trips) (arg23 : BitVec 32) (arg24 : BitVec 32) (v731 : Elt F .i32) (k0_hw16 : k0_chk16 v1 k0_t3 arg23 arg24 v731) (k0_h6 : k0_cond6 arg24 v731 = 1#1) (v738 : BitVec 32) (v774 : FVec F S16x64 .f32) (v777 : FVec F S16x1 .f32) (v778 : FVec F S16x64 .f32) (ht : k0_t3.val < 300) {Q : (Σ' (v818 : FVec F S16x64 .f32), FVec F S16x1 .bf16) → sProp 𝕄} :
    iprop(all c I s) ⊢ iprop(((all c I (m3 k0_t3.val v1 v148 v334 arg23 arg24 v731 v738 v774 v777 v778 I s)) -∗ Q ⟨(r3 k0_t3.val v1 v148 v334 arg23 arg24 v731 v738 v774 v777 v778 I s).1, (r3 k0_t3.val v1 v148 v334 arg23 arg24 v731 v738 v774 v777 v778 I s).2⟩)
      -∗ wp frame (wpE (defs₀ (F := F)) Variants.none (c : Thread nD τ) none) Set.univ (k0_part3 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 v148 v334 k0_t3 arg23 arg24 v731 k0_hw16 k0_h6 v738 v774 v777 v778) Q) := part3_wp c I s v1 v148 v334 k0_t3 arg23 arg24 v731 k0_hw16 k0_h6 v738 v774 v777 v778 ht

/-- One trip up to its last chunk test: the scores of chunk `t + 1`, the values of chunk `t`. -/
def trip1 (I : Ins F) (n : ℕ) (kc vc : Vec F S4x512x2048 .fp8e4m3) (t b j nb : ℕ) (s : St F) : St F :=
  let v1 := BitVec.ofNat 32 n
  let a20 := Scf.iv 0#32 1#32 t
  let B := BitVec.ofNat 32 b
  let J := BitVec.ofNat 32 j
  let w := lw I.lens b
  let v451 := nbWord B J w
  let v453 := njWord J w
  let v497 := Scalar.remsi (Scalar.addi a20 1#32) 4#32
  let v498 := Scalar.remsi (Scalar.addi a20 1#32) 2#32
  let v499 := Scalar.subi 1#32 (Scalar.remsi (Scalar.addi a20 1#32) 2#32)
  let v506 := k0_pay23 (F := F) v453 (lw I.lens nb)
  let v509 := k0_pay24 (gt S4x512x2048 ![(t + 1) % 4, 0, 0] S1x256x2048.size kc)
  let s1 := m6 t v1 B J w v451 v453 v497 v498 v499 v506 v509 I s
  let s2 := m7 t v1 B J w v451 v453 v498 v499 v506 kc I s1
  let v576 := r7 t v1 B J w v451 v453 v498 v499 v506 kc I s1
  let s3 := m8 t v1 a20 v576 I s2
  let r := r8 t v1 a20 v576 I s2
  let s4 := m9 t v1 J r.1 r.2.1 r.2.2.1 r.2.2.2.1 r.2.2.2.2 vc I s3
  let v658 := r9 t v1 J r.1 r.2.1 r.2.2.1 r.2.2.2.1 r.2.2.2.2 vc I s3
  let q := r10 t v1 J r.2.1 v658 I s4
  { s4 with
    f16 := pt S2x16x128 ![1, 0, 0] S1x16x128.size s4.f16 (k0_pay2 q.2.2)
    f17 := pt S2x16x256 ![1, 0, 0] S1x16x256.size s4.f17 (k0_pay3 J q.1 q.2.1 (gt S4x512x2048 ![t % 4, 256, 0] S1x256x2048.size vc) (gt S2x16x256 ![1, 0, 0] S1x16x256.size s4.f17)) }
/-- The end of a sequence: its new token, the division and the result. -/
def trip2 (I : Ins F) (n : ℕ) (v97 : FVec F S32x8 .bf16) (v148 : IVec S16x256 1) (v288 v334 : FVec F S16x1 .f32) (t b j : ℕ) (s : St F) : St F :=
  let v1 := BitVec.ofNat 32 n
  let a20 := Scf.iv 0#32 1#32 t
  let B := BitVec.ofNat 32 b
  let J := BitVec.ofNat 32 j
  let w := lw I.lens b
  let p := r2 t v1 v97 v148 v288 B J a20 w I s
  let u := m3 t v1 v148 v334 B J w p.1 p.2.2.1 p.2.2.2.1 p.2.2.2.2 I s
  let q := r3 t v1 v148 v334 B J w p.1 p.2.2.1 p.2.2.2.1 p.2.2.2.2 I s
  { u with f8 := pt S16x32x64 ![B.toNat, 16, 0] S1x16x64.size u.f8 (k0_pay4 p.2.1 q.1 q.2) }
def trip (I : Ins F) (n : ℕ) (v97 : FVec F S32x8 .bf16) (v148 : IVec S16x256 1) (v288 v334 : FVec F S16x1 .f32) (kc vc : Vec F S4x512x2048 .fp8e4m3) (t b j nb : ℕ) (s : St F) : St F :=
  if nCh (lw I.lens b) ≤ j + 1 then trip2 I n v97 v148 v288 v334 t b j (trip1 I n kc vc t b j nb s) else trip1 I n kc vc t b j nb s

section
variable (c : Dev nD) (I : Ins F) (s : St F)

set_option maxHeartbeats 16000000 in
theorem trip_wp {n fb fj b j nb nj : ℕ} (k0_hw7 : k0_chk7 (BitVec.ofNat 32 n)) (k0_t3 : Fin (k0_t3_loop (BitVec.ofNat 32 n)).trips) (hn : n < 300) (ht : k0_t3.val < 300)
    (v97 : FVec F S32x8 .bf16) (v148 : IVec S16x256 1) (v288 v334 : FVec F S16x1 .f32) (hw : (lw I.lens b).toInt ≤ 32768)
    (hfb : fb < 16) (hfj : fj < 16) (hb : b < 16) (hj : j < 16) (hnb : nb < 16) (hnj : nj < 16)
    (e1 : nbWord (BitVec.ofNat 32 b) (BitVec.ofNat 32 j) (lw I.lens b) = BitVec.ofNat 32 nb) (e2 : njWord (BitVec.ofNat 32 j) (lw I.lens b) = BitVec.ofNat 32 nj)
    (fk gk fv ak av : Vec F S4x512x2048 .fp8e4m3) {Q : _ → sProp 𝕄} :
    iprop(all c I s ∗ FreeK c I.XK ((k0_t3.val + 3) % 4) ak ∗ FreeV c I.XV ((k0_t3.val + 3) % 4) av ∗ IfK c I.XK (k0_t3.val + 1 < n) ((k0_t3.val + 1) % 4) (sz (BitVec.ofNat 32 (k0_t3.val + 1)) (BitVec.ofNat 32 nj) (lw I.lens nb)) fk gk
        ∗ FlyV c I.XV (k0_t3.val % 4) (sz (BitVec.ofNat 32 k0_t3.val) (BitVec.ofNat 32 j) (lw I.lens b)) fv ∗ (∃ W, owes (c : Thread nD τ) 0 W)) ⊢ iprop(((all c I (trip I n v97 v148 v288 v334 (if k0_t3.val + 1 < n then fk else gk) fv k0_t3.val b j nb s)
        ∗ IfK c I.XK (k0_t3.val + 3 < n) ((k0_t3.val + 3) % 4) (sz (BitVec.ofNat 32 (k0_t3.val + 3)) (BitVec.ofNat 32 fj) (lw I.lens fb)) (fetched I.XK fb (fj * 2048) (sz (BitVec.ofNat 32 (k0_t3.val + 3)) (BitVec.ofNat 32 fj) (lw I.lens fb)) ((k0_t3.val + 3) % 4) ak) ak
        ∗ IfV c I.XV (k0_t3.val + 3 < n) ((k0_t3.val + 3) % 4) (sz (BitVec.ofNat 32 (k0_t3.val + 3)) (BitVec.ofNat 32 fj) (lw I.lens fb)) (fetched I.XV fb (fj * 2048) (sz (BitVec.ofNat 32 (k0_t3.val + 3)) (BitVec.ofNat 32 fj) (lw I.lens fb)) ((k0_t3.val + 3) % 4) av) av
        ∗ FreeK c I.XK ((k0_t3.val + 1) % 4) (if k0_t3.val + 1 < n then fk else gk) ∗ FreeV c I.XV (k0_t3.val % 4) fv ∗ (∃ W, owes (c : Thread nD τ) 0 W)) -∗
        Q (nbWord (BitVec.ofNat 32 fb) (BitVec.ofNat 32 fj) (lw I.lens fb), njWord (BitVec.ofNat 32 fj) (lw I.lens fb), nbWord (BitVec.ofNat 32 b) (BitVec.ofNat 32 j) (lw I.lens b), njWord (BitVec.ofNat 32 j) (lw I.lens b)))
      -∗ wp frame (wpE (defs₀ (F := F)) Variants.none (c : Thread nD τ) none) Set.univ (k0_t3_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 (BitVec.ofNat 32 n) k0_hw7 v97 v148 v288 v334 k0_t3 (BitVec.ofNat 32 fb, BitVec.ofNat 32 fj, BitVec.ofNat 32 b, BitVec.ofNat 32 j)) Q) := by
  unfold k0_t3_body
  simp only [wp_bind]
  iintro ⟨H, HK3, HV3, HK1, HV, HO⟩ HQ
  iapply (part4_wp c I s k0_hw7 k0_t3 hn ht hfb hfj hb hj hnb hnj e1 e2 ak av) $$ [H HK3 HV3]
  · isplitl [H]
    · iexact H
    · isplitl [HK3]
      · iexact HK3
      · iexact HV3
  iintro ⟨H, HK3, HV3⟩
  simp only [wp_bind]
  iapply (part5_wp c I s k0_hw7 k0_t3 hn ht hb hnb (k0_chk8_ok hb) _ (k0_chk12_ok _ k0_t3 ht _ _ _ hnb hnj e1 e2) e1 e2 fk gk fv) $$ [H HK1 HV HO]
  · isplitl [H]
    · iexact H
    · isplitl [HK1]
      · iexact HK1
      · isplitl [HV]
        · iexact HV
        · iexact HO
  iintro ⟨H, HK1, HV, HO⟩
  simp only [wp_bind]
  iapply (part6_wp c I _ _ k0_hw7 k0_t3 _ _ _ (k0_chk12_ok _ k0_t3 ht _ _ _ hnb hnj e1 e2) _ _ _ _ _ _ _ ht) $$ H
  iintro H
  iapply (part7_wp c I _ _ k0_hw7 k0_t3 _ _ _ (k0_chk12_ok _ k0_t3 ht _ _ _ hnb hnj e1 e2) _ _ _ _ _ ht (if k0_t3.val + 1 < n then fk else gk) I.XK) $$ [H HK1]
  · isplitl [H]
    · iexact H
    · iexact HK1
  iintro ⟨H, HK1⟩
  iapply (part8_wpx c I _ _ k0_hw7 k0_t3 _ _ ht) $$ H
  iintro H
  simp only [wp_bind]
  iapply (part9_wp c I _ _ k0_hw7 k0_t3 _ _ _ _ _ _ ht fv I.XV) $$ [H HV]
  · isplitl [H]
    · iexact H
    · iexact HV
  iintro ⟨H, HV⟩
  iapply (part10_wpx c I _ _ k0_hw7 k0_t3 _ _ _ ht) $$ H
  iintro H
  simp only [wp_bind]
  unfold all inp pts
  icases H with ⟨⟨H0, HI⟩, H8, H11, H12, H13, H14, H15, H16, H17⟩
  iapply (wp_ld c (m := A16) _ (ld16 rfl)) $$ H16
  iintro H16
  iapply (wp_st c (m := A16) _ (st16 rfl)) $$ H16
  iintro H16
  iapply (wp_loadV c I.XV (k0_off63_eq _ _ ht)) $$ HV
  iintro HV
  iapply (wp_ld c (m := A17) _ (ld17 rfl)) $$ H17
  iintro H17
  iapply (wp_ld c (m := A17) _ (ld17 rfl)) $$ H17
  iintro H17
  iapply (wp_st c (m := A17) _ (st17 rfl)) $$ H17
  iintro H17
  iapply (wp_s0 c (off_of hb (k0_off64_eq _))) $$ H0
  iintro H0
  iapply (wp_asm c (k0_chk16_ok _ k0_t3 ht hb _ _))
  by_cases hc : nCh (lw I.lens b) ≤ j + 1
  · rw [dif_pos ((cond6_iff hj hw).2 hc)]
    rw [trip, if_pos hc]
    simp only [wp_bind]
    iapply (part2_wpx c I (trip1 I n (if k0_t3.val + 1 < n then fk else gk) fv k0_t3.val b j nb s) _ v97 v148 v288 k0_t3 _ _ _ _ (k0_chk16_ok _ k0_t3 ht hb _ _) ((cond6_iff hj hw).2 hc) ht) $$ [H0 HI H8 H11 H12 H13 H14 H15 H16 H17]
    · unfold all inp pts
      isplitl [H0 HI]
      · isplitl [H0]
        · iexact H0
        · iexact HI
      · isplitl [H8]
        · iexact H8
        · isplitl [H11]
          · iexact H11
          · isplitl [H12]
            · iexact H12
            · isplitl [H13]
              · iexact H13
              · isplitl [H14]
                · iexact H14
                · isplitl [H15]
                  · iexact H15
                  · isplitl [H16]
                    · iexact H16
                    · iexact H17
    iintro H
    simp only [wp_bind]
    iapply (part3_wpx c I (trip1 I n (if k0_t3.val + 1 < n then fk else gk) fv k0_t3.val b j nb s) _ v148 v334 k0_t3 _ _ _ (k0_chk16_ok _ k0_t3 ht hb _ _) ((cond6_iff hj hw).2 hc) _ _ _ _ ht) $$ H
    iintro H
    simp only [wp_bind]
    unfold all inp pts
    icases H with ⟨⟨H0, HI⟩, H8, H11, H12, H13, H14, H15, H16, H17⟩
    iapply (wp_ld c (m := A8) _ (ld8 (off := k0_off71 _) (k0_off71_eq _))) $$ H8
    iintro H8
    iapply (wp_st c (m := A8) _ (st8 (off := k0_off71 _) (k0_off71_eq _))) $$ H8
    iintro H8
    rw [wp_pure]
    imodintro
    iapply HQ
    isplitl [H0 HI H8 H11 H12 H13 H14 H15 H16 H17]
    · isplitl [H0 HI]
      · isplitl [H0]
        · iexact H0
        · iexact HI
      · isplitl [H8]
        · iexact H8
        · isplitl [H11]
          · iexact H11
          · isplitl [H12]
            · iexact H12
            · isplitl [H13]
              · iexact H13
              · isplitl [H14]
                · iexact H14
                · isplitl [H15]
                  · iexact H15
                  · isplitl [H16]
                    · iexact H16
                    · iexact H17
    · isplitl [HK3]
      · iexact HK3
      · isplitl [HV3]
        · iexact HV3
        · isplitl [HK1]
          · iexact HK1
          · isplitl [HV]
            · iexact HV
            · iexact HO
  · rw [dif_neg (fun h => hc ((cond6_iff hj hw).1 h))]
    rw [trip, if_neg hc]
    rw [wp_pure]
    imodintro
    iapply HQ
    isplitl [H0 HI H8 H11 H12 H13 H14 H15 H16 H17]
    · isplitl [H0 HI]
      · isplitl [H0]
        · iexact H0
        · iexact HI
      · isplitl [H8]
        · iexact H8
        · isplitl [H11]
          · iexact H11
          · isplitl [H12]
            · iexact H12
            · isplitl [H13]
              · iexact H13
              · isplitl [H14]
                · iexact H14
                · isplitl [H15]
                  · iexact H15
                  · isplitl [H16]
                    · iexact H16
                    · iexact H17
    · isplitl [HK3]
      · iexact HK3
      · isplitl [HV3]
        · iexact HV3
        · isplitl [HK1]
          · iexact HK1
          · isplitl [HV]
            · iexact HV
            · iexact HO

end

end Cert.Kernel.Hand
end
-- ==== Proof.K.Body.lean ====
module

public import proofs.«01_k».proof.Proof.K.Loop

@[expose] public section
noncomputable section
namespace Cert.Kernel.Hand
open Cert.Kernel Cert.Kernel.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- What the set-up computes from the scales: block masks and the scale columns. -/
abbrev q22 (I : Ins F) (s : St F) := r22 (F := F) k0_pay82 I s
abbrev q23 (I : Ins F) (s : St F) := r23 (q22 I s).2.2.1 (q22 I s).2.2.2.1 (q22 I s).2.2.2.2.1 (q22 I s).2.2.2.2.2.1 (q22 I s).2.2.2.2.2.2.1 (q22 I s).2.2.2.2.2.2.2 I s
abbrev q24 (I : Ins F) (s : St F) := r24 (q23 I s).2.1 (q23 I s).2.2.1 (q23 I s).2.2.2.1 (q23 I s).2.2.2.2 I s
abbrev q25 (I : Ins F) (s : St F) := r25 (q24 I s).2.1 (q24 I s).2.2.1 (q24 I s).2.2.2.1 (q24 I s).2.2.2.2.1 (q24 I s).2.2.2.2.2 I s
abbrev q26 (I : Ins F) (s : St F) := r26 (q25 I s).2.1 (q25 I s).2.2.1 (q25 I s).2.2.2.1 (q25 I s).2.2.2.2 I s
abbrev q27 (I : Ins F) (s : St F) := r27 (q26 I s).2.1 (q26 I s).2.2.1 (q26 I s).2.2.2.1 (q26 I s).2.2.2.2 I s
/-- The buffers before the first trip. -/
abbrev st28 (I : Ins F) (s : St F) : St F := pro I (q22 I s).1 (q22 I s).2.1 (q23 I s).1 (q24 I s).1 (q25 I s).1 (q27 I s).2 16 s
abbrev w356 : BitVec 32 := Scalar.remsi 0#32 4#32
abbrev w357 : BitVec 32 := Scalar.remsi 0#32 2#32
abbrev w358 : BitVec 32 := Scalar.subi 1#32 (Scalar.remsi 0#32 2#32)
abbrev w362 : IVec S16x2048 32 := iota .tc S16x2048 32 [1] iota_S16x2048_d1_w32
abbrev w363 (I : Ins F) : IVec S16x2048 32 := k0_pay100 (F := F) (lw I.lens 0)
abbrev st29 (I : Ins F) (kc : Vec F S4x512x2048 .fp8e4m3) (s : St F) : St F := m29 w356 w357 w358 w362 (w363 I) kc I (st28 I s)
abbrev q29 (I : Ins F) (kc : Vec F S4x512x2048 .fp8e4m3) (s : St F) := r29 w356 w357 w358 w362 (w363 I) kc I (st28 I s)
abbrev st30 (I : Ins F) (kc : Vec F S4x512x2048 .fp8e4m3) (s : St F) : St F := m30 w356 w357 w358 (q29 I kc s).1 (q29 I kc s).2 kc I (st29 I kc s)
abbrev q30 (I : Ins F) (kc : Vec F S4x512x2048 .fp8e4m3) (s : St F) := r30 w356 w357 w358 (q29 I kc s).1 (q29 I kc s).2 kc I (st29 I kc s)
def st31 (I : Ins F) (kc : Vec F S4x512x2048 .fp8e4m3) (s : St F) : St F :=
  { st30 I kc s with f15 := pt S2x2x16x128 ![0, 1, 0, 0] S1x1x16x128.size (st30 I kc s).f15 (k0_pay1 (q30 I kc s).1 (q30 I kc s).2) }
/-- Slot `t % 4` once chunk `t`, if there is one, has arrived. -/
def kcc (X : Vec F S16x512x32768 .fp8e4m3) (L : ℕ → BitVec 32) (g : Vec F S4x512x2048 .fp8e4m3) (n t : ℕ) : Vec F S4x512x2048 .fp8e4m3 :=
  if t < n then rng X L g t else prv X L g t
/-- The buffers before trip `k`. -/
def stt (I : Ins F) (v97 : FVec F S32x8 .bf16) (v148 : IVec S16x256 1) (v288 v334 : FVec F S16x1 .f32) (n : ℕ) (gk gv : Vec F S4x512x2048 .fp8e4m3) (s : St F) : ℕ → St F
  | 0 => s
  | k + 1 => trip I n v97 v148 v288 v334 (kcc I.XK (lw I.lens) gk n (k + 1)) (rng I.XV (lw I.lens) gv k) k (bj (lw I.lens) k).1 (bj (lw I.lens) k).2 (bj (lw I.lens) (k + 1)).1
      (stt I v97 v148 v288 v334 n gk gv s k)
/-- The buffers at the end. -/
def kern (I : Ins F) (gk gv : Vec F S4x512x2048 .fp8e4m3) (s : St F) : St F :=
  stt I (q22 I s).2.1 (q23 I s).1 (q26 I s).1 (q27 I s).1 (pre (lw I.lens) 16) gk gv (st31 I (rng I.XK (lw I.lens) gk 0) s) (pre (lw I.lens) 16)

section
variable (c : Dev nD) (I : Ins F) (s : St F)

abbrev FlyKT (n : ℕ) (gk : Vec F S4x512x2048 .fp8e4m3) (t : ℕ) : sProp 𝕄 := IfK c I.XK (t < n) (t % 4) (nT (lw I.lens) t) (rng I.XK (lw I.lens) gk t) (prv I.XK (lw I.lens) gk t)
abbrev FlyVT (n : ℕ) (gv : Vec F S4x512x2048 .fp8e4m3) (t : ℕ) : sProp 𝕄 := IfV c I.XV (t < n) (t % 4) (nT (lw I.lens) t) (rng I.XV (lw I.lens) gv t) (prv I.XV (lw I.lens) gv t)
def accAt (k : ℕ) : BitVec 32 × BitVec 32 × BitVec 32 × BitVec 32 :=
  (BitVec.ofNat 32 (bj (lw I.lens) (k + 3)).1, BitVec.ofNat 32 (bj (lw I.lens) (k + 3)).2, BitVec.ofNat 32 (bj (lw I.lens) k).1, BitVec.ofNat 32 (bj (lw I.lens) k).2)

/-- Before trip `k`: the scores of chunk `k` are in, its values and the next two chunks are on their way. -/
def inv (v97 : FVec F S32x8 .bf16) (v148 : IVec S16x256 1) (v288 v334 : FVec F S16x1 .f32) (n : ℕ) (gk gv : Vec F S4x512x2048 .fp8e4m3) (k : ℕ) : sProp 𝕄 :=
  iprop(all c I (stt I v97 v148 v288 v334 n gk gv s k) ∗ FreeK c I.XK (k % 4) (kcc I.XK (lw I.lens) gk n k) ∗ FlyKT c I n gk (k + 1) ∗ FlyKT c I n gk (k + 2) ∗ FreeK c I.XK ((k + 3) % 4) (prv I.XK (lw I.lens) gk (k + 3))
    ∗ FlyVT c I n gv k ∗ FlyVT c I n gv (k + 1) ∗ FlyVT c I n gv (k + 2) ∗ FreeV c I.XV ((k + 3) % 4) (prv I.XV (lw I.lens) gv (k + 3)) ∗ (∃ W, owes (c : Thread nD τ) 0 W))

set_option maxHeartbeats 4000000 in
theorem t3_step (hL : ∀ b, (lw I.lens b).toInt ≤ 32768) {n : ℕ} (hn : n < 300) (k0_hw7 : k0_chk7 (BitVec.ofNat 32 n))
    (v97 : FVec F S32x8 .bf16) (v148 : IVec S16x256 1) (v288 v334 : FVec F S16x1 .f32) (gk gv : Vec F S4x512x2048 .fp8e4m3)
    (k : Fin (k0_t3_loop (BitVec.ofNat 32 n)).trips) (acc : BitVec 32 × BitVec 32 × BitVec 32 × BitVec 32) :
    (iprop(⌜acc = accAt I k.val⌝ ∗ inv c I s v97 v148 v288 v334 n gk gv k.val) : sProp 𝕄)
      ⊢ wp frame (wpE (defs₀ (F := F)) Variants.none (c : Thread nD τ) none) Set.univ (k0_t3_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 (BitVec.ofNat 32 n) k0_hw7 v97 v148 v288 v334 k acc)
        (fun a => iprop(⌜a = accAt I (k.val + 1)⌝ ∗ inv c I s v97 v148 v288 v334 n gk gv (k.val + 1))) := by
  have hk : k.val < n := lt_of_lt_of_eq k.isLt (t3_bounds hn).1
  have B (t : ℕ) := bj_bound hL t
  have W1 (t : ℕ) : nbWord (BitVec.ofNat 32 (bj (lw I.lens) t).1) (BitVec.ofNat 32 (bj (lw I.lens) t).2) (lw I.lens (bj (lw I.lens) t).1) = BitVec.ofNat 32 (bj (lw I.lens) (t + 1)).1 :=
    nbWord_eq (hL _) (by have := (B t).1; omega) (B t).2.2
  have W2 (t : ℕ) : njWord (BitVec.ofNat 32 (bj (lw I.lens) t).2) (lw I.lens (bj (lw I.lens) t).1) = BitVec.ofNat 32 (bj (lw I.lens) (t + 1)).2 :=
    njWord_eq (hL _) (B t).2.2
  unfold inv
  rw [show FlyVT c I n gv k.val = FlyV c I.XV (k.val % 4) (nT (lw I.lens) k.val) (rng I.XV (lw I.lens) gv k.val) from by rw [FlyVT, IfV, if_pos hk]]
  iintro ⟨%he, all, K0, K1, K2, K3, V0, V1, V2, V3, HO⟩
  rw [he]
  iapply (trip_wp c I _ k0_hw7 k hn (by omega) v97 v148 v288 v334 (hL _) (fb := (bj (lw I.lens) (k.val + 3)).1) (fj := (bj (lw I.lens) (k.val + 3)).2) (b := (bj (lw I.lens) k.val).1) (j := (bj (lw I.lens) k.val).2)
    (nb := (bj (lw I.lens) (k.val + 1)).1) (nj := (bj (lw I.lens) (k.val + 1)).2) (by have := (B (k.val + 3)).1; omega) (B (k.val + 3)).2.2 (by have := (B k.val).1; omega) (B k.val).2.2 (by have := (B (k.val + 1)).1; omega) (B (k.val + 1)).2.2
    (W1 k.val) (W2 k.val) (rng I.XK (lw I.lens) gk (k.val + 1)) (prv I.XK (lw I.lens) gk (k.val + 1)) (rng I.XV (lw I.lens) gv k.val) (prv I.XK (lw I.lens) gk (k.val + 3)) (prv I.XV (lw I.lens) gv (k.val + 3))) $$ [all K3 V3 K1 V0 HO]
  · isplitl [all]
    · iexact all
    · isplitl [K3]
      · iexact K3
      · isplitl [V3]
        · iexact V3
        · isplitl [K1]
          · iexact K1
          · isplitl [V0]
            · iexact V0
            · iexact HO
  iintro ⟨all, K3, V3, K1, V0, HO⟩
  rw [W1, W2, W1, W2, kcc, if_pos hk, show (k.val + 1 + 3) % 4 = k.val % 4 by omega]
  isplitr
  · ipureintro
    rfl
  · isplitl [all]
    · iexact all
    · isplitl [K1]
      · iexact K1
      · isplitl [K2]
        · iexact K2
        · isplitl [K3]
          · iexact K3
          · isplitl [K0]
            · iexact K0
            · isplitl [V1]
              · iexact V1
              · isplitl [V2]
                · iexact V2
                · isplitl [V3]
                  · iexact V3
                  · isplitl [V0]
                    · iexact V0
                    · iexact HO

theorem t4_wp {n : ℕ} (hn : n < 300) {hok} {σ : Type} (init : σ) (bdy : Fin (k0_t4_loop (BitVec.ofNat 32 n)).trips → σ → Prog (TpuEff nD τ sig (Elt F) Λ₀ .tc) σ) {Q : σ → sProp 𝕄} :
    Q init ⊢ wp frame (wpE (defs₀ (F := F)) Variants.none (c : Thread nD τ) none) Set.univ (Scf.Loop.for (k0_t4_loop (BitVec.ofNat 32 n)) hok init bdy) Q := by
  iintro H
  iapply (Scf.wp_for frame (wpE (defs₀ (F := F)) Variants.none (c : Thread nD τ) none) Set.univ _ _ _ hok init bdy
    (fun _ a => (iprop(⌜a = init⌝) : sProp 𝕄)) (fun k => absurd (lt_of_lt_of_eq k.isLt (t4_bounds hn).1) (Nat.not_lt_zero _)))
  isplitr
  · ipureintro
    rfl
  · iintro %a %he
    rw [he]
    iexact H

def AnyK : sProp 𝕄 := iprop(∃ f0 f1 f2 f3, FreeK c I.XK 0 f0 ∗ FreeK c I.XK 1 f1 ∗ FreeK c I.XK 2 f2 ∗ FreeK c I.XK 3 f3)
def AnyV : sProp 𝕄 := iprop(∃ f0 f1 f2 f3, FreeV c I.XV 0 f0 ∗ FreeV c I.XV 1 f1 ∗ FreeV c I.XV 2 f2 ∗ FreeV c I.XV 3 f3)
theorem anyK (n : ℕ) {a b d e : Vec F S4x512x2048 .fp8e4m3} :
    (iprop(FreeK c I.XK (n % 4) a ∗ FreeK c I.XK ((n + 1) % 4) b ∗ FreeK c I.XK ((n + 2) % 4) d ∗ FreeK c I.XK ((n + 3) % 4) e) : sProp 𝕄) ⊢ AnyK c I := by
  have h : n % 4 < 4 := Nat.mod_lt _ (by decide)
  rw [show (n + 1) % 4 = (n % 4 + 1) % 4 by omega, show (n + 2) % 4 = (n % 4 + 2) % 4 by omega, show (n + 3) % 4 = (n % 4 + 3) % 4 by omega]
  unfold AnyK
  generalize n % 4 = m at h
  iintro ⟨H0, H1, H2, H3⟩
  obtain rfl | rfl | rfl | rfl : m = 0 ∨ m = 1 ∨ m = 2 ∨ m = 3 := by omega
  · iexists a, b, d, e
    isplitl [H0]
    · iexact H0
    · isplitl [H1]
      · iexact H1
      · isplitl [H2]
        · iexact H2
        · iexact H3
  · iexists e, a, b, d
    isplitl [H3]
    · iexact H3
    · isplitl [H0]
      · iexact H0
      · isplitl [H1]
        · iexact H1
        · iexact H2
  · iexists d, e, a, b
    isplitl [H2]
    · iexact H2
    · isplitl [H3]
      · iexact H3
      · isplitl [H0]
        · iexact H0
        · iexact H1
  · iexists b, d, e, a
    isplitl [H1]
    · iexact H1
    · isplitl [H2]
      · iexact H2
      · isplitl [H3]
        · iexact H3
        · iexact H0
theorem anyV (n : ℕ) {a b d e : Vec F S4x512x2048 .fp8e4m3} :
    (iprop(FreeV c I.XV (n % 4) a ∗ FreeV c I.XV ((n + 1) % 4) b ∗ FreeV c I.XV ((n + 2) % 4) d ∗ FreeV c I.XV ((n + 3) % 4) e) : sProp 𝕄) ⊢ AnyV c I := by
  have h : n % 4 < 4 := Nat.mod_lt _ (by decide)
  rw [show (n + 1) % 4 = (n % 4 + 1) % 4 by omega, show (n + 2) % 4 = (n % 4 + 2) % 4 by omega, show (n + 3) % 4 = (n % 4 + 3) % 4 by omega]
  unfold AnyV
  generalize n % 4 = m at h
  iintro ⟨H0, H1, H2, H3⟩
  obtain rfl | rfl | rfl | rfl : m = 0 ∨ m = 1 ∨ m = 2 ∨ m = 3 := by omega
  · iexists a, b, d, e
    isplitl [H0]
    · iexact H0
    · isplitl [H1]
      · iexact H1
      · isplitl [H2]
        · iexact H2
        · iexact H3
  · iexists e, a, b, d
    isplitl [H3]
    · iexact H3
    · isplitl [H0]
      · iexact H0
      · isplitl [H1]
        · iexact H1
        · iexact H2
  · iexists d, e, a, b
    isplitl [H2]
    · iexact H2
    · isplitl [H3]
      · iexact H3
      · isplitl [H0]
        · iexact H0
        · iexact H1
  · iexists b, d, e, a
    isplitl [H1]
    · iexact H1
    · isplitl [H2]
      · iexact H2
      · isplitl [H3]
        · iexact H3
        · iexact H0

set_option maxHeartbeats 8000000 in
/-- The whole kernel: whatever the buffers and rings held, they end as `kern` says. -/
theorem body_wp (hL : ∀ b, (lw I.lens b).toInt ≤ 32768) (gk gv : Vec F S4x512x2048 .fp8e4m3) {Q : PUnit → sProp 𝕄} :
    (iprop(all c I s ∗ FreeK c I.XK 0 gk ∗ FreeK c I.XK 1 gk ∗ FreeK c I.XK 2 gk ∗ FreeK c I.XK 3 gk ∗ FreeV c I.XV 0 gv ∗ FreeV c I.XV 1 gv ∗ FreeV c I.XV 2 gv ∗ FreeV c I.XV 3 gv ∗ (∃ W, owes (c : Thread nD τ) 0 W)) : sProp 𝕄) ⊢
      iprop((all c I (kern I gk gv s) ∗ AnyK c I ∗ AnyV c I ∗ (∃ W, owes (c : Thread nD τ) 0 W) -∗ Q ⟨⟩)
      -∗ wp frame (wpE (defs₀ (F := F)) Variants.none (c : Thread nD τ) none) Set.univ (cc0_gqa_decode (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10) Q) := by
  have B (t : ℕ) := bj_bound hL t
  have W1 (t : ℕ) : nbWord (BitVec.ofNat 32 (bj (lw I.lens) t).1) (BitVec.ofNat 32 (bj (lw I.lens) t).2) (lw I.lens (bj (lw I.lens) t).1) = BitVec.ofNat 32 (bj (lw I.lens) (t + 1)).1 :=
    nbWord_eq (hL _) (by have := (B t).1; omega) (B t).2.2
  have W2 (t : ℕ) : njWord (BitVec.ofNat 32 (bj (lw I.lens) t).2) (lw I.lens (bj (lw I.lens) t).1) = BitVec.ofNat 32 (bj (lw I.lens) (t + 1)).2 :=
    njWord_eq (hL _) (B t).2.2
  have hp := pre_bound hL 16
  obtain ⟨n, en⟩ : ∃ n, n = pre (lw I.lens) 16 := ⟨_, rfl⟩
  have hn : n < 300 := by omega
  have a1 : nbWord 0#32 0#32 (lw I.lens 0) = BitVec.ofNat 32 (bj (lw I.lens) 1).1 := W1 0
  have a2 : njWord 0#32 (lw I.lens 0) = BitVec.ofNat 32 (bj (lw I.lens) 1).2 := W2 0
  have b1 : nbWord (nbWord 0#32 0#32 (lw I.lens 0)) (njWord 0#32 (lw I.lens 0)) (lw I.lens (bj (lw I.lens) 1).1) = BitVec.ofNat 32 (bj (lw I.lens) 2).1 := by rw [a1, a2]; exact W1 1
  have b2 : njWord (njWord 0#32 (lw I.lens 0)) (lw I.lens (bj (lw I.lens) 1).1) = BitVec.ofNat 32 (bj (lw I.lens) 2).2 := by rw [a2]; exact W2 1
  have h4 : k0_chk4 (BitVec.ofNat 32 n) (lw I.lens 0) (lw I.lens (bj (lw I.lens) 1).1) := k0_chk4_ok _ _ _ (by have := (B 2).1; omega) (B 2).2.2 b1 b2
  rw [cc0_gqa_decode_eq_skeleton]
  unfold cc0_gqa_decode_skel
  simp only [wp_bind]
  iintro ⟨all, K0, K1, K2, K3, V0, V1, V2, V3, HO⟩ HQ
  iapply (part20_wp c I s hL (b' := 0) (j' := 0) en hn (by omega) (by have := (B 1).1; omega) (B 1).2.2 a1 a2 h4 gk gv) $$ [all K0 K1 V0 V1]
  · isplitl [all]
    · iexact all
    · isplitl [K0]
      · iexact K0
      · isplitl [K1]
        · iexact K1
        · isplitl [V0]
          · iexact V0
          · iexact V1
  iintro ⟨all, K0, K1, V0, V1⟩
  simp only [wp_bind]
  iapply (part21_wp c I s (j := 0) hn (by omega) (by have := (B 2).1; omega) (B 2).2.2 b1 b2 h4 gk gv) $$ [all K2 V2]
  · isplitl [all]
    · iexact all
    · isplitl [K2]
      · iexact K2
      · iexact V2
  iintro ⟨all, K2, V2⟩
  rw [b1, b2, W1 2, W2 2]
  simp only [wp_bind]
  iapply (part22_wpx c I s _) $$ all
  iintro all
  simp only [wp_bind]
  iapply (part23_wpx c I s _ _ _ _ _ _) $$ all
  iintro all
  simp only [wp_bind]
  iapply (part24_wpx c I s _ _ _ _) $$ all
  iintro all
  simp only [wp_bind]
  iapply (part25_wpx c I s _ _ _ _ _) $$ all
  iintro all
  simp only [wp_bind]
  iapply (part26_wpx c I s _ _ _ _) $$ all
  iintro all
  simp only [wp_bind]
  iapply (part27_wpx c I s _ _ _ _) $$ all
  iintro all
  simp only [wp_bind]
  iapply (part28_wp c I s _ _ _ _ _ _ (rng I.XK (lw I.lens) gk 0)) $$ [all K0 HO]
  · isplitl [all]
    · iexact all
    · isplitl [K0]
      · iexact K0
      · iexact HO
  iintro ⟨all, K0, HO⟩
  simp only [wp_bind]
  iapply (part29_wpx c I _ _ _ _ _ _ _ I.XK) $$ [all K0]
  · isplitl [all]
    · iexact all
    · iexact K0
  iintro ⟨all, K0⟩
  simp only [wp_bind]
  iapply (part30_wpx c I _ _ _ _ _ _ _ I.XK) $$ [all K0]
  · isplitl [all]
    · iexact all
    · iexact K0
  iintro ⟨all, K0⟩
  simp only [wp_bind]
  unfold all pts
  icases all with ⟨HI, H8, H11, H12, H13, H14, H15, H16, H17⟩
  iapply (wp_ld c (m := A15) _ (ld15 (off := k0_off30) k0_off30_eq)) $$ H15
  iintro H15
  iapply (wp_st c (m := A15) _ (st15 (off := k0_off30) k0_off30_eq)) $$ H15
  iintro H15
  iapply (Scf.wp_for frame (wpE (defs₀ (F := F)) Variants.none (c : Thread nD τ) none) Set.univ _ _ _ (k0_t3_ok _ (k0_chk7_ok hn)) _ _
    (fun k acc => iprop(⌜acc = accAt I k⌝ ∗ inv c I (st31 I (rng I.XK (lw I.lens) gk 0) s) (q22 I s).2.1 (q23 I s).1 (q26 I s).1 (q27 I s).1 n gk gv k))
    (t3_step c I (st31 I (rng I.XK (lw I.lens) gk 0) s) hL hn (k0_chk7_ok hn) (q22 I s).2.1 (q23 I s).1 (q26 I s).1 (q27 I s).1 gk gv))
  isplitr [HQ]
  · isplitr
    · ipureintro
      rfl
    · unfold inv FlyKT FlyVT IfK IfV all pts
      rw [kcc, if_pos (show 0 < n by omega), if_pos (show 0 < n by omega), if_pos (show 0 + 1 < n by omega), if_pos (show 0 + 1 < n by omega), if_pos (show 0 + 2 < n by omega), if_pos (show 0 + 2 < n by omega)]
      isplitl [HI H8 H11 H12 H13 H14 H15 H16 H17]
      · isplitl [HI]
        · iexact HI
        · isplitl [H8]
          · iexact H8
          · isplitl [H11]
            · iexact H11
            · isplitl [H12]
              · iexact H12
              · isplitl [H13]
                · iexact H13
                · isplitl [H14]
                  · iexact H14
                  · isplitl [H15]
                    · iexact H15
                    · isplitl [H16]
                      · iexact H16
                      · iexact H17
      · isplitl [K0]
        · iexact K0
        · isplitl [K1]
          · iexact K1
          · isplitl [K2]
            · iexact K2
            · isplitl [K3]
              · iexact K3
              · isplitl [V0]
                · iexact V0
                · isplitl [V1]
                  · iexact V1
                  · isplitl [V2]
                    · iexact V2
                    · isplitl [V3]
                      · iexact V3
                      · iexact HO
  · iintro %acc ⟨%he, H⟩
    rw [he]
    simp only [wp_bind]
    iapply (t4_wp c hn)
    rw [show Scf.trips (k0_t3_loop (BitVec.ofNat 32 n)).lb (k0_t3_loop (BitVec.ofNat 32 n)).ub (k0_t3_loop (BitVec.ofNat 32 n)).st = n from (t3_bounds hn).1]
    unfold inv FlyKT FlyVT IfK IfV all pts
    rw [if_neg (show ¬ n < n by omega), if_neg (show ¬ n + 1 < n by omega), if_neg (show ¬ n + 1 < n by omega), if_neg (show ¬ n + 2 < n by omega), if_neg (show ¬ n + 2 < n by omega)]
    icases H with ⟨all, K0, K1, K2, K3, V0, V1, V2, V3, HO⟩
    rw [wp_pure]
    imodintro
    iapply HQ
    isplitl [all]
    · unfold kern
      rw [← en]
      iexact all
    · isplitl [K0 K1 K2 K3]
      · iapply (anyK c I n)
        isplitl [K0]
        · iexact K0
        · isplitl [K1]
          · iexact K1
          · isplitl [K2]
            · iexact K2
            · iexact K3
      · isplitl [V0 V1 V2 V3]
        · iapply (anyV c I n)
          isplitl [V0]
          · iexact V0
          · isplitl [V1]
            · iexact V1
            · isplitl [V2]
              · iexact V2
              · iexact V3
        · iexact HO

end

end Cert.Kernel.Hand
end
-- ==== Proof.K.Launch.lean ====
module

public import proofs.«01_k».proof.Proof.K.Body
public import proofs.«01_k».proof.Proof.Gen.Kernel.Frame
public import Idealize.ShloMosaic.Lib.Pipeline.FrameSuffixR
public import Idealize.ShloMosaic.Lib.Ring
public import Idealize.ShloMosaic.Lib.Memref

@[expose] public section
noncomputable section
namespace Cert.Kernel.Hand
open Cert.Kernel Cert.Kernel.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

open Idealize.ShloMosaic.Pipeline (Dat Cfg Window BodyObligation cellOf)

omit [FloatOps F] in
theorem slots_disj : ∀ b b' : Fin 4, b ≠ b' → Disjoint (slot b.val) (slot b'.val) := fun b b' h =>
  Finset.disjoint_left.mpr fun x h1 h2 => h (Fin.ext ((Finset.mem_filter.mp h1).2.symm.trans (Finset.mem_filter.mp h2).2))
omit [FloatOps F] in
theorem slots_cover : (Finset.univ : Finset (Fin 4)).biUnion (fun b => slot b.val) = Finset.univ := by
  ext x
  simp only [Finset.mem_biUnion, Finset.mem_univ, true_and, iff_true]
  exact ⟨⟨(x 0).val, (x 0).isLt⟩, Finset.mem_filter.mpr ⟨Finset.mem_univ _, rfl⟩⟩

theorem bs4 {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ
theorem rg4 {M : Type} [URA M] (Φ : ℕ → sProp M) : BI.bigSep (Finset.range 4) Φ = iprop(Φ 0 ∗ Φ 1 ∗ Φ 2 ∗ Φ 3) :=
  by rw [BI.bigSep_eq_bigSepL_of_eq [0, 1, 2, 3] (by decide) (by decide)]; rfl

section
variable (c : Dev nD)

/-- The ring and its cache, dealt to the four slots; `shareDrop` is the part of the cache no slot holds. -/
theorem ringK_split {f : Vec F S4x512x2048 .fp8e4m3} {X : Vec F S16x512x32768 .fp8e4m3} :
    (iprop((A9.view.loc (c : Thread nD τ) ↦{fullShare} f) ∗ semVal ((c : Thread nD τ), SemLoc.dma (semK 0)) 0 ∗ semVal ((c : Thread nD τ), SemLoc.dma (semK 1)) 0 ∗ semVal ((c : Thread nD τ), SemLoc.dma (semK 2)) 0 ∗ semVal ((c : Thread nD τ), SemLoc.dma (semK 3)) 0 ∗ (A6.view.loc (c : Thread nD τ) ↦{fullShare} X)) : sProp 𝕄)
      ⊢ iprop(FreeK c X 0 f ∗ FreeK c X 1 f ∗ FreeK c X 2 f ∗ FreeK c X 3 f ∗ (A6.view.loc (c : Thread nD τ) ↦{Transfers.shareDrop fullShare 4} X)) := by
  have hb : (A9.view.loc (c : Thread nD τ) ↦{fullShare} f : sProp 𝕄) = _ := Ring.pointsTo_blocks (ℓ := A9.view.loc (c : Thread nD τ)) (fun b : Fin 4 => slot b.val) slots_disj slots_cover f
  rw [hb, bs4]
  refine (sep_mono .rfl (sep_mono .rfl (sep_mono .rfl (sep_mono .rfl (sep_mono .rfl (Transfers.pointsTo_toks_range fullShare 4).1))))).trans ?_
  rw [rg4]
  unfold FreeK
  iintro ⟨⟨R0, R1, R2, R3⟩, S0, S1, S2, S3, D, X0, X1, X2, X3⟩
  isplitl [R0 S0 X0]
  · isplitl [R0]
    · iexact R0
    isplitl [S0]
    · iexact S0
    iexact X0
  isplitl [R1 S1 X1]
  · isplitl [R1]
    · iexact R1
    isplitl [S1]
    · iexact S1
    iexact X1
  isplitl [R2 S2 X2]
  · isplitl [R2]
    · iexact R2
    isplitl [S2]
    · iexact S2
    iexact X2
  isplitl [R3 S3 X3]
  · isplitl [R3]
    · iexact R3
    isplitl [S3]
    · iexact S3
    iexact X3
  iexact D

/-- And put together again. -/
theorem ringK_join (I : Ins F) :
    (iprop(AnyK c I ∗ (A6.view.loc (c : Thread nD τ) ↦{Transfers.shareDrop fullShare 4} I.XK)) : sProp 𝕄)
      ⊢ iprop((∃ f : Buf (Elt F) (A9.view.loc (c : Thread nD τ)), A9.view.loc (c : Thread nD τ) ↦{fullShare} f) ∗ semVal ((c : Thread nD τ), SemLoc.dma (semK 0)) 0 ∗ semVal ((c : Thread nD τ), SemLoc.dma (semK 1)) 0 ∗ semVal ((c : Thread nD τ), SemLoc.dma (semK 2)) 0 ∗ semVal ((c : Thread nD τ), SemLoc.dma (semK 3)) 0 ∗ (A6.view.loc (c : Thread nD τ) ↦{fullShare} I.XK)) := by
  unfold AnyK FreeK
  iintro ⟨⟨%f0, %f1, %f2, %f3, ⟨R0, S0, X0⟩, ⟨R1, S1, X1⟩, ⟨R2, S2, X2⟩, R3, S3, X3⟩, D⟩
  isplitl [R0 R1 R2 R3]
  · iapply (Ring.pointsTo_blocks_join_exists (fun b : Fin 4 => slot b.val) slots_disj slots_cover f0)
    rw [bs4]
    isplitl [R0]
    · iexists f0; iexact R0
    isplitl [R1]
    · iexists f1; iexact R1
    isplitl [R2]
    · iexists f2; iexact R2
    iexists f3; iexact R3
  isplitl [S0]
  · iexact S0
  isplitl [S1]
  · iexact S1
  isplitl [S2]
  · iexact S2
  isplitl [S3]
  · iexact S3
  iapply (Transfers.pointsTo_toks_range fullShare 4).2
  rw [rg4]
  isplitl [D]
  · iexact D
  isplitl [X0]
  · iexact X0
  isplitl [X1]
  · iexact X1
  isplitl [X2]
  · iexact X2
  iexact X3

/-- The ring and its cache, dealt to the four slots; `shareDrop` is the part of the cache no slot holds. -/
theorem ringV_split {f : Vec F S4x512x2048 .fp8e4m3} {X : Vec F S16x512x32768 .fp8e4m3} :
    (iprop((A10.view.loc (c : Thread nD τ) ↦{fullShare} f) ∗ semVal ((c : Thread nD τ), SemLoc.dma (semV 0)) 0 ∗ semVal ((c : Thread nD τ), SemLoc.dma (semV 1)) 0 ∗ semVal ((c : Thread nD τ), SemLoc.dma (semV 2)) 0 ∗ semVal ((c : Thread nD τ), SemLoc.dma (semV 3)) 0 ∗ (A7.view.loc (c : Thread nD τ) ↦{fullShare} X)) : sProp 𝕄)
      ⊢ iprop(FreeV c X 0 f ∗ FreeV c X 1 f ∗ FreeV c X 2 f ∗ FreeV c X 3 f ∗ (A7.view.loc (c : Thread nD τ) ↦{Transfers.shareDrop fullShare 4} X)) := by
  have hb : (A10.view.loc (c : Thread nD τ) ↦{fullShare} f : sProp 𝕄) = _ := Ring.pointsTo_blocks (ℓ := A10.view.loc (c : Thread nD τ)) (fun b : Fin 4 => slot b.val) slots_disj slots_cover f
  rw [hb, bs4]
  refine (sep_mono .rfl (sep_mono .rfl (sep_mono .rfl (sep_mono .rfl (sep_mono .rfl (Transfers.pointsTo_toks_range fullShare 4).1))))).trans ?_
  rw [rg4]
  unfold FreeV
  iintro ⟨⟨R0, R1, R2, R3⟩, S0, S1, S2, S3, D, X0, X1, X2, X3⟩
  isplitl [R0 S0 X0]
  · isplitl [R0]
    · iexact R0
    isplitl [S0]
    · iexact S0
    iexact X0
  isplitl [R1 S1 X1]
  · isplitl [R1]
    · iexact R1
    isplitl [S1]
    · iexact S1
    iexact X1
  isplitl [R2 S2 X2]
  · isplitl [R2]
    · iexact R2
    isplitl [S2]
    · iexact S2
    iexact X2
  isplitl [R3 S3 X3]
  · isplitl [R3]
    · iexact R3
    isplitl [S3]
    · iexact S3
    iexact X3
  iexact D

/-- And put together again. -/
theorem ringV_join (I : Ins F) :
    (iprop(AnyV c I ∗ (A7.view.loc (c : Thread nD τ) ↦{Transfers.shareDrop fullShare 4} I.XV)) : sProp 𝕄)
      ⊢ iprop((∃ f : Buf (Elt F) (A10.view.loc (c : Thread nD τ)), A10.view.loc (c : Thread nD τ) ↦{fullShare} f) ∗ semVal ((c : Thread nD τ), SemLoc.dma (semV 0)) 0 ∗ semVal ((c : Thread nD τ), SemLoc.dma (semV 1)) 0 ∗ semVal ((c : Thread nD τ), SemLoc.dma (semV 2)) 0 ∗ semVal ((c : Thread nD τ), SemLoc.dma (semV 3)) 0 ∗ (A7.view.loc (c : Thread nD τ) ↦{fullShare} I.XV)) := by
  unfold AnyV FreeV
  iintro ⟨⟨%f0, %f1, %f2, %f3, ⟨R0, S0, X0⟩, ⟨R1, S1, X1⟩, ⟨R2, S2, X2⟩, R3, S3, X3⟩, D⟩
  isplitl [R0 R1 R2 R3]
  · iapply (Ring.pointsTo_blocks_join_exists (fun b : Fin 4 => slot b.val) slots_disj slots_cover f0)
    rw [bs4]
    isplitl [R0]
    · iexists f0; iexact R0
    isplitl [R1]
    · iexists f1; iexact R1
    isplitl [R2]
    · iexists f2; iexact R2
    iexists f3; iexact R3
  isplitl [S0]
  · iexact S0
  isplitl [S1]
  · iexact S1
  isplitl [S2]
  · iexact S2
  isplitl [S3]
  · iexact S3
  iapply (Transfers.pointsTo_toks_range fullShare 4).2
  rw [rg4]
  isplitl [D]
  · iexact D
  isplitl [X0]
  · iexact X0
  isplitl [X1]
  · iexact X1
  isplitl [X2]
  · iexact X2
  iexact X3

end

variable (m : (ℓ : Loc nD τ sig) → Buf (Elt F) ℓ) (ρ : Dev nD → PrngReg)

/-- The kernel's eight copy cells: four for the key ring, four for the value ring. -/
abbrev osem0 : Fin 8 → SemLoc sig := fun j => (![SemLoc.dma (semK 0), SemLoc.dma (semK 1), SemLoc.dma (semK 2), SemLoc.dma (semK 3),
  SemLoc.dma (semV 0), SemLoc.dma (semV 1), SemLoc.dma (semV 2), SemLoc.dma (semV 3)] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semK 0)) 0 ∗ semVal ((c : Thread nD τ), SemLoc.dma (semK 1)) 0 ∗ semVal ((c : Thread nD τ), SemLoc.dma (semK 2)) 0 ∗ semVal ((c : Thread nD τ), SemLoc.dma (semK 3)) 0 ∗ semVal ((c : Thread nD τ), SemLoc.dma (semV 0)) 0 ∗ semVal ((c : Thread nD τ), SemLoc.dma (semV 1)) 0 ∗ semVal ((c : Thread nD τ), SemLoc.dma (semV 2)) 0 ∗ semVal ((c : Thread nD τ), SemLoc.dma (semV 3)) 0) := by
  rw [Pipeline.ownSems0_eq_of_list c osem0 [0, 1, 2, 3, 4, 5, 6, 7] (by decide) (by decide)]; rfl
/-- The two caches, which the kernel's own copies read. -/
def H0 : Finset (Ref sig .tc) := {main_v1, main_v3}
theorem H0_sub : H0 ⊆ Pipeline.restRefs sig spec0 := by decide
theorem hbmPts0_eq (c : Dev nD) :
    (bigSep H0 (fun b => ((c : Thread nD τ).loc b) ↦{fullShare} V m c b) : sProp 𝕄)
      = iprop((A6.view.loc (c : Thread nD τ) ↦{fullShare} V m c main_v1) ∗ (A7.view.loc (c : Thread nD τ) ↦{fullShare} V m c main_v3)) := by
  rw [BI.bigSep_eq_bigSepL_of_eq [main_v1, main_v3] (by decide) (by decide)]; rfl
theorem PhiD0_eq (c : Dev nD) :
    (Pipeline.ΦD osem0 spec0 H0 (V m) c : sProp 𝕄)
      = iprop(iprop((∃ f : Buf (Elt F) (A9.view.loc (c : Thread nD τ)), A9.view.loc (c : Thread nD τ) ↦{fullShare} f) ∗ (∃ f : Buf (Elt F) (A10.view.loc (c : Thread nD τ)), A10.view.loc (c : Thread nD τ) ↦{fullShare} f) ∗ (∃ f : Buf (Elt F) (A11.view.loc (c : Thread nD τ)), A11.view.loc (c : Thread nD τ) ↦{fullShare} f) ∗ (∃ f : Buf (Elt F) (A12.view.loc (c : Thread nD τ)), A12.view.loc (c : Thread nD τ) ↦{fullShare} f) ∗ (∃ f : Buf (Elt F) (A13.view.loc (c : Thread nD τ)), A13.view.loc (c : Thread nD τ) ↦{fullShare} f) ∗ (∃ f : Buf (Elt F) (A14.view.loc (c : Thread nD τ)), A14.view.loc (c : Thread nD τ) ↦{fullShare} f) ∗ (∃ f : Buf (Elt F) (A15.view.loc (c : Thread nD τ)), A15.view.loc (c : Thread nD τ) ↦{fullShare} f) ∗ (∃ f : Buf (Elt F) (A16.view.loc (c : Thread nD τ)), A16.view.loc (c : Thread nD τ) ↦{fullShare} f) ∗ (∃ f : Buf (Elt F) (A17.view.loc (c : Thread nD τ)), A17.view.loc (c : Thread nD τ) ↦{fullShare} f))
          ∗ (∃ r, prngReg c r)
          ∗ iprop(semVal ((c : Thread nD τ), SemLoc.dma (semK 0)) 0 ∗ semVal ((c : Thread nD τ), SemLoc.dma (semK 1)) 0 ∗ semVal ((c : Thread nD τ), SemLoc.dma (semK 2)) 0 ∗ semVal ((c : Thread nD τ), SemLoc.dma (semK 3)) 0 ∗ semVal ((c : Thread nD τ), SemLoc.dma (semV 0)) 0 ∗ semVal ((c : Thread nD τ), SemLoc.dma (semV 1)) 0 ∗ semVal ((c : Thread nD τ), SemLoc.dma (semV 2)) 0 ∗ semVal ((c : Thread nD τ), SemLoc.dma (semV 3)) 0)
          ∗ iprop((A6.view.loc (c : Thread nD τ) ↦{fullShare} V m c main_v1) ∗ (A7.view.loc (c : Thread nD τ) ↦{fullShare} V m c main_v3))) := by
  rw [Pipeline.ΦD_eq, scopedRest0_eq, ownSems00_eq, hbmPts0_eq]

/-- What the kernel reads, as the region finds it. -/
def insOf (c : Dev nD) : Ins F := ⟨V m c main_arg7, V m c main_arg5, V m c main_arg6, V m c main_v4, V m c main_v5, V m c main_v6, V m c main_v1, V m c main_v3⟩

def dats (o : Dev nD → Vec F S16x32x64 .bf16) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o c
  Φ _ := Pipeline.ΦD osem0 spec0 H0 (V m) c
  q _ := fullShare
  owed _ := 0

variable (o : Dev nD → Vec F S16x32x64 .bf16)
theorem A_eq (c : Dev nD) (w : Fin cfg0.W) : (dats m o 0 c).A w = V m c (Pipeline.arrRef spec0 w) := by dsimp only [dats]
theorem iblk_0 (c : Dev nD) : iblk m c 0 t0_0 = (insOf m c).lens := by
  funext i
  exact congrArg (insOf m c).lens (by funext a; apply Fin.ext; show 0 * _ + 1 * _ = _; omega)
theorem iblk_1 (c : Dev nD) : iblk m c 1 t0_0 = (insOf m c).ks := by
  funext i
  exact congrArg (insOf m c).ks (by funext a; apply Fin.ext; show 0 * _ + 1 * _ = _; omega)
theorem iblk_2 (c : Dev nD) : iblk m c 2 t0_0 = (insOf m c).vs := by
  funext i
  exact congrArg (insOf m c).vs (by funext a; apply Fin.ext; show 0 * _ + 1 * _ = _; omega)
theorem iblk_3 (c : Dev nD) : iblk m c 3 t0_0 = (insOf m c).x := by
  funext i
  exact congrArg (insOf m c).x (by funext a; apply Fin.ext; show 0 * _ + 1 * _ = _; omega)
theorem iblk_4 (c : Dev nD) : iblk m c 4 t0_0 = (insOf m c).kn := by
  funext i
  exact congrArg (insOf m c).kn (by funext a; apply Fin.ext; show 0 * _ + 1 * _ = _; omega)
theorem iblk_5 (c : Dev nD) : iblk m c 5 t0_0 = (insOf m c).vn := by
  funext i
  exact congrArg (insOf m c).vn (by funext a; apply Fin.ext; show 0 * _ + 1 * _ = _; omega)

theorem body_at (t : Fin cfg0.N) : bodyAt0 (F := F) t = cc0_gqa_decode (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 := by
  rw [show t = t0_0 from fin_N0 t]
theorem own_0 (c : Dev nD) (t : Fin cfg0.N) : (owns (c : Thread nD τ) (st0_0 t) fullShare (iblk m c 0 t) : sProp 𝕄) = (A0.view.loc (c : Thread nD τ) ↦{fullShare} (insOf m c).lens) := by
  rw [show t = t0_0 from fin_N0 t]
  exact (owns_whole _ _ _ _).trans (by rw [iblk_0])
theorem own_1 (c : Dev nD) (t : Fin cfg0.N) : (owns (c : Thread nD τ) (st0_1 t) fullShare (iblk m c 1 t) : sProp 𝕄) = (A1.view.loc (c : Thread nD τ) ↦{fullShare} (insOf m c).ks) := by
  rw [show t = t0_0 from fin_N0 t]
  exact (owns_whole _ _ _ _).trans (by rw [iblk_1])
theorem own_2 (c : Dev nD) (t : Fin cfg0.N) : (owns (c : Thread nD τ) (st0_2 t) fullShare (iblk m c 2 t) : sProp 𝕄) = (A2.view.loc (c : Thread nD τ) ↦{fullShare} (insOf m c).vs) := by
  rw [show t = t0_0 from fin_N0 t]
  exact (owns_whole _ _ _ _).trans (by rw [iblk_2])
theorem own_3 (c : Dev nD) (t : Fin cfg0.N) : (owns (c : Thread nD τ) (st0_3 t) fullShare (iblk m c 3 t) : sProp 𝕄) = (A3.view.loc (c : Thread nD τ) ↦{fullShare} (insOf m c).x) := by
  rw [show t = t0_0 from fin_N0 t]
  exact (owns_whole _ _ _ _).trans (by rw [iblk_3])
theorem own_4 (c : Dev nD) (t : Fin cfg0.N) : (owns (c : Thread nD τ) (st0_4 t) fullShare (iblk m c 4 t) : sProp 𝕄) = (A4.view.loc (c : Thread nD τ) ↦{fullShare} (insOf m c).kn) := by
  rw [show t = t0_0 from fin_N0 t]
  exact (owns_whole _ _ _ _).trans (by rw [iblk_4])
theorem own_5 (c : Dev nD) (t : Fin cfg0.N) : (owns (c : Thread nD τ) (st0_5 t) fullShare (iblk m c 5 t) : sProp 𝕄) = (A5.view.loc (c : Thread nD τ) ↦{fullShare} (insOf m c).vn) := by
  rw [show t = t0_0 from fin_N0 t]
  exact (owns_whole _ _ _ _).trans (by rw [iblk_5])

set_option maxHeartbeats 4000000 in
theorem core (c : Dev nD) (hL : ∀ b, (lw (insOf m c).lens b).toInt ≤ 32768) {Q : PUnit → sProp 𝕄} :
    (iprop(inp c (insOf m c) ∗ (∃ f, A8.view.loc (c : Thread nD τ) ↦{fullShare} f) ∗ iprop((∃ f : Buf (Elt F) (A9.view.loc (c : Thread nD τ)), A9.view.loc (c : Thread nD τ) ↦{fullShare} f) ∗ (∃ f : Buf (Elt F) (A10.view.loc (c : Thread nD τ)), A10.view.loc (c : Thread nD τ) ↦{fullShare} f) ∗ (∃ f : Buf (Elt F) (A11.view.loc (c : Thread nD τ)), A11.view.loc (c : Thread nD τ) ↦{fullShare} f) ∗ (∃ f : Buf (Elt F) (A12.view.loc (c : Thread nD τ)), A12.view.loc (c : Thread nD τ) ↦{fullShare} f) ∗ (∃ f : Buf (Elt F) (A13.view.loc (c : Thread nD τ)), A13.view.loc (c : Thread nD τ) ↦{fullShare} f) ∗ (∃ f : Buf (Elt F) (A14.view.loc (c : Thread nD τ)), A14.view.loc (c : Thread nD τ) ↦{fullShare} f) ∗ (∃ f : Buf (Elt F) (A15.view.loc (c : Thread nD τ)), A15.view.loc (c : Thread nD τ) ↦{fullShare} f) ∗ (∃ f : Buf (Elt F) (A16.view.loc (c : Thread nD τ)), A16.view.loc (c : Thread nD τ) ↦{fullShare} f) ∗ (∃ f : Buf (Elt F) (A17.view.loc (c : Thread nD τ)), A17.view.loc (c : Thread nD τ) ↦{fullShare} f)) ∗ iprop(semVal ((c : Thread nD τ), SemLoc.dma (semK 0)) 0 ∗ semVal ((c : Thread nD τ), SemLoc.dma (semK 1)) 0 ∗ semVal ((c : Thread nD τ), SemLoc.dma (semK 2)) 0 ∗ semVal ((c : Thread nD τ), SemLoc.dma (semK 3)) 0 ∗ semVal ((c : Thread nD τ), SemLoc.dma (semV 0)) 0 ∗ semVal ((c : Thread nD τ), SemLoc.dma (semV 1)) 0 ∗ semVal ((c : Thread nD τ), SemLoc.dma (semV 2)) 0 ∗ semVal ((c : Thread nD τ), SemLoc.dma (semV 3)) 0)
        ∗ iprop((A6.view.loc (c : Thread nD τ) ↦{fullShare} V m c main_v1) ∗ (A7.view.loc (c : Thread nD τ) ↦{fullShare} V m c main_v3)) ∗ (∃ W, owes (c : Thread nD τ) 0 W)) : sProp 𝕄)
      ⊢ iprop((inp c (insOf m c) ∗ (∃ gk gv s, A8.view.loc (c : Thread nD τ) ↦{fullShare} (kern (insOf m c) gk gv s).f8) ∗ iprop((∃ f : Buf (Elt F) (A9.view.loc (c : Thread nD τ)), A9.view.loc (c : Thread nD τ) ↦{fullShare} f) ∗ (∃ f : Buf (Elt F) (A10.view.loc (c : Thread nD τ)), A10.view.loc (c : Thread nD τ) ↦{fullShare} f) ∗ (∃ f : Buf (Elt F) (A11.view.loc (c : Thread nD τ)), A11.view.loc (c : Thread nD τ) ↦{fullShare} f) ∗ (∃ f : Buf (Elt F) (A12.view.loc (c : Thread nD τ)), A12.view.loc (c : Thread nD τ) ↦{fullShare} f) ∗ (∃ f : Buf (Elt F) (A13.view.loc (c : Thread nD τ)), A13.view.loc (c : Thread nD τ) ↦{fullShare} f) ∗ (∃ f : Buf (Elt F) (A14.view.loc (c : Thread nD τ)), A14.view.loc (c : Thread nD τ) ↦{fullShare} f) ∗ (∃ f : Buf (Elt F) (A15.view.loc (c : Thread nD τ)), A15.view.loc (c : Thread nD τ) ↦{fullShare} f) ∗ (∃ f : Buf (Elt F) (A16.view.loc (c : Thread nD τ)), A16.view.loc (c : Thread nD τ) ↦{fullShare} f) ∗ (∃ f : Buf (Elt F) (A17.view.loc (c : Thread nD τ)), A17.view.loc (c : Thread nD τ) ↦{fullShare} f)) ∗ iprop(semVal ((c : Thread nD τ), SemLoc.dma (semK 0)) 0 ∗ semVal ((c : Thread nD τ), SemLoc.dma (semK 1)) 0 ∗ semVal ((c : Thread nD τ), SemLoc.dma (semK 2)) 0 ∗ semVal ((c : Thread nD τ), SemLoc.dma (semK 3)) 0 ∗ semVal ((c : Thread nD τ), SemLoc.dma (semV 0)) 0 ∗ semVal ((c : Thread nD τ), SemLoc.dma (semV 1)) 0 ∗ semVal ((c : Thread nD τ), SemLoc.dma (semV 2)) 0 ∗ semVal ((c : Thread nD τ), SemLoc.dma (semV 3)) 0)
        ∗ iprop((A6.view.loc (c : Thread nD τ) ↦{fullShare} V m c main_v1) ∗ (A7.view.loc (c : Thread nD τ) ↦{fullShare} V m c main_v3)) ∗ (∃ W, owes (c : Thread nD τ) 0 W) -∗ Q ⟨⟩)
      -∗ wp frame (wpE (defs₀ (F := F)) Variants.none (c : Thread nD τ) none) Set.univ (cc0_gqa_decode (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10) Q) := by
  iintro ⟨HI, ⟨%f8, H8⟩, ⟨⟨%gk, H9⟩, ⟨%gv, H10⟩, ⟨%f11, H11⟩, ⟨%f12, H12⟩, ⟨%f13, H13⟩, ⟨%f14, H14⟩, ⟨%f15, H15⟩, ⟨%f16, H16⟩, ⟨%f17, H17⟩⟩, ⟨S0, S1, S2, S3, S4, S5, S6, S7⟩, ⟨HK, HV⟩, HO⟩ HQ
  ihave ⟨K0, K1, K2, K3, KD⟩ := (ringK_split c (f := gk) (X := V m c main_v1)) $$ [H9 S0 S1 S2 S3 HK]
  · isplitl [H9]
    · iexact H9
    · isplitl [S0]
      · iexact S0
      · isplitl [S1]
        · iexact S1
        · isplitl [S2]
          · iexact S2
          · isplitl [S3]
            · iexact S3
            · iexact HK
  ihave ⟨V0, V1, V2, V3, VD⟩ := (ringV_split c (f := gv) (X := V m c main_v3)) $$ [H10 S4 S5 S6 S7 HV]
  · isplitl [H10]
    · iexact H10
    · isplitl [S4]
      · iexact S4
      · isplitl [S5]
        · iexact S5
        · isplitl [S6]
          · iexact S6
          · isplitl [S7]
            · iexact S7
            · iexact HV
  iapply (body_wp c (insOf m c) ⟨f8, f11, f12, f13, f14, f15, f16, f17⟩ hL gk gv) $$ [HI H8 H11 H12 H13 H14 H15 H16 H17 K0 K1 K2 K3 V0 V1 V2 V3 HO]
  · isplitl [HI H8 H11 H12 H13 H14 H15 H16 H17]
    · unfold all pts
      isplitl [HI]
      · iexact HI
      · isplitl [H8]
        · iexact H8
        · isplitl [H11]
          · iexact H11
          · isplitl [H12]
            · iexact H12
            · isplitl [H13]
              · iexact H13
              · isplitl [H14]
                · iexact H14
                · isplitl [H15]
                  · iexact H15
                  · isplitl [H16]
                    · iexact H16
                    · iexact H17
    · isplitl [K0]
      · iexact K0
      · isplitl [K1]
        · iexact K1
        · isplitl [K2]
          · iexact K2
          · isplitl [K3]
            · iexact K3
            · isplitl [V0]
              · iexact V0
              · isplitl [V1]
                · iexact V1
                · isplitl [V2]
                  · iexact V2
                  · isplitl [V3]
                    · iexact V3
                    · iexact HO
  unfold all pts
  iintro ⟨⟨HI, H8, H11, H12, H13, H14, H15, H16, H17⟩, HK, HV, HO⟩
  ihave ⟨H9, S0, S1, S2, S3, HK⟩ := (ringK_join c (insOf m c)) $$ [HK KD]
  · isplitl [HK]
    · iexact HK
    · iexact KD
  ihave ⟨H10, S4, S5, S6, S7, HV⟩ := (ringV_join c (insOf m c)) $$ [HV VD]
  · isplitl [HV]
    · iexact HV
    · iexact VD
  iapply HQ
  isplitl [HI]
  · iexact HI
  isplitl [H8]
  · iexists gk, gv, _
    iexact H8
  isplitl [H9 H10 H11 H12 H13 H14 H15 H16 H17]
  · isplitl [H9]
    · iexact H9
    isplitl [H10]
    · iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact H17
  isplitl [S0 S1 S2 S3 S4 S5 S6 S7]
  · isplitl [S0]
    · iexact S0
    · isplitl [S1]
      · iexact S1
      · isplitl [S2]
        · iexact S2
        · isplitl [S3]
          · iexact S3
          · isplitl [S4]
            · iexact S4
            · isplitl [S5]
              · iexact S5
              · isplitl [S6]
                · iexact S6
                · iexact S7
  isplitl [HK HV]
  · isplitl [HK]
    · iexact HK
    · iexact HV
  iexact HO
theorem bf_0 (c : Dev nD) (t : Fin cfg0.N) (d) : (dats m o 0 c).before 0 t d = iblk m c 0 t :=
  ((dats m o 0 c).before_in_eq_fetched 0 rfl (fun _ => rfl) (fun _ _ _ => rfl) (fun _ => rfl) t d).trans rfl
theorem bf_1 (c : Dev nD) (t : Fin cfg0.N) (d) : (dats m o 0 c).before 1 t d = iblk m c 1 t :=
  ((dats m o 0 c).before_in_eq_fetched 1 rfl (fun _ => rfl) (fun _ _ _ => rfl) (fun _ => rfl) t d).trans rfl
theorem bf_2 (c : Dev nD) (t : Fin cfg0.N) (d) : (dats m o 0 c).before 2 t d = iblk m c 2 t :=
  ((dats m o 0 c).before_in_eq_fetched 2 rfl (fun _ => rfl) (fun _ _ _ => rfl) (fun _ => rfl) t d).trans rfl
theorem bf_3 (c : Dev nD) (t : Fin cfg0.N) (d) : (dats m o 0 c).before 3 t d = iblk m c 3 t :=
  ((dats m o 0 c).before_in_eq_fetched 3 rfl (fun _ => rfl) (fun _ _ _ => rfl) (fun _ => rfl) t d).trans rfl
theorem bf_4 (c : Dev nD) (t : Fin cfg0.N) (d) : (dats m o 0 c).before 4 t d = iblk m c 4 t :=
  ((dats m o 0 c).before_in_eq_fetched 4 rfl (fun _ => rfl) (fun _ _ _ => rfl) (fun _ => rfl) t d).trans rfl
theorem bf_5 (c : Dev nD) (t : Fin cfg0.N) (d) : (dats m o 0 c).before 5 t d = iblk m c 5 t :=
  ((dats m o 0 c).before_in_eq_fetched 5 rfl (fun _ => rfl) (fun _ _ _ => rfl) (fun _ => rfl) t d).trans rfl

def bodyPre (c : Dev nD) (t : Fin cfg0.N) : sProp 𝕄 :=
  iprop((dats m o 0 c).Φ t.castSucc ∗ (dats m o 0 c).owesAt () t.castSucc
    ∗ (∃ d, owns (c : Thread nD τ) (st0_0 t) fullShare ((dats m o 0 c).before 0 t d)) ∗ (∃ d, owns (c : Thread nD τ) (st0_1 t) fullShare ((dats m o 0 c).before 1 t d)) ∗ (∃ d, owns (c : Thread nD τ) (st0_2 t) fullShare ((dats m o 0 c).before 2 t d)) ∗ (∃ d, owns (c : Thread nD τ) (st0_3 t) fullShare ((dats m o 0 c).before 3 t d)) ∗ (∃ d, owns (c : Thread nD τ) (st0_4 t) fullShare ((dats m o 0 c).before 4 t d)) ∗ (∃ d, owns (c : Thread nD τ) (st0_5 t) fullShare ((dats m o 0 c).before 5 t d)) ∗ (∃ d, owns (c : Thread nD τ) (st0_6 t) fullShare d))
def bodyPost (c : Dev nD) (Q6 : sProp 𝕄) (t : Fin cfg0.N) : sProp 𝕄 :=
  iprop((dats m o 0 c).Φ t.succ ∗ (dats m o 0 c).owesAt () t.succ
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ Q6)

theorem own_6 (c : Dev nD) (t : Fin cfg0.N) (d : Vec F S16x32x64 .bf16) : (owns (c : Thread nD τ) (st0_6 t) fullShare d : sProp 𝕄) = (A8.view.loc (c : Thread nD τ) ↦{fullShare} d) := by
  rw [show t = t0_0 from fin_N0 t]
  exact owns_whole _ _ _ _

set_option maxHeartbeats 4000000 in
theorem sound_body (c : Dev nD) (hL : ∀ b, (lw (insOf m c).lens b).toInt ≤ 32768) (t : Fin cfg0.N) (Q6 : sProp 𝕄)
    (h6 : ∀ gk gv s, owns (c : Thread nD τ) (st0_6 t) fullShare (kern (insOf m c) gk gv s).f8 ⊢ Q6) :
    bodyPre m o c t ⊢ wp frame (wpE (defs₀ (F := F)) Variants.none (c : Thread nD τ) none) Set.univ (bodyAt0 t) (fun _ => bodyPost m o c Q6 t) := by
  rw [body_at]
  unfold bodyPre bodyPost
  rw [show (dats m o 0 c).Φ t.succ = (dats m o 0 c).Φ t.castSucc from rfl,
    show (dats m o 0 c).owesAt () t.succ = (dats m o 0 c).owesAt () t.castSucc from rfl,
    show (dats m o 0 c).Φ t.castSucc = Pipeline.ΦD osem0 spec0 H0 (V m) c from rfl, PhiD0_eq]
  unfold Dat.owesAt Pipeline.owesWithin
  rw [show (dats m o 0 c).owed t.castSucc = 0 from rfl]
  simp only [own_6] at h6
  simp only [bf_0, bf_1, bf_2, bf_3, bf_4, bf_5, own_0, own_1, own_2, own_3, own_4, own_5, own_6]
  iintro ⟨⟨HS, Hg, Hq, Hh⟩, ⟨%W, %hW, HO⟩, ⟨%d0, H0⟩, ⟨%d1, H1⟩, ⟨%d2, H2⟩, ⟨%d3, H3⟩, ⟨%d4, H4⟩, ⟨%d5, H5⟩, H6⟩
  iapply (core m c hL) $$ [HS Hq Hh HO H0 H1 H2 H3 H4 H5 H6]
  · isplitl [H0 H1 H2 H3 H4 H5]
    · unfold inp
      isplitl [H0]
      · iexact H0
      isplitl [H1]
      · iexact H1
      isplitl [H2]
      · iexact H2
      isplitl [H3]
      · iexact H3
      isplitl [H4]
      · iexact H4
      iexact H5
    isplitl [H6]
    · iexact H6
    isplitl [HS]
    · iexact HS
    isplitl [Hq]
    · iexact Hq
    isplitl [Hh]
    · iexact Hh
    iexists W
    iexact HO
  unfold inp
  iintro ⟨⟨H0, H1, H2, H3, H4, H5⟩, ⟨%gk, %gv, %s, H6⟩, HS, Hq, Hh, ⟨%W', HO⟩⟩
  isplitl [HS Hg Hq Hh]
  · isplitl [HS]
    · iexact HS
    isplitl [Hg]
    · iexact Hg
    isplitl [Hq]
    · iexact Hq
    iexact Hh
  isplitl [HO]
  · iexists W'
    isplitr
    · ipureintro; exact fun _ _ => Or.inl trivial
    iexact HO
  isplitl [H0]
  · iexact H0
  isplitl [H1]
  · iexact H1
  isplitl [H2]
  · iexact H2
  isplitl [H3]
  · iexact H3
  isplitl [H4]
  · iexact H4
  isplitl [H5]
  · iexact H5
  iapply (h6 gk gv s)
  iexact H6

theorem defs₀_row (t : Fin cfg0.N) : defs₀ (F := F) .tc cfg0.body (cfg0.bodyArgs t (cfg0.slots t)) = bodyAt0 t := by
  unfold defs₀; rw [Defs.onTc_tc]

def forgets0 : Fin 7 → Bool := fun w => w == 6
/-- The body with the result forgotten. -/
theorem obl_forget (c : Dev nD) (hL : ∀ b, (lw (insOf m c).lens b).toInt ≤ 32768) :
    BodyObligation (dats m o 0 c) (defs₀ (F := F)) Variants.none () Set.univ forgets0 := fun t => by
  rw [bigSep_W0, bigSep_W0, defs₀_row]
  exact triple_restated (sound_body m o c hL t iprop(∃ d, owns (c : Thread nD τ) (st0_6 t) fullShare d) (fun gk gv s => by
    iintro H
    iexists (kern (insOf m c) gk gv s).f8
    iexact H)) rfl .rfl fun _ => .rfl

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the region touches neither cache. -/
theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  simp only [List.mem_cons, List.mem_nil_iff, or_false] at hop
  rcases hop with rfl
  refine Pipeline.sub_tailRefsBut _ _ _ _ (StableHlo.reshape_bufs_sub ..) (fun k => k.elim0) fun b hb => ?_
  simp only [H0, Finset.mem_insert, Finset.mem_singleton] at hb
  rcases hb with rfl | rfl <;> simp only [StableHlo.reshape_bufs, Finset.mem_insert, Finset.mem_singleton, not_or] <;>
    exact ⟨StableHlo.devRef_ne_of_ne (by decide), StableHlo.devRef_ne_of_ne (by decide)⟩

theorem sfx_writes : ∀ ops ∈ ([hostOps1] : List (List (HloOp τ sig (Elt F)))), ∀ op ∈ ops, ∀ b : Ref sig .tc,
    Proc.devRef .tc b ∈ op.writes → b ∈ ({main_v8} : Finset (Ref sig .tc)) := by
  intro ops hops op hop b hb
  simp only [List.mem_cons, List.mem_nil_iff, or_false] at hops
  rcases hops with rfl
  simp only [List.mem_cons, List.mem_nil_iff, or_false] at hop
  rcases hop with rfl
  simp only [StableHlo.reshape_writes, Finset.mem_singleton] at hb ⊢
  exact Proc.devRef_injective _ hb

set_option backward.isDefEq.respectTransparency.types false in
theorem run_forget (hL : ∀ c b, (lw (insOf m c).lens b).toInt ≤ 32768) :
    θ_run defs (onTc (τ := τ) (main (F := F))) (s₀ m ρ)
      (fun r => Pipeline.RDat.FramePostR (cfgs 0) (fun c => (dats m o 0 c).toRForget forgets0) {main_v8} (V m) r ∧ r.2.sem = fun _ => 0) :=
  Pipeline.θ_run_frame_dma_around_T_forget (Q' := _) cfgs (dats m o) (0 : Fin 1) launch0 osem0 defs₀ Variants.none forgets0 ownSemFacts0 H0 {main_v8} H0_sub m ρ main
    (hbody := fun c => (obl_forget m o c (hL c)).loose) (hshare := fun c => (dats m o 0 c).share_full fun _ => rfl)
    (howed := fun _ _ => rfl) (V₀ := V0 m) (opss := [hostOps1]) (hsub := sfx_subBut) (hfresh := sfx_fresh) (hkeep := sfx_keeps) (hT := sfx_writes)
    (hmain := hmainD m Variants.none) (hA := A_eq m o) (hin := fun _ => .rfl) (hout := fun _ => .rfl)

/-- The kernel stops, its arguments end as they began, and every semaphore ends at zero. -/
theorem frame_run (hL : ∀ c b, (lw (insOf m c).lens b).toInt ≤ 32768) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      (h.1.arr_in c 1 rfl).trans (V_main_arg5 m c), (h.1.arr_in c 2 rfl).trans (V_main_arg6 m c), (h.1.arr_in c 0 rfl).trans (V_main_arg7 m c)⟩, h.2⟩)
    (run_forget m ρ (fun c => V m c (Pipeline.arrRef spec0 6)) hL)

end Cert.Kernel.Hand
end
-- ==== Proof.KI.Base.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (Pipeline.UD sig nD τ) ℕ

abbrev A0 : Memref sig .tc .smem S16 .i32 := Memref.whole cc0_stg0_0
abbrev A1 : Memref sig .tc .smem S8 .f32 := Memref.whole cc0_stg1_0
abbrev A2 : Memref sig .tc .smem S8 .f32 := Memref.whole cc0_stg2_0
abbrev A3 : Memref sig .tc .vmem S16x32x64 .bf16 := Memref.whole cc0_stg3_0
abbrev A4 : Memref sig .tc .vmem S16x8x64 .bf16 := Memref.whole cc0_stg4_0
abbrev A5 : Memref sig .tc .vmem S16x8x64 .bf16 := Memref.whole cc0_stg5_0
abbrev A6 : Memref sig .tc .hbm S16x512x32768 .fp8e4m3 := Memref.whole main_v1
abbrev A7 : Memref sig .tc .hbm S16x512x32768 .fp8e4m3 := Memref.whole main_v3
abbrev A8 : Memref sig .tc .vmem S16x32x64 .bf16 := Memref.whole cc0_stg6_0
abbrev A9 : Memref sig .tc .vmem S4x512x2048 .fp8e4m3 := Memref.whole cc0_scratch0
abbrev A10 : Memref sig .tc .vmem S4x512x2048 .fp8e4m3 := Memref.whole cc0_scratch1
abbrev A11 : Memref sig .tc .vmem S2x2x16x2048 .f32 := Memref.whole cc0_scratch2
abbrev A12 : Memref sig .tc .vmem S16x2x16x256 .bf16 := Memref.whole cc0_scratch3
abbrev A13 : Memref sig .tc .vmem S16x32x128 .f32 := Memref.whole cc0_scratch4
abbrev A14 : Memref sig .tc .vmem S2x2x16x128 .f32 := Memref.whole cc0_scratch5
abbrev A15 : Memref sig .tc .vmem S2x2x16x128 .f32 := Memref.whole cc0_scratch6
abbrev A16 : Memref sig .tc .vmem S2x16x128 .f32 := Memref.whole cc0_scratch7
abbrev A17 : Memref sig .tc .vmem S2x16x256 .f32 := Memref.whole cc0_scratch8

abbrev rd (S : Shape) {e : EltTy} (off size : Fin S.rank → ℕ) (h : ∀ a, off a + size a ≤ S.size a) (f : Vec F S e) : (Rect.unit off size h).shape.Idx → Elt F e :=
  fun i => f ((Rect.unit off size h).emb i)
abbrev wr (S : Shape) {e : EltTy} (off size : Fin S.rank → ℕ) (h : ∀ a, off a + size a ≤ S.size a) (f : Vec F S e) (w : (Rect.unit off size h).shape.Idx → Elt F e) : Vec F S e :=
  updateSlice f w off ⟨rfl, h⟩

theorem readAt_whole (b : Ref sig Kind.tc) (off size : Fin b.ty.shape.rank → Nat) (inb : ∀ a, off a + size a ≤ b.ty.shape.size a) (f : b.ty.Contents (Elt F)) :
    (View.whole b).readAt (Elt F) (Rect.unit off size inb).toLoadRect f = rd b.ty.shape off size inb f := rfl

section Rules
variable (c : Dev nD)

theorem wp_ld {cs : CoreSpace} {S : Shape} {e : EltTy} {m : Memref sig Kind.tc cs S e} {r : LoadRect S} {hl : m.view.LoadsAt r} {q : PosShare TreeShare} {f : Buf (Elt F) (m.view.loc (c : Thread nD τ))}
    {Q : (r.shape.Idx → Elt F e) → sProp 𝕄} (v : r.shape.Idx → Elt F e) (hv : m.view.readAt (Elt F) r f = v) :
    (m.view.loc (c : Thread nD τ) ↦{q} f) ⊢ iprop(((m.view.loc (c : Thread nD τ) ↦{q} f) -∗ Q v)
      -∗ wp frame (wpE (defs₀ (F := F)) Variants.none (c : Thread nD τ) none) Set.univ (Prog.lift (.load m r hl)) Q) := by
  iintro H HQ
  subst hv
  iapply (wp_load (m := m) Variants.none (c : Thread nD τ) none Set.univ (Finset.subset_univ _)) $$ H
  iintro H
  rw [wp_ret]
  imodintro
  iapply HQ
  iexact H

theorem wp_sld {S : Shape} {e : EltTy} {m : Memref sig Kind.tc .smem S e} {r : Rect S} {h1 : r.shape.numel = 1} {hp : e.packing = 1} {q : PosShare TreeShare} {f : Buf (Elt F) (m.view.loc (c : Thread nD τ))}
    {Q : Elt F e → sProp 𝕄} :
    (m.view.loc (c : Thread nD τ) ↦{q} f) ⊢ iprop(((m.view.loc (c : Thread nD τ) ↦{q} f) -∗ Q ((m.access r).read (Elt F) f (Shape.Idx.first (h1.symm ▸ Nat.one_pos))))
      -∗ wp frame (wpE (defs₀ (F := F)) Variants.none (c : Thread nD τ) none) Set.univ (smemLoad m r h1 hp) Q) := by
  iintro H HQ
  unfold smemLoad
  iapply (wp_smemLoadElt (m := m) (r := r) (f := f) Variants.none (c : Thread nD τ) none Set.univ (Finset.subset_univ _)) $$ H
  iintro H
  rw [wp_ret]
  imodintro
  iapply HQ
  iexact H

theorem wp_st {cs : CoreSpace} {S : Shape} {e : EltTy} {m : Memref sig Kind.tc cs S e} {r : Rect S} {w : r.shape.Idx → Elt F e} {hx : (m.access r).Stores Finset.univ} {hm : (Finset.univ : Finset r.shape.Idx) = Finset.univ ∨ ∀ a, r.stride a = 1} {f : Buf (Elt F) (m.view.loc (c : Thread nD τ))}
    {Q : PUnit → sProp 𝕄} (f' : Buf (Elt F) (m.view.loc (c : Thread nD τ))) (hf : (m.access r).write (Elt F) f w Finset.univ = f') :
    (m.view.loc (c : Thread nD τ) ↦{fullShare} f) ⊢ iprop(((m.view.loc (c : Thread nD τ) ↦{fullShare} f') -∗ Q ⟨⟩)
      -∗ wp frame (wpE (defs₀ (F := F)) Variants.none (c : Thread nD τ) none) Set.univ (Prog.lift (.store m r w Finset.univ hx hm)) Q) := by
  iintro H HQ
  subst hf
  iapply (wp_store (m := m) (r := r) (w := w) (f := f) Variants.none (c : Thread nD τ) none Set.univ (Finset.subset_univ _)) $$ H
  iintro H
  rw [wp_ret]
  imodintro
  iapply HQ
  iexact H

end Rules

/-! ## The two rings: slots, fetches and waits -/

/-- The elements of a ring that lie in slot `i`. -/
def slot (i : ℕ) : Finset S4x512x2048.Idx := Finset.univ.filter fun x => (x 0).val = i

/-- What a slot holds after chunk columns `o … o + n` of sequence `b` are copied over it. -/
def fetched {e : EltTy} (X : Vec F S16x512x32768 e) (b o n i : ℕ) (f : Vec F S4x512x2048 e) : Vec F S4x512x2048 e :=
  fun y => if h : (y 0).val = i ∧ (y 2).val < n ∧ b < 16 ∧ o + n ≤ 32768 then
    X (fun a => match a with
      | ⟨0, _⟩ => (⟨b, h.2.2.1⟩ : Fin 16)
      | ⟨1, _⟩ => y 1
      | ⟨2, _⟩ => (⟨o + (y 2).val, by have := h.2.1; have := h.2.2.2; omega⟩ : Fin 32768)) else f y

theorem fetched_eq {i b o n : ℕ}
    {inb3 : ∀ a, (![1, 512, n] : Fin 3 → ℕ) a = 0 ∨ (![i, 0, 0] : Fin 3 → ℕ) a + (![1, 512, n] : Fin 3 → ℕ) a ≤ S4x512x2048.size a}
    {inb4 : ∀ a, (![1, 512, n] : Fin 3 → ℕ) a = 0 ∨ (![b, 0, o] : Fin 3 → ℕ) a + (![1, 512, n] : Fin 3 → ℕ) a ≤ S16x512x32768.size a}
    (hn : 0 < n) {hs3 hs4} {sq : Shape.Squeezes ⟨3, ![1, 512, n]⟩ ⟨2, ![512, n]⟩} (X : Vec F S16x512x32768 .fp8e4m3) (f : Vec F S4x512x2048 .fp8e4m3) :
    (((A9.slice (Rect.unitDyn (s := S4x512x2048) ![i, 0, 0] ![1, 512, n] inb3) hs3).squeeze ⟨2, ![512, n]⟩ sq).view.write (Elt F) f
      (((A6.slice (Rect.unitDyn (s := S16x512x32768) ![b, 0, o] ![1, 512, n] inb4) hs4).squeeze ⟨2, ![512, n]⟩ sq).view.read (Elt F) X) Finset.univ)
      = fetched X b o n i f := by
  have hb : b < 16 := by
    have := inb4 0; simp [S16x512x32768] at this; omega
  have ho : o + n ≤ 32768 := by
    have := inb4 2; simp [S16x512x32768] at this; omega
  funext y
  by_cases h : (y 0).val = i ∧ (y 2).val < n
  · -- an element of the window
    let z : (⟨3, ![1, 512, n]⟩ : Shape).Idx := fun a => match a with
      | ⟨0, _⟩ => (0 : Fin 1)
      | ⟨1, _⟩ => (y 1 : Fin 512)
      | ⟨2, _⟩ => (⟨(y 2).val, h.2⟩ : Fin n)
    obtain ⟨w, hw⟩ := (Shape.reshapeEquiv sq.numel_eq).surjective z
    have ey : y = ((A9.slice (Rect.unitDyn (s := S4x512x2048) ![i, 0, 0] ![1, 512, n] inb3) hs3).squeeze ⟨2, ![512, n]⟩ sq).view.emb w := by
      show y = (Rect.unitDyn (s := S4x512x2048) ![i, 0, 0] ![1, 512, n] inb3).emb (Shape.reshapeEquiv sq.numel_eq w)
      rw [hw]
      funext a
      apply Fin.ext
      fin_cases a
      · show (y 0).val = i + 1 * 0
        omega
      · show (y 1).val = 0 + 1 * (y 1).val
        omega
      · show (y 2).val = 0 + 1 * (y 2).val
        omega
    unfold fetched
    rw [dif_pos ⟨h.1, h.2, hb, ho⟩]
    conv_lhs => rw [ey]
    rw [View.write_emb_of_mem _ _ (Finset.mem_univ _)]
    show X ((Rect.unitDyn (s := S16x512x32768) ![b, 0, o] ![1, 512, n] inb4).emb (Shape.reshapeEquiv sq.numel_eq w)) = _
    rw [hw]
    congr 1
    funext a
    apply Fin.ext
    fin_cases a
    · show b + 1 * 0 = b
      omega
    · show 0 + 1 * (y 1).val = (y 1).val
      omega
    · show o + 1 * (y 2).val = o + (y 2).val
      omega
  · unfold fetched
    rw [dif_neg (fun h' => h ⟨h'.1, h'.2.1⟩)]
    apply View.write_of_not_mem
    intro hm
    obtain ⟨w, -, hw⟩ := Finset.mem_map.mp hm
    apply h
    have e : y = (Rect.unitDyn (s := S4x512x2048) ![i, 0, 0] ![1, 512, n] inb3).emb (Shape.reshapeEquiv sq.numel_eq w) := hw.symm
    generalize Shape.reshapeEquiv sq.numel_eq w = z at e
    have h0 : (z 0).val < 1 := (z 0).isLt
    have h2 : (z 2).val < n := (z 2).isLt
    have e0 : (y 0).val = i + 1 * (z 0).val := by rw [e]; rfl
    have e2 : (y 2).val = 0 + 1 * (z 2).val := by rw [e]; rfl
    omega

theorem fetched_eqV {i b o n : ℕ}
    {inb3 : ∀ a, (![1, 512, n] : Fin 3 → ℕ) a = 0 ∨ (![i, 0, 0] : Fin 3 → ℕ) a + (![1, 512, n] : Fin 3 → ℕ) a ≤ S4x512x2048.size a}
    {inb4 : ∀ a, (![1, 512, n] : Fin 3 → ℕ) a = 0 ∨ (![b, 0, o] : Fin 3 → ℕ) a + (![1, 512, n] : Fin 3 → ℕ) a ≤ S16x512x32768.size a}
    (hn : 0 < n) {hs3 hs4} {sq : Shape.Squeezes ⟨3, ![1, 512, n]⟩ ⟨2, ![512, n]⟩} (X : Vec F S16x512x32768 .fp8e4m3) (f : Vec F S4x512x2048 .fp8e4m3) :
    (((A10.slice (Rect.unitDyn (s := S4x512x2048) ![i, 0, 0] ![1, 512, n] inb3) hs3).squeeze ⟨2, ![512, n]⟩ sq).view.write (Elt F) f
      (((A7.slice (Rect.unitDyn (s := S16x512x32768) ![b, 0, o] ![1, 512, n] inb4) hs4).squeeze ⟨2, ![512, n]⟩ sq).view.read (Elt F) X) Finset.univ)
      = fetched X b o n i f := by
  have hb : b < 16 := by
    have := inb4 0; simp [S16x512x32768] at this; omega
  have ho : o + n ≤ 32768 := by
    have := inb4 2; simp [S16x512x32768] at this; omega
  funext y
  by_cases h : (y 0).val = i ∧ (y 2).val < n
  · -- an element of the window
    let z : (⟨3, ![1, 512, n]⟩ : Shape).Idx := fun a => match a with
      | ⟨0, _⟩ => (0 : Fin 1)
      | ⟨1, _⟩ => (y 1 : Fin 512)
      | ⟨2, _⟩ => (⟨(y 2).val, h.2⟩ : Fin n)
    obtain ⟨w, hw⟩ := (Shape.reshapeEquiv sq.numel_eq).surjective z
    have ey : y = ((A10.slice (Rect.unitDyn (s := S4x512x2048) ![i, 0, 0] ![1, 512, n] inb3) hs3).squeeze ⟨2, ![512, n]⟩ sq).view.emb w := by
      show y = (Rect.unitDyn (s := S4x512x2048) ![i, 0, 0] ![1, 512, n] inb3).emb (Shape.reshapeEquiv sq.numel_eq w)
      rw [hw]
      funext a
      apply Fin.ext
      fin_cases a
      · show (y 0).val = i + 1 * 0
        omega
      · show (y 1).val = 0 + 1 * (y 1).val
        omega
      · show (y 2).val = 0 + 1 * (y 2).val
        omega
    unfold fetched
    rw [dif_pos ⟨h.1, h.2, hb, ho⟩]
    conv_lhs => rw [ey]
    rw [View.write_emb_of_mem _ _ (Finset.mem_univ _)]
    show X ((Rect.unitDyn (s := S16x512x32768) ![b, 0, o] ![1, 512, n] inb4).emb (Shape.reshapeEquiv sq.numel_eq w)) = _
    rw [hw]
    congr 1
    funext a
    apply Fin.ext
    fin_cases a
    · show b + 1 * 0 = b
      omega
    · show 0 + 1 * (y 1).val = (y 1).val
      omega
    · show o + 1 * (y 2).val = o + (y 2).val
      omega
  · unfold fetched
    rw [dif_neg (fun h' => h ⟨h'.1, h'.2.1⟩)]
    apply View.write_of_not_mem
    intro hm
    obtain ⟨w, -, hw⟩ := Finset.mem_map.mp hm
    apply h
    have e : y = (Rect.unitDyn (s := S4x512x2048) ![i, 0, 0] ![1, 512, n] inb3).emb (Shape.reshapeEquiv sq.numel_eq w) := hw.symm
    generalize Shape.reshapeEquiv sq.numel_eq w = z at e
    have h0 : (z 0).val < 1 := (z 0).isLt
    have h2 : (z 2).val < n := (z 2).isLt
    have e0 : (y 0).val = i + 1 * (z 0).val := by rw [e]; rfl
    have e2 : (y 2).val = 0 + 1 * (z 2).val := by rw [e]; rfl
    omega

/-! ## Reading and writing a box of a buffer, its corner given as numbers -/

/-- The box of extents `size` at corner `off`. -/
def gt (S : Shape) {e : EltTy} [hS : Fact (∀ a, 0 < S.size a)] (off size : Fin S.rank → ℕ) (f : Vec F S e) : (⟨S.rank, size⟩ : Shape).Idx → Elt F e :=
  fun i => f (fun a => ⟨(off a + (i a).val) % S.size a, Nat.mod_lt _ (hS.out a)⟩)
/-- The contents with that box replaced. -/
def pt (S : Shape) {e : EltTy} (off size : Fin S.rank → ℕ) (f : Vec F S e) (w : (⟨S.rank, size⟩ : Shape).Idx → Elt F e) : Vec F S e :=
  fun y => if h : ∀ a, off a ≤ (y a).val ∧ (y a).val < off a + size a then w (fun a => ⟨(y a).val - off a, by have := h a; show _ < size a; omega⟩) else f y

instance fS16x32x64 : Fact (∀ a, 0 < S16x32x64.size a) := ⟨by decide⟩
instance fS16x8x64 : Fact (∀ a, 0 < S16x8x64.size a) := ⟨by decide⟩
instance fS4x512x2048 : Fact (∀ a, 0 < S4x512x2048.size a) := ⟨by decide⟩
instance fS2x2x16x2048 : Fact (∀ a, 0 < S2x2x16x2048.size a) := ⟨by decide⟩
instance fS16x2x16x256 : Fact (∀ a, 0 < S16x2x16x256.size a) := ⟨by decide⟩
instance fS16x32x128 : Fact (∀ a, 0 < S16x32x128.size a) := ⟨by decide⟩
instance fS2x2x16x128 : Fact (∀ a, 0 < S2x2x16x128.size a) := ⟨by decide⟩
instance fS2x16x128 : Fact (∀ a, 0 < S2x16x128.size a) := ⟨by decide⟩
instance fS2x16x256 : Fact (∀ a, 0 < S2x16x256.size a) := ⟨by decide⟩

theorem gt_eq {b : Ref sig Kind.tc} [hS : Fact (∀ a, 0 < b.ty.shape.size a)] {off off' size : Fin b.ty.shape.rank → Nat} (h : off = off') (inb : ∀ a, off a + size a ≤ b.ty.shape.size a) (f : b.ty.Contents (Elt F)) :
    (View.whole b).readAt (Elt F) (Rect.unit off size inb).toLoadRect f = gt b.ty.shape off' size f := by
  subst h
  funext i
  show f ((Rect.unit off size inb).emb i) = f _
  congr 1
  funext a
  apply Fin.ext
  show off a + 1 * (i a).val = (off a + (i a).val) % b.ty.shape.size a
  have h1 : (i a).val < size a := (i a).isLt
  have h2 := inb a
  rw [Nat.one_mul, Nat.mod_eq_of_lt (by omega)]
theorem pt_eq {b : Ref sig Kind.tc} {off off' size : Fin b.ty.shape.rank → Nat} (h : off = off') (inb : ∀ a, off a + size a ≤ b.ty.shape.size a) (f : b.ty.Contents (Elt F))
    (w : (Rect.unit off size inb).shape.Idx → Elt F b.ty.elt) :
    ((View.whole b).slice (Rect.unit off size inb)).write (Elt F) f w Finset.univ = pt b.ty.shape off' size f w := by
  subst h
  rw [View.write_whole_slice_unit]
  funext y
  unfold updateSlice pt
  by_cases h : ∀ a, off a ≤ (y a).val ∧ (y a).val < off a + size a
  · refine (dif_pos h).trans (Eq.symm ?_)
    refine (dif_pos h).trans ?_
    rfl
  · refine (dif_neg h).trans (Eq.symm ?_)
    refine (dif_neg h).trans ?_
    rfl

theorem ld3 {off off' size : Fin S16x32x64.rank → ℕ} (h : off = off') {inb : ∀ a, off a + size a ≤ S16x32x64.size a} {f : Vec F S16x32x64 .bf16} :
    A3.view.readAt (Elt F) (Rect.unit (s := S16x32x64) off size inb).toLoadRect f = gt S16x32x64 off' size f := gt_eq (b := cc0_stg3_0) (hS := fS16x32x64) h inb f
theorem ld4 {off off' size : Fin S16x8x64.rank → ℕ} (h : off = off') {inb : ∀ a, off a + size a ≤ S16x8x64.size a} {f : Vec F S16x8x64 .bf16} :
    A4.view.readAt (Elt F) (Rect.unit (s := S16x8x64) off size inb).toLoadRect f = gt S16x8x64 off' size f := gt_eq (b := cc0_stg4_0) (hS := fS16x8x64) h inb f
theorem ld5 {off off' size : Fin S16x8x64.rank → ℕ} (h : off = off') {inb : ∀ a, off a + size a ≤ S16x8x64.size a} {f : Vec F S16x8x64 .bf16} :
    A5.view.readAt (Elt F) (Rect.unit (s := S16x8x64) off size inb).toLoadRect f = gt S16x8x64 off' size f := gt_eq (b := cc0_stg5_0) (hS := fS16x8x64) h inb f
theorem ld8 {off off' size : Fin S16x32x64.rank → ℕ} (h : off = off') {inb : ∀ a, off a + size a ≤ S16x32x64.size a} {f : Vec F S16x32x64 .bf16} :
    A8.view.readAt (Elt F) (Rect.unit (s := S16x32x64) off size inb).toLoadRect f = gt S16x32x64 off' size f := gt_eq (b := cc0_stg6_0) (hS := fS16x32x64) h inb f
theorem st8 {off off' size : Fin S16x32x64.rank → ℕ} (h : off = off') {inb : ∀ a, off a + size a ≤ S16x32x64.size a} {f : Vec F S16x32x64 .bf16} {w : (⟨S16x32x64.rank, size⟩ : Shape).Idx → Elt F .bf16} :
    (A8.access (Rect.unit (s := S16x32x64) off size inb)).write (Elt F) f w Finset.univ = pt S16x32x64 off' size f w := pt_eq (b := cc0_stg6_0) h inb f w
theorem ld9 {off off' size : Fin S4x512x2048.rank → ℕ} (h : off = off') {inb : ∀ a, off a + size a ≤ S4x512x2048.size a} {f : Vec F S4x512x2048 .fp8e4m3} :
    A9.view.readAt (Elt F) (Rect.unit (s := S4x512x2048) off size inb).toLoadRect f = gt S4x512x2048 off' size f := gt_eq (b := cc0_scratch0) (hS := fS4x512x2048) h inb f
theorem ld10 {off off' size : Fin S4x512x2048.rank → ℕ} (h : off = off') {inb : ∀ a, off a + size a ≤ S4x512x2048.size a} {f : Vec F S4x512x2048 .fp8e4m3} :
    A10.view.readAt (Elt F) (Rect.unit (s := S4x512x2048) off size inb).toLoadRect f = gt S4x512x2048 off' size f := gt_eq (b := cc0_scratch1) (hS := fS4x512x2048) h inb f
theorem ld11 {off off' size : Fin S2x2x16x2048.rank → ℕ} (h : off = off') {inb : ∀ a, off a + size a ≤ S2x2x16x2048.size a} {f : Vec F S2x2x16x2048 .f32} :
    A11.view.readAt (Elt F) (Rect.unit (s := S2x2x16x2048) off size inb).toLoadRect f = gt S2x2x16x2048 off' size f := gt_eq (b := cc0_scratch2) (hS := fS2x2x16x2048) h inb f
theorem st11 {off off' size : Fin S2x2x16x2048.rank → ℕ} (h : off = off') {inb : ∀ a, off a + size a ≤ S2x2x16x2048.size a} {f : Vec F S2x2x16x2048 .f32} {w : (⟨S2x2x16x2048.rank, size⟩ : Shape).Idx → Elt F .f32} :
    (A11.access (Rect.unit (s := S2x2x16x2048) off size inb)).write (Elt F) f w Finset.univ = pt S2x2x16x2048 off' size f w := pt_eq (b := cc0_scratch2) h inb f w
theorem ld12 {off off' size : Fin S16x2x16x256.rank → ℕ} (h : off = off') {inb : ∀ a, off a + size a ≤ S16x2x16x256.size a} {f : Vec F S16x2x16x256 .bf16} :
    A12.view.readAt (Elt F) (Rect.unit (s := S16x2x16x256) off size inb).toLoadRect f = gt S16x2x16x256 off' size f := gt_eq (b := cc0_scratch3) (hS := fS16x2x16x256) h inb f
theorem st12 {off off' size : Fin S16x2x16x256.rank → ℕ} (h : off = off') {inb : ∀ a, off a + size a ≤ S16x2x16x256.size a} {f : Vec F S16x2x16x256 .bf16} {w : (⟨S16x2x16x256.rank, size⟩ : Shape).Idx → Elt F .bf16} :
    (A12.access (Rect.unit (s := S16x2x16x256) off size inb)).write (Elt F) f w Finset.univ = pt S16x2x16x256 off' size f w := pt_eq (b := cc0_scratch3) h inb f w
theorem ld13 {off off' size : Fin S16x32x128.rank → ℕ} (h : off = off') {inb : ∀ a, off a + size a ≤ S16x32x128.size a} {f : Vec F S16x32x128 .f32} :
    A13.view.readAt (Elt F) (Rect.unit (s := S16x32x128) off size inb).toLoadRect f = gt S16x32x128 off' size f := gt_eq (b := cc0_scratch4) (hS := fS16x32x128) h inb f
theorem st13 {off off' size : Fin S16x32x128.rank → ℕ} (h : off = off') {inb : ∀ a, off a + size a ≤ S16x32x128.size a} {f : Vec F S16x32x128 .f32} {w : (⟨S16x32x128.rank, size⟩ : Shape).Idx → Elt F .f32} :
    (A13.access (Rect.unit (s := S16x32x128) off size inb)).write (Elt F) f w Finset.univ = pt S16x32x128 off' size f w := pt_eq (b := cc0_scratch4) h inb f w
theorem ld14 {off off' size : Fin S2x2x16x128.rank → ℕ} (h : off = off') {inb : ∀ a, off a + size a ≤ S2x2x16x128.size a} {f : Vec F S2x2x16x128 .f32} :
    A14.view.readAt (Elt F) (Rect.unit (s := S2x2x16x128) off size inb).toLoadRect f = gt S2x2x16x128 off' size f := gt_eq (b := cc0_scratch5) (hS := fS2x2x16x128) h inb f
theorem st14 {off off' size : Fin S2x2x16x128.rank → ℕ} (h : off = off') {inb : ∀ a, off a + size a ≤ S2x2x16x128.size a} {f : Vec F S2x2x16x128 .f32} {w : (⟨S2x2x16x128.rank, size⟩ : Shape).Idx → Elt F .f32} :
    (A14.access (Rect.unit (s := S2x2x16x128) off size inb)).write (Elt F) f w Finset.univ = pt S2x2x16x128 off' size f w := pt_eq (b := cc0_scratch5) h inb f w
theorem ld15 {off off' size : Fin S2x2x16x128.rank → ℕ} (h : off = off') {inb : ∀ a, off a + size a ≤ S2x2x16x128.size a} {f : Vec F S2x2x16x128 .f32} :
    A15.view.readAt (Elt F) (Rect.unit (s := S2x2x16x128) off size inb).toLoadRect f = gt S2x2x16x128 off' size f := gt_eq (b := cc0_scratch6) (hS := fS2x2x16x128) h inb f
theorem st15 {off off' size : Fin S2x2x16x128.rank → ℕ} (h : off = off') {inb : ∀ a, off a + size a ≤ S2x2x16x128.size a} {f : Vec F S2x2x16x128 .f32} {w : (⟨S2x2x16x128.rank, size⟩ : Shape).Idx → Elt F .f32} :
    (A15.access (Rect.unit (s := S2x2x16x128) off size inb)).write (Elt F) f w Finset.univ = pt S2x2x16x128 off' size f w := pt_eq (b := cc0_scratch6) h inb f w
theorem ld16 {off off' size : Fin S2x16x128.rank → ℕ} (h : off = off') {inb : ∀ a, off a + size a ≤ S2x16x128.size a} {f : Vec F S2x16x128 .f32} :
    A16.view.readAt (Elt F) (Rect.unit (s := S2x16x128) off size inb).toLoadRect f = gt S2x16x128 off' size f := gt_eq (b := cc0_scratch7) (hS := fS2x16x128) h inb f
theorem st16 {off off' size : Fin S2x16x128.rank → ℕ} (h : off = off') {inb : ∀ a, off a + size a ≤ S2x16x128.size a} {f : Vec F S2x16x128 .f32} {w : (⟨S2x16x128.rank, size⟩ : Shape).Idx → Elt F .f32} :
    (A16.access (Rect.unit (s := S2x16x128) off size inb)).write (Elt F) f w Finset.univ = pt S2x16x128 off' size f w := pt_eq (b := cc0_scratch7) h inb f w
theorem ld17 {off off' size : Fin S2x16x256.rank → ℕ} (h : off = off') {inb : ∀ a, off a + size a ≤ S2x16x256.size a} {f : Vec F S2x16x256 .f32} :
    A17.view.readAt (Elt F) (Rect.unit (s := S2x16x256) off size inb).toLoadRect f = gt S2x16x256 off' size f := gt_eq (b := cc0_scratch8) (hS := fS2x16x256) h inb f
theorem st17 {off off' size : Fin S2x16x256.rank → ℕ} (h : off = off') {inb : ∀ a, off a + size a ≤ S2x16x256.size a} {f : Vec F S2x16x256 .f32} {w : (⟨S2x16x256.rank, size⟩ : Shape).Idx → Elt F .f32} :
    (A17.access (Rect.unit (s := S2x16x256) off size inb)).write (Elt F) f w Finset.univ = pt S2x16x256 off' size f w := pt_eq (b := cc0_scratch8) h inb f w

end Cert.KernelIdeal.Hand
end
-- ==== Proof.KI.Words.lean ====
/-
  The offsets, sizes, guards and side conditions the program computes in words, in terms of the trip number and
  the schedule of `Sched`.
-/
module

public import proofs.«01_k».proof.Proof.Sched
public import proofs.«01_k».proof.Proof.Gen.KernelIdeal.Skeleton

@[expose] public section
namespace Cert.KernelIdeal.Hand
open Cert.KernelIdeal Cert.Sched Idealize.ShloMosaic

/-! ## The side conditions, once for all copies -/

theorem okRing {i m n : ℕ} (hi : i < 4) (hn : n = 128 * m) (hm : m ≤ 16) :
    ∀ a, (![1, 512, n] : Fin 3 → ℕ) a = 0 ∨ (![i, 0, 0] : Fin 3 → ℕ) a + (![1, 512, n] : Fin 3 → ℕ) a ≤ S4x512x2048.size a := by
  intro a; right; revert a
  simp only [Fin.forall_fin_succ, S4x512x2048]
  refine ⟨?_, ?_, ?_, fun a => a.elim0⟩ <;> simp <;> omega
theorem okHbm {b j m n : ℕ} (hb : b < 16) (hj : j < 16) (hn : n = 128 * m) (hm : m ≤ 16) :
    ∀ a, (![1, 512, n] : Fin 3 → ℕ) a = 0 ∨ (![b, 0, j * 2048] : Fin 3 → ℕ) a + (![1, 512, n] : Fin 3 → ℕ) a ≤ S16x512x32768.size a := by
  intro a; right; revert a
  simp only [Fin.forall_fin_succ, S16x512x32768]
  refine ⟨?_, ?_, ?_, fun a => a.elim0⟩ <;> simp <;> omega
theorem okSq (n : ℕ) (hn : n ≠ 1) : (⟨3, ![1, 512, n]⟩ : Shape).Squeezes ⟨2, ![512, n]⟩ := by
  show Shape.dropsOnes [n, 512, 1] [n, 512] = true
  simp [Shape.dropsOnes]
theorem okWW3 {i n : ℕ} (h : ∀ a, (![1, 512, n] : Fin 3 → ℕ) a = 0 ∨ (![i, 0, 0] : Fin 3 → ℕ) a + (![1, 512, n] : Fin 3 → ℕ) a ≤ S4x512x2048.size a) :
    (Rect.unitDyn (s := S4x512x2048) ![i, 0, 0] ![1, 512, n] h).WholeWords (EltTy.packing .fp8e4m3) :=
  .inr ⟨by decide, rfl, rfl, rfl⟩
theorem okWW4 {b o n : ℕ} (h : ∀ a, (![1, 512, n] : Fin 3 → ℕ) a = 0 ∨ (![b, 0, o] : Fin 3 → ℕ) a + (![1, 512, n] : Fin 3 → ℕ) a ≤ S16x512x32768.size a) :
    (Rect.unitDyn (s := S16x512x32768) ![b, 0, o] ![1, 512, n] h).WholeWords (EltTy.packing .fp8e4m3) :=
  .inr ⟨by decide, rfl, rfl, rfl⟩
theorem okPacked {b r : ℕ} (hr : 2 ∣ r) (h : ∀ a, (![b, r, 0] : Fin 3 → ℕ) a + S1x16x64.size a ≤ S16x32x64.size a) :
    (Rect.unit (s := S16x32x64) ![b, r, 0] S1x16x64.size h).PackedRows (EltTy.packing .bf16) :=
  Or.inr (Exists.intro (show 2 ≤ S16x32x64.rank by decide) ⟨rfl, Or.inl ⟨by
    rw [show S16x32x64.rowAx (by decide) = (1 : Fin 3) by decide]; exact hr, by
    rw [show S16x32x64.rowAx (by decide) = (1 : Fin 3) by decide]; exact (show 2 ∣ 16 by decide)⟩⟩)

theorem ok_S1x16x64 {p k : ℕ} (hp : p < 16) (hk : k ≤ 16) : ∀ a, (![p, k, 0] : Fin 3 → ℕ) a + S1x16x64.size a ≤ S16x32x64.size a := by
  simp only [Fin.forall_fin_succ, S1x16x64, S16x32x64]
  refine ⟨?_, ?_, ?_, fun a => a.elim0⟩ <;> simp <;> omega
theorem ok_S1x8x64 {p k : ℕ} (hp : p < 16) (hk : k ≤ 0) : ∀ a, (![p, k, 0] : Fin 3 → ℕ) a + S1x8x64.size a ≤ S16x8x64.size a := by
  simp only [Fin.forall_fin_succ, S1x8x64, S16x8x64]
  refine ⟨?_, ?_, ?_, fun a => a.elim0⟩ <;> simp <;> omega
theorem ok_S1x16x128 {p k : ℕ} (hp : p < 16) (hk : k ≤ 16) : ∀ a, (![p, k, 0] : Fin 3 → ℕ) a + S1x16x128.size a ≤ S16x32x128.size a := by
  simp only [Fin.forall_fin_succ, S1x16x128, S16x32x128]
  refine ⟨?_, ?_, ?_, fun a => a.elim0⟩ <;> simp <;> omega
theorem ok_S1x1x16x128 {p k : ℕ} (hp : p < 2) (hk : k ≤ 1) : ∀ a, (![p, k, 0, 0] : Fin 4 → ℕ) a + S1x1x16x128.size a ≤ S2x2x16x128.size a := by
  simp only [Fin.forall_fin_succ, S1x1x16x128, S2x2x16x128]
  refine ⟨?_, ?_, ?_, ?_, fun a => a.elim0⟩ <;> simp <;> omega
theorem ok_S1x1x16x2048 {p k : ℕ} (hp : p < 2) (hk : k ≤ 1) : ∀ a, (![p, k, 0, 0] : Fin 4 → ℕ) a + S1x1x16x2048.size a ≤ S2x2x16x2048.size a := by
  simp only [Fin.forall_fin_succ, S1x1x16x2048, S2x2x16x2048]
  refine ⟨?_, ?_, ?_, ?_, fun a => a.elim0⟩ <;> simp <;> omega
theorem ok_S1x1x16x256 {p k : ℕ} (hp : p < 16) (hk : k ≤ 1) : ∀ a, (![p, k, 0, 0] : Fin 4 → ℕ) a + S1x1x16x256.size a ≤ S16x2x16x256.size a := by
  simp only [Fin.forall_fin_succ, S1x1x16x256, S16x2x16x256]
  refine ⟨?_, ?_, ?_, ?_, fun a => a.elim0⟩ <;> simp <;> omega
theorem ok_S1x256x2048 {p k : ℕ} (hp : p < 4) (hk : k ≤ 256) : ∀ a, (![p, k, 0] : Fin 3 → ℕ) a + S1x256x2048.size a ≤ S4x512x2048.size a := by
  simp only [Fin.forall_fin_succ, S1x256x2048, S4x512x2048]
  refine ⟨?_, ?_, ?_, fun a => a.elim0⟩ <;> simp <;> omega
theorem ok_S4 {p : ℕ} (hp : p < 4) : ∀ a, (![p] : Fin 1 → ℕ) a + S1.size a ≤ S4.size a := by
  simp only [Fin.forall_fin_succ, S1, S4]
  refine ⟨?_, fun a => a.elim0⟩ <;> simp <;> omega
theorem ok_S1 {p : ℕ} (hp : p < 16) : ∀ a, (![p] : Fin 1 → ℕ) a + S1.size a ≤ S16.size a := by
  simp only [Fin.forall_fin_succ, S1, S16]
  refine ⟨?_, fun a => a.elim0⟩ <;> simp <;> omega

/-! ## Offsets and sizes -/

theorem k0_off1_eq (k0_t1 : Fin k0_t1_loop.trips) (ht : k0_t1.val < 300) : k0_off1 k0_t1 = ![k0_t1.val] := by
  unfold k0_off1; simp (disch := omega) only [iv_eq, plus3, plus1, rem4, rem2, sub2, idx, toNat_of]
theorem k0_off2_eq : k0_off2 = ![0] := rfl
theorem k0_off3_eq (v444 : BitVec 32) : k0_off3 v444 = ⟨![0, 0, 0], ![1, 512, ((szWord 0#32 0#32 v444)).toNat]⟩ := rfl
theorem k0_off4_eq (v444 : BitVec 32) : k0_off4 v444 = ⟨![0, 0, 0], ![1, 512, ((szWord 0#32 0#32 v444)).toNat]⟩ := rfl
theorem k0_off5_eq (v6 : BitVec 32) : k0_off5 v6 = ![(nbWord 0#32 0#32 v6).toNat] := by
  unfold k0_off5 nbWord; simp only [idx]
theorem k0_off6_eq : k0_off6 = ![1] := rfl
theorem k0_off7_eq (v6 : BitVec 32) (v444 : BitVec 32) : k0_off7 v6 v444 = ⟨![1, 0, 0], ![1, 512, ((szWord 1#32 (njWord 0#32 v6) v444)).toNat]⟩ := rfl
theorem k0_off8_eq (v6 : BitVec 32) (v444 : BitVec 32) : k0_off8 v6 v444 = ⟨![(nbWord 0#32 0#32 v6).toNat, 0, (Scalar.muli (njWord 0#32 v6) 2048#32).toNat], ![1, 512, ((szWord 1#32 (njWord 0#32 v6) v444)).toNat]⟩ := rfl
theorem k0_off9_eq (v6 : BitVec 32) : k0_off9 v6 = ![(nbWord 0#32 0#32 v6).toNat] := by
  unfold k0_off9 nbWord; simp only [idx]
theorem k0_off10_eq (v6 : BitVec 32) (v21 : BitVec 32) : k0_off10 v6 v21 = ![(nbWord (nbWord 0#32 0#32 v6) (njWord 0#32 v6) v21).toNat] := by
  unfold k0_off10 nbWord njWord; simp only [idx]
theorem k0_off11_eq : k0_off11 = ![2] := rfl
theorem k0_off12_eq (v6 : BitVec 32) (v21 : BitVec 32) (v444 : BitVec 32) : k0_off12 v6 v21 v444 = ⟨![2, 0, 0], ![1, 512, ((szWord 2#32 (njWord (njWord 0#32 v6) v21) v444)).toNat]⟩ := rfl
theorem k0_off13_eq (v6 : BitVec 32) (v21 : BitVec 32) (v444 : BitVec 32) : k0_off13 v6 v21 v444 = ⟨![(nbWord (nbWord 0#32 0#32 v6) (njWord 0#32 v6) v21).toNat, 0, (Scalar.muli (njWord (njWord 0#32 v6) v21) 2048#32).toNat], ![1, 512, ((szWord 2#32 (njWord (njWord 0#32 v6) v21) v444)).toNat]⟩ := rfl
theorem k0_off14_eq (v6 : BitVec 32) (v21 : BitVec 32) : k0_off14 v6 v21 = ![(nbWord (nbWord 0#32 0#32 v6) (njWord 0#32 v6) v21).toNat] := by
  unfold k0_off14 nbWord njWord; simp only [idx]
theorem k0_off15_eq (k0_t2 : Fin k0_t2_loop.trips) (ht : k0_t2.val < 300) : k0_off15 k0_t2 = ![k0_t2.val, 0, 0] := by
  unfold k0_off15; simp (disch := omega) only [iv_eq, plus3, plus1, rem4, rem2, sub2, idx, toNat_of]
theorem k0_off16_eq (k0_t2 : Fin k0_t2_loop.trips) (ht : k0_t2.val < 300) : k0_off16 k0_t2 = ![k0_t2.val, 0, 0] := by
  unfold k0_off16; simp (disch := omega) only [iv_eq, plus3, plus1, rem4, rem2, sub2, idx, toNat_of]
theorem k0_off17_eq (k0_t2 : Fin k0_t2_loop.trips) (ht : k0_t2.val < 300) : k0_off17 k0_t2 = ![k0_t2.val, 0, 0] := by
  unfold k0_off17; simp (disch := omega) only [iv_eq, plus3, plus1, rem4, rem2, sub2, idx, toNat_of]
theorem k0_off18_eq (k0_t2 : Fin k0_t2_loop.trips) (ht : k0_t2.val < 300) : k0_off18 k0_t2 = ![k0_t2.val, 0, 0, 0] := by
  unfold k0_off18; simp (disch := omega) only [iv_eq, plus3, plus1, rem4, rem2, sub2, idx, toNat_of]
theorem k0_off19_eq (k0_t2 : Fin k0_t2_loop.trips) (ht : k0_t2.val < 300) : k0_off19 k0_t2 = ![k0_t2.val, 1, 0, 0] := by
  unfold k0_off19; simp (disch := omega) only [iv_eq, plus3, plus1, rem4, rem2, sub2, idx, toNat_of]
theorem k0_off20_eq : k0_off20 = ![0] := rfl
theorem k0_off21_eq (v337 : BitVec 32) : k0_off21 v337 = ⟨![0, 0, 0], ![1, 512, ((szWord 0#32 0#32 v337)).toNat]⟩ := rfl
theorem k0_off22_eq (v337 : BitVec 32) : k0_off22 v337 = ⟨![0, 0, 0], ![1, 512, ((szWord 0#32 0#32 v337)).toNat]⟩ := rfl
theorem k0_off23_eq : k0_off23 = ![0, 0, 0] := rfl
theorem k0_off24_eq : k0_off24 = ![0, 0, 0, 0] := rfl
theorem k0_off25_eq : k0_off25 = ![1, 0, 0, 0] := rfl
theorem k0_off26_eq : k0_off26 = ![0, 0, 0, 0] := rfl
theorem k0_off27_eq : k0_off27 = ![0, 256, 0] := rfl
theorem k0_off28_eq : k0_off28 = ![0, 1, 0, 0] := rfl
theorem k0_off29_eq : k0_off29 = ![1, 1, 0, 0] := rfl
theorem k0_off30_eq : k0_off30 = ![0, 1, 0, 0] := rfl
theorem k0_off31_eq (arg23 : BitVec 32) : k0_off31 arg23 = ![arg23.toNat] := rfl
theorem k0_off32_eq (arg21 : BitVec 32) : k0_off32 arg21 = ![arg21.toNat] := rfl
theorem k0_off33_eq (v1 : BitVec 32) (k0_t3 : Fin (k0_t3_loop v1).trips) (ht : k0_t3.val < 300) : k0_off33 v1 k0_t3 = ![(k0_t3.val + 3) % 4] := by
  unfold k0_off33; simp (disch := omega) only [iv_eq, plus3, plus1, rem4, rem2, sub2, idx, toNat_of]
theorem k0_off34_eq (v1 : BitVec 32) (k0_t3 : Fin (k0_t3_loop v1).trips) (arg22 : BitVec 32) (v740 : BitVec 32) (ht : k0_t3.val < 300) : k0_off34 v1 k0_t3 arg22 v740 = ⟨![(k0_t3.val + 3) % 4, 0, 0], ![1, 512, ((szWord (BitVec.ofNat 32 (k0_t3.val + 3)) arg22 v740)).toNat]⟩ := by
  unfold k0_off34 szWord; simp (disch := omega) only [iv_eq, plus3, plus1, rem4, rem2, sub2, idx, toNat_of]
theorem k0_off35_eq (v1 : BitVec 32) (k0_t3 : Fin (k0_t3_loop v1).trips) (arg21 : BitVec 32) (arg22 : BitVec 32) (v740 : BitVec 32) (ht : k0_t3.val < 300) : k0_off35 v1 k0_t3 arg21 arg22 v740 = ⟨![arg21.toNat, 0, (Scalar.muli arg22 2048#32).toNat], ![1, 512, ((szWord (BitVec.ofNat 32 (k0_t3.val + 3)) arg22 v740)).toNat]⟩ := by
  unfold k0_off35 szWord; simp (disch := omega) only [iv_eq, plus3, plus1, rem4, rem2, sub2, idx, toNat_of]
theorem k0_off36_eq (arg21 : BitVec 32) : k0_off36 arg21 = ![arg21.toNat] := rfl
theorem k0_off37_eq (arg23 : BitVec 32) (arg24 : BitVec 32) (v444 : BitVec 32) : k0_off37 arg23 arg24 v444 = ![(nbWord arg23 arg24 v444).toNat] := by
  unfold k0_off37 nbWord; simp only [idx]
theorem k0_off38_eq (v1 : BitVec 32) (k0_t3 : Fin (k0_t3_loop v1).trips) (ht : k0_t3.val < 300) : k0_off38 v1 k0_t3 = ![(k0_t3.val + 1) % 4] := by
  unfold k0_off38; simp (disch := omega) only [iv_eq, plus3, plus1, rem4, rem2, sub2, idx, toNat_of]
theorem k0_off39_eq (v1 : BitVec 32) (k0_t3 : Fin (k0_t3_loop v1).trips) (arg24 : BitVec 32) (v444 : BitVec 32) (v741 : BitVec 32) (ht : k0_t3.val < 300) : k0_off39 v1 k0_t3 arg24 v444 v741 = ⟨![(k0_t3.val + 1) % 4, 0, 0], ![1, 512, ((szWord (BitVec.ofNat 32 (k0_t3.val + 1)) (njWord arg24 v444) v741)).toNat]⟩ := by
  unfold k0_off39 szWord njWord; simp (disch := omega) only [iv_eq, plus3, plus1, rem4, rem2, sub2, idx, toNat_of]
theorem k0_off40_eq (v1 : BitVec 32) (k0_t3 : Fin (k0_t3_loop v1).trips) (arg23 : BitVec 32) (arg24 : BitVec 32) (v444 : BitVec 32) (v741 : BitVec 32) (ht : k0_t3.val < 300) : k0_off40 v1 k0_t3 arg23 arg24 v444 v741 = ⟨![(nbWord arg23 arg24 v444).toNat, 0, (Scalar.muli (njWord arg24 v444) 2048#32).toNat], ![1, 512, ((szWord (BitVec.ofNat 32 (k0_t3.val + 1)) (njWord arg24 v444) v741)).toNat]⟩ := by
  unfold k0_off40 szWord nbWord njWord; simp (disch := omega) only [iv_eq, plus3, plus1, rem4, rem2, sub2, idx, toNat_of]
theorem k0_off41_eq (arg23 : BitVec 32) : k0_off41 arg23 = ![arg23.toNat] := rfl
theorem k0_off42_eq (v1 : BitVec 32) (k0_t3 : Fin (k0_t3_loop v1).trips) (ht : k0_t3.val < 300) : k0_off42 v1 k0_t3 = ![k0_t3.val % 4] := by
  unfold k0_off42; simp (disch := omega) only [iv_eq, plus3, plus1, rem4, rem2, sub2, idx, toNat_of]
theorem k0_off43_eq (v1 : BitVec 32) (k0_t3 : Fin (k0_t3_loop v1).trips) (arg24 : BitVec 32) (v477 : BitVec 32) (ht : k0_t3.val < 300) : k0_off43 v1 k0_t3 arg24 v477 = ⟨![k0_t3.val % 4, 0, 0], ![1, 512, ((szWord (BitVec.ofNat 32 k0_t3.val) arg24 v477)).toNat]⟩ := by
  unfold k0_off43 szWord; simp (disch := omega) only [iv_eq, plus3, plus1, rem4, rem2, sub2, idx, toNat_of]
theorem k0_off44_eq (v1 : BitVec 32) (k0_t3 : Fin (k0_t3_loop v1).trips) (arg23 : BitVec 32) (arg24 : BitVec 32) (v477 : BitVec 32) (ht : k0_t3.val < 300) : k0_off44 v1 k0_t3 arg23 arg24 v477 = ⟨![arg23.toNat, 0, (Scalar.muli arg24 2048#32).toNat], ![1, 512, ((szWord (BitVec.ofNat 32 k0_t3.val) arg24 v477)).toNat]⟩ := by
  unfold k0_off44 szWord; simp (disch := omega) only [iv_eq, plus3, plus1, rem4, rem2, sub2, idx, toNat_of]
theorem k0_off45_eq (arg23 : BitVec 32) (arg24 : BitVec 32) (v444 : BitVec 32) : k0_off45 arg23 arg24 v444 = ![(nbWord arg23 arg24 v444).toNat] := by
  unfold k0_off45 nbWord; simp only [idx]
theorem k0_off46_eq (v1 : BitVec 32) (k0_t3 : Fin (k0_t3_loop v1).trips) (ht : k0_t3.val < 300) : k0_off46 v1 k0_t3 = ![(k0_t3.val + 1) % 4, 0, 0] := by
  unfold k0_off46; simp (disch := omega) only [iv_eq, plus3, plus1, rem4, rem2, sub2, idx, toNat_of]
theorem k0_off47_eq (arg23 : BitVec 32) (arg24 : BitVec 32) (v444 : BitVec 32) : k0_off47 arg23 arg24 v444 = ![(nbWord arg23 arg24 v444).toNat, 0, 0, 0] := by
  unfold k0_off47 nbWord; simp only [idx]
theorem k0_off48_eq (v1 : BitVec 32) (k0_t3 : Fin (k0_t3_loop v1).trips) (ht : k0_t3.val < 300) : k0_off48 v1 k0_t3 = ![(k0_t3.val + 1) % 2, 0, 0, 0] := by
  unfold k0_off48; simp (disch := omega) only [iv_eq, plus3, plus1, rem4, rem2, sub2, idx, toNat_of]
theorem k0_off49_eq (arg23 : BitVec 32) (arg24 : BitVec 32) (v444 : BitVec 32) : k0_off49 arg23 arg24 v444 = ![(nbWord arg23 arg24 v444).toNat, 0, 0] := by
  unfold k0_off49 nbWord; simp only [idx]
theorem k0_off50_eq (v1 : BitVec 32) (k0_t3 : Fin (k0_t3_loop v1).trips) (ht : k0_t3.val < 300) : k0_off50 v1 k0_t3 = ![1 - (k0_t3.val + 1) % 2, 0, 0, 0] := by
  unfold k0_off50; simp (disch := omega) only [iv_eq, plus3, plus1, rem4, rem2, sub2, idx, toNat_of]
theorem k0_off51_eq (v1 : BitVec 32) (k0_t3 : Fin (k0_t3_loop v1).trips) (ht : k0_t3.val < 300) : k0_off51 v1 k0_t3 = ![(k0_t3.val + 1) % 2, 0, 0, 0] := by
  unfold k0_off51; simp (disch := omega) only [iv_eq, plus3, plus1, rem4, rem2, sub2, idx, toNat_of]
theorem k0_off52_eq (v1 : BitVec 32) (k0_t3 : Fin (k0_t3_loop v1).trips) (ht : k0_t3.val < 300) : k0_off52 v1 k0_t3 = ![(k0_t3.val + 1) % 4, 256, 0] := by
  unfold k0_off52; simp (disch := omega) only [iv_eq, plus3, plus1, rem4, rem2, sub2, idx, toNat_of]
theorem k0_off53_eq (arg23 : BitVec 32) (arg24 : BitVec 32) (v444 : BitVec 32) : k0_off53 arg23 arg24 v444 = ![(nbWord arg23 arg24 v444).toNat, 1, 0, 0] := by
  unfold k0_off53 nbWord; simp only [idx]
theorem k0_off54_eq (v1 : BitVec 32) (k0_t3 : Fin (k0_t3_loop v1).trips) (ht : k0_t3.val < 300) : k0_off54 v1 k0_t3 = ![(k0_t3.val + 1) % 2, 1, 0, 0] := by
  unfold k0_off54; simp (disch := omega) only [iv_eq, plus3, plus1, rem4, rem2, sub2, idx, toNat_of]
theorem k0_off55_eq (arg23 : BitVec 32) (arg24 : BitVec 32) (v444 : BitVec 32) : k0_off55 arg23 arg24 v444 = ![(nbWord arg23 arg24 v444).toNat, 16, 0] := by
  unfold k0_off55 nbWord; simp only [idx]
theorem k0_off56_eq (v1 : BitVec 32) (k0_t3 : Fin (k0_t3_loop v1).trips) (ht : k0_t3.val < 300) : k0_off56 v1 k0_t3 = ![1 - (k0_t3.val + 1) % 2, 1, 0, 0] := by
  unfold k0_off56; simp (disch := omega) only [iv_eq, plus3, plus1, rem4, rem2, sub2, idx, toNat_of]
theorem k0_off57_eq (v1 : BitVec 32) (k0_t3 : Fin (k0_t3_loop v1).trips) (ht : k0_t3.val < 300) : k0_off57 v1 k0_t3 = ![(k0_t3.val + 1) % 2, 1, 0, 0] := by
  unfold k0_off57; simp (disch := omega) only [iv_eq, plus3, plus1, rem4, rem2, sub2, idx, toNat_of]
theorem k0_off58_eq (v1 : BitVec 32) (k0_t3 : Fin (k0_t3_loop v1).trips) (ht : k0_t3.val < 300) : k0_off58 v1 k0_t3 = ![k0_t3.val % 2, 0, 0, 0] := by
  unfold k0_off58; simp (disch := omega) only [iv_eq, plus3, plus1, rem4, rem2, sub2, idx, toNat_of]
theorem k0_off59_eq (v1 : BitVec 32) (k0_t3 : Fin (k0_t3_loop v1).trips) (ht : k0_t3.val < 300) : k0_off59 v1 k0_t3 = ![k0_t3.val % 2, 0, 0, 0] := by
  unfold k0_off59; simp (disch := omega) only [iv_eq, plus3, plus1, rem4, rem2, sub2, idx, toNat_of]
theorem k0_off60_eq (v1 : BitVec 32) (k0_t3 : Fin (k0_t3_loop v1).trips) (ht : k0_t3.val < 300) : k0_off60 v1 k0_t3 = ![k0_t3.val % 4, 0, 0] := by
  unfold k0_off60; simp (disch := omega) only [iv_eq, plus3, plus1, rem4, rem2, sub2, idx, toNat_of]
theorem k0_off61_eq (v1 : BitVec 32) (k0_t3 : Fin (k0_t3_loop v1).trips) (ht : k0_t3.val < 300) : k0_off61 v1 k0_t3 = ![k0_t3.val % 2, 1, 0, 0] := by
  unfold k0_off61; simp (disch := omega) only [iv_eq, plus3, plus1, rem4, rem2, sub2, idx, toNat_of]
theorem k0_off62_eq (v1 : BitVec 32) (k0_t3 : Fin (k0_t3_loop v1).trips) (ht : k0_t3.val < 300) : k0_off62 v1 k0_t3 = ![k0_t3.val % 2, 1, 0, 0] := by
  unfold k0_off62; simp (disch := omega) only [iv_eq, plus3, plus1, rem4, rem2, sub2, idx, toNat_of]
theorem k0_off63_eq (v1 : BitVec 32) (k0_t3 : Fin (k0_t3_loop v1).trips) (ht : k0_t3.val < 300) : k0_off63 v1 k0_t3 = ![k0_t3.val % 4, 256, 0] := by
  unfold k0_off63; simp (disch := omega) only [iv_eq, plus3, plus1, rem4, rem2, sub2, idx, toNat_of]
theorem k0_off64_eq (arg23 : BitVec 32) : k0_off64 arg23 = ![arg23.toNat] := rfl
theorem k0_off65_eq (arg23 : BitVec 32) : k0_off65 arg23 = ![arg23.toNat, 0, 0] := rfl
theorem k0_off66_eq (arg23 : BitVec 32) : k0_off66 arg23 = ![arg23.toNat, 0, 0] := rfl
theorem k0_off67_eq (v1 : BitVec 32) (k0_t3 : Fin (k0_t3_loop v1).trips) (ht : k0_t3.val < 300) : k0_off67 v1 k0_t3 = ![k0_t3.val % 2, 0, 0, 0] := by
  unfold k0_off67; simp (disch := omega) only [iv_eq, plus3, plus1, rem4, rem2, sub2, idx, toNat_of]
theorem k0_off68_eq (arg23 : BitVec 32) : k0_off68 arg23 = ![arg23.toNat, 0, 0] := rfl
theorem k0_off69_eq (arg23 : BitVec 32) : k0_off69 arg23 = ![arg23.toNat, 16, 0] := rfl
theorem k0_off70_eq (v1 : BitVec 32) (k0_t3 : Fin (k0_t3_loop v1).trips) (ht : k0_t3.val < 300) : k0_off70 v1 k0_t3 = ![k0_t3.val % 2, 1, 0, 0] := by
  unfold k0_off70; simp (disch := omega) only [iv_eq, plus3, plus1, rem4, rem2, sub2, idx, toNat_of]
theorem k0_off71_eq (arg23 : BitVec 32) : k0_off71 arg23 = ![arg23.toNat, 16, 0] := rfl
theorem k0_mult1_eq (v444 : BitVec 32) : k0_mult1 v444 = (szWord 0#32 0#32 v444) := rfl
theorem k0_mult2_eq  : k0_mult2  = (Scalar.muli 0#32 2048#32) := rfl
theorem k0_sz1_eq (v444 : BitVec 32) : k0_sz1 v444 = ![512, ((szWord 0#32 0#32 v444)).toNat] := rfl
theorem k0_sz2_eq (v444 : BitVec 32) : k0_sz2 v444 = ![512, ((szWord 0#32 0#32 v444)).toNat] := rfl
theorem k0_mult3_eq (v6 : BitVec 32) (v444 : BitVec 32) : k0_mult3 v6 v444 = (szWord 1#32 (njWord 0#32 v6) v444) := rfl
theorem k0_mult4_eq (v6 : BitVec 32) : k0_mult4 v6 = (Scalar.muli (njWord 0#32 v6) 2048#32) := rfl
theorem k0_sz3_eq (v6 : BitVec 32) (v444 : BitVec 32) : k0_sz3 v6 v444 = ![512, ((szWord 1#32 (njWord 0#32 v6) v444)).toNat] := rfl
theorem k0_sz4_eq (v6 : BitVec 32) (v444 : BitVec 32) : k0_sz4 v6 v444 = ![512, ((szWord 1#32 (njWord 0#32 v6) v444)).toNat] := rfl
theorem k0_mult5_eq (v6 : BitVec 32) (v21 : BitVec 32) (v444 : BitVec 32) : k0_mult5 v6 v21 v444 = (szWord 2#32 (njWord (njWord 0#32 v6) v21) v444) := rfl
theorem k0_mult6_eq (v6 : BitVec 32) (v21 : BitVec 32) : k0_mult6 v6 v21 = (Scalar.muli (njWord (njWord 0#32 v6) v21) 2048#32) := rfl
theorem k0_sz5_eq (v6 : BitVec 32) (v21 : BitVec 32) (v444 : BitVec 32) : k0_sz5 v6 v21 v444 = ![512, ((szWord 2#32 (njWord (njWord 0#32 v6) v21) v444)).toNat] := rfl
theorem k0_sz6_eq (v6 : BitVec 32) (v21 : BitVec 32) (v444 : BitVec 32) : k0_sz6 v6 v21 v444 = ![512, ((szWord 2#32 (njWord (njWord 0#32 v6) v21) v444)).toNat] := rfl
theorem k0_mult7_eq (v337 : BitVec 32) : k0_mult7 v337 = (szWord 0#32 0#32 v337) := rfl
theorem k0_mult8_eq  : k0_mult8  = (Scalar.muli 0#32 2048#32) := rfl
theorem k0_sz7_eq (v337 : BitVec 32) : k0_sz7 v337 = ![512, ((szWord 0#32 0#32 v337)).toNat] := rfl
theorem k0_sz8_eq (v337 : BitVec 32) : k0_sz8 v337 = ![512, ((szWord 0#32 0#32 v337)).toNat] := rfl
theorem k0_mult9_eq (v1 : BitVec 32) (k0_t3 : Fin (k0_t3_loop v1).trips) (arg22 : BitVec 32) (v740 : BitVec 32) (ht : k0_t3.val < 300) : k0_mult9 v1 k0_t3 arg22 v740 = (szWord (BitVec.ofNat 32 (k0_t3.val + 3)) arg22 v740) := by
  unfold k0_mult9 szWord; simp (disch := omega) only [iv_eq, plus3, plus1, rem4, rem2, sub2, idx, toNat_of]
theorem k0_mult10_eq (arg22 : BitVec 32) : k0_mult10 arg22 = (Scalar.muli arg22 2048#32) := rfl
theorem k0_sz9_eq (v1 : BitVec 32) (k0_t3 : Fin (k0_t3_loop v1).trips) (arg22 : BitVec 32) (v740 : BitVec 32) (ht : k0_t3.val < 300) : k0_sz9 v1 k0_t3 arg22 v740 = ![512, ((szWord (BitVec.ofNat 32 (k0_t3.val + 3)) arg22 v740)).toNat] := by
  unfold k0_sz9 szWord; simp (disch := omega) only [iv_eq, plus3, plus1, rem4, rem2, sub2, idx, toNat_of]
theorem k0_sz10_eq (v1 : BitVec 32) (k0_t3 : Fin (k0_t3_loop v1).trips) (arg22 : BitVec 32) (v740 : BitVec 32) (ht : k0_t3.val < 300) : k0_sz10 v1 k0_t3 arg22 v740 = ![512, ((szWord (BitVec.ofNat 32 (k0_t3.val + 3)) arg22 v740)).toNat] := by
  unfold k0_sz10 szWord; simp (disch := omega) only [iv_eq, plus3, plus1, rem4, rem2, sub2, idx, toNat_of]
theorem k0_mult11_eq (v1 : BitVec 32) (k0_t3 : Fin (k0_t3_loop v1).trips) (arg24 : BitVec 32) (v444 : BitVec 32) (v741 : BitVec 32) (ht : k0_t3.val < 300) : k0_mult11 v1 k0_t3 arg24 v444 v741 = (szWord (BitVec.ofNat 32 (k0_t3.val + 1)) (njWord arg24 v444) v741) := by
  unfold k0_mult11 szWord njWord; simp (disch := omega) only [iv_eq, plus3, plus1, rem4, rem2, sub2, idx, toNat_of]
theorem k0_mult12_eq (arg24 : BitVec 32) (v444 : BitVec 32) : k0_mult12 arg24 v444 = (Scalar.muli (njWord arg24 v444) 2048#32) := rfl
theorem k0_sz11_eq (v1 : BitVec 32) (k0_t3 : Fin (k0_t3_loop v1).trips) (arg24 : BitVec 32) (v444 : BitVec 32) (v741 : BitVec 32) (ht : k0_t3.val < 300) : k0_sz11 v1 k0_t3 arg24 v444 v741 = ![512, ((szWord (BitVec.ofNat 32 (k0_t3.val + 1)) (njWord arg24 v444) v741)).toNat] := by
  unfold k0_sz11 szWord njWord; simp (disch := omega) only [iv_eq, plus3, plus1, rem4, rem2, sub2, idx, toNat_of]
theorem k0_sz12_eq (v1 : BitVec 32) (k0_t3 : Fin (k0_t3_loop v1).trips) (arg24 : BitVec 32) (v444 : BitVec 32) (v741 : BitVec 32) (ht : k0_t3.val < 300) : k0_sz12 v1 k0_t3 arg24 v444 v741 = ![512, ((szWord (BitVec.ofNat 32 (k0_t3.val + 1)) (njWord arg24 v444) v741)).toNat] := by
  unfold k0_sz12 szWord njWord; simp (disch := omega) only [iv_eq, plus3, plus1, rem4, rem2, sub2, idx, toNat_of]
theorem k0_mult13_eq (v1 : BitVec 32) (k0_t3 : Fin (k0_t3_loop v1).trips) (arg24 : BitVec 32) (v477 : BitVec 32) (ht : k0_t3.val < 300) : k0_mult13 v1 k0_t3 arg24 v477 = (szWord (BitVec.ofNat 32 k0_t3.val) arg24 v477) := by
  unfold k0_mult13 szWord; simp (disch := omega) only [iv_eq, plus3, plus1, rem4, rem2, sub2, idx, toNat_of]
theorem k0_mult14_eq (arg24 : BitVec 32) : k0_mult14 arg24 = (Scalar.muli arg24 2048#32) := rfl
theorem k0_sz13_eq (v1 : BitVec 32) (k0_t3 : Fin (k0_t3_loop v1).trips) (arg24 : BitVec 32) (v477 : BitVec 32) (ht : k0_t3.val < 300) : k0_sz13 v1 k0_t3 arg24 v477 = ![512, ((szWord (BitVec.ofNat 32 k0_t3.val) arg24 v477)).toNat] := by
  unfold k0_sz13 szWord; simp (disch := omega) only [iv_eq, plus3, plus1, rem4, rem2, sub2, idx, toNat_of]
theorem k0_sz14_eq (v1 : BitVec 32) (k0_t3 : Fin (k0_t3_loop v1).trips) (arg24 : BitVec 32) (v477 : BitVec 32) (ht : k0_t3.val < 300) : k0_sz14 v1 k0_t3 arg24 v477 = ![512, ((szWord (BitVec.ofNat 32 k0_t3.val) arg24 v477)).toNat] := by
  unfold k0_sz14 szWord; simp (disch := omega) only [iv_eq, plus3, plus1, rem4, rem2, sub2, idx, toNat_of]

theorem cond1_iff {n : ℕ} (hn : n < 300) : k0_cond1 (BitVec.ofNat 32 n) = 1#1 ↔ 0 < n := guard_lt (by decide) (by omega)
theorem cond2_iff {n : ℕ} (hn : n < 300) : k0_cond2 (BitVec.ofNat 32 n) = 1#1 ↔ 1 < n := guard_lt (by decide) (by omega)
theorem cond3_iff {n : ℕ} (hn : n < 300) : k0_cond3 (BitVec.ofNat 32 n) = 1#1 ↔ 2 < n := guard_lt (by decide) (by omega)
theorem cond4_iff {n : ℕ} (hn : n < 300) (k0_t3 : Fin (k0_t3_loop (BitVec.ofNat 32 n)).trips) (ht : k0_t3.val < 300) :
    k0_cond4 (BitVec.ofNat 32 n) k0_t3 = 1#1 ↔ k0_t3.val + 3 < n := by
  unfold k0_cond4; simp only [iv_eq, plus3]; exact guard_lt (by omega) (by omega)
theorem cond5_iff {n : ℕ} (hn : n < 300) (k0_t3 : Fin (k0_t3_loop (BitVec.ofNat 32 n)).trips) (ht : k0_t3.val < 300) :
    k0_cond5 (BitVec.ofNat 32 n) k0_t3 = 1#1 ↔ k0_t3.val + 1 < n := by
  unfold k0_cond5; simp only [iv_eq, plus1]; exact guard_lt (by omega) (by omega)
theorem cond6_iff {j : ℕ} {w : BitVec 32} (hj : j < 16) (hw : w.toInt ≤ 32768) :
    k0_cond6 (BitVec.ofNat 32 j) w = 1#1 ↔ nCh w ≤ j + 1 := by
  show Scalar.cmpi .ne (Scalar.extui (Scalar.cmpi .sge (Scalar.addi (BitVec.ofNat 32 j) 1#32) (nWord w))) 0#32 = 1#1 ↔ _
  rw [last_iff hw hj]
  split <;> simp only [*, true_iff, iff_true, iff_false] <;> decide

theorem t1_trips : k0_t1_loop.trips = 16 := by decide
theorem t2_trips : k0_t2_loop.trips = 16 := by decide
theorem ub_eq (x : BitVec 32) : Scalar.addi 0#32 (Scalar.muli (Scalar.divsi (Scalar.subi x 0#32) 1#32) 1#32) = x := by
  have h : ¬ IntOp.SDivCorner (x - 0#32) 1#32 := by unfold IntOp.SDivCorner; rintro (h | ⟨-, h⟩) <;> revert h <;> decide
  unfold Scalar.addi IntOp.addi Scalar.muli IntOp.muli Scalar.divsi IntOp.divsi Scalar.subi IntOp.subi
  rw [if_neg h]; simp
theorem t3_eq (x : BitVec 32) : k0_t3_loop x = ⟨0#32, x, 1#32⟩ := by
  show Scf.Loop.mk 0#32 (Scalar.addi 0#32 (Scalar.muli (Scalar.divsi (Scalar.subi x 0#32) 1#32) 1#32)) 1#32 = _
  rw [ub_eq]
theorem t4_eq (x : BitVec 32) : k0_t4_loop x = ⟨x, x, 1#32⟩ := by
  show Scf.Loop.mk (Scalar.addi 0#32 (Scalar.muli (Scalar.divsi (Scalar.subi x 0#32) 1#32) 1#32)) (Scalar.addi 0#32 (Scalar.subi x 0#32)) 1#32 = _
  rw [ub_eq]; simp [Scalar.addi, IntOp.addi, Scalar.subi, IntOp.subi]
theorem t3_bounds {n : ℕ} (hn : n < 300) : (k0_t3_loop (BitVec.ofNat 32 n)).trips = n ∧ (k0_t3_loop (BitVec.ofNat 32 n)).OK := by
  have e : (BitVec.ofNat 32 n).toInt = (n : ℤ) := WordCmp.toInt_ofNat_of_lt (by simp; omega)
  have h : (k0_t3_loop (BitVec.ofNat 32 n)).trips = n := by
    rw [t3_eq]; show Scf.trips _ _ _ = _; unfold Scf.trips; rw [e]; simp
  refine ⟨h, ?_⟩
  show _ ∧ _
  rw [show Scf.trips (k0_t3_loop (BitVec.ofNat 32 n)).lb (k0_t3_loop (BitVec.ofNat 32 n)).ub (k0_t3_loop (BitVec.ofNat 32 n)).st = n from h]
  rw [t3_eq]; simp; omega
theorem t4_bounds {n : ℕ} (hn : n < 300) : (k0_t4_loop (BitVec.ofNat 32 n)).trips = 0 ∧ (k0_t4_loop (BitVec.ofNat 32 n)).OK := by
  have e : (BitVec.ofNat 32 n).toInt = (n : ℤ) := WordCmp.toInt_ofNat_of_lt (by simp; omega)
  have h : (k0_t4_loop (BitVec.ofNat 32 n)).trips = 0 := by
    rw [t4_eq]; show Scf.trips _ _ _ = _; unfold Scf.trips; rw [e]; simp
  refine ⟨h, ?_⟩
  show _ ∧ _
  rw [show Scf.trips (k0_t4_loop (BitVec.ofNat 32 n)).lb (k0_t4_loop (BitVec.ofNat 32 n)).ub (k0_t4_loop (BitVec.ofNat 32 n)).st = 0 from h]
  rw [t4_eq]; simp [e]; omega

/-! ## The checks -/

theorem dvd128 (t j w : BitVec 32) : 128 ∣ (szWord t j w).toNat := by
  obtain ⟨n, h, -⟩ := sz_facts t j w; exact ⟨n, h⟩
theorem dvd2048 {j : ℕ} (hj : j < 16) : 2048 ∣ (Scalar.muli (BitVec.ofNat 32 j) 2048#32).toNat := by
  rw [off2048 hj]; exact ⟨j, Nat.mul_comm _ _⟩
theorem sq_sz (t j w : BitVec 32) : (⟨3, ![1, 512, (szWord t j w).toNat]⟩ : Shape).Squeezes ⟨2, ![512, (szWord t j w).toNat]⟩ := by
  obtain ⟨n, h, -⟩ := sz_facts t j w; unfold sz at h; exact okSq _ (by omega)
theorem ring_sz {i : ℕ} (hi : i < 4) (t j w : BitVec 32) : ∀ a, (![1, 512, (szWord t j w).toNat] : Fin 3 → ℕ) a = 0 ∨ (![i, 0, 0] : Fin 3 → ℕ) a + (![1, 512, (szWord t j w).toNat] : Fin 3 → ℕ) a ≤ S4x512x2048.size a := by
  obtain ⟨n, h, h1, h2⟩ := sz_facts t j w; exact okRing hi h h2
theorem hbm_sz {b j : ℕ} (hb : b < 16) (hj : j < 16) (t j' w : BitVec 32) : ∀ a, (![1, 512, (szWord t j' w).toNat] : Fin 3 → ℕ) a = 0 ∨ (![b, 0, j * 2048] : Fin 3 → ℕ) a + (![1, 512, (szWord t j' w).toNat] : Fin 3 → ℕ) a ≤ S16x512x32768.size a := by
  obtain ⟨n, h, h1, h2⟩ := sz_facts t j' w; exact okHbm hb hj h h2
theorem k0_chk1_ok (v1 : BitVec 32) (v444 : BitVec 32)  : k0_chk1 v1 v444 :=
  ⟨fun _ => by rw [k0_mult1_eq _]; exact dvd128 _ _ _,
   fun _ => by rw [k0_off3_eq _]; exact ring_sz (by omega) _ _ _,
   fun _ => by rw [k0_off3_eq _, k0_sz1_eq _]; exact sq_sz _ _ _,
   fun _ => by rw [k0_off4_eq _]; exact hbm_sz (b := 0) (j := 0) (by decide) (by decide) _ _ _,
   fun _ => by rw [k0_off4_eq _, k0_sz2_eq _]; exact sq_sz _ _ _,
   fun _ => by rw [k0_off4_eq _]; exact okWW4,
   fun _ => by rw [k0_off3_eq _]; exact okWW3⟩
theorem k0_chk2_ok (v1 : BitVec 32) (v6 : BitVec 32) {b j : ℕ} (hb : b < 16) (hj : j < 16) (e1 : nbWord 0#32 0#32 v6 = BitVec.ofNat 32 b) (e2 : njWord 0#32 v6 = BitVec.ofNat 32 j) : k0_chk2 v1 v6 :=
  ⟨fun _ => by rw [k0_off5_eq _, e1, toNat_of (by omega)]; exact ok_S1 (by omega),
   fun _ => by rw [k0_mult4_eq _, e2]; exact dvd2048 hj,
   by rw [k0_off9_eq _, e1, toNat_of (by omega)]; exact ok_S1 (by omega)⟩
theorem k0_chk3_ok (v1 : BitVec 32) (v6 : BitVec 32) (v444 : BitVec 32) {b j : ℕ} (hb : b < 16) (hj : j < 16) (e1 : nbWord 0#32 0#32 v6 = BitVec.ofNat 32 b) (e2 : njWord 0#32 v6 = BitVec.ofNat 32 j) : k0_chk3 v1 v6 v444 :=
  ⟨fun _ => by rw [k0_mult3_eq _ _]; exact dvd128 _ _ _,
   fun _ => by rw [k0_off7_eq _ _]; exact ring_sz (by omega) _ _ _,
   fun _ => by rw [k0_off7_eq _ _, k0_sz3_eq _ _]; exact sq_sz _ _ _,
   fun _ => by rw [k0_off8_eq _ _, e1, e2, toNat_of (by omega), off2048 hj]; exact hbm_sz hb hj _ _ _,
   fun _ => by rw [k0_off8_eq _ _, k0_sz4_eq _ _]; exact sq_sz _ _ _,
   fun _ => by rw [k0_off8_eq _ _]; exact okWW4,
   fun _ => by rw [k0_off7_eq _ _]; exact okWW3⟩
theorem k0_chk4_ok (v1 : BitVec 32) (v6 : BitVec 32) (v21 : BitVec 32) {b j : ℕ} (hb : b < 16) (hj : j < 16) (e1 : nbWord (nbWord 0#32 0#32 v6) (njWord 0#32 v6) v21 = BitVec.ofNat 32 b) (e2 : njWord (njWord 0#32 v6) v21 = BitVec.ofNat 32 j) : k0_chk4 v1 v6 v21 :=
  ⟨fun _ => by rw [k0_off10_eq _ _, e1, toNat_of (by omega)]; exact ok_S1 (by omega),
   fun _ => by rw [k0_mult6_eq _ _, e2]; exact dvd2048 hj,
   by rw [k0_off14_eq _ _, e1, toNat_of (by omega)]; exact ok_S1 (by omega)⟩
theorem k0_chk5_ok (v1 : BitVec 32) (v6 : BitVec 32) (v21 : BitVec 32) (v444 : BitVec 32) {b j : ℕ} (hb : b < 16) (hj : j < 16) (e1 : nbWord (nbWord 0#32 0#32 v6) (njWord 0#32 v6) v21 = BitVec.ofNat 32 b) (e2 : njWord (njWord 0#32 v6) v21 = BitVec.ofNat 32 j) : k0_chk5 v1 v6 v21 v444 :=
  ⟨fun _ => by rw [k0_mult5_eq _ _ _]; exact dvd128 _ _ _,
   fun _ => by rw [k0_off12_eq _ _ _]; exact ring_sz (by omega) _ _ _,
   fun _ => by rw [k0_off12_eq _ _ _, k0_sz5_eq _ _ _]; exact sq_sz _ _ _,
   fun _ => by rw [k0_off13_eq _ _ _, e1, e2, toNat_of (by omega), off2048 hj]; exact hbm_sz hb hj _ _ _,
   fun _ => by rw [k0_off13_eq _ _ _, k0_sz6_eq _ _ _]; exact sq_sz _ _ _,
   fun _ => by rw [k0_off13_eq _ _ _]; exact okWW4,
   fun _ => by rw [k0_off12_eq _ _ _]; exact okWW3⟩
theorem k0_chk6_ok (v337 : BitVec 32)  : k0_chk6 v337 :=
  ⟨by rw [k0_mult7_eq _]; exact dvd128 _ _ _,
   by rw [k0_off21_eq _, k0_sz7_eq _]; exact sq_sz _ _ _,
   by rw [k0_off22_eq _, k0_sz8_eq _]; exact sq_sz _ _ _⟩
theorem k0_chk8_ok {b : ℕ} (hb : b < 16)  : k0_chk8 (BitVec.ofNat 32 b) :=
  ⟨by rw [k0_off31_eq _, toNat_of (by omega)]; exact ok_S1 (by omega),
   by rw [k0_off41_eq _, toNat_of (by omega)]; exact ok_S1 (by omega),
   by rw [k0_off64_eq _, toNat_of (by omega)]; exact ok_S1 (by omega)⟩
theorem k0_chk9_ok (v1 : BitVec 32) (k0_t3 : Fin (k0_t3_loop v1).trips) (ht : k0_t3.val < 300) {b : ℕ} (hb : b < 16)  : k0_chk9 v1 k0_t3 (BitVec.ofNat 32 b) :=
  ⟨fun _ => by rw [k0_off32_eq _, toNat_of (by omega)]; exact ok_S1 (by omega),
   by rw [k0_off36_eq _, toNat_of (by omega)]; exact ok_S1 (by omega)⟩
theorem k0_chk10_ok (v1 : BitVec 32) (k0_t3 : Fin (k0_t3_loop v1).trips) (ht : k0_t3.val < 300) {b : ℕ} (hb : b < 16) {j : ℕ} (hj : j < 16) (v740 : BitVec 32)  : k0_chk10 v1 k0_t3 (BitVec.ofNat 32 b) (BitVec.ofNat 32 j) v740 :=
  ⟨fun _ => by rw [k0_mult9_eq _ _ _ _ ht]; exact dvd128 _ _ _,
   fun _ => by rw [k0_off34_eq _ _ _ _ ht]; exact ring_sz (by omega) _ _ _,
   fun _ => by rw [k0_off34_eq _ _ _ _ ht, k0_sz9_eq _ _ _ _ ht]; exact sq_sz _ _ _,
   fun _ => by rw [k0_off35_eq _ _ _ _ _ ht, toNat_of (by omega), off2048 hj]; exact hbm_sz hb hj _ _ _,
   fun _ => by rw [k0_off35_eq _ _ _ _ _ ht, k0_sz10_eq _ _ _ _ ht]; exact sq_sz _ _ _,
   fun _ => by rw [k0_off35_eq _ _ _ _ _ ht]; exact okWW4,
   fun _ => by rw [k0_off34_eq _ _ _ _ ht]; exact okWW3⟩
theorem k0_chk11_ok (v1 : BitVec 32) (k0_t3 : Fin (k0_t3_loop v1).trips) (ht : k0_t3.val < 300) {j : ℕ} (hj : j < 16)  : k0_chk11 v1 k0_t3 (BitVec.ofNat 32 j) :=
  fun _ => by rw [k0_mult10_eq _]; exact dvd2048 hj
theorem k0_chk12_ok (v1 : BitVec 32) (k0_t3 : Fin (k0_t3_loop v1).trips) (ht : k0_t3.val < 300) (arg23 : BitVec 32) (arg24 : BitVec 32) (v444 : BitVec 32) {nb j : ℕ} (hnb : nb < 16) (hj : j < 16) (e1 : nbWord arg23 arg24 v444 = BitVec.ofNat 32 nb) (e2 : njWord arg24 v444 = BitVec.ofNat 32 j) : k0_chk12 v1 k0_t3 arg23 arg24 v444 :=
  ⟨fun _ => by rw [k0_off37_eq _ _ _, e1, toNat_of (by omega)]; exact ok_S1 (by omega),
   fun _ => by rw [k0_mult12_eq _ _, e2]; exact dvd2048 hj,
   by rw [k0_off45_eq _ _ _, e1, toNat_of (by omega)]; exact ok_S1 (by omega),
   by rw [k0_off47_eq _ _ _, e1, toNat_of (by omega)]; exact ok_S1x1x16x256 (by omega) (by decide),
   by rw [k0_off49_eq _ _ _, e1, toNat_of (by omega)]; exact ok_S1x16x128 (by omega) (by decide),
   by rw [k0_off53_eq _ _ _, e1, toNat_of (by omega)]; exact ok_S1x1x16x256 (by omega) (by decide),
   by rw [k0_off55_eq _ _ _, e1, toNat_of (by omega)]; exact ok_S1x16x128 (by omega) (by decide)⟩
theorem k0_chk13_ok (v1 : BitVec 32) (k0_t3 : Fin (k0_t3_loop v1).trips) (ht : k0_t3.val < 300) (arg23 : BitVec 32) (arg24 : BitVec 32) (v444 : BitVec 32) (v741 : BitVec 32)  : k0_chk13 v1 k0_t3 arg23 arg24 v444 v741 :=
  ⟨fun _ => by rw [k0_mult11_eq _ _ _ _ _ ht]; exact dvd128 _ _ _,
   fun _ => by rw [k0_off39_eq _ _ _ _ _ ht, k0_sz11_eq _ _ _ _ _ ht]; exact sq_sz _ _ _,
   fun _ => by rw [k0_off40_eq _ _ _ _ _ _ ht, k0_sz12_eq _ _ _ _ _ ht]; exact sq_sz _ _ _⟩
theorem k0_chk14_ok (v1 : BitVec 32) (k0_t3 : Fin (k0_t3_loop v1).trips) (ht : k0_t3.val < 300) (arg23 : BitVec 32) (arg24 : BitVec 32) (v477 : BitVec 32)  : k0_chk14 v1 k0_t3 arg23 arg24 v477 :=
  ⟨by rw [k0_mult13_eq _ _ _ _ ht]; exact dvd128 _ _ _,
   by rw [k0_off43_eq _ _ _ _ ht, k0_sz13_eq _ _ _ _ ht]; exact sq_sz _ _ _,
   by rw [k0_off44_eq _ _ _ _ _ ht, k0_sz14_eq _ _ _ _ ht]; exact sq_sz _ _ _⟩
theorem k0_chk15_ok {j : ℕ} (hj : j < 16)  : k0_chk15 (BitVec.ofNat 32 j) :=
  by unfold k0_chk15; rw [k0_mult14_eq _]; exact dvd2048 hj
theorem k0_chk16_ok (v1 : BitVec 32) (k0_t3 : Fin (k0_t3_loop v1).trips) (ht : k0_t3.val < 300) {b : ℕ} (hb : b < 16) (arg24 : BitVec 32) (v731 : BitVec 32)  : k0_chk16 v1 k0_t3 (BitVec.ofNat 32 b) arg24 v731 :=
  ⟨fun _ => by rw [k0_off65_eq _, toNat_of (by omega)]; exact ok_S1x8x64 (by omega) (by decide),
   fun _ => by rw [k0_off66_eq _, toNat_of (by omega)]; exact ok_S1x16x128 (by omega) (by decide),
   fun _ => by rw [k0_off67_eq _ _ ht]; exact ok_S1x1x16x128 (by omega) (by decide),
   fun _ => by rw [k0_off68_eq _, toNat_of (by omega)]; exact ok_S1x16x64 (by omega) (by decide),
   fun _ => by rw [k0_off68_eq _]; exact fun h => okPacked (by decide) h,
   fun _ => by rw [k0_off69_eq _, toNat_of (by omega)]; exact ok_S1x16x128 (by omega) (by decide),
   fun _ => by rw [k0_off70_eq _ _ ht]; exact ok_S1x1x16x128 (by omega) (by decide),
   fun _ => by rw [k0_off71_eq _, toNat_of (by omega)]; exact ok_S1x16x64 (by omega) (by decide),
   fun _ => by rw [k0_off71_eq _]; exact fun h => okPacked (by decide) h⟩
set_option maxHeartbeats 2000000 in
theorem k0_chk7_0_ok {n : ℕ} (hn : n < 300) : k0_chk7_0 (BitVec.ofNat 32 n) := by
  have t3lt : ∀ t : Fin (k0_t3_loop (BitVec.ofNat 32 n)).trips, t.val < 300 := fun t => lt_of_lt_of_le t.isLt (by rw [(t3_bounds hn).1]; omega)
  have t4e := (t4_bounds hn).1
  exact ⟨(t3_bounds hn).2,
   fun t => fun _ => by rw [k0_off33_eq _ _ (t3lt t)]; exact ok_S4 (by omega),
   fun t => fun _ => by rw [k0_off38_eq _ _ (t3lt t)]; exact ok_S4 (by omega),
   fun t => by rw [k0_off42_eq _ _ (t3lt t)]; exact ok_S4 (by omega),
   fun t => by rw [k0_off46_eq _ _ (t3lt t)]; exact ok_S1x256x2048 (by omega) (by decide),
   fun t => by rw [k0_off48_eq _ _ (t3lt t)]; exact ok_S1x1x16x2048 (by omega) (by decide),
   fun t => by rw [k0_off50_eq _ _ (t3lt t)]; exact ok_S1x1x16x128 (by omega) (by decide),
   fun t => by rw [k0_off51_eq _ _ (t3lt t)]; exact ok_S1x1x16x128 (by omega) (by decide),
   fun t => by rw [k0_off52_eq _ _ (t3lt t)]; exact ok_S1x256x2048 (by omega) (by decide),
   fun t => by rw [k0_off54_eq _ _ (t3lt t)]; exact ok_S1x1x16x2048 (by omega) (by decide),
   fun t => by rw [k0_off56_eq _ _ (t3lt t)]; exact ok_S1x1x16x128 (by omega) (by decide),
   fun t => by rw [k0_off57_eq _ _ (t3lt t)]; exact ok_S1x1x16x128 (by omega) (by decide),
   fun t => by rw [k0_off58_eq _ _ (t3lt t)]; exact ok_S1x1x16x128 (by omega) (by decide),
   fun t => by rw [k0_off59_eq _ _ (t3lt t)]; exact ok_S1x1x16x2048 (by omega) (by decide),
   fun t => by rw [k0_off60_eq _ _ (t3lt t)]; exact ok_S1x256x2048 (by omega) (by decide),
   fun t => by rw [k0_off61_eq _ _ (t3lt t)]; exact ok_S1x1x16x128 (by omega) (by decide),
   fun t => by rw [k0_off62_eq _ _ (t3lt t)]; exact ok_S1x1x16x2048 (by omega) (by decide),
   fun t => by rw [k0_off63_eq _ _ (t3lt t)]; exact ok_S1x256x2048 (by omega) (by decide),
   (t4_bounds hn).2,
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _)⟩
set_option maxHeartbeats 2000000 in
theorem k0_chk7_1_ok {n : ℕ} (hn : n < 300) : k0_chk7_1 (BitVec.ofNat 32 n) := by
  have t3lt : ∀ t : Fin (k0_t3_loop (BitVec.ofNat 32 n)).trips, t.val < 300 := fun t => lt_of_lt_of_le t.isLt (by rw [(t3_bounds hn).1]; omega)
  have t4e := (t4_bounds hn).1
  exact ⟨fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _),
   fun t => absurd (lt_of_lt_of_eq t.isLt t4e) (Nat.not_lt_zero _)⟩
theorem k0_chk7_ok {n : ℕ} (hn : n < 300) : k0_chk7 (BitVec.ofNat 32 n) := ⟨k0_chk7_0_ok hn, k0_chk7_1_ok hn⟩

end Cert.KernelIdeal.Hand
end
-- ==== Proof.KI.Ring.lean ====
module

public import proofs.«01_k».proof.Proof.KI.Base
public import proofs.«01_k».proof.Proof.KI.Words
public import Idealize.ShloMosaic.Lib.Transfers

@[expose] public section
noncomputable section
namespace Cert.KernelIdeal.Hand
open Cert.KernelIdeal Cert.KernelIdeal.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (Pipeline.UD sig nD τ) ℕ

/-- The keys' four cells and the values' four cells. -/
abbrev A18 : DmaSems sig S4 := cc0_scratch9
abbrev A19 : DmaSems sig S4 := cc0_scratch10
def semK (i : ℕ) : DmaSem sig := (⟨7 + i % 4, by show 7 + i % 4 < 15; omega⟩ : Fin 15)
def semV (i : ℕ) : DmaSem sig := (⟨11 + i % 4, by show 11 + i % 4 < 15; omega⟩ : Fin 15)

omit [FloatOps F] [Named F] in
theorem cred_pos {n : ℕ} (hn : 0 < n) {b : Ref sig .tc} : 0 < b.dmaCredit (⟨2, ![512, n]⟩ : Shape) .fp8e4m3 := by
  refine sig.dmaCredit_pos _ _ _ _ _ ?_
  show 0 < ∏ a, (![512, n] : Fin 2 → ℕ) a
  rw [Fin.prod_univ_two]
  show 0 < 512 * n
  omega

theorem wp_asm (c : Dev nD) {p : Prop} {dec : Decidable p} (hp : p) {Q : PLift p → sProp 𝕄} :
    (Q ⟨hp⟩) ⊢ wp frame (wpE (defs₀ (F := F)) Variants.none (c : Thread nD τ) none) Set.univ (Prog.lift (TpuEff.assume p dec)) Q := by
  iintro H
  iapply (wp_assume Variants.none (c : Thread nD τ) none Set.univ hp)
  rw [wp_ret]
  imodintro
  iexact H

/-! ## The keys' ring -/

theorem semK_eq {i : ℕ} (hi : i < 4) {inb : ∀ a, (![i] : Fin 1 → ℕ) a + S1.size a ≤ S4.size a} :
    ((A18.slice (Rect.unit (s := S4) ![i] S1.size inb)).squeeze S_ squeezes_S1_S_).sem = semK i := by
  have e : ((A18.slice (Rect.unit (s := S4) ![i] S1.size inb)).squeeze S_ squeezes_S1_S_).sem = A18.ix (fun a => (⟨i, by fin_cases a; exact hi⟩ : Fin (S4.size a))) := by
    show A18.ix ((Rect.unit (s := S4) ![i] S1.size inb).emb (Shape.reshapeEquiv squeezes_S1_S_.numel_eq (fun i => i.elim0))) = _
    congr 1
    generalize Shape.reshapeEquiv squeezes_S1_S_.numel_eq (fun i => i.elim0) = z
    funext a
    apply Fin.ext
    have h0 : (z 0).val < 1 := (z 0).isLt
    obtain rfl : a = 0 := Subsingleton.elim _ _
    show i + 1 * (z 0).val = i
    omega
  rw [e]
  obtain rfl | rfl | rfl | rfl : i = 0 ∨ i = 1 ∨ i = 2 ∨ i = 3 := by omega
  all_goals (clear e inb; revert hi; decide)

section K
variable (c : Dev nD) (X : Vec F S16x512x32768 .fp8e4m3)

/-- Slot `i` idle: its elements at `f`, its cell at zero, and the slot's share of the cache. -/
def FreeK (i : ℕ) (f : Vec F S4x512x2048 .fp8e4m3) : sProp 𝕄 :=
  iprop((A9.view.loc (c : Thread nD τ) ↦[slot i]{fullShare} f) ∗ semVal ((c : Thread nD τ), SemLoc.dma (semK i)) 0
    ∗ (A6.view.loc (c : Thread nD τ) ↦{Transfers.shareTokN fullShare i} X))
/-- Slot `i` being filled with `n` columns, after which it holds `f`. -/
def FlyK (i n : ℕ) (f : Vec F S4x512x2048 .fp8e4m3) : sProp 𝕄 :=
  iprop(∃ win : Finset S16x512x32768.Idx,
    Transfers.Flight countersEmb (c : Thread nD τ) (SemLoc.dma (semK i)) () (cc0_scratch0.dmaCredit (⟨2, ![512, n]⟩ : Shape) .fp8e4m3)
      iprop((A9.view.loc (c : Thread nD τ) ↦[slot i]{fullShare} f) ∗ (A6.view.loc (c : Thread nD τ) ↦[win]{Transfers.shareTokN fullShare i} X))
    ∗ (A6.view.loc (c : Thread nD τ) ↦[Finset.univ \ win]{Transfers.shareTokN fullShare i} X))

theorem slotK_sub {i n : ℕ} {inb3 : ∀ a, (![1, 512, n] : Fin 3 → ℕ) a = 0 ∨ (![i, 0, 0] : Fin 3 → ℕ) a + (![1, 512, n] : Fin 3 → ℕ) a ≤ S4x512x2048.size a}
    {hs3} {sq : Shape.Squeezes ⟨3, ![1, 512, n]⟩ ⟨2, ![512, n]⟩} :
    ((A9.slice (Rect.unitDyn (s := S4x512x2048) ![i, 0, 0] ![1, 512, n] inb3) hs3).squeeze ⟨2, ![512, n]⟩ sq).view.set ⊆ slot i := by
  intro y hy
  obtain ⟨w, -, hw⟩ := Finset.mem_map.mp hy
  have e : y = (Rect.unitDyn (s := S4x512x2048) ![i, 0, 0] ![1, 512, n] inb3).emb (Shape.reshapeEquiv sq.numel_eq w) := hw.symm
  generalize Shape.reshapeEquiv sq.numel_eq w = z at e
  have h0 : (z 0).val < 1 := (z 0).isLt
  have e0 : (y 0).val = i + 1 * (z 0).val := by rw [e]; rfl
  exact Finset.mem_filter.mpr ⟨Finset.mem_univ _, by omega⟩

theorem wp_fetchK {i b o n : ℕ} {o3 o4 : (Fin 3 → ℕ) × (Fin 3 → ℕ)} {sz : Fin 2 → ℕ} {os : Fin 1 → ℕ}
    (e3 : o3 = (![i, 0, 0], ![1, 512, n])) (e4 : o4 = (![b, 0, o], ![1, 512, n])) (es : sz = ![512, n]) (eo : os = ![i]) (hi : i < 4) (hn : 0 < n)
    {inbs : ∀ a, os a + S1.size a ≤ S4.size a}
    {inb3 : ∀ a, o3.2 a = 0 ∨ o3.1 a + o3.2 a ≤ S4x512x2048.size a} {inb4 : ∀ a, o4.2 a = 0 ∨ o4.1 a + o4.2 a ≤ S16x512x32768.size a}
    {hs3 : ∀ a : Fin S4x512x2048.rank, (Rect.unitDyn (s := S4x512x2048) o3.1 o3.2 inb3).stride a = 1} {hs4 : ∀ a : Fin S16x512x32768.rank, (Rect.unitDyn (s := S16x512x32768) o4.1 o4.2 inb4).stride a = 1}
    {sq3 : Shape.Squeezes ⟨3, o3.2⟩ ⟨2, sz⟩} {sq4 : Shape.Squeezes ⟨3, o4.2⟩ ⟨2, sz⟩} {hw1 hw2 hsem}
    (f : Vec F S4x512x2048 .fp8e4m3) {Q : PUnit → sProp 𝕄} :
    FreeK c X i f ⊢ iprop((FlyK c X i n (fetched X b o n i f) -∗ Q ⟨⟩)
      -∗ wp frame (wpE (defs₀ (F := F)) Variants.none (c : Thread nD τ) none) Set.univ
        (Prog.lift (.enqueueDma ((A6.slice (Rect.unitDyn (s := S16x512x32768) o4.1 o4.2 inb4) hs4).squeeze (⟨2, sz⟩ : Shape) sq4)
          (.here ((A9.slice (Rect.unitDyn (s := S4x512x2048) o3.1 o3.2 inb3) hs3).squeeze (⟨2, sz⟩ : Shape) sq3))
          (.dma ((A18.slice (Rect.unit (s := S4) os S1.size inbs)).squeeze S_ squeezes_S1_S_).sem) hw1 hw2 hsem)) Q) := by
  subst e3 e4 es eo
  revert hsem
  rw [show ((A18.slice (Rect.unit (s := S4) ![i] S1.size inbs)).squeeze S_ squeezes_S1_S_).sem = semK i from semK_eq hi]
  intro hsem
  unfold FreeK FlyK
  iintro ⟨H9, Hs, H6⟩ HQ
  ihave ⟨H6a, H6b⟩ := (pointsTo_split_subset (Finset.subset_univ (((A6.slice (Rect.unitDyn (s := S16x512x32768) ![b, 0, o] ![1, 512, n] inb4) hs4).squeeze (⟨2, ![512, n]⟩ : Shape) sq4).view.set))).1 $$ H6
  iapply (Transfers.wp_dmaLocal countersEmb Variants.none (c : Thread nD τ) none () (cc0_scratch0.dmaCredit (⟨2, ![512, n]⟩ : Shape) .fp8e4m3) rfl (cred_pos hn) (slotK_sub (hs3 := hs3) (sq := sq3))) $$ [H9 Hs H6a]
  · isplitl [H6a]; · iexact H6a
    isplitl [H9]; · iexact H9
    iexact Hs
  iintro HF
  rw [wp_ret]
  imodintro
  iapply HQ
  iexists (((A6.slice (Rect.unitDyn (s := S16x512x32768) ![b, 0, o] ![1, 512, n] inb4) hs4).squeeze (⟨2, ![512, n]⟩ : Shape) sq4).view.set)
  isplitl [HF]
  · rw [← fetched_eq (inb3 := inb3) (inb4 := inb4) (hs3 := hs3) (hs4 := hs4) (sq := sq3) hn X f]
    iexact HF
  · iexact H6b

theorem wp_waitK {i n : ℕ} {sz : Fin 2 → ℕ} {os : Fin 1 → ℕ} (es : sz = ![512, n]) (eo : os = ![i]) (hi : i < 4)
    {inbs : ∀ a, os a + S1.size a ≤ S4.size a} {hk} {f : Vec F S4x512x2048 .fp8e4m3} {Q : PUnit → sProp 𝕄} :
    iprop(FlyK c X i n f ∗ (∃ W, owes (c : Thread nD τ) 0 W)) ⊢ iprop((FreeK c X i f ∗ (∃ W, owes (c : Thread nD τ) 0 W) -∗ Q ⟨⟩)
      -∗ wp frame (wpE (defs₀ (F := F)) Variants.none (c : Thread nD τ) none) Set.univ
        (Prog.lift (.waitDma ((A18.slice (Rect.unit (s := S4) os S1.size inbs)).squeeze S_ squeezes_S1_S_).sem A9.view.ref (⟨2, sz⟩ : Shape) .fp8e4m3 hk)) Q) := by
  subst es eo
  rw [show ((A18.slice (Rect.unit (s := S4) ![i] S1.size inbs)).squeeze S_ squeezes_S1_S_).sem = semK i from semK_eq hi]
  unfold FreeK FlyK
  iintro ⟨⟨%win, HF, H6b⟩, ⟨%W, HO⟩⟩ HQ
  iapply (Transfers.wp_waitLocalSized countersEmb Variants.none (c : Thread nD τ) none (b := cc0_scratch0) () rfl) $$ [HF HO]
  · isplitl [HF]; · iexact HF
    iexact HO
  iintro ⟨⟨H9, H6a⟩, Hs, HO⟩
  rw [wp_ret]
  imodintro
  iapply HQ
  isplitl [H9 H6a H6b Hs]
  · isplitl [H9]; · iexact H9
    isplitl [Hs]; · iexact Hs
    iapply (pointsTo_split_subset (Finset.subset_univ win)).2
    isplitl [H6a]; · iexact H6a
    iexact H6b
  · iexists _
    iexact HO

theorem wp_loadK {i r : ℕ} {os : Fin 3 → ℕ} (eo : os = ![i, r, 0]) {inb : ∀ a, os a + S1x256x2048.size a ≤ S4x512x2048.size a} {hl}
    {f : Vec F S4x512x2048 .fp8e4m3} {Q : (S1x256x2048.Idx → Elt F .fp8e4m3) → sProp 𝕄} :
    FreeK c X i f ⊢ iprop((FreeK c X i f -∗ Q (gt S4x512x2048 ![i, r, 0] S1x256x2048.size f))
      -∗ wp frame (wpE (defs₀ (F := F)) Variants.none (c : Thread nD τ) none) Set.univ
        (Prog.lift (.load A9 (Rect.unit (s := S4x512x2048) os S1x256x2048.size inb).toLoadRect hl)) Q) := by
  subst eo
  unfold FreeK
  iintro ⟨H9, Hs, H6⟩ HQ
  iapply (wp_load (m := A9) (S := slot i) (f := f) Variants.none (c : Thread nD τ) none Set.univ ?_) $$ H9
  · intro y hy
    obtain ⟨z, hz, rfl⟩ := Finset.mem_map.mp hy
    have hz' : z ∈ (Rect.unit (s := S4x512x2048) ![i, r, 0] S1x256x2048.size inb).set := hz
    rw [← Rect.map_emb_univ] at hz'
    obtain ⟨w, -, rfl⟩ := Finset.mem_map.mp hz'
    refine Finset.mem_filter.mpr ⟨Finset.mem_univ _, ?_⟩
    show i + 1 * (w 0).val = i
    have : (w 0).val < 1 := (w 0).isLt
    omega
  iintro H9
  rw [wp_ret]
  imodintro
  rw [show A9.view.readAt (Elt F) (Rect.unit (s := S4x512x2048) ![i, r, 0] S1x256x2048.size inb).toLoadRect f = gt S4x512x2048 ![i, r, 0] S1x256x2048.size f from ld9 rfl]
  iapply HQ
  isplitl [H9]; · iexact H9
  isplitl [Hs]; · iexact Hs
  iexact H6

end K

/-! ## The values' ring -/

theorem semV_eq {i : ℕ} (hi : i < 4) {inb : ∀ a, (![i] : Fin 1 → ℕ) a + S1.size a ≤ S4.size a} :
    ((A19.slice (Rect.unit (s := S4) ![i] S1.size inb)).squeeze S_ squeezes_S1_S_).sem = semV i := by
  have e : ((A19.slice (Rect.unit (s := S4) ![i] S1.size inb)).squeeze S_ squeezes_S1_S_).sem = A19.ix (fun a => (⟨i, by fin_cases a; exact hi⟩ : Fin (S4.size a))) := by
    show A19.ix ((Rect.unit (s := S4) ![i] S1.size inb).emb (Shape.reshapeEquiv squeezes_S1_S_.numel_eq (fun i => i.elim0))) = _
    congr 1
    generalize Shape.reshapeEquiv squeezes_S1_S_.numel_eq (fun i => i.elim0) = z
    funext a
    apply Fin.ext
    have h0 : (z 0).val < 1 := (z 0).isLt
    obtain rfl : a = 0 := Subsingleton.elim _ _
    show i + 1 * (z 0).val = i
    omega
  rw [e]
  obtain rfl | rfl | rfl | rfl : i = 0 ∨ i = 1 ∨ i = 2 ∨ i = 3 := by omega
  all_goals (clear e inb; revert hi; decide)

section V
variable (c : Dev nD) (X : Vec F S16x512x32768 .fp8e4m3)

/-- Slot `i` idle: its elements at `f`, its cell at zero, and the slot's share of the cache. -/
def FreeV (i : ℕ) (f : Vec F S4x512x2048 .fp8e4m3) : sProp 𝕄 :=
  iprop((A10.view.loc (c : Thread nD τ) ↦[slot i]{fullShare} f) ∗ semVal ((c : Thread nD τ), SemLoc.dma (semV i)) 0
    ∗ (A7.view.loc (c : Thread nD τ) ↦{Transfers.shareTokN fullShare i} X))
/-- Slot `i` being filled with `n` columns, after which it holds `f`. -/
def FlyV (i n : ℕ) (f : Vec F S4x512x2048 .fp8e4m3) : sProp 𝕄 :=
  iprop(∃ win : Finset S16x512x32768.Idx,
    Transfers.Flight countersEmb (c : Thread nD τ) (SemLoc.dma (semV i)) () (cc0_scratch1.dmaCredit (⟨2, ![512, n]⟩ : Shape) .fp8e4m3)
      iprop((A10.view.loc (c : Thread nD τ) ↦[slot i]{fullShare} f) ∗ (A7.view.loc (c : Thread nD τ) ↦[win]{Transfers.shareTokN fullShare i} X))
    ∗ (A7.view.loc (c : Thread nD τ) ↦[Finset.univ \ win]{Transfers.shareTokN fullShare i} X))

theorem slotV_sub {i n : ℕ} {inb3 : ∀ a, (![1, 512, n] : Fin 3 → ℕ) a = 0 ∨ (![i, 0, 0] : Fin 3 → ℕ) a + (![1, 512, n] : Fin 3 → ℕ) a ≤ S4x512x2048.size a}
    {hs3} {sq : Shape.Squeezes ⟨3, ![1, 512, n]⟩ ⟨2, ![512, n]⟩} :
    ((A10.slice (Rect.unitDyn (s := S4x512x2048) ![i, 0, 0] ![1, 512, n] inb3) hs3).squeeze ⟨2, ![512, n]⟩ sq).view.set ⊆ slot i := by
  intro y hy
  obtain ⟨w, -, hw⟩ := Finset.mem_map.mp hy
  have e : y = (Rect.unitDyn (s := S4x512x2048) ![i, 0, 0] ![1, 512, n] inb3).emb (Shape.reshapeEquiv sq.numel_eq w) := hw.symm
  generalize Shape.reshapeEquiv sq.numel_eq w = z at e
  have h0 : (z 0).val < 1 := (z 0).isLt
  have e0 : (y 0).val = i + 1 * (z 0).val := by rw [e]; rfl
  exact Finset.mem_filter.mpr ⟨Finset.mem_univ _, by omega⟩

theorem wp_fetchV {i b o n : ℕ} {o3 o4 : (Fin 3 → ℕ) × (Fin 3 → ℕ)} {sz : Fin 2 → ℕ} {os : Fin 1 → ℕ}
    (e3 : o3 = (![i, 0, 0], ![1, 512, n])) (e4 : o4 = (![b, 0, o], ![1, 512, n])) (es : sz = ![512, n]) (eo : os = ![i]) (hi : i < 4) (hn : 0 < n)
    {inbs : ∀ a, os a + S1.size a ≤ S4.size a}
    {inb3 : ∀ a, o3.2 a = 0 ∨ o3.1 a + o3.2 a ≤ S4x512x2048.size a} {inb4 : ∀ a, o4.2 a = 0 ∨ o4.1 a + o4.2 a ≤ S16x512x32768.size a}
    {hs3 : ∀ a : Fin S4x512x2048.rank, (Rect.unitDyn (s := S4x512x2048) o3.1 o3.2 inb3).stride a = 1} {hs4 : ∀ a : Fin S16x512x32768.rank, (Rect.unitDyn (s := S16x512x32768) o4.1 o4.2 inb4).stride a = 1}
    {sq3 : Shape.Squeezes ⟨3, o3.2⟩ ⟨2, sz⟩} {sq4 : Shape.Squeezes ⟨3, o4.2⟩ ⟨2, sz⟩} {hw1 hw2 hsem}
    (f : Vec F S4x512x2048 .fp8e4m3) {Q : PUnit → sProp 𝕄} :
    FreeV c X i f ⊢ iprop((FlyV c X i n (fetched X b o n i f) -∗ Q ⟨⟩)
      -∗ wp frame (wpE (defs₀ (F := F)) Variants.none (c : Thread nD τ) none) Set.univ
        (Prog.lift (.enqueueDma ((A7.slice (Rect.unitDyn (s := S16x512x32768) o4.1 o4.2 inb4) hs4).squeeze (⟨2, sz⟩ : Shape) sq4)
          (.here ((A10.slice (Rect.unitDyn (s := S4x512x2048) o3.1 o3.2 inb3) hs3).squeeze (⟨2, sz⟩ : Shape) sq3))
          (.dma ((A19.slice (Rect.unit (s := S4) os S1.size inbs)).squeeze S_ squeezes_S1_S_).sem) hw1 hw2 hsem)) Q) := by
  subst e3 e4 es eo
  revert hsem
  rw [show ((A19.slice (Rect.unit (s := S4) ![i] S1.size inbs)).squeeze S_ squeezes_S1_S_).sem = semV i from semV_eq hi]
  intro hsem
  unfold FreeV FlyV
  iintro ⟨H9, Hs, H6⟩ HQ
  ihave ⟨H6a, H6b⟩ := (pointsTo_split_subset (Finset.subset_univ (((A7.slice (Rect.unitDyn (s := S16x512x32768) ![b, 0, o] ![1, 512, n] inb4) hs4).squeeze (⟨2, ![512, n]⟩ : Shape) sq4).view.set))).1 $$ H6
  iapply (Transfers.wp_dmaLocal countersEmb Variants.none (c : Thread nD τ) none () (cc0_scratch1.dmaCredit (⟨2, ![512, n]⟩ : Shape) .fp8e4m3) rfl (cred_pos hn) (slotV_sub (hs3 := hs3) (sq := sq3))) $$ [H9 Hs H6a]
  · isplitl [H6a]; · iexact H6a
    isplitl [H9]; · iexact H9
    iexact Hs
  iintro HF
  rw [wp_ret]
  imodintro
  iapply HQ
  iexists (((A7.slice (Rect.unitDyn (s := S16x512x32768) ![b, 0, o] ![1, 512, n] inb4) hs4).squeeze (⟨2, ![512, n]⟩ : Shape) sq4).view.set)
  isplitl [HF]
  · rw [← fetched_eqV (inb3 := inb3) (inb4 := inb4) (hs3 := hs3) (hs4 := hs4) (sq := sq3) hn X f]
    iexact HF
  · iexact H6b

theorem wp_waitV {i n : ℕ} {sz : Fin 2 → ℕ} {os : Fin 1 → ℕ} (es : sz = ![512, n]) (eo : os = ![i]) (hi : i < 4)
    {inbs : ∀ a, os a + S1.size a ≤ S4.size a} {hk} {f : Vec F S4x512x2048 .fp8e4m3} {Q : PUnit → sProp 𝕄} :
    iprop(FlyV c X i n f ∗ (∃ W, owes (c : Thread nD τ) 0 W)) ⊢ iprop((FreeV c X i f ∗ (∃ W, owes (c : Thread nD τ) 0 W) -∗ Q ⟨⟩)
      -∗ wp frame (wpE (defs₀ (F := F)) Variants.none (c : Thread nD τ) none) Set.univ
        (Prog.lift (.waitDma ((A19.slice (Rect.unit (s := S4) os S1.size inbs)).squeeze S_ squeezes_S1_S_).sem A10.view.ref (⟨2, sz⟩ : Shape) .fp8e4m3 hk)) Q) := by
  subst es eo
  rw [show ((A19.slice (Rect.unit (s := S4) ![i] S1.size inbs)).squeeze S_ squeezes_S1_S_).sem = semV i from semV_eq hi]
  unfold FreeV FlyV
  iintro ⟨⟨%win, HF, H6b⟩, ⟨%W, HO⟩⟩ HQ
  iapply (Transfers.wp_waitLocalSized countersEmb Variants.none (c : Thread nD τ) none (b := cc0_scratch1) () rfl) $$ [HF HO]
  · isplitl [HF]; · iexact HF
    iexact HO
  iintro ⟨⟨H9, H6a⟩, Hs, HO⟩
  rw [wp_ret]
  imodintro
  iapply HQ
  isplitl [H9 H6a H6b Hs]
  · isplitl [H9]; · iexact H9
    isplitl [Hs]; · iexact Hs
    iapply (pointsTo_split_subset (Finset.subset_univ win)).2
    isplitl [H6a]; · iexact H6a
    iexact H6b
  · iexists _
    iexact HO

theorem wp_loadV {i r : ℕ} {os : Fin 3 → ℕ} (eo : os = ![i, r, 0]) {inb : ∀ a, os a + S1x256x2048.size a ≤ S4x512x2048.size a} {hl}
    {f : Vec F S4x512x2048 .fp8e4m3} {Q : (S1x256x2048.Idx → Elt F .fp8e4m3) → sProp 𝕄} :
    FreeV c X i f ⊢ iprop((FreeV c X i f -∗ Q (gt S4x512x2048 ![i, r, 0] S1x256x2048.size f))
      -∗ wp frame (wpE (defs₀ (F := F)) Variants.none (c : Thread nD τ) none) Set.univ
        (Prog.lift (.load A10 (Rect.unit (s := S4x512x2048) os S1x256x2048.size inb).toLoadRect hl)) Q) := by
  subst eo
  unfold FreeV
  iintro ⟨H9, Hs, H6⟩ HQ
  iapply (wp_load (m := A10) (S := slot i) (f := f) Variants.none (c : Thread nD τ) none Set.univ ?_) $$ H9
  · intro y hy
    obtain ⟨z, hz, rfl⟩ := Finset.mem_map.mp hy
    have hz' : z ∈ (Rect.unit (s := S4x512x2048) ![i, r, 0] S1x256x2048.size inb).set := hz
    rw [← Rect.map_emb_univ] at hz'
    obtain ⟨w, -, rfl⟩ := Finset.mem_map.mp hz'
    refine Finset.mem_filter.mpr ⟨Finset.mem_univ _, ?_⟩
    show i + 1 * (w 0).val = i
    have : (w 0).val < 1 := (w 0).isLt
    omega
  iintro H9
  rw [wp_ret]
  imodintro
  rw [show A10.view.readAt (Elt F) (Rect.unit (s := S4x512x2048) ![i, r, 0] S1x256x2048.size inb).toLoadRect f = gt S4x512x2048 ![i, r, 0] S1x256x2048.size f from ld10 rfl]
  iapply HQ
  isplitl [H9]; · iexact H9
  isplitl [Hs]; · iexact Hs
  iexact H6

end V

end Cert.KernelIdeal.Hand
end
-- ==== Proof.KI.Parts.lean ====
module

public import proofs.«01_k».proof.Proof.KI.Ring

@[expose] public section
noncomputable section
namespace Cert.KernelIdeal.Hand
open Cert.KernelIdeal Cert.KernelIdeal.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (Pipeline.UD sig nD τ) ℕ

/-- What the kernel reads: the eight operands. -/
structure Ins (F : FTy → Type) where
  lens : Vec F S16 .i32
  ks : Vec F S8 .f32
  vs : Vec F S8 .f32
  x : Vec F S16x32x64 .bf16
  kn : Vec F S16x8x64 .bf16
  vn : Vec F S16x8x64 .bf16
  XK : Vec F S16x512x32768 .fp8e4m3
  XV : Vec F S16x512x32768 .fp8e4m3
/-- What the kernel's vector memory holds besides the rings: the result and the seven scratch buffers. -/
structure St (F : FTy → Type) where
  f8 : Vec F S16x32x64 .bf16
  f11 : Vec F S2x2x16x2048 .f32
  f12 : Vec F S16x2x16x256 .bf16
  f13 : Vec F S16x32x128 .f32
  f14 : Vec F S2x2x16x128 .f32
  f15 : Vec F S2x2x16x128 .f32
  f16 : Vec F S2x16x128 .f32
  f17 : Vec F S2x16x256 .f32

def inp (c : Dev nD) (I : Ins F) : sProp 𝕄 :=
  iprop((A0.view.loc (c : Thread nD τ) ↦{fullShare} I.lens) ∗ (A1.view.loc (c : Thread nD τ) ↦{fullShare} I.ks) ∗ (A2.view.loc (c : Thread nD τ) ↦{fullShare} I.vs)
    ∗ (A3.view.loc (c : Thread nD τ) ↦{fullShare} I.x) ∗ (A4.view.loc (c : Thread nD τ) ↦{fullShare} I.kn) ∗ (A5.view.loc (c : Thread nD τ) ↦{fullShare} I.vn))
def pts (c : Dev nD) (s : St F) : sProp 𝕄 :=
  iprop((A8.view.loc (c : Thread nD τ) ↦{fullShare} s.f8) ∗ (A11.view.loc (c : Thread nD τ) ↦{fullShare} s.f11) ∗ (A12.view.loc (c : Thread nD τ) ↦{fullShare} s.f12)
    ∗ (A13.view.loc (c : Thread nD τ) ↦{fullShare} s.f13) ∗ (A14.view.loc (c : Thread nD τ) ↦{fullShare} s.f14) ∗ (A15.view.loc (c : Thread nD τ) ↦{fullShare} s.f15)
    ∗ (A16.view.loc (c : Thread nD τ) ↦{fullShare} s.f16) ∗ (A17.view.loc (c : Thread nD τ) ↦{fullShare} s.f17))
def all (c : Dev nD) (I : Ins F) (s : St F) : sProp 𝕄 := iprop(inp c I ∗ pts c s)

/-- Word `n` of the lengths, and of a vector of scales. -/
def lw (f : Vec F S16 .i32) (n : ℕ) : BitVec 32 := f (fun a => (⟨n % 16, by fin_cases a; show n % 16 < 16; omega⟩ : Fin (S16.size a)))
def sw (f : Vec F S8 .f32) (n : ℕ) : F .f32 := f (fun a => (⟨n % 8, by fin_cases a; show n % 8 < 8; omega⟩ : Fin (S8.size a)))

section
variable (c : Dev nD)
theorem wp_s0 {n : ℕ} {os : Fin 1 → ℕ} (eo : os = ![n]) {inb : ∀ a, os a + S1.size a ≤ S16.size a} {h1 hp} {f : Vec F S16 .i32} {Q : BitVec 32 → sProp 𝕄} :
    (A0.view.loc (c : Thread nD τ) ↦{fullShare} f) ⊢ iprop(((A0.view.loc (c : Thread nD τ) ↦{fullShare} f) -∗ Q (lw f n))
      -∗ wp frame (wpE (defs₀ (F := F)) Variants.none (c : Thread nD τ) none) Set.univ (smemLoad A0 (Rect.unit (s := S16) os S1.size inb) h1 hp) Q) := by
  subst eo
  have e : (A0.access (Rect.unit (s := S16) ![n] S1.size inb)).read (Elt F) f (Shape.Idx.first (h1.symm ▸ Nat.one_pos)) = lw f n := by
    show f ((Rect.unit (s := S16) ![n] S1.size inb).emb (Shape.Idx.first (h1.symm ▸ Nat.one_pos))) = _
    unfold lw
    congr 1
    funext a
    apply Fin.ext
    obtain rfl : a = 0 := Subsingleton.elim _ _
    have h2 : n + 1 ≤ 16 := inb 0
    generalize Shape.Idx.first (s := (Rect.unit (s := S16) ![n] S1.size inb).shape) (h1.symm ▸ Nat.one_pos) = z
    have h0' : (z 0).val < 1 := (z 0).isLt
    show n + 1 * (z 0).val = n % 16
    omega
  rw [← e]
  exact wp_sld c (m := A0)
theorem wp_s1 {n : ℕ} {inb : ∀ a, (![n] : Fin 1 → ℕ) a + S1.size a ≤ S8.size a} {h1 hp} {f : Vec F S8 .f32} {Q : F .f32 → sProp 𝕄} :
    (A1.view.loc (c : Thread nD τ) ↦{fullShare} f) ⊢ iprop(((A1.view.loc (c : Thread nD τ) ↦{fullShare} f) -∗ Q (sw f n))
      -∗ wp frame (wpE (defs₀ (F := F)) Variants.none (c : Thread nD τ) none) Set.univ (smemLoad A1 (Rect.unit (s := S8) ![n] S1.size inb) h1 hp) Q) := by
  have e : (A1.access (Rect.unit (s := S8) ![n] S1.size inb)).read (Elt F) f (Shape.Idx.first (h1.symm ▸ Nat.one_pos)) = sw f n := by
    show f ((Rect.unit (s := S8) ![n] S1.size inb).emb (Shape.Idx.first (h1.symm ▸ Nat.one_pos))) = _
    unfold sw
    congr 1
    funext a
    apply Fin.ext
    obtain rfl : a = 0 := Subsingleton.elim _ _
    have h2 : n + 1 ≤ 8 := inb 0
    generalize Shape.Idx.first (s := (Rect.unit (s := S8) ![n] S1.size inb).shape) (h1.symm ▸ Nat.one_pos) = z
    have h0' : (z 0).val < 1 := (z 0).isLt
    show n + 1 * (z 0).val = n % 8
    omega
  rw [← e]
  exact wp_sld c (m := A1)
theorem wp_s2 {n : ℕ} {inb : ∀ a, (![n] : Fin 1 → ℕ) a + S1.size a ≤ S8.size a} {h1 hp} {f : Vec F S8 .f32} {Q : F .f32 → sProp 𝕄} :
    (A2.view.loc (c : Thread nD τ) ↦{fullShare} f) ⊢ iprop(((A2.view.loc (c : Thread nD τ) ↦{fullShare} f) -∗ Q (sw f n))
      -∗ wp frame (wpE (defs₀ (F := F)) Variants.none (c : Thread nD τ) none) Set.univ (smemLoad A2 (Rect.unit (s := S8) ![n] S1.size inb) h1 hp) Q) := by
  have e : (A2.access (Rect.unit (s := S8) ![n] S1.size inb)).read (Elt F) f (Shape.Idx.first (h1.symm ▸ Nat.one_pos)) = sw f n := by
    show f ((Rect.unit (s := S8) ![n] S1.size inb).emb (Shape.Idx.first (h1.symm ▸ Nat.one_pos))) = _
    unfold sw
    congr 1
    funext a
    apply Fin.ext
    obtain rfl : a = 0 := Subsingleton.elim _ _
    have h2 : n + 1 ≤ 8 := inb 0
    generalize Shape.Idx.first (s := (Rect.unit (s := S8) ![n] S1.size inb).shape) (h1.symm ▸ Nat.one_pos) = z
    have h0' : (z 0).val < 1 := (z 0).isLt
    show n + 1 * (z 0).val = n % 8
    omega
  rw [← e]
  exact wp_sld c (m := A2)
end

def r22 (v62 : IVec S64x256 32) (I : Ins F) (s : St F) : Σ' (v67 : FVec F S64x256 .bf16) (v97 : FVec F S32x8 .bf16) (v98 : IVec S16x256 32) (c4_i32_48 : BitVec 32) (v100 : IVec S16x256 32) (v107 : IVec S16x256 32) (v109 : BitVec 32), BitVec 1 :=
  let v98 : IVec S16x256 32 := iota .tc S16x256 32 [0] iota_S16x256_d0_w32
  let v108 : BitVec 1 := Scalar.cmpi .sgt 4#32 0#32
  let v109 : BitVec 32 := Scalar.extui v108
  let v110 : BitVec 1 := Scalar.cmpi .slt 4#32 0#32
  ⟨k0_pay83 (F := F) v62, k0_pay84 (F := F), v98, 4#32, k0_pay85, k0_pay86, v109, v110⟩
theorem part22_wp (c : Dev nD) (I : Ins F) (s : St F) (v62 : IVec S64x256 32) {Q : (Σ' (v67 : FVec F S64x256 .bf16) (v97 : FVec F S32x8 .bf16) (v98 : IVec S16x256 32) (c4_i32_48 : BitVec 32) (v100 : IVec S16x256 32) (v107 : IVec S16x256 32) (v109 : BitVec 32), BitVec 1) → sProp 𝕄} :
    iprop(all c I s) ⊢ iprop(((all c I s) -∗ Q (r22 v62 I s))
      -∗ wp frame (wpE (defs₀ (F := F)) Variants.none (c : Thread nD τ) none) Set.univ (k0_part22 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v62) Q) := by
  rw [k0_part22_eq_skeleton]
  unfold k0_part22_skel all inp pts r22
  simp only [wp_bind]
  iintro ⟨⟨H0, H1, H2, H3, H4, H5⟩, H8, H11, H12, H13, H14, H15, H16, H17⟩ HQ
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r23 (v98 : IVec S16x256 32) (c4_i32_48 : BitVec 32) (v100 : IVec S16x256 32) (v107 : IVec S16x256 32) (v109 : BitVec 32) (v110 : BitVec 1) (I : Ins F) (s : St F) : Σ' (v148 : IVec S16x256 1) (v149 : IVec S16x1 32) (c4_i32_62 : BitVec 32) (v151 : IVec S16x1 32), IVec S16x1 32 :=
  let v149 : IVec S16x1 32 := iota .tc S16x1 32 [0] iota_S16x1_d0_w32
  ⟨k0_pay87 v98 c4_i32_48 v100 v107 v109 v110, v149, 4#32, k0_pay88, k0_pay89⟩
theorem part23_wp (c : Dev nD) (I : Ins F) (s : St F) (v98 : IVec S16x256 32) (c4_i32_48 : BitVec 32) (v100 : IVec S16x256 32) (v107 : IVec S16x256 32) (v109 : BitVec 32) (v110 : BitVec 1) {Q : (Σ' (v148 : IVec S16x256 1) (v149 : IVec S16x1 32) (c4_i32_62 : BitVec 32) (v151 : IVec S16x1 32), IVec S16x1 32) → sProp 𝕄} :
    iprop(all c I s) ⊢ iprop(((all c I s) -∗ Q (r23 v98 c4_i32_48 v100 v107 v109 v110 I s))
      -∗ wp frame (wpE (defs₀ (F := F)) Variants.none (c : Thread nD τ) none) Set.univ (k0_part23 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v98 c4_i32_48 v100 v107 v109 v110) Q) := by
  rw [k0_part23_eq_skeleton]
  unfold k0_part23_skel all inp pts r23
  simp only [wp_bind]
  iintro ⟨⟨H0, H1, H2, H3, H4, H5⟩, H8, H11, H12, H13, H14, H15, H16, H17⟩ HQ
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r24 (v149 : IVec S16x1 32) (c4_i32_62 : BitVec 32) (v151 : IVec S16x1 32) (v158 : IVec S16x1 32) (I : Ins F) (s : St F) : Σ' (v195 : FVec F S16x1 .bf16) (v196 : IVec S16x1 32) (c4_i32_73 : BitVec 32) (v198 : IVec S16x1 32) (v201 : IVec S16x1 32), IVec S16x1 32 :=
  let v177 : F .f32 := sw I.ks 0
  let v182 : F .f32 := sw I.ks 1
  let v187 : F .f32 := sw I.ks 2
  let v192 : F .f32 := sw I.ks 3
  let v196 : IVec S16x1 32 := iota .tc S16x1 32 [0] iota_S16x1_d0_w32
  ⟨k0_pay90 v149 c4_i32_62 v151 v158 v177 v182 v187 v192, v196, 4#32, k0_pay91, k0_pay92, k0_pay93⟩
theorem part24_wp (c : Dev nD) (I : Ins F) (s : St F) (v149 : IVec S16x1 32) (c4_i32_62 : BitVec 32) (v151 : IVec S16x1 32) (v158 : IVec S16x1 32) {Q : (Σ' (v195 : FVec F S16x1 .bf16) (v196 : IVec S16x1 32) (c4_i32_73 : BitVec 32) (v198 : IVec S16x1 32) (v201 : IVec S16x1 32), IVec S16x1 32) → sProp 𝕄} :
    iprop(all c I s) ⊢ iprop(((all c I s) -∗ Q (r24 v149 c4_i32_62 v151 v158 I s))
      -∗ wp frame (wpE (defs₀ (F := F)) Variants.none (c : Thread nD τ) none) Set.univ (k0_part24 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v149 c4_i32_62 v151 v158) Q) := by
  rw [k0_part24_eq_skeleton]
  unfold k0_part24_skel all inp pts r24
  simp only [wp_bind]
  iintro ⟨⟨H0, H1, H2, H3, H4, H5⟩, H8, H11, H12, H13, H14, H15, H16, H17⟩ HQ
  iapply (wp_s1 c) $$ H1
  iintro H1
  iapply (wp_s1 c) $$ H1
  iintro H1
  iapply (wp_s1 c) $$ H1
  iintro H1
  iapply (wp_s1 c) $$ H1
  iintro H1
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r25 (v196 : IVec S16x1 32) (c4_i32_73 : BitVec 32) (v198 : IVec S16x1 32) (v201 : IVec S16x1 32) (v202 : IVec S16x1 32) (I : Ins F) (s : St F) : Σ' (v242 : FVec F S16x1 .bf16) (v243 : IVec S16x1 32) (c4_i32_85 : BitVec 32) (v245 : IVec S16x1 32), IVec S16x1 1 :=
  let v224 : F .f32 := sw I.ks 4
  let v229 : F .f32 := sw I.ks 5
  let v234 : F .f32 := sw I.ks 6
  let v239 : F .f32 := sw I.ks 7
  let v243 : IVec S16x1 32 := iota .tc S16x1 32 [0] iota_S16x1_d0_w32
  ⟨k0_pay94 v196 c4_i32_73 v198 v201 v202 v224 v229 v234 v239, v243, 4#32, k0_pay95, k0_pay96⟩
theorem part25_wp (c : Dev nD) (I : Ins F) (s : St F) (v196 : IVec S16x1 32) (c4_i32_73 : BitVec 32) (v198 : IVec S16x1 32) (v201 : IVec S16x1 32) (v202 : IVec S16x1 32) {Q : (Σ' (v242 : FVec F S16x1 .bf16) (v243 : IVec S16x1 32) (c4_i32_85 : BitVec 32) (v245 : IVec S16x1 32), IVec S16x1 1) → sProp 𝕄} :
    iprop(all c I s) ⊢ iprop(((all c I s) -∗ Q (r25 v196 c4_i32_73 v198 v201 v202 I s))
      -∗ wp frame (wpE (defs₀ (F := F)) Variants.none (c : Thread nD τ) none) Set.univ (k0_part25 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v196 c4_i32_73 v198 v201 v202) Q) := by
  rw [k0_part25_eq_skeleton]
  unfold k0_part25_skel all inp pts r25
  simp only [wp_bind]
  iintro ⟨⟨H0, H1, H2, H3, H4, H5⟩, H8, H11, H12, H13, H14, H15, H16, H17⟩ HQ
  iapply (wp_s1 c) $$ H1
  iintro H1
  iapply (wp_s1 c) $$ H1
  iintro H1
  iapply (wp_s1 c) $$ H1
  iintro H1
  iapply (wp_s1 c) $$ H1
  iintro H1
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r26 (v243 : IVec S16x1 32) (c4_i32_85 : BitVec 32) (v245 : IVec S16x1 32) (v247 : IVec S16x1 1) (I : Ins F) (s : St F) : Σ' (v288 : FVec F S16x1 .f32) (v289 : IVec S16x1 32) (c4_i32_101 : BitVec 32) (v291 : IVec S16x1 32), BitVec 32 :=
  let v271 : F .f32 := sw I.vs 0
  let v276 : F .f32 := sw I.vs 1
  let v281 : F .f32 := sw I.vs 2
  let v286 : F .f32 := sw I.vs 3
  let v289 : IVec S16x1 32 := iota .tc S16x1 32 [0] iota_S16x1_d0_w32
  ⟨k0_pay97 v243 c4_i32_85 v245 v247 v271 v276 v281 v286, v289, 4#32, k0_pay98, 0#32⟩
theorem part26_wp (c : Dev nD) (I : Ins F) (s : St F) (v243 : IVec S16x1 32) (c4_i32_85 : BitVec 32) (v245 : IVec S16x1 32) (v247 : IVec S16x1 1) {Q : (Σ' (v288 : FVec F S16x1 .f32) (v289 : IVec S16x1 32) (c4_i32_101 : BitVec 32) (v291 : IVec S16x1 32), BitVec 32) → sProp 𝕄} :
    iprop(all c I s) ⊢ iprop(((all c I s) -∗ Q (r26 v243 c4_i32_85 v245 v247 I s))
      -∗ wp frame (wpE (defs₀ (F := F)) Variants.none (c : Thread nD τ) none) Set.univ (k0_part26 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v243 c4_i32_85 v245 v247) Q) := by
  rw [k0_part26_eq_skeleton]
  unfold k0_part26_skel all inp pts r26
  simp only [wp_bind]
  iintro ⟨⟨H0, H1, H2, H3, H4, H5⟩, H8, H11, H12, H13, H14, H15, H16, H17⟩ HQ
  iapply (wp_s2 c) $$ H2
  iintro H2
  iapply (wp_s2 c) $$ H2
  iintro H2
  iapply (wp_s2 c) $$ H2
  iintro H2
  iapply (wp_s2 c) $$ H2
  iintro H2
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r27 (v289 : IVec S16x1 32) (c4_i32_101 : BitVec 32) (v291 : IVec S16x1 32) (c0_i32_102 : BitVec 32) (I : Ins F) (s : St F) : Σ' (v334 : FVec F S16x1 .f32), BitVec 32 :=
  let v317 : F .f32 := sw I.vs 4
  let v322 : F .f32 := sw I.vs 5
  let v327 : F .f32 := sw I.vs 6
  let v332 : F .f32 := sw I.vs 7
  ⟨k0_pay99 v289 c4_i32_101 v291 c0_i32_102 v317 v322 v327 v332, 0#32⟩
theorem part27_wp (c : Dev nD) (I : Ins F) (s : St F) (v289 : IVec S16x1 32) (c4_i32_101 : BitVec 32) (v291 : IVec S16x1 32) (c0_i32_102 : BitVec 32) {Q : (Σ' (v334 : FVec F S16x1 .f32), BitVec 32) → sProp 𝕄} :
    iprop(all c I s) ⊢ iprop(((all c I s) -∗ Q (r27 v289 c4_i32_101 v291 c0_i32_102 I s))
      -∗ wp frame (wpE (defs₀ (F := F)) Variants.none (c : Thread nD τ) none) Set.univ (k0_part27 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v289 c4_i32_101 v291 c0_i32_102) Q) := by
  rw [k0_part27_eq_skeleton]
  unfold k0_part27_skel all inp pts r27
  simp only [wp_bind]
  iintro ⟨⟨H0, H1, H2, H3, H4, H5⟩, H8, H11, H12, H13, H14, H15, H16, H17⟩ HQ
  iapply (wp_s2 c) $$ H2
  iintro H2
  iapply (wp_s2 c) $$ H2
  iintro H2
  iapply (wp_s2 c) $$ H2
  iintro H2
  iapply (wp_s2 c) $$ H2
  iintro H2
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m1 (t : ℕ) (v67 : FVec F S64x256 .bf16) (v97 : FVec F S32x8 .bf16) (v148 : IVec S16x256 1) (v195 : FVec F S16x1 .bf16) (v242 : FVec F S16x1 .bf16) (c0_i32_117 : BitVec 32) (c1_i32_119 : BitVec 32) (I : Ins F) (s : St F) : St F :=
  let v443 : Vec F S1x32x64 .bf16 := gt S16x32x64 ![t, 0, 0] S1x32x64.size I.x
  let v446 : Vec F S1x8x64 .bf16 := gt S16x8x64 ![t, 0, 0] S1x8x64.size I.kn
  let v456 : Vec F S1x32x128 .f32 := gt S16x32x128 ![t, 0, 0] S1x32x128.size s.f13
  let g13_1 := pt S16x32x128 ![t, 0, 0] S1x32x128.size s.f13 (k0_pay9 v97 v443 v446)
  let v467 : Vec F S1x1x16x256 .bf16 := gt S16x2x16x256 ![t, 0, 0, 0] S1x1x16x256.size s.f12
  let g12_2 := pt S16x2x16x256 ![t, 0, 0, 0] S1x1x16x256.size s.f12 (k0_pay10 v67 v148 v195 v443)
  let v478 : Vec F S1x1x16x256 .bf16 := gt S16x2x16x256 ![t, 1, 0, 0] S1x1x16x256.size g12_2
  { s with f12 := g12_2, f13 := g13_1 }
def r1 (t : ℕ) (v67 : FVec F S64x256 .bf16) (v97 : FVec F S32x8 .bf16) (v148 : IVec S16x256 1) (v195 : FVec F S16x1 .bf16) (v242 : FVec F S16x1 .bf16) (c0_i32_117 : BitVec 32) (c1_i32_119 : BitVec 32) (I : Ins F) (s : St F) : FVec F S1x1x16x256 .bf16 :=
  let v443 : Vec F S1x32x64 .bf16 := gt S16x32x64 ![t, 0, 0] S1x32x64.size I.x
  let v446 : Vec F S1x8x64 .bf16 := gt S16x8x64 ![t, 0, 0] S1x8x64.size I.kn
  let v456 : Vec F S1x32x128 .f32 := gt S16x32x128 ![t, 0, 0] S1x32x128.size s.f13
  let g13_1 := pt S16x32x128 ![t, 0, 0] S1x32x128.size s.f13 (k0_pay9 v97 v443 v446)
  let v467 : Vec F S1x1x16x256 .bf16 := gt S16x2x16x256 ![t, 0, 0, 0] S1x1x16x256.size s.f12
  let g12_2 := pt S16x2x16x256 ![t, 0, 0, 0] S1x1x16x256.size s.f12 (k0_pay10 v67 v148 v195 v443)
  let v478 : Vec F S1x1x16x256 .bf16 := gt S16x2x16x256 ![t, 1, 0, 0] S1x1x16x256.size g12_2
  (k0_pay11 v67 v148 v242 v443)
theorem part1_wp (c : Dev nD) (I : Ins F) (s : St F) (v67 : FVec F S64x256 .bf16) (v97 : FVec F S32x8 .bf16) (v148 : IVec S16x256 1) (v195 : FVec F S16x1 .bf16) (v242 : FVec F S16x1 .bf16) (c0_i32_117 : BitVec 32) (c1_i32_119 : BitVec 32) (k0_t2 : Fin k0_t2_loop.trips) (ht : k0_t2.val < 300) {Q : (FVec F S1x1x16x256 .bf16) → sProp 𝕄} :
    iprop(all c I s) ⊢ iprop(((all c I (m1 k0_t2.val v67 v97 v148 v195 v242 c0_i32_117 c1_i32_119 I s)) -∗ Q (r1 k0_t2.val v67 v97 v148 v195 v242 c0_i32_117 c1_i32_119 I s))
      -∗ wp frame (wpE (defs₀ (F := F)) Variants.none (c : Thread nD τ) none) Set.univ (k0_part1 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v67 v97 v148 v195 v242 c0_i32_117 c1_i32_119 k0_t2) Q) := by
  rw [k0_part1_eq_skeleton]
  unfold k0_part1_skel all inp pts m1 r1
  simp only [wp_bind]
  iintro ⟨⟨H0, H1, H2, H3, H4, H5⟩, H8, H11, H12, H13, H14, H15, H16, H17⟩ HQ
  iapply (wp_ld c (m := A3) _ (ld3 (k0_off15_eq k0_t2 ht))) $$ H3
  iintro H3
  iapply (wp_ld c (m := A4) _ (ld4 (k0_off16_eq k0_t2 ht))) $$ H4
  iintro H4
  iapply (wp_ld c (m := A13) _ (ld13 (k0_off17_eq k0_t2 ht))) $$ H13
  iintro H13
  iapply (wp_st c (m := A13) _ (st13 (k0_off17_eq k0_t2 ht))) $$ H13
  iintro H13
  iapply (wp_ld c (m := A12) _ (ld12 (k0_off18_eq k0_t2 ht))) $$ H12
  iintro H12
  iapply (wp_st c (m := A12) _ (st12 (k0_off18_eq k0_t2 ht))) $$ H12
  iintro H12
  iapply (wp_ld c (m := A12) _ (ld12 (k0_off19_eq k0_t2 ht))) $$ H12
  iintro H12
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m29 (v356 : BitVec 32) (v357 : BitVec 32) (v358 : BitVec 32) (v362 : IVec S16x2048 32) (v363 : IVec S16x2048 32) (kc : Vec F S4x512x2048 .fp8e4m3) (I : Ins F) (s : St F) : St F :=
  let v366 : Vec F S1x256x2048 .fp8e4m3 := gt S4x512x2048 ![0, 0, 0] S1x256x2048.size kc
  let v368 : Vec F S1x1x16x256 .bf16 := gt S16x2x16x256 ![0, 0, 0, 0] S1x1x16x256.size s.f12
  let v374 : Vec F S1x1x16x2048 .f32 := gt S2x2x16x2048 ![0, 0, 0, 0] S1x1x16x2048.size s.f11
  let g11_1 := pt S2x2x16x2048 ![0, 0, 0, 0] S1x1x16x2048.size s.f11 (k0_pay103 v362 v363 v366 v368)
  let v378 : Vec F S1x16x128 .f32 := gt S16x32x128 ![0, 0, 0] S1x16x128.size s.f13
  let v381 : Vec F S1x1x16x128 .f32 := gt S2x2x16x128 ![1, 0, 0, 0] S1x1x16x128.size s.f14
  let v389 : Vec F S1x1x16x128 .f32 := gt S2x2x16x128 ![0, 0, 0, 0] S1x1x16x128.size s.f14
  let g14_2 := pt S2x2x16x128 ![0, 0, 0, 0] S1x1x16x128.size s.f14 (k0_pay106 v362 v363 v366 v368 v378 v381)
  { s with f11 := g11_1, f14 := g14_2 }
def r29 (v356 : BitVec 32) (v357 : BitVec 32) (v358 : BitVec 32) (v362 : IVec S16x2048 32) (v363 : IVec S16x2048 32) (kc : Vec F S4x512x2048 .fp8e4m3) (I : Ins F) (s : St F) : Σ' (v364 : IVec S16x2048 1), FVec F S16x128 .f32 :=
  let v366 : Vec F S1x256x2048 .fp8e4m3 := gt S4x512x2048 ![0, 0, 0] S1x256x2048.size kc
  let v368 : Vec F S1x1x16x256 .bf16 := gt S16x2x16x256 ![0, 0, 0, 0] S1x1x16x256.size s.f12
  let v374 : Vec F S1x1x16x2048 .f32 := gt S2x2x16x2048 ![0, 0, 0, 0] S1x1x16x2048.size s.f11
  let g11_1 := pt S2x2x16x2048 ![0, 0, 0, 0] S1x1x16x2048.size s.f11 (k0_pay103 v362 v363 v366 v368)
  let v378 : Vec F S1x16x128 .f32 := gt S16x32x128 ![0, 0, 0] S1x16x128.size s.f13
  let v381 : Vec F S1x1x16x128 .f32 := gt S2x2x16x128 ![1, 0, 0, 0] S1x1x16x128.size s.f14
  let v389 : Vec F S1x1x16x128 .f32 := gt S2x2x16x128 ![0, 0, 0, 0] S1x1x16x128.size s.f14
  let g14_2 := pt S2x2x16x128 ![0, 0, 0, 0] S1x1x16x128.size s.f14 (k0_pay106 v362 v363 v366 v368 v378 v381)
  ⟨k0_pay101 v362 v363, k0_pay107 v362 v363 v366 v368 v378 v381⟩
theorem part29_wp (c : Dev nD) (I : Ins F) (s : St F) (v356 : BitVec 32) (v357 : BitVec 32) (v358 : BitVec 32) (v362 : IVec S16x2048 32) (v363 : IVec S16x2048 32) (kc : Vec F S4x512x2048 .fp8e4m3) (XK : Vec F S16x512x32768 .fp8e4m3) {Q : (Σ' (v364 : IVec S16x2048 1), FVec F S16x128 .f32) → sProp 𝕄} :
    iprop(all c I s ∗ FreeK c XK (0) kc) ⊢ iprop(((all c I (m29 v356 v357 v358 v362 v363 kc I s) ∗ FreeK c XK (0) kc) -∗ Q (r29 v356 v357 v358 v362 v363 kc I s))
      -∗ wp frame (wpE (defs₀ (F := F)) Variants.none (c : Thread nD τ) none) Set.univ (k0_part29 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v356 v357 v358 v362 v363) Q) := by
  rw [k0_part29_eq_skeleton]
  unfold k0_part29_skel all inp pts m29 r29
  simp only [wp_bind]
  iintro ⟨⟨⟨H0, H1, H2, H3, H4, H5⟩, H8, H11, H12, H13, H14, H15, H16, H17⟩, H9⟩ HQ
  iapply (wp_loadK c _ k0_off23_eq) $$ H9
  iintro H9
  iapply (wp_ld c (m := A12) _ (ld12 (off := ![0, 0, 0, 0]) rfl)) $$ H12
  iintro H12
  iapply (wp_ld c (m := A11) _ (ld11 k0_off24_eq)) $$ H11
  iintro H11
  iapply (wp_st c (m := A11) _ (st11 k0_off24_eq)) $$ H11
  iintro H11
  iapply (wp_ld c (m := A13) _ (ld13 (off := ![0, 0, 0]) rfl)) $$ H13
  iintro H13
  iapply (wp_ld c (m := A14) _ (ld14 k0_off25_eq)) $$ H14
  iintro H14
  iapply (wp_ld c (m := A14) _ (ld14 k0_off26_eq)) $$ H14
  iintro H14
  iapply (wp_st c (m := A14) _ (st14 k0_off26_eq)) $$ H14
  iintro H14
  rw [wp_pure]
  imodintro
  iapply HQ
  isplitr [H9]
  rotate_left
  · iexact H9
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m30 (v356 : BitVec 32) (v357 : BitVec 32) (v358 : BitVec 32) (v364 : IVec S16x2048 1) (v395 : FVec F S16x128 .f32) (kc : Vec F S4x512x2048 .fp8e4m3) (I : Ins F) (s : St F) : St F :=
  let v397 : Vec F S1x1x16x128 .f32 := gt S2x2x16x128 ![0, 0, 0, 0] S1x1x16x128.size s.f15
  let g15_1 := pt S2x2x16x128 ![0, 0, 0, 0] S1x1x16x128.size s.f15 (k0_pay108 v395)
  let v401 : Vec F S1x256x2048 .fp8e4m3 := gt S4x512x2048 ![0, 256, 0] S1x256x2048.size kc
  let v403 : Vec F S1x1x16x256 .bf16 := gt S16x2x16x256 ![0, 1, 0, 0] S1x1x16x256.size s.f12
  let v409 : Vec F S1x1x16x2048 .f32 := gt S2x2x16x2048 ![0, 1, 0, 0] S1x1x16x2048.size s.f11
  let g11_2 := pt S2x2x16x2048 ![0, 1, 0, 0] S1x1x16x2048.size s.f11 (k0_pay110 v364 v401 v403)
  let v413 : Vec F S1x16x128 .f32 := gt S16x32x128 ![0, 16, 0] S1x16x128.size s.f13
  let v416 : Vec F S1x1x16x128 .f32 := gt S2x2x16x128 ![1, 1, 0, 0] S1x1x16x128.size s.f14
  let v424 : Vec F S1x1x16x128 .f32 := gt S2x2x16x128 ![0, 1, 0, 0] S1x1x16x128.size s.f14
  let g14_3 := pt S2x2x16x128 ![0, 1, 0, 0] S1x1x16x128.size s.f14 (k0_pay113 v364 v401 v403 v413 v416)
  let cst_194 : F .f32 := Named.named κ "exp2_scale" 0x3E38AA3B#32
  { s with f11 := g11_2, f14 := g14_3, f15 := g15_1 }
def r30 (v356 : BitVec 32) (v357 : BitVec 32) (v358 : BitVec 32) (v364 : IVec S16x2048 1) (v395 : FVec F S16x128 .f32) (kc : Vec F S4x512x2048 .fp8e4m3) (I : Ins F) (s : St F) : Σ' (v427 : FVec F S16x128 .f32), F .f32 :=
  let v397 : Vec F S1x1x16x128 .f32 := gt S2x2x16x128 ![0, 0, 0, 0] S1x1x16x128.size s.f15
  let g15_1 := pt S2x2x16x128 ![0, 0, 0, 0] S1x1x16x128.size s.f15 (k0_pay108 v395)
  let v401 : Vec F S1x256x2048 .fp8e4m3 := gt S4x512x2048 ![0, 256, 0] S1x256x2048.size kc
  let v403 : Vec F S1x1x16x256 .bf16 := gt S16x2x16x256 ![0, 1, 0, 0] S1x1x16x256.size s.f12
  let v409 : Vec F S1x1x16x2048 .f32 := gt S2x2x16x2048 ![0, 1, 0, 0] S1x1x16x2048.size s.f11
  let g11_2 := pt S2x2x16x2048 ![0, 1, 0, 0] S1x1x16x2048.size s.f11 (k0_pay110 v364 v401 v403)
  let v413 : Vec F S1x16x128 .f32 := gt S16x32x128 ![0, 16, 0] S1x16x128.size s.f13
  let v416 : Vec F S1x1x16x128 .f32 := gt S2x2x16x128 ![1, 1, 0, 0] S1x1x16x128.size s.f14
  let v424 : Vec F S1x1x16x128 .f32 := gt S2x2x16x128 ![0, 1, 0, 0] S1x1x16x128.size s.f14
  let g14_3 := pt S2x2x16x128 ![0, 1, 0, 0] S1x1x16x128.size s.f14 (k0_pay113 v364 v401 v403 v413 v416)
  let cst_194 : F .f32 := Named.named κ "exp2_scale" 0x3E38AA3B#32
  ⟨k0_pay114 v364 v401 v403 v413 v416, cst_194⟩
theorem part30_wp (c : Dev nD) (I : Ins F) (s : St F) (v356 : BitVec 32) (v357 : BitVec 32) (v358 : BitVec 32) (v364 : IVec S16x2048 1) (v395 : FVec F S16x128 .f32) (kc : Vec F S4x512x2048 .fp8e4m3) (XK : Vec F S16x512x32768 .fp8e4m3) {Q : (Σ' (v427 : FVec F S16x128 .f32), F .f32) → sProp 𝕄} :
    iprop(all c I s ∗ FreeK c XK (0) kc) ⊢ iprop(((all c I (m30 v356 v357 v358 v364 v395 kc I s) ∗ FreeK c XK (0) kc) -∗ Q (r30 v356 v357 v358 v364 v395 kc I s))
      -∗ wp frame (wpE (defs₀ (F := F)) Variants.none (c : Thread nD τ) none) Set.univ (k0_part30 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v356 v357 v358 v364 v395) Q) := by
  rw [k0_part30_eq_skeleton]
  unfold k0_part30_skel all inp pts m30 r30
  simp only [wp_bind]
  iintro ⟨⟨⟨H0, H1, H2, H3, H4, H5⟩, H8, H11, H12, H13, H14, H15, H16, H17⟩, H9⟩ HQ
  iapply (wp_ld c (m := A15) _ (ld15 k0_off26_eq)) $$ H15
  iintro H15
  iapply (wp_st c (m := A15) _ (st15 k0_off26_eq)) $$ H15
  iintro H15
  iapply (wp_loadK c _ k0_off27_eq) $$ H9
  iintro H9
  iapply (wp_ld c (m := A12) _ (ld12 (off := ![0, 1, 0, 0]) rfl)) $$ H12
  iintro H12
  iapply (wp_ld c (m := A11) _ (ld11 k0_off28_eq)) $$ H11
  iintro H11
  iapply (wp_st c (m := A11) _ (st11 k0_off28_eq)) $$ H11
  iintro H11
  iapply (wp_ld c (m := A13) _ (ld13 (off := ![0, 16, 0]) rfl)) $$ H13
  iintro H13
  iapply (wp_ld c (m := A14) _ (ld14 k0_off29_eq)) $$ H14
  iintro H14
  iapply (wp_ld c (m := A14) _ (ld14 k0_off30_eq)) $$ H14
  iintro H14
  iapply (wp_st c (m := A14) _ (st14 k0_off30_eq)) $$ H14
  iintro H14
  rw [wp_pure]
  imodintro
  iapply HQ
  isplitr [H9]
  rotate_left
  · iexact H9
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m6 (t : ℕ) (v1 : BitVec 32) (arg23 : BitVec 32) (arg24 : BitVec 32) (v444 : Elt F .i32) (v451 : BitVec 32) (v453 : BitVec 32) (v497 : BitVec 32) (v498 : BitVec 32) (v499 : BitVec 32) (v506 : IVec S16x2048 1) (v509 : FVec F S256x2048 .fp8e4m3) (I : Ins F) (s : St F) : St F :=
  let v511 : Vec F S1x1x16x256 .bf16 := gt S16x2x16x256 ![(nbWord arg23 arg24 v444).toNat, 0, 0, 0] S1x1x16x256.size s.f12
  let v517 : Vec F S1x1x16x2048 .f32 := gt S2x2x16x2048 ![(t + 1) % 2, 0, 0, 0] S1x1x16x2048.size s.f11
  let g11_1 := pt S2x2x16x2048 ![(t + 1) % 2, 0, 0, 0] S1x1x16x2048.size s.f11 (k0_pay26 v506 v509 v511)
  let v522 : Vec F S1x16x128 .f32 := gt S16x32x128 ![(nbWord arg23 arg24 v444).toNat, 0, 0] S1x16x128.size s.f13
  let v525 : Vec F S1x1x16x128 .f32 := gt S2x2x16x128 ![1 - (t + 1) % 2, 0, 0, 0] S1x1x16x128.size s.f14
  let v533 : Vec F S1x1x16x128 .f32 := gt S2x2x16x128 ![(t + 1) % 2, 0, 0, 0] S1x1x16x128.size s.f14
  let g14_2 := pt S2x2x16x128 ![(t + 1) % 2, 0, 0, 0] S1x1x16x128.size s.f14 (k0_pay29 v453 v506 v509 v511 v522 v525)
  let v541 : Vec F S1x1x16x128 .f32 := gt S2x2x16x128 ![(t + 1) % 2, 0, 0, 0] S1x1x16x128.size s.f15
  let g15_3 := pt S2x2x16x128 ![(t + 1) % 2, 0, 0, 0] S1x1x16x128.size s.f15 (k0_pay30 v453 v506 v509 v511 v522 v525)
  { s with f11 := g11_1, f14 := g14_2, f15 := g15_3 }
theorem part6_wp (c : Dev nD) (I : Ins F) (s : St F) (v1 : BitVec 32) (k0_hw7 : k0_chk7 v1) (k0_t3 : Fin (k0_t3_loop v1).trips) (arg23 : BitVec 32) (arg24 : BitVec 32) (v444 : Elt F .i32) (k0_hw12 : k0_chk12 v1 k0_t3 arg23 arg24 v444) (v451 : BitVec 32) (v453 : BitVec 32) (v497 : BitVec 32) (v498 : BitVec 32) (v499 : BitVec 32) (v506 : IVec S16x2048 1) (v509 : FVec F S256x2048 .fp8e4m3) (ht : k0_t3.val < 300) {Q : (PUnit) → sProp 𝕄} :
    iprop(all c I s) ⊢ iprop(((all c I (m6 k0_t3.val v1 arg23 arg24 v444 v451 v453 v497 v498 v499 v506 v509 I s)) -∗ Q ⟨⟩)
      -∗ wp frame (wpE (defs₀ (F := F)) Variants.none (c : Thread nD τ) none) Set.univ (k0_part6 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg23 arg24 v444 k0_hw12 v451 v453 v497 v498 v499 v506 v509) Q) := by
  rw [k0_part6_eq_skeleton]
  unfold k0_part6_skel all inp pts m6
  simp only [wp_bind]
  iintro ⟨⟨H0, H1, H2, H3, H4, H5⟩, H8, H11, H12, H13, H14, H15, H16, H17⟩ HQ
  iapply (wp_ld c (m := A12) _ (ld12 (k0_off47_eq arg23 arg24 v444))) $$ H12
  iintro H12
  iapply (wp_ld c (m := A11) _ (ld11 (k0_off48_eq v1 k0_t3 ht))) $$ H11
  iintro H11
  iapply (wp_st c (m := A11) _ (st11 (k0_off48_eq v1 k0_t3 ht))) $$ H11
  iintro H11
  iapply (wp_ld c (m := A13) _ (ld13 (k0_off49_eq arg23 arg24 v444))) $$ H13
  iintro H13
  iapply (wp_ld c (m := A14) _ (ld14 (k0_off50_eq v1 k0_t3 ht))) $$ H14
  iintro H14
  iapply (wp_ld c (m := A14) _ (ld14 (k0_off51_eq v1 k0_t3 ht))) $$ H14
  iintro H14
  iapply (wp_st c (m := A14) _ (st14 (k0_off51_eq v1 k0_t3 ht))) $$ H14
  iintro H14
  iapply (wp_ld c (m := A15) _ (ld15 (k0_off51_eq v1 k0_t3 ht))) $$ H15
  iintro H15
  iapply (wp_st c (m := A15) _ (st15 (k0_off51_eq v1 k0_t3 ht))) $$ H15
  iintro H15
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m7 (t : ℕ) (v1 : BitVec 32) (arg23 : BitVec 32) (arg24 : BitVec 32) (v444 : Elt F .i32) (v451 : BitVec 32) (v453 : BitVec 32) (v498 : BitVec 32) (v499 : BitVec 32) (v506 : IVec S16x2048 1) (kc : Vec F S4x512x2048 .fp8e4m3) (I : Ins F) (s : St F) : St F :=
  let v545 : Vec F S1x256x2048 .fp8e4m3 := gt S4x512x2048 ![(t + 1) % 4, 256, 0] S1x256x2048.size kc
  let v548 : Vec F S1x1x16x256 .bf16 := gt S16x2x16x256 ![(nbWord arg23 arg24 v444).toNat, 1, 0, 0] S1x1x16x256.size s.f12
  let v554 : Vec F S1x1x16x2048 .f32 := gt S2x2x16x2048 ![(t + 1) % 2, 1, 0, 0] S1x1x16x2048.size s.f11
  let g11_1 := pt S2x2x16x2048 ![(t + 1) % 2, 1, 0, 0] S1x1x16x2048.size s.f11 (k0_pay32 v506 v545 v548)
  let v559 : Vec F S1x16x128 .f32 := gt S16x32x128 ![(nbWord arg23 arg24 v444).toNat, 16, 0] S1x16x128.size s.f13
  let v562 : Vec F S1x1x16x128 .f32 := gt S2x2x16x128 ![1 - (t + 1) % 2, 1, 0, 0] S1x1x16x128.size s.f14
  let v570 : Vec F S1x1x16x128 .f32 := gt S2x2x16x128 ![(t + 1) % 2, 1, 0, 0] S1x1x16x128.size s.f14
  let g14_2 := pt S2x2x16x128 ![(t + 1) % 2, 1, 0, 0] S1x1x16x128.size s.f14 (k0_pay35 v453 v506 v545 v548 v559 v562)
  let v578 : Vec F S1x1x16x128 .f32 := gt S2x2x16x128 ![(t + 1) % 2, 1, 0, 0] S1x1x16x128.size s.f15
  { s with f11 := g11_1, f14 := g14_2 }
def r7 (t : ℕ) (v1 : BitVec 32) (arg23 : BitVec 32) (arg24 : BitVec 32) (v444 : Elt F .i32) (v451 : BitVec 32) (v453 : BitVec 32) (v498 : BitVec 32) (v499 : BitVec 32) (v506 : IVec S16x2048 1) (kc : Vec F S4x512x2048 .fp8e4m3) (I : Ins F) (s : St F) : FVec F S16x128 .f32 :=
  let v545 : Vec F S1x256x2048 .fp8e4m3 := gt S4x512x2048 ![(t + 1) % 4, 256, 0] S1x256x2048.size kc
  let v548 : Vec F S1x1x16x256 .bf16 := gt S16x2x16x256 ![(nbWord arg23 arg24 v444).toNat, 1, 0, 0] S1x1x16x256.size s.f12
  let v554 : Vec F S1x1x16x2048 .f32 := gt S2x2x16x2048 ![(t + 1) % 2, 1, 0, 0] S1x1x16x2048.size s.f11
  let g11_1 := pt S2x2x16x2048 ![(t + 1) % 2, 1, 0, 0] S1x1x16x2048.size s.f11 (k0_pay32 v506 v545 v548)
  let v559 : Vec F S1x16x128 .f32 := gt S16x32x128 ![(nbWord arg23 arg24 v444).toNat, 16, 0] S1x16x128.size s.f13
  let v562 : Vec F S1x1x16x128 .f32 := gt S2x2x16x128 ![1 - (t + 1) % 2, 1, 0, 0] S1x1x16x128.size s.f14
  let v570 : Vec F S1x1x16x128 .f32 := gt S2x2x16x128 ![(t + 1) % 2, 1, 0, 0] S1x1x16x128.size s.f14
  let g14_2 := pt S2x2x16x128 ![(t + 1) % 2, 1, 0, 0] S1x1x16x128.size s.f14 (k0_pay35 v453 v506 v545 v548 v559 v562)
  let v578 : Vec F S1x1x16x128 .f32 := gt S2x2x16x128 ![(t + 1) % 2, 1, 0, 0] S1x1x16x128.size s.f15
  (k0_pay36 v453 v506 v545 v548 v559 v562)
theorem part7_wp (c : Dev nD) (I : Ins F) (s : St F) (v1 : BitVec 32) (k0_hw7 : k0_chk7 v1) (k0_t3 : Fin (k0_t3_loop v1).trips) (arg23 : BitVec 32) (arg24 : BitVec 32) (v444 : Elt F .i32) (k0_hw12 : k0_chk12 v1 k0_t3 arg23 arg24 v444) (v451 : BitVec 32) (v453 : BitVec 32) (v498 : BitVec 32) (v499 : BitVec 32) (v506 : IVec S16x2048 1) (ht : k0_t3.val < 300) (kc : Vec F S4x512x2048 .fp8e4m3) (XK : Vec F S16x512x32768 .fp8e4m3) {Q : (FVec F S16x128 .f32) → sProp 𝕄} :
    iprop(all c I s ∗ FreeK c XK ((k0_t3.val + 1) % 4) kc) ⊢ iprop(((all c I (m7 k0_t3.val v1 arg23 arg24 v444 v451 v453 v498 v499 v506 kc I s) ∗ FreeK c XK ((k0_t3.val + 1) % 4) kc) -∗ Q (r7 k0_t3.val v1 arg23 arg24 v444 v451 v453 v498 v499 v506 kc I s))
      -∗ wp frame (wpE (defs₀ (F := F)) Variants.none (c : Thread nD τ) none) Set.univ (k0_part7 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg23 arg24 v444 k0_hw12 v451 v453 v498 v499 v506) Q) := by
  rw [k0_part7_eq_skeleton]
  unfold k0_part7_skel all inp pts m7 r7
  simp only [wp_bind]
  iintro ⟨⟨⟨H0, H1, H2, H3, H4, H5⟩, H8, H11, H12, H13, H14, H15, H16, H17⟩, H9⟩ HQ
  iapply (wp_loadK c _ (k0_off52_eq v1 k0_t3 ht)) $$ H9
  iintro H9
  iapply (wp_ld c (m := A12) _ (ld12 (k0_off53_eq arg23 arg24 v444))) $$ H12
  iintro H12
  iapply (wp_ld c (m := A11) _ (ld11 (k0_off54_eq v1 k0_t3 ht))) $$ H11
  iintro H11
  iapply (wp_st c (m := A11) _ (st11 (k0_off54_eq v1 k0_t3 ht))) $$ H11
  iintro H11
  iapply (wp_ld c (m := A13) _ (ld13 (k0_off55_eq arg23 arg24 v444))) $$ H13
  iintro H13
  iapply (wp_ld c (m := A14) _ (ld14 (k0_off56_eq v1 k0_t3 ht))) $$ H14
  iintro H14
  iapply (wp_ld c (m := A14) _ (ld14 (k0_off57_eq v1 k0_t3 ht))) $$ H14
  iintro H14
  iapply (wp_st c (m := A14) _ (st14 (k0_off57_eq v1 k0_t3 ht))) $$ H14
  iintro H14
  iapply (wp_ld c (m := A15) _ (ld15 (k0_off57_eq v1 k0_t3 ht))) $$ H15
  iintro H15
  rw [wp_pure]
  imodintro
  iapply HQ
  isplitr [H9]
  rotate_left
  · iexact H9
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m8 (t : ℕ) (v1 : BitVec 32) (arg20 : BitVec 32) (v576 : FVec F S16x128 .f32) (I : Ins F) (s : St F) : St F :=
  let g15_1 := pt S2x2x16x128 ![(t + 1) % 2, 1, 0, 0] S1x1x16x128.size s.f15 (k0_pay37 v576)
  let v581 : BitVec 32 := Scalar.remsi arg20 4#32
  let v582 : BitVec 32 := Scalar.remsi arg20 2#32
  let v584 : Vec F S1x1x16x128 .f32 := gt S2x2x16x128 ![t % 2, 0, 0, 0] S1x1x16x128.size s.f14
  let v587 : Vec F S1x1x16x128 .f32 := gt S2x2x16x128 ![t % 2, 0, 0, 0] S1x1x16x128.size g15_1
  let v590 : Vec F S1x1x16x2048 .f32 := gt S2x2x16x2048 ![t % 2, 0, 0, 0] S1x1x16x2048.size s.f11
  { s with f15 := g15_1 }
def r8 (t : ℕ) (v1 : BitVec 32) (arg20 : BitVec 32) (v576 : FVec F S16x128 .f32) (I : Ins F) (s : St F) : Σ' (v581 : BitVec 32) (v582 : BitVec 32) (v588 : FVec F S16x128 .f32) (v597 : FVec F S16x2048 .f32), FVec F S16x128 .f32 :=
  let g15_1 := pt S2x2x16x128 ![(t + 1) % 2, 1, 0, 0] S1x1x16x128.size s.f15 (k0_pay37 v576)
  let v581 : BitVec 32 := Scalar.remsi arg20 4#32
  let v582 : BitVec 32 := Scalar.remsi arg20 2#32
  let v584 : Vec F S1x1x16x128 .f32 := gt S2x2x16x128 ![t % 2, 0, 0, 0] S1x1x16x128.size s.f14
  let v587 : Vec F S1x1x16x128 .f32 := gt S2x2x16x128 ![t % 2, 0, 0, 0] S1x1x16x128.size g15_1
  let v590 : Vec F S1x1x16x2048 .f32 := gt S2x2x16x2048 ![t % 2, 0, 0, 0] S1x1x16x2048.size s.f11
  ⟨v581, v582, k0_pay38 v587, k0_pay39 v584 v590, k0_pay40 v584 v590⟩
theorem part8_wp (c : Dev nD) (I : Ins F) (s : St F) (v1 : BitVec 32) (k0_hw7 : k0_chk7 v1) (k0_t3 : Fin (k0_t3_loop v1).trips) (arg20 : BitVec 32) (v576 : FVec F S16x128 .f32) (ht : k0_t3.val < 300) {Q : (Σ' (v581 : BitVec 32) (v582 : BitVec 32) (v588 : FVec F S16x128 .f32) (v597 : FVec F S16x2048 .f32), FVec F S16x128 .f32) → sProp 𝕄} :
    iprop(all c I s) ⊢ iprop(((all c I (m8 k0_t3.val v1 arg20 v576 I s)) -∗ Q (r8 k0_t3.val v1 arg20 v576 I s))
      -∗ wp frame (wpE (defs₀ (F := F)) Variants.none (c : Thread nD τ) none) Set.univ (k0_part8 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg20 v576) Q) := by
  rw [k0_part8_eq_skeleton]
  unfold k0_part8_skel all inp pts m8 r8
  simp only [wp_bind]
  iintro ⟨⟨H0, H1, H2, H3, H4, H5⟩, H8, H11, H12, H13, H14, H15, H16, H17⟩ HQ
  iapply (wp_st c (m := A15) _ (st15 (k0_off57_eq v1 k0_t3 ht))) $$ H15
  iintro H15
  iapply (wp_ld c (m := A14) _ (ld14 (k0_off58_eq v1 k0_t3 ht))) $$ H14
  iintro H14
  iapply (wp_ld c (m := A15) _ (ld15 (k0_off58_eq v1 k0_t3 ht))) $$ H15
  iintro H15
  iapply (wp_ld c (m := A11) _ (ld11 (k0_off59_eq v1 k0_t3 ht))) $$ H11
  iintro H11
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m9 (t : ℕ) (v1 : BitVec 32) (arg24 : BitVec 32) (v581 : BitVec 32) (v582 : BitVec 32) (v588 : FVec F S16x128 .f32) (v597 : FVec F S16x2048 .f32) (v626 : FVec F S16x128 .f32) (vc : Vec F S4x512x2048 .fp8e4m3) (I : Ins F) (s : St F) : St F :=
  let v630 : Vec F S1x16x128 .f32 := gt S2x16x128 ![0, 0, 0] S1x16x128.size s.f16
  let v636 : Vec F S1x16x128 .f32 := gt S2x16x128 ![0, 0, 0] S1x16x128.size s.f16
  let g16_1 := pt S2x16x128 ![0, 0, 0] S1x16x128.size s.f16 (k0_pay41 arg24 v588 v597 v626 v630)
  let v640 : Vec F S1x256x2048 .fp8e4m3 := gt S4x512x2048 ![t % 4, 0, 0] S1x256x2048.size vc
  let v645 : Vec F S1x16x256 .f32 := gt S2x16x256 ![0, 0, 0] S1x16x256.size s.f17
  let v653 : Vec F S1x16x256 .f32 := gt S2x16x256 ![0, 0, 0] S1x16x256.size s.f17
  let g17_2 := pt S2x16x256 ![0, 0, 0] S1x16x256.size s.f17 (k0_pay42 arg24 v588 v597 v640 v645)
  let v657 : Vec F S1x1x16x128 .f32 := gt S2x2x16x128 ![t % 2, 1, 0, 0] S1x1x16x128.size s.f14
  { s with f16 := g16_1, f17 := g17_2 }
def r9 (t : ℕ) (v1 : BitVec 32) (arg24 : BitVec 32) (v581 : BitVec 32) (v582 : BitVec 32) (v588 : FVec F S16x128 .f32) (v597 : FVec F S16x2048 .f32) (v626 : FVec F S16x128 .f32) (vc : Vec F S4x512x2048 .fp8e4m3) (I : Ins F) (s : St F) : FVec F S16x128 .f32 :=
  let v630 : Vec F S1x16x128 .f32 := gt S2x16x128 ![0, 0, 0] S1x16x128.size s.f16
  let v636 : Vec F S1x16x128 .f32 := gt S2x16x128 ![0, 0, 0] S1x16x128.size s.f16
  let g16_1 := pt S2x16x128 ![0, 0, 0] S1x16x128.size s.f16 (k0_pay41 arg24 v588 v597 v626 v630)
  let v640 : Vec F S1x256x2048 .fp8e4m3 := gt S4x512x2048 ![t % 4, 0, 0] S1x256x2048.size vc
  let v645 : Vec F S1x16x256 .f32 := gt S2x16x256 ![0, 0, 0] S1x16x256.size s.f17
  let v653 : Vec F S1x16x256 .f32 := gt S2x16x256 ![0, 0, 0] S1x16x256.size s.f17
  let g17_2 := pt S2x16x256 ![0, 0, 0] S1x16x256.size s.f17 (k0_pay42 arg24 v588 v597 v640 v645)
  let v657 : Vec F S1x1x16x128 .f32 := gt S2x2x16x128 ![t % 2, 1, 0, 0] S1x1x16x128.size s.f14
  (k0_pay43 v657)
theorem part9_wp (c : Dev nD) (I : Ins F) (s : St F) (v1 : BitVec 32) (k0_hw7 : k0_chk7 v1) (k0_t3 : Fin (k0_t3_loop v1).trips) (arg24 : BitVec 32) (v581 : BitVec 32) (v582 : BitVec 32) (v588 : FVec F S16x128 .f32) (v597 : FVec F S16x2048 .f32) (v626 : FVec F S16x128 .f32) (ht : k0_t3.val < 300) (vc : Vec F S4x512x2048 .fp8e4m3) (XV : Vec F S16x512x32768 .fp8e4m3) {Q : (FVec F S16x128 .f32) → sProp 𝕄} :
    iprop(all c I s ∗ FreeV c XV (k0_t3.val % 4) vc) ⊢ iprop(((all c I (m9 k0_t3.val v1 arg24 v581 v582 v588 v597 v626 vc I s) ∗ FreeV c XV (k0_t3.val % 4) vc) -∗ Q (r9 k0_t3.val v1 arg24 v581 v582 v588 v597 v626 vc I s))
      -∗ wp frame (wpE (defs₀ (F := F)) Variants.none (c : Thread nD τ) none) Set.univ (k0_part9 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg24 v581 v582 v588 v597 v626) Q) := by
  rw [k0_part9_eq_skeleton]
  unfold k0_part9_skel all inp pts m9 r9
  simp only [wp_bind]
  iintro ⟨⟨⟨H0, H1, H2, H3, H4, H5⟩, H8, H11, H12, H13, H14, H15, H16, H17⟩, H10⟩ HQ
  iapply (wp_ld c (m := A16) _ (ld16 (off := ![0, 0, 0]) rfl)) $$ H16
  iintro H16
  iapply (wp_ld c (m := A16) _ (ld16 (off := ![0, 0, 0]) rfl)) $$ H16
  iintro H16
  iapply (wp_st c (m := A16) _ (st16 (off := ![0, 0, 0]) rfl)) $$ H16
  iintro H16
  iapply (wp_loadV c _ (k0_off60_eq v1 k0_t3 ht)) $$ H10
  iintro H10
  iapply (wp_ld c (m := A17) _ (ld17 (off := ![0, 0, 0]) rfl)) $$ H17
  iintro H17
  iapply (wp_ld c (m := A17) _ (ld17 (off := ![0, 0, 0]) rfl)) $$ H17
  iintro H17
  iapply (wp_st c (m := A17) _ (st17 (off := ![0, 0, 0]) rfl)) $$ H17
  iintro H17
  iapply (wp_ld c (m := A14) _ (ld14 (k0_off61_eq v1 k0_t3 ht))) $$ H14
  iintro H14
  rw [wp_pure]
  imodintro
  iapply HQ
  isplitr [H10]
  rotate_left
  · iexact H10
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r10 (t : ℕ) (v1 : BitVec 32) (arg24 : BitVec 32) (v582 : BitVec 32) (v658 : FVec F S16x128 .f32) (I : Ins F) (s : St F) : Σ' (v661 : FVec F S16x128 .f32) (v670 : FVec F S16x2048 .f32), FVec F S16x128 .f32 :=
  let v660 : Vec F S1x1x16x128 .f32 := gt S2x2x16x128 ![t % 2, 1, 0, 0] S1x1x16x128.size s.f15
  let v663 : Vec F S1x1x16x2048 .f32 := gt S2x2x16x2048 ![t % 2, 1, 0, 0] S1x1x16x2048.size s.f11
  let v703 : Vec F S1x16x128 .f32 := gt S2x16x128 ![1, 0, 0] S1x16x128.size s.f16
  ⟨k0_pay44 v660, k0_pay45 v658 v663, k0_pay46 arg24 v658 v660 v663 v703⟩
theorem part10_wp (c : Dev nD) (I : Ins F) (s : St F) (v1 : BitVec 32) (k0_hw7 : k0_chk7 v1) (k0_t3 : Fin (k0_t3_loop v1).trips) (arg24 : BitVec 32) (v582 : BitVec 32) (v658 : FVec F S16x128 .f32) (ht : k0_t3.val < 300) {Q : (Σ' (v661 : FVec F S16x128 .f32) (v670 : FVec F S16x2048 .f32), FVec F S16x128 .f32) → sProp 𝕄} :
    iprop(all c I s) ⊢ iprop(((all c I s) -∗ Q (r10 k0_t3.val v1 arg24 v582 v658 I s))
      -∗ wp frame (wpE (defs₀ (F := F)) Variants.none (c : Thread nD τ) none) Set.univ (k0_part10 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg24 v582 v658) Q) := by
  rw [k0_part10_eq_skeleton]
  unfold k0_part10_skel all inp pts r10
  simp only [wp_bind]
  iintro ⟨⟨H0, H1, H2, H3, H4, H5⟩, H8, H11, H12, H13, H14, H15, H16, H17⟩ HQ
  iapply (wp_ld c (m := A15) _ (ld15 (k0_off61_eq v1 k0_t3 ht))) $$ H15
  iintro H15
  iapply (wp_ld c (m := A11) _ (ld11 (k0_off62_eq v1 k0_t3 ht))) $$ H11
  iintro H11
  iapply (wp_ld c (m := A16) _ (ld16 (off := ![1, 0, 0]) rfl)) $$ H16
  iintro H16
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def r2 (t : ℕ) (v1 : BitVec 32) (v97 : FVec F S32x8 .bf16) (v148 : IVec S16x256 1) (v288 : FVec F S16x1 .f32) (arg23 : BitVec 32) (arg24 : BitVec 32) (arg20 : BitVec 32) (v731 : Elt F .i32) (I : Ins F) (s : St F) : Σ' (v738 : BitVec 32) (v742 : FVec F S32x64 .f32) (v774 : FVec F S16x64 .f32) (v777 : FVec F S16x1 .f32), FVec F S16x64 .f32 :=
  let v738 : BitVec 32 := Scalar.remsi arg20 2#32
  let v740 : Vec F S1x8x64 .bf16 := gt S16x8x64 ![arg23.toNat, 0, 0] S1x8x64.size I.vn
  let v744 : Vec F S1x16x128 .f32 := gt S16x32x128 ![arg23.toNat, 0, 0] S1x16x128.size s.f13
  let v747 : Vec F S1x1x16x128 .f32 := gt S2x2x16x128 ![t % 2, 0, 0, 0] S1x1x16x128.size s.f14
  let v754 : Vec F S1x16x128 .f32 := gt S2x16x128 ![0, 0, 0] S1x16x128.size s.f16
  let v761 : Vec F S1x16x256 .f32 := gt S2x16x256 ![0, 0, 0] S1x16x256.size s.f17
  ⟨v738, k0_pay12 v97 v740, k0_pay15 v148 v288 v744 v747 v754 v761, k0_pay16 v744 v747 v754, k0_pay17 v97 v740⟩
theorem part2_wp (c : Dev nD) (I : Ins F) (s : St F) (v1 : BitVec 32) (v97 : FVec F S32x8 .bf16) (v148 : IVec S16x256 1) (v288 : FVec F S16x1 .f32) (k0_t3 : Fin (k0_t3_loop v1).trips) (arg23 : BitVec 32) (arg24 : BitVec 32) (arg20 : BitVec 32) (v731 : Elt F .i32) (k0_hw16 : k0_chk16 v1 k0_t3 arg23 arg24 v731) (k0_h6 : k0_cond6 arg24 v731 = 1#1) (ht : k0_t3.val < 300) {Q : (Σ' (v738 : BitVec 32) (v742 : FVec F S32x64 .f32) (v774 : FVec F S16x64 .f32) (v777 : FVec F S16x1 .f32), FVec F S16x64 .f32) → sProp 𝕄} :
    iprop(all c I s) ⊢ iprop(((all c I s) -∗ Q (r2 k0_t3.val v1 v97 v148 v288 arg23 arg24 arg20 v731 I s))
      -∗ wp frame (wpE (defs₀ (F := F)) Variants.none (c : Thread nD τ) none) Set.univ (k0_part2 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 v97 v148 v288 k0_t3 arg23 arg24 arg20 v731 k0_hw16 k0_h6) Q) := by
  rw [k0_part2_eq_skeleton]
  unfold k0_part2_skel all inp pts r2
  simp only [wp_bind]
  iintro ⟨⟨H0, H1, H2, H3, H4, H5⟩, H8, H11, H12, H13, H14, H15, H16, H17⟩ HQ
  iapply (wp_ld c (m := A5) _ (ld5 (k0_off65_eq arg23))) $$ H5
  iintro H5
  iapply (wp_ld c (m := A13) _ (ld13 (k0_off66_eq arg23))) $$ H13
  iintro H13
  iapply (wp_ld c (m := A14) _ (ld14 (k0_off67_eq v1 k0_t3 ht))) $$ H14
  iintro H14
  iapply (wp_ld c (m := A16) _ (ld16 (off := ![0, 0, 0]) rfl)) $$ H16
  iintro H16
  iapply (wp_ld c (m := A17) _ (ld17 (off := ![0, 0, 0]) rfl)) $$ H17
  iintro H17
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

def m3 (t : ℕ) (v1 : BitVec 32) (v148 : IVec S16x256 1) (v334 : FVec F S16x1 .f32) (arg23 : BitVec 32) (arg24 : BitVec 32) (v731 : Elt F .i32) (v738 : BitVec 32) (v774 : FVec F S16x64 .f32) (v777 : FVec F S16x1 .f32) (v778 : FVec F S16x64 .f32) (I : Ins F) (s : St F) : St F :=
  let v784 : Vec F S1x16x64 .bf16 := gt S16x32x64 ![arg23.toNat, 0, 0] S1x16x64.size s.f8
  let g8_1 := pt S16x32x64 ![arg23.toNat, 0, 0] S1x16x64.size s.f8 (k0_pay18 v774 v777 v778)
  let v788 : Vec F S1x16x128 .f32 := gt S16x32x128 ![arg23.toNat, 16, 0] S1x16x128.size s.f13
  let v791 : Vec F S1x1x16x128 .f32 := gt S2x2x16x128 ![t % 2, 1, 0, 0] S1x1x16x128.size s.f14
  let v798 : Vec F S1x16x128 .f32 := gt S2x16x128 ![1, 0, 0] S1x16x128.size s.f16
  let v805 : Vec F S1x16x256 .f32 := gt S2x16x256 ![1, 0, 0] S1x16x256.size s.f17
  { s with f8 := g8_1 }
def r3 (t : ℕ) (v1 : BitVec 32) (v148 : IVec S16x256 1) (v334 : FVec F S16x1 .f32) (arg23 : BitVec 32) (arg24 : BitVec 32) (v731 : Elt F .i32) (v738 : BitVec 32) (v774 : FVec F S16x64 .f32) (v777 : FVec F S16x1 .f32) (v778 : FVec F S16x64 .f32) (I : Ins F) (s : St F) : Σ' (v818 : FVec F S16x64 .f32), FVec F S16x1 .bf16 :=
  let v784 : Vec F S1x16x64 .bf16 := gt S16x32x64 ![arg23.toNat, 0, 0] S1x16x64.size s.f8
  let g8_1 := pt S16x32x64 ![arg23.toNat, 0, 0] S1x16x64.size s.f8 (k0_pay18 v774 v777 v778)
  let v788 : Vec F S1x16x128 .f32 := gt S16x32x128 ![arg23.toNat, 16, 0] S1x16x128.size s.f13
  let v791 : Vec F S1x1x16x128 .f32 := gt S2x2x16x128 ![t % 2, 1, 0, 0] S1x1x16x128.size s.f14
  let v798 : Vec F S1x16x128 .f32 := gt S2x16x128 ![1, 0, 0] S1x16x128.size s.f16
  let v805 : Vec F S1x16x256 .f32 := gt S2x16x256 ![1, 0, 0] S1x16x256.size s.f17
  ⟨k0_pay21 v148 v334 v788 v791 v798 v805, k0_pay22 v788 v791 v798⟩
theorem part3_wp (c : Dev nD) (I : Ins F) (s : St F) (v1 : BitVec 32) (v148 : IVec S16x256 1) (v334 : FVec F S16x1 .f32) (k0_t3 : Fin (k0_t3_loop v1).trips) (arg23 : BitVec 32) (arg24 : BitVec 32) (v731 : Elt F .i32) (k0_hw16 : k0_chk16 v1 k0_t3 arg23 arg24 v731) (k0_h6 : k0_cond6 arg24 v731 = 1#1) (v738 : BitVec 32) (v774 : FVec F S16x64 .f32) (v777 : FVec F S16x1 .f32) (v778 : FVec F S16x64 .f32) (ht : k0_t3.val < 300) {Q : (Σ' (v818 : FVec F S16x64 .f32), FVec F S16x1 .bf16) → sProp 𝕄} :
    iprop(all c I s) ⊢ iprop(((all c I (m3 k0_t3.val v1 v148 v334 arg23 arg24 v731 v738 v774 v777 v778 I s)) -∗ Q (r3 k0_t3.val v1 v148 v334 arg23 arg24 v731 v738 v774 v777 v778 I s))
      -∗ wp frame (wpE (defs₀ (F := F)) Variants.none (c : Thread nD τ) none) Set.univ (k0_part3 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 v148 v334 k0_t3 arg23 arg24 v731 k0_hw16 k0_h6 v738 v774 v777 v778) Q) := by
  rw [k0_part3_eq_skeleton]
  unfold k0_part3_skel all inp pts m3 r3
  simp only [wp_bind]
  iintro ⟨⟨H0, H1, H2, H3, H4, H5⟩, H8, H11, H12, H13, H14, H15, H16, H17⟩ HQ
  iapply (wp_ld c (m := A8) _ (ld8 (k0_off68_eq arg23))) $$ H8
  iintro H8
  iapply (wp_st c (m := A8) _ (st8 (k0_off68_eq arg23))) $$ H8
  iintro H8
  iapply (wp_ld c (m := A13) _ (ld13 (k0_off69_eq arg23))) $$ H13
  iintro H13
  iapply (wp_ld c (m := A14) _ (ld14 (k0_off70_eq v1 k0_t3 ht))) $$ H14
  iintro H14
  iapply (wp_ld c (m := A16) _ (ld16 (off := ![1, 0, 0]) rfl)) $$ H16
  iintro H16
  iapply (wp_ld c (m := A17) _ (ld17 (off := ![1, 0, 0]) rfl)) $$ H17
  iintro H17
  rw [wp_pure]
  imodintro
  iapply HQ
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H8]; · iexact H8
  isplitl [H11]; · iexact H11
  isplitl [H12]; · iexact H12
  isplitl [H13]; · iexact H13
  isplitl [H14]; · iexact H14
  isplitl [H15]; · iexact H15
  isplitl [H16]; · iexact H16
  iexact H17

end Cert.KernelIdeal.Hand
end
-- ==== Proof.KI.Sites.lean ====
module

public import proofs.«01_k».proof.Proof.KI.Parts

@[expose] public section
noncomputable section
namespace Cert.KernelIdeal.Hand
open Cert.KernelIdeal Cert.KernelIdeal.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (Pipeline.UD sig nD τ) ℕ

theorem site0K (c : Dev nD) (v1 : BitVec 32) (v444 : BitVec 32) (k0_hw1 : k0_chk1 v1 v444) (k0_h1 : k0_cond1 v1 = 1#1) {i b o n : ℕ} (e3 : k0_off3 v444 = (![i, 0, 0], ![1, 512, n])) (e4 : k0_off4 v444 = (![b, 0, o], ![1, 512, n])) (es : k0_sz2 v444 = ![512, n]) (eo : k0_off2 = ![i]) (hi : i < 4) (hn : 0 < n)
    (X : Vec F S16x512x32768 .fp8e4m3) (f : Vec F S4x512x2048 .fp8e4m3) {Q : PUnit → sProp 𝕄} :
    FreeK c X i f ⊢ iprop((FlyK c X i n (fetched X b o n i f) -∗ Q ⟨⟩)
      -∗ wp frame (wpE (defs₀ (F := F)) Variants.none (c : Thread nD τ) none) Set.univ (Prog.lift (.enqueueDma ((A6.slice (Rect.unitDyn (s := S16x512x32768) (k0_off4 v444).1 (k0_off4 v444).2 (k0_off4_inb v1 v444 k0_hw1 k0_h1)) (fun _ => rfl)).squeeze (⟨2, k0_sz2 v444⟩ : Shape) (k0_sz2_squeezes v1 v444 k0_hw1 k0_h1)) (.here ((A9.slice (Rect.unitDyn (s := S4x512x2048) (k0_off3 v444).1 (k0_off3 v444).2 (k0_off3_inb v1 v444 k0_hw1 k0_h1)) (fun _ => rfl)).squeeze (⟨2, k0_sz1 v444⟩ : Shape) (k0_sz1_squeezes v1 v444 k0_hw1 k0_h1))) (.dma ((A18.slice (Rect.unit (s := S4) k0_off2 S1.size k0_off2_inb)).squeeze S_ squeezes_S1_S_).sem) (((show A6.IsWhole from Memref.isWhole_whole _).wordExact_slice rfl _ (k0_off4_wordsfp8e4m3 v1 v444 k0_hw1 k0_h1)).reshape _ _) (((show A9.IsWhole from Memref.isWhole_whole _).wordExact_slice rfl _ (k0_off3_wordsfp8e4m3 v1 v444 k0_hw1 k0_h1)).reshape _ _) ⟨Or.inl rfl, trivial⟩)) Q) :=
  wp_fetchK c X e3 e4 es eo hi hn f
theorem site1V (c : Dev nD) (v1 : BitVec 32) (v444 : BitVec 32) (k0_hw1 : k0_chk1 v1 v444) (k0_h1 : k0_cond1 v1 = 1#1) {i b o n : ℕ} (e3 : k0_off3 v444 = (![i, 0, 0], ![1, 512, n])) (e4 : k0_off4 v444 = (![b, 0, o], ![1, 512, n])) (es : k0_sz2 v444 = ![512, n]) (eo : k0_off2 = ![i]) (hi : i < 4) (hn : 0 < n)
    (X : Vec F S16x512x32768 .fp8e4m3) (f : Vec F S4x512x2048 .fp8e4m3) {Q : PUnit → sProp 𝕄} :
    FreeV c X i f ⊢ iprop((FlyV c X i n (fetched X b o n i f) -∗ Q ⟨⟩)
      -∗ wp frame (wpE (defs₀ (F := F)) Variants.none (c : Thread nD τ) none) Set.univ (Prog.lift (.enqueueDma ((A7.slice (Rect.unitDyn (s := S16x512x32768) (k0_off4 v444).1 (k0_off4 v444).2 (k0_off4_inb v1 v444 k0_hw1 k0_h1)) (fun _ => rfl)).squeeze (⟨2, k0_sz2 v444⟩ : Shape) (k0_sz2_squeezes v1 v444 k0_hw1 k0_h1)) (.here ((A10.slice (Rect.unitDyn (s := S4x512x2048) (k0_off3 v444).1 (k0_off3 v444).2 (k0_off3_inb v1 v444 k0_hw1 k0_h1)) (fun _ => rfl)).squeeze (⟨2, k0_sz1 v444⟩ : Shape) (k0_sz1_squeezes v1 v444 k0_hw1 k0_h1))) (.dma ((A19.slice (Rect.unit (s := S4) k0_off2 S1.size k0_off2_inb)).squeeze S_ squeezes_S1_S_).sem) (((show A7.IsWhole from Memref.isWhole_whole _).wordExact_slice rfl _ (k0_off4_wordsfp8e4m3 v1 v444 k0_hw1 k0_h1)).reshape _ _) (((show A10.IsWhole from Memref.isWhole_whole _).wordExact_slice rfl _ (k0_off3_wordsfp8e4m3 v1 v444 k0_hw1 k0_h1)).reshape _ _) ⟨Or.inl rfl, trivial⟩)) Q) :=
  wp_fetchV c X e3 e4 es eo hi hn f
theorem site2K (c : Dev nD) (v1 : BitVec 32) (v6 : BitVec 32) (v444 : BitVec 32) (k0_hw3 : k0_chk3 v1 v6 v444) (k0_h2 : k0_cond2 v1 = 1#1) {i b o n : ℕ} (e3 : k0_off7 v6 v444 = (![i, 0, 0], ![1, 512, n])) (e4 : k0_off8 v6 v444 = (![b, 0, o], ![1, 512, n])) (es : k0_sz4 v6 v444 = ![512, n]) (eo : k0_off6 = ![i]) (hi : i < 4) (hn : 0 < n)
    (X : Vec F S16x512x32768 .fp8e4m3) (f : Vec F S4x512x2048 .fp8e4m3) {Q : PUnit → sProp 𝕄} :
    FreeK c X i f ⊢ iprop((FlyK c X i n (fetched X b o n i f) -∗ Q ⟨⟩)
      -∗ wp frame (wpE (defs₀ (F := F)) Variants.none (c : Thread nD τ) none) Set.univ (Prog.lift (.enqueueDma ((A6.slice (Rect.unitDyn (s := S16x512x32768) (k0_off8 v6 v444).1 (k0_off8 v6 v444).2 (k0_off8_inb v1 v6 v444 k0_hw3 k0_h2)) (fun _ => rfl)).squeeze (⟨2, k0_sz4 v6 v444⟩ : Shape) (k0_sz4_squeezes v1 v6 v444 k0_hw3 k0_h2)) (.here ((A9.slice (Rect.unitDyn (s := S4x512x2048) (k0_off7 v6 v444).1 (k0_off7 v6 v444).2 (k0_off7_inb v1 v6 v444 k0_hw3 k0_h2)) (fun _ => rfl)).squeeze (⟨2, k0_sz3 v6 v444⟩ : Shape) (k0_sz3_squeezes v1 v6 v444 k0_hw3 k0_h2))) (.dma ((A18.slice (Rect.unit (s := S4) k0_off6 S1.size k0_off6_inb)).squeeze S_ squeezes_S1_S_).sem) (((show A6.IsWhole from Memref.isWhole_whole _).wordExact_slice rfl _ (k0_off8_wordsfp8e4m3 v1 v6 v444 k0_hw3 k0_h2)).reshape _ _) (((show A9.IsWhole from Memref.isWhole_whole _).wordExact_slice rfl _ (k0_off7_wordsfp8e4m3 v1 v6 v444 k0_hw3 k0_h2)).reshape _ _) ⟨Or.inl rfl, trivial⟩)) Q) :=
  wp_fetchK c X e3 e4 es eo hi hn f
theorem site3V (c : Dev nD) (v1 : BitVec 32) (v6 : BitVec 32) (v444 : BitVec 32) (k0_hw3 : k0_chk3 v1 v6 v444) (k0_h2 : k0_cond2 v1 = 1#1) {i b o n : ℕ} (e3 : k0_off7 v6 v444 = (![i, 0, 0], ![1, 512, n])) (e4 : k0_off8 v6 v444 = (![b, 0, o], ![1, 512, n])) (es : k0_sz4 v6 v444 = ![512, n]) (eo : k0_off6 = ![i]) (hi : i < 4) (hn : 0 < n)
    (X : Vec F S16x512x32768 .fp8e4m3) (f : Vec F S4x512x2048 .fp8e4m3) {Q : PUnit → sProp 𝕄} :
    FreeV c X i f ⊢ iprop((FlyV c X i n (fetched X b o n i f) -∗ Q ⟨⟩)
      -∗ wp frame (wpE (defs₀ (F := F)) Variants.none (c : Thread nD τ) none) Set.univ (Prog.lift (.enqueueDma ((A7.slice (Rect.unitDyn (s := S16x512x32768) (k0_off8 v6 v444).1 (k0_off8 v6 v444).2 (k0_off8_inb v1 v6 v444 k0_hw3 k0_h2)) (fun _ => rfl)).squeeze (⟨2, k0_sz4 v6 v444⟩ : Shape) (k0_sz4_squeezes v1 v6 v444 k0_hw3 k0_h2)) (.here ((A10.slice (Rect.unitDyn (s := S4x512x2048) (k0_off7 v6 v444).1 (k0_off7 v6 v444).2 (k0_off7_inb v1 v6 v444 k0_hw3 k0_h2)) (fun _ => rfl)).squeeze (⟨2, k0_sz3 v6 v444⟩ : Shape) (k0_sz3_squeezes v1 v6 v444 k0_hw3 k0_h2))) (.dma ((A19.slice (Rect.unit (s := S4) k0_off6 S1.size k0_off6_inb)).squeeze S_ squeezes_S1_S_).sem) (((show A7.IsWhole from Memref.isWhole_whole _).wordExact_slice rfl _ (k0_off8_wordsfp8e4m3 v1 v6 v444 k0_hw3 k0_h2)).reshape _ _) (((show A10.IsWhole from Memref.isWhole_whole _).wordExact_slice rfl _ (k0_off7_wordsfp8e4m3 v1 v6 v444 k0_hw3 k0_h2)).reshape _ _) ⟨Or.inl rfl, trivial⟩)) Q) :=
  wp_fetchV c X e3 e4 es eo hi hn f
theorem site4K (c : Dev nD) (v1 : BitVec 32) (v6 : BitVec 32) (v21 : BitVec 32) (v444 : BitVec 32) (k0_hw5 : k0_chk5 v1 v6 v21 v444) (k0_h3 : k0_cond3 v1 = 1#1) {i b o n : ℕ} (e3 : k0_off12 v6 v21 v444 = (![i, 0, 0], ![1, 512, n])) (e4 : k0_off13 v6 v21 v444 = (![b, 0, o], ![1, 512, n])) (es : k0_sz6 v6 v21 v444 = ![512, n]) (eo : k0_off11 = ![i]) (hi : i < 4) (hn : 0 < n)
    (X : Vec F S16x512x32768 .fp8e4m3) (f : Vec F S4x512x2048 .fp8e4m3) {Q : PUnit → sProp 𝕄} :
    FreeK c X i f ⊢ iprop((FlyK c X i n (fetched X b o n i f) -∗ Q ⟨⟩)
      -∗ wp frame (wpE (defs₀ (F := F)) Variants.none (c : Thread nD τ) none) Set.univ (Prog.lift (.enqueueDma ((A6.slice (Rect.unitDyn (s := S16x512x32768) (k0_off13 v6 v21 v444).1 (k0_off13 v6 v21 v444).2 (k0_off13_inb v1 v6 v21 v444 k0_hw5 k0_h3)) (fun _ => rfl)).squeeze (⟨2, k0_sz6 v6 v21 v444⟩ : Shape) (k0_sz6_squeezes v1 v6 v21 v444 k0_hw5 k0_h3)) (.here ((A9.slice (Rect.unitDyn (s := S4x512x2048) (k0_off12 v6 v21 v444).1 (k0_off12 v6 v21 v444).2 (k0_off12_inb v1 v6 v21 v444 k0_hw5 k0_h3)) (fun _ => rfl)).squeeze (⟨2, k0_sz5 v6 v21 v444⟩ : Shape) (k0_sz5_squeezes v1 v6 v21 v444 k0_hw5 k0_h3))) (.dma ((A18.slice (Rect.unit (s := S4) k0_off11 S1.size k0_off11_inb)).squeeze S_ squeezes_S1_S_).sem) (((show A6.IsWhole from Memref.isWhole_whole _).wordExact_slice rfl _ (k0_off13_wordsfp8e4m3 v1 v6 v21 v444 k0_hw5 k0_h3)).reshape _ _) (((show A9.IsWhole from Memref.isWhole_whole _).wordExact_slice rfl _ (k0_off12_wordsfp8e4m3 v1 v6 v21 v444 k0_hw5 k0_h3)).reshape _ _) ⟨Or.inl rfl, trivial⟩)) Q) :=
  wp_fetchK c X e3 e4 es eo hi hn f
theorem site5V (c : Dev nD) (v1 : BitVec 32) (v6 : BitVec 32) (v21 : BitVec 32) (v444 : BitVec 32) (k0_hw5 : k0_chk5 v1 v6 v21 v444) (k0_h3 : k0_cond3 v1 = 1#1) {i b o n : ℕ} (e3 : k0_off12 v6 v21 v444 = (![i, 0, 0], ![1, 512, n])) (e4 : k0_off13 v6 v21 v444 = (![b, 0, o], ![1, 512, n])) (es : k0_sz6 v6 v21 v444 = ![512, n]) (eo : k0_off11 = ![i]) (hi : i < 4) (hn : 0 < n)
    (X : Vec F S16x512x32768 .fp8e4m3) (f : Vec F S4x512x2048 .fp8e4m3) {Q : PUnit → sProp 𝕄} :
    FreeV c X i f ⊢ iprop((FlyV c X i n (fetched X b o n i f) -∗ Q ⟨⟩)
      -∗ wp frame (wpE (defs₀ (F := F)) Variants.none (c : Thread nD τ) none) Set.univ (Prog.lift (.enqueueDma ((A7.slice (Rect.unitDyn (s := S16x512x32768) (k0_off13 v6 v21 v444).1 (k0_off13 v6 v21 v444).2 (k0_off13_inb v1 v6 v21 v444 k0_hw5 k0_h3)) (fun _ => rfl)).squeeze (⟨2, k0_sz6 v6 v21 v444⟩ : Shape) (k0_sz6_squeezes v1 v6 v21 v444 k0_hw5 k0_h3)) (.here ((A10.slice (Rect.unitDyn (s := S4x512x2048) (k0_off12 v6 v21 v444).1 (k0_off12 v6 v21 v444).2 (k0_off12_inb v1 v6 v21 v444 k0_hw5 k0_h3)) (fun _ => rfl)).squeeze (⟨2, k0_sz5 v6 v21 v444⟩ : Shape) (k0_sz5_squeezes v1 v6 v21 v444 k0_hw5 k0_h3))) (.dma ((A19.slice (Rect.unit (s := S4) k0_off11 S1.size k0_off11_inb)).squeeze S_ squeezes_S1_S_).sem) (((show A7.IsWhole from Memref.isWhole_whole _).wordExact_slice rfl _ (k0_off13_wordsfp8e4m3 v1 v6 v21 v444 k0_hw5 k0_h3)).reshape _ _) (((show A10.IsWhole from Memref.isWhole_whole _).wordExact_slice rfl _ (k0_off12_wordsfp8e4m3 v1 v6 v21 v444 k0_hw5 k0_h3)).reshape _ _) ⟨Or.inl rfl, trivial⟩)) Q) :=
  wp_fetchV c X e3 e4 es eo hi hn f
theorem site6K (c : Dev nD) (v1 : BitVec 32) (k0_hw7 : k0_chk7 v1) (k0_t3 : Fin (k0_t3_loop v1).trips) (arg21 : BitVec 32) (arg22 : BitVec 32) (v740 : BitVec 32) (k0_hw10 : k0_chk10 v1 k0_t3 arg21 arg22 v740) (k0_h4 : k0_cond4 v1 k0_t3 = 1#1) {i b o n : ℕ} (e3 : k0_off34 v1 k0_t3 arg22 v740 = (![i, 0, 0], ![1, 512, n])) (e4 : k0_off35 v1 k0_t3 arg21 arg22 v740 = (![b, 0, o], ![1, 512, n])) (es : k0_sz10 v1 k0_t3 arg22 v740 = ![512, n]) (eo : (k0_off33 v1 k0_t3) = ![i]) (hi : i < 4) (hn : 0 < n)
    (X : Vec F S16x512x32768 .fp8e4m3) (f : Vec F S4x512x2048 .fp8e4m3) {Q : PUnit → sProp 𝕄} :
    FreeK c X i f ⊢ iprop((FlyK c X i n (fetched X b o n i f) -∗ Q ⟨⟩)
      -∗ wp frame (wpE (defs₀ (F := F)) Variants.none (c : Thread nD τ) none) Set.univ (Prog.lift (.enqueueDma ((A6.slice (Rect.unitDyn (s := S16x512x32768) (k0_off35 v1 k0_t3 arg21 arg22 v740).1 (k0_off35 v1 k0_t3 arg21 arg22 v740).2 (k0_off35_inb v1 k0_t3 arg21 arg22 v740 k0_hw10 k0_h4)) (fun _ => rfl)).squeeze (⟨2, k0_sz10 v1 k0_t3 arg22 v740⟩ : Shape) (k0_sz10_squeezes v1 k0_t3 arg21 arg22 v740 k0_hw10 k0_h4)) (.here ((A9.slice (Rect.unitDyn (s := S4x512x2048) (k0_off34 v1 k0_t3 arg22 v740).1 (k0_off34 v1 k0_t3 arg22 v740).2 (k0_off34_inb v1 k0_t3 arg21 arg22 v740 k0_hw10 k0_h4)) (fun _ => rfl)).squeeze (⟨2, k0_sz9 v1 k0_t3 arg22 v740⟩ : Shape) (k0_sz9_squeezes v1 k0_t3 arg21 arg22 v740 k0_hw10 k0_h4))) (.dma ((A18.slice (Rect.unit (s := S4) (k0_off33 v1 k0_t3) S1.size (k0_off33_inb v1 k0_hw7 k0_t3 k0_h4))).squeeze S_ squeezes_S1_S_).sem) (((show A6.IsWhole from Memref.isWhole_whole _).wordExact_slice rfl _ (k0_off35_wordsfp8e4m3 v1 k0_t3 arg21 arg22 v740 k0_hw10 k0_h4)).reshape _ _) (((show A9.IsWhole from Memref.isWhole_whole _).wordExact_slice rfl _ (k0_off34_wordsfp8e4m3 v1 k0_t3 arg21 arg22 v740 k0_hw10 k0_h4)).reshape _ _) ⟨Or.inl rfl, trivial⟩)) Q) :=
  wp_fetchK c X e3 e4 es eo hi hn f
theorem site7V (c : Dev nD) (v1 : BitVec 32) (k0_hw7 : k0_chk7 v1) (k0_t3 : Fin (k0_t3_loop v1).trips) (arg21 : BitVec 32) (arg22 : BitVec 32) (v740 : BitVec 32) (k0_hw10 : k0_chk10 v1 k0_t3 arg21 arg22 v740) (k0_h4 : k0_cond4 v1 k0_t3 = 1#1) {i b o n : ℕ} (e3 : k0_off34 v1 k0_t3 arg22 v740 = (![i, 0, 0], ![1, 512, n])) (e4 : k0_off35 v1 k0_t3 arg21 arg22 v740 = (![b, 0, o], ![1, 512, n])) (es : k0_sz10 v1 k0_t3 arg22 v740 = ![512, n]) (eo : (k0_off33 v1 k0_t3) = ![i]) (hi : i < 4) (hn : 0 < n)
    (X : Vec F S16x512x32768 .fp8e4m3) (f : Vec F S4x512x2048 .fp8e4m3) {Q : PUnit → sProp 𝕄} :
    FreeV c X i f ⊢ iprop((FlyV c X i n (fetched X b o n i f) -∗ Q ⟨⟩)
      -∗ wp frame (wpE (defs₀ (F := F)) Variants.none (c : Thread nD τ) none) Set.univ (Prog.lift (.enqueueDma ((A7.slice (Rect.unitDyn (s := S16x512x32768) (k0_off35 v1 k0_t3 arg21 arg22 v740).1 (k0_off35 v1 k0_t3 arg21 arg22 v740).2 (k0_off35_inb v1 k0_t3 arg21 arg22 v740 k0_hw10 k0_h4)) (fun _ => rfl)).squeeze (⟨2, k0_sz10 v1 k0_t3 arg22 v740⟩ : Shape) (k0_sz10_squeezes v1 k0_t3 arg21 arg22 v740 k0_hw10 k0_h4)) (.here ((A10.slice (Rect.unitDyn (s := S4x512x2048) (k0_off34 v1 k0_t3 arg22 v740).1 (k0_off34 v1 k0_t3 arg22 v740).2 (k0_off34_inb v1 k0_t3 arg21 arg22 v740 k0_hw10 k0_h4)) (fun _ => rfl)).squeeze (⟨2, k0_sz9 v1 k0_t3 arg22 v740⟩ : Shape) (k0_sz9_squeezes v1 k0_t3 arg21 arg22 v740 k0_hw10 k0_h4))) (.dma ((A19.slice (Rect.unit (s := S4) (k0_off33 v1 k0_t3) S1.size (k0_off33_inb v1 k0_hw7 k0_t3 k0_h4))).squeeze S_ squeezes_S1_S_).sem) (((show A7.IsWhole from Memref.isWhole_whole _).wordExact_slice rfl _ (k0_off35_wordsfp8e4m3 v1 k0_t3 arg21 arg22 v740 k0_hw10 k0_h4)).reshape _ _) (((show A10.IsWhole from Memref.isWhole_whole _).wordExact_slice rfl _ (k0_off34_wordsfp8e4m3 v1 k0_t3 arg21 arg22 v740 k0_hw10 k0_h4)).reshape _ _) ⟨Or.inl rfl, trivial⟩)) Q) :=
  wp_fetchV c X e3 e4 es eo hi hn f

end Cert.KernelIdeal.Hand
end
-- ==== Proof.KI.Ctl.lean ====
module

public import proofs.«01_k».proof.Proof.KI.Sites

@[expose] public section
noncomputable section
namespace Cert.KernelIdeal.Hand
open Cert.KernelIdeal Cert.KernelIdeal.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (Pipeline.UD sig nD τ) ℕ

/-- Slot `i` being filled with `n` columns to hold `f` if `P`, else free holding `g`. -/
def IfK (c : Dev nD) (X : Vec F S16x512x32768 .fp8e4m3) (P : Prop) [Decidable P] (i n : ℕ) (f g : Vec F S4x512x2048 .fp8e4m3) : sProp 𝕄 :=
  if P then FlyK c X i n f else FreeK c X i g
/-- Slot `i` being filled with `n` columns to hold `f` if `P`, else free holding `g`. -/
def IfV (c : Dev nD) (X : Vec F S16x512x32768 .fp8e4m3) (P : Prop) [Decidable P] (i n : ℕ) (f g : Vec F S4x512x2048 .fp8e4m3) : sProp 𝕄 :=
  if P then FlyV c X i n f else FreeV c X i g

theorem off_of {b : ℕ} (hb : b < 16) {o : Fin 1 → ℕ} (h : o = ![(BitVec.ofNat 32 b).toNat]) : o = ![b] := by rw [h, toNat_of (by omega)]
theorem off_of' {b : ℕ} {w : BitVec 32} (hb : b < 16) (e : w = BitVec.ofNat 32 b) {o : Fin 1 → ℕ} (h : o = ![w.toNat]) : o = ![b] := by rw [h, e, toNat_of (by omega)]
theorem src_of {b j n : ℕ} (hb : b < 16) (hj : j < 16) {wb wj : BitVec 32} (eb : wb = BitVec.ofNat 32 b) (ej : wj = BitVec.ofNat 32 j) {o : (Fin 3 → ℕ) × (Fin 3 → ℕ)}
    (h : o = (![wb.toNat, 0, (Scalar.muli wj 2048#32).toNat], ![1, 512, n])) : o = (![b, 0, j * 2048], ![1, 512, n]) := by
  rw [h, eb, ej, toNat_of (by omega), off2048 hj]
theorem sz_pos (t j w : BitVec 32) : 0 < sz t j w := by obtain ⟨n, h1, h2, h3⟩ := sz_facts t j w; omega

section
variable (c : Dev nD) (I : Ins F) (s : St F)

set_option maxHeartbeats 4000000 in
theorem part4_wp {n fb fj b j nb nj : ℕ} (k0_hw7 : k0_chk7 (BitVec.ofNat 32 n)) (k0_t3 : Fin (k0_t3_loop (BitVec.ofNat 32 n)).trips) (hn : n < 300) (ht : k0_t3.val < 300)
    (hfb : fb < 16) (hfj : fj < 16) (hb : b < 16) (hj : j < 16) (hnb : nb < 16) (hnj : nj < 16)
    (e1 : nbWord (BitVec.ofNat 32 b) (BitVec.ofNat 32 j) (lw I.lens b) = BitVec.ofNat 32 nb) (e2 : njWord (BitVec.ofNat 32 j) (lw I.lens b) = BitVec.ofNat 32 nj)
    (fk fv : Vec F S4x512x2048 .fp8e4m3) {Q : _ → sProp 𝕄} :
    iprop(all c I s ∗ FreeK c I.XK ((k0_t3.val + 3) % 4) fk ∗ FreeV c I.XV ((k0_t3.val + 3) % 4) fv) ⊢ iprop(((all c I s
        ∗ IfK c I.XK (k0_t3.val + 3 < n) ((k0_t3.val + 3) % 4) (sz (BitVec.ofNat 32 (k0_t3.val + 3)) (BitVec.ofNat 32 fj) (lw I.lens fb)) (fetched I.XK fb (fj * 2048) (sz (BitVec.ofNat 32 (k0_t3.val + 3)) (BitVec.ofNat 32 fj) (lw I.lens fb)) ((k0_t3.val + 3) % 4) fk) fk
        ∗ IfV c I.XV (k0_t3.val + 3 < n) ((k0_t3.val + 3) % 4) (sz (BitVec.ofNat 32 (k0_t3.val + 3)) (BitVec.ofNat 32 fj) (lw I.lens fb)) (fetched I.XV fb (fj * 2048) (sz (BitVec.ofNat 32 (k0_t3.val + 3)) (BitVec.ofNat 32 fj) (lw I.lens fb)) ((k0_t3.val + 3) % 4) fv) fv) -∗
        Q ⟨k0_chk8_ok hb, Scf.iv 0#32 1#32 k0_t3.val, lw I.lens b, k0_chk12_ok _ k0_t3 ht _ _ _ hnb hnj e1 e2, nbWord (BitVec.ofNat 32 b) (BitVec.ofNat 32 j) (lw I.lens b), njWord (BitVec.ofNat 32 j) (lw I.lens b),
          nbWord (BitVec.ofNat 32 fb) (BitVec.ofNat 32 fj) (lw I.lens fb), njWord (BitVec.ofNat 32 fj) (lw I.lens fb), Scalar.extui (Scalar.cmpi .slt (Scalar.addi (Scf.iv 0#32 1#32 k0_t3.val) 1#32) (BitVec.ofNat 32 n)), 0#32⟩)
      -∗ wp frame (wpE (defs₀ (F := F)) Variants.none (c : Thread nD τ) none) Set.univ (k0_part4 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 (BitVec.ofNat 32 n) k0_hw7 0#32 1#32 k0_t3 (BitVec.ofNat 32 fb) (BitVec.ofNat 32 fj) (BitVec.ofNat 32 b) (BitVec.ofNat 32 j)) Q) := by
  rw [k0_part4_eq_skeleton]
  have hq := k0_chk12_ok _ k0_t3 ht _ _ _ hnb hnj e1 e2
  unfold k0_part4_skel all inp nbWord njWord
  simp only [wp_bind]
  iintro ⟨⟨⟨H0, HI⟩, HP⟩, HK, HV⟩ HQ
  iapply (wp_asm c (k0_chk15_ok hj))
  iapply (wp_asm c (k0_chk11_ok _ k0_t3 ht hfj))
  iapply (wp_asm c (k0_chk9_ok _ k0_t3 ht hfb))
  iapply (wp_asm c (k0_chk8_ok hb))
  iapply (wp_s0 c (off_of hb (k0_off31_eq _))) $$ H0
  iintro H0
  iapply (wp_asm c hq)
  by_cases hc : k0_t3.val + 3 < n
  · rw [dif_pos ((cond4_iff hn k0_t3 ht).2 hc)]
    simp only [wp_bind]
    iapply (wp_s0 c (off_of hfb (k0_off32_eq _))) $$ H0
    iintro H0
    iapply (wp_asm c (k0_chk10_ok _ k0_t3 ht hfb hfj _))
    iapply (site6K c _ k0_hw7 k0_t3 _ _ _ (k0_chk10_ok _ k0_t3 ht hfb hfj _) ((cond4_iff hn k0_t3 ht).2 hc) (k0_off34_eq _ _ _ _ ht) (src_of hfb hfj rfl rfl (k0_off35_eq _ _ _ _ _ ht)) (k0_sz10_eq _ _ _ _ ht) (k0_off33_eq _ _ ht) (Nat.mod_lt _ (by decide)) (sz_pos _ _ _)) $$ HK
    iintro HK
    iapply (site7V c _ k0_hw7 k0_t3 _ _ _ (k0_chk10_ok _ k0_t3 ht hfb hfj _) ((cond4_iff hn k0_t3 ht).2 hc) (k0_off34_eq _ _ _ _ ht) (src_of hfb hfj rfl rfl (k0_off35_eq _ _ _ _ _ ht)) (k0_sz10_eq _ _ _ _ ht) (k0_off33_eq _ _ ht) (Nat.mod_lt _ (by decide)) (sz_pos _ _ _)) $$ HV
    iintro HV
    iapply (wp_s0 c (off_of hfb (k0_off36_eq _))) $$ H0
    iintro H0
    rw [wp_pure]
    imodintro
    iapply HQ
    rw [IfK, IfV, if_pos hc, if_pos hc]
    isplitl [H0 HI HP]
    · isplitr [HP]
      · isplitl [H0]
        · iexact H0
        · iexact HI
      · iexact HP
    · isplitl [HK]
      · iexact HK
      · iexact HV
  · rw [dif_neg (fun h => hc ((cond4_iff hn k0_t3 ht).1 h))]
    simp only [wp_bind]
    iapply (wp_s0 c (off_of hfb (k0_off36_eq _))) $$ H0
    iintro H0
    rw [wp_pure]
    imodintro
    iapply HQ
    rw [IfK, IfV, if_neg hc, if_neg hc]
    isplitl [H0 HI HP]
    · isplitr [HP]
      · isplitl [H0]
        · iexact H0
        · iexact HI
      · iexact HP
    · isplitl [HK]
      · iexact HK
      · iexact HV

set_option maxHeartbeats 4000000 in
theorem part5_wp {n nb nj b j : ℕ} (k0_hw7 : k0_chk7 (BitVec.ofNat 32 n)) (k0_t3 : Fin (k0_t3_loop (BitVec.ofNat 32 n)).trips) (hn : n < 300) (ht : k0_t3.val < 300)
    (hb : b < 16) (hnb : nb < 16) (k0_hw8 : k0_chk8 (BitVec.ofNat 32 b)) (arg20 : BitVec 32) (k0_hw12 : k0_chk12 (BitVec.ofNat 32 n) k0_t3 (BitVec.ofNat 32 b) (BitVec.ofNat 32 j) (lw I.lens b))
    (e1 : nbWord (BitVec.ofNat 32 b) (BitVec.ofNat 32 j) (lw I.lens b) = BitVec.ofNat 32 nb) (e2 : njWord (BitVec.ofNat 32 j) (lw I.lens b) = BitVec.ofNat 32 nj)
    (fk gk fv : Vec F S4x512x2048 .fp8e4m3) (v451 v453 v473 c0 : BitVec 32) {Q : _ → sProp 𝕄} :
    iprop(all c I s ∗ IfK c I.XK (k0_t3.val + 1 < n) ((k0_t3.val + 1) % 4) (sz (BitVec.ofNat 32 (k0_t3.val + 1)) (BitVec.ofNat 32 nj) (lw I.lens nb)) fk gk
        ∗ FlyV c I.XV (k0_t3.val % 4) (sz (BitVec.ofNat 32 k0_t3.val) (BitVec.ofNat 32 j) (lw I.lens b)) fv ∗ (∃ W, owes (c : Thread nD τ) 0 W)) ⊢ iprop(((all c I s
        ∗ FreeK c I.XK ((k0_t3.val + 1) % 4) (if k0_t3.val + 1 < n then fk else gk) ∗ FreeV c I.XV (k0_t3.val % 4) fv ∗ (∃ W, owes (c : Thread nD τ) 0 W)) -∗
        Q ⟨Scalar.remsi (Scalar.addi arg20 1#32) 4#32, Scalar.remsi (Scalar.addi arg20 1#32) 2#32, Scalar.subi 1#32 (Scalar.remsi (Scalar.addi arg20 1#32) 2#32),
          k0_pay23 (F := F) v453 (lw I.lens nb), k0_pay24 (gt S4x512x2048 ![(k0_t3.val + 1) % 4, 0, 0] S1x256x2048.size (if k0_t3.val + 1 < n then fk else gk))⟩)
      -∗ wp frame (wpE (defs₀ (F := F)) Variants.none (c : Thread nD τ) none) Set.univ (k0_part5 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 (BitVec.ofNat 32 n) k0_hw7 k0_t3 (BitVec.ofNat 32 b) (BitVec.ofNat 32 j) k0_hw8 arg20 (lw I.lens b) k0_hw12 v451 v453 v473 c0) Q) := by
  rw [k0_part5_eq_skeleton]
  unfold k0_part5_skel all inp
  by_cases hc : k0_t3.val + 1 < n
  · rw [dif_pos ((cond5_iff hn k0_t3 ht).2 hc), IfK, if_pos hc, if_pos hc]
    simp only [wp_bind]
    iintro ⟨⟨⟨H0, HI⟩, HP⟩, HK, HV, HO⟩ HQ
    iapply (wp_s0 c (off_of' hnb e1 (k0_off37_eq _ _ _))) $$ H0
    iintro H0
    iapply (wp_asm c (k0_chk13_ok _ k0_t3 ht _ _ _ _))
    iapply (wp_waitK c I.XK (n := sz (BitVec.ofNat 32 (k0_t3.val + 1)) (BitVec.ofNat 32 nj) (lw I.lens nb)) ((k0_sz11_eq _ _ _ _ _ ht).trans (by rw [e2]; rfl)) (k0_off38_eq _ _ ht) (Nat.mod_lt _ (by decide))) $$ [HK HO]
    · isplitl [HK]
      · iexact HK
      · iexact HO
    iintro ⟨HK, HO⟩
    iapply (wp_s0 c (off_of hb (k0_off41_eq _))) $$ H0
    iintro H0
    iapply (wp_asm c (k0_chk14_ok _ k0_t3 ht _ _ _))
    iapply (wp_waitV c I.XV (n := sz (BitVec.ofNat 32 k0_t3.val) (BitVec.ofNat 32 j) (lw I.lens b)) (k0_sz13_eq _ _ _ _ ht) (k0_off42_eq _ _ ht) (Nat.mod_lt _ (by decide))) $$ [HV HO]
    · isplitl [HV]
      · iexact HV
      · iexact HO
    iintro ⟨HV, HO⟩
    iapply (wp_s0 c (off_of' hnb e1 (k0_off45_eq _ _ _))) $$ H0
    iintro H0
    iapply (wp_loadK c I.XK (k0_off46_eq _ _ ht)) $$ HK
    iintro HK
    rw [wp_pure]
    imodintro
    iapply HQ
    isplitl [H0 HI HP]
    · isplitr [HP]
      · isplitl [H0]
        · iexact H0
        · iexact HI
      · iexact HP
    · isplitl [HK]
      · iexact HK
      · isplitl [HV]
        · iexact HV
        · iexact HO
  · rw [dif_neg (fun h => hc ((cond5_iff hn k0_t3 ht).1 h)), IfK, if_neg hc, if_neg hc]
    simp only [wp_bind]
    iintro ⟨⟨⟨H0, HI⟩, HP⟩, HK, HV, HO⟩ HQ
    iapply (wp_s0 c (off_of hb (k0_off41_eq _))) $$ H0
    iintro H0
    iapply (wp_asm c (k0_chk14_ok _ k0_t3 ht _ _ _))
    iapply (wp_waitV c I.XV (n := sz (BitVec.ofNat 32 k0_t3.val) (BitVec.ofNat 32 j) (lw I.lens b)) (k0_sz13_eq _ _ _ _ ht) (k0_off42_eq _ _ ht) (Nat.mod_lt _ (by decide))) $$ [HV HO]
    · isplitl [HV]
      · iexact HV
      · iexact HO
    iintro ⟨HV, HO⟩
    iapply (wp_s0 c (off_of' hnb e1 (k0_off45_eq _ _ _))) $$ H0
    iintro H0
    iapply (wp_loadK c I.XK (k0_off46_eq _ _ ht)) $$ HK
    iintro HK
    rw [wp_pure]
    imodintro
    iapply HQ
    isplitl [H0 HI HP]
    · isplitr [HP]
      · isplitl [H0]
        · iexact H0
        · iexact HI
      · iexact HP
    · isplitl [HK]
      · iexact HK
      · isplitl [HV]
        · iexact HV
        · iexact HO

end

end Cert.KernelIdeal.Hand
end
-- ==== Proof.KI.Pro.lean ====
module

public import proofs.«01_k».proof.Proof.KI.Ctl

@[expose] public section
noncomputable section
namespace Cert.KernelIdeal.Hand
open Cert.KernelIdeal Cert.KernelIdeal.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (Pipeline.UD sig nD τ) ℕ

/-- Columns fetched for trip `t`, what its ring slot held before, and what it then holds. -/
abbrev nT (L : ℕ → BitVec 32) (t : ℕ) : ℕ := sz (BitVec.ofNat 32 t) (BitVec.ofNat 32 (bj L t).2) (L (bj L t).1)
def prv (X : Vec F S16x512x32768 .fp8e4m3) (L : ℕ → BitVec 32) (g : Vec F S4x512x2048 .fp8e4m3) : ℕ → Vec F S4x512x2048 .fp8e4m3
  | 0 => g
  | 1 => g
  | 2 => g
  | 3 => g
  | t + 4 => fetched X (bj L t).1 ((bj L t).2 * 2048) (nT L t) (t % 4) (prv X L g t)
abbrev rng (X : Vec F S16x512x32768 .fp8e4m3) (L : ℕ → BitVec 32) (g : Vec F S4x512x2048 .fp8e4m3) (t : ℕ) : Vec F S4x512x2048 .fp8e4m3 :=
  fetched X (bj L t).1 ((bj L t).2 * 2048) (nT L t) (t % 4) (prv X L g t)

section
variable (c : Dev nD) (I : Ins F) (s : St F)

set_option maxHeartbeats 4000000 in
theorem t1_wp (hL : ∀ b, (lw I.lens b).toInt ≤ 32768) {Q : BitVec 32 → sProp 𝕄} :
    (A0.view.loc (c : Thread nD τ) ↦{fullShare} I.lens) ⊢ iprop(((A0.view.loc (c : Thread nD τ) ↦{fullShare} I.lens) -∗ Q (BitVec.ofNat 32 (pre (lw I.lens) 16)))
      -∗ wp frame (wpE (defs₀ (F := F)) Variants.none (c : Thread nD τ) none) Set.univ (Scf.Loop.for k0_t1_loop k0_t1_ok 0#32 (k0_t1_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10)) Q) := by
  have hs : ∀ (k : Fin k0_t1_loop.trips) (acc : BitVec 32), (iprop((A0.view.loc (c : Thread nD τ) ↦{fullShare} I.lens) ∗ ⌜acc = BitVec.ofNat 32 (pre (lw I.lens) k.val)⌝) : sProp 𝕄)
      ⊢ wp frame (wpE (defs₀ (F := F)) Variants.none (c : Thread nD τ) none) Set.univ (k0_t1_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 k acc) (fun a => iprop((A0.view.loc (c : Thread nD τ) ↦{fullShare} I.lens) ∗ ⌜a = BitVec.ofNat 32 (pre (lw I.lens) (k.val + 1))⌝)) := by
    intro k acc
    unfold k0_t1_body
    simp only [wp_bind]
    have hk : k.val < 300 := lt_of_lt_of_le k.isLt (by rw [t1_trips]; decide)
    iintro ⟨H0, %he⟩
    iapply (wp_s0 c (k0_off1_eq k hk)) $$ H0
    iintro H0
    rw [wp_pure]
    imodintro
    isplitl [H0]
    · iexact H0
    · ipureintro
      rw [he]
      show Scalar.addi _ (nWord (lw I.lens k.val)) = _
      rw [(nCh_eq (hL k.val)).2.2.2]
      exact WordCmp.addi_ofNat _ _
  iintro H0 HQ
  iapply (Scf.wp_for frame (wpE (defs₀ (F := F)) Variants.none (c : Thread nD τ) none) Set.univ _ _ _ k0_t1_ok _ _
    (fun k acc => iprop((A0.view.loc (c : Thread nD τ) ↦{fullShare} I.lens) ∗ ⌜acc = BitVec.ofNat 32 (pre (lw I.lens) k)⌝)) hs)
  isplitl [H0]
  · isplitl [H0]
    · iexact H0
    · ipureintro
      rfl
  · iintro %acc ⟨H0, %he⟩
    rw [he, show Scf.trips k0_t1_loop.lb k0_t1_loop.ub k0_t1_loop.st = 16 from t1_trips]
    iapply HQ
    iexact H0

/-- The scratch buffers after `k` sequences' queries are laid out. -/
def pro (v67 : FVec F S64x256 .bf16) (v97 : FVec F S32x8 .bf16) (v148 : IVec S16x256 1) (v195 v242 : FVec F S16x1 .bf16) (c0 : BitVec 32) : ℕ → St F → St F
  | 0, s => s
  | k + 1, s => let u := pro v67 v97 v148 v195 v242 c0 k s
    let w := m1 k v67 v97 v148 v195 v242 c0 1#32 I u
    { w with f12 := pt S16x2x16x256 ![k, 1, 0, 0] S1x1x16x256.size w.f12 (r1 k v67 v97 v148 v195 v242 c0 1#32 I u) }

set_option maxHeartbeats 4000000 in
theorem t2_wp (v67 : FVec F S64x256 .bf16) (v97 : FVec F S32x8 .bf16) (v148 : IVec S16x256 1) (v195 v242 : FVec F S16x1 .bf16) (c0 : BitVec 32) {Q : Unit → sProp 𝕄} :
    (all c I s) ⊢ iprop((all c I (pro I v67 v97 v148 v195 v242 c0 16 s) -∗ Q ())
      -∗ wp frame (wpE (defs₀ (F := F)) Variants.none (c : Thread nD τ) none) Set.univ (Scf.Loop.for k0_t2_loop k0_t2_ok ⟨⟩ (k0_t2_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v67 v97 v148 v195 v242 c0)) Q) := by
  have hs : ∀ (k : Fin k0_t2_loop.trips) (acc : Unit), iprop(all c I (pro I v67 v97 v148 v195 v242 c0 k.val s))
      ⊢ wp frame (wpE (defs₀ (F := F)) Variants.none (c : Thread nD τ) none) Set.univ (k0_t2_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v67 v97 v148 v195 v242 c0 k acc) (fun a => iprop(all c I (pro I v67 v97 v148 v195 v242 c0 (k.val + 1) s))) := by
    intro k acc
    unfold k0_t2_body
    simp only [wp_bind]
    have hk : k.val < 300 := lt_of_lt_of_le k.isLt (by rw [t2_trips]; decide)
    iintro H
    iapply (part1_wp c I _ v67 v97 v148 v195 v242 c0 1#32 k hk) $$ H
    iintro H
    unfold all pts
    icases H with ⟨HI, H8, H11, H12, H13, H14, H15, H16, H17⟩
    iapply (wp_st c (m := A12) _ (st12 (off := k0_off19 k) (k0_off19_eq k hk))) $$ H12
    iintro H12
    rw [wp_pure]
    imodintro
    isplitl [HI]
    · iexact HI
    · isplitl [H8]
      · iexact H8
      · isplitl [H11]
        · iexact H11
        · isplitl [H12]
          · iexact H12
          · isplitl [H13]
            · iexact H13
            · isplitl [H14]
              · iexact H14
              · isplitl [H15]
                · iexact H15
                · isplitl [H16]
                  · iexact H16
                  · iexact H17
  iintro H HQ
  iapply (Scf.wp_for frame (wpE (defs₀ (F := F)) Variants.none (c : Thread nD τ) none) Set.univ _ _ _ k0_t2_ok _ _
    (fun k _ => iprop(all c I (pro I v67 v97 v148 v195 v242 c0 k s))) hs)
  isplitl [H]
  · iexact H
  · iintro %acc H
    rw [show Scf.trips k0_t2_loop.lb k0_t2_loop.ub k0_t2_loop.st = 16 from t2_trips]
    iapply HQ
    iexact H

set_option maxHeartbeats 4000000 in
theorem part28_wp (v67 : FVec F S64x256 .bf16) (v97 : FVec F S32x8 .bf16) (v148 : IVec S16x256 1) (v195 v242 : FVec F S16x1 .bf16) (c0 : BitVec 32) (fk : Vec F S4x512x2048 .fp8e4m3) {Q : _ → sProp 𝕄} :
    iprop(all c I s ∗ FlyK c I.XK 0 (nT (lw I.lens) 0) fk ∗ (∃ W, owes (c : Thread nD τ) 0 W)) ⊢ iprop((all c I (pro I v67 v97 v148 v195 v242 c0 16 s) ∗ FreeK c I.XK 0 fk ∗ (∃ W, owes (c : Thread nD τ) 0 W) -∗
        Q ⟨Scalar.remsi 0#32 4#32, Scalar.remsi 0#32 2#32, Scalar.subi 1#32 (Scalar.remsi 0#32 2#32), iota .tc S16x2048 32 [1] iota_S16x2048_d1_w32, k0_pay100 (F := F) (lw I.lens 0)⟩)
      -∗ wp frame (wpE (defs₀ (F := F)) Variants.none (c : Thread nD τ) none) Set.univ (k0_part28 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v67 v97 v148 v195 v242 c0) Q) := by
  rw [k0_part28_eq_skeleton]
  unfold k0_part28_skel
  simp only [wp_bind]
  iintro ⟨H, HK, HO⟩ HQ
  iapply (t2_wp c I s v67 v97 v148 v195 v242 c0) $$ H
  iintro H
  unfold all inp
  icases H with ⟨⟨H0, HI⟩, HP⟩
  iapply (wp_s0 c rfl) $$ H0
  iintro H0
  iapply (wp_asm c (k0_chk6_ok _))
  iapply (wp_waitK c I.XK (n := nT (lw I.lens) 0) (k0_sz7_eq _) k0_off20_eq (by decide)) $$ [HK HO]
  · isplitl [HK]
    · iexact HK
    · iexact HO
  iintro ⟨HK, HO⟩
  iapply (wp_s0 c rfl) $$ H0
  iintro H0
  rw [wp_pure]
  imodintro
  iapply HQ
  isplitl [H0 HI HP]
  · isplitr [HP]
    · isplitl [H0]
      · iexact H0
      · iexact HI
    · iexact HP
  · isplitl [HK]
    · iexact HK
    · iexact HO

set_option maxHeartbeats 4000000 in
theorem part20_wp (hL : ∀ b, (lw I.lens b).toInt ≤ 32768) {n b j b' j' : ℕ} (en : n = pre (lw I.lens) 16) (hn : n < 300) (hn2 : 1 < n)
    (hb : b < 16) (hj : j < 16) (e1 : nbWord 0#32 0#32 (lw I.lens 0) = BitVec.ofNat 32 b) (e2 : njWord 0#32 (lw I.lens 0) = BitVec.ofNat 32 j)
    (h4 : k0_chk4 (BitVec.ofNat 32 n) (lw I.lens 0) (lw I.lens b))
    (gk gv : Vec F S4x512x2048 .fp8e4m3) {Q : _ → sProp 𝕄} :
    iprop(all c I s ∗ FreeK c I.XK 0 gk ∗ FreeK c I.XK 1 gk ∗ FreeV c I.XV 0 gv ∗ FreeV c I.XV 1 gv) ⊢ iprop((all c I s
        ∗ FlyK c I.XK 0 (sz 0#32 0#32 (lw I.lens 0)) (fetched I.XK 0 0 (sz 0#32 0#32 (lw I.lens 0)) 0 gk)
        ∗ FlyK c I.XK 1 (sz 1#32 (BitVec.ofNat 32 j) (lw I.lens b)) (fetched I.XK b (j * 2048) (sz 1#32 (BitVec.ofNat 32 j) (lw I.lens b)) 1 gk)
        ∗ FlyV c I.XV 0 (sz 0#32 0#32 (lw I.lens 0)) (fetched I.XV 0 0 (sz 0#32 0#32 (lw I.lens 0)) 0 gv)
        ∗ FlyV c I.XV 1 (sz 1#32 (BitVec.ofNat 32 j) (lw I.lens b)) (fetched I.XV b (j * 2048) (sz 1#32 (BitVec.ofNat 32 j) (lw I.lens b)) 1 gv) -∗
        Q ⟨BitVec.ofNat 32 n, k0_chk7_ok hn, lw I.lens 0, nbWord 0#32 0#32 (lw I.lens 0), njWord 0#32 (lw I.lens 0), Scalar.addi (njWord 0#32 (lw I.lens 0)) 1#32, lw I.lens b, h4, nWord (lw I.lens b)⟩)
      -∗ wp frame (wpE (defs₀ (F := F)) Variants.none (c : Thread nD τ) none) Set.univ (k0_part20 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10) Q) := by
  rw [k0_part20_eq_skeleton]
  have e1' := e1
  have e2' := e2
  unfold nbWord at e1'
  unfold njWord at e2'
  unfold k0_part20_skel all inp
  simp only [wp_bind]
  iintro ⟨⟨⟨H0, HI⟩, HP⟩, HK0, HK1, HV0, HV1⟩ HQ
  iapply (t1_wp c I hL) $$ H0
  iintro H0
  rw [← en]
  iapply (wp_asm c (k0_chk7_ok hn))
  rw [dif_pos ((cond1_iff hn).2 (by omega))]
  simp only [wp_bind]
  iapply (wp_s0 c rfl) $$ H0
  iintro H0
  iapply (wp_asm c (k0_chk1_ok _ _))
  iapply (site0K c _ _ (k0_chk1_ok _ _) ((cond1_iff hn).2 (by omega)) (k0_off3_eq _) (k0_off4_eq _) (k0_sz2_eq _) k0_off2_eq (by decide) (sz_pos _ _ _)) $$ HK0
  iintro HK0
  iapply (site1V c _ _ (k0_chk1_ok _ _) ((cond1_iff hn).2 (by omega)) (k0_off3_eq _) (k0_off4_eq _) (k0_sz2_eq _) k0_off2_eq (by decide) (sz_pos _ _ _)) $$ HV0
  iintro HV0
  iapply (wp_s0 c rfl) $$ H0
  iintro H0
  iapply (wp_asm c (k0_chk2_ok _ _ hb hj e1 e2))
  rw [dif_pos ((cond2_iff hn).2 (by omega))]
  simp only [wp_bind]
  iapply (wp_s0 c (off_of' hb e1 (k0_off5_eq _))) $$ H0
  iintro H0
  iapply (wp_asm c (k0_chk3_ok _ _ _ hb hj e1 e2))
  iapply (site2K c _ _ _ (k0_chk3_ok _ _ _ hb hj e1 e2) ((cond2_iff hn).2 (by omega)) (n := sz 1#32 (BitVec.ofNat 32 j) (lw I.lens b)) ((k0_off7_eq _ _).trans (by rw [e2]; rfl)) ((src_of hb hj e1 e2 (k0_off8_eq _ _)).trans (by rw [e2]; rfl)) ((k0_sz4_eq _ _).trans (by rw [e2]; rfl)) k0_off6_eq (by decide) (sz_pos _ _ _)) $$ HK1
  iintro HK1
  iapply (site3V c _ _ _ (k0_chk3_ok _ _ _ hb hj e1 e2) ((cond2_iff hn).2 (by omega)) (n := sz 1#32 (BitVec.ofNat 32 j) (lw I.lens b)) ((k0_off7_eq _ _).trans (by rw [e2]; rfl)) ((src_of hb hj e1 e2 (k0_off8_eq _ _)).trans (by rw [e2]; rfl)) ((k0_sz4_eq _ _).trans (by rw [e2]; rfl)) k0_off6_eq (by decide) (sz_pos _ _ _)) $$ HV1
  iintro HV1
  iapply (wp_s0 c (off_of' hb e1 (k0_off9_eq _))) $$ H0
  iintro H0
  iapply (wp_asm c h4)
  rw [wp_pure]
  imodintro
  unfold nbWord njWord nWord
  iapply HQ
  isplitl [H0 HI HP]
  · isplitr [HP]
    · isplitl [H0]
      · iexact H0
      · iexact HI
    · iexact HP
  · isplitl [HK0]
    · iexact HK0
    · isplitl [HK1]
      · iexact HK1
      · isplitl [HV0]
        · iexact HV0
        · iexact HV1

set_option maxHeartbeats 4000000 in
theorem part21_wp {n b j b' j' : ℕ} (hn : n < 300) (hn2 : 2 < n) (hb' : b' < 16) (hj' : j' < 16)
    (e1 : nbWord (nbWord 0#32 0#32 (lw I.lens 0)) (njWord 0#32 (lw I.lens 0)) (lw I.lens b) = BitVec.ofNat 32 b') (e2 : njWord (njWord 0#32 (lw I.lens 0)) (lw I.lens b) = BitVec.ofNat 32 j')
    (h4 : k0_chk4 (BitVec.ofNat 32 n) (lw I.lens 0) (lw I.lens b))
    (gk gv : Vec F S4x512x2048 .fp8e4m3) {Q : _ → sProp 𝕄} :
    iprop(all c I s ∗ FreeK c I.XK 2 gk ∗ FreeV c I.XV 2 gv) ⊢ iprop((all c I s
        ∗ FlyK c I.XK 2 (sz 2#32 (BitVec.ofNat 32 j') (lw I.lens b')) (fetched I.XK b' (j' * 2048) (sz 2#32 (BitVec.ofNat 32 j') (lw I.lens b')) 2 gk)
        ∗ FlyV c I.XV 2 (sz 2#32 (BitVec.ofNat 32 j') (lw I.lens b')) (fetched I.XV b' (j' * 2048) (sz 2#32 (BitVec.ofNat 32 j') (lw I.lens b')) 2 gv) -∗
        Q ⟨nbWord (nbWord (nbWord 0#32 0#32 (lw I.lens 0)) (njWord 0#32 (lw I.lens 0)) (lw I.lens b)) (njWord (njWord 0#32 (lw I.lens 0)) (lw I.lens b)) (lw I.lens b'), njWord (njWord (njWord 0#32 (lw I.lens 0)) (lw I.lens b)) (lw I.lens b'), k0_pay82⟩)
      -∗ wp frame (wpE (defs₀ (F := F)) Variants.none (c : Thread nD τ) none) Set.univ (k0_part21 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 (BitVec.ofNat 32 n) (lw I.lens 0) (nbWord 0#32 0#32 (lw I.lens 0)) (njWord 0#32 (lw I.lens 0)) (Scalar.addi (njWord 0#32 (lw I.lens 0)) 1#32) (lw I.lens b) h4 (nWord (lw I.lens b))) Q) := by
  rw [k0_part21_eq_skeleton]
  generalize hw1 : njWord 0#32 (lw I.lens 0) = w1 at *
  generalize hw2 : nbWord 0#32 0#32 (lw I.lens 0) = w2 at *
  unfold k0_part21_skel all inp
  simp only [wp_bind]
  iintro ⟨⟨⟨H0, HI⟩, HP⟩, HK1, HV1⟩ HQ
  rw [dif_pos ((cond3_iff hn).2 (by omega))]
  simp only [wp_bind]
  subst hw1 hw2
  iapply (wp_s0 c (off_of' hb' e1 (k0_off10_eq _ _))) $$ H0
  iintro H0
  iapply (wp_asm c (k0_chk5_ok _ _ _ _ hb' hj' e1 e2))
  iapply (site4K c _ _ _ _ (k0_chk5_ok _ _ _ _ hb' hj' e1 e2) ((cond3_iff hn).2 (by omega)) (n := sz 2#32 (BitVec.ofNat 32 j') (lw I.lens b')) ((k0_off12_eq _ _ _).trans (by rw [e2]; rfl)) ((src_of hb' hj' e1 e2 (k0_off13_eq _ _ _)).trans (by rw [e2]; rfl)) ((k0_sz6_eq _ _ _).trans (by rw [e2]; rfl)) k0_off11_eq (by decide) (sz_pos _ _ _)) $$ HK1
  iintro HK1
  iapply (site5V c _ _ _ _ (k0_chk5_ok _ _ _ _ hb' hj' e1 e2) ((cond3_iff hn).2 (by omega)) (n := sz 2#32 (BitVec.ofNat 32 j') (lw I.lens b')) ((k0_off12_eq _ _ _).trans (by rw [e2]; rfl)) ((src_of hb' hj' e1 e2 (k0_off13_eq _ _ _)).trans (by rw [e2]; rfl)) ((k0_sz6_eq _ _ _).trans (by rw [e2]; rfl)) k0_off11_eq (by decide) (sz_pos _ _ _)) $$ HV1
  iintro HV1
  iapply (wp_s0 c (off_of' hb' e1 (k0_off14_eq _ _))) $$ H0
  iintro H0
  rw [wp_pure]
  imodintro
  unfold nbWord njWord nWord
  iapply HQ
  isplitl [H0 HI HP]
  · isplitr [HP]
    · isplitl [H0]
      · iexact H0
      · iexact HI
    · iexact HP
  · isplitl [HK1]
    · iexact HK1
    · iexact HV1

end

end Cert.KernelIdeal.Hand
end
-- ==== Proof.KI.Loop.lean ====
module

public import proofs.«01_k».proof.Proof.KI.Pro

@[expose] public section
noncomputable section
namespace Cert.KernelIdeal.Hand
open Cert.KernelIdeal Cert.KernelIdeal.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (Pipeline.UD sig nD τ) ℕ

theorem part22_wpx (c : Dev nD) (I : Ins F) (s : St F) (v62 : IVec S64x256 32) {Q : (Σ' (v67 : FVec F S64x256 .bf16) (v97 : FVec F S32x8 .bf16) (v98 : IVec S16x256 32) (c4_i32_48 : BitVec 32) (v100 : IVec S16x256 32) (v107 : IVec S16x256 32) (v109 : BitVec 32), BitVec 1) → sProp 𝕄} :
    iprop(all c I s) ⊢ iprop(((all c I s) -∗ Q ⟨(r22 v62 I s).1, (r22 v62 I s).2.1, (r22 v62 I s).2.2.1, (r22 v62 I s).2.2.2.1, (r22 v62 I s).2.2.2.2.1, (r22 v62 I s).2.2.2.2.2.1, (r22 v62 I s).2.2.2.2.2.2.1, (r22 v62 I s).2.2.2.2.2.2.2⟩)
      -∗ wp frame (wpE (defs₀ (F := F)) Variants.none (c : Thread nD τ) none) Set.univ (k0_part22 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v62) Q) := part22_wp c I s v62
theorem part23_wpx (c : Dev nD) (I : Ins F) (s : St F) (v98 : IVec S16x256 32) (c4_i32_48 : BitVec 32) (v100 : IVec S16x256 32) (v107 : IVec S16x256 32) (v109 : BitVec 32) (v110 : BitVec 1) {Q : (Σ' (v148 : IVec S16x256 1) (v149 : IVec S16x1 32) (c4_i32_62 : BitVec 32) (v151 : IVec S16x1 32), IVec S16x1 32) → sProp 𝕄} :
    iprop(all c I s) ⊢ iprop(((all c I s) -∗ Q ⟨(r23 v98 c4_i32_48 v100 v107 v109 v110 I s).1, (r23 v98 c4_i32_48 v100 v107 v109 v110 I s).2.1, (r23 v98 c4_i32_48 v100 v107 v109 v110 I s).2.2.1, (r23 v98 c4_i32_48 v100 v107 v109 v110 I s).2.2.2.1, (r23 v98 c4_i32_48 v100 v107 v109 v110 I s).2.2.2.2⟩)
      -∗ wp frame (wpE (defs₀ (F := F)) Variants.none (c : Thread nD τ) none) Set.univ (k0_part23 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v98 c4_i32_48 v100 v107 v109 v110) Q) := part23_wp c I s v98 c4_i32_48 v100 v107 v109 v110
theorem part24_wpx (c : Dev nD) (I : Ins F) (s : St F) (v149 : IVec S16x1 32) (c4_i32_62 : BitVec 32) (v151 : IVec S16x1 32) (v158 : IVec S16x1 32) {Q : (Σ' (v195 : FVec F S16x1 .bf16) (v196 : IVec S16x1 32) (c4_i32_73 : BitVec 32) (v198 : IVec S16x1 32) (v201 : IVec S16x1 32), IVec S16x1 32) → sProp 𝕄} :
    iprop(all c I s) ⊢ iprop(((all c I s) -∗ Q ⟨(r24 v149 c4_i32_62 v151 v158 I s).1, (r24 v149 c4_i32_62 v151 v158 I s).2.1, (r24 v149 c4_i32_62 v151 v158 I s).2.2.1, (r24 v149 c4_i32_62 v151 v158 I s).2.2.2.1, (r24 v149 c4_i32_62 v151 v158 I s).2.2.2.2.1, (r24 v149 c4_i32_62 v151 v158 I s).2.2.2.2.2⟩)
      -∗ wp frame (wpE (defs₀ (F := F)) Variants.none (c : Thread nD τ) none) Set.univ (k0_part24 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v149 c4_i32_62 v151 v158) Q) := part24_wp c I s v149 c4_i32_62 v151 v158
theorem part25_wpx (c : Dev nD) (I : Ins F) (s : St F) (v196 : IVec S16x1 32) (c4_i32_73 : BitVec 32) (v198 : IVec S16x1 32) (v201 : IVec S16x1 32) (v202 : IVec S16x1 32) {Q : (Σ' (v242 : FVec F S16x1 .bf16) (v243 : IVec S16x1 32) (c4_i32_85 : BitVec 32) (v245 : IVec S16x1 32), IVec S16x1 1) → sProp 𝕄} :
    iprop(all c I s) ⊢ iprop(((all c I s) -∗ Q ⟨(r25 v196 c4_i32_73 v198 v201 v202 I s).1, (r25 v196 c4_i32_73 v198 v201 v202 I s).2.1, (r25 v196 c4_i32_73 v198 v201 v202 I s).2.2.1, (r25 v196 c4_i32_73 v198 v201 v202 I s).2.2.2.1, (r25 v196 c4_i32_73 v198 v201 v202 I s).2.2.2.2⟩)
      -∗ wp frame (wpE (defs₀ (F := F)) Variants.none (c : Thread nD τ) none) Set.univ (k0_part25 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v196 c4_i32_73 v198 v201 v202) Q) := part25_wp c I s v196 c4_i32_73 v198 v201 v202
theorem part26_wpx (c : Dev nD) (I : Ins F) (s : St F) (v243 : IVec S16x1 32) (c4_i32_85 : BitVec 32) (v245 : IVec S16x1 32) (v247 : IVec S16x1 1) {Q : (Σ' (v288 : FVec F S16x1 .f32) (v289 : IVec S16x1 32) (c4_i32_101 : BitVec 32) (v291 : IVec S16x1 32), BitVec 32) → sProp 𝕄} :
    iprop(all c I s) ⊢ iprop(((all c I s) -∗ Q ⟨(r26 v243 c4_i32_85 v245 v247 I s).1, (r26 v243 c4_i32_85 v245 v247 I s).2.1, (r26 v243 c4_i32_85 v245 v247 I s).2.2.1, (r26 v243 c4_i32_85 v245 v247 I s).2.2.2.1, (r26 v243 c4_i32_85 v245 v247 I s).2.2.2.2⟩)
      -∗ wp frame (wpE (defs₀ (F := F)) Variants.none (c : Thread nD τ) none) Set.univ (k0_part26 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v243 c4_i32_85 v245 v247) Q) := part26_wp c I s v243 c4_i32_85 v245 v247
theorem part27_wpx (c : Dev nD) (I : Ins F) (s : St F) (v289 : IVec S16x1 32) (c4_i32_101 : BitVec 32) (v291 : IVec S16x1 32) (c0_i32_102 : BitVec 32) {Q : (Σ' (v334 : FVec F S16x1 .f32), BitVec 32) → sProp 𝕄} :
    iprop(all c I s) ⊢ iprop(((all c I s) -∗ Q ⟨(r27 v289 c4_i32_101 v291 c0_i32_102 I s).1, (r27 v289 c4_i32_101 v291 c0_i32_102 I s).2⟩)
      -∗ wp frame (wpE (defs₀ (F := F)) Variants.none (c : Thread nD τ) none) Set.univ (k0_part27 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v289 c4_i32_101 v291 c0_i32_102) Q) := part27_wp c I s v289 c4_i32_101 v291 c0_i32_102
theorem part29_wpx (c : Dev nD) (I : Ins F) (s : St F) (v356 : BitVec 32) (v357 : BitVec 32) (v358 : BitVec 32) (v362 : IVec S16x2048 32) (v363 : IVec S16x2048 32) (kc : Vec F S4x512x2048 .fp8e4m3) (XK : Vec F S16x512x32768 .fp8e4m3) {Q : (Σ' (v364 : IVec S16x2048 1), FVec F S16x128 .f32) → sProp 𝕄} :
    iprop(all c I s ∗ FreeK c XK (0) kc) ⊢ iprop(((all c I (m29 v356 v357 v358 v362 v363 kc I s) ∗ FreeK c XK (0) kc) -∗ Q ⟨(r29 v356 v357 v358 v362 v363 kc I s).1, (r29 v356 v357 v358 v362 v363 kc I s).2⟩)
      -∗ wp frame (wpE (defs₀ (F := F)) Variants.none (c : Thread nD τ) none) Set.univ (k0_part29 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v356 v357 v358 v362 v363) Q) := part29_wp c I s v356 v357 v358 v362 v363 kc XK
theorem part30_wpx (c : Dev nD) (I : Ins F) (s : St F) (v356 : BitVec 32) (v357 : BitVec 32) (v358 : BitVec 32) (v364 : IVec S16x2048 1) (v395 : FVec F S16x128 .f32) (kc : Vec F S4x512x2048 .fp8e4m3) (XK : Vec F S16x512x32768 .fp8e4m3) {Q : (Σ' (v427 : FVec F S16x128 .f32), F .f32) → sProp 𝕄} :
    iprop(all c I s ∗ FreeK c XK (0) kc) ⊢ iprop(((all c I (m30 v356 v357 v358 v364 v395 kc I s) ∗ FreeK c XK (0) kc) -∗ Q ⟨(r30 v356 v357 v358 v364 v395 kc I s).1, (r30 v356 v357 v358 v364 v395 kc I s).2⟩)
      -∗ wp frame (wpE (defs₀ (F := F)) Variants.none (c : Thread nD τ) none) Set.univ (k0_part30 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v356 v357 v358 v364 v395) Q) := part30_wp c I s v356 v357 v358 v364 v395 kc XK
theorem part8_wpx (c : Dev nD) (I : Ins F) (s : St F) (v1 : BitVec 32) (k0_hw7 : k0_chk7 v1) (k0_t3 : Fin (k0_t3_loop v1).trips) (arg20 : BitVec 32) (v576 : FVec F S16x128 .f32) (ht : k0_t3.val < 300) {Q : (Σ' (v581 : BitVec 32) (v582 : BitVec 32) (v588 : FVec F S16x128 .f32) (v597 : FVec F S16x2048 .f32), FVec F S16x128 .f32) → sProp 𝕄} :
    iprop(all c I s) ⊢ iprop(((all c I (m8 k0_t3.val v1 arg20 v576 I s)) -∗ Q ⟨(r8 k0_t3.val v1 arg20 v576 I s).1, (r8 k0_t3.val v1 arg20 v576 I s).2.1, (r8 k0_t3.val v1 arg20 v576 I s).2.2.1, (r8 k0_t3.val v1 arg20 v576 I s).2.2.2.1, (r8 k0_t3.val v1 arg20 v576 I s).2.2.2.2⟩)
      -∗ wp frame (wpE (defs₀ (F := F)) Variants.none (c : Thread nD τ) none) Set.univ (k0_part8 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg20 v576) Q) := part8_wp c I s v1 k0_hw7 k0_t3 arg20 v576 ht
theorem part10_wpx (c : Dev nD) (I : Ins F) (s : St F) (v1 : BitVec 32) (k0_hw7 : k0_chk7 v1) (k0_t3 : Fin (k0_t3_loop v1).trips) (arg24 : BitVec 32) (v582 : BitVec 32) (v658 : FVec F S16x128 .f32) (ht : k0_t3.val < 300) {Q : (Σ' (v661 : FVec F S16x128 .f32) (v670 : FVec F S16x2048 .f32), FVec F S16x128 .f32) → sProp 𝕄} :
    iprop(all c I s) ⊢ iprop(((all c I s) -∗ Q ⟨(r10 k0_t3.val v1 arg24 v582 v658 I s).1, (r10 k0_t3.val v1 arg24 v582 v658 I s).2.1, (r10 k0_t3.val v1 arg24 v582 v658 I s).2.2⟩)
      -∗ wp frame (wpE (defs₀ (F := F)) Variants.none (c : Thread nD τ) none) Set.univ (k0_part10 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 k0_hw7 k0_t3 arg24 v582 v658) Q) := part10_wp c I s v1 k0_hw7 k0_t3 arg24 v582 v658 ht
theorem part2_wpx (c : Dev nD) (I : Ins F) (s : St F) (v1 : BitVec 32) (v97 : FVec F S32x8 .bf16) (v148 : IVec S16x256 1) (v288 : FVec F S16x1 .f32) (k0_t3 : Fin (k0_t3_loop v1).trips) (arg23 : BitVec 32) (arg24 : BitVec 32) (arg20 : BitVec 32) (v731 : Elt F .i32) (k0_hw16 : k0_chk16 v1 k0_t3 arg23 arg24 v731) (k0_h6 : k0_cond6 arg24 v731 = 1#1) (ht : k0_t3.val < 300) {Q : (Σ' (v738 : BitVec 32) (v742 : FVec F S32x64 .f32) (v774 : FVec F S16x64 .f32) (v777 : FVec F S16x1 .f32), FVec F S16x64 .f32) → sProp 𝕄} :
    iprop(all c I s) ⊢ iprop(((all c I s) -∗ Q ⟨(r2 k0_t3.val v1 v97 v148 v288 arg23 arg24 arg20 v731 I s).1, (r2 k0_t3.val v1 v97 v148 v288 arg23 arg24 arg20 v731 I s).2.1, (r2 k0_t3.val v1 v97 v148 v288 arg23 arg24 arg20 v731 I s).2.2.1, (r2 k0_t3.val v1 v97 v148 v288 arg23 arg24 arg20 v731 I s).2.2.2.1, (r2 k0_t3.val v1 v97 v148 v288 arg23 arg24 arg20 v731 I s).2.2.2.2⟩)
      -∗ wp frame (wpE (defs₀ (F := F)) Variants.none (c : Thread nD τ) none) Set.univ (k0_part2 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 v97 v148 v288 k0_t3 arg23 arg24 arg20 v731 k0_hw16 k0_h6) Q) := part2_wp c I s v1 v97 v148 v288 k0_t3 arg23 arg24 arg20 v731 k0_hw16 k0_h6 ht
theorem part3_wpx (c : Dev nD) (I : Ins F) (s : St F) (v1 : BitVec 32) (v148 : IVec S16x256 1) (v334 : FVec F S16x1 .f32) (k0_t3 : Fin (k0_t3_loop v1).trips) (arg23 : BitVec 32) (arg24 : BitVec 32) (v731 : Elt F .i32) (k0_hw16 : k0_chk16 v1 k0_t3 arg23 arg24 v731) (k0_h6 : k0_cond6 arg24 v731 = 1#1) (v738 : BitVec 32) (v774 : FVec F S16x64 .f32) (v777 : FVec F S16x1 .f32) (v778 : FVec F S16x64 .f32) (ht : k0_t3.val < 300) {Q : (Σ' (v818 : FVec F S16x64 .f32), FVec F S16x1 .bf16) → sProp 𝕄} :
    iprop(all c I s) ⊢ iprop(((all c I (m3 k0_t3.val v1 v148 v334 arg23 arg24 v731 v738 v774 v777 v778 I s)) -∗ Q ⟨(r3 k0_t3.val v1 v148 v334 arg23 arg24 v731 v738 v774 v777 v778 I s).1, (r3 k0_t3.val v1 v148 v334 arg23 arg24 v731 v738 v774 v777 v778 I s).2⟩)
      -∗ wp frame (wpE (defs₀ (F := F)) Variants.none (c : Thread nD τ) none) Set.univ (k0_part3 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 v1 v148 v334 k0_t3 arg23 arg24 v731 k0_hw16 k0_h6 v738 v774 v777 v778) Q) := part3_wp c I s v1 v148 v334 k0_t3 arg23 arg24 v731 k0_hw16 k0_h6 v738 v774 v777 v778 ht

/-- One trip up to its last chunk test: the scores of chunk `t + 1`, the values of chunk `t`. -/
def trip1 (I : Ins F) (n : ℕ) (kc vc : Vec F S4x512x2048 .fp8e4m3) (t b j nb : ℕ) (s : St F) : St F :=
  let v1 := BitVec.ofNat 32 n
  let a20 := Scf.iv 0#32 1#32 t
  let B := BitVec.ofNat 32 b
  let J := BitVec.ofNat 32 j
  let w := lw I.lens b
  let v451 := nbWord B J w
  let v453 := njWord J w
  let v497 := Scalar.remsi (Scalar.addi a20 1#32) 4#32
  let v498 := Scalar.remsi (Scalar.addi a20 1#32) 2#32
  let v499 := Scalar.subi 1#32 (Scalar.remsi (Scalar.addi a20 1#32) 2#32)
  let v506 := k0_pay23 (F := F) v453 (lw I.lens nb)
  let v509 := k0_pay24 (gt S4x512x2048 ![(t + 1) % 4, 0, 0] S1x256x2048.size kc)
  let s1 := m6 t v1 B J w v451 v453 v497 v498 v499 v506 v509 I s
  let s2 := m7 t v1 B J w v451 v453 v498 v499 v506 kc I s1
  let v576 := r7 t v1 B J w v451 v453 v498 v499 v506 kc I s1
  let s3 := m8 t v1 a20 v576 I s2
  let r := r8 t v1 a20 v576 I s2
  let s4 := m9 t v1 J r.1 r.2.1 r.2.2.1 r.2.2.2.1 r.2.2.2.2 vc I s3
  let v658 := r9 t v1 J r.1 r.2.1 r.2.2.1 r.2.2.2.1 r.2.2.2.2 vc I s3
  let q := r10 t v1 J r.2.1 v658 I s4
  { s4 with
    f16 := pt S2x16x128 ![1, 0, 0] S1x16x128.size s4.f16 (k0_pay2 q.2.2)
    f17 := pt S2x16x256 ![1, 0, 0] S1x16x256.size s4.f17 (k0_pay3 J q.1 q.2.1 (gt S4x512x2048 ![t % 4, 256, 0] S1x256x2048.size vc) (gt S2x16x256 ![1, 0, 0] S1x16x256.size s4.f17)) }
/-- The end of a sequence: its new token, the division and the result. -/
def trip2 (I : Ins F) (n : ℕ) (v97 : FVec F S32x8 .bf16) (v148 : IVec S16x256 1) (v288 v334 : FVec F S16x1 .f32) (t b j : ℕ) (s : St F) : St F :=
  let v1 := BitVec.ofNat 32 n
  let a20 := Scf.iv 0#32 1#32 t
  let B := BitVec.ofNat 32 b
  let J := BitVec.ofNat 32 j
  let w := lw I.lens b
  let p := r2 t v1 v97 v148 v288 B J a20 w I s
  let u := m3 t v1 v148 v334 B J w p.1 p.2.2.1 p.2.2.2.1 p.2.2.2.2 I s
  let q := r3 t v1 v148 v334 B J w p.1 p.2.2.1 p.2.2.2.1 p.2.2.2.2 I s
  { u with f8 := pt S16x32x64 ![B.toNat, 16, 0] S1x16x64.size u.f8 (k0_pay4 p.2.1 q.1 q.2) }
def trip (I : Ins F) (n : ℕ) (v97 : FVec F S32x8 .bf16) (v148 : IVec S16x256 1) (v288 v334 : FVec F S16x1 .f32) (kc vc : Vec F S4x512x2048 .fp8e4m3) (t b j nb : ℕ) (s : St F) : St F :=
  if nCh (lw I.lens b) ≤ j + 1 then trip2 I n v97 v148 v288 v334 t b j (trip1 I n kc vc t b j nb s) else trip1 I n kc vc t b j nb s

section
variable (c : Dev nD) (I : Ins F) (s : St F)

set_option maxHeartbeats 16000000 in
theorem trip_wp {n fb fj b j nb nj : ℕ} (k0_hw7 : k0_chk7 (BitVec.ofNat 32 n)) (k0_t3 : Fin (k0_t3_loop (BitVec.ofNat 32 n)).trips) (hn : n < 300) (ht : k0_t3.val < 300)
    (v97 : FVec F S32x8 .bf16) (v148 : IVec S16x256 1) (v288 v334 : FVec F S16x1 .f32) (hw : (lw I.lens b).toInt ≤ 32768)
    (hfb : fb < 16) (hfj : fj < 16) (hb : b < 16) (hj : j < 16) (hnb : nb < 16) (hnj : nj < 16)
    (e1 : nbWord (BitVec.ofNat 32 b) (BitVec.ofNat 32 j) (lw I.lens b) = BitVec.ofNat 32 nb) (e2 : njWord (BitVec.ofNat 32 j) (lw I.lens b) = BitVec.ofNat 32 nj)
    (fk gk fv ak av : Vec F S4x512x2048 .fp8e4m3) {Q : _ → sProp 𝕄} :
    iprop(all c I s ∗ FreeK c I.XK ((k0_t3.val + 3) % 4) ak ∗ FreeV c I.XV ((k0_t3.val + 3) % 4) av ∗ IfK c I.XK (k0_t3.val + 1 < n) ((k0_t3.val + 1) % 4) (sz (BitVec.ofNat 32 (k0_t3.val + 1)) (BitVec.ofNat 32 nj) (lw I.lens nb)) fk gk
        ∗ FlyV c I.XV (k0_t3.val % 4) (sz (BitVec.ofNat 32 k0_t3.val) (BitVec.ofNat 32 j) (lw I.lens b)) fv ∗ (∃ W, owes (c : Thread nD τ) 0 W)) ⊢ iprop(((all c I (trip I n v97 v148 v288 v334 (if k0_t3.val + 1 < n then fk else gk) fv k0_t3.val b j nb s)
        ∗ IfK c I.XK (k0_t3.val + 3 < n) ((k0_t3.val + 3) % 4) (sz (BitVec.ofNat 32 (k0_t3.val + 3)) (BitVec.ofNat 32 fj) (lw I.lens fb)) (fetched I.XK fb (fj * 2048) (sz (BitVec.ofNat 32 (k0_t3.val + 3)) (BitVec.ofNat 32 fj) (lw I.lens fb)) ((k0_t3.val + 3) % 4) ak) ak
        ∗ IfV c I.XV (k0_t3.val + 3 < n) ((k0_t3.val + 3) % 4) (sz (BitVec.ofNat 32 (k0_t3.val + 3)) (BitVec.ofNat 32 fj) (lw I.lens fb)) (fetched I.XV fb (fj * 2048) (sz (BitVec.ofNat 32 (k0_t3.val + 3)) (BitVec.ofNat 32 fj) (lw I.lens fb)) ((k0_t3.val + 3) % 4) av) av
        ∗ FreeK c I.XK ((k0_t3.val + 1) % 4) (if k0_t3.val + 1 < n then fk else gk) ∗ FreeV c I.XV (k0_t3.val % 4) fv ∗ (∃ W, owes (c : Thread nD τ) 0 W)) -∗
        Q (nbWord (BitVec.ofNat 32 fb) (BitVec.ofNat 32 fj) (lw I.lens fb), njWord (BitVec.ofNat 32 fj) (lw I.lens fb), nbWord (BitVec.ofNat 32 b) (BitVec.ofNat 32 j) (lw I.lens b), njWord (BitVec.ofNat 32 j) (lw I.lens b)))
      -∗ wp frame (wpE (defs₀ (F := F)) Variants.none (c : Thread nD τ) none) Set.univ (k0_t3_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 (BitVec.ofNat 32 n) k0_hw7 v97 v148 v288 v334 k0_t3 (BitVec.ofNat 32 fb, BitVec.ofNat 32 fj, BitVec.ofNat 32 b, BitVec.ofNat 32 j)) Q) := by
  unfold k0_t3_body
  simp only [wp_bind]
  iintro ⟨H, HK3, HV3, HK1, HV, HO⟩ HQ
  iapply (part4_wp c I s k0_hw7 k0_t3 hn ht hfb hfj hb hj hnb hnj e1 e2 ak av) $$ [H HK3 HV3]
  · isplitl [H]
    · iexact H
    · isplitl [HK3]
      · iexact HK3
      · iexact HV3
  iintro ⟨H, HK3, HV3⟩
  simp only [wp_bind]
  iapply (part5_wp c I s k0_hw7 k0_t3 hn ht hb hnb (k0_chk8_ok hb) _ (k0_chk12_ok _ k0_t3 ht _ _ _ hnb hnj e1 e2) e1 e2 fk gk fv) $$ [H HK1 HV HO]
  · isplitl [H]
    · iexact H
    · isplitl [HK1]
      · iexact HK1
      · isplitl [HV]
        · iexact HV
        · iexact HO
  iintro ⟨H, HK1, HV, HO⟩
  simp only [wp_bind]
  iapply (part6_wp c I _ _ k0_hw7 k0_t3 _ _ _ (k0_chk12_ok _ k0_t3 ht _ _ _ hnb hnj e1 e2) _ _ _ _ _ _ _ ht) $$ H
  iintro H
  iapply (part7_wp c I _ _ k0_hw7 k0_t3 _ _ _ (k0_chk12_ok _ k0_t3 ht _ _ _ hnb hnj e1 e2) _ _ _ _ _ ht (if k0_t3.val + 1 < n then fk else gk) I.XK) $$ [H HK1]
  · isplitl [H]
    · iexact H
    · iexact HK1
  iintro ⟨H, HK1⟩
  iapply (part8_wpx c I _ _ k0_hw7 k0_t3 _ _ ht) $$ H
  iintro H
  simp only [wp_bind]
  iapply (part9_wp c I _ _ k0_hw7 k0_t3 _ _ _ _ _ _ ht fv I.XV) $$ [H HV]
  · isplitl [H]
    · iexact H
    · iexact HV
  iintro ⟨H, HV⟩
  iapply (part10_wpx c I _ _ k0_hw7 k0_t3 _ _ _ ht) $$ H
  iintro H
  simp only [wp_bind]
  unfold all inp pts
  icases H with ⟨⟨H0, HI⟩, H8, H11, H12, H13, H14, H15, H16, H17⟩
  iapply (wp_ld c (m := A16) _ (ld16 rfl)) $$ H16
  iintro H16
  iapply (wp_st c (m := A16) _ (st16 rfl)) $$ H16
  iintro H16
  iapply (wp_loadV c I.XV (k0_off63_eq _ _ ht)) $$ HV
  iintro HV
  iapply (wp_ld c (m := A17) _ (ld17 rfl)) $$ H17
  iintro H17
  iapply (wp_ld c (m := A17) _ (ld17 rfl)) $$ H17
  iintro H17
  iapply (wp_st c (m := A17) _ (st17 rfl)) $$ H17
  iintro H17
  iapply (wp_s0 c (off_of hb (k0_off64_eq _))) $$ H0
  iintro H0
  iapply (wp_asm c (k0_chk16_ok _ k0_t3 ht hb _ _))
  by_cases hc : nCh (lw I.lens b) ≤ j + 1
  · rw [dif_pos ((cond6_iff hj hw).2 hc)]
    rw [trip, if_pos hc]
    simp only [wp_bind]
    iapply (part2_wpx c I (trip1 I n (if k0_t3.val + 1 < n then fk else gk) fv k0_t3.val b j nb s) _ v97 v148 v288 k0_t3 _ _ _ _ (k0_chk16_ok _ k0_t3 ht hb _ _) ((cond6_iff hj hw).2 hc) ht) $$ [H0 HI H8 H11 H12 H13 H14 H15 H16 H17]
    · unfold all inp pts
      isplitl [H0 HI]
      · isplitl [H0]
        · iexact H0
        · iexact HI
      · isplitl [H8]
        · iexact H8
        · isplitl [H11]
          · iexact H11
          · isplitl [H12]
            · iexact H12
            · isplitl [H13]
              · iexact H13
              · isplitl [H14]
                · iexact H14
                · isplitl [H15]
                  · iexact H15
                  · isplitl [H16]
                    · iexact H16
                    · iexact H17
    iintro H
    simp only [wp_bind]
    iapply (part3_wpx c I (trip1 I n (if k0_t3.val + 1 < n then fk else gk) fv k0_t3.val b j nb s) _ v148 v334 k0_t3 _ _ _ (k0_chk16_ok _ k0_t3 ht hb _ _) ((cond6_iff hj hw).2 hc) _ _ _ _ ht) $$ H
    iintro H
    simp only [wp_bind]
    unfold all inp pts
    icases H with ⟨⟨H0, HI⟩, H8, H11, H12, H13, H14, H15, H16, H17⟩
    iapply (wp_ld c (m := A8) _ (ld8 (off := k0_off71 _) (k0_off71_eq _))) $$ H8
    iintro H8
    iapply (wp_st c (m := A8) _ (st8 (off := k0_off71 _) (k0_off71_eq _))) $$ H8
    iintro H8
    rw [wp_pure]
    imodintro
    iapply HQ
    isplitl [H0 HI H8 H11 H12 H13 H14 H15 H16 H17]
    · isplitl [H0 HI]
      · isplitl [H0]
        · iexact H0
        · iexact HI
      · isplitl [H8]
        · iexact H8
        · isplitl [H11]
          · iexact H11
          · isplitl [H12]
            · iexact H12
            · isplitl [H13]
              · iexact H13
              · isplitl [H14]
                · iexact H14
                · isplitl [H15]
                  · iexact H15
                  · isplitl [H16]
                    · iexact H16
                    · iexact H17
    · isplitl [HK3]
      · iexact HK3
      · isplitl [HV3]
        · iexact HV3
        · isplitl [HK1]
          · iexact HK1
          · isplitl [HV]
            · iexact HV
            · iexact HO
  · rw [dif_neg (fun h => hc ((cond6_iff hj hw).1 h))]
    rw [trip, if_neg hc]
    rw [wp_pure]
    imodintro
    iapply HQ
    isplitl [H0 HI H8 H11 H12 H13 H14 H15 H16 H17]
    · isplitl [H0 HI]
      · isplitl [H0]
        · iexact H0
        · iexact HI
      · isplitl [H8]
        · iexact H8
        · isplitl [H11]
          · iexact H11
          · isplitl [H12]
            · iexact H12
            · isplitl [H13]
              · iexact H13
              · isplitl [H14]
                · iexact H14
                · isplitl [H15]
                  · iexact H15
                  · isplitl [H16]
                    · iexact H16
                    · iexact H17
    · isplitl [HK3]
      · iexact HK3
      · isplitl [HV3]
        · iexact HV3
        · isplitl [HK1]
          · iexact HK1
          · isplitl [HV]
            · iexact HV
            · iexact HO

end

end Cert.KernelIdeal.Hand
end
-- ==== Proof.KI.Body.lean ====
module

public import proofs.«01_k».proof.Proof.KI.Loop

@[expose] public section
noncomputable section
namespace Cert.KernelIdeal.Hand
open Cert.KernelIdeal Cert.KernelIdeal.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (Pipeline.UD sig nD τ) ℕ

/-- What the set-up computes from the scales: block masks and the scale columns. -/
abbrev q22 (I : Ins F) (s : St F) := r22 (F := F) k0_pay82 I s
abbrev q23 (I : Ins F) (s : St F) := r23 (q22 I s).2.2.1 (q22 I s).2.2.2.1 (q22 I s).2.2.2.2.1 (q22 I s).2.2.2.2.2.1 (q22 I s).2.2.2.2.2.2.1 (q22 I s).2.2.2.2.2.2.2 I s
abbrev q24 (I : Ins F) (s : St F) := r24 (q23 I s).2.1 (q23 I s).2.2.1 (q23 I s).2.2.2.1 (q23 I s).2.2.2.2 I s
abbrev q25 (I : Ins F) (s : St F) := r25 (q24 I s).2.1 (q24 I s).2.2.1 (q24 I s).2.2.2.1 (q24 I s).2.2.2.2.1 (q24 I s).2.2.2.2.2 I s
abbrev q26 (I : Ins F) (s : St F) := r26 (q25 I s).2.1 (q25 I s).2.2.1 (q25 I s).2.2.2.1 (q25 I s).2.2.2.2 I s
abbrev q27 (I : Ins F) (s : St F) := r27 (q26 I s).2.1 (q26 I s).2.2.1 (q26 I s).2.2.2.1 (q26 I s).2.2.2.2 I s
/-- The buffers before the first trip. -/
abbrev st28 (I : Ins F) (s : St F) : St F := pro I (q22 I s).1 (q22 I s).2.1 (q23 I s).1 (q24 I s).1 (q25 I s).1 (q27 I s).2 16 s
abbrev w356 : BitVec 32 := Scalar.remsi 0#32 4#32
abbrev w357 : BitVec 32 := Scalar.remsi 0#32 2#32
abbrev w358 : BitVec 32 := Scalar.subi 1#32 (Scalar.remsi 0#32 2#32)
abbrev w362 : IVec S16x2048 32 := iota .tc S16x2048 32 [1] iota_S16x2048_d1_w32
abbrev w363 (I : Ins F) : IVec S16x2048 32 := k0_pay100 (F := F) (lw I.lens 0)
abbrev st29 (I : Ins F) (kc : Vec F S4x512x2048 .fp8e4m3) (s : St F) : St F := m29 w356 w357 w358 w362 (w363 I) kc I (st28 I s)
abbrev q29 (I : Ins F) (kc : Vec F S4x512x2048 .fp8e4m3) (s : St F) := r29 w356 w357 w358 w362 (w363 I) kc I (st28 I s)
abbrev st30 (I : Ins F) (kc : Vec F S4x512x2048 .fp8e4m3) (s : St F) : St F := m30 w356 w357 w358 (q29 I kc s).1 (q29 I kc s).2 kc I (st29 I kc s)
abbrev q30 (I : Ins F) (kc : Vec F S4x512x2048 .fp8e4m3) (s : St F) := r30 w356 w357 w358 (q29 I kc s).1 (q29 I kc s).2 kc I (st29 I kc s)
def st31 (I : Ins F) (kc : Vec F S4x512x2048 .fp8e4m3) (s : St F) : St F :=
  { st30 I kc s with f15 := pt S2x2x16x128 ![0, 1, 0, 0] S1x1x16x128.size (st30 I kc s).f15 (k0_pay1 (q30 I kc s).1 (q30 I kc s).2) }
/-- Slot `t % 4` once chunk `t`, if there is one, has arrived. -/
def kcc (X : Vec F S16x512x32768 .fp8e4m3) (L : ℕ → BitVec 32) (g : Vec F S4x512x2048 .fp8e4m3) (n t : ℕ) : Vec F S4x512x2048 .fp8e4m3 :=
  if t < n then rng X L g t else prv X L g t
/-- The buffers before trip `k`. -/
def stt (I : Ins F) (v97 : FVec F S32x8 .bf16) (v148 : IVec S16x256 1) (v288 v334 : FVec F S16x1 .f32) (n : ℕ) (gk gv : Vec F S4x512x2048 .fp8e4m3) (s : St F) : ℕ → St F
  | 0 => s
  | k + 1 => trip I n v97 v148 v288 v334 (kcc I.XK (lw I.lens) gk n (k + 1)) (rng I.XV (lw I.lens) gv k) k (bj (lw I.lens) k).1 (bj (lw I.lens) k).2 (bj (lw I.lens) (k + 1)).1
      (stt I v97 v148 v288 v334 n gk gv s k)
/-- The buffers at the end. -/
def kern (I : Ins F) (gk gv : Vec F S4x512x2048 .fp8e4m3) (s : St F) : St F :=
  stt I (q22 I s).2.1 (q23 I s).1 (q26 I s).1 (q27 I s).1 (pre (lw I.lens) 16) gk gv (st31 I (rng I.XK (lw I.lens) gk 0) s) (pre (lw I.lens) 16)

section
variable (c : Dev nD) (I : Ins F) (s : St F)

abbrev FlyKT (n : ℕ) (gk : Vec F S4x512x2048 .fp8e4m3) (t : ℕ) : sProp 𝕄 := IfK c I.XK (t < n) (t % 4) (nT (lw I.lens) t) (rng I.XK (lw I.lens) gk t) (prv I.XK (lw I.lens) gk t)
abbrev FlyVT (n : ℕ) (gv : Vec F S4x512x2048 .fp8e4m3) (t : ℕ) : sProp 𝕄 := IfV c I.XV (t < n) (t % 4) (nT (lw I.lens) t) (rng I.XV (lw I.lens) gv t) (prv I.XV (lw I.lens) gv t)
def accAt (k : ℕ) : BitVec 32 × BitVec 32 × BitVec 32 × BitVec 32 :=
  (BitVec.ofNat 32 (bj (lw I.lens) (k + 3)).1, BitVec.ofNat 32 (bj (lw I.lens) (k + 3)).2, BitVec.ofNat 32 (bj (lw I.lens) k).1, BitVec.ofNat 32 (bj (lw I.lens) k).2)

/-- Before trip `k`: the scores of chunk `k` are in, its values and the next two chunks are on their way. -/
def inv (v97 : FVec F S32x8 .bf16) (v148 : IVec S16x256 1) (v288 v334 : FVec F S16x1 .f32) (n : ℕ) (gk gv : Vec F S4x512x2048 .fp8e4m3) (k : ℕ) : sProp 𝕄 :=
  iprop(all c I (stt I v97 v148 v288 v334 n gk gv s k) ∗ FreeK c I.XK (k % 4) (kcc I.XK (lw I.lens) gk n k) ∗ FlyKT c I n gk (k + 1) ∗ FlyKT c I n gk (k + 2) ∗ FreeK c I.XK ((k + 3) % 4) (prv I.XK (lw I.lens) gk (k + 3))
    ∗ FlyVT c I n gv k ∗ FlyVT c I n gv (k + 1) ∗ FlyVT c I n gv (k + 2) ∗ FreeV c I.XV ((k + 3) % 4) (prv I.XV (lw I.lens) gv (k + 3)) ∗ (∃ W, owes (c : Thread nD τ) 0 W))

set_option maxHeartbeats 4000000 in
theorem t3_step (hL : ∀ b, (lw I.lens b).toInt ≤ 32768) {n : ℕ} (hn : n < 300) (k0_hw7 : k0_chk7 (BitVec.ofNat 32 n))
    (v97 : FVec F S32x8 .bf16) (v148 : IVec S16x256 1) (v288 v334 : FVec F S16x1 .f32) (gk gv : Vec F S4x512x2048 .fp8e4m3)
    (k : Fin (k0_t3_loop (BitVec.ofNat 32 n)).trips) (acc : BitVec 32 × BitVec 32 × BitVec 32 × BitVec 32) :
    (iprop(⌜acc = accAt I k.val⌝ ∗ inv c I s v97 v148 v288 v334 n gk gv k.val) : sProp 𝕄)
      ⊢ wp frame (wpE (defs₀ (F := F)) Variants.none (c : Thread nD τ) none) Set.univ (k0_t3_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 (BitVec.ofNat 32 n) k0_hw7 v97 v148 v288 v334 k acc)
        (fun a => iprop(⌜a = accAt I (k.val + 1)⌝ ∗ inv c I s v97 v148 v288 v334 n gk gv (k.val + 1))) := by
  have hk : k.val < n := lt_of_lt_of_eq k.isLt (t3_bounds hn).1
  have B (t : ℕ) := bj_bound hL t
  have W1 (t : ℕ) : nbWord (BitVec.ofNat 32 (bj (lw I.lens) t).1) (BitVec.ofNat 32 (bj (lw I.lens) t).2) (lw I.lens (bj (lw I.lens) t).1) = BitVec.ofNat 32 (bj (lw I.lens) (t + 1)).1 :=
    nbWord_eq (hL _) (by have := (B t).1; omega) (B t).2.2
  have W2 (t : ℕ) : njWord (BitVec.ofNat 32 (bj (lw I.lens) t).2) (lw I.lens (bj (lw I.lens) t).1) = BitVec.ofNat 32 (bj (lw I.lens) (t + 1)).2 :=
    njWord_eq (hL _) (B t).2.2
  unfold inv
  rw [show FlyVT c I n gv k.val = FlyV c I.XV (k.val % 4) (nT (lw I.lens) k.val) (rng I.XV (lw I.lens) gv k.val) from by rw [FlyVT, IfV, if_pos hk]]
  iintro ⟨%he, all, K0, K1, K2, K3, V0, V1, V2, V3, HO⟩
  rw [he]
  iapply (trip_wp c I _ k0_hw7 k hn (by omega) v97 v148 v288 v334 (hL _) (fb := (bj (lw I.lens) (k.val + 3)).1) (fj := (bj (lw I.lens) (k.val + 3)).2) (b := (bj (lw I.lens) k.val).1) (j := (bj (lw I.lens) k.val).2)
    (nb := (bj (lw I.lens) (k.val + 1)).1) (nj := (bj (lw I.lens) (k.val + 1)).2) (by have := (B (k.val + 3)).1; omega) (B (k.val + 3)).2.2 (by have := (B k.val).1; omega) (B k.val).2.2 (by have := (B (k.val + 1)).1; omega) (B (k.val + 1)).2.2
    (W1 k.val) (W2 k.val) (rng I.XK (lw I.lens) gk (k.val + 1)) (prv I.XK (lw I.lens) gk (k.val + 1)) (rng I.XV (lw I.lens) gv k.val) (prv I.XK (lw I.lens) gk (k.val + 3)) (prv I.XV (lw I.lens) gv (k.val + 3))) $$ [all K3 V3 K1 V0 HO]
  · isplitl [all]
    · iexact all
    · isplitl [K3]
      · iexact K3
      · isplitl [V3]
        · iexact V3
        · isplitl [K1]
          · iexact K1
          · isplitl [V0]
            · iexact V0
            · iexact HO
  iintro ⟨all, K3, V3, K1, V0, HO⟩
  rw [W1, W2, W1, W2, kcc, if_pos hk, show (k.val + 1 + 3) % 4 = k.val % 4 by omega]
  isplitr
  · ipureintro
    rfl
  · isplitl [all]
    · iexact all
    · isplitl [K1]
      · iexact K1
      · isplitl [K2]
        · iexact K2
        · isplitl [K3]
          · iexact K3
          · isplitl [K0]
            · iexact K0
            · isplitl [V1]
              · iexact V1
              · isplitl [V2]
                · iexact V2
                · isplitl [V3]
                  · iexact V3
                  · isplitl [V0]
                    · iexact V0
                    · iexact HO

theorem t4_wp {n : ℕ} (hn : n < 300) {hok} {σ : Type} (init : σ) (bdy : Fin (k0_t4_loop (BitVec.ofNat 32 n)).trips → σ → Prog (TpuEff nD τ sig (Elt F) Λ₀ .tc) σ) {Q : σ → sProp 𝕄} :
    Q init ⊢ wp frame (wpE (defs₀ (F := F)) Variants.none (c : Thread nD τ) none) Set.univ (Scf.Loop.for (k0_t4_loop (BitVec.ofNat 32 n)) hok init bdy) Q := by
  iintro H
  iapply (Scf.wp_for frame (wpE (defs₀ (F := F)) Variants.none (c : Thread nD τ) none) Set.univ _ _ _ hok init bdy
    (fun _ a => (iprop(⌜a = init⌝) : sProp 𝕄)) (fun k => absurd (lt_of_lt_of_eq k.isLt (t4_bounds hn).1) (Nat.not_lt_zero _)))
  isplitr
  · ipureintro
    rfl
  · iintro %a %he
    rw [he]
    iexact H

def AnyK : sProp 𝕄 := iprop(∃ f0 f1 f2 f3, FreeK c I.XK 0 f0 ∗ FreeK c I.XK 1 f1 ∗ FreeK c I.XK 2 f2 ∗ FreeK c I.XK 3 f3)
def AnyV : sProp 𝕄 := iprop(∃ f0 f1 f2 f3, FreeV c I.XV 0 f0 ∗ FreeV c I.XV 1 f1 ∗ FreeV c I.XV 2 f2 ∗ FreeV c I.XV 3 f3)
theorem anyK (n : ℕ) {a b d e : Vec F S4x512x2048 .fp8e4m3} :
    (iprop(FreeK c I.XK (n % 4) a ∗ FreeK c I.XK ((n + 1) % 4) b ∗ FreeK c I.XK ((n + 2) % 4) d ∗ FreeK c I.XK ((n + 3) % 4) e) : sProp 𝕄) ⊢ AnyK c I := by
  have h : n % 4 < 4 := Nat.mod_lt _ (by decide)
  rw [show (n + 1) % 4 = (n % 4 + 1) % 4 by omega, show (n + 2) % 4 = (n % 4 + 2) % 4 by omega, show (n + 3) % 4 = (n % 4 + 3) % 4 by omega]
  unfold AnyK
  generalize n % 4 = m at h
  iintro ⟨H0, H1, H2, H3⟩
  obtain rfl | rfl | rfl | rfl : m = 0 ∨ m = 1 ∨ m = 2 ∨ m = 3 := by omega
  · iexists a, b, d, e
    isplitl [H0]
    · iexact H0
    · isplitl [H1]
      · iexact H1
      · isplitl [H2]
        · iexact H2
        · iexact H3
  · iexists e, a, b, d
    isplitl [H3]
    · iexact H3
    · isplitl [H0]
      · iexact H0
      · isplitl [H1]
        · iexact H1
        · iexact H2
  · iexists d, e, a, b
    isplitl [H2]
    · iexact H2
    · isplitl [H3]
      · iexact H3
      · isplitl [H0]
        · iexact H0
        · iexact H1
  · iexists b, d, e, a
    isplitl [H1]
    · iexact H1
    · isplitl [H2]
      · iexact H2
      · isplitl [H3]
        · iexact H3
        · iexact H0
theorem anyV (n : ℕ) {a b d e : Vec F S4x512x2048 .fp8e4m3} :
    (iprop(FreeV c I.XV (n % 4) a ∗ FreeV c I.XV ((n + 1) % 4) b ∗ FreeV c I.XV ((n + 2) % 4) d ∗ FreeV c I.XV ((n + 3) % 4) e) : sProp 𝕄) ⊢ AnyV c I := by
  have h : n % 4 < 4 := Nat.mod_lt _ (by decide)
  rw [show (n + 1) % 4 = (n % 4 + 1) % 4 by omega, show (n + 2) % 4 = (n % 4 + 2) % 4 by omega, show (n + 3) % 4 = (n % 4 + 3) % 4 by omega]
  unfold AnyV
  generalize n % 4 = m at h
  iintro ⟨H0, H1, H2, H3⟩
  obtain rfl | rfl | rfl | rfl : m = 0 ∨ m = 1 ∨ m = 2 ∨ m = 3 := by omega
  · iexists a, b, d, e
    isplitl [H0]
    · iexact H0
    · isplitl [H1]
      · iexact H1
      · isplitl [H2]
        · iexact H2
        · iexact H3
  · iexists e, a, b, d
    isplitl [H3]
    · iexact H3
    · isplitl [H0]
      · iexact H0
      · isplitl [H1]
        · iexact H1
        · iexact H2
  · iexists d, e, a, b
    isplitl [H2]
    · iexact H2
    · isplitl [H3]
      · iexact H3
      · isplitl [H0]
        · iexact H0
        · iexact H1
  · iexists b, d, e, a
    isplitl [H1]
    · iexact H1
    · isplitl [H2]
      · iexact H2
      · isplitl [H3]
        · iexact H3
        · iexact H0

set_option maxHeartbeats 8000000 in
/-- The whole kernel: whatever the buffers and rings held, they end as `kern` says. -/
theorem body_wp (hL : ∀ b, (lw I.lens b).toInt ≤ 32768) (gk gv : Vec F S4x512x2048 .fp8e4m3) {Q : PUnit → sProp 𝕄} :
    (iprop(all c I s ∗ FreeK c I.XK 0 gk ∗ FreeK c I.XK 1 gk ∗ FreeK c I.XK 2 gk ∗ FreeK c I.XK 3 gk ∗ FreeV c I.XV 0 gv ∗ FreeV c I.XV 1 gv ∗ FreeV c I.XV 2 gv ∗ FreeV c I.XV 3 gv ∗ (∃ W, owes (c : Thread nD τ) 0 W)) : sProp 𝕄) ⊢
      iprop((all c I (kern I gk gv s) ∗ AnyK c I ∗ AnyV c I ∗ (∃ W, owes (c : Thread nD τ) 0 W) -∗ Q ⟨⟩)
      -∗ wp frame (wpE (defs₀ (F := F)) Variants.none (c : Thread nD τ) none) Set.univ (cc0_gqa_decode (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10) Q) := by
  have B (t : ℕ) := bj_bound hL t
  have W1 (t : ℕ) : nbWord (BitVec.ofNat 32 (bj (lw I.lens) t).1) (BitVec.ofNat 32 (bj (lw I.lens) t).2) (lw I.lens (bj (lw I.lens) t).1) = BitVec.ofNat 32 (bj (lw I.lens) (t + 1)).1 :=
    nbWord_eq (hL _) (by have := (B t).1; omega) (B t).2.2
  have W2 (t : ℕ) : njWord (BitVec.ofNat 32 (bj (lw I.lens) t).2) (lw I.lens (bj (lw I.lens) t).1) = BitVec.ofNat 32 (bj (lw I.lens) (t + 1)).2 :=
    njWord_eq (hL _) (B t).2.2
  have hp := pre_bound hL 16
  obtain ⟨n, en⟩ : ∃ n, n = pre (lw I.lens) 16 := ⟨_, rfl⟩
  have hn : n < 300 := by omega
  have a1 : nbWord 0#32 0#32 (lw I.lens 0) = BitVec.ofNat 32 (bj (lw I.lens) 1).1 := W1 0
  have a2 : njWord 0#32 (lw I.lens 0) = BitVec.ofNat 32 (bj (lw I.lens) 1).2 := W2 0
  have b1 : nbWord (nbWord 0#32 0#32 (lw I.lens 0)) (njWord 0#32 (lw I.lens 0)) (lw I.lens (bj (lw I.lens) 1).1) = BitVec.ofNat 32 (bj (lw I.lens) 2).1 := by rw [a1, a2]; exact W1 1
  have b2 : njWord (njWord 0#32 (lw I.lens 0)) (lw I.lens (bj (lw I.lens) 1).1) = BitVec.ofNat 32 (bj (lw I.lens) 2).2 := by rw [a2]; exact W2 1
  have h4 : k0_chk4 (BitVec.ofNat 32 n) (lw I.lens 0) (lw I.lens (bj (lw I.lens) 1).1) := k0_chk4_ok _ _ _ (by have := (B 2).1; omega) (B 2).2.2 b1 b2
  rw [cc0_gqa_decode_eq_skeleton]
  unfold cc0_gqa_decode_skel
  simp only [wp_bind]
  iintro ⟨all, K0, K1, K2, K3, V0, V1, V2, V3, HO⟩ HQ
  iapply (part20_wp c I s hL (b' := 0) (j' := 0) en hn (by omega) (by have := (B 1).1; omega) (B 1).2.2 a1 a2 h4 gk gv) $$ [all K0 K1 V0 V1]
  · isplitl [all]
    · iexact all
    · isplitl [K0]
      · iexact K0
      · isplitl [K1]
        · iexact K1
        · isplitl [V0]
          · iexact V0
          · iexact V1
  iintro ⟨all, K0, K1, V0, V1⟩
  simp only [wp_bind]
  iapply (part21_wp c I s (j := 0) hn (by omega) (by have := (B 2).1; omega) (B 2).2.2 b1 b2 h4 gk gv) $$ [all K2 V2]
  · isplitl [all]
    · iexact all
    · isplitl [K2]
      · iexact K2
      · iexact V2
  iintro ⟨all, K2, V2⟩
  rw [b1, b2, W1 2, W2 2]
  simp only [wp_bind]
  iapply (part22_wpx c I s _) $$ all
  iintro all
  simp only [wp_bind]
  iapply (part23_wpx c I s _ _ _ _ _ _) $$ all
  iintro all
  simp only [wp_bind]
  iapply (part24_wpx c I s _ _ _ _) $$ all
  iintro all
  simp only [wp_bind]
  iapply (part25_wpx c I s _ _ _ _ _) $$ all
  iintro all
  simp only [wp_bind]
  iapply (part26_wpx c I s _ _ _ _) $$ all
  iintro all
  simp only [wp_bind]
  iapply (part27_wpx c I s _ _ _ _) $$ all
  iintro all
  simp only [wp_bind]
  iapply (part28_wp c I s _ _ _ _ _ _ (rng I.XK (lw I.lens) gk 0)) $$ [all K0 HO]
  · isplitl [all]
    · iexact all
    · isplitl [K0]
      · iexact K0
      · iexact HO
  iintro ⟨all, K0, HO⟩
  simp only [wp_bind]
  iapply (part29_wpx c I _ _ _ _ _ _ _ I.XK) $$ [all K0]
  · isplitl [all]
    · iexact all
    · iexact K0
  iintro ⟨all, K0⟩
  simp only [wp_bind]
  iapply (part30_wpx c I _ _ _ _ _ _ _ I.XK) $$ [all K0]
  · isplitl [all]
    · iexact all
    · iexact K0
  iintro ⟨all, K0⟩
  simp only [wp_bind]
  unfold all pts
  icases all with ⟨HI, H8, H11, H12, H13, H14, H15, H16, H17⟩
  iapply (wp_ld c (m := A15) _ (ld15 (off := k0_off30) k0_off30_eq)) $$ H15
  iintro H15
  iapply (wp_st c (m := A15) _ (st15 (off := k0_off30) k0_off30_eq)) $$ H15
  iintro H15
  iapply (Scf.wp_for frame (wpE (defs₀ (F := F)) Variants.none (c : Thread nD τ) none) Set.univ _ _ _ (k0_t3_ok _ (k0_chk7_ok hn)) _ _
    (fun k acc => iprop(⌜acc = accAt I k⌝ ∗ inv c I (st31 I (rng I.XK (lw I.lens) gk 0) s) (q22 I s).2.1 (q23 I s).1 (q26 I s).1 (q27 I s).1 n gk gv k))
    (t3_step c I (st31 I (rng I.XK (lw I.lens) gk 0) s) hL hn (k0_chk7_ok hn) (q22 I s).2.1 (q23 I s).1 (q26 I s).1 (q27 I s).1 gk gv))
  isplitr [HQ]
  · isplitr
    · ipureintro
      rfl
    · unfold inv FlyKT FlyVT IfK IfV all pts
      rw [kcc, if_pos (show 0 < n by omega), if_pos (show 0 < n by omega), if_pos (show 0 + 1 < n by omega), if_pos (show 0 + 1 < n by omega), if_pos (show 0 + 2 < n by omega), if_pos (show 0 + 2 < n by omega)]
      isplitl [HI H8 H11 H12 H13 H14 H15 H16 H17]
      · isplitl [HI]
        · iexact HI
        · isplitl [H8]
          · iexact H8
          · isplitl [H11]
            · iexact H11
            · isplitl [H12]
              · iexact H12
              · isplitl [H13]
                · iexact H13
                · isplitl [H14]
                  · iexact H14
                  · isplitl [H15]
                    · iexact H15
                    · isplitl [H16]
                      · iexact H16
                      · iexact H17
      · isplitl [K0]
        · iexact K0
        · isplitl [K1]
          · iexact K1
          · isplitl [K2]
            · iexact K2
            · isplitl [K3]
              · iexact K3
              · isplitl [V0]
                · iexact V0
                · isplitl [V1]
                  · iexact V1
                  · isplitl [V2]
                    · iexact V2
                    · isplitl [V3]
                      · iexact V3
                      · iexact HO
  · iintro %acc ⟨%he, H⟩
    rw [he]
    simp only [wp_bind]
    iapply (t4_wp c hn)
    rw [show Scf.trips (k0_t3_loop (BitVec.ofNat 32 n)).lb (k0_t3_loop (BitVec.ofNat 32 n)).ub (k0_t3_loop (BitVec.ofNat 32 n)).st = n from (t3_bounds hn).1]
    unfold inv FlyKT FlyVT IfK IfV all pts
    rw [if_neg (show ¬ n < n by omega), if_neg (show ¬ n + 1 < n by omega), if_neg (show ¬ n + 1 < n by omega), if_neg (show ¬ n + 2 < n by omega), if_neg (show ¬ n + 2 < n by omega)]
    icases H with ⟨all, K0, K1, K2, K3, V0, V1, V2, V3, HO⟩
    rw [wp_pure]
    imodintro
    iapply HQ
    isplitl [all]
    · unfold kern
      rw [← en]
      iexact all
    · isplitl [K0 K1 K2 K3]
      · iapply (anyK c I n)
        isplitl [K0]
        · iexact K0
        · isplitl [K1]
          · iexact K1
          · isplitl [K2]
            · iexact K2
            · iexact K3
      · isplitl [V0 V1 V2 V3]
        · iapply (anyV c I n)
          isplitl [V0]
          · iexact V0
          · isplitl [V1]
            · iexact V1
            · isplitl [V2]
              · iexact V2
              · iexact V3
        · iexact HO

end

end Cert.KernelIdeal.Hand
end
-- ==== Proof.KI.Launch.lean ====
module

public import proofs.«01_k».proof.Proof.KI.Body
public import proofs.«01_k».proof.Proof.Gen.KernelIdeal.Frame
public import Idealize.ShloMosaic.Lib.Pipeline.FrameSuffixR
public import Idealize.ShloMosaic.Lib.Ring
public import Idealize.ShloMosaic.Lib.Memref

@[expose] public section
noncomputable section
namespace Cert.KernelIdeal.Hand
open Cert.KernelIdeal Cert.KernelIdeal.Gen Cert.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (Pipeline.UD sig nD τ) ℕ

open Idealize.ShloMosaic.Pipeline (Dat Cfg Window BodyObligation cellOf)

omit [FloatOps F] [Named F] in
theorem slots_disj : ∀ b b' : Fin 4, b ≠ b' → Disjoint (slot b.val) (slot b'.val) := fun b b' h =>
  Finset.disjoint_left.mpr fun x h1 h2 => h (Fin.ext ((Finset.mem_filter.mp h1).2.symm.trans (Finset.mem_filter.mp h2).2))
omit [FloatOps F] [Named F] in
theorem slots_cover : (Finset.univ : Finset (Fin 4)).biUnion (fun b => slot b.val) = Finset.univ := by
  ext x
  simp only [Finset.mem_biUnion, Finset.mem_univ, true_and, iff_true]
  exact ⟨⟨(x 0).val, (x 0).isLt⟩, Finset.mem_filter.mpr ⟨Finset.mem_univ _, rfl⟩⟩

theorem bs4 {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ
theorem rg4 {M : Type} [URA M] (Φ : ℕ → sProp M) : BI.bigSep (Finset.range 4) Φ = iprop(Φ 0 ∗ Φ 1 ∗ Φ 2 ∗ Φ 3) :=
  by rw [BI.bigSep_eq_bigSepL_of_eq [0, 1, 2, 3] (by decide) (by decide)]; rfl

section
variable (c : Dev nD)

/-- The ring and its cache, dealt to the four slots; `shareDrop` is the part of the cache no slot holds. -/
theorem ringK_split {f : Vec F S4x512x2048 .fp8e4m3} {X : Vec F S16x512x32768 .fp8e4m3} :
    (iprop((A9.view.loc (c : Thread nD τ) ↦{fullShare} f) ∗ semVal ((c : Thread nD τ), SemLoc.dma (semK 0)) 0 ∗ semVal ((c : Thread nD τ), SemLoc.dma (semK 1)) 0 ∗ semVal ((c : Thread nD τ), SemLoc.dma (semK 2)) 0 ∗ semVal ((c : Thread nD τ), SemLoc.dma (semK 3)) 0 ∗ (A6.view.loc (c : Thread nD τ) ↦{fullShare} X)) : sProp 𝕄)
      ⊢ iprop(FreeK c X 0 f ∗ FreeK c X 1 f ∗ FreeK c X 2 f ∗ FreeK c X 3 f ∗ (A6.view.loc (c : Thread nD τ) ↦{Transfers.shareDrop fullShare 4} X)) := by
  have hb : (A9.view.loc (c : Thread nD τ) ↦{fullShare} f : sProp 𝕄) = _ := Ring.pointsTo_blocks (ℓ := A9.view.loc (c : Thread nD τ)) (fun b : Fin 4 => slot b.val) slots_disj slots_cover f
  rw [hb, bs4]
  refine (sep_mono .rfl (sep_mono .rfl (sep_mono .rfl (sep_mono .rfl (sep_mono .rfl (Transfers.pointsTo_toks_range fullShare 4).1))))).trans ?_
  rw [rg4]
  unfold FreeK
  iintro ⟨⟨R0, R1, R2, R3⟩, S0, S1, S2, S3, D, X0, X1, X2, X3⟩
  isplitl [R0 S0 X0]
  · isplitl [R0]
    · iexact R0
    isplitl [S0]
    · iexact S0
    iexact X0
  isplitl [R1 S1 X1]
  · isplitl [R1]
    · iexact R1
    isplitl [S1]
    · iexact S1
    iexact X1
  isplitl [R2 S2 X2]
  · isplitl [R2]
    · iexact R2
    isplitl [S2]
    · iexact S2
    iexact X2
  isplitl [R3 S3 X3]
  · isplitl [R3]
    · iexact R3
    isplitl [S3]
    · iexact S3
    iexact X3
  iexact D

/-- And put together again. -/
theorem ringK_join (I : Ins F) :
    (iprop(AnyK c I ∗ (A6.view.loc (c : Thread nD τ) ↦{Transfers.shareDrop fullShare 4} I.XK)) : sProp 𝕄)
      ⊢ iprop((∃ f : Buf (Elt F) (A9.view.loc (c : Thread nD τ)), A9.view.loc (c : Thread nD τ) ↦{fullShare} f) ∗ semVal ((c : Thread nD τ), SemLoc.dma (semK 0)) 0 ∗ semVal ((c : Thread nD τ), SemLoc.dma (semK 1)) 0 ∗ semVal ((c : Thread nD τ), SemLoc.dma (semK 2)) 0 ∗ semVal ((c : Thread nD τ), SemLoc.dma (semK 3)) 0 ∗ (A6.view.loc (c : Thread nD τ) ↦{fullShare} I.XK)) := by
  unfold AnyK FreeK
  iintro ⟨⟨%f0, %f1, %f2, %f3, ⟨R0, S0, X0⟩, ⟨R1, S1, X1⟩, ⟨R2, S2, X2⟩, R3, S3, X3⟩, D⟩
  isplitl [R0 R1 R2 R3]
  · iapply (Ring.pointsTo_blocks_join_exists (fun b : Fin 4 => slot b.val) slots_disj slots_cover f0)
    rw [bs4]
    isplitl [R0]
    · iexists f0; iexact R0
    isplitl [R1]
    · iexists f1; iexact R1
    isplitl [R2]
    · iexists f2; iexact R2
    iexists f3; iexact R3
  isplitl [S0]
  · iexact S0
  isplitl [S1]
  · iexact S1
  isplitl [S2]
  · iexact S2
  isplitl [S3]
  · iexact S3
  iapply (Transfers.pointsTo_toks_range fullShare 4).2
  rw [rg4]
  isplitl [D]
  · iexact D
  isplitl [X0]
  · iexact X0
  isplitl [X1]
  · iexact X1
  isplitl [X2]
  · iexact X2
  iexact X3

/-- The ring and its cache, dealt to the four slots; `shareDrop` is the part of the cache no slot holds. -/
theorem ringV_split {f : Vec F S4x512x2048 .fp8e4m3} {X : Vec F S16x512x32768 .fp8e4m3} :
    (iprop((A10.view.loc (c : Thread nD τ) ↦{fullShare} f) ∗ semVal ((c : Thread nD τ), SemLoc.dma (semV 0)) 0 ∗ semVal ((c : Thread nD τ), SemLoc.dma (semV 1)) 0 ∗ semVal ((c : Thread nD τ), SemLoc.dma (semV 2)) 0 ∗ semVal ((c : Thread nD τ), SemLoc.dma (semV 3)) 0 ∗ (A7.view.loc (c : Thread nD τ) ↦{fullShare} X)) : sProp 𝕄)
      ⊢ iprop(FreeV c X 0 f ∗ FreeV c X 1 f ∗ FreeV c X 2 f ∗ FreeV c X 3 f ∗ (A7.view.loc (c : Thread nD τ) ↦{Transfers.shareDrop fullShare 4} X)) := by
  have hb : (A10.view.loc (c : Thread nD τ) ↦{fullShare} f : sProp 𝕄) = _ := Ring.pointsTo_blocks (ℓ := A10.view.loc (c : Thread nD τ)) (fun b : Fin 4 => slot b.val) slots_disj slots_cover f
  rw [hb, bs4]
  refine (sep_mono .rfl (sep_mono .rfl (sep_mono .rfl (sep_mono .rfl (sep_mono .rfl (Transfers.pointsTo_toks_range fullShare 4).1))))).trans ?_
  rw [rg4]
  unfold FreeV
  iintro ⟨⟨R0, R1, R2, R3⟩, S0, S1, S2, S3, D, X0, X1, X2, X3⟩
  isplitl [R0 S0 X0]
  · isplitl [R0]
    · iexact R0
    isplitl [S0]
    · iexact S0
    iexact X0
  isplitl [R1 S1 X1]
  · isplitl [R1]
    · iexact R1
    isplitl [S1]
    · iexact S1
    iexact X1
  isplitl [R2 S2 X2]
  · isplitl [R2]
    · iexact R2
    isplitl [S2]
    · iexact S2
    iexact X2
  isplitl [R3 S3 X3]
  · isplitl [R3]
    · iexact R3
    isplitl [S3]
    · iexact S3
    iexact X3
  iexact D

/-- And put together again. -/
theorem ringV_join (I : Ins F) :
    (iprop(AnyV c I ∗ (A7.view.loc (c : Thread nD τ) ↦{Transfers.shareDrop fullShare 4} I.XV)) : sProp 𝕄)
      ⊢ iprop((∃ f : Buf (Elt F) (A10.view.loc (c : Thread nD τ)), A10.view.loc (c : Thread nD τ) ↦{fullShare} f) ∗ semVal ((c : Thread nD τ), SemLoc.dma (semV 0)) 0 ∗ semVal ((c : Thread nD τ), SemLoc.dma (semV 1)) 0 ∗ semVal ((c : Thread nD τ), SemLoc.dma (semV 2)) 0 ∗ semVal ((c : Thread nD τ), SemLoc.dma (semV 3)) 0 ∗ (A7.view.loc (c : Thread nD τ) ↦{fullShare} I.XV)) := by
  unfold AnyV FreeV
  iintro ⟨⟨%f0, %f1, %f2, %f3, ⟨R0, S0, X0⟩, ⟨R1, S1, X1⟩, ⟨R2, S2, X2⟩, R3, S3, X3⟩, D⟩
  isplitl [R0 R1 R2 R3]
  · iapply (Ring.pointsTo_blocks_join_exists (fun b : Fin 4 => slot b.val) slots_disj slots_cover f0)
    rw [bs4]
    isplitl [R0]
    · iexists f0; iexact R0
    isplitl [R1]
    · iexists f1; iexact R1
    isplitl [R2]
    · iexists f2; iexact R2
    iexists f3; iexact R3
  isplitl [S0]
  · iexact S0
  isplitl [S1]
  · iexact S1
  isplitl [S2]
  · iexact S2
  isplitl [S3]
  · iexact S3
  iapply (Transfers.pointsTo_toks_range fullShare 4).2
  rw [rg4]
  isplitl [D]
  · iexact D
  isplitl [X0]
  · iexact X0
  isplitl [X1]
  · iexact X1
  isplitl [X2]
  · iexact X2
  iexact X3

end

variable (m : (ℓ : Loc nD τ sig) → Buf (Elt F) ℓ) (ρ : Dev nD → PrngReg)

/-- The kernel's eight copy cells: four for the key ring, four for the value ring. -/
abbrev osem0 : Fin 8 → SemLoc sig := fun j => (![SemLoc.dma (semK 0), SemLoc.dma (semK 1), SemLoc.dma (semK 2), SemLoc.dma (semK 3),
  SemLoc.dma (semV 0), SemLoc.dma (semV 1), SemLoc.dma (semV 2), SemLoc.dma (semV 3)] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semK 0)) 0 ∗ semVal ((c : Thread nD τ), SemLoc.dma (semK 1)) 0 ∗ semVal ((c : Thread nD τ), SemLoc.dma (semK 2)) 0 ∗ semVal ((c : Thread nD τ), SemLoc.dma (semK 3)) 0 ∗ semVal ((c : Thread nD τ), SemLoc.dma (semV 0)) 0 ∗ semVal ((c : Thread nD τ), SemLoc.dma (semV 1)) 0 ∗ semVal ((c : Thread nD τ), SemLoc.dma (semV 2)) 0 ∗ semVal ((c : Thread nD τ), SemLoc.dma (semV 3)) 0) := by
  rw [Pipeline.ownSems0_eq_of_list c osem0 [0, 1, 2, 3, 4, 5, 6, 7] (by decide) (by decide)]; rfl
/-- The two caches, which the kernel's own copies read. -/
def H0 : Finset (Ref sig .tc) := {main_v1, main_v3}
theorem H0_sub : H0 ⊆ Pipeline.restRefs sig spec0 := by decide
theorem hbmPts0_eq (c : Dev nD) :
    (bigSep H0 (fun b => ((c : Thread nD τ).loc b) ↦{fullShare} V m c b) : sProp 𝕄)
      = iprop((A6.view.loc (c : Thread nD τ) ↦{fullShare} V m c main_v1) ∗ (A7.view.loc (c : Thread nD τ) ↦{fullShare} V m c main_v3)) := by
  rw [BI.bigSep_eq_bigSepL_of_eq [main_v1, main_v3] (by decide) (by decide)]; rfl
theorem PhiD0_eq (c : Dev nD) :
    (Pipeline.ΦD osem0 spec0 H0 (V m) c : sProp 𝕄)
      = iprop(iprop((∃ f : Buf (Elt F) (A9.view.loc (c : Thread nD τ)), A9.view.loc (c : Thread nD τ) ↦{fullShare} f) ∗ (∃ f : Buf (Elt F) (A10.view.loc (c : Thread nD τ)), A10.view.loc (c : Thread nD τ) ↦{fullShare} f) ∗ (∃ f : Buf (Elt F) (A11.view.loc (c : Thread nD τ)), A11.view.loc (c : Thread nD τ) ↦{fullShare} f) ∗ (∃ f : Buf (Elt F) (A12.view.loc (c : Thread nD τ)), A12.view.loc (c : Thread nD τ) ↦{fullShare} f) ∗ (∃ f : Buf (Elt F) (A13.view.loc (c : Thread nD τ)), A13.view.loc (c : Thread nD τ) ↦{fullShare} f) ∗ (∃ f : Buf (Elt F) (A14.view.loc (c : Thread nD τ)), A14.view.loc (c : Thread nD τ) ↦{fullShare} f) ∗ (∃ f : Buf (Elt F) (A15.view.loc (c : Thread nD τ)), A15.view.loc (c : Thread nD τ) ↦{fullShare} f) ∗ (∃ f : Buf (Elt F) (A16.view.loc (c : Thread nD τ)), A16.view.loc (c : Thread nD τ) ↦{fullShare} f) ∗ (∃ f : Buf (Elt F) (A17.view.loc (c : Thread nD τ)), A17.view.loc (c : Thread nD τ) ↦{fullShare} f))
          ∗ (∃ r, prngReg c r)
          ∗ iprop(semVal ((c : Thread nD τ), SemLoc.dma (semK 0)) 0 ∗ semVal ((c : Thread nD τ), SemLoc.dma (semK 1)) 0 ∗ semVal ((c : Thread nD τ), SemLoc.dma (semK 2)) 0 ∗ semVal ((c : Thread nD τ), SemLoc.dma (semK 3)) 0 ∗ semVal ((c : Thread nD τ), SemLoc.dma (semV 0)) 0 ∗ semVal ((c : Thread nD τ), SemLoc.dma (semV 1)) 0 ∗ semVal ((c : Thread nD τ), SemLoc.dma (semV 2)) 0 ∗ semVal ((c : Thread nD τ), SemLoc.dma (semV 3)) 0)
          ∗ iprop((A6.view.loc (c : Thread nD τ) ↦{fullShare} V m c main_v1) ∗ (A7.view.loc (c : Thread nD τ) ↦{fullShare} V m c main_v3))) := by
  rw [Pipeline.ΦD_eq, scopedRest0_eq, ownSems00_eq, hbmPts0_eq]

/-- What the kernel reads, as the region finds it. -/
def insOf (c : Dev nD) : Ins F := ⟨V m c main_arg7, V m c main_arg5, V m c main_arg6, V m c main_v4, V m c main_v5, V m c main_v6, V m c main_v1, V m c main_v3⟩

def dats (o : Dev nD → Vec F S16x32x64 .bf16) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o c
  Φ _ := Pipeline.ΦD osem0 spec0 H0 (V m) c
  q _ := fullShare
  owed _ := 0

variable (o : Dev nD → Vec F S16x32x64 .bf16)
theorem A_eq (c : Dev nD) (w : Fin cfg0.W) : (dats m o 0 c).A w = V m c (Pipeline.arrRef spec0 w) := by dsimp only [dats]
theorem iblk_0 (c : Dev nD) : iblk m c 0 t0_0 = (insOf m c).lens := by
  funext i
  exact congrArg (insOf m c).lens (by funext a; apply Fin.ext; show 0 * _ + 1 * _ = _; omega)
theorem iblk_1 (c : Dev nD) : iblk m c 1 t0_0 = (insOf m c).ks := by
  funext i
  exact congrArg (insOf m c).ks (by funext a; apply Fin.ext; show 0 * _ + 1 * _ = _; omega)
theorem iblk_2 (c : Dev nD) : iblk m c 2 t0_0 = (insOf m c).vs := by
  funext i
  exact congrArg (insOf m c).vs (by funext a; apply Fin.ext; show 0 * _ + 1 * _ = _; omega)
theorem iblk_3 (c : Dev nD) : iblk m c 3 t0_0 = (insOf m c).x := by
  funext i
  exact congrArg (insOf m c).x (by funext a; apply Fin.ext; show 0 * _ + 1 * _ = _; omega)
theorem iblk_4 (c : Dev nD) : iblk m c 4 t0_0 = (insOf m c).kn := by
  funext i
  exact congrArg (insOf m c).kn (by funext a; apply Fin.ext; show 0 * _ + 1 * _ = _; omega)
theorem iblk_5 (c : Dev nD) : iblk m c 5 t0_0 = (insOf m c).vn := by
  funext i
  exact congrArg (insOf m c).vn (by funext a; apply Fin.ext; show 0 * _ + 1 * _ = _; omega)

theorem body_at (t : Fin cfg0.N) : bodyAt0 (F := F) t = cc0_gqa_decode (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10 := by
  rw [show t = t0_0 from fin_N0 t]
theorem own_0 (c : Dev nD) (t : Fin cfg0.N) : (owns (c : Thread nD τ) (st0_0 t) fullShare (iblk m c 0 t) : sProp 𝕄) = (A0.view.loc (c : Thread nD τ) ↦{fullShare} (insOf m c).lens) := by
  rw [show t = t0_0 from fin_N0 t]
  exact (owns_whole _ _ _ _).trans (by rw [iblk_0])
theorem own_1 (c : Dev nD) (t : Fin cfg0.N) : (owns (c : Thread nD τ) (st0_1 t) fullShare (iblk m c 1 t) : sProp 𝕄) = (A1.view.loc (c : Thread nD τ) ↦{fullShare} (insOf m c).ks) := by
  rw [show t = t0_0 from fin_N0 t]
  exact (owns_whole _ _ _ _).trans (by rw [iblk_1])
theorem own_2 (c : Dev nD) (t : Fin cfg0.N) : (owns (c : Thread nD τ) (st0_2 t) fullShare (iblk m c 2 t) : sProp 𝕄) = (A2.view.loc (c : Thread nD τ) ↦{fullShare} (insOf m c).vs) := by
  rw [show t = t0_0 from fin_N0 t]
  exact (owns_whole _ _ _ _).trans (by rw [iblk_2])
theorem own_3 (c : Dev nD) (t : Fin cfg0.N) : (owns (c : Thread nD τ) (st0_3 t) fullShare (iblk m c 3 t) : sProp 𝕄) = (A3.view.loc (c : Thread nD τ) ↦{fullShare} (insOf m c).x) := by
  rw [show t = t0_0 from fin_N0 t]
  exact (owns_whole _ _ _ _).trans (by rw [iblk_3])
theorem own_4 (c : Dev nD) (t : Fin cfg0.N) : (owns (c : Thread nD τ) (st0_4 t) fullShare (iblk m c 4 t) : sProp 𝕄) = (A4.view.loc (c : Thread nD τ) ↦{fullShare} (insOf m c).kn) := by
  rw [show t = t0_0 from fin_N0 t]
  exact (owns_whole _ _ _ _).trans (by rw [iblk_4])
theorem own_5 (c : Dev nD) (t : Fin cfg0.N) : (owns (c : Thread nD τ) (st0_5 t) fullShare (iblk m c 5 t) : sProp 𝕄) = (A5.view.loc (c : Thread nD τ) ↦{fullShare} (insOf m c).vn) := by
  rw [show t = t0_0 from fin_N0 t]
  exact (owns_whole _ _ _ _).trans (by rw [iblk_5])

set_option maxHeartbeats 4000000 in
theorem core (c : Dev nD) (hL : ∀ b, (lw (insOf m c).lens b).toInt ≤ 32768) {Q : PUnit → sProp 𝕄} :
    (iprop(inp c (insOf m c) ∗ (∃ f, A8.view.loc (c : Thread nD τ) ↦{fullShare} f) ∗ iprop((∃ f : Buf (Elt F) (A9.view.loc (c : Thread nD τ)), A9.view.loc (c : Thread nD τ) ↦{fullShare} f) ∗ (∃ f : Buf (Elt F) (A10.view.loc (c : Thread nD τ)), A10.view.loc (c : Thread nD τ) ↦{fullShare} f) ∗ (∃ f : Buf (Elt F) (A11.view.loc (c : Thread nD τ)), A11.view.loc (c : Thread nD τ) ↦{fullShare} f) ∗ (∃ f : Buf (Elt F) (A12.view.loc (c : Thread nD τ)), A12.view.loc (c : Thread nD τ) ↦{fullShare} f) ∗ (∃ f : Buf (Elt F) (A13.view.loc (c : Thread nD τ)), A13.view.loc (c : Thread nD τ) ↦{fullShare} f) ∗ (∃ f : Buf (Elt F) (A14.view.loc (c : Thread nD τ)), A14.view.loc (c : Thread nD τ) ↦{fullShare} f) ∗ (∃ f : Buf (Elt F) (A15.view.loc (c : Thread nD τ)), A15.view.loc (c : Thread nD τ) ↦{fullShare} f) ∗ (∃ f : Buf (Elt F) (A16.view.loc (c : Thread nD τ)), A16.view.loc (c : Thread nD τ) ↦{fullShare} f) ∗ (∃ f : Buf (Elt F) (A17.view.loc (c : Thread nD τ)), A17.view.loc (c : Thread nD τ) ↦{fullShare} f)) ∗ iprop(semVal ((c : Thread nD τ), SemLoc.dma (semK 0)) 0 ∗ semVal ((c : Thread nD τ), SemLoc.dma (semK 1)) 0 ∗ semVal ((c : Thread nD τ), SemLoc.dma (semK 2)) 0 ∗ semVal ((c : Thread nD τ), SemLoc.dma (semK 3)) 0 ∗ semVal ((c : Thread nD τ), SemLoc.dma (semV 0)) 0 ∗ semVal ((c : Thread nD τ), SemLoc.dma (semV 1)) 0 ∗ semVal ((c : Thread nD τ), SemLoc.dma (semV 2)) 0 ∗ semVal ((c : Thread nD τ), SemLoc.dma (semV 3)) 0)
        ∗ iprop((A6.view.loc (c : Thread nD τ) ↦{fullShare} V m c main_v1) ∗ (A7.view.loc (c : Thread nD τ) ↦{fullShare} V m c main_v3)) ∗ (∃ W, owes (c : Thread nD τ) 0 W)) : sProp 𝕄)
      ⊢ iprop((inp c (insOf m c) ∗ (∃ gk gv s, A8.view.loc (c : Thread nD τ) ↦{fullShare} (kern (insOf m c) gk gv s).f8) ∗ iprop((∃ f : Buf (Elt F) (A9.view.loc (c : Thread nD τ)), A9.view.loc (c : Thread nD τ) ↦{fullShare} f) ∗ (∃ f : Buf (Elt F) (A10.view.loc (c : Thread nD τ)), A10.view.loc (c : Thread nD τ) ↦{fullShare} f) ∗ (∃ f : Buf (Elt F) (A11.view.loc (c : Thread nD τ)), A11.view.loc (c : Thread nD τ) ↦{fullShare} f) ∗ (∃ f : Buf (Elt F) (A12.view.loc (c : Thread nD τ)), A12.view.loc (c : Thread nD τ) ↦{fullShare} f) ∗ (∃ f : Buf (Elt F) (A13.view.loc (c : Thread nD τ)), A13.view.loc (c : Thread nD τ) ↦{fullShare} f) ∗ (∃ f : Buf (Elt F) (A14.view.loc (c : Thread nD τ)), A14.view.loc (c : Thread nD τ) ↦{fullShare} f) ∗ (∃ f : Buf (Elt F) (A15.view.loc (c : Thread nD τ)), A15.view.loc (c : Thread nD τ) ↦{fullShare} f) ∗ (∃ f : Buf (Elt F) (A16.view.loc (c : Thread nD τ)), A16.view.loc (c : Thread nD τ) ↦{fullShare} f) ∗ (∃ f : Buf (Elt F) (A17.view.loc (c : Thread nD τ)), A17.view.loc (c : Thread nD τ) ↦{fullShare} f)) ∗ iprop(semVal ((c : Thread nD τ), SemLoc.dma (semK 0)) 0 ∗ semVal ((c : Thread nD τ), SemLoc.dma (semK 1)) 0 ∗ semVal ((c : Thread nD τ), SemLoc.dma (semK 2)) 0 ∗ semVal ((c : Thread nD τ), SemLoc.dma (semK 3)) 0 ∗ semVal ((c : Thread nD τ), SemLoc.dma (semV 0)) 0 ∗ semVal ((c : Thread nD τ), SemLoc.dma (semV 1)) 0 ∗ semVal ((c : Thread nD τ), SemLoc.dma (semV 2)) 0 ∗ semVal ((c : Thread nD τ), SemLoc.dma (semV 3)) 0)
        ∗ iprop((A6.view.loc (c : Thread nD τ) ↦{fullShare} V m c main_v1) ∗ (A7.view.loc (c : Thread nD τ) ↦{fullShare} V m c main_v3)) ∗ (∃ W, owes (c : Thread nD τ) 0 W) -∗ Q ⟨⟩)
      -∗ wp frame (wpE (defs₀ (F := F)) Variants.none (c : Thread nD τ) none) Set.univ (cc0_gqa_decode (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) A13 (Memref.isWhole_whole _) A14 (Memref.isWhole_whole _) A15 (Memref.isWhole_whole _) A16 (Memref.isWhole_whole _) A17 (Memref.isWhole_whole _) cc0_scratch9 cc0_scratch10) Q) := by
  iintro ⟨HI, ⟨%f8, H8⟩, ⟨⟨%gk, H9⟩, ⟨%gv, H10⟩, ⟨%f11, H11⟩, ⟨%f12, H12⟩, ⟨%f13, H13⟩, ⟨%f14, H14⟩, ⟨%f15, H15⟩, ⟨%f16, H16⟩, ⟨%f17, H17⟩⟩, ⟨S0, S1, S2, S3, S4, S5, S6, S7⟩, ⟨HK, HV⟩, HO⟩ HQ
  ihave ⟨K0, K1, K2, K3, KD⟩ := (ringK_split c (f := gk) (X := V m c main_v1)) $$ [H9 S0 S1 S2 S3 HK]
  · isplitl [H9]
    · iexact H9
    · isplitl [S0]
      · iexact S0
      · isplitl [S1]
        · iexact S1
        · isplitl [S2]
          · iexact S2
          · isplitl [S3]
            · iexact S3
            · iexact HK
  ihave ⟨V0, V1, V2, V3, VD⟩ := (ringV_split c (f := gv) (X := V m c main_v3)) $$ [H10 S4 S5 S6 S7 HV]
  · isplitl [H10]
    · iexact H10
    · isplitl [S4]
      · iexact S4
      · isplitl [S5]
        · iexact S5
        · isplitl [S6]
          · iexact S6
          · isplitl [S7]
            · iexact S7
            · iexact HV
  iapply (body_wp c (insOf m c) ⟨f8, f11, f12, f13, f14, f15, f16, f17⟩ hL gk gv) $$ [HI H8 H11 H12 H13 H14 H15 H16 H17 K0 K1 K2 K3 V0 V1 V2 V3 HO]
  · isplitl [HI H8 H11 H12 H13 H14 H15 H16 H17]
    · unfold all pts
      isplitl [HI]
      · iexact HI
      · isplitl [H8]
        · iexact H8
        · isplitl [H11]
          · iexact H11
          · isplitl [H12]
            · iexact H12
            · isplitl [H13]
              · iexact H13
              · isplitl [H14]
                · iexact H14
                · isplitl [H15]
                  · iexact H15
                  · isplitl [H16]
                    · iexact H16
                    · iexact H17
    · isplitl [K0]
      · iexact K0
      · isplitl [K1]
        · iexact K1
        · isplitl [K2]
          · iexact K2
          · isplitl [K3]
            · iexact K3
            · isplitl [V0]
              · iexact V0
              · isplitl [V1]
                · iexact V1
                · isplitl [V2]
                  · iexact V2
                  · isplitl [V3]
                    · iexact V3
                    · iexact HO
  unfold all pts
  iintro ⟨⟨HI, H8, H11, H12, H13, H14, H15, H16, H17⟩, HK, HV, HO⟩
  ihave ⟨H9, S0, S1, S2, S3, HK⟩ := (ringK_join c (insOf m c)) $$ [HK KD]
  · isplitl [HK]
    · iexact HK
    · iexact KD
  ihave ⟨H10, S4, S5, S6, S7, HV⟩ := (ringV_join c (insOf m c)) $$ [HV VD]
  · isplitl [HV]
    · iexact HV
    · iexact VD
  iapply HQ
  isplitl [HI]
  · iexact HI
  isplitl [H8]
  · iexists gk, gv, _
    iexact H8
  isplitl [H9 H10 H11 H12 H13 H14 H15 H16 H17]
  · isplitl [H9]
    · iexact H9
    isplitl [H10]
    · iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact H17
  isplitl [S0 S1 S2 S3 S4 S5 S6 S7]
  · isplitl [S0]
    · iexact S0
    · isplitl [S1]
      · iexact S1
      · isplitl [S2]
        · iexact S2
        · isplitl [S3]
          · iexact S3
          · isplitl [S4]
            · iexact S4
            · isplitl [S5]
              · iexact S5
              · isplitl [S6]
                · iexact S6
                · iexact S7
  isplitl [HK HV]
  · isplitl [HK]
    · iexact HK
    · iexact HV
  iexact HO
theorem bf_0 (c : Dev nD) (t : Fin cfg0.N) (d) : (dats m o 0 c).before 0 t d = iblk m c 0 t :=
  ((dats m o 0 c).before_in_eq_fetched 0 rfl (fun _ => rfl) (fun _ _ _ => rfl) (fun _ => rfl) t d).trans rfl
theorem bf_1 (c : Dev nD) (t : Fin cfg0.N) (d) : (dats m o 0 c).before 1 t d = iblk m c 1 t :=
  ((dats m o 0 c).before_in_eq_fetched 1 rfl (fun _ => rfl) (fun _ _ _ => rfl) (fun _ => rfl) t d).trans rfl
theorem bf_2 (c : Dev nD) (t : Fin cfg0.N) (d) : (dats m o 0 c).before 2 t d = iblk m c 2 t :=
  ((dats m o 0 c).before_in_eq_fetched 2 rfl (fun _ => rfl) (fun _ _ _ => rfl) (fun _ => rfl) t d).trans rfl
theorem bf_3 (c : Dev nD) (t : Fin cfg0.N) (d) : (dats m o 0 c).before 3 t d = iblk m c 3 t :=
  ((dats m o 0 c).before_in_eq_fetched 3 rfl (fun _ => rfl) (fun _ _ _ => rfl) (fun _ => rfl) t d).trans rfl
theorem bf_4 (c : Dev nD) (t : Fin cfg0.N) (d) : (dats m o 0 c).before 4 t d = iblk m c 4 t :=
  ((dats m o 0 c).before_in_eq_fetched 4 rfl (fun _ => rfl) (fun _ _ _ => rfl) (fun _ => rfl) t d).trans rfl
theorem bf_5 (c : Dev nD) (t : Fin cfg0.N) (d) : (dats m o 0 c).before 5 t d = iblk m c 5 t :=
  ((dats m o 0 c).before_in_eq_fetched 5 rfl (fun _ => rfl) (fun _ _ _ => rfl) (fun _ => rfl) t d).trans rfl

def bodyPre (c : Dev nD) (t : Fin cfg0.N) : sProp 𝕄 :=
  iprop((dats m o 0 c).Φ t.castSucc ∗ (dats m o 0 c).owesAt () t.castSucc
    ∗ (∃ d, owns (c : Thread nD τ) (st0_0 t) fullShare ((dats m o 0 c).before 0 t d)) ∗ (∃ d, owns (c : Thread nD τ) (st0_1 t) fullShare ((dats m o 0 c).before 1 t d)) ∗ (∃ d, owns (c : Thread nD τ) (st0_2 t) fullShare ((dats m o 0 c).before 2 t d)) ∗ (∃ d, owns (c : Thread nD τ) (st0_3 t) fullShare ((dats m o 0 c).before 3 t d)) ∗ (∃ d, owns (c : Thread nD τ) (st0_4 t) fullShare ((dats m o 0 c).before 4 t d)) ∗ (∃ d, owns (c : Thread nD τ) (st0_5 t) fullShare ((dats m o 0 c).before 5 t d)) ∗ (∃ d, owns (c : Thread nD τ) (st0_6 t) fullShare d))
def bodyPost (c : Dev nD) (Q6 : sProp 𝕄) (t : Fin cfg0.N) : sProp 𝕄 :=
  iprop((dats m o 0 c).Φ t.succ ∗ (dats m o 0 c).owesAt () t.succ
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ Q6)

theorem own_6 (c : Dev nD) (t : Fin cfg0.N) (d : Vec F S16x32x64 .bf16) : (owns (c : Thread nD τ) (st0_6 t) fullShare d : sProp 𝕄) = (A8.view.loc (c : Thread nD τ) ↦{fullShare} d) := by
  rw [show t = t0_0 from fin_N0 t]
  exact owns_whole _ _ _ _

set_option maxHeartbeats 4000000 in
theorem sound_body (c : Dev nD) (hL : ∀ b, (lw (insOf m c).lens b).toInt ≤ 32768) (t : Fin cfg0.N) (Q6 : sProp 𝕄)
    (h6 : ∀ gk gv s, owns (c : Thread nD τ) (st0_6 t) fullShare (kern (insOf m c) gk gv s).f8 ⊢ Q6) :
    bodyPre m o c t ⊢ wp frame (wpE (defs₀ (F := F)) Variants.none (c : Thread nD τ) none) Set.univ (bodyAt0 t) (fun _ => bodyPost m o c Q6 t) := by
  rw [body_at]
  unfold bodyPre bodyPost
  rw [show (dats m o 0 c).Φ t.succ = (dats m o 0 c).Φ t.castSucc from rfl,
    show (dats m o 0 c).owesAt () t.succ = (dats m o 0 c).owesAt () t.castSucc from rfl,
    show (dats m o 0 c).Φ t.castSucc = Pipeline.ΦD osem0 spec0 H0 (V m) c from rfl, PhiD0_eq]
  unfold Dat.owesAt Pipeline.owesWithin
  rw [show (dats m o 0 c).owed t.castSucc = 0 from rfl]
  simp only [own_6] at h6
  simp only [bf_0, bf_1, bf_2, bf_3, bf_4, bf_5, own_0, own_1, own_2, own_3, own_4, own_5, own_6]
  iintro ⟨⟨HS, Hg, Hq, Hh⟩, ⟨%W, %hW, HO⟩, ⟨%d0, H0⟩, ⟨%d1, H1⟩, ⟨%d2, H2⟩, ⟨%d3, H3⟩, ⟨%d4, H4⟩, ⟨%d5, H5⟩, H6⟩
  iapply (core m c hL) $$ [HS Hq Hh HO H0 H1 H2 H3 H4 H5 H6]
  · isplitl [H0 H1 H2 H3 H4 H5]
    · unfold inp
      isplitl [H0]
      · iexact H0
      isplitl [H1]
      · iexact H1
      isplitl [H2]
      · iexact H2
      isplitl [H3]
      · iexact H3
      isplitl [H4]
      · iexact H4
      iexact H5
    isplitl [H6]
    · iexact H6
    isplitl [HS]
    · iexact HS
    isplitl [Hq]
    · iexact Hq
    isplitl [Hh]
    · iexact Hh
    iexists W
    iexact HO
  unfold inp
  iintro ⟨⟨H0, H1, H2, H3, H4, H5⟩, ⟨%gk, %gv, %s, H6⟩, HS, Hq, Hh, ⟨%W', HO⟩⟩
  isplitl [HS Hg Hq Hh]
  · isplitl [HS]
    · iexact HS
    isplitl [Hg]
    · iexact Hg
    isplitl [Hq]
    · iexact Hq
    iexact Hh
  isplitl [HO]
  · iexists W'
    isplitr
    · ipureintro; exact fun _ _ => Or.inl trivial
    iexact HO
  isplitl [H0]
  · iexact H0
  isplitl [H1]
  · iexact H1
  isplitl [H2]
  · iexact H2
  isplitl [H3]
  · iexact H3
  isplitl [H4]
  · iexact H4
  isplitl [H5]
  · iexact H5
  iapply (h6 gk gv s)
  iexact H6

theorem defs₀_row (t : Fin cfg0.N) : defs₀ (F := F) .tc cfg0.body (cfg0.bodyArgs t (cfg0.slots t)) = bodyAt0 t := by
  unfold defs₀; rw [Defs.onTc_tc]

def forgets0 : Fin 7 → Bool := fun w => w == 6
/-- The body with the result forgotten. -/
theorem obl_forget (c : Dev nD) (hL : ∀ b, (lw (insOf m c).lens b).toInt ≤ 32768) :
    BodyObligation (dats m o 0 c) (defs₀ (F := F)) Variants.none () Set.univ forgets0 := fun t => by
  rw [bigSep_W0, bigSep_W0, defs₀_row]
  exact triple_restated (sound_body m o c hL t iprop(∃ d, owns (c : Thread nD τ) (st0_6 t) fullShare d) (fun gk gv s => by
    iintro H
    iexists (kern (insOf m c) gk gv s).f8
    iexact H)) rfl .rfl fun _ => .rfl

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the region touches neither cache. -/
theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  simp only [List.mem_cons, List.mem_nil_iff, or_false] at hop
  rcases hop with rfl
  refine Pipeline.sub_tailRefsBut _ _ _ _ (StableHlo.reshape_bufs_sub ..) (fun k => k.elim0) fun b hb => ?_
  simp only [H0, Finset.mem_insert, Finset.mem_singleton] at hb
  rcases hb with rfl | rfl <;> simp only [StableHlo.reshape_bufs, Finset.mem_insert, Finset.mem_singleton, not_or] <;>
    exact ⟨StableHlo.devRef_ne_of_ne (by decide), StableHlo.devRef_ne_of_ne (by decide)⟩

theorem sfx_writes : ∀ ops ∈ ([hostOps1] : List (List (HloOp τ sig (Elt F)))), ∀ op ∈ ops, ∀ b : Ref sig .tc,
    Proc.devRef .tc b ∈ op.writes → b ∈ ({main_v8} : Finset (Ref sig .tc)) := by
  intro ops hops op hop b hb
  simp only [List.mem_cons, List.mem_nil_iff, or_false] at hops
  rcases hops with rfl
  simp only [List.mem_cons, List.mem_nil_iff, or_false] at hop
  rcases hop with rfl
  simp only [StableHlo.reshape_writes, Finset.mem_singleton] at hb ⊢
  exact Proc.devRef_injective _ hb

set_option backward.isDefEq.respectTransparency.types false in
theorem run_forget (hL : ∀ c b, (lw (insOf m c).lens b).toInt ≤ 32768) :
    θ_run defs (onTc (τ := τ) (main (F := F))) (s₀ m ρ)
      (fun r => Pipeline.RDat.FramePostR (cfgs 0) (fun c => (dats m o 0 c).toRForget forgets0) {main_v8} (V m) r ∧ r.2.sem = fun _ => 0) :=
  Pipeline.θ_run_frame_dma_around_T_forget (Q' := _) cfgs (dats m o) (0 : Fin 1) launch0 osem0 defs₀ Variants.none forgets0 ownSemFacts0 H0 {main_v8} H0_sub m ρ main
    (hbody := fun c => (obl_forget m o c (hL c)).loose) (hshare := fun c => (dats m o 0 c).share_full fun _ => rfl)
    (howed := fun _ _ => rfl) (V₀ := V0 m) (opss := [hostOps1]) (hsub := sfx_subBut) (hfresh := sfx_fresh) (hkeep := sfx_keeps) (hT := sfx_writes)
    (hmain := hmainD m Variants.none) (hA := A_eq m o) (hin := fun _ => .rfl) (hout := fun _ => .rfl)

/-- The kernel stops, its arguments end as they began, and every semaphore ends at zero. -/
theorem frame_run (hL : ∀ c b, (lw (insOf m c).lens b).toInt ≤ 32768) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      (h.1.arr_in c 1 rfl).trans (V_main_arg5 m c), (h.1.arr_in c 2 rfl).trans (V_main_arg6 m c), (h.1.arr_in c 0 rfl).trans (V_main_arg7 m c)⟩, h.2⟩)
    (run_forget m ρ (fun c => V m c (Pipeline.arrRef spec0 6)) hL)

end Cert.KernelIdeal.Hand
end
-- ==== Proof.Frames.lean ====
/- The three programs stop, leave their arguments as they were and every semaphore at zero. -/
module

public import proofs.«01_k».proof.Defs
public import proofs.«01_k».proof.Proof.Lens
public import proofs.«01_k».proof.Proof.K.Launch
public import proofs.«01_k».proof.Proof.KI.Launch
public import proofs.«01_k».proof.Proof.Gen.ReferenceIdeal.Frame

@[expose] public section
noncomputable section
namespace Cert.Frames
open Idealize.ShloMosaic Idealize.ShloMosaic.TcCoe Idealize.SL.Sem

theorem lens_K (m : (ℓ : Loc Cert.Kernel.nD Cert.Kernel.τ Cert.Kernel.sig) → Buf (Elt Bits) ℓ) (h : Cert.Pre_Kernel m)
    (c : Dev Cert.Kernel.nD) (b : ℕ) : (Cert.Kernel.Hand.lw (Cert.Kernel.Hand.insOf m c).lens b).toInt ≤ 32768 := by
  unfold Cert.Kernel.Hand.lw Cert.Kernel.Hand.insOf
  dsimp only
  rw [Cert.Kernel.Gen.V_main_arg7 m c]
  exact Cert.Lens.le_of (h c) _

theorem lens_KI (m : (ℓ : Loc Cert.KernelIdeal.nD Cert.KernelIdeal.τ Cert.KernelIdeal.sig) → Buf (Elt Ideal) ℓ) (h : Cert.Pre_KernelIdeal m)
    (c : Dev Cert.KernelIdeal.nD) (b : ℕ) : (Cert.KernelIdeal.Hand.lw (Cert.KernelIdeal.Hand.insOf m c).lens b).toInt ≤ 32768 := by
  unfold Cert.KernelIdeal.Hand.lw Cert.KernelIdeal.Hand.insOf
  dsimp only
  rw [Cert.KernelIdeal.Gen.V_main_arg7 m c]
  exact Cert.Lens.le_of (h c) _

theorem frame_p : Cert.quiescent_Kernel := fun m ρ h => Cert.Kernel.Hand.frame_run m ρ (lens_K m h)
theorem frame_pi : Cert.quiescent_KernelIdeal := fun m ρ h => Cert.KernelIdeal.Hand.frame_run m ρ (lens_KI m h)
theorem frame_ri : Cert.quiescent_ReferenceIdeal := fun m ρ _ => Cert.ReferenceIdeal.Gen.frame m ρ
theorem frame_ri_fit : Cert.quiescent_ReferenceIdeal_pre_lens_fit := fun m ρ _ => Cert.ReferenceIdeal.Gen.frame m ρ
theorem preserves : Cert.preserves_Kernel_KernelIdeal :=
  IdealRules.named_const.statement Cert.KernelIdeal.κ "exp2_scale" .f32 0x3E38AA3B#32 (((1 / 8) * (Real.log 2)⁻¹ : ℝ) : EReal) rfl

end Cert.Frames
end
-- ==== Proof.Math.lean ====
/-
  The online softmax in extended reals. A sequence of scores `s` is read in chunks of 2048; a running maximum
  `mx`, a sum of weights `lr` kept apart by lane and a weighted sum `ar` are rescaled whenever the maximum
  grows. `out_eq` says that what they give at the end is the softmax over all columns at once.
-/
module

public import Idealize.ShloMosaic.PureOps.Ideal

@[expose] public section
noncomputable section
namespace Cert.Val
open Idealize.ShloMosaic

/-- One eighth. -/
abbrev c8 : EReal := ((1 / 8 : ℝ) : EReal)
/-- The weight of a score that lies `y` above the maximum. -/
def E (y : EReal) : EReal := Ideal.exp (y * c8)

theorem c8_pos : (0 : ℝ) < 1 / 8 := by norm_num
theorem coe_dist {a : ℝ} (ha : 0 ≤ a) (x y : EReal) : (a : EReal) * (x + y) = a * x + a * y :=
  EReal.left_distrib_of_nonneg_of_ne_top (by exact_mod_cast ha) (EReal.coe_ne_top a) x y
theorem E_bot : E ⊥ = 0 := by unfold E; rw [EReal.bot_mul_coe_of_pos c8_pos]; rfl
theorem E_coe (r : ℝ) : E (r : EReal) = ((Real.exp (r * (1 / 8)) : ℝ) : EReal) := by
  unfold E c8; rw [← EReal.coe_mul]; rfl
theorem E_nonneg (y : EReal) : 0 ≤ E y := by
  induction y with
  | bot => rw [E_bot]
  | top => unfold E; rw [EReal.top_mul_coe_of_pos c8_pos]; exact le_top
  | coe r => rw [E_coe]; exact_mod_cast (Real.exp_pos _).le

/-- A power of two with the scale folded into the exponent is a weight. -/
theorem exp2_scale (y : EReal) : Ideal.exp2 (y * (((1 / 8) * (Real.log 2)⁻¹ : ℝ) : EReal)) = E y := by
  have hl : 0 < Real.log 2 := Real.log_pos (by norm_num)
  have hp : 0 < (1 / 8) * (Real.log 2)⁻¹ := by positivity
  induction y with
  | bot => rw [E_bot, EReal.bot_mul_coe_of_pos hp]; rfl
  | top => unfold E; rw [EReal.top_mul_coe_of_pos hp, EReal.top_mul_coe_of_pos c8_pos]; rfl
  | coe r =>
    rw [E_coe, ← EReal.coe_mul]
    show ((Real.rpow 2 _ : ℝ) : EReal) = _
    congr 1
    rw [Real.rpow_eq_pow, Real.rpow_def_of_pos (by norm_num)]
    congr 1
    field_simp

/-- Scaling both scores is scaling their difference. -/
theorem exp_sub_scaled (s m : EReal) : Ideal.exp (s * c8 - m * c8) = E (s - m) := by
  unfold E
  congr 1
  exact (EReal.sub_mul_of_nonneg_of_ne_top (EReal.coe_nonneg.mpr c8_pos.le) (EReal.coe_ne_top _)).symm

theorem E_real {s m : EReal} (h : s ≤ m) : ∃ a : ℝ, 0 ≤ a ∧ E (s - m) = a := by
  induction s with
  | bot => exact ⟨0, le_rfl, by rw [sub_eq_add_neg, EReal.bot_add, E_bot]; rfl⟩
  | top =>
    obtain rfl : m = ⊤ := top_le_iff.mp h
    exact ⟨0, le_rfl, by rw [show (⊤ : EReal) - ⊤ = ⊥ from rfl, E_bot]; rfl⟩
  | coe r =>
    induction m with
    | bot => exact absurd h (by simp)
    | top => exact ⟨0, le_rfl, by rw [show (r : EReal) - ⊤ = ⊥ from rfl, E_bot]; rfl⟩
    | coe q => exact ⟨_, (Real.exp_pos _).le, by rw [← EReal.coe_sub, E_coe]⟩

/-- Rescaling a weight from an old maximum to a new one. -/
theorem E_mul {s m m' : EReal} (h : s ≤ m) (h' : m ≤ m') : E (s - m) * E (m - m') = E (s - m') := by
  induction s with
  | bot => rw [sub_eq_add_neg, sub_eq_add_neg ⊥, EReal.bot_add, EReal.bot_add, E_bot, zero_mul]
  | top =>
    obtain rfl : m = ⊤ := top_le_iff.mp h
    obtain rfl : m' = ⊤ := top_le_iff.mp h'
    rw [show (⊤ : EReal) - ⊤ = ⊥ from rfl, E_bot, zero_mul]
  | coe r =>
    induction m with
    | bot => exact absurd h (by simp)
    | top =>
      obtain rfl : m' = ⊤ := top_le_iff.mp h'
      rw [show (⊤ : EReal) - ⊤ = ⊥ from rfl, show (r : EReal) - ⊤ = ⊥ from rfl, E_bot, zero_mul]
    | coe q =>
      induction m' with
      | bot => exact absurd h' (by simp)
      | top => rw [show (q : EReal) - ⊤ = ⊥ from rfl, show (r : EReal) - ⊤ = ⊥ from rfl, E_bot, mul_zero]
      | coe p =>
        rw [← EReal.coe_sub, ← EReal.coe_sub, ← EReal.coe_sub, E_coe, E_coe, E_coe, ← EReal.coe_mul, ← Real.exp_add]
        congr 2; ring

theorem sum_mul_coe {ι : Type} (S : Finset ι) (f : ι → EReal) {a : ℝ} (ha : 0 ≤ a) : (∑ i ∈ S, f i) * a = ∑ i ∈ S, f i * a := by
  classical
  induction S using Finset.induction_on with
  | empty => simp
  | insert i S hi ih => rw [Finset.sum_insert hi, Finset.sum_insert hi, mul_comm, coe_dist ha, mul_comm, mul_comm (a : EReal) (∑ i ∈ S, f i), ih]

section
variable (sn : EReal) (s : ℕ → EReal)

/-- The maximum of the new token's score and the first `j` chunks. -/
def mx : ℕ → EReal
  | 0 => sn
  | j + 1 => max (mx j) (Finset.univ.sup fun x : Fin 2048 => s (j * 2048 + x.val))
/-- The factor by which chunk `j` rescales what came before. -/
def al (j : ℕ) : EReal := E (mx sn s j - mx sn s (j + 1))
/-- The weight of column `x` of chunk `j`. -/
def ex (j x : ℕ) : EReal := E (s (j * 2048 + x) - mx sn s (j + 1))
/-- The weights of the first `j` chunks summed in lane `l`. -/
def lr (l : ℕ) : ℕ → EReal
  | 0 => 0
  | j + 1 => lr l j * al sn s j + ∑ k : Fin 16, ex sn s j (k.val * 128 + l)
/-- The values of the first `j` chunks summed with their weights. -/
def ar (v : ℕ → EReal) : ℕ → EReal
  | 0 => 0
  | j + 1 => ar v j * al sn s j + ∑ x : Fin 2048, ex sn s j x.val * v (j * 2048 + x.val)
/-- The new token's weight and the reciprocal of the sum of all weights, after `J` chunks. -/
def en (J : ℕ) : EReal := E (sn - mx sn s J)
def iv (J : ℕ) : EReal := Ideal.div 1 ((∑ l : Fin 128, lr sn s l.val J) + en sn s J)
/-- The result after `J` chunks. -/
def out (J : ℕ) (v : ℕ → EReal) (vs vn : EReal) : EReal :=
  ar sn s v J * (iv sn s J * vs) + en sn s J * iv sn s J * vn

theorem mx_mono (j : ℕ) : mx sn s j ≤ mx sn s (j + 1) := le_max_left _ _
theorem mx_sn (j : ℕ) : sn ≤ mx sn s j := by
  induction j with
  | zero => exact le_rfl
  | succ j ih => exact ih.trans (mx_mono sn s j)
theorem mx_ge {J c : ℕ} (h : c < J * 2048) : s c ≤ mx sn s J := by
  induction J with
  | zero => omega
  | succ j ih =>
    by_cases hc : c < j * 2048
    · exact (ih hc).trans (mx_mono sn s j)
    · refine le_trans ?_ (le_max_right _ _)
      have := Finset.le_sup (f := fun x : Fin 2048 => s (j * 2048 + x.val)) (Finset.mem_univ ⟨c - j * 2048, by omega⟩)
      simpa [show j * 2048 + (c - j * 2048) = c by omega] using this
theorem mx_eq (J : ℕ) : mx sn s J = max sn ((Finset.range (J * 2048)).sup s) := by
  induction J with
  | zero => simp [mx]
  | succ j ih =>
    apply le_antisymm
    · rw [mx]
      refine max_le ?_ (le_trans ?_ (le_max_right _ _))
      · rw [ih]; exact max_le_max le_rfl (Finset.sup_mono (Finset.range_mono (by omega)))
      · exact Finset.sup_le fun x _ => Finset.le_sup (f := s) (Finset.mem_range.mpr (by have := x.isLt; omega))
    · exact max_le (mx_sn sn s _) (Finset.sup_le fun c hc => mx_ge sn s (Finset.mem_range.mp hc))

theorem al_real (j : ℕ) : ∃ a : ℝ, 0 ≤ a ∧ al sn s j = a := E_real (mx_mono sn s j)

theorem chunk_sum (j : ℕ) (g : ℕ → EReal) :
    ∑ c ∈ Finset.range ((j + 1) * 2048), g c = ∑ c ∈ Finset.range (j * 2048), g c + ∑ x : Fin 2048, g (j * 2048 + x.val) := by
  rw [show (j + 1) * 2048 = j * 2048 + 2048 by ring, Finset.sum_range_add, Finset.sum_range (n := 2048)]

/-- The rescaled weighted sum is the weighted sum against the last maximum. -/
theorem ar_eq (v : ℕ → EReal) (J : ℕ) : ar sn s v J = ∑ c ∈ Finset.range (J * 2048), E (s c - mx sn s J) * v c := by
  induction J with
  | zero => simp [ar]
  | succ j ih =>
    obtain ⟨a, ha, e⟩ := al_real sn s j
    rw [ar, ih, chunk_sum, e, sum_mul_coe _ _ ha, ← e]
    refine congrArg₂ _ (Finset.sum_congr rfl fun c hc => ?_) rfl
    rw [mul_right_comm, al, E_mul (mx_ge sn s (Finset.mem_range.mp hc)) (mx_mono sn s j)]

theorem lanes (g : ℕ → EReal) : ∑ l : Fin 128, ∑ k : Fin 16, g (k.val * 128 + l.val) = ∑ x : Fin 2048, g x.val := by
  rw [Finset.sum_comm, ← Finset.sum_product' (f := fun (k : Fin 16) (l : Fin 128) => g (k.val * 128 + l.val)), Finset.univ_product_univ]
  refine Fintype.sum_equiv (finProdFinEquiv (m := 16) (n := 128)) _ _ fun p => ?_
  simp [finProdFinEquiv, Nat.add_comm, Nat.mul_comm]

theorem lr_eq (J : ℕ) : ∑ l : Fin 128, lr sn s l.val J = ∑ c ∈ Finset.range (J * 2048), E (s c - mx sn s J) := by
  have h : ∑ l : Fin 128, lr sn s l.val J = ar sn s (fun _ => 1) J := by
    induction J with
    | zero => simp [lr, ar]
    | succ j ih =>
      obtain ⟨a, ha, e⟩ := al_real sn s j
      simp only [lr, ar, mul_one]
      rw [Finset.sum_add_distrib, lanes (ex sn s j), ← ih, e, sum_mul_coe _ _ ha]
  rw [h, ar_eq]; simp

/-- The softmax over all `N` columns at once, with the scale applied to the scores. -/
def soft (N : ℕ) (v : ℕ → EReal) (vs vn : EReal) : EReal :=
  let M := max (Finset.univ.sup fun x : Fin N => s x.val * c8) (sn * c8)
  let r := Ideal.div 1 ((∑ x : Fin N, Ideal.exp (s x.val * c8 - M)) + Ideal.exp (sn * c8 - M))
  (∑ x : Fin N, Ideal.exp (s x.val * c8 - M) * r * v x.val) * vs + Ideal.exp (sn * c8 - M) * r * vn

theorem scale_mono : Monotone fun x : EReal => x * c8 := fun _ _ h => mul_le_mul_of_nonneg_right h (EReal.coe_nonneg.mpr c8_pos.le)

theorem out_eq {J N : ℕ} (hJ : J * 2048 ≤ N) (hs : ∀ c, J * 2048 ≤ c → s c = ⊥) (v : ℕ → EReal) (vs vn : EReal) :
    out sn s J v vs vn = soft sn s N v vs vn := by
  have hM : max (Finset.univ.sup fun x : Fin N => s x.val * c8) (sn * c8) = mx sn s J * c8 := by
    rw [mx_eq, scale_mono.map_max, max_comm]
    congr 1
    rw [Finset.comp_sup_eq_sup_comp_of_is_total (fun x : EReal => x * c8) scale_mono (EReal.bot_mul_coe_of_pos c8_pos)]
    apply le_antisymm
    · refine Finset.sup_le fun x _ => ?_
      by_cases h : x.val < J * 2048
      · exact Finset.le_sup (f := (fun x : EReal => x * c8) ∘ s) (Finset.mem_range.mpr h)
      · rw [hs _ (by omega), EReal.bot_mul_coe_of_pos c8_pos]; exact bot_le
    · exact Finset.sup_le fun c hc => (show s c * c8 ≤ _ from Finset.le_sup (f := fun x : Fin N => s x.val * c8) (Finset.mem_univ (⟨c, by have := Finset.mem_range.mp hc; omega⟩ : Fin N)))
  have tail (g : ℕ → EReal) (hg : ∀ c, J * 2048 ≤ c → g c = 0) : ∑ x : Fin N, g x.val = ∑ c ∈ Finset.range (J * 2048), g c := by
    rw [Finset.sum_range g |>.symm]
    exact (Finset.sum_subset (Finset.range_mono (by omega)) fun c _ hc => hg c (by simpa using hc)).symm
  have z (c : ℕ) (hc : J * 2048 ≤ c) : E (s c - mx sn s J) = 0 := by rw [hs c hc, sub_eq_add_neg, EReal.bot_add, E_bot]
  unfold soft out iv
  simp only [hM, exp_sub_scaled]
  rw [tail (fun c => E (s c - mx sn s J)) z, lr_eq, ar_eq, ← en]
  generalize hr : Ideal.div 1 ((∑ c ∈ Finset.range (J * 2048), E (s c - mx sn s J)) + en sn s J) = r
  rw [tail (fun c => E (s c - mx sn s J) * r * v c) fun c hc => by simp only [z c hc, zero_mul]]
  congr 1
  rw [← mul_assoc]
  congr 1
  by_cases h0 : (∑ c ∈ Finset.range (J * 2048), E (s c - mx sn s J)) + en sn s J = 0
  · have hS : ∑ c ∈ Finset.range (J * 2048), E (s c - mx sn s J) = 0 :=
      le_antisymm (le_trans (le_add_of_nonneg_right (E_nonneg _)) h0.le) (Finset.sum_nonneg fun _ _ => E_nonneg _)
    have h := (Finset.sum_eq_zero_iff_of_nonneg fun _ _ => E_nonneg _).mp hS
    rw [Finset.sum_eq_zero fun c hc => by rw [h c hc, zero_mul], Finset.sum_eq_zero fun c hc => by rw [h c hc, zero_mul, zero_mul], zero_mul]
  · have hp : 0 ≤ (∑ c ∈ Finset.range (J * 2048), E (s c - mx sn s J)) + en sn s J :=
      add_nonneg (Finset.sum_nonneg fun _ _ => E_nonneg _) (E_nonneg _)
    obtain ⟨a, ha, rfl⟩ : ∃ a : ℝ, 0 ≤ a ∧ r = a := by
      rw [Ideal.div, if_neg h0, one_mul] at hr
      rw [← hr]
      generalize (∑ c ∈ Finset.range (J * 2048), E (s c - mx sn s J)) + en sn s J = q at hp
      induction q with
      | bot => exact ⟨0, le_rfl, by simp⟩
      | top => exact ⟨0, le_rfl, by simp⟩
      | coe q => exact ⟨q⁻¹, inv_nonneg.mpr (by exact_mod_cast hp), by rw [EReal.coe_inv]⟩
    rw [sum_mul_coe _ _ ha]
    exact Finset.sum_congr rfl fun c _ => mul_right_comm _ _ _
end

end Cert.Val
end
-- ==== Proof.RefVal.lean ====
/-
  The reference's result at one index: the softmax over all 32768 columns of a head's scores, against its group's values.
-/
module

public import proofs.«01_k».proof.Proof.Gen.ReferenceIdeal.Value
public import proofs.«01_k».proof.Proof.Math
public import Idealize.ShloMosaic.Lib.Pointwise

@[expose] public section
set_option maxRecDepth 16384
noncomputable section
namespace Cert.ReferenceIdeal.Hand
open Cert.ReferenceIdeal Cert.ReferenceIdeal.Gen Cert.Val
open Idealize.ShloMosaic

variable (a0 : Vec Ideal S16x1x32x64 .bf16) (a1 a2 : Vec Ideal S16x1x8x64 .bf16) (a3 a4 : Vec Ideal S16x32768x8x64 .fp8e4m3) (a5 a6 : Vec Ideal S8 .f32) (a7 : Vec Ideal S16 .i32)

theorem bits_eighth : Ideal.ofBits .f32 0x3E000000#32 = c8 := by
  simp [Ideal.ofBits, Ideal.ieee, c8]
  rw [← EReal.coe_mul]
  norm_num
theorem bits_ninf : Ideal.ofBits .f32 0xFF800000#32 = ⊥ := by simp [Ideal.ofBits, Ideal.ieee]
theorem slt_sel {α : Type} (c : ℕ) (hc : c < 32768) (w : BitVec 32) (x y : α) :
    Scalar.select (IntOp.cmpi .slt (BitVec.ofNat 32 c) w) x y = if (c : ℤ) < w.toInt then x else y := by
  have hx : (BitVec.ofNat 32 c).toInt = c := by rw [BitVec.toInt_eq_toNat_of_lt] <;> simp <;> omega
  unfold IntOp.cmpi Scalar.select
  simp only [BitVec.slt, hx]
  by_cases h : (c : ℤ) < w.toInt <;> simp [h]

theorem pay2_at (b : Fin 16) (k : Fin 8) (g : Fin 4) (c : Fin 32768) :
    (k0_pay2 a0 a5 a3 a7 (ix5 b 0 k g c) : EReal) = if (c.val : ℤ) < (a7 (ix1 b)).toInt then
      (∑ x : Fin 64, (a3 (ix4 b c k x) : EReal) * (a0 (ix4 b 0 (⟨k.val * 4 + g.val, by omega⟩ : Fin 32) x) * a5 (ix1 k))) * c8 else ⊥ := by
  pointwise [k0_pay2, k0_pay1]
  rw [slt_sel _ c.isLt, bits_eighth, bits_ninf]
theorem pay3_at (b : Fin 16) (k : Fin 8) (g : Fin 4) :
    (k0_pay3 a0 a1 (ix5 b 0 k g 0) : EReal) = (∑ x : Fin 64, (a1 (ix4 b 0 k x) : EReal) * a0 (ix4 b 0 (⟨k.val * 4 + g.val, by omega⟩ : Fin 32) x)) * c8 := by
  pointwise [k0_pay3, k0_pay1]
  rw [bits_eighth]

theorem maxlast {A B C D N : ℕ} (v : FVec Ideal ⟨5, ![A, B, C, D, N]⟩ .f32) (h : (⟨5, ![A, B, C, D, N]⟩ : Shape).Reduces [4] ⟨4, ![A, B, C, D]⟩) (hφ) (hacc)
    (a : Fin A) (b : Fin B) (c : Fin C) (d : Fin D) :
    (multiReduction .maximumf [4] ⟨4, ![A, B, C, D]⟩ v 0xFF800000#32 h hφ hacc (ix4 a b c d) : EReal) = Finset.univ.sup fun k : Fin N => (v (ix5 a b c d k) : EReal) := by
  pointwise
  rw [bits_ninf]
  rfl

/-- The larger of a head's largest cached score and its new one. -/
def rX (v44 v46 : FVec Ideal S16x1x8x4 .f32) : FVec Ideal S16x1x8x4x1 .f32 :=
  maximumf (shapeCast S16x1x8x4x1 v44 shapeCasts_S16x1x8x4_S16x1x8x4x1) (shapeCast S16x1x8x4x1 v46 shapeCasts_S16x1x8x4_S16x1x8x4x1)
def rM (v27 : FVec Ideal S16x1x8x4x32768 .f32) (v43 : FVec Ideal S16x1x8x4x1 .f32) : FVec Ideal S16x1x8x4x1 .f32 :=
  rX (multiReduction .maximumf [4] S16x1x8x4 v27 0xFF800000#32 reduces_S16x1x8x4x32768_S16x1x8x4 (.inl rfl) rfl)
    (multiReduction .maximumf [4] S16x1x8x4 v43 0xFF800000#32 reduces_S16x1x8x4x1_S16x1x8x4 (.inl rfl) rfl)

/-- The exponentials of the cached scores. -/
def rE (v27 : FVec Ideal S16x1x8x4x32768 .f32) (v48 : FVec Ideal S16x1x8x4x1 .f32) : FVec Ideal S16x1x8x4x32768 .f32 :=
  exp (subf v27 (broadcastTo S16x1x8x4x32768 v48 broadcasts_S16x1x8x4x1_S16x1x8x4x32768))

/-- The reciprocal of the sum of all the exponentials. -/
def rI (v51 : FVec Ideal S16x1x8x4x32768 .f32) (v53 : FVec Ideal S16x1x8x4x1 .f32) : FVec Ideal S16x1x8x4x1 .f32 :=
  have v54 : FVec Ideal S16x1x8x4 .f32 := multiReduction .add [4] S16x1x8x4 v51 0x00000000#32 reduces_S16x1x8x4x32768_S16x1x8x4 (.inl rfl) rfl
  have v55 : FVec Ideal S16x1x8x4x1 .f32 := shapeCast S16x1x8x4x1 v54 shapeCasts_S16x1x8x4_S16x1x8x4x1
  have v56 : FVec Ideal S16x1x8x4 .f32 := multiReduction .add [4] S16x1x8x4 v53 0x00000000#32 reduces_S16x1x8x4x1_S16x1x8x4 (.inl rfl) rfl
  have v57 : FVec Ideal S16x1x8x4x1 .f32 := shapeCast S16x1x8x4x1 v56 shapeCasts_S16x1x8x4_S16x1x8x4x1
  divf (broadcast S16x1x8x4x1 (Scalar.ofBits .f32 0x3F800000#32)) (addf v55 v57)

/-- The weights of the cached columns. -/
def rP (v51 : FVec Ideal S16x1x8x4x32768 .f32) (v60 : FVec Ideal S16x1x8x4x1 .f32) : FVec Ideal S16x1x8x4x32768 .bf16 :=
  truncf .bf16 (mulf v51 (broadcastTo S16x1x8x4x32768 v60 broadcasts_S16x1x8x4x1_S16x1x8x4x32768)) bitsLt_bf16_f32

/-- The weighted sum of the cached values. -/
def rV (v66 : Vec Ideal S16x32768x8x64 .fp8e4m3) (v63 : FVec Ideal S16x1x8x4x32768 .bf16) : FVec Ideal S16x8x64x1x4 .f32 :=
  matmul dot_S16x32768x8x64_S16x1x8x4x32768_S16x8x64x1x4_1_4_3_13_02_02 none (extf .bf16 v66 bitsLt_fp8e4m3_bf16 : FVec Ideal S16x32768x8x64 .bf16) v63 (constant S16x8x64x1x4 .f32 0x00000000#32)

/-- The result from the sum over the cache and the new column. -/
def rO (v3 : Vec Ideal S16x1x8x64 .bf16) (v68 : FVec Ideal S16x8x64x1x4 .f32) (v53 v60 : FVec Ideal S16x1x8x4x1 .f32) (v70 : Vec Ideal S8 .f32) : FVec Ideal S16x1x32x64 .bf16 :=
  have v65 : FVec Ideal S16x1x8x4x1 .bf16 := truncf .bf16 (mulf v53 v60) bitsLt_bf16_f32
  have v69 : FVec Ideal S16x1x8x4x64 .f32 := transpose S16x1x8x4x64 [0, 3, 1, 4, 2] v68 transposes_S16x8x64x1x4_p0_3_1_4_2_S16x1x8x4x64
  have v71 : FVec Ideal S1x1x8x1x1 .f32 := shapeCast S1x1x8x1x1 v70 shapeCasts_S8_S1x1x8x1x1
  have v72 : FVec Ideal S16x1x8x4x64 .f32 := broadcastTo S16x1x8x4x64 v71 broadcasts_S1x1x8x1x1_S16x1x8x4x64
  have v73 : FVec Ideal S16x1x8x4x64 .f32 := mulf v69 v72
  have v74 : FVec Ideal S16x8x64x1x4 .f32 := matmul (φ₁ := .bf16) (φ₂ := .bf16) dot_S16x1x8x64_S16x1x8x4x1_S16x8x64x1x4_1_4_3_13_02_02 none (v3 : FVec Ideal S16x1x8x64 .bf16) v65 (constant S16x8x64x1x4 .f32 0x00000000#32)
  have v75 : FVec Ideal S16x1x8x4x64 .f32 := transpose S16x1x8x4x64 [0, 3, 1, 4, 2] v74 transposes_S16x8x64x1x4_p0_3_1_4_2_S16x1x8x4x64
  truncf .bf16 (shapeCast S16x1x32x64 (addf v73 v75) shapeCasts_S16x1x8x4x64_S16x1x32x64) bitsLt_bf16_f32

/-- The new column's score after its mask, which hides nothing. -/
def rN (v31 : FVec Ideal S16x1x8x4x1 .f32) (v34 : IVec S1x1 32) (v36 : IVec S1 32) : FVec Ideal S16x1x8x4x1 .f32 :=
  have v37 : IVec S1x1 32 := shapeCast S1x1 v36 shapeCasts_S1_S1x1
  have v38 : IVec S1x1 1 := cmpi .sge v34 v37
  have v39 : IVec S1x1x1x1x1 1 := shapeCast S1x1x1x1x1 v38 shapeCasts_S1x1_S1x1x1x1x1
  have v40 : IVec S1x1x1x1x1 1 := shapeCast S1x1x1x1x1 v39 shapeCasts_S1x1x1x1x1_S1x1x1x1x1
  have v41 : IVec S16x1x8x4x1 1 := broadcastTo S16x1x8x4x1 v40 broadcasts_S1x1x1x1x1_S16x1x8x4x1
  select v41 v31 (broadcast S16x1x8x4x1 (Scalar.ofBits .f32 0xFF800000#32))

theorem pay6_eq (S : FVec Ideal S16x1x8x4x32768 .f32) (N : FVec Ideal S16x1x8x4x1 .f32) (p : IVec S1x1 32) (q : IVec S1 32) :
    k0_pay6 a2 S N p q a4 a6 =
      have v43 := rN N p q
      have M := rM S v43
      have e := rE S M
      have en : FVec Ideal S16x1x8x4x1 .f32 := exp (subf v43 M)
      have v := rI e en
      rO a2 (rV a4 (rP e v)) en v a6 := rfl

theorem rN_at (N : FVec Ideal S16x1x8x4x1 .f32) (b : Fin 16) (k : Fin 8) (g : Fin 4) :
    (rN N k0_pay4 k0_pay5 (ix5 b 0 k g 0) : EReal) = N (ix5 b 0 k g 0) := by
  pointwise [rN, k0_pay4, k0_pay5]
  exact if_pos (by decide)

theorem rX_at (u w : FVec Ideal S16x1x8x4 .f32) (b : Fin 16) (k : Fin 8) (g : Fin 4) :
    (rX u w (ix5 b 0 k g 0) : EReal) = max (u (ix4 b 0 k g) : EReal) (w (ix4 b 0 k g)) := by
  pointwise [rX]
theorem rM_at (S : FVec Ideal S16x1x8x4x32768 .f32) (N : FVec Ideal S16x1x8x4x1 .f32) (b : Fin 16) (k : Fin 8) (g : Fin 4) :
    (rM S N (ix5 b 0 k g 0) : EReal) = max (Finset.univ.sup fun x : Fin 32768 => (S (ix5 b 0 k g x) : EReal)) (N (ix5 b 0 k g 0)) := by
  unfold rM
  rw [rX_at]
  refine congrArg₂ max (maxlast S _ _ _ b 0 k g) ((maxlast N _ _ _ b 0 k g).trans ?_)
  rw [Finset.univ_unique, Finset.sup_singleton]
  rfl

theorem rE_at (S : FVec Ideal S16x1x8x4x32768 .f32) (N : FVec Ideal S16x1x8x4x1 .f32) (b : Fin 16) (k : Fin 8) (g : Fin 4) (c : Fin 32768) :
    (rE S N (ix5 b 0 k g c) : EReal) = Ideal.exp ((S (ix5 b 0 k g c) : EReal) - N (ix5 b 0 k g 0)) := by
  pointwise [rE]

theorem rP_at (S : FVec Ideal S16x1x8x4x32768 .f32) (N : FVec Ideal S16x1x8x4x1 .f32) (b : Fin 16) (k : Fin 8) (g : Fin 4) (c : Fin 32768) :
    (rP S N (ix5 b 0 k g c) : EReal) = (S (ix5 b 0 k g c) : EReal) * N (ix5 b 0 k g 0) := by
  pointwise [rP]

theorem rI_at (S : FVec Ideal S16x1x8x4x32768 .f32) (N : FVec Ideal S16x1x8x4x1 .f32) (b : Fin 16) (k : Fin 8) (g : Fin 4) :
    (rI S N (ix5 b 0 k g 0) : EReal) = Ideal.div 1 ((∑ x : Fin 32768, (S (ix5 b 0 k g x) : EReal)) + ∑ x : Fin 1, (N (ix5 b 0 k g x) : EReal)) := by
  pointwise [rI]

theorem rV_at (P : FVec Ideal S16x1x8x4x32768 .bf16) (b : Fin 16) (k : Fin 8) (g : Fin 4) (d : Fin 64) :
    (rV a4 P (ix5 b k d 0 g) : EReal) = ∑ x : Fin 32768, (a4 (ix4 b x k d) : EReal) * P (ix5 b 0 k g x) := by
  pointwise [rV]

theorem rO_at (v68 : FVec Ideal S16x8x64x1x4 .f32) (en v : FVec Ideal S16x1x8x4x1 .f32) (b : Fin 16) (i : Fin 32) (d : Fin 64) :
    (rO a2 v68 en v a6 (ix4 b 0 i d) : EReal) =
      (v68 (ix5 b (⟨i.val / 4, by omega⟩ : Fin 8) d 0 (⟨i.val % 4, by omega⟩ : Fin 4)) : EReal) * a6 (ix1 (⟨i.val / 4, by omega⟩ : Fin 8))
      + ∑ x : Fin 1, (a2 (ix4 b x (⟨i.val / 4, by omega⟩ : Fin 8) d) : EReal) * ((en (ix5 b 0 (⟨i.val / 4, by omega⟩ : Fin 8) (⟨i.val % 4, by omega⟩ : Fin 4) x) : EReal) * v (ix5 b 0 (⟨i.val / 4, by omega⟩ : Fin 8) (⟨i.val % 4, by omega⟩ : Fin 4) x)) := by
  pointwise [rO]

theorem en_at (N M : FVec Ideal S16x1x8x4x1 .f32) (b : Fin 16) (k : Fin 8) (g : Fin 4) :
    ((exp (subf N M) : FVec Ideal S16x1x8x4x1 .f32) (ix5 b 0 k g 0) : EReal) = Ideal.exp ((N (ix5 b 0 k g 0) : EReal) - M (ix5 b 0 k g 0)) := by
  pointwise

/-- The softmax with its factors in the reference's order. -/
theorem soft_of {N : ℕ} (sn : EReal) (s v : ℕ → EReal) (vs vn : EReal) :
    (∑ x : Fin N, v x.val * (Ideal.exp (s x.val * c8 - max (Finset.univ.sup fun x : Fin N => s x.val * c8) (sn * c8))
          * Ideal.div 1 ((∑ x : Fin N, Ideal.exp (s x.val * c8 - max (Finset.univ.sup fun x : Fin N => s x.val * c8) (sn * c8)))
            + Ideal.exp (sn * c8 - max (Finset.univ.sup fun x : Fin N => s x.val * c8) (sn * c8))))) * vs
      + vn * (Ideal.exp (sn * c8 - max (Finset.univ.sup fun x : Fin N => s x.val * c8) (sn * c8))
          * Ideal.div 1 ((∑ x : Fin N, Ideal.exp (s x.val * c8 - max (Finset.univ.sup fun x : Fin N => s x.val * c8) (sn * c8)))
            + Ideal.exp (sn * c8 - max (Finset.univ.sup fun x : Fin N => s x.val * c8) (sn * c8)))) = soft sn s N v vs vn :=
  congrArg₂ (· + ·) (congrArg (· * _) (Finset.sum_congr rfl fun x _ => mul_comm _ _)) (mul_comm _ _)

/-- The reference's result at one index. -/
theorem ref_at (b : Fin 16) (i : Fin 32) (d : Fin 64) {sn : EReal} {s v : ℕ → EReal} {N : ℕ} (hN : N = 32768)
    (hs : ∀ c : Fin 32768, s c.val = if (c.val : ℤ) < (a7 (ix1 b)).toInt then ∑ x : Fin 64, (a0 (ix4 b 0 i x) : EReal) * a5 (ix1 (⟨i.val / 4, by omega⟩ : Fin 8)) * a3 (ix4 b c (⟨i.val / 4, by omega⟩ : Fin 8) x) else ⊥)
    (hn : sn = ∑ x : Fin 64, (a0 (ix4 b 0 i x) : EReal) * a1 (ix4 b 0 (⟨i.val / 4, by omega⟩ : Fin 8) x))
    (hv : ∀ c : Fin 32768, v c.val = a4 (ix4 b c (⟨i.val / 4, by omega⟩ : Fin 8) d)) :
    (k0_pay6 a2 (k0_pay2 a0 a5 a3 a7) (k0_pay3 a0 a1) k0_pay4 k0_pay5 a4 a6 (ix4 b 0 i d) : EReal)
      = soft sn s N v (a6 (ix1 (⟨i.val / 4, by omega⟩ : Fin 8))) (a2 (ix4 b 0 (⟨i.val / 4, by omega⟩ : Fin 8) d)) := by
  subst hN
  have ei : (⟨i.val / 4 * 4 + i.val % 4, by omega⟩ : Fin 32) = i := Fin.ext (show i.val / 4 * 4 + i.val % 4 = i.val by omega)
  have h2 : ∀ c : Fin 32768, (k0_pay2 a0 a5 a3 a7 (ix5 b 0 (⟨i.val / 4, by omega⟩ : Fin 8) (⟨i.val % 4, by omega⟩ : Fin 4) c) : EReal) = s c.val * c8 := by
    intro c
    rw [pay2_at, hs]
    simp only [ei]
    split
    · exact congrArg (· * c8) (Finset.sum_congr rfl fun x _ => mul_comm _ _)
    · exact (EReal.bot_mul_coe_of_pos c8_pos).symm
  have h3 : (k0_pay3 a0 a1 (ix5 b 0 (⟨i.val / 4, by omega⟩ : Fin 8) (⟨i.val % 4, by omega⟩ : Fin 4) 0) : EReal) = sn * c8 := by
    rw [pay3_at, hn]
    simp only [ei]
    exact congrArg (· * c8) (Finset.sum_congr rfl fun x _ => mul_comm _ _)
  rw [pay6_eq]
  generalize k0_pay2 a0 a5 a3 a7 = S at *
  generalize k0_pay3 a0 a1 = T at *
  dsimp only
  rw [rO_at, rV_at]
  simp only [rP_at, rI_at, rE_at, Fin.sum_univ_one, Fin.isValue, en_at, rM_at, rN_at, h2, h3]
  simp only [← hv]
  exact soft_of sn s v _ _

end Cert.ReferenceIdeal.Hand
end
-- ==== Proof.KI.Args.lean ====
/-
  The kernel's operands, read at an index of the arguments: the queries, the new token's keys and values with their
  axes of extent one dropped, and the two caches with the columns last.
-/
module

public import proofs.«01_k».proof.Proof.KI.Launch
public import Idealize.ShloMosaic.Lib.Pointwise
public import Idealize.ShloMosaic.Lib.StableHlo.Run

@[expose] public section
set_option maxRecDepth 16384
noncomputable section
namespace Cert.KernelIdeal.Hand
open Cert.KernelIdeal Cert.KernelIdeal.Gen
open Idealize.ShloMosaic Idealize.ShloMosaic.TcCoe

variable (m : (ℓ : Loc nD τ sig) → Buf (Elt Ideal) ℓ) (c : Dev nD)

theorem V_x (b : Fin 16) (i : Fin 32) (d : Fin 64) : V m c main_v4 (ix3 b i d) = m ((c : Thread nD τ).loc main_arg0) (ix4 b (0 : Fin 1) i d) := by
  show StableHlo.after hostOps0 _ (Proc.devRef .tc main_v4) _ = _
  after_results
  generalize m _ = f
  pointwise
theorem V_kn (b : Fin 16) (i : Fin 8) (d : Fin 64) : V m c main_v5 (ix3 b i d) = m ((c : Thread nD τ).loc main_arg1) (ix4 b (0 : Fin 1) i d) := by
  show StableHlo.after hostOps0 _ (Proc.devRef .tc main_v5) _ = _
  after_results
  generalize m _ = f
  pointwise
theorem V_vn (b : Fin 16) (i : Fin 8) (d : Fin 64) : V m c main_v6 (ix3 b i d) = m ((c : Thread nD τ).loc main_arg2) (ix4 b (0 : Fin 1) i d) := by
  show StableHlo.after hostOps0 _ (Proc.devRef .tc main_v6) _ = _
  after_results
  generalize m _ = f
  pointwise
theorem V_k (b : Fin 16) (r : Fin 512) (n : Fin 32768) :
    V m c main_v1 (ix3 b r n) = m ((c : Thread nD τ).loc main_arg3) (ix4 b n (⟨r.val / 64, by omega⟩ : Fin 8) (⟨r.val % 64, by omega⟩ : Fin 64)) := by
  show StableHlo.after hostOps0 _ (Proc.devRef .tc main_v1) _ = _
  after_results
  generalize m _ = f
  pointwise
theorem V_v (b : Fin 16) (r : Fin 512) (n : Fin 32768) :
    V m c main_v3 (ix3 b r n) = m ((c : Thread nD τ).loc main_arg4) (ix4 b n (⟨r.val / 64, by omega⟩ : Fin 8) (⟨r.val % 64, by omega⟩ : Fin 64)) := by
  show StableHlo.after hostOps0 _ (Proc.devRef .tc main_v3) _ = _
  after_results
  generalize m _ = f
  pointwise
end Cert.KernelIdeal.Hand
end
-- ==== Proof.KI.Pay.lean ====
/-
  The vector expressions of the kernel, read at one index.
-/
module

public import proofs.«01_k».proof.Proof.KI.Parts
public import proofs.«01_k».proof.Proof.Math
public import Idealize.ShloMosaic.Lib.Pointwise

@[expose] public section
set_option maxRecDepth 16384
noncomputable section
namespace Cert.KernelIdeal.Hand
open Cert.KernelIdeal Cert.KernelIdeal.Gen Cert.Sched Cert.Val
open Idealize.ShloMosaic

theorem bits_ninf : (FloatOps.ofBits .f32 0xFF800000#32 : Ideal .f32) = (⊥ : EReal) := by
  show Ideal.ofBits .f32 0xFF800000#32 = ⊥
  simp [Ideal.ofBits, Ideal.ieee]

theorem sel_eq0 {α : Type} (J : BitVec 32) (a b : α) : Scalar.select (Scalar.cmpi .eq J 0#32) a b = if J = 0#32 then a else b := by
  by_cases h : J = 0#32
  · simp [Scalar.select, Scalar.cmpi, IntOp.cmpi, h]
  · have e : (J == 0#32) = false := by simpa using h
    simp [Scalar.select, Scalar.cmpi, IntOp.cmpi, h, e]
theorem exp2_named (y : EReal) : (FloatOps.exp2 (F := Ideal) (φ := .f32) (y * Named.named (F := Ideal) (φ := .f32) κ "exp2_scale" 0x3E38AA3B#32) : EReal) = E y := exp2_scale y
theorem sum_max {n : ℕ} (f : Fin n → EReal) : Finset.fold max ⊥ f Finset.univ = Finset.univ.sup f := rfl
theorem bitf {b : BitVec 1} {p : Prop} [Decidable p] (h : b = if p then 1#1 else 0#1) :
    (FloatOps.sitofp (F := Ideal) .f32 (BitVec.setWidth 32 b) : EReal) = if p then 1 else 0 := by
  subst h
  by_cases hp : p <;> simp [hp, FloatOps.sitofp]
/-- A block-diagonal row meets one block. -/
theorem diag_sum {u : ℕ} (hu : u < 4) (f : Fin 256 → EReal) :
    (∑ i : Fin 256, if u = i.val / 64 then f i else 0) = ∑ d : Fin 64, f ⟨u * 64 + d, by omega⟩ := by
  rw [← (finProdFinEquiv (m := 4) (n := 64)).sum_comp, Fintype.sum_prod_type, Finset.sum_eq_single (⟨u, hu⟩ : Fin 4)]
  · refine Finset.sum_congr rfl fun d _ => ?_
    have e : (finProdFinEquiv (m := 4) (n := 64) ((⟨u, hu⟩ : Fin 4), d)) = (⟨u * 64 + d, by omega⟩ : Fin 256) := Fin.ext (by simp [finProdFinEquiv]; omega)
    rw [e, if_pos (by simp; omega)]
  · intro v _ hv
    refine Finset.sum_eq_zero fun d _ => if_neg fun h => hv (Fin.ext ?_)
    simp [finProdFinEquiv] at h ⊢
    omega
  · intro h; exact absurd (Finset.mem_univ _) h

theorem pay26_at (m : IVec S16x2048 1) (k : FVec Ideal S256x2048 .fp8e4m3) (q : Vec Ideal S1x1x16x256 .bf16) (r : Fin 16) (x : Fin 2048) :
    (k0_pay26 m k q (ix4 0 0 r x) : EReal) = if m (ix2 r x) = 1#1 then ∑ i : Fin 256, q (ix4 0 0 r i) * k (ix2 i x) else ⊥ := by
  pointwise [k0_pay26, k0_pay25]
  rw [show Ideal.ofBits .f32 0xFF800000#32 = ⊥ from bits_ninf]; rfl

theorem pay29_at (J : BitVec 32) (m : IVec S16x2048 1) (k : FVec Ideal S256x2048 .fp8e4m3) (q : Vec Ideal S1x1x16x256 .bf16) (a : Vec Ideal S1x16x128 .f32) (b : Vec Ideal S1x1x16x128 .f32) (r : Fin 16) (l : Fin 128) :
    (k0_pay29 J m k q a b (ix4 0 0 r l) : EReal) = max (if J = 0#32 then a (ix3 0 r l) else b (ix4 0 0 r l)) (Finset.univ.sup fun x : Fin 2048 => (k0_pay26 m k q (ix4 0 0 r x) : EReal)) := by
  pointwise [k0_pay29, k0_pay28, k0_pay27, k0_pay26, k0_pay25]
  rw [show Ideal.ofBits .f32 0xFF800000#32 = ⊥ from bits_ninf, sel_eq0]; rfl

theorem pay30_at (J : BitVec 32) (m : IVec S16x2048 1) (k : FVec Ideal S256x2048 .fp8e4m3) (q : Vec Ideal S1x1x16x256 .bf16) (a : Vec Ideal S1x16x128 .f32) (b : Vec Ideal S1x1x16x128 .f32) (r : Fin 16) (l : Fin 128) :
    (k0_pay30 J m k q a b (ix4 0 0 r l) : EReal) = E ((if J = 0#32 then a (ix3 0 r l) else b (ix4 0 0 r l) : EReal) - k0_pay29 J m k q a b (ix4 0 0 r l)) := by
  pointwise [k0_pay30, k0_pay29, k0_pay28, k0_pay27, k0_pay25]
  rw [exp2_named, sel_eq0]

theorem rep8 {v : FVec Ideal S32x8 .bf16} (hv : ∀ i k, (v (ix2 i k) : EReal) = if i.val / 4 = k.val then 1 else 0) (i : Fin 32) (f : Fin 8 → EReal) :
    ∑ k : Fin 8, v (ix2 i k) * f k = f ⟨i.val / 4, by omega⟩ := by
  simp only [hv, ite_mul, one_mul, zero_mul]
  rw [Finset.sum_eq_single (⟨i.val / 4, by omega⟩ : Fin 8)]
  · simp
  · intro k _ hk; exact if_neg fun h => hk (Fin.ext h.symm)
  · intro h; exact absurd (Finset.mem_univ _) h
theorem pay9_at {v : FVec Ideal S32x8 .bf16} (hv : ∀ i k, (v (ix2 i k) : EReal) = if i.val / 4 = k.val then 1 else 0) (a : Vec Ideal S1x32x64 .bf16) (b : Vec Ideal S1x8x64 .bf16) (i : Fin 32) (l : Fin 128) :
    (k0_pay9 v a b (ix3 0 i l) : EReal) = ∑ d : Fin 64, a (ix3 0 i d) * b (ix3 0 (⟨i.val / 4, by omega⟩ : Fin 8) d) := by
  pointwise [k0_pay9, k0_pay8]
  refine Finset.sum_congr rfl fun d _ => congrArg _ ?_
  exact rep8 hv i fun k => b (ix3 0 k d)

theorem pay10_at {v : FVec Ideal S64x256 .bf16} {m : IVec S16x256 1} (hv : ∀ d c, (v (ix2 d c) : EReal) = if c.val % 64 = d.val then 1 else 0) (hm : ∀ r c, m (ix2 r c) = if r.val / 4 = c.val / 64 then 1#1 else 0#1) (s : FVec Ideal S16x1 .bf16) (a : Vec Ideal S1x32x64 .bf16) (r : Fin 16) (c : Fin 256) :
    (k0_pay10 v m s a (ix4 0 0 r c) : EReal) = if r.val / 4 = c.val / 64 then a (ix3 0 (⟨r, by omega⟩ : Fin 32) (⟨c.val % 64, by omega⟩ : Fin 64)) * s (ix2 r 0) else 0 := by
  pointwise [k0_pay10, k0_pay8]
  rw [hm]
  by_cases h : r.val / 4 = c.val / 64
  · simp only [h, if_true, Scalar.select, hv, mul_ite, mul_one, mul_zero]
    rw [Finset.sum_eq_single (⟨c.val % 64, by omega⟩ : Fin 64)]
    · simp
    · intro k _ hk; exact if_neg fun h => hk (Fin.ext h.symm)
    · intro h; exact absurd (Finset.mem_univ _) h
  · simp [h, Scalar.select]
theorem pay11_at {v : FVec Ideal S64x256 .bf16} {m : IVec S16x256 1} (hv : ∀ d c, (v (ix2 d c) : EReal) = if c.val % 64 = d.val then 1 else 0) (hm : ∀ r c, m (ix2 r c) = if r.val / 4 = c.val / 64 then 1#1 else 0#1) (s : FVec Ideal S16x1 .bf16) (a : Vec Ideal S1x32x64 .bf16) (r : Fin 16) (c : Fin 256) :
    (k0_pay11 v m s a (ix4 0 0 r c) : EReal) = if r.val / 4 = c.val / 64 then a (ix3 0 (⟨16 + r, by omega⟩ : Fin 32) (⟨c.val % 64, by omega⟩ : Fin 64)) * s (ix2 r 0) else 0 := by
  pointwise [k0_pay11, k0_pay8]
  rw [hm]
  by_cases h : r.val / 4 = c.val / 64
  · simp only [h, if_true, Scalar.select, hv, mul_ite, mul_one, mul_zero]
    rw [Finset.sum_eq_single (⟨c.val % 64, by omega⟩ : Fin 64)]
    · simp
    · intro k _ hk; exact if_neg fun h => hk (Fin.ext h.symm)
    · intro h; exact absurd (Finset.mem_univ _) h
  · simp [h, Scalar.select]
theorem pay39_at (m : Vec Ideal S1x1x16x128 .f32) (s : Vec Ideal S1x1x16x2048 .f32) (r : Fin 16) (x : Fin 2048) :
    (k0_pay39 m s (ix2 r x) : EReal) = E (s (ix4 0 0 r x) - m (ix4 0 0 r 0)) := by
  pointwise [k0_pay39]
  exact exp2_named _
theorem pay38_at (m : Vec Ideal S1x1x16x128 .f32) (r : Fin 16) (l : Fin 128) : (k0_pay38 m (ix2 r l) : EReal) = m (ix4 0 0 r l) := by
  pointwise [k0_pay38]
theorem pay24_at (k : Vec Ideal S1x256x2048 .fp8e4m3) (c : Fin 256) (x : Fin 2048) : (k0_pay24 k (ix2 c x) : EReal) = k (ix3 0 c x) := by
  pointwise [k0_pay24]
theorem pay41_at (J : BitVec 32) (al : FVec Ideal S16x128 .f32) (m : Vec Ideal S1x1x16x128 .f32) (s : Vec Ideal S1x1x16x2048 .f32) (a : Vec Ideal S1x16x128 .f32) (r : Fin 16) (l : Fin 128) :
    (k0_pay41 J al (k0_pay39 m s) (k0_pay40 m s) a (ix3 0 r l) : EReal) = (if J = 0#32 then 0 else a (ix3 0 r l)) * al (ix2 r l)
      + ∑ k : Fin 16, (k0_pay39 m s (ix2 r (⟨k * 128 + l, by omega⟩ : Fin 2048)) : EReal) := by
  unfold k0_pay40
  generalize k0_pay39 m s = e
  pointwise [k0_pay41]
  rw [sel_eq0]
  congr 1
  · split <;> simp
  · simp only [Fin.sum_univ_castSucc, Fin.sum_univ_zero]
    simp
theorem pay42_at (J : BitVec 32) (al : FVec Ideal S16x128 .f32) (e : FVec Ideal S16x2048 .f32) (v : Vec Ideal S1x256x2048 .fp8e4m3) (a : Vec Ideal S1x16x256 .f32) (r : Fin 16) (c : Fin 256) :
    (k0_pay42 J al e v a (ix3 0 r c) : EReal) = (if J = 0#32 then 0 else a (ix3 0 r c)) * al (ix2 r 0) + ∑ x : Fin 2048, e (ix2 r x) * v (ix3 0 c x) := by
  pointwise [k0_pay42]
  rw [sel_eq0]
  split <;> simp
theorem pick {m : IVec S16x256 1} (hm : ∀ r c, m (ix2 r c) = if r.val / 4 = c.val / 64 then 1#1 else 0#1) (r : Fin 16) (d : Fin 64) (a : Fin 256 → EReal) :
    Scalar.select (m (ix2 r (⟨d, by omega⟩ : Fin 256))) (a ⟨d, by omega⟩) 0 + Scalar.select (m (ix2 r (⟨64 + d, by omega⟩ : Fin 256))) (a ⟨64 + d, by omega⟩) 0
      + Scalar.select (m (ix2 r (⟨128 + d, by omega⟩ : Fin 256))) (a ⟨128 + d, by omega⟩) 0 + Scalar.select (m (ix2 r (⟨192 + d, by omega⟩ : Fin 256))) (a ⟨192 + d, by omega⟩) 0
      = a ⟨r.val / 4 * 64 + d, by omega⟩ := by
  simp only [hm, Scalar.select]
  have h : r.val / 4 = 0 ∨ r.val / 4 = 1 ∨ r.val / 4 = 2 ∨ r.val / 4 = 3 := by omega
  have h0 : d.val / 64 = 0 := by omega
  have h1 : (64 + d.val) / 64 = 1 := by omega
  have h2 : (128 + d.val) / 64 = 2 := by omega
  have h3 : (192 + d.val) / 64 = 3 := by omega
  rcases h with h | h | h | h <;> simp [h, h0, h1, h2, h3]
theorem pay18_at {v97 : FVec Ideal S32x8 .bf16} {m : IVec S16x256 1} (hv : ∀ i k, (v97 (ix2 i k) : EReal) = if i.val / 4 = k.val then 1 else 0) (hm : ∀ r c, m (ix2 r c) = if r.val / 4 = c.val / 64 then 1#1 else 0#1) (vn : Vec Ideal S1x8x64 .bf16) (vs : FVec Ideal S16x1 .f32) (sn : Vec Ideal S1x16x128 .f32) (mx : Vec Ideal S1x1x16x128 .f32) (l : Vec Ideal S1x16x128 .f32) (a : Vec Ideal S1x16x256 .f32) (r : Fin 16) (d : Fin 64) :
    (k0_pay18 (k0_pay15 m vs sn mx l a) (k0_pay16 sn mx l) (k0_pay17 v97 vn) (ix3 0 r d) : EReal) =
      let en := E (sn (ix3 0 r 0) - mx (ix4 0 0 r 0))
      let iv := Ideal.div 1 ((∑ x : Fin 128, l (ix3 0 r x)) + en)
      a (ix3 0 r (⟨r.val / 4 * 64 + d, by omega⟩ : Fin 256)) * (iv * vs (ix2 r 0)) + en * iv * vn (ix3 0 (⟨r.val / 4, by omega⟩ : Fin 8) d) := by
  pointwise [k0_pay18, k0_pay15, k0_pay16, k0_pay17, k0_pay12, k0_pay13, k0_pay14]
  rw [exp2_named, pick hm r d fun c => a (ix3 0 r c)]
  exact congrArg _ (congrArg _ (rep8 hv (⟨r.val, by omega⟩ : Fin 32) fun k => vn (ix3 0 k d)))
theorem pay4_at {v97 : FVec Ideal S32x8 .bf16} {m : IVec S16x256 1} (hv : ∀ i k, (v97 (ix2 i k) : EReal) = if i.val / 4 = k.val then 1 else 0) (hm : ∀ r c, m (ix2 r c) = if r.val / 4 = c.val / 64 then 1#1 else 0#1) (vn : Vec Ideal S1x8x64 .bf16) (vs : FVec Ideal S16x1 .f32) (sn : Vec Ideal S1x16x128 .f32) (mx : Vec Ideal S1x1x16x128 .f32) (l : Vec Ideal S1x16x128 .f32) (a : Vec Ideal S1x16x256 .f32) (r : Fin 16) (d : Fin 64) :
    (k0_pay4 (k0_pay12 v97 vn) (k0_pay21 m vs sn mx l a) (k0_pay22 sn mx l) (ix3 0 r d) : EReal) =
      let en := E (sn (ix3 0 r 0) - mx (ix4 0 0 r 0))
      let iv := Ideal.div 1 ((∑ x : Fin 128, l (ix3 0 r x)) + en)
      a (ix3 0 r (⟨r.val / 4 * 64 + d, by omega⟩ : Fin 256)) * (iv * vs (ix2 r 0)) + en * iv * vn (ix3 0 (⟨(16 + r.val) / 4, by omega⟩ : Fin 8) d) := by
  pointwise [k0_pay4, k0_pay21, k0_pay22, k0_pay19, k0_pay12, k0_pay20]
  rw [exp2_named, pick hm r d fun c => a (ix3 0 r c)]
  exact congrArg _ (congrArg _ (rep8 hv (⟨(16 + r.val), by omega⟩ : Fin 32) fun k => vn (ix3 0 k d)))
theorem pay84_at (i : Fin 32) (k : Fin 8) : ((k0_pay84 : FVec Ideal S32x8 .bf16) (ix2 i k) : EReal) = if i.val / 4 = k.val then 1 else 0 := by
  pointwise [k0_pay84]
  refine bitf ?_
  revert i k; decide +kernel
theorem pay83_at (d : Fin 64) (c : Fin 256) : (k0_pay83 (F := Ideal) k0_pay82 (ix2 d c) : EReal) = if c.val % 64 = d.val then 1 else 0 := by
  pointwise [k0_pay83, k0_pay82]
  refine bitf ?_
  revert d c; decide +kernel

/-! The second half's expressions, and the first chunk's, are the first half's in a later chunk. -/
section
variable (J : BitVec 32) (m : IVec S16x2048 1) (w z : IVec S16x2048 32) (k : Vec Ideal S1x256x2048 .fp8e4m3) (q : Vec Ideal S1x1x16x256 .bf16) (a : Vec Ideal S1x16x128 .f32) (o A M : Vec Ideal S1x1x16x128 .f32) (S : Vec Ideal S1x1x16x2048 .f32)
  (L : Vec Ideal S1x16x128 .f32) (L' : Vec Ideal S1x16x256 .f32)
theorem e32 : k0_pay32 m k q = k0_pay26 m (k0_pay24 k) q := rfl
theorem e35 : k0_pay35 J m k q a o = k0_pay29 J m (k0_pay24 k) q a o := rfl
theorem e37 : k0_pay37 (k0_pay36 J m k q a o) = k0_pay30 J m (k0_pay24 k) q a o := rfl
theorem e2 : k0_pay2 (k0_pay46 J (k0_pay43 M) A S L) = k0_pay41 J (k0_pay38 A) (k0_pay39 M S) (k0_pay40 M S) L := rfl
theorem e3 : k0_pay3 J (k0_pay44 A) (k0_pay45 (k0_pay43 M) S) k L' = k0_pay42 J (k0_pay38 A) (k0_pay39 M S) k L' := rfl
theorem e103 : k0_pay103 w z k q = k0_pay26 (k0_pay101 w z) (k0_pay24 k) q := rfl
theorem e106 : k0_pay106 w z k q a o = k0_pay29 0#32 (k0_pay101 w z) (k0_pay24 k) q a o := rfl
theorem e108 : k0_pay108 (k0_pay107 w z k q a o) = k0_pay30 0#32 (k0_pay101 w z) (k0_pay24 k) q a o := rfl
theorem e110 : k0_pay110 m k q = k0_pay26 m (k0_pay24 k) q := rfl
theorem e113 : k0_pay113 m k q a o = k0_pay29 0#32 m (k0_pay24 k) q a o := rfl
theorem e1 : k0_pay1 (k0_pay114 m k q a o) (Named.named (F := Ideal) (φ := .f32) κ "exp2_scale" 0x3E38AA3B#32) = k0_pay30 0#32 m (k0_pay24 k) q a o := rfl
theorem e101 (v : BitVec 32) : k0_pay101 (iota .tc S16x2048 32 [1] iota_S16x2048_d1_w32) (k0_pay100 (F := Ideal) v) = k0_pay23 (F := Ideal) 0#32 v := rfl
end
end Cert.KernelIdeal.Hand
end
-- ==== Proof.KI.Const.lean ====
/-
  The kernel's constant arrays, read at one index: which cache group a row and a column belong to, and the scales row by row.
-/
module

public import proofs.«01_k».proof.Proof.KI.Body
public import proofs.«01_k».proof.Proof.KI.Pay

@[expose] public section
set_option maxRecDepth 16384
noncomputable section
namespace Cert.KernelIdeal.Hand
open Cert.KernelIdeal Cert.KernelIdeal.Gen Cert.Sched Cert.Val
open Idealize.ShloMosaic

variable (I : Ins Ideal) (s : St Ideal)

theorem q22_v97 (i : Fin 32) (k : Fin 8) : ((q22 I s).2.1 (ix2 i k) : EReal) = if i.val / 4 = k.val then 1 else 0 := pay84_at i k
theorem q22_v67 (d : Fin 64) (c : Fin 256) : ((q22 I s).1 (ix2 d c) : EReal) = if c.val % 64 = d.val then 1 else 0 := pay83_at d c
theorem q23_v148 (r : Fin 16) (c : Fin 256) : (q23 I s).1 (ix2 r c) = if r.val / 4 = c.val / 64 then 1#1 else 0#1 := by
  show k0_pay87 (iota .tc S16x256 32 [0] iota_S16x256_d0_w32) 4#32 k0_pay85 k0_pay86 (Scalar.extui (Scalar.cmpi .sgt 4#32 0#32)) (Scalar.cmpi .slt 4#32 0#32) (ix2 r c) = _
  pointwise [k0_pay87, k0_pay85, k0_pay86]
  revert r c; decide +kernel
theorem q24_v195 (r : Fin 16) : ((q24 I s).1 (ix2 r 0) : EReal) = sw I.ks (r.val / 4) := by
  show k0_pay90 (iota .tc S16x1 32 [0] iota_S16x1_d0_w32) 4#32 k0_pay88 k0_pay89 (sw I.ks 0) (sw I.ks 1) (sw I.ks 2) (sw I.ks 3) (ix2 r 0) = _
  pointwise [k0_pay90, k0_pay88, k0_pay89]
  fin_cases r <;> rfl
theorem q25_v242 (r : Fin 16) : ((q25 I s).1 (ix2 r 0) : EReal) = sw I.ks (4 + r.val / 4) := by
  show k0_pay94 (iota .tc S16x1 32 [0] iota_S16x1_d0_w32) 4#32 k0_pay91 k0_pay92 k0_pay93 (sw I.ks 4) (sw I.ks 5) (sw I.ks 6) (sw I.ks 7) (ix2 r 0) = _
  pointwise [k0_pay94, k0_pay91, k0_pay92, k0_pay93]
  fin_cases r <;> rfl
theorem q26_v288 (r : Fin 16) : ((q26 I s).1 (ix2 r 0) : EReal) = sw I.vs (r.val / 4) := by
  show k0_pay97 (iota .tc S16x1 32 [0] iota_S16x1_d0_w32) 4#32 k0_pay95 k0_pay96 (sw I.vs 0) (sw I.vs 1) (sw I.vs 2) (sw I.vs 3) (ix2 r 0) = _
  pointwise [k0_pay97, k0_pay95, k0_pay96]
  fin_cases r <;> rfl
theorem q27_v334 (r : Fin 16) : ((q27 I s).1 (ix2 r 0) : EReal) = sw I.vs (4 + r.val / 4) := by
  show k0_pay99 (iota .tc S16x1 32 [0] iota_S16x1_d0_w32) 4#32 k0_pay98 0#32 (sw I.vs 4) (sw I.vs 5) (sw I.vs 6) (sw I.vs 7) (ix2 r 0) = _
  pointwise [k0_pay99, k0_pay98]
  fin_cases r <;> rfl

/-- A chunk's columns below the sequence's length. -/
theorem mask_at {j : ℕ} (hj : j < 16) {w : BitVec 32} (hw : w.toInt ≤ 32768) (hc : j < nCh w) (r : Fin 16) (x : Fin 2048) :
    k0_pay23 (F := Ideal) (BitVec.ofNat 32 j) w (ix2 r x) = if ((j * 2048 + x.val : ℕ) : ℤ) < w.toInt then 1#1 else 0#1 := by
  pointwise [k0_pay23]
  have hn := (nCh_eq hw).1
  have ht := tdiv_cases (w.toInt + 2047) 2048
  simp only [Nat.cast_ofNat] at ht
  have hx : (BitVec.ofNat 32 x.val).toInt = x.val := by rw [BitVec.toInt_eq_toNat_of_lt] <;> simp <;> omega
  have ho : (BitVec.ofNat 32 (j * 2048)).toInt = (j * 2048 : ℕ) := by rw [BitVec.toInt_eq_toNat_of_lt] <;> simp <;> omega
  have hlo : -2 ^ 31 ≤ w.toInt := by have := BitVec.le_toInt w; simpa using this
  have hs : (Scalar.subi w (Scalar.muli (BitVec.ofNat 32 j) 2048#32)).toInt = w.toInt - (j * 2048 : ℕ) := by
    rw [show Scalar.muli (BitVec.ofNat 32 j) 2048#32 = BitVec.ofNat 32 (j * 2048) from WordCmp.muli_ofNat j 2048]
    show (w - BitVec.ofNat 32 (j * 2048)).toInt = _
    rw [BitVec.toInt_sub, ho, Int.bmod_eq_of_le] <;> omega
  unfold IntOp.cmpi
  simp only [BitVec.slt, hx, hs]
  by_cases h : ((j * 2048 + x.val : ℕ) : ℤ) < w.toInt
  · rw [if_pos h, show decide ((x.val : ℤ) < w.toInt - (j * 2048 : ℕ)) = true from decide_eq_true (by omega)]; rfl
  · rw [if_neg h, show decide ((x.val : ℤ) < w.toInt - (j * 2048 : ℕ)) = false from decide_eq_false (by omega)]; rfl
end Cert.KernelIdeal.Hand
end
-- ==== Proof.KI.Box.lean ====
/-
  Boxes of an array: reading one out and writing one in, at an index. Each box covers one place on the leading axes and whole rows.
-/
module

public import proofs.«01_k».proof.Proof.KI.Base
public import Idealize.ShloMosaic.Lib.Pointwise

@[expose] public section
noncomputable section
namespace Cert.KernelIdeal.Hand
open Idealize.ShloMosaic

variable {F : FTy → Type} {e : EltTy} {A B C D : ℕ}

theorem gt4 [Fact (∀ a, 0 < (⟨4, ![A, B, C, D]⟩ : Shape).size a)] (f : Vec F ⟨4, ![A, B, C, D]⟩ e) {p h : ℕ} (a : Fin A) (b : Fin B) (c : Fin C) (d : Fin D)
    (ha : p = a.val) (hb : h = b.val) :
    gt ⟨4, ![A, B, C, D]⟩ ![p, h, 0, 0] (⟨4, ![1, 1, C, D]⟩ : Shape).size f (ix4 (0 : Fin 1) (0 : Fin 1) c d) = f (ix4 a b c d) := by
  subst ha hb
  unfold gt
  congr 1
  funext k
  apply Fin.ext
  fin_cases k
  · exact Nat.mod_eq_of_lt (show a.val + 0 < A from a.isLt)
  · exact Nat.mod_eq_of_lt (show b.val + 0 < B from b.isLt)
  · exact (Nat.mod_eq_of_lt (show 0 + c.val < C by omega)).trans (Nat.zero_add _)
  · exact (Nat.mod_eq_of_lt (show 0 + d.val < D by omega)).trans (Nat.zero_add _)

theorem pt4 (f : Vec F ⟨4, ![A, B, C, D]⟩ e) {p h : ℕ} (w : (⟨4, ![1, 1, C, D]⟩ : Shape).Idx → Elt F e) (a : Fin A) (b : Fin B) (c : Fin C) (d : Fin D) :
    pt ⟨4, ![A, B, C, D]⟩ ![p, h, 0, 0] (⟨4, ![1, 1, C, D]⟩ : Shape).size f w (ix4 a b c d) = if a.val = p ∧ b.val = h then w (ix4 (0 : Fin 1) (0 : Fin 1) c d) else f (ix4 a b c d) := by
  unfold pt
  by_cases hh : a.val = p ∧ b.val = h
  · obtain ⟨rfl, rfl⟩ := hh
    rw [if_pos ⟨rfl, rfl⟩, dif_pos]
    · congr 1
      funext k
      apply Fin.ext
      fin_cases k
      · exact Nat.sub_self _
      · exact Nat.sub_self _
      · rfl
      · rfl
    · intro k
      fin_cases k
      · exact ⟨le_rfl, Nat.lt_succ_self _⟩
      · exact ⟨le_rfl, Nat.lt_succ_self _⟩
      · exact ⟨Nat.zero_le _, (show c.val < 0 + C by omega)⟩
      · exact ⟨Nat.zero_le _, (show d.val < 0 + D by omega)⟩
  · rw [if_neg hh, dif_neg]
    intro k
    have h0 : p ≤ a.val ∧ a.val < p + 1 := k 0
    have h1 : h ≤ b.val ∧ b.val < h + 1 := k 1
    exact hh ⟨by omega, by omega⟩

theorem gt3 [Fact (∀ a, 0 < (⟨3, ![A, B, D]⟩ : Shape).size a)] (f : Vec F ⟨3, ![A, B, D]⟩ e) {p q : ℕ} (a : Fin A) (b : Fin B) (c : Fin C) (d : Fin D)
    (ha : p = a.val) (hb : q + c.val = b.val) :
    gt ⟨3, ![A, B, D]⟩ ![p, q, 0] (⟨3, ![1, C, D]⟩ : Shape).size f (ix3 (0 : Fin 1) c d) = f (ix3 a b d) := by
  subst ha
  unfold gt
  congr 1
  funext k
  apply Fin.ext
  fin_cases k
  · exact Nat.mod_eq_of_lt (show a.val + 0 < A from a.isLt)
  · exact (Nat.mod_eq_of_lt (show q + c.val < B by omega)).trans hb
  · exact (Nat.mod_eq_of_lt (show 0 + d.val < D by omega)).trans (Nat.zero_add _)

theorem pt3 (f : Vec F ⟨3, ![A, B, D]⟩ e) {p q : ℕ} (w : (⟨3, ![1, C, D]⟩ : Shape).Idx → Elt F e) (a : Fin A) (b : Fin B) (c : Fin C) (d : Fin D)
    (ha : a.val = p) (hb : q + c.val = b.val) :
    pt ⟨3, ![A, B, D]⟩ ![p, q, 0] (⟨3, ![1, C, D]⟩ : Shape).size f w (ix3 a b d) = w (ix3 (0 : Fin 1) c d) := by
  unfold pt
  subst ha
  rw [dif_pos]
  · congr 1
    funext k
    apply Fin.ext
    fin_cases k
    · exact Nat.sub_self _
    · exact (show b.val - q = c.val by omega)
    · rfl
  · intro k
    fin_cases k
    · exact ⟨le_rfl, Nat.lt_succ_self _⟩
    · exact ⟨(show q ≤ b.val by omega), (show b.val < q + C by omega)⟩
    · exact ⟨Nat.zero_le _, (show d.val < 0 + D by omega)⟩
theorem pt3_out (f : Vec F ⟨3, ![A, B, D]⟩ e) {p q : ℕ} (w : (⟨3, ![1, C, D]⟩ : Shape).Idx → Elt F e) (a : Fin A) (b : Fin B) (d : Fin D)
    (h : ¬(a.val = p ∧ q ≤ b.val ∧ b.val < q + C)) :
    pt ⟨3, ![A, B, D]⟩ ![p, q, 0] (⟨3, ![1, C, D]⟩ : Shape).size f w (ix3 a b d) = f (ix3 a b d) := by
  unfold pt
  rw [dif_neg]
  intro k
  have h0 : p ≤ a.val ∧ a.val < p + 1 := k 0
  have h1 : q ≤ b.val ∧ b.val < q + C := k 1
  exact h ⟨by omega, h1⟩
end Cert.KernelIdeal.Hand
end
-- ==== Proof.KI.Half.lean ====
/-
  What the kernel should hold, and one half of the heads (16 rows) at a time: the scores of a chunk with the running maximum and its
  rescaling factor, and the sums a chunk adds to.
-/
module

public import proofs.«01_k».proof.Proof.KI.Const
public import proofs.«01_k».proof.Proof.KI.Box

@[expose] public section
set_option maxRecDepth 16384
noncomputable section
namespace Cert.KernelIdeal.Hand
open Cert.KernelIdeal Cert.KernelIdeal.Gen Cert.Sched Cert.Val
open Idealize.ShloMosaic

/-- Head `r` of half `h`, and the cache row of its group's coordinate `d`. -/
def hd (h : Fin 2) (r : Fin 16) : Fin 32 := ⟨16 * h.val + r.val, by omega⟩
def kvd (i : Fin 32) (d : Fin 64) : Fin 512 := ⟨i.val / 4 * 64 + d.val, by omega⟩
def grp (i : Fin 32) : Fin 8 := ⟨i.val / 4, by omega⟩
/-- Column `n` of a cache. -/
def col (X : Vec Ideal S16x512x32768 .fp8e4m3) (b : Fin 16) (c : Fin 512) (n : ℕ) : EReal := if h : n < 32768 then X (ix3 b c (⟨n, h⟩ : Fin 32768)) else 0

variable (I : Ins Ideal)
/-- The score of cache column `n`, of the new token, and the value of a column. -/
def score (b : Fin 16) (i : Fin 32) (n : ℕ) : EReal :=
  if (n : ℤ) < (lw I.lens b.val).toInt then ∑ d : Fin 64, (I.x (ix3 b i d) : EReal) * sw I.ks (i.val / 4) * col I.XK b (kvd i d) n else ⊥
def snv (b : Fin 16) (i : Fin 32) : EReal := ∑ d : Fin 64, (I.x (ix3 b i d) : EReal) * I.kn (ix3 b (grp i) d)
def val (b : Fin 16) (i : Fin 32) (d : Fin 64) (n : ℕ) : EReal := col I.XV b (kvd i d) n
abbrev MX (b : Fin 16) (i : Fin 32) (j : ℕ) : EReal := mx (snv I b i) (score I b i) j

/-- The laid-out queries and the new tokens' scores. -/
structure Pro (s : St Ideal) : Prop where
  f12 : ∀ (b : Fin 16) (h : Fin 2) (r : Fin 16) (c : Fin 256), (s.f12 (ix4 b h r c) : EReal)
    = if r.val / 4 = c.val / 64 then (I.x (ix3 b (hd h r) (⟨c.val % 64, by omega⟩ : Fin 64)) : EReal) * sw I.ks ((hd h r).val / 4) else 0
  f13 : ∀ (b : Fin 16) (i : Fin 32) (l : Fin 128), (s.f13 (ix3 b i l) : EReal) = snv I b i
/-- The scores of chunk `j` of sequence `b`, in slot `p`. -/
structure Cur (p : Fin 2) (b : Fin 16) (j : ℕ) (s : St Ideal) : Prop where
  f11 : ∀ (h : Fin 2) (r : Fin 16) (x : Fin 2048), (s.f11 (ix4 p h r x) : EReal) = score I b (hd h r) (j * 2048 + x.val)
  f14 : ∀ (h : Fin 2) (r : Fin 16) (l : Fin 128), (s.f14 (ix4 p h r l) : EReal) = MX I b (hd h r) (j + 1)
  f15 : ∀ (h : Fin 2) (r : Fin 16) (l : Fin 128), (s.f15 (ix4 p h r l) : EReal) = al (snv I b (hd h r)) (score I b (hd h r)) j
/-- The sums over the first `j` chunks of sequence `b`. -/
structure Acc (b : Fin 16) (j : ℕ) (s : St Ideal) : Prop where
  f16 : ∀ (h : Fin 2) (r : Fin 16) (l : Fin 128), (s.f16 (ix3 h r l) : EReal) = lr (snv I b (hd h r)) (score I b (hd h r)) l.val j
  f17 : ∀ (h : Fin 2) (r : Fin 16) (d : Fin 64), (s.f17 (ix3 h r (⟨r.val / 4 * 64 + d.val, by omega⟩ : Fin 256)) : EReal)
    = ar (snv I b (hd h r)) (score I b (hd h r)) (val I b (hd h r) d) j
/-- The result's rows for the sequences before `k`. -/
def Done (k : ℕ) (f8 : Vec Ideal S16x32x64 .bf16) : Prop := ∀ (b : Fin 16), b.val < k → ∀ (i : Fin 32) (d : Fin 64),
  (f8 (ix3 b i d) : EReal) = out (snv I b i) (score I b i) (nCh (lw I.lens b.val)) (val I b i d) (sw I.vs (i.val / 4)) (I.vn (ix3 b (grp i) d))
/-- Slot `p` of a ring holds chunk `j` of sequence `b` where the sequence has columns. -/
def Slot (X : Vec Ideal S16x512x32768 .fp8e4m3) (kc : Vec Ideal S4x512x2048 .fp8e4m3) (p : Fin 4) (b : Fin 16) (j : ℕ) : Prop :=
  ∀ (c : Fin 512) (x : Fin 2048), ((j * 2048 + x.val : ℕ) : ℤ) < (lw I.lens b.val).toInt → (kc (ix3 p c x) : EReal) = col X b c (j * 2048 + x.val)

section
variable {I} {b : Fin 16} {j : ℕ} {h : Fin 2}

theorem half_score (hj : j < 16) (hw : (lw I.lens b.val).toInt ≤ 32768) (hc : j < nCh (lw I.lens b.val))
    {k : FVec Ideal S256x2048 .fp8e4m3} {q : Vec Ideal S1x1x16x256 .bf16}
    (hk : ∀ (c : Fin 256) (x : Fin 2048), ((j * 2048 + x.val : ℕ) : ℤ) < (lw I.lens b.val).toInt → (k (ix2 c x) : EReal) = col I.XK b (⟨256 * h.val + c.val, by omega⟩ : Fin 512) (j * 2048 + x.val))
    (hq : ∀ (r : Fin 16) (c : Fin 256), (q (ix4 0 0 r c) : EReal)
      = if r.val / 4 = c.val / 64 then (I.x (ix3 b (hd h r) (⟨c.val % 64, by omega⟩ : Fin 64)) : EReal) * sw I.ks ((hd h r).val / 4) else 0)
    (r : Fin 16) (x : Fin 2048) :
    (k0_pay26 (k0_pay23 (F := Ideal) (BitVec.ofNat 32 j) (lw I.lens b.val)) k q (ix4 0 0 r x) : EReal) = score I b (hd h r) (j * 2048 + x.val) := by
  rw [pay26_at, mask_at hj hw hc]
  unfold score
  by_cases hx : ((j * 2048 + x.val : ℕ) : ℤ) < (lw I.lens b.val).toInt
  · rw [if_pos hx, if_pos rfl, if_pos hx]
    simp only [hq, ite_mul, zero_mul]
    rw [diag_sum (by omega)]
    refine Finset.sum_congr rfl fun d _ => ?_
    rw [hk _ x hx]
    have e : (⟨(r.val / 4 * 64 + d.val) % 64, by omega⟩ : Fin 64) = d := Fin.ext (show (r.val / 4 * 64 + d.val) % 64 = d.val by omega)
    simp only [e]
    congr 2
    · exact Fin.ext (show 256 * h.val + (r.val / 4 * 64 + d.val) = (16 * h.val + r.val) / 4 * 64 + d.val by omega)
  · rw [if_neg hx, if_neg (by decide), if_neg hx]

theorem ofNat_eq0 (hj : j < 16) : BitVec.ofNat 32 j = 0#32 ↔ j = 0 := by
  constructor
  · intro e
    have := congrArg BitVec.toNat e
    simp at this
    omega
  · rintro rfl; rfl

variable {m : IVec S16x2048 1} {k : FVec Ideal S256x2048 .fp8e4m3} {q : Vec Ideal S1x1x16x256 .bf16} {a : Vec Ideal S1x16x128 .f32} {o : Vec Ideal S1x1x16x128 .f32}

theorem half_old (hj : j < 16) (ha : ∀ r l, (a (ix3 0 r l) : EReal) = snv I b (hd h r)) (ho : j ≠ 0 → ∀ r l, (o (ix4 0 0 r l) : EReal) = MX I b (hd h r) j) (r : Fin 16) (l : Fin 128) :
    (if BitVec.ofNat 32 j = 0#32 then a (ix3 0 r l) else o (ix4 0 0 r l) : EReal) = MX I b (hd h r) j := by
  by_cases h0 : j = 0
  · rw [if_pos ((ofNat_eq0 hj).mpr h0), ha, h0]; rfl
  · rw [if_neg fun e => h0 ((ofNat_eq0 hj).mp e), ho h0]

theorem half_max (hj : j < 16) (hs : ∀ r x, (k0_pay26 m k q (ix4 0 0 r x) : EReal) = score I b (hd h r) (j * 2048 + x.val))
    (ha : ∀ r l, (a (ix3 0 r l) : EReal) = snv I b (hd h r)) (ho : j ≠ 0 → ∀ r l, (o (ix4 0 0 r l) : EReal) = MX I b (hd h r) j) (r : Fin 16) (l : Fin 128) :
    (k0_pay29 (BitVec.ofNat 32 j) m k q a o (ix4 0 0 r l) : EReal) = MX I b (hd h r) (j + 1) := by
  rw [pay29_at, half_old hj ha ho]
  simp only [hs]
  rfl

theorem half_al (hj : j < 16) (hs : ∀ r x, (k0_pay26 m k q (ix4 0 0 r x) : EReal) = score I b (hd h r) (j * 2048 + x.val))
    (ha : ∀ r l, (a (ix3 0 r l) : EReal) = snv I b (hd h r)) (ho : j ≠ 0 → ∀ r l, (o (ix4 0 0 r l) : EReal) = MX I b (hd h r) j) (r : Fin 16) (l : Fin 128) :
    (k0_pay30 (BitVec.ofNat 32 j) m k q a o (ix4 0 0 r l) : EReal) = al (snv I b (hd h r)) (score I b (hd h r)) j := by
  rw [pay30_at, half_old hj ha ho, half_max hj hs ha ho]
  rfl

variable {M A : Vec Ideal S1x1x16x128 .f32} {S : Vec Ideal S1x1x16x2048 .f32}

theorem half_ex (hM : ∀ r l, (M (ix4 0 0 r l) : EReal) = MX I b (hd h r) (j + 1)) (hS : ∀ r x, (S (ix4 0 0 r x) : EReal) = score I b (hd h r) (j * 2048 + x.val)) (r : Fin 16) (x : Fin 2048) :
    (k0_pay39 M S (ix2 r x) : EReal) = ex (snv I b (hd h r)) (score I b (hd h r)) j x.val := by
  rw [pay39_at, hM, hS]; rfl

theorem half_l (hj : j < 16) (hM : ∀ r l, (M (ix4 0 0 r l) : EReal) = MX I b (hd h r) (j + 1)) (hS : ∀ r x, (S (ix4 0 0 r x) : EReal) = score I b (hd h r) (j * 2048 + x.val))
    (hA : ∀ r l, (A (ix4 0 0 r l) : EReal) = al (snv I b (hd h r)) (score I b (hd h r)) j) {L : Vec Ideal S1x16x128 .f32}
    (hL : j ≠ 0 → ∀ r l, (L (ix3 0 r l) : EReal) = lr (snv I b (hd h r)) (score I b (hd h r)) l.val j) (r : Fin 16) (l : Fin 128) :
    (k0_pay41 (BitVec.ofNat 32 j) (k0_pay38 A) (k0_pay39 M S) (k0_pay40 M S) L (ix3 0 r l) : EReal) = lr (snv I b (hd h r)) (score I b (hd h r)) l.val (j + 1) := by
  rw [pay41_at, pay38_at, hA, lr]
  congr 1
  · congr 1
    by_cases h0 : j = 0
    · rw [if_pos ((ofNat_eq0 hj).mpr h0), h0]; rfl
    · rw [if_neg fun e => h0 ((ofNat_eq0 hj).mp e), hL h0]
  · exact Finset.sum_congr rfl fun k _ => half_ex hM hS r _

theorem half_acc (hj : j < 16) (hM : ∀ r l, (M (ix4 0 0 r l) : EReal) = MX I b (hd h r) (j + 1)) (hS : ∀ r x, (S (ix4 0 0 r x) : EReal) = score I b (hd h r) (j * 2048 + x.val))
    (hA : ∀ r l, (A (ix4 0 0 r l) : EReal) = al (snv I b (hd h r)) (score I b (hd h r)) j) {v : Vec Ideal S1x256x2048 .fp8e4m3} {L : Vec Ideal S1x16x256 .f32}
    (hv : ∀ (c : Fin 256) (x : Fin 2048), ((j * 2048 + x.val : ℕ) : ℤ) < (lw I.lens b.val).toInt → (v (ix3 0 c x) : EReal) = col I.XV b (⟨256 * h.val + c.val, by omega⟩ : Fin 512) (j * 2048 + x.val))
    (hL : j ≠ 0 → ∀ (r : Fin 16) (d : Fin 64), (L (ix3 0 r (⟨r.val / 4 * 64 + d.val, by omega⟩ : Fin 256)) : EReal) = ar (snv I b (hd h r)) (score I b (hd h r)) (val I b (hd h r) d) j)
    (r : Fin 16) (d : Fin 64) :
    (k0_pay42 (BitVec.ofNat 32 j) (k0_pay38 A) (k0_pay39 M S) v L (ix3 0 r (⟨r.val / 4 * 64 + d.val, by omega⟩ : Fin 256)) : EReal)
      = ar (snv I b (hd h r)) (score I b (hd h r)) (val I b (hd h r) d) (j + 1) := by
  rw [pay42_at, pay38_at, hA, ar]
  congr 1
  · congr 1
    by_cases h0 : j = 0
    · rw [if_pos ((ofNat_eq0 hj).mpr h0), h0]; rfl
    · rw [if_neg fun e => h0 ((ofNat_eq0 hj).mp e), hL h0]
  · refine Finset.sum_congr rfl fun x _ => ?_
    rw [half_ex hM hS]
    by_cases hx : ((j * 2048 + x.val : ℕ) : ℤ) < (lw I.lens b.val).toInt
    · rw [hv _ x hx]
      unfold val
      congr 2
      exact Fin.ext (show 256 * h.val + (r.val / 4 * 64 + d.val) = (16 * h.val + r.val) / 4 * 64 + d.val by omega)
    · rw [ex, score, if_neg hx, sub_eq_add_neg, EReal.bot_add, E_bot, zero_mul, zero_mul]
end
end Cert.KernelIdeal.Hand
end
-- ==== Proof.KI.Trip.lean ====
/-
  One trip: the next chunk's scores, maximum and rescaling factor into the other slot, the present chunk into the sums, and at a
  sequence's last chunk its rows of the result.
-/
module

public import proofs.«01_k».proof.Proof.KI.Half

@[expose] public section
set_option maxRecDepth 16384
noncomputable section
namespace Cert.KernelIdeal.Hand
open Cert.KernelIdeal Cert.KernelIdeal.Gen Cert.Sched Cert.Val
open Idealize.ShloMosaic

/-! ### The reads -/
section
variable {I : Ins Ideal} {s : St Ideal}

theorem slot_lo {X : Vec Ideal S16x512x32768 .fp8e4m3} {kc : Vec Ideal S4x512x2048 .fp8e4m3} {p : Fin 4} {b : Fin 16} {j q o : ℕ} (h : Fin 2)
    (hS : Slot I X kc p b j) (hq : q = p.val) (ho : o = 256 * h.val) (c : Fin 256) (x : Fin 2048) (hx : ((j * 2048 + x.val : ℕ) : ℤ) < (lw I.lens b.val).toInt) :
    (gt S4x512x2048 ![q, o, 0] S1x256x2048.size kc (ix3 0 c x) : EReal) = col X b (⟨256 * h.val + c.val, by omega⟩ : Fin 512) (j * 2048 + x.val) := by
  rw [← hS _ x hx]
  exact gt3 kc p _ c x hq (by subst ho; rfl)
theorem slot_k {X : Vec Ideal S16x512x32768 .fp8e4m3} {kc : Vec Ideal S4x512x2048 .fp8e4m3} {p : Fin 4} {b : Fin 16} {j q o : ℕ} (h : Fin 2)
    (hS : Slot I X kc p b j) (hq : q = p.val) (ho : o = 256 * h.val) (c : Fin 256) (x : Fin 2048) (hx : ((j * 2048 + x.val : ℕ) : ℤ) < (lw I.lens b.val).toInt) :
    (k0_pay24 (gt S4x512x2048 ![q, o, 0] S1x256x2048.size kc) (ix2 c x) : EReal) = col X b (⟨256 * h.val + c.val, by omega⟩ : Fin 512) (j * 2048 + x.val) :=
  (pay24_at _ c x).trans (slot_lo h hS hq ho c x hx)
theorem q_at (hP : Pro I s) {b : Fin 16} {h : Fin 2} {B o : ℕ} (hB : B = b.val) (ho : o = h.val) (r : Fin 16) (c : Fin 256) :
    (gt S16x2x16x256 ![B, o, 0, 0] S1x1x16x256.size s.f12 (ix4 0 0 r c) : EReal)
      = if r.val / 4 = c.val / 64 then (I.x (ix3 b (hd h r) (⟨c.val % 64, by omega⟩ : Fin 64)) : EReal) * sw I.ks ((hd h r).val / 4) else 0 :=
  (gt4 s.f12 b h r c hB ho).trans (hP.f12 b h r c)
theorem a_at (hP : Pro I s) {b : Fin 16} {h : Fin 2} {B o : ℕ} (hB : B = b.val) (ho : o = 16 * h.val) (r : Fin 16) (l : Fin 128) :
    (gt S16x32x128 ![B, o, 0] S1x16x128.size s.f13 (ix3 0 r l) : EReal) = snv I b (hd h r) :=
  (gt3 s.f13 b (hd h r) r l hB (by subst ho; rfl)).trans (hP.f13 b _ l)
end

/-! ### What a trip writes -/
section
variable (I : Ins Ideal) (n : ℕ) (kc vc : Vec Ideal S4x512x2048 .fp8e4m3) (t b j nb : ℕ) (s : St Ideal)

abbrev nbn : ℕ := (nbWord (BitVec.ofNat 32 b) (BitVec.ofNat 32 j) (lw I.lens b)).toNat
abbrev njw : BitVec 32 := njWord (BitVec.ofNat 32 j) (lw I.lens b)
abbrev mk0 : IVec S16x2048 1 := k0_pay23 (F := Ideal) (njw I b j) (lw I.lens nb)
abbrev kr (o : ℕ) : Vec Ideal S1x256x2048 .fp8e4m3 := gt S4x512x2048 ![(t + 1) % 4, o, 0] S1x256x2048.size kc
abbrev qr (h : ℕ) : Vec Ideal S1x1x16x256 .bf16 := gt S16x2x16x256 ![nbn I b j, h, 0, 0] S1x1x16x256.size s.f12
abbrev sr (o : ℕ) : Vec Ideal S1x16x128 .f32 := gt S16x32x128 ![nbn I b j, o, 0] S1x16x128.size s.f13
abbrev T1 : St Ideal := trip1 I n kc vc t b j nb s

theorem t1_f11 : (T1 I n kc vc t b j nb s).f11 = pt S2x2x16x2048 ![(t + 1) % 2, 1, 0, 0] S1x1x16x2048.size
    (pt S2x2x16x2048 ![(t + 1) % 2, 0, 0, 0] S1x1x16x2048.size s.f11 (k0_pay26 (mk0 I b j nb) (k0_pay24 (kr kc t 0)) (qr I b j s 0)))
    (k0_pay26 (mk0 I b j nb) (k0_pay24 (kr kc t 256)) (qr I b j s 1)) := rfl
abbrev h14 : Vec Ideal S2x2x16x128 .f32 := pt S2x2x16x128 ![(t + 1) % 2, 0, 0, 0] S1x1x16x128.size s.f14
    (k0_pay29 (njw I b j) (mk0 I b j nb) (k0_pay24 (kr kc t 0)) (qr I b j s 0) (sr I b j s 0) (gt S2x2x16x128 ![1 - (t + 1) % 2, 0, 0, 0] S1x1x16x128.size s.f14))
theorem t1_f14 : (T1 I n kc vc t b j nb s).f14 = pt S2x2x16x128 ![(t + 1) % 2, 1, 0, 0] S1x1x16x128.size (h14 I kc t b j nb s)
    (k0_pay29 (njw I b j) (mk0 I b j nb) (k0_pay24 (kr kc t 256)) (qr I b j s 1) (sr I b j s 16) (gt S2x2x16x128 ![1 - (t + 1) % 2, 1, 0, 0] S1x1x16x128.size (h14 I kc t b j nb s))) := rfl
theorem t1_f15 : (T1 I n kc vc t b j nb s).f15 = pt S2x2x16x128 ![(t + 1) % 2, 1, 0, 0] S1x1x16x128.size (pt S2x2x16x128 ![(t + 1) % 2, 0, 0, 0] S1x1x16x128.size s.f15
    (k0_pay30 (njw I b j) (mk0 I b j nb) (k0_pay24 (kr kc t 0)) (qr I b j s 0) (sr I b j s 0) (gt S2x2x16x128 ![1 - (t + 1) % 2, 0, 0, 0] S1x1x16x128.size s.f14)))
    (k0_pay30 (njw I b j) (mk0 I b j nb) (k0_pay24 (kr kc t 256)) (qr I b j s 1) (sr I b j s 16) (gt S2x2x16x128 ![1 - (t + 1) % 2, 1, 0, 0] S1x1x16x128.size (h14 I kc t b j nb s))) := rfl
/-- The maximum, the factor and the scores of the present chunk, half `h`. -/
abbrev mr (u : St Ideal) (h : ℕ) : Vec Ideal S1x1x16x128 .f32 := gt S2x2x16x128 ![t % 2, h, 0, 0] S1x1x16x128.size u.f14
abbrev fr (u : St Ideal) (h : ℕ) : Vec Ideal S1x1x16x128 .f32 := gt S2x2x16x128 ![t % 2, h, 0, 0] S1x1x16x128.size u.f15
abbrev xr (u : St Ideal) (h : ℕ) : Vec Ideal S1x1x16x2048 .f32 := gt S2x2x16x2048 ![t % 2, h, 0, 0] S1x1x16x2048.size u.f11
abbrev pl (u : St Ideal) (h : ℕ) (L : Vec Ideal S1x16x128 .f32) := k0_pay41 (BitVec.ofNat 32 j) (k0_pay38 (fr t u h)) (k0_pay39 (mr t u h) (xr t u h)) (k0_pay40 (mr t u h) (xr t u h)) L
abbrev pa (u : St Ideal) (h o : ℕ) (L : Vec Ideal S1x16x256 .f32) := k0_pay42 (BitVec.ofNat 32 j) (k0_pay38 (fr t u h)) (k0_pay39 (mr t u h) (xr t u h)) (gt S4x512x2048 ![t % 4, o, 0] S1x256x2048.size vc) L
abbrev h16 (u : St Ideal) : Vec Ideal S2x16x128 .f32 := pt S2x16x128 ![0, 0, 0] S1x16x128.size s.f16 (pl t j u 0 (gt S2x16x128 ![0, 0, 0] S1x16x128.size s.f16))
abbrev h17 (u : St Ideal) : Vec Ideal S2x16x256 .f32 := pt S2x16x256 ![0, 0, 0] S1x16x256.size s.f17 (pa vc t j u 0 0 (gt S2x16x256 ![0, 0, 0] S1x16x256.size s.f17))
theorem t1_f16 : (T1 I n kc vc t b j nb s).f16 = pt S2x16x128 ![1, 0, 0] S1x16x128.size (h16 t j s (T1 I n kc vc t b j nb s))
    (pl t j (T1 I n kc vc t b j nb s) 1 (gt S2x16x128 ![1, 0, 0] S1x16x128.size (h16 t j s (T1 I n kc vc t b j nb s)))) := rfl
theorem t1_f17 : (T1 I n kc vc t b j nb s).f17 = pt S2x16x256 ![1, 0, 0] S1x16x256.size (h17 vc t j s (T1 I n kc vc t b j nb s))
    (pa vc t j (T1 I n kc vc t b j nb s) 1 256 (gt S2x16x256 ![1, 0, 0] S1x16x256.size (h17 vc t j s (T1 I n kc vc t b j nb s)))) := rfl
theorem t1_f8 : (T1 I n kc vc t b j nb s).f8 = s.f8 := rfl
theorem t1_f12 : (T1 I n kc vc t b j nb s).f12 = s.f12 := rfl
theorem t1_f13 : (T1 I n kc vc t b j nb s).f13 = s.f13 := rfl
end

section
variable {I : Ins Ideal} {n : ℕ} {kc vc : Vec Ideal S4x512x2048 .fp8e4m3} {t : ℕ} {b nb : Fin 16} {j nj : ℕ} {s : St Ideal} {p p' : Fin 2} {p4 p4' : Fin 4}

theorem t1_pro (hP : Pro I s) : Pro I (T1 I n kc vc t b.val j nb.val s) := ⟨hP.f12, hP.f13⟩

/-- The present chunk's slot keeps its contents. -/
theorem t1_cur (hp : p.val = t % 2) (hC : Cur I p b j s) : Cur I p b j (T1 I n kc vc t b.val j nb.val s) where
  f11 h r x := by rw [t1_f11, pt4, if_neg (by omega), pt4, if_neg (by omega)]; exact hC.f11 h r x
  f14 h r x := by rw [t1_f14, pt4, if_neg (by omega), h14, pt4, if_neg (by omega)]; exact hC.f14 h r x
  f15 h r x := by rw [t1_f15, pt4, if_neg (by omega), pt4, if_neg (by omega)]; exact hC.f15 h r x

/-- The next chunk's scores, maximum and factor. -/
theorem t1_next (hP : Pro I s) (hp : p.val = t % 2) (hC : Cur I p b j s) (hp' : p'.val = (t + 1) % 2) (h4 : p4'.val = (t + 1) % 4) (hS : Slot I I.XK kc p4' nb nj)
    (e1 : nbWord (BitVec.ofNat 32 b.val) (BitVec.ofNat 32 j) (lw I.lens b.val) = BitVec.ofNat 32 nb.val) (e2 : njWord (BitVec.ofNat 32 j) (lw I.lens b.val) = BitVec.ofNat 32 nj)
    (hs : nj ≠ 0 → nb = b ∧ nj = j + 1) (hj : nj < 16) (hw : (lw I.lens nb.val).toInt ≤ 32768) (hc : nj < nCh (lw I.lens nb.val)) :
    Cur I p' nb nj (T1 I n kc vc t b.val j nb.val s) := by
  have eb : nbn I b.val j = nb.val := by unfold nbn; rw [e1]; exact toNat_of (by omega)
  have ej : njw I b.val j = BitVec.ofNat 32 nj := e2
  have S0 := half_score (h := 0) (q := qr I b.val j s 0) hj hw hc (slot_k 0 hS h4.symm rfl) (q_at hP eb rfl)
  have S1 := half_score (h := 1) (q := qr I b.val j s 1) hj hw hc (slot_k 1 hS h4.symm rfl) (q_at hP eb rfl)
  have A0 := a_at hP (h := 0) (o := 0) eb rfl
  have A1 := a_at hP (h := 1) (o := 16) eb rfl
  have O0 : nj ≠ 0 → ∀ r l, (gt S2x2x16x128 ![1 - (t + 1) % 2, 0, 0, 0] S1x1x16x128.size s.f14 (ix4 0 0 r l) : EReal) = MX I nb (hd 0 r) nj := by
    intro h0 r l
    obtain ⟨rfl, rfl⟩ := hs h0
    exact (gt4 s.f14 p 0 r l (by omega) rfl).trans (hC.f14 0 r l)
  have O1 : nj ≠ 0 → ∀ r l, (gt S2x2x16x128 ![1 - (t + 1) % 2, 1, 0, 0] S1x1x16x128.size (h14 I kc t b.val j nb.val s) (ix4 0 0 r l) : EReal) = MX I nb (hd 1 r) nj := by
    intro h0 r l
    obtain ⟨rfl, rfl⟩ := hs h0
    refine (gt4 _ p (1 : Fin 2) r l (by omega) rfl).trans ?_
    rw [h14, pt4, if_neg (by simp)]
    exact hC.f14 1 r l
  refine ⟨fun h r x => ?_, fun h r x => ?_, fun h r x => ?_⟩
  · rw [t1_f11]
    by_cases hh : h = 1
    · subst hh
      rw [pt4, if_pos ⟨hp', rfl⟩, mk0, ej]; exact S1 r x
    · obtain rfl : h = 0 := by omega
      rw [pt4, if_neg (by simp), pt4, if_pos ⟨hp', rfl⟩, mk0, ej]; exact S0 r x
  · rw [t1_f14]
    by_cases hh : h = 1
    · subst hh
      rw [pt4, if_pos ⟨hp', rfl⟩, mk0, ej]; exact half_max hj S1 A1 O1 r x
    · obtain rfl : h = 0 := by omega
      rw [pt4, if_neg (by simp), h14, pt4, if_pos ⟨hp', rfl⟩, mk0, ej]; exact half_max hj S0 A0 O0 r x
  · rw [t1_f15]
    by_cases hh : h = 1
    · subst hh
      rw [pt4, if_pos ⟨hp', rfl⟩, mk0, ej]; exact half_al hj S1 A1 O1 r x
    · obtain rfl : h = 0 := by omega
      rw [pt4, if_neg (by simp), pt4, if_pos ⟨hp', rfl⟩, mk0, ej]; exact half_al hj S0 A0 O0 r x

/-- The present chunk into the sums. -/
theorem t1_acc (hp : p.val = t % 2) (hC : Cur I p b j s) (hA : j ≠ 0 → Acc I b j s) (h4 : p4.val = t % 4) (hS : Slot I I.XV vc p4 b j) (hj : j < 16) :
    Acc I b (j + 1) (T1 I n kc vc t b.val j nb.val s) := by
  have hU := t1_cur (n := n) (kc := kc) (vc := vc) (nb := nb) hp hC
  have F16 := t1_f16 I n kc vc t b.val j nb.val s
  have F17 := t1_f17 I n kc vc t b.val j nb.val s
  generalize T1 I n kc vc t b.val j nb.val s = u at *
  have M (h : Fin 2) (r : Fin 16) (l : Fin 128) : (mr t u h.val (ix4 0 0 r l) : EReal) = MX I b (hd h r) (j + 1) := (gt4 u.f14 p h r l hp.symm rfl).trans (hU.f14 h r l)
  have A (h : Fin 2) (r : Fin 16) (l : Fin 128) : (fr t u h.val (ix4 0 0 r l) : EReal) = al (snv I b (hd h r)) (score I b (hd h r)) j := (gt4 u.f15 p h r l hp.symm rfl).trans (hU.f15 h r l)
  have X (h : Fin 2) (r : Fin 16) (x : Fin 2048) : (xr t u h.val (ix4 0 0 r x) : EReal) = score I b (hd h r) (j * 2048 + x.val) := (gt4 u.f11 p h r x hp.symm rfl).trans (hU.f11 h r x)
  constructor
  · intro h r l
    rw [F16]
    by_cases hh : h = 1
    · subst hh
      refine (pt3 (C := 16) _ _ (1 : Fin 2) r r l rfl (by simp)).trans (half_l (h := 1) hj (M 1) (X 1) (A 1) (fun h0 r l => ?_) r l)
      refine (gt3 (C := 16) _ (1 : Fin 2) r r l rfl (by simp)).trans ((pt3_out (C := 16) _ _ (1 : Fin 2) r l (by simp)).trans ((hA h0).f16 1 r l))
    · obtain rfl : h = 0 := by omega
      refine (pt3_out (C := 16) _ _ (0 : Fin 2) r l (by simp)).trans ((pt3 (C := 16) _ _ (0 : Fin 2) r r l rfl (by simp)).trans (half_l (h := 0) hj (M 0) (X 0) (A 0) (fun h0 r l => ?_) r l))
      exact (gt3 (C := 16) _ (0 : Fin 2) r r l rfl (by simp)).trans ((hA h0).f16 0 r l)
  · intro h r d
    rw [F17]
    by_cases hh : h = 1
    · subst hh
      refine (pt3 (C := 16) _ _ (1 : Fin 2) r r _ rfl (by simp)).trans (half_acc (h := 1) hj (M 1) (X 1) (A 1) (slot_lo 1 hS h4.symm rfl) (fun h0 r d => ?_) r d)
      refine (gt3 (C := 16) _ (1 : Fin 2) r r _ rfl (by simp)).trans ((pt3_out (C := 16) _ _ (1 : Fin 2) r _ (by simp)).trans ((hA h0).f17 1 r d))
    · obtain rfl : h = 0 := by omega
      refine (pt3_out (C := 16) _ _ (0 : Fin 2) r _ (by simp)).trans ((pt3 (C := 16) _ _ (0 : Fin 2) r r _ rfl (by simp)).trans (half_acc (h := 0) hj (M 0) (X 0) (A 0) (slot_lo 0 hS h4.symm rfl) (fun h0 r d => ?_) r d))
      exact (gt3 (C := 16) _ (0 : Fin 2) r r _ rfl (by simp)).trans ((hA h0).f17 0 r d)
end

/-! ### The end of a sequence -/
section
variable (I : Ins Ideal) (n : ℕ) (v97 : FVec Ideal S32x8 .bf16) (v148 : IVec S16x256 1) (v288 v334 : FVec Ideal S16x1 .f32) (t b j : ℕ) (s : St Ideal)
abbrev bn : ℕ := (BitVec.ofNat 32 b).toNat
abbrev sb (o : ℕ) : Vec Ideal S1x16x128 .f32 := gt S16x32x128 ![bn b, o, 0] S1x16x128.size s.f13
abbrev vb : Vec Ideal S1x8x64 .bf16 := gt S16x8x64 ![bn b, 0, 0] S1x8x64.size I.vn
abbrev lb (h : ℕ) : Vec Ideal S1x16x128 .f32 := gt S2x16x128 ![h, 0, 0] S1x16x128.size s.f16
abbrev ab (h : ℕ) : Vec Ideal S1x16x256 .f32 := gt S2x16x256 ![h, 0, 0] S1x16x256.size s.f17
theorem t2_f8 : (trip2 I n v97 v148 v288 v334 t b j s).f8 = pt S16x32x64 ![bn b, 16, 0] S1x16x64.size (pt S16x32x64 ![bn b, 0, 0] S1x16x64.size s.f8
    (k0_pay18 (k0_pay15 v148 v288 (sb b s 0) (mr t s 0) (lb s 0) (ab s 0)) (k0_pay16 (sb b s 0) (mr t s 0) (lb s 0)) (k0_pay17 v97 (vb I b))))
    (k0_pay4 (k0_pay12 v97 (vb I b)) (k0_pay21 v148 v334 (sb b s 16) (mr t s 1) (lb s 1) (ab s 1)) (k0_pay22 (sb b s 16) (mr t s 1) (lb s 1))) := rfl
theorem t2_rest : trip2 I n v97 v148 v288 v334 t b j s = { s with f8 := (trip2 I n v97 v148 v288 v334 t b j s).f8 } := rfl
end

section
variable {I : Ins Ideal} {n : ℕ} {v97 : FVec Ideal S32x8 .bf16} {v148 : IVec S16x256 1} {v288 v334 : FVec Ideal S16x1 .f32} {t : ℕ} {b : Fin 16} {j : ℕ} {s : St Ideal} {p : Fin 2}

theorem t2_done (hP : Pro I s) (hp : p.val = t % 2) (hC : Cur I p b j s) (hA : Acc I b (j + 1) s) (hD : Done I b.val s.f8) (hj : nCh (lw I.lens b.val) = j + 1)
    (hv : ∀ i k, (v97 (ix2 i k) : EReal) = if i.val / 4 = k.val then 1 else 0) (hm : ∀ r c, v148 (ix2 r c) = if r.val / 4 = c.val / 64 then 1#1 else 0#1)
    (h0 : ∀ r : Fin 16, (v288 (ix2 r 0) : EReal) = sw I.vs (r.val / 4)) (h1 : ∀ r : Fin 16, (v334 (ix2 r 0) : EReal) = sw I.vs (4 + r.val / 4)) :
    Done I (b.val + 1) (trip2 I n v97 v148 v288 v334 t b.val j s).f8 := by
  have hb : bn b.val = b.val := toNat_of (by omega)
  have M (h : Fin 2) (r : Fin 16) (l : Fin 128) : (mr t s h.val (ix4 0 0 r l) : EReal) = MX I b (hd h r) (j + 1) := (gt4 s.f14 p h r l hp.symm rfl).trans (hC.f14 h r l)
  have L (h : Fin 2) (r : Fin 16) (l : Fin 128) : (lb s h.val (ix3 0 r l) : EReal) = lr (snv I b (hd h r)) (score I b (hd h r)) l.val (j + 1) :=
    (gt3 (C := 16) s.f16 h r r l rfl (by simp)).trans (hA.f16 h r l)
  have R (h : Fin 2) (r : Fin 16) (d : Fin 64) : (ab s h.val (ix3 0 r (⟨r.val / 4 * 64 + d.val, by omega⟩ : Fin 256)) : EReal) = ar (snv I b (hd h r)) (score I b (hd h r)) (val I b (hd h r) d) (j + 1) :=
    (gt3 (C := 16) s.f17 h r r _ rfl (by simp)).trans (hA.f17 h r d)
  have S (h : Fin 2) (r : Fin 16) (l : Fin 128) : (sb b.val s (16 * h.val) (ix3 0 r l) : EReal) = snv I b (hd h r) := a_at hP hb rfl r l
  have M0 := M 0; have M1 := M 1; have L0 := L 0; have L1 := L 1; have R0 := R 0; have R1 := R 1; have S0 := S 0; have S1 := S 1
  simp only [Fin.isValue, Fin.val_zero, Fin.val_one, Nat.mul_zero, Nat.mul_one] at M0 M1 L0 L1 R0 R1 S0 S1
  have V (k : Fin 8) (d : Fin 64) : (vb I b.val (ix3 0 k d) : EReal) = I.vn (ix3 b k d) := gt3 (C := 8) I.vn b k k d hb (by simp)
  intro b' hb' i d
  rw [t2_f8]
  by_cases hbb : b' = b
  · subst hbb
    rw [hj]
    by_cases hi : 16 ≤ i.val
    · obtain ⟨r, rfl⟩ : ∃ r : Fin 16, i = hd 1 r := ⟨⟨i.val - 16, by omega⟩, Fin.ext (show i.val = 16 * 1 + (i.val - 16) by omega)⟩
      refine (pt3 (C := 16) _ _ b' (hd 1 r) r d hb.symm rfl).trans ((pay4_at hv hm _ _ _ _ _ _ r d).trans ?_)
      have eg : (⟨(16 + r.val) / 4, by omega⟩ : Fin 8) = grp (hd 1 r) := rfl
      have e4 : (hd 1 r).val / 4 = 4 + r.val / 4 := by show (16 * 1 + r.val) / 4 = _; omega
      dsimp only
      rw [S1, M1, h1, R1, V, eg, e4]
      simp only [L1]
      rfl
    · obtain ⟨r, rfl⟩ : ∃ r : Fin 16, i = hd 0 r := ⟨⟨i.val, by omega⟩, Fin.ext (show i.val = 16 * 0 + i.val by omega)⟩
      refine (pt3_out (C := 16) _ _ b' (hd 0 r) d (fun h => hi h.2.1)).trans ((pt3 (C := 16) _ _ b' (hd 0 r) r d hb.symm (show 0 + r.val = 16 * 0 + r.val by omega)).trans ((pay18_at hv hm _ _ _ _ _ _ r d).trans ?_))
      have e4 : (hd 0 r).val / 4 = r.val / 4 := by show (16 * 0 + r.val) / 4 = _; omega
      have eg : (⟨r.val / 4, by omega⟩ : Fin 8) = grp (hd 0 r) := Fin.ext e4.symm
      dsimp only
      rw [S0, M0, h0, R0, V, eg, e4]
      simp only [L0]
      rfl
  · have hne : b'.val ≠ bn b.val := by rw [hb]; exact fun h => hbb (Fin.ext h)
    exact (pt3_out (C := 16) _ _ b' i d (fun h => hne h.1)).trans ((pt3_out (C := 16) _ _ b' i d (fun h => hne h.1)).trans (hD b' (by have : b'.val ≠ b.val := fun h => hbb (Fin.ext h); omega) i d))
end
end Cert.KernelIdeal.Hand
end
-- ==== Proof.KI.Init.lean ====
/-
  Before the first trip: the queries are laid out block by block, the new tokens' scores are stored, and the scores of
  the first chunk of the first sequence are in. Also what a slot of a ring holds once its chunk has arrived.
-/
module

public import proofs.«01_k».proof.Proof.KI.Trip

@[expose] public section
set_option maxRecDepth 16384
noncomputable section
namespace Cert.KernelIdeal.Hand
open Cert.KernelIdeal Cert.KernelIdeal.Gen Cert.Sched Cert.Val
open Idealize.ShloMosaic

theorem fetched_at {e : EltTy} (X : Vec Ideal S16x512x32768 e) {b o n i : ℕ} (f : Vec Ideal S4x512x2048 e) (p : Fin 4) (c : Fin 512) (x : Fin 2048)
    (hp : p.val = i) (hx : x.val < n) (hb : b < 16) (ho : o + n ≤ 32768) :
    fetched X b o n i f (ix3 p c x) = X (ix3 (⟨b, hb⟩ : Fin 16) c (⟨o + x.val, by omega⟩ : Fin 32768)) := by
  unfold fetched
  rw [dif_pos ⟨hp, hx, hb, ho⟩]
  congr 1
  funext a
  fin_cases a <;> rfl

variable {I : Ins Ideal}

/-- A slot whose chunk has arrived. -/
theorem slot_rng (hL : ∀ b, (lw I.lens b).toInt ≤ 32768) (X g) {t : ℕ} {p : Fin 4} {b : Fin 16} {j : ℕ} (hp : p.val = t % 4) (hb : bj (lw I.lens) t = (b.val, j)) :
    Slot I X (rng X (lw I.lens) g t) p b j := by
  intro c x hx
  have hB := bj_bound hL t
  unfold rng
  generalize prv X (lw I.lens) g t = f
  unfold nT
  rw [hb] at hB ⊢
  dsimp only at hB ⊢
  have hc := sz_covers (BitVec.ofNat 32 t) hB.2.2 (hL b.val) x.isLt hx
  obtain ⟨n, hn, -, hn'⟩ := sz_facts (BitVec.ofNat 32 t) (BitVec.ofNat 32 j) (lw I.lens b.val)
  have hj := hB.2.2
  rw [fetched_at X f p c x hp hc b.isLt (by omega)]
  unfold col
  rw [dif_pos (by omega)]

section
variable {v67 : FVec Ideal S64x256 .bf16} {v97 : FVec Ideal S32x8 .bf16} {v148 : IVec S16x256 1} {v195 v242 : FVec Ideal S16x1 .bf16} (c0 : BitVec 32)
  (h67 : ∀ d c, (v67 (ix2 d c) : EReal) = if c.val % 64 = d.val then 1 else 0) (h97 : ∀ i k, (v97 (ix2 i k) : EReal) = if i.val / 4 = k.val then 1 else 0)
  (h148 : ∀ r c, v148 (ix2 r c) = if r.val / 4 = c.val / 64 then 1#1 else 0#1)
  (h195 : ∀ r : Fin 16, (v195 (ix2 r 0) : EReal) = sw I.ks (r.val / 4)) (h242 : ∀ r : Fin 16, (v242 (ix2 r 0) : EReal) = sw I.ks (4 + r.val / 4))
  (s : St Ideal)
include h67 h97 h148 h195 h242

/-- The first `k` sequences' queries and new scores. -/
theorem pro_rows (k : ℕ) (hk : k ≤ 16) :
    (∀ b : Fin 16, b.val < k → ∀ (h : Fin 2) (r : Fin 16) (c : Fin 256), ((pro I v67 v97 v148 v195 v242 c0 k s).f12 (ix4 b h r c) : EReal)
      = if r.val / 4 = c.val / 64 then (I.x (ix3 b (hd h r) (⟨c.val % 64, by omega⟩ : Fin 64)) : EReal) * sw I.ks ((hd h r).val / 4) else 0)
    ∧ ∀ b : Fin 16, b.val < k → ∀ (i : Fin 32) (l : Fin 128), ((pro I v67 v97 v148 v195 v242 c0 k s).f13 (ix3 b i l) : EReal) = snv I b i := by
  induction k with
  | zero => exact ⟨fun b hb => absurd hb (by omega), fun b hb => absurd hb (by omega)⟩
  | succ k ih =>
    have e12 : (pro I v67 v97 v148 v195 v242 c0 (k + 1) s).f12 = pt S16x2x16x256 ![k, 1, 0, 0] S1x1x16x256.size
        (pt S16x2x16x256 ![k, 0, 0, 0] S1x1x16x256.size (pro I v67 v97 v148 v195 v242 c0 k s).f12 (k0_pay10 v67 v148 v195 (gt S16x32x64 ![k, 0, 0] S1x32x64.size I.x)))
        (k0_pay11 v67 v148 v242 (gt S16x32x64 ![k, 0, 0] S1x32x64.size I.x)) := rfl
    have e13 : (pro I v67 v97 v148 v195 v242 c0 (k + 1) s).f13 = pt S16x32x128 ![k, 0, 0] S1x32x128.size (pro I v67 v97 v148 v195 v242 c0 k s).f13
        (k0_pay9 v97 (gt S16x32x64 ![k, 0, 0] S1x32x64.size I.x) (gt S16x8x64 ![k, 0, 0] S1x8x64.size I.kn)) := rfl
    obtain ⟨i1, i2⟩ := ih (by omega)
    generalize pro I v67 v97 v148 v195 v242 c0 k s = u at *
    generalize pro I v67 v97 v148 v195 v242 c0 (k + 1) s = w at *
    have X (b : Fin 16) (hb : k = b.val) (i : Fin 32) (d : Fin 64) : (gt S16x32x64 ![k, 0, 0] S1x32x64.size I.x (ix3 0 i d) : EReal) = I.x (ix3 b i d) :=
      gt3 (C := 32) I.x b i i d hb (Nat.zero_add _)
    refine ⟨fun b hb h r c => ?_, fun b hb i l => ?_⟩
    · rw [e12, pt4, pt4]
      by_cases hk' : b.val = k
      · fin_cases h
        · rw [if_neg (by simp), if_pos ⟨hk', rfl⟩]
          refine (pay10_at h67 h148 v195 _ r c).trans ?_
          rw [X b hk'.symm, h195, show hd (⟨0, by omega⟩ : Fin 2) r = (⟨r.val, by omega⟩ : Fin 32) from Fin.ext (by simp [hd])]
        · rw [if_pos ⟨hk', rfl⟩]
          refine (pay11_at h67 h148 v242 _ r c).trans ?_
          rw [X b hk'.symm, h242, show hd (⟨1, by omega⟩ : Fin 2) r = (⟨16 + r.val, by omega⟩ : Fin 32) from Fin.ext (by simp [hd]), show (16 + r.val) / 4 = 4 + r.val / 4 by omega]
      · rw [if_neg (fun q => hk' q.1), if_neg (fun q => hk' q.1)]
        exact i1 b (by omega) h r c
    · rw [e13]
      by_cases hk' : b.val = k
      · rw [pt3 (C := 32) _ _ b i i l hk' (Nat.zero_add _)]
        refine (pay9_at h97 _ _ i l).trans (Finset.sum_congr rfl fun d _ => ?_)
        rw [X b hk'.symm]
        exact congrArg _ (gt3 (C := 8) I.kn b (grp i) (grp i) d hk'.symm (Nat.zero_add _))
      · rw [pt3_out (C := 32) _ _ b i l (fun q => hk' q.1)]
        exact i2 b (by omega) i l
end

section
variable (I) (s : St Ideal) (kc : Vec Ideal S4x512x2048 .fp8e4m3)

theorem st28_pro : Pro I (st28 I s) :=
  have h := pro_rows (q27 I s).2 (q22_v67 I s) (q22_v97 I s) (q23_v148 I s) (q24_v195 I s) (q25_v242 I s) s 16 le_rfl
  ⟨fun b => h.1 b b.isLt, fun b => h.2 b b.isLt⟩

abbrev m0 : IVec S16x2048 1 := k0_pay23 (F := Ideal) (BitVec.ofNat 32 0) (lw I.lens 0)
abbrev kr0 (o : ℕ) : FVec Ideal S256x2048 .fp8e4m3 := k0_pay24 (gt S4x512x2048 ![0, o, 0] S1x256x2048.size kc)
abbrev qr0 (u : St Ideal) (h : ℕ) : Vec Ideal S1x1x16x256 .bf16 := gt S16x2x16x256 ![0, h, 0, 0] S1x1x16x256.size u.f12
abbrev sr0 (u : St Ideal) (o : ℕ) : Vec Ideal S1x16x128 .f32 := gt S16x32x128 ![0, o, 0] S1x16x128.size u.f13

theorem st31_f12 : (st31 I kc s).f12 = (st28 I s).f12 := rfl
theorem st31_f13 : (st31 I kc s).f13 = (st28 I s).f13 := rfl
theorem st31_f11 : (st31 I kc s).f11 = pt S2x2x16x2048 ![0, 1, 0, 0] S1x1x16x2048.size
    (pt S2x2x16x2048 ![0, 0, 0, 0] S1x1x16x2048.size (st28 I s).f11 (k0_pay26 (m0 I) (kr0 kc 0) (qr0 (st28 I s) 0)))
    (k0_pay26 (m0 I) (kr0 kc 256) (qr0 (st28 I s) 1)) := rfl
abbrev g14 (u : St Ideal) : Vec Ideal S2x2x16x128 .f32 := pt S2x2x16x128 ![0, 0, 0, 0] S1x1x16x128.size u.f14
    (k0_pay29 (BitVec.ofNat 32 0) (m0 I) (kr0 kc 0) (qr0 u 0) (sr0 u 0) (gt S2x2x16x128 ![1, 0, 0, 0] S1x1x16x128.size u.f14))
theorem st31_f14 : (st31 I kc s).f14 = pt S2x2x16x128 ![0, 1, 0, 0] S1x1x16x128.size (g14 I kc (st28 I s))
    (k0_pay29 (BitVec.ofNat 32 0) (m0 I) (kr0 kc 256) (qr0 (st28 I s) 1) (sr0 (st28 I s) 16) (gt S2x2x16x128 ![1, 1, 0, 0] S1x1x16x128.size (g14 I kc (st28 I s)))) := rfl
theorem st31_f15 : (st31 I kc s).f15 = pt S2x2x16x128 ![0, 1, 0, 0] S1x1x16x128.size (pt S2x2x16x128 ![0, 0, 0, 0] S1x1x16x128.size (st28 I s).f15
    (k0_pay30 (BitVec.ofNat 32 0) (m0 I) (kr0 kc 0) (qr0 (st28 I s) 0) (sr0 (st28 I s) 0) (gt S2x2x16x128 ![1, 0, 0, 0] S1x1x16x128.size (st28 I s).f14)))
    (k0_pay30 (BitVec.ofNat 32 0) (m0 I) (kr0 kc 256) (qr0 (st28 I s) 1) (sr0 (st28 I s) 16) (gt S2x2x16x128 ![1, 1, 0, 0] S1x1x16x128.size (g14 I kc (st28 I s)))) := rfl

theorem st31_pro : Pro I (st31 I kc s) := ⟨(st28_pro I s).f12, (st28_pro I s).f13⟩

/-- The first chunk's scores, maximum and factor. -/
theorem st31_cur (hL : ∀ b, (lw I.lens b).toInt ≤ 32768) (hS : Slot I I.XK kc 0 0 0) : Cur I 0 0 0 (st31 I kc s) := by
  have hP := st28_pro I s
  have e11 := st31_f11 I s kc
  have e14 := st31_f14 I s kc
  have e15 := st31_f15 I s kc
  generalize st31 I kc s = w at *
  generalize st28 I s = u at *
  have hc : 0 < nCh (lw I.lens (0 : Fin 16).val) := (nCh_eq (hL 0)).2.1
  have S0 := half_score (b := 0) (h := 0) (q := qr0 u 0) (by omega) (hL 0) hc (slot_k 0 hS rfl rfl) (q_at hP rfl rfl)
  have S1 := half_score (b := 0) (h := 1) (q := qr0 u 1) (by omega) (hL 0) hc (slot_k 1 hS rfl rfl) (q_at hP rfl rfl)
  have A0 := a_at hP (b := 0) (h := 0) (B := 0) (o := 0) rfl rfl
  have A1 := a_at hP (b := 0) (h := 1) (B := 0) (o := 16) rfl rfl
  have no {P : Prop} : (0 : ℕ) ≠ 0 → P := fun q => absurd rfl q
  constructor
  · intro h r x
    rw [e11, pt4, pt4]
    fin_cases h
    · rw [if_neg (by simp), if_pos ⟨rfl, rfl⟩]; exact S0 r x
    · rw [if_pos ⟨rfl, rfl⟩]; exact S1 r x
  · intro h r l
    rw [e14, pt4]
    fin_cases h
    · rw [if_neg (by simp), g14, pt4, if_pos ⟨rfl, rfl⟩]; exact half_max (by omega) S0 A0 no r l
    · rw [if_pos ⟨rfl, rfl⟩]; exact half_max (by omega) S1 A1 no r l
  · intro h r l
    rw [e15, pt4, pt4]
    fin_cases h
    · rw [if_neg (by simp), if_pos ⟨rfl, rfl⟩]; exact half_al (by omega) S0 A0 no r l
    · rw [if_pos ⟨rfl, rfl⟩]; exact half_al (by omega) S1 A1 no r l
end
end Cert.KernelIdeal.Hand
end
-- ==== Proof.KI.Inv.lean ====
/-
  The whole loop: what the buffers hold before every trip, and so what the result holds at the end.
-/
module

public import proofs.«01_k».proof.Proof.KI.Init

@[expose] public section
set_option maxRecDepth 16384
noncomputable section
namespace Cert.KernelIdeal.Hand
open Cert.KernelIdeal Cert.KernelIdeal.Gen Cert.Sched Cert.Val
open Idealize.ShloMosaic

variable {I : Ins Ideal}

/-- Before trip `t` of `n`. -/
structure Inv (I : Ins Ideal) (n t : ℕ) (s : St Ideal) : Prop where
  pro : Pro I s
  cur : t < n → ∀ (b : Fin 16) (j : ℕ), bj (lw I.lens) t = (b.val, j) → Cur I (⟨t % 2, Nat.mod_lt _ (by decide)⟩ : Fin 2) b j s ∧ (j ≠ 0 → Acc I b j s) ∧ Done I b.val s.f8
  fin : t = n → Done I 16 s.f8

theorem pre_lt (hL : ∀ b, (lw I.lens b).toInt ≤ 32768) {a b : ℕ} (h : a < b) : pre (lw I.lens) a < pre (lw I.lens) b :=
  strictMono_nat_of_lt_succ (fun k => by have := (nCh_eq (hL k)).2.1; simp only [pre]; omega) h

theorem pair_fin (x : ℕ × ℕ) (h : x.1 ≤ 15) : ∃ (b : Fin 16) (j : ℕ), x = (b.val, j) := ⟨⟨x.1, by omega⟩, x.2, rfl⟩

variable {v97 : FVec Ideal S32x8 .bf16} {v148 : IVec S16x256 1} {v288 v334 : FVec Ideal S16x1 .f32} (gk gv : Vec Ideal S4x512x2048 .fp8e4m3)
  (hv : ∀ i k, (v97 (ix2 i k) : EReal) = if i.val / 4 = k.val then 1 else 0) (hm : ∀ r c, v148 (ix2 r c) = if r.val / 4 = c.val / 64 then 1#1 else 0#1)
  (h0 : ∀ r : Fin 16, (v288 (ix2 r 0) : EReal) = sw I.vs (r.val / 4)) (h1 : ∀ r : Fin 16, (v334 (ix2 r 0) : EReal) = sw I.vs (4 + r.val / 4))
  (hL : ∀ b, (lw I.lens b).toInt ≤ 32768)
include hv hm h0 h1 hL

theorem inv_step {t : ℕ} {s : St Ideal} (ht : t < pre (lw I.lens) 16) (hI : Inv I (pre (lw I.lens) 16) t s) :
    Inv I (pre (lw I.lens) 16) (t + 1) (trip I (pre (lw I.lens) 16) v97 v148 v288 v334 (kcc I.XK (lw I.lens) gk (pre (lw I.lens) 16) (t + 1)) (rng I.XV (lw I.lens) gv t) t
      (bj (lw I.lens) t).1 (bj (lw I.lens) t).2 (bj (lw I.lens) (t + 1)).1 s) := by
  have hB := bj_bound hL t
  have hB' := bj_bound hL (t + 1)
  have hT := bj_at hL t ht
  have hst : bj (lw I.lens) (t + 1) = step (lw I.lens) (bj (lw I.lens) t) := rfl
  obtain ⟨b, j, e⟩ : ∃ (b : Fin 16) (j : ℕ), bj (lw I.lens) t = (b.val, j) := pair_fin _ hB.1
  obtain ⟨b', j', e'⟩ : ∃ (b : Fin 16) (j : ℕ), bj (lw I.lens) (t + 1) = (b.val, j) := pair_fin _ hB'.1
  obtain ⟨hC, hA, hD⟩ := hI.cur ht b j e
  have hSV : Slot I I.XV (rng I.XV (lw I.lens) gv t) (⟨t % 4, Nat.mod_lt _ (by decide)⟩ : Fin 4) b j := slot_rng hL _ gv rfl e
  rw [e, e'] at hst
  rw [e] at hB hT ⊢
  rw [e'] at hB' ⊢
  dsimp only at hB hB' hT ⊢
  have hP' := t1_pro (n := pre (lw I.lens) 16) (kc := kcc I.XK (lw I.lens) gk (pre (lw I.lens) 16) (t + 1)) (vc := rng I.XV (lw I.lens) gv t) (t := t) (b := b) (nb := b') (j := j) hI.pro
  have hC' := t1_cur (n := pre (lw I.lens) 16) (kc := kcc I.XK (lw I.lens) gk (pre (lw I.lens) 16) (t + 1)) (vc := rng I.XV (lw I.lens) gv t) (nb := b') rfl hC
  have hA' := t1_acc (n := pre (lw I.lens) 16) (kc := kcc I.XK (lw I.lens) gk (pre (lw I.lens) 16) (t + 1)) (nb := b') rfl hC hA rfl hSV hB.2.2
  have hD' : Done I b.val (T1 I (pre (lw I.lens) 16) (kcc I.XK (lw I.lens) gk (pre (lw I.lens) 16) (t + 1)) (rng I.XV (lw I.lens) gv t) t b.val j b'.val s).f8 := hD
  have hN : t + 1 < pre (lw I.lens) 16 → Cur I (⟨(t + 1) % 2, Nat.mod_lt _ (by decide)⟩ : Fin 2) b' j'
      (T1 I (pre (lw I.lens) 16) (kcc I.XK (lw I.lens) gk (pre (lw I.lens) 16) (t + 1)) (rng I.XV (lw I.lens) gv t) t b.val j b'.val s) := by
    intro hlt
    refine t1_next (p4' := (⟨(t + 1) % 4, Nat.mod_lt _ (by decide)⟩ : Fin 4)) hI.pro rfl hC rfl rfl ?_ ?_ ?_ ?_ hB'.2.2 (hL _) hB'.2.1
    · unfold kcc
      rw [if_pos hlt]
      exact slot_rng hL _ gk rfl e'
    · rw [nbWord_eq (hL _) b.isLt hB.2.2, ← hst]
    · rw [njWord_eq (hL _) hB.2.2, ← hst]
    · intro hj
      unfold step at hst
      dsimp only at hst
      split at hst
      · exact absurd (congrArg Prod.snd hst) hj
      · exact ⟨Fin.ext (congrArg Prod.fst hst), congrArg Prod.snd hst⟩
  unfold trip
  change Inv I _ _ (if _ then trip2 I _ v97 v148 v288 v334 t b.val j (T1 I _ _ _ t b.val j b'.val s) else T1 I _ _ _ t b.val j b'.val s)
  generalize T1 I (pre (lw I.lens) 16) (kcc I.XK (lw I.lens) gk (pre (lw I.lens) 16) (t + 1)) (rng I.XV (lw I.lens) gv t) t b.val j b'.val s = u at *
  unfold step at hst
  dsimp only at hst
  have hpre : pre (lw I.lens) (b.val + 1) = pre (lw I.lens) b.val + nCh (lw I.lens b.val) := rfl
  by_cases hl : nCh (lw I.lens b.val) ≤ j + 1
  · rw [if_pos hl] at hst ⊢
    have hn : nCh (lw I.lens b.val) = j + 1 := by omega
    have hE := t2_done (n := pre (lw I.lens) 16) hP' rfl hC' hA' hD' hn hv hm h0 h1
    rw [t2_rest]
    generalize (trip2 I (pre (lw I.lens) 16) v97 v148 v288 v334 t b.val j u).f8 = f at *
    have hb1 : b'.val = min (b.val + 1) 15 := congrArg Prod.fst hst
    have hj1 : j' = 0 := congrArg Prod.snd hst
    refine ⟨⟨hP'.f12, hP'.f13⟩, fun hlt b2 j2 e2 => ?_, fun hlt => ?_⟩
    · obtain ⟨rfl, rfl⟩ : b2 = b' ∧ j2 = j' := by
        rw [e'] at e2
        exact ⟨Fin.ext (congrArg Prod.fst e2).symm, (congrArg Prod.snd e2).symm⟩
      have hb15 : b.val ≠ 15 := by
        intro q
        rw [q] at hpre hT hn
        change pre (lw I.lens) 16 = _ at hpre
        omega
      refine ⟨⟨(hN hlt).f11, (hN hlt).f14, (hN hlt).f15⟩, fun q => absurd hj1 q, ?_⟩
      rw [show b2.val = b.val + 1 by omega]
      exact hE
    · rcases Nat.lt_or_ge b.val 15 with hb | hb
      · have := pre_lt hL (show b.val + 1 < 16 by omega)
        omega
      · rw [show b.val + 1 = 16 by omega] at hE
        exact hE
  · rw [if_neg hl] at hst ⊢
    refine ⟨hP', fun hlt b2 j2 e2 => ?_, fun hlt => ?_⟩
    · obtain ⟨rfl, rfl⟩ : b2 = b' ∧ j2 = j' := by
        rw [e'] at e2
        exact ⟨Fin.ext (congrArg Prod.fst e2).symm, (congrArg Prod.snd e2).symm⟩
      obtain rfl : b2 = b := Fin.ext (congrArg Prod.fst hst)
      obtain rfl : j2 = j + 1 := congrArg Prod.snd hst
      exact ⟨hN hlt, fun _ => hA', hD'⟩
    · have : pre (lw I.lens) (b.val + 1) ≤ pre (lw I.lens) 16 := by
        rcases Nat.lt_or_ge (b.val + 1) 16 with q | q
        · exact (pre_lt hL q).le
        · rw [show b.val + 1 = 16 by omega]
      omega

theorem inv_all {s : St Ideal} (hI : Inv I (pre (lw I.lens) 16) 0 s) (t : ℕ) (ht : t ≤ pre (lw I.lens) 16) :
    Inv I (pre (lw I.lens) 16) t (stt I v97 v148 v288 v334 (pre (lw I.lens) 16) gk gv s t) := by
  induction t with
  | zero => exact hI
  | succ t ih => exact inv_step gk gv hv hm h0 h1 hL (by omega) (ih (by omega))
omit hv hm h0 h1

/-- The result at one index is the softmax over the sequence's columns and the new token. -/
theorem kern_val (s : St Ideal) {N : ℕ} (hN : N = 32768) (b : Fin 16) (i : Fin 32) (d : Fin 64) :
    ((kern I gk gv s).f8 (ix3 b i d) : EReal)
      = soft (snv I b i) (score I b i) N (val I b i d) (sw I.vs (i.val / 4)) (I.vn (ix3 b (grp i) d)) := by
  have hi : Inv I (pre (lw I.lens) 16) 0 (st31 I (rng I.XK (lw I.lens) gk 0) s) := by
    refine ⟨st31_pro I s _, fun _ b' j' e => ?_, fun e => ?_⟩
    · obtain rfl : b' = 0 := Fin.ext (congrArg Prod.fst e).symm
      obtain rfl : j' = 0 := (congrArg Prod.snd e).symm
      exact ⟨st31_cur I s _ hL (slot_rng hL _ gk rfl rfl), fun q => absurd rfl q, fun _ q => absurd q (Nat.not_lt_zero _)⟩
    · have := (pre_bound hL 16).1
      omega
  have hD : ((kern I gk gv s).f8 (ix3 b i d) : EReal) = out (snv I b i) (score I b i) (nCh (lw I.lens b.val)) (val I b i d) (sw I.vs (i.val / 4)) (I.vn (ix3 b (grp i) d)) := by
    unfold kern
    exact (inv_all gk gv (q22_v97 I s) (q23_v148 I s) (q26_v288 I s) (q27_v334 I s) hL hi _ le_rfl).fin rfl b b.isLt i d
  have hn := nCh_eq (hL b.val)
  rw [hD]
  refine out_eq _ _ (J := nCh (lw I.lens b.val)) (by omega) (fun c hc => ?_) _ _ _
  have ht := tdiv_cases ((lw I.lens b.val).toInt + 2047) 2048
  simp only [Nat.cast_ofNat] at ht
  exact if_neg (by omega)
end Cert.KernelIdeal.Hand
end
-- ==== Proof.KI.Run.lean ====
/-
  The kernel's run with its result named: the softmax of every sequence and head.
-/
module

public import proofs.«01_k».proof.Proof.KI.Inv
public import proofs.«01_k».proof.Proof.KI.Launch
public import Idealize.ShloMosaic.Lib.StableHlo.Run

@[expose] public section
set_option maxRecDepth 16384
noncomputable section
namespace Cert.KernelIdeal.Hand
open Cert.KernelIdeal Cert.KernelIdeal.Gen Cert.Sched Cert.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

/-- What the kernel's result array ends holding, over caches of `N` columns. -/
def res (N : ℕ) (I : Ins Ideal) : Vec Ideal S16x32x64 .bf16 := fun y =>
  soft (snv I (y 0) (y 1)) (score I (y 0) (y 1)) N (val I (y 0) (y 1) (y 2)) (sw I.vs ((y 1).val / 4)) (I.vn (ix3 (y 0) (grp (y 1)) (y 2)))

theorem kern_f8 {I : Ins Ideal} (hL : ∀ b, (lw I.lens b).toInt ≤ 32768) {N : ℕ} (hN : N = 32768) (gk gv s) : (kern I gk gv s).f8 = res N I := by
  funext y
  obtain ⟨b, i, d, rfl⟩ : ∃ (b : Fin 16) (i : Fin 32) (d : Fin 64), y = ix3 b i d := ⟨y 0, y 1, y 2, by funext a; fin_cases a <;> rfl⟩
  exact kern_val gk gv hL s hN b i d

variable (m : (ℓ : Loc nD τ sig) → Buf (Elt Ideal) ℓ) (ρ : Dev nD → PrngReg) (N : ℕ)
/-- What the pipeline holds when the kernel's result is the closed form. -/
abbrev dR := dats m (fun c => res N (insOf m c))

/-- The body leaves its result in the last window. -/
theorem obl_of (o : Dev nD → Vec Ideal S16x32x64 .bf16) (c : Dev nD) (hL : ∀ b, (lw (insOf m c).lens b).toInt ≤ 32768)
    (ho : ∀ gk gv s, (kern (insOf m c) gk gv s).f8 = o c) :
    BodyObligation (dats m o 0 c) (defs₀ (F := Ideal)) Variants.none () Set.univ := fun t => by
  rw [bigSep_W0, bigSep_W0, defs₀_row]
  refine triple_restated (sound_body m o c hL t (owns (c : Thread nD τ) (st0_6 t) fullShare (o c)) (fun gk gv s => by
    rw [ho])) rfl ?_ fun _ => .rfl
  unfold bodyPre
  iintro ⟨HΦ, HO, H0, H1, H2, H3, H4, H5, ⟨%d, H6⟩⟩
  isplitl [HΦ]
  · iexact HΦ
  isplitl [HO]
  · iexact HO
  isplitl [H0]
  · iexact H0
  isplitl [H1]
  · iexact H1
  isplitl [H2]
  · iexact H2
  isplitl [H3]
  · iexact H3
  isplitl [H4]
  · iexact H4
  isplitl [H5]
  · iexact H5
  iexists (dats m o 0 c).before 6 t d
  iexact H6
theorem obl (c : Dev nD) (hN : N = 32768) (hL : ∀ b, (lw (insOf m c).lens b).toInt ≤ 32768) :
    BodyObligation (dR m N 0 c) (defs₀ (F := Ideal)) Variants.none () Set.univ := obl_of m _ c hL fun gk gv s => kern_f8 hL hN gk gv s

theorem emb6 (t : Fin cfg0.N) (y : S16x32x64.Idx) : ((cfg0.win 6).blk t).view.emb y = y := by
  rw [show t = t0_0 from fin_N0 t]
  funext a; apply Fin.ext
  match a with
  | ⟨0, _⟩ => show 0 * 16 + 1 * (y 0).val = (y 0).val; omega
  | ⟨1, _⟩ => show 0 * 32 + 1 * (y 1).val = (y 1).val; omega
  | ⟨2, _⟩ => show 0 * 64 + 1 * (y 2).val = (y 2).val; omega

theorem arr6 (c : Dev nD) : (dR m N 0 c).arrAt 6 cfg0.N = res N (insOf m c) := by
  refine (dR m N 0 c).arrAt_eq_of_cover 6 (res N (insOf m c)) (fun t _ => ?_) fun y => ⟨t0_0, by decide, ?_⟩
  · show (cfg0.win 6).cut (grid0.coords t) (res N (insOf m c)) = _
    funext y
    show res N (insOf m c) y = res N (insOf m c) (((cfg0.win 6).blk t).view.emb y)
    rw [emb6]
  · have h := ((cfg0.win 6).blk t0_0).view.emb_mem_set y
    rwa [emb6] at h

/-- The one line after the region writes the result only. -/
theorem W_of (c : Dev nD) (b : Ref sig .tc) (h8 : b ≠ main_v8) (hw : ∀ w, Pipeline.arrRef spec0 w ≠ b) :
    Pipeline.afterTail₀ cfgs (dR m N) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h8)),
    Pipeline.withArrays_of_ne _ c (V0 m c) _ b hw]

theorem W_v8 (c : Dev nD) (b : Fin 16) (i : Fin 32) (d : Fin 64) :
    Pipeline.afterTail₀ cfgs (dR m N) 0 (V0 m) [hostOps1] c main_v8 (ix4 b (0 : Fin 1) i d) = res N (insOf m c) (ix3 b i d) := by
  unfold Pipeline.afterTail₀
  show StableHlo.after hostOps1 _ (Proc.devRef .tc main_v8) _ = _
  after_results
  rw [show Pipeline.withArrays (cfgs 0).spec c (V0 m c) (fun w => (dR m N 0 c).arrAt w (cfgs 0).N) (Proc.devRef .tc main_v7) = res N (insOf m c) from
    (Pipeline.withArrays_arr spec0 launch0.win.arr_inj c (V0 m c) (fun w => (dR m N 0 c).arrAt w (cfgs 0).N) 6).trans (arr6 m N c)]
  generalize res N (insOf m c) = f
  pointwise

/-- The run: the result, and the arguments as they were. -/
theorem value_run (hN : N = 32768) (hL : ∀ c b, (lw (insOf m c).lens b).toInt ≤ 32768) :
    θ_run defs (onTc (τ := τ) (main (F := Ideal))) ⟨m, fun _ => 0, ρ⟩ (fun r => ∀ c : Dev nD,
      (∀ (b : Fin 16) (i : Fin 32) (d : Fin 64), r.2.mem ((c.tc : Thread nD τ).loc main_v8) (ix4 b (0 : Fin 1) i d) = res N (insOf m c) (ix3 b i d))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      fun b i d => (congrFun ((h c).2 main_v8 (Pipeline.mem_restRefs_of main_v8 (by decide) (by decide))) _).trans (W_v8 m N c b i d),
      ((h c).2 main_arg0 (Pipeline.mem_restRefs_of main_arg0 (by decide) (by decide))).trans ((W_of m N c main_arg0 (by decide) (by decide)).trans (V_main_arg0 m c)),
      ((h c).2 main_arg1 (Pipeline.mem_restRefs_of main_arg1 (by decide) (by decide))).trans ((W_of m N c main_arg1 (by decide) (by decide)).trans (V_main_arg1 m c)),
      ((h c).2 main_arg2 (Pipeline.mem_restRefs_of main_arg2 (by decide) (by decide))).trans ((W_of m N c main_arg2 (by decide) (by decide)).trans (V_main_arg2 m c)),
      ((h c).2 main_arg3 (Pipeline.mem_restRefs_of main_arg3 (by decide) (by decide))).trans ((W_of m N c main_arg3 (by decide) (by decide)).trans (V_main_arg3 m c)),
      ((h c).2 main_arg4 (Pipeline.mem_restRefs_of main_arg4 (by decide) (by decide))).trans ((W_of m N c main_arg4 (by decide) (by decide)).trans (V_main_arg4 m c)),
      ((h c).1 1).trans (((dR m N 0 c).arrAt_in 1 rfl _).trans ((A_eq m _ c 1).trans (V_main_arg5 m c))),
      ((h c).1 2).trans (((dR m N 0 c).arrAt_in 2 rfl _).trans ((A_eq m _ c 2).trans (V_main_arg6 m c))),
      ((h c).1 0).trans (((dR m N 0 c).arrAt_in 0 rfl _).trans ((A_eq m _ c 0).trans (V_main_arg7 m c)))⟩)
    (Pipeline.θ_run_frame_dma_around (Q' := Pipeline.FramePost cfgs (dR m N) 0 (Pipeline.afterTail₀ cfgs (dR m N) 0 (V0 m) [hostOps1])) cfgs (dR m N) (0 : Fin 1) launch0 osem0 defs₀ Variants.none ownSemFacts0 H0 H0_sub m ρ main
      (hbody := fun c => (obl m N c hN (hL c)).loose) (hshare := fun c => (dR m N 0 c).share_full fun _ => rfl)
      (howed := fun _ _ => rfl) (V₀ := V0 m) (opss := [hostOps1]) (hsub := sfx_subBut) (hfresh := sfx_fresh) (hkeep := sfx_keeps)
      (hmain := hmainD m Variants.none) (hA := A_eq m _) (hin := fun _ => .rfl) (hout := fun _ => .rfl))
end Cert.KernelIdeal.Hand
end
-- ==== Proof.Value.lean ====
/-
  The kernel and the reference give the same result: at every sequence, head and coordinate both are the softmax of the
  new token and the sequence's cached columns, weighted into the values.
-/
module

public import proofs.«01_k».proof.Proof.Frames
public import proofs.«01_k».proof.Proof.RefVal
public import proofs.«01_k».proof.Proof.KI.Args
public import proofs.«01_k».proof.Proof.KI.Run
public import proofs.«01_k».proof.Proof.Gen.ReferenceIdeal.Value

@[expose] public section
set_option maxRecDepth 16384
noncomputable section
namespace Cert.Frames
open Idealize.ShloMosaic Idealize.ShloMosaic.TcCoe Idealize.SL.Sem
open Cert.KernelIdeal.Hand Cert.Val

variable (m : (ℓ : Loc Cert.KernelIdeal.nD Cert.KernelIdeal.τ Cert.KernelIdeal.sig) → Buf (Elt Ideal) ℓ) (c : Dev Cert.KernelIdeal.nD)

theorem lens_eq (b : Fin 16) : lw (insOf m c).lens b.val = m ((c.tc : Thread Cert.KernelIdeal.nD Cert.KernelIdeal.τ).loc Cert.KernelIdeal.main_arg7) (ix1 b) := by
  unfold lw insOf
  dsimp only
  rw [Cert.KernelIdeal.Gen.V_main_arg7 m c]
  congr 1
  funext a
  fin_cases a
  exact Fin.ext (Nat.mod_eq_of_lt b.isLt)
theorem ks_eq (i : Fin 32) : sw (insOf m c).ks (i.val / 4) = m ((c.tc : Thread Cert.KernelIdeal.nD Cert.KernelIdeal.τ).loc Cert.KernelIdeal.main_arg5) (ix1 (⟨i.val / 4, by omega⟩ : Fin 8)) := by
  unfold sw insOf
  dsimp only
  rw [Cert.KernelIdeal.Gen.V_main_arg5 m c]
  congr 1
  funext a
  fin_cases a
  exact Fin.ext (Nat.mod_eq_of_lt (show i.val / 4 < 8 by omega))
theorem vs_eq (i : Fin 32) : sw (insOf m c).vs (i.val / 4) = m ((c.tc : Thread Cert.KernelIdeal.nD Cert.KernelIdeal.τ).loc Cert.KernelIdeal.main_arg6) (ix1 (⟨i.val / 4, by omega⟩ : Fin 8)) := by
  unfold sw insOf
  dsimp only
  rw [Cert.KernelIdeal.Gen.V_main_arg6 m c]
  congr 1
  funext a
  fin_cases a
  exact Fin.ext (Nat.mod_eq_of_lt (show i.val / 4 < 8 by omega))

/-- One column of a cache at one coordinate of a head's group. -/
theorem at_group {X : Vec Ideal Cert.KernelIdeal.S16x512x32768 .fp8e4m3} {Y : Vec Ideal Cert.KernelIdeal.S16x32768x8x64 .fp8e4m3}
    (h : ∀ (b : Fin 16) (r : Fin 512) (n : Fin 32768), X (ix3 b r n) = Y (ix4 b n (⟨r.val / 64, by omega⟩ : Fin 8) (⟨r.val % 64, by omega⟩ : Fin 64)))
    (b : Fin 16) (i : Fin 32) (d : Fin 64) (n : Fin 32768) : col X b (kvd i d) n.val = Y (ix4 b n (⟨i.val / 4, by omega⟩ : Fin 8) d) := by
  unfold col
  rw [dif_pos n.isLt]
  refine (h b (kvd i d) n).trans ?_
  have e1 : (⟨(kvd i d).val / 64, by omega⟩ : Fin 8) = ⟨i.val / 4, by omega⟩ := Fin.ext (show (i.val / 4 * 64 + d.val) / 64 = i.val / 4 by omega)
  have e2 : (⟨(kvd i d).val % 64, by omega⟩ : Fin 64) = d := Fin.ext (show (i.val / 4 * 64 + d.val) % 64 = d.val by omega)
  rw [e1, e2]

theorem same (N : ℕ) (hN : N = 32768) (b : Fin 16) (i : Fin 32) (d : Fin 64) :
    res N (insOf m c) (ix3 b i d) = Cert.ReferenceIdeal.Value.G8 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (ix4 b (0 : Fin 1) i d) := by
  have hx := V_x m c
  have hk := V_kn m c
  have hw := V_vn m c
  have hK := at_group (V_k m c)
  have hV := at_group (V_v m c)
  have e6 := vs_eq m c i
  have e5 := ks_eq m c i
  have e7 := lens_eq m c b
  refine Eq.trans (show res N (insOf m c) (ix3 b i d) = soft (snv (insOf m c) b i) (score (insOf m c) b i) N (val (insOf m c) b i d) (sw (insOf m c).vs (i.val / 4)) ((insOf m c).vn (ix3 b (grp i) d)) from rfl) ?_
  rw [e6, show (insOf m c).vn (ix3 b (grp i) d) = _ from hw b (grp i) d]
  refine (Cert.ReferenceIdeal.Hand.ref_at _ _ _ _ _ _ _ _ b i d hN (fun n => ?_) ?_ fun n => hV b i d n).symm
  · unfold score
    rw [e7, e5]
    refine if_congr Iff.rfl (Finset.sum_congr rfl fun x _ => ?_) rfl
    rw [show (insOf m c).XK = Cert.KernelIdeal.Gen.V m c Cert.KernelIdeal.main_v1 from rfl, hK]
    exact congrArg (· * _) (congrArg (· * _) (hx b i x))
  · exact Finset.sum_congr rfl fun x _ => congrArg₂ (· * ·) (hx b i x) (hk b (grp i) x)

theorem algebraic : Cert.algebraic_KernelIdeal_ReferenceIdeal := by
  intro m g m' g' hp hargs
  obtain ⟨N, hN⟩ : ∃ N : ℕ, N = 32768 := ⟨_, rfl⟩
  refine ⟨fun c => Cert.ReferenceIdeal.Value.G8 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run _ _ _).mono (fun r h c => ⟨?_, (h c).2⟩) (value_run m g N hN (lens_KI m hp))
    funext y
    obtain ⟨b, i, d, rfl⟩ : ∃ (b : Fin 16) (i : Fin 32) (d : Fin 64), y = ix4 b (0 : Fin 1) i d :=
      ⟨y 0, y 2, y 3, by
        funext a
        fin_cases a
        · rfl
        · exact Fin.ext (by have : (y 1).val < 1 := (y 1).isLt; show (y 1).val = 0; omega)
        · rfl
        · rfl⟩
    exact ((h c).1 b i d).trans (same m c N hN b i d)
  · refine (θ_run _ _ _).mono (fun r h c => ⟨(h c).1.trans ?_, (h c).2⟩) (Cert.ReferenceIdeal.Value.run m' g')
    obtain ⟨h0, h1, h2, h3, h4, h5, h6, h7⟩ := hargs c
    rw [h0, h1, h2, h3, h4, h5, h6, h7]
end Cert.Frames
end
-- ==== Proof.lean ====
module

public import proofs.«01_k».proof.Defs
public import proofs.«01_k».proof.Proof.Frames
public import proofs.«01_k».proof.Proof.Value
public import Idealize.ShloMosaic.Adequacy
public import Idealize.ShloMosaic.Init

@[expose] public section
noncomputable section
namespace Cert.Proof
open Idealize.ShloMosaic Idealize.SL.Sem

theorem claim : Cert.Claim :=
  ⟨Cert.Kernel.Gen.facts, Cert.KernelIdeal.Gen.facts, Cert.ReferenceIdeal.Gen.facts, Cert.Lens.facts,
    Cert.Frames.frame_p, Cert.Frames.frame_pi, Cert.Frames.frame_ri, Cert.Frames.frame_ri_fit, Cert.Frames.preserves, Cert.Frames.algebraic⟩

end Cert.Proof
end
